-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_experts_in_range [hPre_experts_in_range : Cert.Pre_experts_in_range.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_experts_in_range.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_experts_in_range [hPre_experts_in_range : Cert.Pre_experts_in_range.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_experts_in_range.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_mixture [hPre_finite_mixture : Cert.Pre_finite_mixture.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_mixture.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_mixture [hPre_finite_mixture : Cert.Pre_finite_mixture.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_mixture.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Kernel4Ideal_pre_experts_in_range [hKernel4Ideal : Cert.Kernel4Ideal.Facts] [hPre_experts_in_range : Cert.Pre_experts_in_range.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_experts_in_range m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Reference4Ideal_pre_experts_in_range [hReference4Ideal : Cert.Reference4Ideal.Facts] [hPre_experts_in_range : Cert.Pre_experts_in_range.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_experts_in_range m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14)
      ∧ r.2.mem ((c.tc : Thread Cert.Kernel5.nD Cert.Kernel5.τ).loc Cert.Kernel5.main_arg15) = m ((c.tc : Thread Cert.Kernel5.nD Cert.Kernel5.τ).loc Cert.Kernel5.main_arg15))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15))
      ∧ r.2.sem = fun _ => 0)

def quiescent_Kernel5Ideal_pre_finite_mixture [hKernel5Ideal : Cert.Kernel5Ideal.Facts] [hPre_finite_mixture : Cert.Pre_finite_mixture.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_mixture m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15))
      ∧ r.2.sem = fun _ => 0)

def quiescent_Reference5Ideal_pre_finite_mixture [hReference5Ideal : Cert.Reference5Ideal.Facts] [hPre_finite_mixture : Cert.Pre_finite_mixture.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_mixture m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)) (v4 : (c : Dev Cert.Kernel2Ideal.nD) → Buf (Elt Ideal) ((c.tc : Thread Cert.Kernel2Ideal.nD Cert.Kernel2Ideal.τ).loc Cert.Kernel2Ideal.main_v0_4)) (v5 : (c : Dev Cert.Kernel2Ideal.nD) → Buf (Elt Ideal) ((c.tc : Thread Cert.Kernel2Ideal.nD Cert.Kernel2Ideal.τ).loc Cert.Kernel2Ideal.main_v0_5)) (v6 : (c : Dev Cert.Kernel2Ideal.nD) → Buf (Elt Ideal) ((c.tc : Thread Cert.Kernel2Ideal.nD Cert.Kernel2Ideal.τ).loc Cert.Kernel2Ideal.main_v0_6)) (v7 : (c : Dev Cert.Kernel2Ideal.nD) → Buf (Elt Ideal) ((c.tc : Thread Cert.Kernel2Ideal.nD Cert.Kernel2Ideal.τ).loc Cert.Kernel2Ideal.main_v0_7)) (v8 : (c : Dev Cert.Kernel2Ideal.nD) → Buf (Elt Ideal) ((c.tc : Thread Cert.Kernel2Ideal.nD Cert.Kernel2Ideal.τ).loc Cert.Kernel2Ideal.main_v0_8)) (v9 : (c : Dev Cert.Kernel2Ideal.nD) → Buf (Elt Ideal) ((c.tc : Thread Cert.Kernel2Ideal.nD Cert.Kernel2Ideal.τ).loc Cert.Kernel2Ideal.main_v0_9)) (v10 : (c : Dev Cert.Kernel2Ideal.nD) → Buf (Elt Ideal) ((c.tc : Thread Cert.Kernel2Ideal.nD Cert.Kernel2Ideal.τ).loc Cert.Kernel2Ideal.main_v0_10)) (v11 : (c : Dev Cert.Kernel2Ideal.nD) → Buf (Elt Ideal) ((c.tc : Thread Cert.Kernel2Ideal.nD Cert.Kernel2Ideal.τ).loc Cert.Kernel2Ideal.main_v0_11)) (v12 : (c : Dev Cert.Kernel2Ideal.nD) → Buf (Elt Ideal) ((c.tc : Thread Cert.Kernel2Ideal.nD Cert.Kernel2Ideal.τ).loc Cert.Kernel2Ideal.main_v0_12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_v0_4) = v4 c
          ∧ r.2.mem ((c.tc : Thread Cert.Kernel2Ideal.nD Cert.Kernel2Ideal.τ).loc Cert.Kernel2Ideal.main_v0_5) = v5 c
          ∧ r.2.mem ((c.tc : Thread Cert.Kernel2Ideal.nD Cert.Kernel2Ideal.τ).loc Cert.Kernel2Ideal.main_v0_6) = v6 c
          ∧ r.2.mem ((c.tc : Thread Cert.Kernel2Ideal.nD Cert.Kernel2Ideal.τ).loc Cert.Kernel2Ideal.main_v0_7) = v7 c
          ∧ r.2.mem ((c.tc : Thread Cert.Kernel2Ideal.nD Cert.Kernel2Ideal.τ).loc Cert.Kernel2Ideal.main_v0_8) = v8 c
          ∧ r.2.mem ((c.tc : Thread Cert.Kernel2Ideal.nD Cert.Kernel2Ideal.τ).loc Cert.Kernel2Ideal.main_v0_9) = v9 c
          ∧ r.2.mem ((c.tc : Thread Cert.Kernel2Ideal.nD Cert.Kernel2Ideal.τ).loc Cert.Kernel2Ideal.main_v0_10) = v10 c
          ∧ r.2.mem ((c.tc : Thread Cert.Kernel2Ideal.nD Cert.Kernel2Ideal.τ).loc Cert.Kernel2Ideal.main_v0_11) = v11 c
          ∧ r.2.mem ((c.tc : Thread Cert.Kernel2Ideal.nD Cert.Kernel2Ideal.τ).loc Cert.Kernel2Ideal.main_v0_12) = v12 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v93) = v0 c
          ∧ r.2.mem ((c.tc : Thread Cert.Reference2Ideal.nD Cert.Reference2Ideal.τ).loc Cert.Reference2Ideal.main_v94) = v1 c
          ∧ r.2.mem ((c.tc : Thread Cert.Reference2Ideal.nD Cert.Reference2Ideal.τ).loc Cert.Reference2Ideal.main_v95) = v2 c
          ∧ r.2.mem ((c.tc : Thread Cert.Reference2Ideal.nD Cert.Reference2Ideal.τ).loc Cert.Reference2Ideal.main_v96) = v3 c
          ∧ r.2.mem ((c.tc : Thread Cert.Reference2Ideal.nD Cert.Reference2Ideal.τ).loc Cert.Reference2Ideal.main_v97) = v4 c
          ∧ r.2.mem ((c.tc : Thread Cert.Reference2Ideal.nD Cert.Reference2Ideal.τ).loc Cert.Reference2Ideal.main_v98) = v5 c
          ∧ r.2.mem ((c.tc : Thread Cert.Reference2Ideal.nD Cert.Reference2Ideal.τ).loc Cert.Reference2Ideal.main_v99) = v6 c
          ∧ r.2.mem ((c.tc : Thread Cert.Reference2Ideal.nD Cert.Reference2Ideal.τ).loc Cert.Reference2Ideal.main_v100) = v7 c
          ∧ r.2.mem ((c.tc : Thread Cert.Reference2Ideal.nD Cert.Reference2Ideal.τ).loc Cert.Reference2Ideal.main_v101) = v8 c
          ∧ r.2.mem ((c.tc : Thread Cert.Reference2Ideal.nD Cert.Reference2Ideal.τ).loc Cert.Reference2Ideal.main_v102) = v9 c
          ∧ r.2.mem ((c.tc : Thread Cert.Reference2Ideal.nD Cert.Reference2Ideal.τ).loc Cert.Reference2Ideal.main_v103) = v10 c
          ∧ r.2.mem ((c.tc : Thread Cert.Reference2Ideal.nD Cert.Reference2Ideal.τ).loc Cert.Reference2Ideal.main_v104) = v11 c
          ∧ r.2.mem ((c.tc : Thread Cert.Reference2Ideal.nD Cert.Reference2Ideal.τ).loc Cert.Reference2Ideal.main_v105) = v12 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_experts_in_range [hKernel4Ideal : Cert.Kernel4Ideal.Facts] [hReference4Ideal : Cert.Reference4Ideal.Facts] [hPre_experts_in_range : Cert.Pre_experts_in_range.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_experts_in_range m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  IdealRules.bf16_pair.BufferStatement Cert.Kernel5Ideal.S32768x2x512 Cert.Kernel5Ideal.S32768x1x512
  ∧ IdealRules.bf16_pair.BufferStatement Cert.Kernel5Ideal.S512x2x512 Cert.Kernel5Ideal.S512x1x512
  ∧ IdealRules.bf16_pair.Statement Cert.Kernel5Ideal.S512x2x512 Cert.Kernel5Ideal.S512x1x512
  ∧ IdealRules.bf16_pack.Statement Cert.Kernel5Ideal.S512x512

def algebraic_Kernel5Ideal_Reference5Ideal_pre_finite_mixture [hKernel5Ideal : Cert.Kernel5Ideal.Facts] [hReference5Ideal : Cert.Reference5Ideal.Facts] [hPre_finite_mixture : Cert.Pre_finite_mixture.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_mixture m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)
      ∧ m' ((c.tc : Thread Cert.Reference5Ideal.nD Cert.Reference5Ideal.τ).loc Cert.Reference5Ideal.main_arg15) = m ((c.tc : Thread Cert.Kernel5Ideal.nD Cert.Kernel5Ideal.τ).loc Cert.Kernel5Ideal.main_arg15)) →
    ∃ (v0 : (c : Dev Cert.Kernel5Ideal.nD) → Buf (Elt Ideal) ((c.tc : Thread Cert.Kernel5Ideal.nD Cert.Kernel5Ideal.τ).loc Cert.Kernel5Ideal.main_v8_0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8_0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
          ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v42) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14)
          ∧ r.2.mem ((c.tc : Thread Cert.Reference5Ideal.nD Cert.Reference5Ideal.τ).loc Cert.Reference5Ideal.main_arg15) = m' ((c.tc : Thread Cert.Reference5Ideal.nD Cert.Reference5Ideal.τ).loc Cert.Reference5Ideal.main_arg15))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts) (hPre_experts_in_range : Cert.Pre_experts_in_range.Facts) (hPre_finite_mixture : Cert.Pre_finite_mixture.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_experts_in_range (hKernel4Ideal := hKernel4Ideal) (hPre_experts_in_range := hPre_experts_in_range)
    ∧ quiescent_Reference4Ideal (hReference4Ideal := hReference4Ideal)
    ∧ quiescent_Reference4Ideal_pre_experts_in_range (hReference4Ideal := hReference4Ideal) (hPre_experts_in_range := hPre_experts_in_range)
    ∧ quiescent_Kernel5 (hKernel5 := hKernel5)
    ∧ quiescent_Kernel5Ideal (hKernel5Ideal := hKernel5Ideal)
    ∧ quiescent_Kernel5Ideal_pre_finite_mixture (hKernel5Ideal := hKernel5Ideal) (hPre_finite_mixture := hPre_finite_mixture)
    ∧ quiescent_Reference5Ideal (hReference5Ideal := hReference5Ideal)
    ∧ quiescent_Reference5Ideal_pre_finite_mixture (hReference5Ideal := hReference5Ideal) (hPre_finite_mixture := hPre_finite_mixture)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_experts_in_range (hKernel4Ideal := hKernel4Ideal) (hReference4Ideal := hReference4Ideal) (hPre_experts_in_range := hPre_experts_in_range)
    ∧ preserves_Kernel5_Kernel5Ideal
    ∧ algebraic_Kernel5Ideal_Reference5Ideal_pre_finite_mixture (hKernel5Ideal := hKernel5Ideal) (hReference5Ideal := hReference5Ideal) (hPre_finite_mixture := hPre_finite_mixture)
-- ==== Pre_experts_in_range.lean ====
abbrev S32768x128 : Shape := ⟨2, ![32768, 128]⟩
abbrev S1x128 : Shape := ⟨2, ![1, 128]⟩
abbrev S32768x4 : Shape := ⟨2, ![32768, 4]⟩
abbrev S_ : Shape := ⟨0, ![]⟩

class Facts : Prop where
  slices_S32768x128_S32768x4_0_0 : S32768x128.Slices ![0, 0] S32768x4
  bcast_S_S32768x4 : S_.BroadcastsInDim S32768x4 (![] : Fin 0 → Fin S32768x4.rank)
  reducesTo_S32768x4_S_d0_1 : S32768x4.ReducesTo [0, 1] S_
  h_S_ : 0 < S_.numel

variable [Facts]

def fn {F : FTy → Type} [FloatOps F] (main_arg0 : FVec F S32768x128 .f32) (main_arg1 : FVec F S1x128 .f32) : IVec S_ 1 :=
  let main_v0 : FVec F S32768x4 .f32 := (extractStridedSlice S32768x4 ![0, 0] · slices_S32768x128_S32768x4_0_0) main_arg0
  let main_cst : FVec F S_ .f32 := constant S_ .f32 0x00000000#32
  let main_v1 : FVec F S32768x4 .f32 := broadcastInDim S32768x4 ![] bcast_S_S32768x4 main_cst
  let main_v2 : IVec S32768x4 1 := cmpf .oge main_v0 main_v1
  let main_cst_0 : FVec F S_ .f32 := constant S_ .f32 0x43000000#32
  let main_v3 : FVec F S32768x4 .f32 := broadcastInDim S32768x4 ![] bcast_S_S32768x4 main_cst_0
  let main_v4 : IVec S32768x4 1 := cmpf .olt main_v0 main_v3
  let main_v5 : IVec S32768x4 1 := andi main_v2 main_v4
  let main_c : IVec S_ 1 := constantI S_ 1 1#1
  let main_v6 : IVec S_ 1 := (fun x v => Host.reduce IntOp.andi x v reducesTo_S32768x4_S_d0_1 h_S_) main_v5 main_c
  main_v6
-- ==== Pre_finite_mixture.lean ====
abbrev S32768x512 : Shape := ⟨2, ![32768, 512]⟩
abbrev S8192x2048 : Shape := ⟨2, ![8192, 2048]⟩
abbrev S2048x8192 : Shape := ⟨2, ![2048, 8192]⟩
abbrev S32768x2048 : Shape := ⟨2, ![32768, 2048]⟩
abbrev S32768x1024 : Shape := ⟨2, ![32768, 1024]⟩
abbrev S512x1024 : Shape := ⟨2, ![512, 1024]⟩
abbrev S1024x1024 : Shape := ⟨2, ![1024, 1024]⟩
abbrev S1x1024 : Shape := ⟨2, ![1, 1024]⟩
abbrev S1024x128 : Shape := ⟨2, ![1024, 128]⟩
abbrev S1x128 : Shape := ⟨2, ![1, 128]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S2048x8192 : S_.BroadcastsInDim S2048x8192 (![] : Fin 0 → Fin S2048x8192.rank)
  reducesTo_S2048x8192_S_d0_1 : S2048x8192.ReducesTo [0, 1] S_

variable [Facts]

def fn {F : FTy → Type} [FloatOps F] (main_arg0 : FVec F S32768x512 .bf16) (main_arg1 : FVec F S8192x2048 .bf16) (main_arg2 : FVec F S2048x8192 .bf16) (main_arg3 : FVec F S32768x512 .f32) (main_arg4 : FVec F S8192x2048 .f32) (main_arg5 : FVec F S2048x8192 .f32) (main_arg6 : FVec F S32768x512 .bf16) (main_arg7 : FVec F S32768x2048 .bf16) (main_arg8 : FVec F S32768x1024 .f32) (main_arg9 : FVec F S512x1024 .bf16) (main_arg10 : FVec F S512x1024 .bf16) (main_arg11 : FVec F S1024x1024 .bf16) (main_arg12 : FVec F S1x1024 .f32) (main_arg13 : FVec F S1024x128 .bf16) (main_arg14 : FVec F S1024x128 .bf16) (main_arg15 : FVec F S1x128 .f32) : IVec S_ 1 :=
  let main_v0 : FVec F S32768x512 .f32 := Host.absf main_arg3
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S8192x2048 .f32 := Host.absf main_arg4
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S2048x8192 .f32 := Host.absf main_arg5
  let main_cst_2 : FVec F S_ .f32 := constant S_ .f32 0x7F800000#32
  let main_v10 : FVec F S2048x8192 .f32 := broadcastInDim S2048x8192 ![] bcast_S_S2048x8192 main_cst_2
  let main_v11 : IVec S2048x8192 1 := cmpf .olt main_v9 main_v10
  let main_c_3 : IVec S_ 1 := constantI S_ 1 1#1
  let main_v12 : IVec S_ 1 := (fun x v => Host.reduce IntOp.andi x v reducesTo_S2048x8192_S_d0_1 h_S_) main_v11 main_c_3
  let main_v13 : IVec S_ 1 := andi main_v8 main_v12
  main_v13
-- ==== Pre_finite_scores.lean ====
abbrev S32768x1024 : Shape := ⟨2, ![32768, 1024]⟩
abbrev S512x32768 : Shape := ⟨2, ![512, 32768]⟩
abbrev S_ : Shape := ⟨0, ![]⟩

class Facts : Prop where
  bitsLt_bf16_f32 : FTy.bits .bf16 < FTy.bits .f32
  bcast_S_S32768x1024 : S_.BroadcastsInDim S32768x1024 (![] : Fin 0 → Fin S32768x1024.rank)
  reducesTo_S32768x1024_S_d0_1 : S32768x1024.ReducesTo [0, 1] S_
  h_S_ : 0 < S_.numel

variable [Facts]

def fn {F : FTy → Type} [FloatOps F] (main_arg0 : FVec F S32768x1024 .bf16) (main_arg1 : FVec F S32768x1024 .bf16) (main_arg2 : FVec F S512x32768 .bf16) : IVec S_ 1 :=
  let main_v0 : FVec F S32768x1024 .f32 := (extf .f32 · bitsLt_bf16_f32) main_arg0
  let main_v1 : FVec F S32768x1024 .f32 := Host.absf main_v0
  let main_cst : FVec F S_ .f32 := constant S_ .f32 0x7F800000#32
  let main_v2 : FVec F S32768x1024 .f32 := broadcastInDim S32768x1024 ![] bcast_S_S32768x1024 main_cst
  let main_v3 : IVec S32768x1024 1 := cmpf .olt main_v1 main_v2
  let main_c : IVec S_ 1 := constantI S_ 1 1#1
  let main_v4 : IVec S_ 1 := (fun x v => Host.reduce IntOp.andi x v reducesTo_S32768x1024_S_d0_1 h_S_) main_v3 main_c
  let main_v5 : FVec F S32768x1024 .f32 := (extf .f32 · bitsLt_bf16_f32) main_arg1
  let main_v6 : FVec F S32768x1024 .f32 := Host.absf main_v5
  let main_cst_0 : FVec F S_ .f32 := constant S_ .f32 0x7F800000#32
  let main_v7 : FVec F S32768x1024 .f32 := broadcastInDim S32768x1024 ![] bcast_S_S32768x1024 main_cst_0
  let main_v8 : IVec S32768x1024 1 := cmpf .olt main_v6 main_v7
  let main_c_1 : IVec S_ 1 := constantI S_ 1 1#1
  let main_v9 : IVec S_ 1 := (fun x v => Host.reduce IntOp.andi x v reducesTo_S32768x1024_S_d0_1 h_S_) main_v8 main_c_1
  let main_v10 : IVec S_ 1 := andi main_v4 main_v9
  main_v10
-- ==== Kernel.lean ====
abbrev S32768x1024 : Shape := ⟨2, ![32768, 1024]⟩
abbrev S512x32768 : Shape := ⟨2, ![512, 32768]⟩
abbrev S2x16384x1024 : Shape := ⟨3, ![2, 16384, 1024]⟩
abbrev S2x16384x512 : Shape := ⟨3, ![2, 16384, 512]⟩
abbrev S1x512x512 : Shape := ⟨3, ![1, 512, 512]⟩
abbrev S1x16384x512 : Shape := ⟨3, ![1, 16384, 512]⟩
abbrev S256x16384 : Shape := ⟨2, ![256, 16384]⟩
abbrev S1x512x256 : Shape := ⟨3, ![1, 512, 256]⟩
abbrev S4x512x256 : Shape := ⟨3, ![4, 512, 256]⟩
abbrev S16x512 : Shape := ⟨2, ![16, 512]⟩
abbrev S1x256 : Shape := ⟨2, ![1, 256]⟩
abbrev S80x256 : Shape := ⟨2, ![80, 256]⟩
abbrev S1x256x128 : Shape := ⟨3, ![1, 256, 128]⟩
abbrev S256x128 : Shape := ⟨2, ![256, 128]⟩
abbrev S1x512x128 : Shape := ⟨3, ![1, 512, 128]⟩
abbrev S512x128 : Shape := ⟨2, ![512, 128]⟩
abbrev S512x256 : Shape := ⟨2, ![512, 256]⟩
abbrev S256 : Shape := ⟨1, ![256]⟩
abbrev S64x512 : Shape := ⟨2, ![64, 512]⟩
abbrev S80x512 : Shape := ⟨2, ![80, 512]⟩
abbrev S64x256 : Shape := ⟨2, ![64, 256]⟩
abbrev S256x256 : Shape := ⟨2, ![256, 256]⟩
abbrev S1x256x256 : Shape := ⟨3, ![1, 256, 256]⟩

abbrev nBuf : Space → Nat
  | .hbm => 6
  | .vmem => 10
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S512x32768, .bf16⟩
  | .hbm, ⟨3, _⟩ => ⟨S2x16384x1024, .bf16⟩
  | .hbm, ⟨4, _⟩ => ⟨S2x16384x1024, .bf16⟩
  | .hbm, ⟨5, _⟩ => ⟨S2x16384x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x16384x512, .bf16⟩
  | .local _ .vmem, ⟨3, _⟩ => ⟨S256x16384, .bf16⟩
  | .local _ .vmem, ⟨4, _⟩ => ⟨S1x512x256, .bf16⟩
  | .local _ .vmem, ⟨5, _⟩ => ⟨S1x512x256, .bf16⟩
  | .local _ .vmem, ⟨6, _⟩ => ⟨S4x512x256, .f32⟩
  | .local _ .vmem, ⟨7, _⟩ => ⟨S4x512x256, .f32⟩
  | .local _ .vmem, ⟨8, _⟩ => ⟨S4x512x256, .f32⟩
  | .local _ .vmem, ⟨9, _⟩ => ⟨S4x512x256, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![2, 2, 32], ![false, false, false]⟩

def k0_mult1 : BitVec 32 :=
  let c0_i32 : BitVec 32 := 0#32
  c0_i32
def k0_mult2 : BitVec 32 :=
  let c0_i32_12 : BitVec 32 := 0#32
  c0_i32_12
def k0_mult3 : BitVec 32 :=
  let c0_i32_20 : BitVec 32 := 0#32
  c0_i32_20
def k0_mult4 : BitVec 32 :=
  let c0_i32_28 : BitVec 32 := 0#32
  c0_i32_28
@[reducible] def k0_t1_loop : Scf.Loop 32 :=
  let c0_i32_34 : BitVec 32 := 0#32
  let c2_i32 : BitVec 32 := 2#32
  let v43 : BitVec 32 := Scalar.addi c0_i32_34 c2_i32
  let c1_i32 : BitVec 32 := 1#32
  ⟨c0_i32_34, v43, c1_i32⟩
def k0_mult5 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c0_i32_87 : BitVec 32 := 0#32
  let v133 : BitVec 32 := Scalar.addi v131 c0_i32_87
  let c1_i32_88 : BitVec 32 := 1#32
  let v134 : BitVec 32 := Scalar.addi v133 c1_i32_88
  let c31_i32 : BitVec 32 := 31#32
  let v135 : BitVec 32 := Scalar.minsi v134 c31_i32
  let c512_i32 : BitVec 32 := 512#32
  let v136 : BitVec 32 := Scalar.muli v135 c512_i32
  v136
def k0_off1 (k0_t1 : Fin k0_t1_loop.trips) (c0_i32_87 : BitVec 32) : Fin 3 → Nat :=
  let c0_89 : Index := 0#32
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let v133 : BitVec 32 := Scalar.addi v131 c0_i32_87
  let c1_i32_88 : BitVec 32 := 1#32
  let v134 : BitVec 32 := Scalar.addi v133 c1_i32_88
  let c31_i32 : BitVec 32 := 31#32
  let v135 : BitVec 32 := Scalar.minsi v134 c31_i32
  let c512_i32 : BitVec 32 := 512#32
  let v136 : BitVec 32 := Scalar.muli v135 c512_i32
  let v137 : BitVec 32 := v136
  let v138 : Index := Scalar.indexCast v137
  let c0_90 : Index := 0#32
  ![0, v138.toNat, 0]
def k0_mult6 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c0_i32_86 : BitVec 32 := 0#32
  let v132 : BitVec 32 := Scalar.addi v131 c0_i32_86
  let c512_i32_99 : BitVec 32 := 512#32
  let v156 : BitVec 32 := Scalar.muli v132 c512_i32_99
  v156
def k0_off2 (k0_t1 : Fin k0_t1_loop.trips) (c0_i32_86 : BitVec 32) : Fin 2 → Nat :=
  let c0_100 : Index := 0#32
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let v132 : BitVec 32 := Scalar.addi v131 c0_i32_86
  let c512_i32_99 : BitVec 32 := 512#32
  let v156 : BitVec 32 := Scalar.muli v132 c512_i32_99
  let v157 : BitVec 32 := v156
  let v158 : Index := Scalar.indexCast v157
  ![0, v158.toNat]
def k0_mult7 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c0_i32_87 : BitVec 32 := 0#32
  let v133 : BitVec 32 := Scalar.addi v131 c0_i32_87
  let c1_i32_88 : BitVec 32 := 1#32
  let v134 : BitVec 32 := Scalar.addi v133 c1_i32_88
  let c31_i32 : BitVec 32 := 31#32
  let v135 : BitVec 32 := Scalar.minsi v134 c31_i32
  let c512_i32_102 : BitVec 32 := 512#32
  let v165 : BitVec 32 := Scalar.muli v135 c512_i32_102
  v165
def k0_off3 (k0_t1 : Fin k0_t1_loop.trips) (c0_i32_87 : BitVec 32) : Fin 3 → Nat :=
  let c0_103 : Index := 0#32
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let v133 : BitVec 32 := Scalar.addi v131 c0_i32_87
  let c1_i32_88 : BitVec 32 := 1#32
  let v134 : BitVec 32 := Scalar.addi v133 c1_i32_88
  let c31_i32 : BitVec 32 := 31#32
  let v135 : BitVec 32 := Scalar.minsi v134 c31_i32
  let c512_i32_102 : BitVec 32 := 512#32
  let v165 : BitVec 32 := Scalar.muli v135 c512_i32_102
  let v166 : BitVec 32 := v165
  let v167 : Index := Scalar.indexCast v166
  let c128_104 : Index := 128#32
  ![0, v167.toNat, 128]
def k0_mult8 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c0_i32_86 : BitVec 32 := 0#32
  let v132 : BitVec 32 := Scalar.addi v131 c0_i32_86
  let c512_i32_113 : BitVec 32 := 512#32
  let v185 : BitVec 32 := Scalar.muli v132 c512_i32_113
  v185
def k0_off4 (k0_t1 : Fin k0_t1_loop.trips) (c0_i32_86 : BitVec 32) : Fin 2 → Nat :=
  let c64 : Index := 64#32
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let v132 : BitVec 32 := Scalar.addi v131 c0_i32_86
  let c512_i32_113 : BitVec 32 := 512#32
  let v185 : BitVec 32 := Scalar.muli v132 c512_i32_113
  let v186 : BitVec 32 := v185
  let v187 : Index := Scalar.indexCast v186
  ![64, v187.toNat]
def k0_mult9 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c0_i32_87 : BitVec 32 := 0#32
  let v133 : BitVec 32 := Scalar.addi v131 c0_i32_87
  let c1_i32_88 : BitVec 32 := 1#32
  let v134 : BitVec 32 := Scalar.addi v133 c1_i32_88
  let c31_i32 : BitVec 32 := 31#32
  let v135 : BitVec 32 := Scalar.minsi v134 c31_i32
  let c512_i32_115 : BitVec 32 := 512#32
  let v194 : BitVec 32 := Scalar.muli v135 c512_i32_115
  v194
def k0_off5 (k0_t1 : Fin k0_t1_loop.trips) (c0_i32_87 : BitVec 32) : Fin 3 → Nat :=
  let c0_116 : Index := 0#32
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let v133 : BitVec 32 := Scalar.addi v131 c0_i32_87
  let c1_i32_88 : BitVec 32 := 1#32
  let v134 : BitVec 32 := Scalar.addi v133 c1_i32_88
  let c31_i32 : BitVec 32 := 31#32
  let v135 : BitVec 32 := Scalar.minsi v134 c31_i32
  let c512_i32_115 : BitVec 32 := 512#32
  let v194 : BitVec 32 := Scalar.muli v135 c512_i32_115
  let v195 : BitVec 32 := v194
  let v196 : Index := Scalar.indexCast v195
  let c256_117 : Index := 256#32
  ![0, v196.toNat, 256]
def k0_mult10 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c0_i32_86 : BitVec 32 := 0#32
  let v132 : BitVec 32 := Scalar.addi v131 c0_i32_86
  let c512_i32_126 : BitVec 32 := 512#32
  let v214 : BitVec 32 := Scalar.muli v132 c512_i32_126
  v214
def k0_off6 (k0_t1 : Fin k0_t1_loop.trips) (c0_i32_86 : BitVec 32) : Fin 2 → Nat :=
  let c128_127 : Index := 128#32
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let v132 : BitVec 32 := Scalar.addi v131 c0_i32_86
  let c512_i32_126 : BitVec 32 := 512#32
  let v214 : BitVec 32 := Scalar.muli v132 c512_i32_126
  let v215 : BitVec 32 := v214
  let v216 : Index := Scalar.indexCast v215
  ![128, v216.toNat]
def k0_mult11 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c0_i32_87 : BitVec 32 := 0#32
  let v133 : BitVec 32 := Scalar.addi v131 c0_i32_87
  let c1_i32_88 : BitVec 32 := 1#32
  let v134 : BitVec 32 := Scalar.addi v133 c1_i32_88
  let c31_i32 : BitVec 32 := 31#32
  let v135 : BitVec 32 := Scalar.minsi v134 c31_i32
  let c512_i32_129 : BitVec 32 := 512#32
  let v223 : BitVec 32 := Scalar.muli v135 c512_i32_129
  v223
def k0_off7 (k0_t1 : Fin k0_t1_loop.trips) (c0_i32_87 : BitVec 32) : Fin 3 → Nat :=
  let c0_130 : Index := 0#32
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let v133 : BitVec 32 := Scalar.addi v131 c0_i32_87
  let c1_i32_88 : BitVec 32 := 1#32
  let v134 : BitVec 32 := Scalar.addi v133 c1_i32_88
  let c31_i32 : BitVec 32 := 31#32
  let v135 : BitVec 32 := Scalar.minsi v134 c31_i32
  let c512_i32_129 : BitVec 32 := 512#32
  let v223 : BitVec 32 := Scalar.muli v135 c512_i32_129
  let v224 : BitVec 32 := v223
  let v225 : Index := Scalar.indexCast v224
  let c384_131 : Index := 384#32
  ![0, v225.toNat, 384]
def k0_mult12 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c0_i32_86 : BitVec 32 := 0#32
  let v132 : BitVec 32 := Scalar.addi v131 c0_i32_86
  let c512_i32_140 : BitVec 32 := 512#32
  let v243 : BitVec 32 := Scalar.muli v132 c512_i32_140
  v243
def k0_off8 (k0_t1 : Fin k0_t1_loop.trips) (c0_i32_86 : BitVec 32) : Fin 2 → Nat :=
  let c192 : Index := 192#32
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let v132 : BitVec 32 := Scalar.addi v131 c0_i32_86
  let c512_i32_140 : BitVec 32 := 512#32
  let v243 : BitVec 32 := Scalar.muli v132 c512_i32_140
  let v244 : BitVec 32 := v243
  let v245 : Index := Scalar.indexCast v244
  ![192, v245.toNat]
def k0_mult13 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c1_i32_143 : BitVec 32 := 1#32
  let v253 : BitVec 32 := Scalar.addi v131 c1_i32_143
  let c1_i32_144 : BitVec 32 := 1#32
  let v254 : BitVec 32 := Scalar.addi v253 c1_i32_144
  let c31_i32_145 : BitVec 32 := 31#32
  let v255 : BitVec 32 := Scalar.minsi v254 c31_i32_145
  let c512_i32_146 : BitVec 32 := 512#32
  let v256 : BitVec 32 := Scalar.muli v255 c512_i32_146
  v256
def k0_mult14 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c1_i32_142 : BitVec 32 := 1#32
  let v252 : BitVec 32 := Scalar.addi v131 c1_i32_142
  let c512_i32_157 : BitVec 32 := 512#32
  let v276 : BitVec 32 := Scalar.muli v252 c512_i32_157
  v276
def k0_mult15 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c1_i32_143 : BitVec 32 := 1#32
  let v253 : BitVec 32 := Scalar.addi v131 c1_i32_143
  let c1_i32_144 : BitVec 32 := 1#32
  let v254 : BitVec 32 := Scalar.addi v253 c1_i32_144
  let c31_i32_145 : BitVec 32 := 31#32
  let v255 : BitVec 32 := Scalar.minsi v254 c31_i32_145
  let c512_i32_160 : BitVec 32 := 512#32
  let v285 : BitVec 32 := Scalar.muli v255 c512_i32_160
  v285
def k0_mult16 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c1_i32_142 : BitVec 32 := 1#32
  let v252 : BitVec 32 := Scalar.addi v131 c1_i32_142
  let c512_i32_171 : BitVec 32 := 512#32
  let v305 : BitVec 32 := Scalar.muli v252 c512_i32_171
  v305
def k0_mult17 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c1_i32_143 : BitVec 32 := 1#32
  let v253 : BitVec 32 := Scalar.addi v131 c1_i32_143
  let c1_i32_144 : BitVec 32 := 1#32
  let v254 : BitVec 32 := Scalar.addi v253 c1_i32_144
  let c31_i32_145 : BitVec 32 := 31#32
  let v255 : BitVec 32 := Scalar.minsi v254 c31_i32_145
  let c512_i32_174 : BitVec 32 := 512#32
  let v314 : BitVec 32 := Scalar.muli v255 c512_i32_174
  v314
def k0_mult18 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c1_i32_142 : BitVec 32 := 1#32
  let v252 : BitVec 32 := Scalar.addi v131 c1_i32_142
  let c512_i32_185 : BitVec 32 := 512#32
  let v334 : BitVec 32 := Scalar.muli v252 c512_i32_185
  v334
def k0_mult19 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c1_i32_143 : BitVec 32 := 1#32
  let v253 : BitVec 32 := Scalar.addi v131 c1_i32_143
  let c1_i32_144 : BitVec 32 := 1#32
  let v254 : BitVec 32 := Scalar.addi v253 c1_i32_144
  let c31_i32_145 : BitVec 32 := 31#32
  let v255 : BitVec 32 := Scalar.minsi v254 c31_i32_145
  let c512_i32_188 : BitVec 32 := 512#32
  let v343 : BitVec 32 := Scalar.muli v255 c512_i32_188
  v343
def k0_mult20 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c1_i32_142 : BitVec 32 := 1#32
  let v252 : BitVec 32 := Scalar.addi v131 c1_i32_142
  let c512_i32_199 : BitVec 32 := 512#32
  let v363 : BitVec 32 := Scalar.muli v252 c512_i32_199
  v363
def k0_mult21 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c2_i32_203 : BitVec 32 := 2#32
  let v373 : BitVec 32 := Scalar.addi v131 c2_i32_203
  let c1_i32_204 : BitVec 32 := 1#32
  let v374 : BitVec 32 := Scalar.addi v373 c1_i32_204
  let c31_i32_205 : BitVec 32 := 31#32
  let v375 : BitVec 32 := Scalar.minsi v374 c31_i32_205
  let c512_i32_206 : BitVec 32 := 512#32
  let v376 : BitVec 32 := Scalar.muli v375 c512_i32_206
  v376
def k0_mult22 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c2_i32_202 : BitVec 32 := 2#32
  let v372 : BitVec 32 := Scalar.addi v131 c2_i32_202
  let c512_i32_217 : BitVec 32 := 512#32
  let v396 : BitVec 32 := Scalar.muli v372 c512_i32_217
  v396
def k0_mult23 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c2_i32_203 : BitVec 32 := 2#32
  let v373 : BitVec 32 := Scalar.addi v131 c2_i32_203
  let c1_i32_204 : BitVec 32 := 1#32
  let v374 : BitVec 32 := Scalar.addi v373 c1_i32_204
  let c31_i32_205 : BitVec 32 := 31#32
  let v375 : BitVec 32 := Scalar.minsi v374 c31_i32_205
  let c512_i32_220 : BitVec 32 := 512#32
  let v405 : BitVec 32 := Scalar.muli v375 c512_i32_220
  v405
def k0_mult24 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c2_i32_202 : BitVec 32 := 2#32
  let v372 : BitVec 32 := Scalar.addi v131 c2_i32_202
  let c512_i32_231 : BitVec 32 := 512#32
  let v425 : BitVec 32 := Scalar.muli v372 c512_i32_231
  v425
def k0_mult25 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c2_i32_203 : BitVec 32 := 2#32
  let v373 : BitVec 32 := Scalar.addi v131 c2_i32_203
  let c1_i32_204 : BitVec 32 := 1#32
  let v374 : BitVec 32 := Scalar.addi v373 c1_i32_204
  let c31_i32_205 : BitVec 32 := 31#32
  let v375 : BitVec 32 := Scalar.minsi v374 c31_i32_205
  let c512_i32_234 : BitVec 32 := 512#32
  let v434 : BitVec 32 := Scalar.muli v375 c512_i32_234
  v434
def k0_mult26 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c2_i32_202 : BitVec 32 := 2#32
  let v372 : BitVec 32 := Scalar.addi v131 c2_i32_202
  let c512_i32_245 : BitVec 32 := 512#32
  let v454 : BitVec 32 := Scalar.muli v372 c512_i32_245
  v454
def k0_mult27 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c2_i32_203 : BitVec 32 := 2#32
  let v373 : BitVec 32 := Scalar.addi v131 c2_i32_203
  let c1_i32_204 : BitVec 32 := 1#32
  let v374 : BitVec 32 := Scalar.addi v373 c1_i32_204
  let c31_i32_205 : BitVec 32 := 31#32
  let v375 : BitVec 32 := Scalar.minsi v374 c31_i32_205
  let c512_i32_248 : BitVec 32 := 512#32
  let v463 : BitVec 32 := Scalar.muli v375 c512_i32_248
  v463
def k0_mult28 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c2_i32_202 : BitVec 32 := 2#32
  let v372 : BitVec 32 := Scalar.addi v131 c2_i32_202
  let c512_i32_259 : BitVec 32 := 512#32
  let v483 : BitVec 32 := Scalar.muli v372 c512_i32_259
  v483
def k0_mult29 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c3_i32_262 : BitVec 32 := 3#32
  let v493 : BitVec 32 := Scalar.addi v131 c3_i32_262
  let c1_i32_263 : BitVec 32 := 1#32
  let v494 : BitVec 32 := Scalar.addi v493 c1_i32_263
  let c31_i32_264 : BitVec 32 := 31#32
  let v495 : BitVec 32 := Scalar.minsi v494 c31_i32_264
  let c512_i32_265 : BitVec 32 := 512#32
  let v496 : BitVec 32 := Scalar.muli v495 c512_i32_265
  v496
def k0_mult30 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c3_i32 : BitVec 32 := 3#32
  let v492 : BitVec 32 := Scalar.addi v131 c3_i32
  let c512_i32_276 : BitVec 32 := 512#32
  let v516 : BitVec 32 := Scalar.muli v492 c512_i32_276
  v516
def k0_mult31 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c3_i32_262 : BitVec 32 := 3#32
  let v493 : BitVec 32 := Scalar.addi v131 c3_i32_262
  let c1_i32_263 : BitVec 32 := 1#32
  let v494 : BitVec 32 := Scalar.addi v493 c1_i32_263
  let c31_i32_264 : BitVec 32 := 31#32
  let v495 : BitVec 32 := Scalar.minsi v494 c31_i32_264
  let c512_i32_279 : BitVec 32 := 512#32
  let v525 : BitVec 32 := Scalar.muli v495 c512_i32_279
  v525
def k0_mult32 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c3_i32 : BitVec 32 := 3#32
  let v492 : BitVec 32 := Scalar.addi v131 c3_i32
  let c512_i32_290 : BitVec 32 := 512#32
  let v545 : BitVec 32 := Scalar.muli v492 c512_i32_290
  v545
def k0_mult33 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c3_i32_262 : BitVec 32 := 3#32
  let v493 : BitVec 32 := Scalar.addi v131 c3_i32_262
  let c1_i32_263 : BitVec 32 := 1#32
  let v494 : BitVec 32 := Scalar.addi v493 c1_i32_263
  let c31_i32_264 : BitVec 32 := 31#32
  let v495 : BitVec 32 := Scalar.minsi v494 c31_i32_264
  let c512_i32_293 : BitVec 32 := 512#32
  let v554 : BitVec 32 := Scalar.muli v495 c512_i32_293
  v554
def k0_mult34 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c3_i32 : BitVec 32 := 3#32
  let v492 : BitVec 32 := Scalar.addi v131 c3_i32
  let c512_i32_304 : BitVec 32 := 512#32
  let v574 : BitVec 32 := Scalar.muli v492 c512_i32_304
  v574
def k0_mult35 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c3_i32_262 : BitVec 32 := 3#32
  let v493 : BitVec 32 := Scalar.addi v131 c3_i32_262
  let c1_i32_263 : BitVec 32 := 1#32
  let v494 : BitVec 32 := Scalar.addi v493 c1_i32_263
  let c31_i32_264 : BitVec 32 := 31#32
  let v495 : BitVec 32 := Scalar.minsi v494 c31_i32_264
  let c512_i32_307 : BitVec 32 := 512#32
  let v583 : BitVec 32 := Scalar.muli v495 c512_i32_307
  v583
def k0_mult36 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c3_i32 : BitVec 32 := 3#32
  let v492 : BitVec 32 := Scalar.addi v131 c3_i32
  let c512_i32_318 : BitVec 32 := 512#32
  let v603 : BitVec 32 := Scalar.muli v492 c512_i32_318
  v603
def k0_mult37 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c4_i32_321 : BitVec 32 := 4#32
  let v613 : BitVec 32 := Scalar.addi v131 c4_i32_321
  let c1_i32_322 : BitVec 32 := 1#32
  let v614 : BitVec 32 := Scalar.addi v613 c1_i32_322
  let c31_i32_323 : BitVec 32 := 31#32
  let v615 : BitVec 32 := Scalar.minsi v614 c31_i32_323
  let c512_i32_324 : BitVec 32 := 512#32
  let v616 : BitVec 32 := Scalar.muli v615 c512_i32_324
  v616
def k0_mult38 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c4_i32 : BitVec 32 := 4#32
  let v612 : BitVec 32 := Scalar.addi v131 c4_i32
  let c512_i32_335 : BitVec 32 := 512#32
  let v636 : BitVec 32 := Scalar.muli v612 c512_i32_335
  v636
def k0_mult39 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c4_i32_321 : BitVec 32 := 4#32
  let v613 : BitVec 32 := Scalar.addi v131 c4_i32_321
  let c1_i32_322 : BitVec 32 := 1#32
  let v614 : BitVec 32 := Scalar.addi v613 c1_i32_322
  let c31_i32_323 : BitVec 32 := 31#32
  let v615 : BitVec 32 := Scalar.minsi v614 c31_i32_323
  let c512_i32_338 : BitVec 32 := 512#32
  let v645 : BitVec 32 := Scalar.muli v615 c512_i32_338
  v645
def k0_mult40 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c4_i32 : BitVec 32 := 4#32
  let v612 : BitVec 32 := Scalar.addi v131 c4_i32
  let c512_i32_349 : BitVec 32 := 512#32
  let v665 : BitVec 32 := Scalar.muli v612 c512_i32_349
  v665
def k0_mult41 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c4_i32_321 : BitVec 32 := 4#32
  let v613 : BitVec 32 := Scalar.addi v131 c4_i32_321
  let c1_i32_322 : BitVec 32 := 1#32
  let v614 : BitVec 32 := Scalar.addi v613 c1_i32_322
  let c31_i32_323 : BitVec 32 := 31#32
  let v615 : BitVec 32 := Scalar.minsi v614 c31_i32_323
  let c512_i32_352 : BitVec 32 := 512#32
  let v674 : BitVec 32 := Scalar.muli v615 c512_i32_352
  v674
def k0_mult42 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c4_i32 : BitVec 32 := 4#32
  let v612 : BitVec 32 := Scalar.addi v131 c4_i32
  let c512_i32_363 : BitVec 32 := 512#32
  let v694 : BitVec 32 := Scalar.muli v612 c512_i32_363
  v694
def k0_mult43 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c4_i32_321 : BitVec 32 := 4#32
  let v613 : BitVec 32 := Scalar.addi v131 c4_i32_321
  let c1_i32_322 : BitVec 32 := 1#32
  let v614 : BitVec 32 := Scalar.addi v613 c1_i32_322
  let c31_i32_323 : BitVec 32 := 31#32
  let v615 : BitVec 32 := Scalar.minsi v614 c31_i32_323
  let c512_i32_366 : BitVec 32 := 512#32
  let v703 : BitVec 32 := Scalar.muli v615 c512_i32_366
  v703
def k0_mult44 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c4_i32 : BitVec 32 := 4#32
  let v612 : BitVec 32 := Scalar.addi v131 c4_i32
  let c512_i32_377 : BitVec 32 := 512#32
  let v723 : BitVec 32 := Scalar.muli v612 c512_i32_377
  v723
def k0_mult45 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c5_i32_380 : BitVec 32 := 5#32
  let v733 : BitVec 32 := Scalar.addi v131 c5_i32_380
  let c1_i32_381 : BitVec 32 := 1#32
  let v734 : BitVec 32 := Scalar.addi v733 c1_i32_381
  let c31_i32_382 : BitVec 32 := 31#32
  let v735 : BitVec 32 := Scalar.minsi v734 c31_i32_382
  let c512_i32_383 : BitVec 32 := 512#32
  let v736 : BitVec 32 := Scalar.muli v735 c512_i32_383
  v736
def k0_mult46 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c5_i32 : BitVec 32 := 5#32
  let v732 : BitVec 32 := Scalar.addi v131 c5_i32
  let c512_i32_394 : BitVec 32 := 512#32
  let v756 : BitVec 32 := Scalar.muli v732 c512_i32_394
  v756
def k0_mult47 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c5_i32_380 : BitVec 32 := 5#32
  let v733 : BitVec 32 := Scalar.addi v131 c5_i32_380
  let c1_i32_381 : BitVec 32 := 1#32
  let v734 : BitVec 32 := Scalar.addi v733 c1_i32_381
  let c31_i32_382 : BitVec 32 := 31#32
  let v735 : BitVec 32 := Scalar.minsi v734 c31_i32_382
  let c512_i32_397 : BitVec 32 := 512#32
  let v765 : BitVec 32 := Scalar.muli v735 c512_i32_397
  v765
def k0_mult48 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c5_i32 : BitVec 32 := 5#32
  let v732 : BitVec 32 := Scalar.addi v131 c5_i32
  let c512_i32_408 : BitVec 32 := 512#32
  let v785 : BitVec 32 := Scalar.muli v732 c512_i32_408
  v785
def k0_mult49 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c5_i32_380 : BitVec 32 := 5#32
  let v733 : BitVec 32 := Scalar.addi v131 c5_i32_380
  let c1_i32_381 : BitVec 32 := 1#32
  let v734 : BitVec 32 := Scalar.addi v733 c1_i32_381
  let c31_i32_382 : BitVec 32 := 31#32
  let v735 : BitVec 32 := Scalar.minsi v734 c31_i32_382
  let c512_i32_411 : BitVec 32 := 512#32
  let v794 : BitVec 32 := Scalar.muli v735 c512_i32_411
  v794
def k0_mult50 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c5_i32 : BitVec 32 := 5#32
  let v732 : BitVec 32 := Scalar.addi v131 c5_i32
  let c512_i32_422 : BitVec 32 := 512#32
  let v814 : BitVec 32 := Scalar.muli v732 c512_i32_422
  v814
def k0_mult51 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c5_i32_380 : BitVec 32 := 5#32
  let v733 : BitVec 32 := Scalar.addi v131 c5_i32_380
  let c1_i32_381 : BitVec 32 := 1#32
  let v734 : BitVec 32 := Scalar.addi v733 c1_i32_381
  let c31_i32_382 : BitVec 32 := 31#32
  let v735 : BitVec 32 := Scalar.minsi v734 c31_i32_382
  let c512_i32_425 : BitVec 32 := 512#32
  let v823 : BitVec 32 := Scalar.muli v735 c512_i32_425
  v823
def k0_mult52 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c5_i32 : BitVec 32 := 5#32
  let v732 : BitVec 32 := Scalar.addi v131 c5_i32
  let c512_i32_436 : BitVec 32 := 512#32
  let v843 : BitVec 32 := Scalar.muli v732 c512_i32_436
  v843
def k0_mult53 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c6_i32_439 : BitVec 32 := 6#32
  let v853 : BitVec 32 := Scalar.addi v131 c6_i32_439
  let c1_i32_440 : BitVec 32 := 1#32
  let v854 : BitVec 32 := Scalar.addi v853 c1_i32_440
  let c31_i32_441 : BitVec 32 := 31#32
  let v855 : BitVec 32 := Scalar.minsi v854 c31_i32_441
  let c512_i32_442 : BitVec 32 := 512#32
  let v856 : BitVec 32 := Scalar.muli v855 c512_i32_442
  v856
def k0_mult54 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c6_i32 : BitVec 32 := 6#32
  let v852 : BitVec 32 := Scalar.addi v131 c6_i32
  let c512_i32_453 : BitVec 32 := 512#32
  let v876 : BitVec 32 := Scalar.muli v852 c512_i32_453
  v876
def k0_mult55 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c6_i32_439 : BitVec 32 := 6#32
  let v853 : BitVec 32 := Scalar.addi v131 c6_i32_439
  let c1_i32_440 : BitVec 32 := 1#32
  let v854 : BitVec 32 := Scalar.addi v853 c1_i32_440
  let c31_i32_441 : BitVec 32 := 31#32
  let v855 : BitVec 32 := Scalar.minsi v854 c31_i32_441
  let c512_i32_456 : BitVec 32 := 512#32
  let v885 : BitVec 32 := Scalar.muli v855 c512_i32_456
  v885
def k0_mult56 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c6_i32 : BitVec 32 := 6#32
  let v852 : BitVec 32 := Scalar.addi v131 c6_i32
  let c512_i32_467 : BitVec 32 := 512#32
  let v905 : BitVec 32 := Scalar.muli v852 c512_i32_467
  v905
def k0_mult57 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c6_i32_439 : BitVec 32 := 6#32
  let v853 : BitVec 32 := Scalar.addi v131 c6_i32_439
  let c1_i32_440 : BitVec 32 := 1#32
  let v854 : BitVec 32 := Scalar.addi v853 c1_i32_440
  let c31_i32_441 : BitVec 32 := 31#32
  let v855 : BitVec 32 := Scalar.minsi v854 c31_i32_441
  let c512_i32_470 : BitVec 32 := 512#32
  let v914 : BitVec 32 := Scalar.muli v855 c512_i32_470
  v914
def k0_mult58 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c6_i32 : BitVec 32 := 6#32
  let v852 : BitVec 32 := Scalar.addi v131 c6_i32
  let c512_i32_481 : BitVec 32 := 512#32
  let v934 : BitVec 32 := Scalar.muli v852 c512_i32_481
  v934
def k0_mult59 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c6_i32_439 : BitVec 32 := 6#32
  let v853 : BitVec 32 := Scalar.addi v131 c6_i32_439
  let c1_i32_440 : BitVec 32 := 1#32
  let v854 : BitVec 32 := Scalar.addi v853 c1_i32_440
  let c31_i32_441 : BitVec 32 := 31#32
  let v855 : BitVec 32 := Scalar.minsi v854 c31_i32_441
  let c512_i32_484 : BitVec 32 := 512#32
  let v943 : BitVec 32 := Scalar.muli v855 c512_i32_484
  v943
def k0_mult60 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c6_i32 : BitVec 32 := 6#32
  let v852 : BitVec 32 := Scalar.addi v131 c6_i32
  let c512_i32_495 : BitVec 32 := 512#32
  let v963 : BitVec 32 := Scalar.muli v852 c512_i32_495
  v963
def k0_mult61 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c7_i32_498 : BitVec 32 := 7#32
  let v973 : BitVec 32 := Scalar.addi v131 c7_i32_498
  let c1_i32_499 : BitVec 32 := 1#32
  let v974 : BitVec 32 := Scalar.addi v973 c1_i32_499
  let c31_i32_500 : BitVec 32 := 31#32
  let v975 : BitVec 32 := Scalar.minsi v974 c31_i32_500
  let c512_i32_501 : BitVec 32 := 512#32
  let v976 : BitVec 32 := Scalar.muli v975 c512_i32_501
  v976
def k0_mult62 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c7_i32 : BitVec 32 := 7#32
  let v972 : BitVec 32 := Scalar.addi v131 c7_i32
  let c512_i32_512 : BitVec 32 := 512#32
  let v996 : BitVec 32 := Scalar.muli v972 c512_i32_512
  v996
def k0_mult63 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c7_i32_498 : BitVec 32 := 7#32
  let v973 : BitVec 32 := Scalar.addi v131 c7_i32_498
  let c1_i32_499 : BitVec 32 := 1#32
  let v974 : BitVec 32 := Scalar.addi v973 c1_i32_499
  let c31_i32_500 : BitVec 32 := 31#32
  let v975 : BitVec 32 := Scalar.minsi v974 c31_i32_500
  let c512_i32_515 : BitVec 32 := 512#32
  let v1005 : BitVec 32 := Scalar.muli v975 c512_i32_515
  v1005
def k0_mult64 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c7_i32 : BitVec 32 := 7#32
  let v972 : BitVec 32 := Scalar.addi v131 c7_i32
  let c512_i32_526 : BitVec 32 := 512#32
  let v1025 : BitVec 32 := Scalar.muli v972 c512_i32_526
  v1025
def k0_mult65 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c7_i32_498 : BitVec 32 := 7#32
  let v973 : BitVec 32 := Scalar.addi v131 c7_i32_498
  let c1_i32_499 : BitVec 32 := 1#32
  let v974 : BitVec 32 := Scalar.addi v973 c1_i32_499
  let c31_i32_500 : BitVec 32 := 31#32
  let v975 : BitVec 32 := Scalar.minsi v974 c31_i32_500
  let c512_i32_529 : BitVec 32 := 512#32
  let v1034 : BitVec 32 := Scalar.muli v975 c512_i32_529
  v1034
def k0_mult66 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c7_i32 : BitVec 32 := 7#32
  let v972 : BitVec 32 := Scalar.addi v131 c7_i32
  let c512_i32_540 : BitVec 32 := 512#32
  let v1054 : BitVec 32 := Scalar.muli v972 c512_i32_540
  v1054
def k0_mult67 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c7_i32_498 : BitVec 32 := 7#32
  let v973 : BitVec 32 := Scalar.addi v131 c7_i32_498
  let c1_i32_499 : BitVec 32 := 1#32
  let v974 : BitVec 32 := Scalar.addi v973 c1_i32_499
  let c31_i32_500 : BitVec 32 := 31#32
  let v975 : BitVec 32 := Scalar.minsi v974 c31_i32_500
  let c512_i32_543 : BitVec 32 := 512#32
  let v1063 : BitVec 32 := Scalar.muli v975 c512_i32_543
  v1063
def k0_mult68 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c7_i32 : BitVec 32 := 7#32
  let v972 : BitVec 32 := Scalar.addi v131 c7_i32
  let c512_i32_554 : BitVec 32 := 512#32
  let v1083 : BitVec 32 := Scalar.muli v972 c512_i32_554
  v1083
def k0_mult69 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c8_i32_557 : BitVec 32 := 8#32
  let v1093 : BitVec 32 := Scalar.addi v131 c8_i32_557
  let c1_i32_558 : BitVec 32 := 1#32
  let v1094 : BitVec 32 := Scalar.addi v1093 c1_i32_558
  let c31_i32_559 : BitVec 32 := 31#32
  let v1095 : BitVec 32 := Scalar.minsi v1094 c31_i32_559
  let c512_i32_560 : BitVec 32 := 512#32
  let v1096 : BitVec 32 := Scalar.muli v1095 c512_i32_560
  v1096
def k0_mult70 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c8_i32 : BitVec 32 := 8#32
  let v1092 : BitVec 32 := Scalar.addi v131 c8_i32
  let c512_i32_571 : BitVec 32 := 512#32
  let v1116 : BitVec 32 := Scalar.muli v1092 c512_i32_571
  v1116
def k0_mult71 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c8_i32_557 : BitVec 32 := 8#32
  let v1093 : BitVec 32 := Scalar.addi v131 c8_i32_557
  let c1_i32_558 : BitVec 32 := 1#32
  let v1094 : BitVec 32 := Scalar.addi v1093 c1_i32_558
  let c31_i32_559 : BitVec 32 := 31#32
  let v1095 : BitVec 32 := Scalar.minsi v1094 c31_i32_559
  let c512_i32_574 : BitVec 32 := 512#32
  let v1125 : BitVec 32 := Scalar.muli v1095 c512_i32_574
  v1125
def k0_mult72 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c8_i32 : BitVec 32 := 8#32
  let v1092 : BitVec 32 := Scalar.addi v131 c8_i32
  let c512_i32_585 : BitVec 32 := 512#32
  let v1145 : BitVec 32 := Scalar.muli v1092 c512_i32_585
  v1145
def k0_mult73 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c8_i32_557 : BitVec 32 := 8#32
  let v1093 : BitVec 32 := Scalar.addi v131 c8_i32_557
  let c1_i32_558 : BitVec 32 := 1#32
  let v1094 : BitVec 32 := Scalar.addi v1093 c1_i32_558
  let c31_i32_559 : BitVec 32 := 31#32
  let v1095 : BitVec 32 := Scalar.minsi v1094 c31_i32_559
  let c512_i32_588 : BitVec 32 := 512#32
  let v1154 : BitVec 32 := Scalar.muli v1095 c512_i32_588
  v1154
def k0_mult74 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c8_i32 : BitVec 32 := 8#32
  let v1092 : BitVec 32 := Scalar.addi v131 c8_i32
  let c512_i32_599 : BitVec 32 := 512#32
  let v1174 : BitVec 32 := Scalar.muli v1092 c512_i32_599
  v1174
def k0_mult75 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c8_i32_557 : BitVec 32 := 8#32
  let v1093 : BitVec 32 := Scalar.addi v131 c8_i32_557
  let c1_i32_558 : BitVec 32 := 1#32
  let v1094 : BitVec 32 := Scalar.addi v1093 c1_i32_558
  let c31_i32_559 : BitVec 32 := 31#32
  let v1095 : BitVec 32 := Scalar.minsi v1094 c31_i32_559
  let c512_i32_602 : BitVec 32 := 512#32
  let v1183 : BitVec 32 := Scalar.muli v1095 c512_i32_602
  v1183
def k0_mult76 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c8_i32 : BitVec 32 := 8#32
  let v1092 : BitVec 32 := Scalar.addi v131 c8_i32
  let c512_i32_613 : BitVec 32 := 512#32
  let v1203 : BitVec 32 := Scalar.muli v1092 c512_i32_613
  v1203
def k0_mult77 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c9_i32_616 : BitVec 32 := 9#32
  let v1213 : BitVec 32 := Scalar.addi v131 c9_i32_616
  let c1_i32_617 : BitVec 32 := 1#32
  let v1214 : BitVec 32 := Scalar.addi v1213 c1_i32_617
  let c31_i32_618 : BitVec 32 := 31#32
  let v1215 : BitVec 32 := Scalar.minsi v1214 c31_i32_618
  let c512_i32_619 : BitVec 32 := 512#32
  let v1216 : BitVec 32 := Scalar.muli v1215 c512_i32_619
  v1216
def k0_mult78 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c9_i32 : BitVec 32 := 9#32
  let v1212 : BitVec 32 := Scalar.addi v131 c9_i32
  let c512_i32_630 : BitVec 32 := 512#32
  let v1236 : BitVec 32 := Scalar.muli v1212 c512_i32_630
  v1236
def k0_mult79 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c9_i32_616 : BitVec 32 := 9#32
  let v1213 : BitVec 32 := Scalar.addi v131 c9_i32_616
  let c1_i32_617 : BitVec 32 := 1#32
  let v1214 : BitVec 32 := Scalar.addi v1213 c1_i32_617
  let c31_i32_618 : BitVec 32 := 31#32
  let v1215 : BitVec 32 := Scalar.minsi v1214 c31_i32_618
  let c512_i32_633 : BitVec 32 := 512#32
  let v1245 : BitVec 32 := Scalar.muli v1215 c512_i32_633
  v1245
def k0_mult80 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c9_i32 : BitVec 32 := 9#32
  let v1212 : BitVec 32 := Scalar.addi v131 c9_i32
  let c512_i32_644 : BitVec 32 := 512#32
  let v1265 : BitVec 32 := Scalar.muli v1212 c512_i32_644
  v1265
def k0_mult81 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c9_i32_616 : BitVec 32 := 9#32
  let v1213 : BitVec 32 := Scalar.addi v131 c9_i32_616
  let c1_i32_617 : BitVec 32 := 1#32
  let v1214 : BitVec 32 := Scalar.addi v1213 c1_i32_617
  let c31_i32_618 : BitVec 32 := 31#32
  let v1215 : BitVec 32 := Scalar.minsi v1214 c31_i32_618
  let c512_i32_647 : BitVec 32 := 512#32
  let v1274 : BitVec 32 := Scalar.muli v1215 c512_i32_647
  v1274
def k0_mult82 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c9_i32 : BitVec 32 := 9#32
  let v1212 : BitVec 32 := Scalar.addi v131 c9_i32
  let c512_i32_658 : BitVec 32 := 512#32
  let v1294 : BitVec 32 := Scalar.muli v1212 c512_i32_658
  v1294
def k0_mult83 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c9_i32_616 : BitVec 32 := 9#32
  let v1213 : BitVec 32 := Scalar.addi v131 c9_i32_616
  let c1_i32_617 : BitVec 32 := 1#32
  let v1214 : BitVec 32 := Scalar.addi v1213 c1_i32_617
  let c31_i32_618 : BitVec 32 := 31#32
  let v1215 : BitVec 32 := Scalar.minsi v1214 c31_i32_618
  let c512_i32_661 : BitVec 32 := 512#32
  let v1303 : BitVec 32 := Scalar.muli v1215 c512_i32_661
  v1303
def k0_mult84 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c9_i32 : BitVec 32 := 9#32
  let v1212 : BitVec 32 := Scalar.addi v131 c9_i32
  let c512_i32_672 : BitVec 32 := 512#32
  let v1323 : BitVec 32 := Scalar.muli v1212 c512_i32_672
  v1323
def k0_mult85 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c10_i32_675 : BitVec 32 := 10#32
  let v1333 : BitVec 32 := Scalar.addi v131 c10_i32_675
  let c1_i32_676 : BitVec 32 := 1#32
  let v1334 : BitVec 32 := Scalar.addi v1333 c1_i32_676
  let c31_i32_677 : BitVec 32 := 31#32
  let v1335 : BitVec 32 := Scalar.minsi v1334 c31_i32_677
  let c512_i32_678 : BitVec 32 := 512#32
  let v1336 : BitVec 32 := Scalar.muli v1335 c512_i32_678
  v1336
def k0_mult86 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c10_i32 : BitVec 32 := 10#32
  let v1332 : BitVec 32 := Scalar.addi v131 c10_i32
  let c512_i32_689 : BitVec 32 := 512#32
  let v1356 : BitVec 32 := Scalar.muli v1332 c512_i32_689
  v1356
def k0_mult87 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c10_i32_675 : BitVec 32 := 10#32
  let v1333 : BitVec 32 := Scalar.addi v131 c10_i32_675
  let c1_i32_676 : BitVec 32 := 1#32
  let v1334 : BitVec 32 := Scalar.addi v1333 c1_i32_676
  let c31_i32_677 : BitVec 32 := 31#32
  let v1335 : BitVec 32 := Scalar.minsi v1334 c31_i32_677
  let c512_i32_692 : BitVec 32 := 512#32
  let v1365 : BitVec 32 := Scalar.muli v1335 c512_i32_692
  v1365
def k0_mult88 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c10_i32 : BitVec 32 := 10#32
  let v1332 : BitVec 32 := Scalar.addi v131 c10_i32
  let c512_i32_703 : BitVec 32 := 512#32
  let v1385 : BitVec 32 := Scalar.muli v1332 c512_i32_703
  v1385
def k0_mult89 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c10_i32_675 : BitVec 32 := 10#32
  let v1333 : BitVec 32 := Scalar.addi v131 c10_i32_675
  let c1_i32_676 : BitVec 32 := 1#32
  let v1334 : BitVec 32 := Scalar.addi v1333 c1_i32_676
  let c31_i32_677 : BitVec 32 := 31#32
  let v1335 : BitVec 32 := Scalar.minsi v1334 c31_i32_677
  let c512_i32_706 : BitVec 32 := 512#32
  let v1394 : BitVec 32 := Scalar.muli v1335 c512_i32_706
  v1394
def k0_mult90 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c10_i32 : BitVec 32 := 10#32
  let v1332 : BitVec 32 := Scalar.addi v131 c10_i32
  let c512_i32_717 : BitVec 32 := 512#32
  let v1414 : BitVec 32 := Scalar.muli v1332 c512_i32_717
  v1414
def k0_mult91 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c10_i32_675 : BitVec 32 := 10#32
  let v1333 : BitVec 32 := Scalar.addi v131 c10_i32_675
  let c1_i32_676 : BitVec 32 := 1#32
  let v1334 : BitVec 32 := Scalar.addi v1333 c1_i32_676
  let c31_i32_677 : BitVec 32 := 31#32
  let v1335 : BitVec 32 := Scalar.minsi v1334 c31_i32_677
  let c512_i32_720 : BitVec 32 := 512#32
  let v1423 : BitVec 32 := Scalar.muli v1335 c512_i32_720
  v1423
def k0_mult92 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c10_i32 : BitVec 32 := 10#32
  let v1332 : BitVec 32 := Scalar.addi v131 c10_i32
  let c512_i32_731 : BitVec 32 := 512#32
  let v1443 : BitVec 32 := Scalar.muli v1332 c512_i32_731
  v1443
def k0_mult93 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c11_i32_734 : BitVec 32 := 11#32
  let v1453 : BitVec 32 := Scalar.addi v131 c11_i32_734
  let c1_i32_735 : BitVec 32 := 1#32
  let v1454 : BitVec 32 := Scalar.addi v1453 c1_i32_735
  let c31_i32_736 : BitVec 32 := 31#32
  let v1455 : BitVec 32 := Scalar.minsi v1454 c31_i32_736
  let c512_i32_737 : BitVec 32 := 512#32
  let v1456 : BitVec 32 := Scalar.muli v1455 c512_i32_737
  v1456
def k0_mult94 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c11_i32 : BitVec 32 := 11#32
  let v1452 : BitVec 32 := Scalar.addi v131 c11_i32
  let c512_i32_748 : BitVec 32 := 512#32
  let v1476 : BitVec 32 := Scalar.muli v1452 c512_i32_748
  v1476
def k0_mult95 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c11_i32_734 : BitVec 32 := 11#32
  let v1453 : BitVec 32 := Scalar.addi v131 c11_i32_734
  let c1_i32_735 : BitVec 32 := 1#32
  let v1454 : BitVec 32 := Scalar.addi v1453 c1_i32_735
  let c31_i32_736 : BitVec 32 := 31#32
  let v1455 : BitVec 32 := Scalar.minsi v1454 c31_i32_736
  let c512_i32_751 : BitVec 32 := 512#32
  let v1485 : BitVec 32 := Scalar.muli v1455 c512_i32_751
  v1485
def k0_mult96 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c11_i32 : BitVec 32 := 11#32
  let v1452 : BitVec 32 := Scalar.addi v131 c11_i32
  let c512_i32_762 : BitVec 32 := 512#32
  let v1505 : BitVec 32 := Scalar.muli v1452 c512_i32_762
  v1505
def k0_mult97 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c11_i32_734 : BitVec 32 := 11#32
  let v1453 : BitVec 32 := Scalar.addi v131 c11_i32_734
  let c1_i32_735 : BitVec 32 := 1#32
  let v1454 : BitVec 32 := Scalar.addi v1453 c1_i32_735
  let c31_i32_736 : BitVec 32 := 31#32
  let v1455 : BitVec 32 := Scalar.minsi v1454 c31_i32_736
  let c512_i32_765 : BitVec 32 := 512#32
  let v1514 : BitVec 32 := Scalar.muli v1455 c512_i32_765
  v1514
def k0_mult98 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c11_i32 : BitVec 32 := 11#32
  let v1452 : BitVec 32 := Scalar.addi v131 c11_i32
  let c512_i32_776 : BitVec 32 := 512#32
  let v1534 : BitVec 32 := Scalar.muli v1452 c512_i32_776
  v1534
def k0_mult99 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c11_i32_734 : BitVec 32 := 11#32
  let v1453 : BitVec 32 := Scalar.addi v131 c11_i32_734
  let c1_i32_735 : BitVec 32 := 1#32
  let v1454 : BitVec 32 := Scalar.addi v1453 c1_i32_735
  let c31_i32_736 : BitVec 32 := 31#32
  let v1455 : BitVec 32 := Scalar.minsi v1454 c31_i32_736
  let c512_i32_779 : BitVec 32 := 512#32
  let v1543 : BitVec 32 := Scalar.muli v1455 c512_i32_779
  v1543
def k0_mult100 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c11_i32 : BitVec 32 := 11#32
  let v1452 : BitVec 32 := Scalar.addi v131 c11_i32
  let c512_i32_790 : BitVec 32 := 512#32
  let v1563 : BitVec 32 := Scalar.muli v1452 c512_i32_790
  v1563
def k0_mult101 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c12_i32_793 : BitVec 32 := 12#32
  let v1573 : BitVec 32 := Scalar.addi v131 c12_i32_793
  let c1_i32_794 : BitVec 32 := 1#32
  let v1574 : BitVec 32 := Scalar.addi v1573 c1_i32_794
  let c31_i32_795 : BitVec 32 := 31#32
  let v1575 : BitVec 32 := Scalar.minsi v1574 c31_i32_795
  let c512_i32_796 : BitVec 32 := 512#32
  let v1576 : BitVec 32 := Scalar.muli v1575 c512_i32_796
  v1576
def k0_mult102 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c12_i32 : BitVec 32 := 12#32
  let v1572 : BitVec 32 := Scalar.addi v131 c12_i32
  let c512_i32_807 : BitVec 32 := 512#32
  let v1596 : BitVec 32 := Scalar.muli v1572 c512_i32_807
  v1596
def k0_mult103 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c12_i32_793 : BitVec 32 := 12#32
  let v1573 : BitVec 32 := Scalar.addi v131 c12_i32_793
  let c1_i32_794 : BitVec 32 := 1#32
  let v1574 : BitVec 32 := Scalar.addi v1573 c1_i32_794
  let c31_i32_795 : BitVec 32 := 31#32
  let v1575 : BitVec 32 := Scalar.minsi v1574 c31_i32_795
  let c512_i32_810 : BitVec 32 := 512#32
  let v1605 : BitVec 32 := Scalar.muli v1575 c512_i32_810
  v1605
def k0_mult104 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c12_i32 : BitVec 32 := 12#32
  let v1572 : BitVec 32 := Scalar.addi v131 c12_i32
  let c512_i32_821 : BitVec 32 := 512#32
  let v1625 : BitVec 32 := Scalar.muli v1572 c512_i32_821
  v1625
def k0_mult105 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c12_i32_793 : BitVec 32 := 12#32
  let v1573 : BitVec 32 := Scalar.addi v131 c12_i32_793
  let c1_i32_794 : BitVec 32 := 1#32
  let v1574 : BitVec 32 := Scalar.addi v1573 c1_i32_794
  let c31_i32_795 : BitVec 32 := 31#32
  let v1575 : BitVec 32 := Scalar.minsi v1574 c31_i32_795
  let c512_i32_824 : BitVec 32 := 512#32
  let v1634 : BitVec 32 := Scalar.muli v1575 c512_i32_824
  v1634
def k0_mult106 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c12_i32 : BitVec 32 := 12#32
  let v1572 : BitVec 32 := Scalar.addi v131 c12_i32
  let c512_i32_835 : BitVec 32 := 512#32
  let v1654 : BitVec 32 := Scalar.muli v1572 c512_i32_835
  v1654
def k0_mult107 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c12_i32_793 : BitVec 32 := 12#32
  let v1573 : BitVec 32 := Scalar.addi v131 c12_i32_793
  let c1_i32_794 : BitVec 32 := 1#32
  let v1574 : BitVec 32 := Scalar.addi v1573 c1_i32_794
  let c31_i32_795 : BitVec 32 := 31#32
  let v1575 : BitVec 32 := Scalar.minsi v1574 c31_i32_795
  let c512_i32_838 : BitVec 32 := 512#32
  let v1663 : BitVec 32 := Scalar.muli v1575 c512_i32_838
  v1663
def k0_mult108 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c12_i32 : BitVec 32 := 12#32
  let v1572 : BitVec 32 := Scalar.addi v131 c12_i32
  let c512_i32_849 : BitVec 32 := 512#32
  let v1683 : BitVec 32 := Scalar.muli v1572 c512_i32_849
  v1683
def k0_mult109 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c13_i32_852 : BitVec 32 := 13#32
  let v1693 : BitVec 32 := Scalar.addi v131 c13_i32_852
  let c1_i32_853 : BitVec 32 := 1#32
  let v1694 : BitVec 32 := Scalar.addi v1693 c1_i32_853
  let c31_i32_854 : BitVec 32 := 31#32
  let v1695 : BitVec 32 := Scalar.minsi v1694 c31_i32_854
  let c512_i32_855 : BitVec 32 := 512#32
  let v1696 : BitVec 32 := Scalar.muli v1695 c512_i32_855
  v1696
def k0_mult110 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c13_i32 : BitVec 32 := 13#32
  let v1692 : BitVec 32 := Scalar.addi v131 c13_i32
  let c512_i32_866 : BitVec 32 := 512#32
  let v1716 : BitVec 32 := Scalar.muli v1692 c512_i32_866
  v1716
def k0_mult111 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c13_i32_852 : BitVec 32 := 13#32
  let v1693 : BitVec 32 := Scalar.addi v131 c13_i32_852
  let c1_i32_853 : BitVec 32 := 1#32
  let v1694 : BitVec 32 := Scalar.addi v1693 c1_i32_853
  let c31_i32_854 : BitVec 32 := 31#32
  let v1695 : BitVec 32 := Scalar.minsi v1694 c31_i32_854
  let c512_i32_869 : BitVec 32 := 512#32
  let v1725 : BitVec 32 := Scalar.muli v1695 c512_i32_869
  v1725
def k0_mult112 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c13_i32 : BitVec 32 := 13#32
  let v1692 : BitVec 32 := Scalar.addi v131 c13_i32
  let c512_i32_880 : BitVec 32 := 512#32
  let v1745 : BitVec 32 := Scalar.muli v1692 c512_i32_880
  v1745
def k0_mult113 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c13_i32_852 : BitVec 32 := 13#32
  let v1693 : BitVec 32 := Scalar.addi v131 c13_i32_852
  let c1_i32_853 : BitVec 32 := 1#32
  let v1694 : BitVec 32 := Scalar.addi v1693 c1_i32_853
  let c31_i32_854 : BitVec 32 := 31#32
  let v1695 : BitVec 32 := Scalar.minsi v1694 c31_i32_854
  let c512_i32_883 : BitVec 32 := 512#32
  let v1754 : BitVec 32 := Scalar.muli v1695 c512_i32_883
  v1754
def k0_mult114 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c13_i32 : BitVec 32 := 13#32
  let v1692 : BitVec 32 := Scalar.addi v131 c13_i32
  let c512_i32_894 : BitVec 32 := 512#32
  let v1774 : BitVec 32 := Scalar.muli v1692 c512_i32_894
  v1774
def k0_mult115 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c13_i32_852 : BitVec 32 := 13#32
  let v1693 : BitVec 32 := Scalar.addi v131 c13_i32_852
  let c1_i32_853 : BitVec 32 := 1#32
  let v1694 : BitVec 32 := Scalar.addi v1693 c1_i32_853
  let c31_i32_854 : BitVec 32 := 31#32
  let v1695 : BitVec 32 := Scalar.minsi v1694 c31_i32_854
  let c512_i32_897 : BitVec 32 := 512#32
  let v1783 : BitVec 32 := Scalar.muli v1695 c512_i32_897
  v1783
def k0_mult116 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c13_i32 : BitVec 32 := 13#32
  let v1692 : BitVec 32 := Scalar.addi v131 c13_i32
  let c512_i32_908 : BitVec 32 := 512#32
  let v1803 : BitVec 32 := Scalar.muli v1692 c512_i32_908
  v1803
def k0_mult117 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c14_i32_911 : BitVec 32 := 14#32
  let v1813 : BitVec 32 := Scalar.addi v131 c14_i32_911
  let c1_i32_912 : BitVec 32 := 1#32
  let v1814 : BitVec 32 := Scalar.addi v1813 c1_i32_912
  let c31_i32_913 : BitVec 32 := 31#32
  let v1815 : BitVec 32 := Scalar.minsi v1814 c31_i32_913
  let c512_i32_914 : BitVec 32 := 512#32
  let v1816 : BitVec 32 := Scalar.muli v1815 c512_i32_914
  v1816
def k0_mult118 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c14_i32 : BitVec 32 := 14#32
  let v1812 : BitVec 32 := Scalar.addi v131 c14_i32
  let c512_i32_925 : BitVec 32 := 512#32
  let v1836 : BitVec 32 := Scalar.muli v1812 c512_i32_925
  v1836
def k0_mult119 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c14_i32_911 : BitVec 32 := 14#32
  let v1813 : BitVec 32 := Scalar.addi v131 c14_i32_911
  let c1_i32_912 : BitVec 32 := 1#32
  let v1814 : BitVec 32 := Scalar.addi v1813 c1_i32_912
  let c31_i32_913 : BitVec 32 := 31#32
  let v1815 : BitVec 32 := Scalar.minsi v1814 c31_i32_913
  let c512_i32_928 : BitVec 32 := 512#32
  let v1845 : BitVec 32 := Scalar.muli v1815 c512_i32_928
  v1845
def k0_mult120 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c14_i32 : BitVec 32 := 14#32
  let v1812 : BitVec 32 := Scalar.addi v131 c14_i32
  let c512_i32_939 : BitVec 32 := 512#32
  let v1865 : BitVec 32 := Scalar.muli v1812 c512_i32_939
  v1865
def k0_mult121 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c14_i32_911 : BitVec 32 := 14#32
  let v1813 : BitVec 32 := Scalar.addi v131 c14_i32_911
  let c1_i32_912 : BitVec 32 := 1#32
  let v1814 : BitVec 32 := Scalar.addi v1813 c1_i32_912
  let c31_i32_913 : BitVec 32 := 31#32
  let v1815 : BitVec 32 := Scalar.minsi v1814 c31_i32_913
  let c512_i32_942 : BitVec 32 := 512#32
  let v1874 : BitVec 32 := Scalar.muli v1815 c512_i32_942
  v1874
def k0_mult122 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c14_i32 : BitVec 32 := 14#32
  let v1812 : BitVec 32 := Scalar.addi v131 c14_i32
  let c512_i32_953 : BitVec 32 := 512#32
  let v1894 : BitVec 32 := Scalar.muli v1812 c512_i32_953
  v1894
def k0_mult123 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c14_i32_911 : BitVec 32 := 14#32
  let v1813 : BitVec 32 := Scalar.addi v131 c14_i32_911
  let c1_i32_912 : BitVec 32 := 1#32
  let v1814 : BitVec 32 := Scalar.addi v1813 c1_i32_912
  let c31_i32_913 : BitVec 32 := 31#32
  let v1815 : BitVec 32 := Scalar.minsi v1814 c31_i32_913
  let c512_i32_956 : BitVec 32 := 512#32
  let v1903 : BitVec 32 := Scalar.muli v1815 c512_i32_956
  v1903
def k0_mult124 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c14_i32 : BitVec 32 := 14#32
  let v1812 : BitVec 32 := Scalar.addi v131 c14_i32
  let c512_i32_967 : BitVec 32 := 512#32
  let v1923 : BitVec 32 := Scalar.muli v1812 c512_i32_967
  v1923
def k0_mult125 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c15_i32_970 : BitVec 32 := 15#32
  let v1933 : BitVec 32 := Scalar.addi v131 c15_i32_970
  let c1_i32_971 : BitVec 32 := 1#32
  let v1934 : BitVec 32 := Scalar.addi v1933 c1_i32_971
  let c31_i32_972 : BitVec 32 := 31#32
  let v1935 : BitVec 32 := Scalar.minsi v1934 c31_i32_972
  let c512_i32_973 : BitVec 32 := 512#32
  let v1936 : BitVec 32 := Scalar.muli v1935 c512_i32_973
  v1936
def k0_mult126 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c15_i32 : BitVec 32 := 15#32
  let v1932 : BitVec 32 := Scalar.addi v131 c15_i32
  let c512_i32_984 : BitVec 32 := 512#32
  let v1956 : BitVec 32 := Scalar.muli v1932 c512_i32_984
  v1956
def k0_mult127 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c15_i32_970 : BitVec 32 := 15#32
  let v1933 : BitVec 32 := Scalar.addi v131 c15_i32_970
  let c1_i32_971 : BitVec 32 := 1#32
  let v1934 : BitVec 32 := Scalar.addi v1933 c1_i32_971
  let c31_i32_972 : BitVec 32 := 31#32
  let v1935 : BitVec 32 := Scalar.minsi v1934 c31_i32_972
  let c512_i32_987 : BitVec 32 := 512#32
  let v1965 : BitVec 32 := Scalar.muli v1935 c512_i32_987
  v1965
def k0_mult128 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c15_i32 : BitVec 32 := 15#32
  let v1932 : BitVec 32 := Scalar.addi v131 c15_i32
  let c512_i32_998 : BitVec 32 := 512#32
  let v1985 : BitVec 32 := Scalar.muli v1932 c512_i32_998
  v1985
def k0_mult129 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c15_i32_970 : BitVec 32 := 15#32
  let v1933 : BitVec 32 := Scalar.addi v131 c15_i32_970
  let c1_i32_971 : BitVec 32 := 1#32
  let v1934 : BitVec 32 := Scalar.addi v1933 c1_i32_971
  let c31_i32_972 : BitVec 32 := 31#32
  let v1935 : BitVec 32 := Scalar.minsi v1934 c31_i32_972
  let c512_i32_1001 : BitVec 32 := 512#32
  let v1994 : BitVec 32 := Scalar.muli v1935 c512_i32_1001
  v1994
def k0_mult130 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c15_i32 : BitVec 32 := 15#32
  let v1932 : BitVec 32 := Scalar.addi v131 c15_i32
  let c512_i32_1012 : BitVec 32 := 512#32
  let v2014 : BitVec 32 := Scalar.muli v1932 c512_i32_1012
  v2014
def k0_mult131 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c15_i32_970 : BitVec 32 := 15#32
  let v1933 : BitVec 32 := Scalar.addi v131 c15_i32_970
  let c1_i32_971 : BitVec 32 := 1#32
  let v1934 : BitVec 32 := Scalar.addi v1933 c1_i32_971
  let c31_i32_972 : BitVec 32 := 31#32
  let v1935 : BitVec 32 := Scalar.minsi v1934 c31_i32_972
  let c512_i32_1015 : BitVec 32 := 512#32
  let v2023 : BitVec 32 := Scalar.muli v1935 c512_i32_1015
  v2023
def k0_mult132 (k0_t1 : Fin k0_t1_loop.trips) : BitVec 32 :=
  let c16_i32 : BitVec 32 := 16#32
  let c0_i32_34 : BitVec 32 := 0#32
  let c1_i32 : BitVec 32 := 1#32
  let arg11 : BitVec 32 := Scf.iv c0_i32_34 c1_i32 k0_t1
  let v131 : BitVec 32 := Scalar.muli c16_i32 arg11
  let c15_i32 : BitVec 32 := 15#32
  let v1932 : BitVec 32 := Scalar.addi v131 c15_i32
  let c512_i32_1026 : BitVec 32 := 512#32
  let v2043 : BitVec 32 := Scalar.muli v1932 c512_i32_1026
  v2043
def k0_mult133 : BitVec 32 :=
  let c0_i32_42 : BitVec 32 := 0#32
  c0_i32_42
def k0_mult134 : BitVec 32 :=
  let c0_i32_52 : BitVec 32 := 0#32
  c0_i32_52
def k0_mult135 : BitVec 32 :=
  let c0_i32_62 : BitVec 32 := 0#32
  c0_i32_62
def k0_mult136 : BitVec 32 :=
  let c0_i32_72 : BitVec 32 := 0#32
  c0_i32_72
@[reducible] def k0_t2_loop : Scf.Loop 32 :=
  let c0_i32_79 : BitVec 32 := 0#32
  let c2_i32_80 : BitVec 32 := 2#32
  let v107 : BitVec 32 := Scalar.addi c0_i32_79 c2_i32_80
  let c1_i32_81 : BitVec 32 := 1#32
  ⟨c0_i32_79, v107, c1_i32_81⟩
def k0_mult137 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c0_i32_87 : BitVec 32 := 0#32
  let v133 : BitVec 32 := Scalar.addi v131 c0_i32_87
  let c1_i32_88 : BitVec 32 := 1#32
  let v134 : BitVec 32 := Scalar.addi v133 c1_i32_88
  let c31_i32 : BitVec 32 := 31#32
  let v135 : BitVec 32 := Scalar.minsi v134 c31_i32
  let c512_i32 : BitVec 32 := 512#32
  let v136 : BitVec 32 := Scalar.muli v135 c512_i32
  v136
def k0_off9 (k0_t2 : Fin k0_t2_loop.trips) (c0_i32_87 : BitVec 32) : Fin 3 → Nat :=
  let c0_89 : Index := 0#32
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let v133 : BitVec 32 := Scalar.addi v131 c0_i32_87
  let c1_i32_88 : BitVec 32 := 1#32
  let v134 : BitVec 32 := Scalar.addi v133 c1_i32_88
  let c31_i32 : BitVec 32 := 31#32
  let v135 : BitVec 32 := Scalar.minsi v134 c31_i32
  let c512_i32 : BitVec 32 := 512#32
  let v136 : BitVec 32 := Scalar.muli v135 c512_i32
  let v137 : BitVec 32 := v136
  let v138 : Index := Scalar.indexCast v137
  let c0_90 : Index := 0#32
  ![0, v138.toNat, 0]
def k0_mult138 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c0_i32_86 : BitVec 32 := 0#32
  let v132 : BitVec 32 := Scalar.addi v131 c0_i32_86
  let c512_i32_99 : BitVec 32 := 512#32
  let v156 : BitVec 32 := Scalar.muli v132 c512_i32_99
  v156
def k0_off10 (k0_t2 : Fin k0_t2_loop.trips) (c0_i32_86 : BitVec 32) : Fin 2 → Nat :=
  let c0_100 : Index := 0#32
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let v132 : BitVec 32 := Scalar.addi v131 c0_i32_86
  let c512_i32_99 : BitVec 32 := 512#32
  let v156 : BitVec 32 := Scalar.muli v132 c512_i32_99
  let v157 : BitVec 32 := v156
  let v158 : Index := Scalar.indexCast v157
  ![0, v158.toNat]
def k0_mult139 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c0_i32_87 : BitVec 32 := 0#32
  let v133 : BitVec 32 := Scalar.addi v131 c0_i32_87
  let c1_i32_88 : BitVec 32 := 1#32
  let v134 : BitVec 32 := Scalar.addi v133 c1_i32_88
  let c31_i32 : BitVec 32 := 31#32
  let v135 : BitVec 32 := Scalar.minsi v134 c31_i32
  let c512_i32_102 : BitVec 32 := 512#32
  let v165 : BitVec 32 := Scalar.muli v135 c512_i32_102
  v165
def k0_off11 (k0_t2 : Fin k0_t2_loop.trips) (c0_i32_87 : BitVec 32) : Fin 3 → Nat :=
  let c0_103 : Index := 0#32
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let v133 : BitVec 32 := Scalar.addi v131 c0_i32_87
  let c1_i32_88 : BitVec 32 := 1#32
  let v134 : BitVec 32 := Scalar.addi v133 c1_i32_88
  let c31_i32 : BitVec 32 := 31#32
  let v135 : BitVec 32 := Scalar.minsi v134 c31_i32
  let c512_i32_102 : BitVec 32 := 512#32
  let v165 : BitVec 32 := Scalar.muli v135 c512_i32_102
  let v166 : BitVec 32 := v165
  let v167 : Index := Scalar.indexCast v166
  let c128_104 : Index := 128#32
  ![0, v167.toNat, 128]
def k0_mult140 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c0_i32_86 : BitVec 32 := 0#32
  let v132 : BitVec 32 := Scalar.addi v131 c0_i32_86
  let c512_i32_113 : BitVec 32 := 512#32
  let v185 : BitVec 32 := Scalar.muli v132 c512_i32_113
  v185
def k0_off12 (k0_t2 : Fin k0_t2_loop.trips) (c0_i32_86 : BitVec 32) : Fin 2 → Nat :=
  let c64 : Index := 64#32
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let v132 : BitVec 32 := Scalar.addi v131 c0_i32_86
  let c512_i32_113 : BitVec 32 := 512#32
  let v185 : BitVec 32 := Scalar.muli v132 c512_i32_113
  let v186 : BitVec 32 := v185
  let v187 : Index := Scalar.indexCast v186
  ![64, v187.toNat]
def k0_mult141 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c0_i32_87 : BitVec 32 := 0#32
  let v133 : BitVec 32 := Scalar.addi v131 c0_i32_87
  let c1_i32_88 : BitVec 32 := 1#32
  let v134 : BitVec 32 := Scalar.addi v133 c1_i32_88
  let c31_i32 : BitVec 32 := 31#32
  let v135 : BitVec 32 := Scalar.minsi v134 c31_i32
  let c512_i32_115 : BitVec 32 := 512#32
  let v194 : BitVec 32 := Scalar.muli v135 c512_i32_115
  v194
def k0_off13 (k0_t2 : Fin k0_t2_loop.trips) (c0_i32_87 : BitVec 32) : Fin 3 → Nat :=
  let c0_116 : Index := 0#32
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let v133 : BitVec 32 := Scalar.addi v131 c0_i32_87
  let c1_i32_88 : BitVec 32 := 1#32
  let v134 : BitVec 32 := Scalar.addi v133 c1_i32_88
  let c31_i32 : BitVec 32 := 31#32
  let v135 : BitVec 32 := Scalar.minsi v134 c31_i32
  let c512_i32_115 : BitVec 32 := 512#32
  let v194 : BitVec 32 := Scalar.muli v135 c512_i32_115
  let v195 : BitVec 32 := v194
  let v196 : Index := Scalar.indexCast v195
  let c256_117 : Index := 256#32
  ![0, v196.toNat, 256]
def k0_mult142 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c0_i32_86 : BitVec 32 := 0#32
  let v132 : BitVec 32 := Scalar.addi v131 c0_i32_86
  let c512_i32_126 : BitVec 32 := 512#32
  let v214 : BitVec 32 := Scalar.muli v132 c512_i32_126
  v214
def k0_off14 (k0_t2 : Fin k0_t2_loop.trips) (c0_i32_86 : BitVec 32) : Fin 2 → Nat :=
  let c128_127 : Index := 128#32
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let v132 : BitVec 32 := Scalar.addi v131 c0_i32_86
  let c512_i32_126 : BitVec 32 := 512#32
  let v214 : BitVec 32 := Scalar.muli v132 c512_i32_126
  let v215 : BitVec 32 := v214
  let v216 : Index := Scalar.indexCast v215
  ![128, v216.toNat]
def k0_mult143 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c0_i32_87 : BitVec 32 := 0#32
  let v133 : BitVec 32 := Scalar.addi v131 c0_i32_87
  let c1_i32_88 : BitVec 32 := 1#32
  let v134 : BitVec 32 := Scalar.addi v133 c1_i32_88
  let c31_i32 : BitVec 32 := 31#32
  let v135 : BitVec 32 := Scalar.minsi v134 c31_i32
  let c512_i32_129 : BitVec 32 := 512#32
  let v223 : BitVec 32 := Scalar.muli v135 c512_i32_129
  v223
def k0_off15 (k0_t2 : Fin k0_t2_loop.trips) (c0_i32_87 : BitVec 32) : Fin 3 → Nat :=
  let c0_130 : Index := 0#32
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let v133 : BitVec 32 := Scalar.addi v131 c0_i32_87
  let c1_i32_88 : BitVec 32 := 1#32
  let v134 : BitVec 32 := Scalar.addi v133 c1_i32_88
  let c31_i32 : BitVec 32 := 31#32
  let v135 : BitVec 32 := Scalar.minsi v134 c31_i32
  let c512_i32_129 : BitVec 32 := 512#32
  let v223 : BitVec 32 := Scalar.muli v135 c512_i32_129
  let v224 : BitVec 32 := v223
  let v225 : Index := Scalar.indexCast v224
  let c384_131 : Index := 384#32
  ![0, v225.toNat, 384]
def k0_mult144 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c0_i32_86 : BitVec 32 := 0#32
  let v132 : BitVec 32 := Scalar.addi v131 c0_i32_86
  let c512_i32_140 : BitVec 32 := 512#32
  let v243 : BitVec 32 := Scalar.muli v132 c512_i32_140
  v243
def k0_off16 (k0_t2 : Fin k0_t2_loop.trips) (c0_i32_86 : BitVec 32) : Fin 2 → Nat :=
  let c192 : Index := 192#32
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let v132 : BitVec 32 := Scalar.addi v131 c0_i32_86
  let c512_i32_140 : BitVec 32 := 512#32
  let v243 : BitVec 32 := Scalar.muli v132 c512_i32_140
  let v244 : BitVec 32 := v243
  let v245 : Index := Scalar.indexCast v244
  ![192, v245.toNat]
def k0_mult145 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c1_i32_143 : BitVec 32 := 1#32
  let v253 : BitVec 32 := Scalar.addi v131 c1_i32_143
  let c1_i32_144 : BitVec 32 := 1#32
  let v254 : BitVec 32 := Scalar.addi v253 c1_i32_144
  let c31_i32_145 : BitVec 32 := 31#32
  let v255 : BitVec 32 := Scalar.minsi v254 c31_i32_145
  let c512_i32_146 : BitVec 32 := 512#32
  let v256 : BitVec 32 := Scalar.muli v255 c512_i32_146
  v256
def k0_mult146 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c1_i32_142 : BitVec 32 := 1#32
  let v252 : BitVec 32 := Scalar.addi v131 c1_i32_142
  let c512_i32_157 : BitVec 32 := 512#32
  let v276 : BitVec 32 := Scalar.muli v252 c512_i32_157
  v276
def k0_mult147 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c1_i32_143 : BitVec 32 := 1#32
  let v253 : BitVec 32 := Scalar.addi v131 c1_i32_143
  let c1_i32_144 : BitVec 32 := 1#32
  let v254 : BitVec 32 := Scalar.addi v253 c1_i32_144
  let c31_i32_145 : BitVec 32 := 31#32
  let v255 : BitVec 32 := Scalar.minsi v254 c31_i32_145
  let c512_i32_160 : BitVec 32 := 512#32
  let v285 : BitVec 32 := Scalar.muli v255 c512_i32_160
  v285
def k0_mult148 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c1_i32_142 : BitVec 32 := 1#32
  let v252 : BitVec 32 := Scalar.addi v131 c1_i32_142
  let c512_i32_171 : BitVec 32 := 512#32
  let v305 : BitVec 32 := Scalar.muli v252 c512_i32_171
  v305
def k0_mult149 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c1_i32_143 : BitVec 32 := 1#32
  let v253 : BitVec 32 := Scalar.addi v131 c1_i32_143
  let c1_i32_144 : BitVec 32 := 1#32
  let v254 : BitVec 32 := Scalar.addi v253 c1_i32_144
  let c31_i32_145 : BitVec 32 := 31#32
  let v255 : BitVec 32 := Scalar.minsi v254 c31_i32_145
  let c512_i32_174 : BitVec 32 := 512#32
  let v314 : BitVec 32 := Scalar.muli v255 c512_i32_174
  v314
def k0_mult150 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c1_i32_142 : BitVec 32 := 1#32
  let v252 : BitVec 32 := Scalar.addi v131 c1_i32_142
  let c512_i32_185 : BitVec 32 := 512#32
  let v334 : BitVec 32 := Scalar.muli v252 c512_i32_185
  v334
def k0_mult151 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c1_i32_143 : BitVec 32 := 1#32
  let v253 : BitVec 32 := Scalar.addi v131 c1_i32_143
  let c1_i32_144 : BitVec 32 := 1#32
  let v254 : BitVec 32 := Scalar.addi v253 c1_i32_144
  let c31_i32_145 : BitVec 32 := 31#32
  let v255 : BitVec 32 := Scalar.minsi v254 c31_i32_145
  let c512_i32_188 : BitVec 32 := 512#32
  let v343 : BitVec 32 := Scalar.muli v255 c512_i32_188
  v343
def k0_mult152 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c1_i32_142 : BitVec 32 := 1#32
  let v252 : BitVec 32 := Scalar.addi v131 c1_i32_142
  let c512_i32_199 : BitVec 32 := 512#32
  let v363 : BitVec 32 := Scalar.muli v252 c512_i32_199
  v363
def k0_mult153 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c2_i32_203 : BitVec 32 := 2#32
  let v373 : BitVec 32 := Scalar.addi v131 c2_i32_203
  let c1_i32_204 : BitVec 32 := 1#32
  let v374 : BitVec 32 := Scalar.addi v373 c1_i32_204
  let c31_i32_205 : BitVec 32 := 31#32
  let v375 : BitVec 32 := Scalar.minsi v374 c31_i32_205
  let c512_i32_206 : BitVec 32 := 512#32
  let v376 : BitVec 32 := Scalar.muli v375 c512_i32_206
  v376
def k0_mult154 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c2_i32_202 : BitVec 32 := 2#32
  let v372 : BitVec 32 := Scalar.addi v131 c2_i32_202
  let c512_i32_217 : BitVec 32 := 512#32
  let v396 : BitVec 32 := Scalar.muli v372 c512_i32_217
  v396
def k0_mult155 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c2_i32_203 : BitVec 32 := 2#32
  let v373 : BitVec 32 := Scalar.addi v131 c2_i32_203
  let c1_i32_204 : BitVec 32 := 1#32
  let v374 : BitVec 32 := Scalar.addi v373 c1_i32_204
  let c31_i32_205 : BitVec 32 := 31#32
  let v375 : BitVec 32 := Scalar.minsi v374 c31_i32_205
  let c512_i32_220 : BitVec 32 := 512#32
  let v405 : BitVec 32 := Scalar.muli v375 c512_i32_220
  v405
def k0_mult156 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c2_i32_202 : BitVec 32 := 2#32
  let v372 : BitVec 32 := Scalar.addi v131 c2_i32_202
  let c512_i32_231 : BitVec 32 := 512#32
  let v425 : BitVec 32 := Scalar.muli v372 c512_i32_231
  v425
def k0_mult157 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c2_i32_203 : BitVec 32 := 2#32
  let v373 : BitVec 32 := Scalar.addi v131 c2_i32_203
  let c1_i32_204 : BitVec 32 := 1#32
  let v374 : BitVec 32 := Scalar.addi v373 c1_i32_204
  let c31_i32_205 : BitVec 32 := 31#32
  let v375 : BitVec 32 := Scalar.minsi v374 c31_i32_205
  let c512_i32_234 : BitVec 32 := 512#32
  let v434 : BitVec 32 := Scalar.muli v375 c512_i32_234
  v434
def k0_mult158 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c2_i32_202 : BitVec 32 := 2#32
  let v372 : BitVec 32 := Scalar.addi v131 c2_i32_202
  let c512_i32_245 : BitVec 32 := 512#32
  let v454 : BitVec 32 := Scalar.muli v372 c512_i32_245
  v454
def k0_mult159 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c2_i32_203 : BitVec 32 := 2#32
  let v373 : BitVec 32 := Scalar.addi v131 c2_i32_203
  let c1_i32_204 : BitVec 32 := 1#32
  let v374 : BitVec 32 := Scalar.addi v373 c1_i32_204
  let c31_i32_205 : BitVec 32 := 31#32
  let v375 : BitVec 32 := Scalar.minsi v374 c31_i32_205
  let c512_i32_248 : BitVec 32 := 512#32
  let v463 : BitVec 32 := Scalar.muli v375 c512_i32_248
  v463
def k0_mult160 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c2_i32_202 : BitVec 32 := 2#32
  let v372 : BitVec 32 := Scalar.addi v131 c2_i32_202
  let c512_i32_259 : BitVec 32 := 512#32
  let v483 : BitVec 32 := Scalar.muli v372 c512_i32_259
  v483
def k0_mult161 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c3_i32_262 : BitVec 32 := 3#32
  let v493 : BitVec 32 := Scalar.addi v131 c3_i32_262
  let c1_i32_263 : BitVec 32 := 1#32
  let v494 : BitVec 32 := Scalar.addi v493 c1_i32_263
  let c31_i32_264 : BitVec 32 := 31#32
  let v495 : BitVec 32 := Scalar.minsi v494 c31_i32_264
  let c512_i32_265 : BitVec 32 := 512#32
  let v496 : BitVec 32 := Scalar.muli v495 c512_i32_265
  v496
def k0_mult162 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c3_i32 : BitVec 32 := 3#32
  let v492 : BitVec 32 := Scalar.addi v131 c3_i32
  let c512_i32_276 : BitVec 32 := 512#32
  let v516 : BitVec 32 := Scalar.muli v492 c512_i32_276
  v516
def k0_mult163 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c3_i32_262 : BitVec 32 := 3#32
  let v493 : BitVec 32 := Scalar.addi v131 c3_i32_262
  let c1_i32_263 : BitVec 32 := 1#32
  let v494 : BitVec 32 := Scalar.addi v493 c1_i32_263
  let c31_i32_264 : BitVec 32 := 31#32
  let v495 : BitVec 32 := Scalar.minsi v494 c31_i32_264
  let c512_i32_279 : BitVec 32 := 512#32
  let v525 : BitVec 32 := Scalar.muli v495 c512_i32_279
  v525
def k0_mult164 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c3_i32 : BitVec 32 := 3#32
  let v492 : BitVec 32 := Scalar.addi v131 c3_i32
  let c512_i32_290 : BitVec 32 := 512#32
  let v545 : BitVec 32 := Scalar.muli v492 c512_i32_290
  v545
def k0_mult165 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c3_i32_262 : BitVec 32 := 3#32
  let v493 : BitVec 32 := Scalar.addi v131 c3_i32_262
  let c1_i32_263 : BitVec 32 := 1#32
  let v494 : BitVec 32 := Scalar.addi v493 c1_i32_263
  let c31_i32_264 : BitVec 32 := 31#32
  let v495 : BitVec 32 := Scalar.minsi v494 c31_i32_264
  let c512_i32_293 : BitVec 32 := 512#32
  let v554 : BitVec 32 := Scalar.muli v495 c512_i32_293
  v554
def k0_mult166 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c3_i32 : BitVec 32 := 3#32
  let v492 : BitVec 32 := Scalar.addi v131 c3_i32
  let c512_i32_304 : BitVec 32 := 512#32
  let v574 : BitVec 32 := Scalar.muli v492 c512_i32_304
  v574
def k0_mult167 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c3_i32_262 : BitVec 32 := 3#32
  let v493 : BitVec 32 := Scalar.addi v131 c3_i32_262
  let c1_i32_263 : BitVec 32 := 1#32
  let v494 : BitVec 32 := Scalar.addi v493 c1_i32_263
  let c31_i32_264 : BitVec 32 := 31#32
  let v495 : BitVec 32 := Scalar.minsi v494 c31_i32_264
  let c512_i32_307 : BitVec 32 := 512#32
  let v583 : BitVec 32 := Scalar.muli v495 c512_i32_307
  v583
def k0_mult168 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c3_i32 : BitVec 32 := 3#32
  let v492 : BitVec 32 := Scalar.addi v131 c3_i32
  let c512_i32_318 : BitVec 32 := 512#32
  let v603 : BitVec 32 := Scalar.muli v492 c512_i32_318
  v603
def k0_mult169 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c4_i32_321 : BitVec 32 := 4#32
  let v613 : BitVec 32 := Scalar.addi v131 c4_i32_321
  let c1_i32_322 : BitVec 32 := 1#32
  let v614 : BitVec 32 := Scalar.addi v613 c1_i32_322
  let c31_i32_323 : BitVec 32 := 31#32
  let v615 : BitVec 32 := Scalar.minsi v614 c31_i32_323
  let c512_i32_324 : BitVec 32 := 512#32
  let v616 : BitVec 32 := Scalar.muli v615 c512_i32_324
  v616
def k0_mult170 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c4_i32 : BitVec 32 := 4#32
  let v612 : BitVec 32 := Scalar.addi v131 c4_i32
  let c512_i32_335 : BitVec 32 := 512#32
  let v636 : BitVec 32 := Scalar.muli v612 c512_i32_335
  v636
def k0_mult171 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c4_i32_321 : BitVec 32 := 4#32
  let v613 : BitVec 32 := Scalar.addi v131 c4_i32_321
  let c1_i32_322 : BitVec 32 := 1#32
  let v614 : BitVec 32 := Scalar.addi v613 c1_i32_322
  let c31_i32_323 : BitVec 32 := 31#32
  let v615 : BitVec 32 := Scalar.minsi v614 c31_i32_323
  let c512_i32_338 : BitVec 32 := 512#32
  let v645 : BitVec 32 := Scalar.muli v615 c512_i32_338
  v645
def k0_mult172 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c4_i32 : BitVec 32 := 4#32
  let v612 : BitVec 32 := Scalar.addi v131 c4_i32
  let c512_i32_349 : BitVec 32 := 512#32
  let v665 : BitVec 32 := Scalar.muli v612 c512_i32_349
  v665
def k0_mult173 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c4_i32_321 : BitVec 32 := 4#32
  let v613 : BitVec 32 := Scalar.addi v131 c4_i32_321
  let c1_i32_322 : BitVec 32 := 1#32
  let v614 : BitVec 32 := Scalar.addi v613 c1_i32_322
  let c31_i32_323 : BitVec 32 := 31#32
  let v615 : BitVec 32 := Scalar.minsi v614 c31_i32_323
  let c512_i32_352 : BitVec 32 := 512#32
  let v674 : BitVec 32 := Scalar.muli v615 c512_i32_352
  v674
def k0_mult174 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c4_i32 : BitVec 32 := 4#32
  let v612 : BitVec 32 := Scalar.addi v131 c4_i32
  let c512_i32_363 : BitVec 32 := 512#32
  let v694 : BitVec 32 := Scalar.muli v612 c512_i32_363
  v694
def k0_mult175 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c4_i32_321 : BitVec 32 := 4#32
  let v613 : BitVec 32 := Scalar.addi v131 c4_i32_321
  let c1_i32_322 : BitVec 32 := 1#32
  let v614 : BitVec 32 := Scalar.addi v613 c1_i32_322
  let c31_i32_323 : BitVec 32 := 31#32
  let v615 : BitVec 32 := Scalar.minsi v614 c31_i32_323
  let c512_i32_366 : BitVec 32 := 512#32
  let v703 : BitVec 32 := Scalar.muli v615 c512_i32_366
  v703
def k0_mult176 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c4_i32 : BitVec 32 := 4#32
  let v612 : BitVec 32 := Scalar.addi v131 c4_i32
  let c512_i32_377 : BitVec 32 := 512#32
  let v723 : BitVec 32 := Scalar.muli v612 c512_i32_377
  v723
def k0_mult177 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c5_i32_380 : BitVec 32 := 5#32
  let v733 : BitVec 32 := Scalar.addi v131 c5_i32_380
  let c1_i32_381 : BitVec 32 := 1#32
  let v734 : BitVec 32 := Scalar.addi v733 c1_i32_381
  let c31_i32_382 : BitVec 32 := 31#32
  let v735 : BitVec 32 := Scalar.minsi v734 c31_i32_382
  let c512_i32_383 : BitVec 32 := 512#32
  let v736 : BitVec 32 := Scalar.muli v735 c512_i32_383
  v736
def k0_mult178 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c5_i32 : BitVec 32 := 5#32
  let v732 : BitVec 32 := Scalar.addi v131 c5_i32
  let c512_i32_394 : BitVec 32 := 512#32
  let v756 : BitVec 32 := Scalar.muli v732 c512_i32_394
  v756
def k0_mult179 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c5_i32_380 : BitVec 32 := 5#32
  let v733 : BitVec 32 := Scalar.addi v131 c5_i32_380
  let c1_i32_381 : BitVec 32 := 1#32
  let v734 : BitVec 32 := Scalar.addi v733 c1_i32_381
  let c31_i32_382 : BitVec 32 := 31#32
  let v735 : BitVec 32 := Scalar.minsi v734 c31_i32_382
  let c512_i32_397 : BitVec 32 := 512#32
  let v765 : BitVec 32 := Scalar.muli v735 c512_i32_397
  v765
def k0_mult180 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c5_i32 : BitVec 32 := 5#32
  let v732 : BitVec 32 := Scalar.addi v131 c5_i32
  let c512_i32_408 : BitVec 32 := 512#32
  let v785 : BitVec 32 := Scalar.muli v732 c512_i32_408
  v785
def k0_mult181 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c5_i32_380 : BitVec 32 := 5#32
  let v733 : BitVec 32 := Scalar.addi v131 c5_i32_380
  let c1_i32_381 : BitVec 32 := 1#32
  let v734 : BitVec 32 := Scalar.addi v733 c1_i32_381
  let c31_i32_382 : BitVec 32 := 31#32
  let v735 : BitVec 32 := Scalar.minsi v734 c31_i32_382
  let c512_i32_411 : BitVec 32 := 512#32
  let v794 : BitVec 32 := Scalar.muli v735 c512_i32_411
  v794
def k0_mult182 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c5_i32 : BitVec 32 := 5#32
  let v732 : BitVec 32 := Scalar.addi v131 c5_i32
  let c512_i32_422 : BitVec 32 := 512#32
  let v814 : BitVec 32 := Scalar.muli v732 c512_i32_422
  v814
def k0_mult183 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c5_i32_380 : BitVec 32 := 5#32
  let v733 : BitVec 32 := Scalar.addi v131 c5_i32_380
  let c1_i32_381 : BitVec 32 := 1#32
  let v734 : BitVec 32 := Scalar.addi v733 c1_i32_381
  let c31_i32_382 : BitVec 32 := 31#32
  let v735 : BitVec 32 := Scalar.minsi v734 c31_i32_382
  let c512_i32_425 : BitVec 32 := 512#32
  let v823 : BitVec 32 := Scalar.muli v735 c512_i32_425
  v823
def k0_mult184 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c5_i32 : BitVec 32 := 5#32
  let v732 : BitVec 32 := Scalar.addi v131 c5_i32
  let c512_i32_436 : BitVec 32 := 512#32
  let v843 : BitVec 32 := Scalar.muli v732 c512_i32_436
  v843
def k0_mult185 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c6_i32_439 : BitVec 32 := 6#32
  let v853 : BitVec 32 := Scalar.addi v131 c6_i32_439
  let c1_i32_440 : BitVec 32 := 1#32
  let v854 : BitVec 32 := Scalar.addi v853 c1_i32_440
  let c31_i32_441 : BitVec 32 := 31#32
  let v855 : BitVec 32 := Scalar.minsi v854 c31_i32_441
  let c512_i32_442 : BitVec 32 := 512#32
  let v856 : BitVec 32 := Scalar.muli v855 c512_i32_442
  v856
def k0_mult186 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c6_i32 : BitVec 32 := 6#32
  let v852 : BitVec 32 := Scalar.addi v131 c6_i32
  let c512_i32_453 : BitVec 32 := 512#32
  let v876 : BitVec 32 := Scalar.muli v852 c512_i32_453
  v876
def k0_mult187 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c6_i32_439 : BitVec 32 := 6#32
  let v853 : BitVec 32 := Scalar.addi v131 c6_i32_439
  let c1_i32_440 : BitVec 32 := 1#32
  let v854 : BitVec 32 := Scalar.addi v853 c1_i32_440
  let c31_i32_441 : BitVec 32 := 31#32
  let v855 : BitVec 32 := Scalar.minsi v854 c31_i32_441
  let c512_i32_456 : BitVec 32 := 512#32
  let v885 : BitVec 32 := Scalar.muli v855 c512_i32_456
  v885
def k0_mult188 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c6_i32 : BitVec 32 := 6#32
  let v852 : BitVec 32 := Scalar.addi v131 c6_i32
  let c512_i32_467 : BitVec 32 := 512#32
  let v905 : BitVec 32 := Scalar.muli v852 c512_i32_467
  v905
def k0_mult189 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c6_i32_439 : BitVec 32 := 6#32
  let v853 : BitVec 32 := Scalar.addi v131 c6_i32_439
  let c1_i32_440 : BitVec 32 := 1#32
  let v854 : BitVec 32 := Scalar.addi v853 c1_i32_440
  let c31_i32_441 : BitVec 32 := 31#32
  let v855 : BitVec 32 := Scalar.minsi v854 c31_i32_441
  let c512_i32_470 : BitVec 32 := 512#32
  let v914 : BitVec 32 := Scalar.muli v855 c512_i32_470
  v914
def k0_mult190 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c6_i32 : BitVec 32 := 6#32
  let v852 : BitVec 32 := Scalar.addi v131 c6_i32
  let c512_i32_481 : BitVec 32 := 512#32
  let v934 : BitVec 32 := Scalar.muli v852 c512_i32_481
  v934
def k0_mult191 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c6_i32_439 : BitVec 32 := 6#32
  let v853 : BitVec 32 := Scalar.addi v131 c6_i32_439
  let c1_i32_440 : BitVec 32 := 1#32
  let v854 : BitVec 32 := Scalar.addi v853 c1_i32_440
  let c31_i32_441 : BitVec 32 := 31#32
  let v855 : BitVec 32 := Scalar.minsi v854 c31_i32_441
  let c512_i32_484 : BitVec 32 := 512#32
  let v943 : BitVec 32 := Scalar.muli v855 c512_i32_484
  v943
def k0_mult192 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c6_i32 : BitVec 32 := 6#32
  let v852 : BitVec 32 := Scalar.addi v131 c6_i32
  let c512_i32_495 : BitVec 32 := 512#32
  let v963 : BitVec 32 := Scalar.muli v852 c512_i32_495
  v963
def k0_mult193 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c7_i32_498 : BitVec 32 := 7#32
  let v973 : BitVec 32 := Scalar.addi v131 c7_i32_498
  let c1_i32_499 : BitVec 32 := 1#32
  let v974 : BitVec 32 := Scalar.addi v973 c1_i32_499
  let c31_i32_500 : BitVec 32 := 31#32
  let v975 : BitVec 32 := Scalar.minsi v974 c31_i32_500
  let c512_i32_501 : BitVec 32 := 512#32
  let v976 : BitVec 32 := Scalar.muli v975 c512_i32_501
  v976
def k0_mult194 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c7_i32 : BitVec 32 := 7#32
  let v972 : BitVec 32 := Scalar.addi v131 c7_i32
  let c512_i32_512 : BitVec 32 := 512#32
  let v996 : BitVec 32 := Scalar.muli v972 c512_i32_512
  v996
def k0_mult195 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c7_i32_498 : BitVec 32 := 7#32
  let v973 : BitVec 32 := Scalar.addi v131 c7_i32_498
  let c1_i32_499 : BitVec 32 := 1#32
  let v974 : BitVec 32 := Scalar.addi v973 c1_i32_499
  let c31_i32_500 : BitVec 32 := 31#32
  let v975 : BitVec 32 := Scalar.minsi v974 c31_i32_500
  let c512_i32_515 : BitVec 32 := 512#32
  let v1005 : BitVec 32 := Scalar.muli v975 c512_i32_515
  v1005
def k0_mult196 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c7_i32 : BitVec 32 := 7#32
  let v972 : BitVec 32 := Scalar.addi v131 c7_i32
  let c512_i32_526 : BitVec 32 := 512#32
  let v1025 : BitVec 32 := Scalar.muli v972 c512_i32_526
  v1025
def k0_mult197 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c7_i32_498 : BitVec 32 := 7#32
  let v973 : BitVec 32 := Scalar.addi v131 c7_i32_498
  let c1_i32_499 : BitVec 32 := 1#32
  let v974 : BitVec 32 := Scalar.addi v973 c1_i32_499
  let c31_i32_500 : BitVec 32 := 31#32
  let v975 : BitVec 32 := Scalar.minsi v974 c31_i32_500
  let c512_i32_529 : BitVec 32 := 512#32
  let v1034 : BitVec 32 := Scalar.muli v975 c512_i32_529
  v1034
def k0_mult198 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c7_i32 : BitVec 32 := 7#32
  let v972 : BitVec 32 := Scalar.addi v131 c7_i32
  let c512_i32_540 : BitVec 32 := 512#32
  let v1054 : BitVec 32 := Scalar.muli v972 c512_i32_540
  v1054
def k0_mult199 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c7_i32_498 : BitVec 32 := 7#32
  let v973 : BitVec 32 := Scalar.addi v131 c7_i32_498
  let c1_i32_499 : BitVec 32 := 1#32
  let v974 : BitVec 32 := Scalar.addi v973 c1_i32_499
  let c31_i32_500 : BitVec 32 := 31#32
  let v975 : BitVec 32 := Scalar.minsi v974 c31_i32_500
  let c512_i32_543 : BitVec 32 := 512#32
  let v1063 : BitVec 32 := Scalar.muli v975 c512_i32_543
  v1063
def k0_mult200 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c7_i32 : BitVec 32 := 7#32
  let v972 : BitVec 32 := Scalar.addi v131 c7_i32
  let c512_i32_554 : BitVec 32 := 512#32
  let v1083 : BitVec 32 := Scalar.muli v972 c512_i32_554
  v1083
def k0_mult201 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c8_i32_557 : BitVec 32 := 8#32
  let v1093 : BitVec 32 := Scalar.addi v131 c8_i32_557
  let c1_i32_558 : BitVec 32 := 1#32
  let v1094 : BitVec 32 := Scalar.addi v1093 c1_i32_558
  let c31_i32_559 : BitVec 32 := 31#32
  let v1095 : BitVec 32 := Scalar.minsi v1094 c31_i32_559
  let c512_i32_560 : BitVec 32 := 512#32
  let v1096 : BitVec 32 := Scalar.muli v1095 c512_i32_560
  v1096
def k0_mult202 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c8_i32 : BitVec 32 := 8#32
  let v1092 : BitVec 32 := Scalar.addi v131 c8_i32
  let c512_i32_571 : BitVec 32 := 512#32
  let v1116 : BitVec 32 := Scalar.muli v1092 c512_i32_571
  v1116
def k0_mult203 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c8_i32_557 : BitVec 32 := 8#32
  let v1093 : BitVec 32 := Scalar.addi v131 c8_i32_557
  let c1_i32_558 : BitVec 32 := 1#32
  let v1094 : BitVec 32 := Scalar.addi v1093 c1_i32_558
  let c31_i32_559 : BitVec 32 := 31#32
  let v1095 : BitVec 32 := Scalar.minsi v1094 c31_i32_559
  let c512_i32_574 : BitVec 32 := 512#32
  let v1125 : BitVec 32 := Scalar.muli v1095 c512_i32_574
  v1125
def k0_mult204 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c8_i32 : BitVec 32 := 8#32
  let v1092 : BitVec 32 := Scalar.addi v131 c8_i32
  let c512_i32_585 : BitVec 32 := 512#32
  let v1145 : BitVec 32 := Scalar.muli v1092 c512_i32_585
  v1145
def k0_mult205 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c8_i32_557 : BitVec 32 := 8#32
  let v1093 : BitVec 32 := Scalar.addi v131 c8_i32_557
  let c1_i32_558 : BitVec 32 := 1#32
  let v1094 : BitVec 32 := Scalar.addi v1093 c1_i32_558
  let c31_i32_559 : BitVec 32 := 31#32
  let v1095 : BitVec 32 := Scalar.minsi v1094 c31_i32_559
  let c512_i32_588 : BitVec 32 := 512#32
  let v1154 : BitVec 32 := Scalar.muli v1095 c512_i32_588
  v1154
def k0_mult206 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c8_i32 : BitVec 32 := 8#32
  let v1092 : BitVec 32 := Scalar.addi v131 c8_i32
  let c512_i32_599 : BitVec 32 := 512#32
  let v1174 : BitVec 32 := Scalar.muli v1092 c512_i32_599
  v1174
def k0_mult207 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c8_i32_557 : BitVec 32 := 8#32
  let v1093 : BitVec 32 := Scalar.addi v131 c8_i32_557
  let c1_i32_558 : BitVec 32 := 1#32
  let v1094 : BitVec 32 := Scalar.addi v1093 c1_i32_558
  let c31_i32_559 : BitVec 32 := 31#32
  let v1095 : BitVec 32 := Scalar.minsi v1094 c31_i32_559
  let c512_i32_602 : BitVec 32 := 512#32
  let v1183 : BitVec 32 := Scalar.muli v1095 c512_i32_602
  v1183
def k0_mult208 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c8_i32 : BitVec 32 := 8#32
  let v1092 : BitVec 32 := Scalar.addi v131 c8_i32
  let c512_i32_613 : BitVec 32 := 512#32
  let v1203 : BitVec 32 := Scalar.muli v1092 c512_i32_613
  v1203
def k0_mult209 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c9_i32_616 : BitVec 32 := 9#32
  let v1213 : BitVec 32 := Scalar.addi v131 c9_i32_616
  let c1_i32_617 : BitVec 32 := 1#32
  let v1214 : BitVec 32 := Scalar.addi v1213 c1_i32_617
  let c31_i32_618 : BitVec 32 := 31#32
  let v1215 : BitVec 32 := Scalar.minsi v1214 c31_i32_618
  let c512_i32_619 : BitVec 32 := 512#32
  let v1216 : BitVec 32 := Scalar.muli v1215 c512_i32_619
  v1216
def k0_mult210 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c9_i32 : BitVec 32 := 9#32
  let v1212 : BitVec 32 := Scalar.addi v131 c9_i32
  let c512_i32_630 : BitVec 32 := 512#32
  let v1236 : BitVec 32 := Scalar.muli v1212 c512_i32_630
  v1236
def k0_mult211 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c9_i32_616 : BitVec 32 := 9#32
  let v1213 : BitVec 32 := Scalar.addi v131 c9_i32_616
  let c1_i32_617 : BitVec 32 := 1#32
  let v1214 : BitVec 32 := Scalar.addi v1213 c1_i32_617
  let c31_i32_618 : BitVec 32 := 31#32
  let v1215 : BitVec 32 := Scalar.minsi v1214 c31_i32_618
  let c512_i32_633 : BitVec 32 := 512#32
  let v1245 : BitVec 32 := Scalar.muli v1215 c512_i32_633
  v1245
def k0_mult212 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c9_i32 : BitVec 32 := 9#32
  let v1212 : BitVec 32 := Scalar.addi v131 c9_i32
  let c512_i32_644 : BitVec 32 := 512#32
  let v1265 : BitVec 32 := Scalar.muli v1212 c512_i32_644
  v1265
def k0_mult213 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c9_i32_616 : BitVec 32 := 9#32
  let v1213 : BitVec 32 := Scalar.addi v131 c9_i32_616
  let c1_i32_617 : BitVec 32 := 1#32
  let v1214 : BitVec 32 := Scalar.addi v1213 c1_i32_617
  let c31_i32_618 : BitVec 32 := 31#32
  let v1215 : BitVec 32 := Scalar.minsi v1214 c31_i32_618
  let c512_i32_647 : BitVec 32 := 512#32
  let v1274 : BitVec 32 := Scalar.muli v1215 c512_i32_647
  v1274
def k0_mult214 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c9_i32 : BitVec 32 := 9#32
  let v1212 : BitVec 32 := Scalar.addi v131 c9_i32
  let c512_i32_658 : BitVec 32 := 512#32
  let v1294 : BitVec 32 := Scalar.muli v1212 c512_i32_658
  v1294
def k0_mult215 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c9_i32_616 : BitVec 32 := 9#32
  let v1213 : BitVec 32 := Scalar.addi v131 c9_i32_616
  let c1_i32_617 : BitVec 32 := 1#32
  let v1214 : BitVec 32 := Scalar.addi v1213 c1_i32_617
  let c31_i32_618 : BitVec 32 := 31#32
  let v1215 : BitVec 32 := Scalar.minsi v1214 c31_i32_618
  let c512_i32_661 : BitVec 32 := 512#32
  let v1303 : BitVec 32 := Scalar.muli v1215 c512_i32_661
  v1303
def k0_mult216 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c9_i32 : BitVec 32 := 9#32
  let v1212 : BitVec 32 := Scalar.addi v131 c9_i32
  let c512_i32_672 : BitVec 32 := 512#32
  let v1323 : BitVec 32 := Scalar.muli v1212 c512_i32_672
  v1323
def k0_mult217 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c10_i32_675 : BitVec 32 := 10#32
  let v1333 : BitVec 32 := Scalar.addi v131 c10_i32_675
  let c1_i32_676 : BitVec 32 := 1#32
  let v1334 : BitVec 32 := Scalar.addi v1333 c1_i32_676
  let c31_i32_677 : BitVec 32 := 31#32
  let v1335 : BitVec 32 := Scalar.minsi v1334 c31_i32_677
  let c512_i32_678 : BitVec 32 := 512#32
  let v1336 : BitVec 32 := Scalar.muli v1335 c512_i32_678
  v1336
def k0_mult218 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c10_i32 : BitVec 32 := 10#32
  let v1332 : BitVec 32 := Scalar.addi v131 c10_i32
  let c512_i32_689 : BitVec 32 := 512#32
  let v1356 : BitVec 32 := Scalar.muli v1332 c512_i32_689
  v1356
def k0_mult219 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c10_i32_675 : BitVec 32 := 10#32
  let v1333 : BitVec 32 := Scalar.addi v131 c10_i32_675
  let c1_i32_676 : BitVec 32 := 1#32
  let v1334 : BitVec 32 := Scalar.addi v1333 c1_i32_676
  let c31_i32_677 : BitVec 32 := 31#32
  let v1335 : BitVec 32 := Scalar.minsi v1334 c31_i32_677
  let c512_i32_692 : BitVec 32 := 512#32
  let v1365 : BitVec 32 := Scalar.muli v1335 c512_i32_692
  v1365
def k0_mult220 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c10_i32 : BitVec 32 := 10#32
  let v1332 : BitVec 32 := Scalar.addi v131 c10_i32
  let c512_i32_703 : BitVec 32 := 512#32
  let v1385 : BitVec 32 := Scalar.muli v1332 c512_i32_703
  v1385
def k0_mult221 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c10_i32_675 : BitVec 32 := 10#32
  let v1333 : BitVec 32 := Scalar.addi v131 c10_i32_675
  let c1_i32_676 : BitVec 32 := 1#32
  let v1334 : BitVec 32 := Scalar.addi v1333 c1_i32_676
  let c31_i32_677 : BitVec 32 := 31#32
  let v1335 : BitVec 32 := Scalar.minsi v1334 c31_i32_677
  let c512_i32_706 : BitVec 32 := 512#32
  let v1394 : BitVec 32 := Scalar.muli v1335 c512_i32_706
  v1394
def k0_mult222 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c10_i32 : BitVec 32 := 10#32
  let v1332 : BitVec 32 := Scalar.addi v131 c10_i32
  let c512_i32_717 : BitVec 32 := 512#32
  let v1414 : BitVec 32 := Scalar.muli v1332 c512_i32_717
  v1414
def k0_mult223 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c10_i32_675 : BitVec 32 := 10#32
  let v1333 : BitVec 32 := Scalar.addi v131 c10_i32_675
  let c1_i32_676 : BitVec 32 := 1#32
  let v1334 : BitVec 32 := Scalar.addi v1333 c1_i32_676
  let c31_i32_677 : BitVec 32 := 31#32
  let v1335 : BitVec 32 := Scalar.minsi v1334 c31_i32_677
  let c512_i32_720 : BitVec 32 := 512#32
  let v1423 : BitVec 32 := Scalar.muli v1335 c512_i32_720
  v1423
def k0_mult224 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c10_i32 : BitVec 32 := 10#32
  let v1332 : BitVec 32 := Scalar.addi v131 c10_i32
  let c512_i32_731 : BitVec 32 := 512#32
  let v1443 : BitVec 32 := Scalar.muli v1332 c512_i32_731
  v1443
def k0_mult225 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c11_i32_734 : BitVec 32 := 11#32
  let v1453 : BitVec 32 := Scalar.addi v131 c11_i32_734
  let c1_i32_735 : BitVec 32 := 1#32
  let v1454 : BitVec 32 := Scalar.addi v1453 c1_i32_735
  let c31_i32_736 : BitVec 32 := 31#32
  let v1455 : BitVec 32 := Scalar.minsi v1454 c31_i32_736
  let c512_i32_737 : BitVec 32 := 512#32
  let v1456 : BitVec 32 := Scalar.muli v1455 c512_i32_737
  v1456
def k0_mult226 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c11_i32 : BitVec 32 := 11#32
  let v1452 : BitVec 32 := Scalar.addi v131 c11_i32
  let c512_i32_748 : BitVec 32 := 512#32
  let v1476 : BitVec 32 := Scalar.muli v1452 c512_i32_748
  v1476
def k0_mult227 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c11_i32_734 : BitVec 32 := 11#32
  let v1453 : BitVec 32 := Scalar.addi v131 c11_i32_734
  let c1_i32_735 : BitVec 32 := 1#32
  let v1454 : BitVec 32 := Scalar.addi v1453 c1_i32_735
  let c31_i32_736 : BitVec 32 := 31#32
  let v1455 : BitVec 32 := Scalar.minsi v1454 c31_i32_736
  let c512_i32_751 : BitVec 32 := 512#32
  let v1485 : BitVec 32 := Scalar.muli v1455 c512_i32_751
  v1485
def k0_mult228 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c11_i32 : BitVec 32 := 11#32
  let v1452 : BitVec 32 := Scalar.addi v131 c11_i32
  let c512_i32_762 : BitVec 32 := 512#32
  let v1505 : BitVec 32 := Scalar.muli v1452 c512_i32_762
  v1505
def k0_mult229 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c11_i32_734 : BitVec 32 := 11#32
  let v1453 : BitVec 32 := Scalar.addi v131 c11_i32_734
  let c1_i32_735 : BitVec 32 := 1#32
  let v1454 : BitVec 32 := Scalar.addi v1453 c1_i32_735
  let c31_i32_736 : BitVec 32 := 31#32
  let v1455 : BitVec 32 := Scalar.minsi v1454 c31_i32_736
  let c512_i32_765 : BitVec 32 := 512#32
  let v1514 : BitVec 32 := Scalar.muli v1455 c512_i32_765
  v1514
def k0_mult230 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c11_i32 : BitVec 32 := 11#32
  let v1452 : BitVec 32 := Scalar.addi v131 c11_i32
  let c512_i32_776 : BitVec 32 := 512#32
  let v1534 : BitVec 32 := Scalar.muli v1452 c512_i32_776
  v1534
def k0_mult231 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c11_i32_734 : BitVec 32 := 11#32
  let v1453 : BitVec 32 := Scalar.addi v131 c11_i32_734
  let c1_i32_735 : BitVec 32 := 1#32
  let v1454 : BitVec 32 := Scalar.addi v1453 c1_i32_735
  let c31_i32_736 : BitVec 32 := 31#32
  let v1455 : BitVec 32 := Scalar.minsi v1454 c31_i32_736
  let c512_i32_779 : BitVec 32 := 512#32
  let v1543 : BitVec 32 := Scalar.muli v1455 c512_i32_779
  v1543
def k0_mult232 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c11_i32 : BitVec 32 := 11#32
  let v1452 : BitVec 32 := Scalar.addi v131 c11_i32
  let c512_i32_790 : BitVec 32 := 512#32
  let v1563 : BitVec 32 := Scalar.muli v1452 c512_i32_790
  v1563
def k0_mult233 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c12_i32_793 : BitVec 32 := 12#32
  let v1573 : BitVec 32 := Scalar.addi v131 c12_i32_793
  let c1_i32_794 : BitVec 32 := 1#32
  let v1574 : BitVec 32 := Scalar.addi v1573 c1_i32_794
  let c31_i32_795 : BitVec 32 := 31#32
  let v1575 : BitVec 32 := Scalar.minsi v1574 c31_i32_795
  let c512_i32_796 : BitVec 32 := 512#32
  let v1576 : BitVec 32 := Scalar.muli v1575 c512_i32_796
  v1576
def k0_mult234 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c12_i32 : BitVec 32 := 12#32
  let v1572 : BitVec 32 := Scalar.addi v131 c12_i32
  let c512_i32_807 : BitVec 32 := 512#32
  let v1596 : BitVec 32 := Scalar.muli v1572 c512_i32_807
  v1596
def k0_mult235 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c12_i32_793 : BitVec 32 := 12#32
  let v1573 : BitVec 32 := Scalar.addi v131 c12_i32_793
  let c1_i32_794 : BitVec 32 := 1#32
  let v1574 : BitVec 32 := Scalar.addi v1573 c1_i32_794
  let c31_i32_795 : BitVec 32 := 31#32
  let v1575 : BitVec 32 := Scalar.minsi v1574 c31_i32_795
  let c512_i32_810 : BitVec 32 := 512#32
  let v1605 : BitVec 32 := Scalar.muli v1575 c512_i32_810
  v1605
def k0_mult236 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c12_i32 : BitVec 32 := 12#32
  let v1572 : BitVec 32 := Scalar.addi v131 c12_i32
  let c512_i32_821 : BitVec 32 := 512#32
  let v1625 : BitVec 32 := Scalar.muli v1572 c512_i32_821
  v1625
def k0_mult237 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c12_i32_793 : BitVec 32 := 12#32
  let v1573 : BitVec 32 := Scalar.addi v131 c12_i32_793
  let c1_i32_794 : BitVec 32 := 1#32
  let v1574 : BitVec 32 := Scalar.addi v1573 c1_i32_794
  let c31_i32_795 : BitVec 32 := 31#32
  let v1575 : BitVec 32 := Scalar.minsi v1574 c31_i32_795
  let c512_i32_824 : BitVec 32 := 512#32
  let v1634 : BitVec 32 := Scalar.muli v1575 c512_i32_824
  v1634
def k0_mult238 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c12_i32 : BitVec 32 := 12#32
  let v1572 : BitVec 32 := Scalar.addi v131 c12_i32
  let c512_i32_835 : BitVec 32 := 512#32
  let v1654 : BitVec 32 := Scalar.muli v1572 c512_i32_835
  v1654
def k0_mult239 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c12_i32_793 : BitVec 32 := 12#32
  let v1573 : BitVec 32 := Scalar.addi v131 c12_i32_793
  let c1_i32_794 : BitVec 32 := 1#32
  let v1574 : BitVec 32 := Scalar.addi v1573 c1_i32_794
  let c31_i32_795 : BitVec 32 := 31#32
  let v1575 : BitVec 32 := Scalar.minsi v1574 c31_i32_795
  let c512_i32_838 : BitVec 32 := 512#32
  let v1663 : BitVec 32 := Scalar.muli v1575 c512_i32_838
  v1663
def k0_mult240 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c12_i32 : BitVec 32 := 12#32
  let v1572 : BitVec 32 := Scalar.addi v131 c12_i32
  let c512_i32_849 : BitVec 32 := 512#32
  let v1683 : BitVec 32 := Scalar.muli v1572 c512_i32_849
  v1683
def k0_mult241 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c13_i32_852 : BitVec 32 := 13#32
  let v1693 : BitVec 32 := Scalar.addi v131 c13_i32_852
  let c1_i32_853 : BitVec 32 := 1#32
  let v1694 : BitVec 32 := Scalar.addi v1693 c1_i32_853
  let c31_i32_854 : BitVec 32 := 31#32
  let v1695 : BitVec 32 := Scalar.minsi v1694 c31_i32_854
  let c512_i32_855 : BitVec 32 := 512#32
  let v1696 : BitVec 32 := Scalar.muli v1695 c512_i32_855
  v1696
def k0_mult242 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c13_i32 : BitVec 32 := 13#32
  let v1692 : BitVec 32 := Scalar.addi v131 c13_i32
  let c512_i32_866 : BitVec 32 := 512#32
  let v1716 : BitVec 32 := Scalar.muli v1692 c512_i32_866
  v1716
def k0_mult243 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c13_i32_852 : BitVec 32 := 13#32
  let v1693 : BitVec 32 := Scalar.addi v131 c13_i32_852
  let c1_i32_853 : BitVec 32 := 1#32
  let v1694 : BitVec 32 := Scalar.addi v1693 c1_i32_853
  let c31_i32_854 : BitVec 32 := 31#32
  let v1695 : BitVec 32 := Scalar.minsi v1694 c31_i32_854
  let c512_i32_869 : BitVec 32 := 512#32
  let v1725 : BitVec 32 := Scalar.muli v1695 c512_i32_869
  v1725
def k0_mult244 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c13_i32 : BitVec 32 := 13#32
  let v1692 : BitVec 32 := Scalar.addi v131 c13_i32
  let c512_i32_880 : BitVec 32 := 512#32
  let v1745 : BitVec 32 := Scalar.muli v1692 c512_i32_880
  v1745
def k0_mult245 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c13_i32_852 : BitVec 32 := 13#32
  let v1693 : BitVec 32 := Scalar.addi v131 c13_i32_852
  let c1_i32_853 : BitVec 32 := 1#32
  let v1694 : BitVec 32 := Scalar.addi v1693 c1_i32_853
  let c31_i32_854 : BitVec 32 := 31#32
  let v1695 : BitVec 32 := Scalar.minsi v1694 c31_i32_854
  let c512_i32_883 : BitVec 32 := 512#32
  let v1754 : BitVec 32 := Scalar.muli v1695 c512_i32_883
  v1754
def k0_mult246 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c13_i32 : BitVec 32 := 13#32
  let v1692 : BitVec 32 := Scalar.addi v131 c13_i32
  let c512_i32_894 : BitVec 32 := 512#32
  let v1774 : BitVec 32 := Scalar.muli v1692 c512_i32_894
  v1774
def k0_mult247 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c13_i32_852 : BitVec 32 := 13#32
  let v1693 : BitVec 32 := Scalar.addi v131 c13_i32_852
  let c1_i32_853 : BitVec 32 := 1#32
  let v1694 : BitVec 32 := Scalar.addi v1693 c1_i32_853
  let c31_i32_854 : BitVec 32 := 31#32
  let v1695 : BitVec 32 := Scalar.minsi v1694 c31_i32_854
  let c512_i32_897 : BitVec 32 := 512#32
  let v1783 : BitVec 32 := Scalar.muli v1695 c512_i32_897
  v1783
def k0_mult248 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c13_i32 : BitVec 32 := 13#32
  let v1692 : BitVec 32 := Scalar.addi v131 c13_i32
  let c512_i32_908 : BitVec 32 := 512#32
  let v1803 : BitVec 32 := Scalar.muli v1692 c512_i32_908
  v1803
def k0_mult249 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c14_i32_911 : BitVec 32 := 14#32
  let v1813 : BitVec 32 := Scalar.addi v131 c14_i32_911
  let c1_i32_912 : BitVec 32 := 1#32
  let v1814 : BitVec 32 := Scalar.addi v1813 c1_i32_912
  let c31_i32_913 : BitVec 32 := 31#32
  let v1815 : BitVec 32 := Scalar.minsi v1814 c31_i32_913
  let c512_i32_914 : BitVec 32 := 512#32
  let v1816 : BitVec 32 := Scalar.muli v1815 c512_i32_914
  v1816
def k0_mult250 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c14_i32 : BitVec 32 := 14#32
  let v1812 : BitVec 32 := Scalar.addi v131 c14_i32
  let c512_i32_925 : BitVec 32 := 512#32
  let v1836 : BitVec 32 := Scalar.muli v1812 c512_i32_925
  v1836
def k0_mult251 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c14_i32_911 : BitVec 32 := 14#32
  let v1813 : BitVec 32 := Scalar.addi v131 c14_i32_911
  let c1_i32_912 : BitVec 32 := 1#32
  let v1814 : BitVec 32 := Scalar.addi v1813 c1_i32_912
  let c31_i32_913 : BitVec 32 := 31#32
  let v1815 : BitVec 32 := Scalar.minsi v1814 c31_i32_913
  let c512_i32_928 : BitVec 32 := 512#32
  let v1845 : BitVec 32 := Scalar.muli v1815 c512_i32_928
  v1845
def k0_mult252 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c14_i32 : BitVec 32 := 14#32
  let v1812 : BitVec 32 := Scalar.addi v131 c14_i32
  let c512_i32_939 : BitVec 32 := 512#32
  let v1865 : BitVec 32 := Scalar.muli v1812 c512_i32_939
  v1865
def k0_mult253 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c14_i32_911 : BitVec 32 := 14#32
  let v1813 : BitVec 32 := Scalar.addi v131 c14_i32_911
  let c1_i32_912 : BitVec 32 := 1#32
  let v1814 : BitVec 32 := Scalar.addi v1813 c1_i32_912
  let c31_i32_913 : BitVec 32 := 31#32
  let v1815 : BitVec 32 := Scalar.minsi v1814 c31_i32_913
  let c512_i32_942 : BitVec 32 := 512#32
  let v1874 : BitVec 32 := Scalar.muli v1815 c512_i32_942
  v1874
def k0_mult254 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c14_i32 : BitVec 32 := 14#32
  let v1812 : BitVec 32 := Scalar.addi v131 c14_i32
  let c512_i32_953 : BitVec 32 := 512#32
  let v1894 : BitVec 32 := Scalar.muli v1812 c512_i32_953
  v1894
def k0_mult255 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c14_i32_911 : BitVec 32 := 14#32
  let v1813 : BitVec 32 := Scalar.addi v131 c14_i32_911
  let c1_i32_912 : BitVec 32 := 1#32
  let v1814 : BitVec 32 := Scalar.addi v1813 c1_i32_912
  let c31_i32_913 : BitVec 32 := 31#32
  let v1815 : BitVec 32 := Scalar.minsi v1814 c31_i32_913
  let c512_i32_956 : BitVec 32 := 512#32
  let v1903 : BitVec 32 := Scalar.muli v1815 c512_i32_956
  v1903
def k0_mult256 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c14_i32 : BitVec 32 := 14#32
  let v1812 : BitVec 32 := Scalar.addi v131 c14_i32
  let c512_i32_967 : BitVec 32 := 512#32
  let v1923 : BitVec 32 := Scalar.muli v1812 c512_i32_967
  v1923
def k0_mult257 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c15_i32_970 : BitVec 32 := 15#32
  let v1933 : BitVec 32 := Scalar.addi v131 c15_i32_970
  let c1_i32_971 : BitVec 32 := 1#32
  let v1934 : BitVec 32 := Scalar.addi v1933 c1_i32_971
  let c31_i32_972 : BitVec 32 := 31#32
  let v1935 : BitVec 32 := Scalar.minsi v1934 c31_i32_972
  let c512_i32_973 : BitVec 32 := 512#32
  let v1936 : BitVec 32 := Scalar.muli v1935 c512_i32_973
  v1936
def k0_mult258 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c15_i32 : BitVec 32 := 15#32
  let v1932 : BitVec 32 := Scalar.addi v131 c15_i32
  let c512_i32_984 : BitVec 32 := 512#32
  let v1956 : BitVec 32 := Scalar.muli v1932 c512_i32_984
  v1956
def k0_mult259 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c15_i32_970 : BitVec 32 := 15#32
  let v1933 : BitVec 32 := Scalar.addi v131 c15_i32_970
  let c1_i32_971 : BitVec 32 := 1#32
  let v1934 : BitVec 32 := Scalar.addi v1933 c1_i32_971
  let c31_i32_972 : BitVec 32 := 31#32
  let v1935 : BitVec 32 := Scalar.minsi v1934 c31_i32_972
  let c512_i32_987 : BitVec 32 := 512#32
  let v1965 : BitVec 32 := Scalar.muli v1935 c512_i32_987
  v1965
def k0_mult260 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c15_i32 : BitVec 32 := 15#32
  let v1932 : BitVec 32 := Scalar.addi v131 c15_i32
  let c512_i32_998 : BitVec 32 := 512#32
  let v1985 : BitVec 32 := Scalar.muli v1932 c512_i32_998
  v1985
def k0_mult261 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c15_i32_970 : BitVec 32 := 15#32
  let v1933 : BitVec 32 := Scalar.addi v131 c15_i32_970
  let c1_i32_971 : BitVec 32 := 1#32
  let v1934 : BitVec 32 := Scalar.addi v1933 c1_i32_971
  let c31_i32_972 : BitVec 32 := 31#32
  let v1935 : BitVec 32 := Scalar.minsi v1934 c31_i32_972
  let c512_i32_1001 : BitVec 32 := 512#32
  let v1994 : BitVec 32 := Scalar.muli v1935 c512_i32_1001
  v1994
def k0_mult262 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c15_i32 : BitVec 32 := 15#32
  let v1932 : BitVec 32 := Scalar.addi v131 c15_i32
  let c512_i32_1012 : BitVec 32 := 512#32
  let v2014 : BitVec 32 := Scalar.muli v1932 c512_i32_1012
  v2014
def k0_mult263 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c15_i32_970 : BitVec 32 := 15#32
  let v1933 : BitVec 32 := Scalar.addi v131 c15_i32_970
  let c1_i32_971 : BitVec 32 := 1#32
  let v1934 : BitVec 32 := Scalar.addi v1933 c1_i32_971
  let c31_i32_972 : BitVec 32 := 31#32
  let v1935 : BitVec 32 := Scalar.minsi v1934 c31_i32_972
  let c512_i32_1015 : BitVec 32 := 512#32
  let v2023 : BitVec 32 := Scalar.muli v1935 c512_i32_1015
  v2023
def k0_mult264 (k0_t2 : Fin k0_t2_loop.trips) : BitVec 32 :=
  let c16_i32 : BitVec 32 := 16#32
  let c0_i32_79 : BitVec 32 := 0#32
  let c1_i32_81 : BitVec 32 := 1#32
  let arg11 : BitVec 32 := Scf.iv c0_i32_79 c1_i32_81 k0_t2
  let v131 : BitVec 32 := Scalar.muli c16_i32 arg11
  let c15_i32 : BitVec 32 := 15#32
  let v1932 : BitVec 32 := Scalar.addi v131 c15_i32
  let c512_i32_1026 : BitVec 32 := 512#32
  let v2043 : BitVec 32 := Scalar.muli v1932 c512_i32_1026
  v2043
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x16384x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S256x16384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S32768x1024 : Shape := ⟨2, ![32768, 1024]⟩
abbrev S512x32768 : Shape := ⟨2, ![512, 32768]⟩
abbrev S2x16384x8x128 : Shape := ⟨4, ![2, 16384, 8, 128]⟩
abbrev S8x64x2x16384 : Shape := ⟨4, ![8, 64, 2, 16384]⟩
abbrev S2x8x16384x16384 : Shape := ⟨4, ![2, 8, 16384, 16384]⟩
abbrev S_ : Shape := ⟨0, ![]⟩
abbrev S2x8x16384 : Shape := ⟨3, ![2, 8, 16384]⟩
abbrev S2x8x16384x1 : Shape := ⟨4, ![2, 8, 16384, 1]⟩
abbrev S2x8x64x16384 : Shape := ⟨4, ![2, 8, 64, 16384]⟩
abbrev S2x16384x8x64 : Shape := ⟨4, ![2, 16384, 8, 64]⟩
abbrev S2x16384x512 : Shape := ⟨3, ![2, 16384, 512]⟩

abbrev nBuf : Space → Nat
  | .hbm => 32
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S512x32768, .bf16⟩
  | .hbm, ⟨3, _⟩ => ⟨S32768x1024, .f32⟩
  | .hbm, ⟨4, _⟩ => ⟨S2x16384x8x128, .f32⟩
  | .hbm, ⟨5, _⟩ => ⟨S32768x1024, .f32⟩
  | .hbm, ⟨6, _⟩ => ⟨S2x16384x8x128, .f32⟩
  | .hbm, ⟨7, _⟩ => ⟨S512x32768, .f32⟩
  | .hbm, ⟨8, _⟩ => ⟨S8x64x2x16384, .f32⟩
  | .hbm, ⟨9, _⟩ => ⟨S2x8x16384x16384, .f32⟩
  | .hbm, ⟨10, _⟩ => ⟨S_, .f32⟩
  | .hbm, ⟨11, _⟩ => ⟨S_, .f32⟩
  | .hbm, ⟨12, _⟩ => ⟨S2x8x16384x16384, .f32⟩
  | .hbm, ⟨13, _⟩ => ⟨S2x8x16384x16384, .f32⟩
  | .hbm, ⟨14, _⟩ => ⟨S_, .f32⟩
  | .hbm, ⟨15, _⟩ => ⟨S2x8x16384, .f32⟩
  | .hbm, ⟨16, _⟩ => ⟨S_, .f32⟩
  | .hbm, ⟨17, _⟩ => ⟨S2x8x16384, .f32⟩
  | .hbm, ⟨18, _⟩ => ⟨S2x8x16384, .f32⟩
  | .hbm, ⟨19, _⟩ => ⟨S2x8x16384x1, .f32⟩
  | .hbm, ⟨20, _⟩ => ⟨S2x8x16384x16384, .f32⟩
  | .hbm, ⟨21, _⟩ => ⟨S2x8x16384x16384, .f32⟩
  | .hbm, ⟨22, _⟩ => ⟨S2x8x16384x16384, .f32⟩
  | .hbm, ⟨23, _⟩ => ⟨S_, .f32⟩
  | .hbm, ⟨24, _⟩ => ⟨S2x8x16384, .f32⟩
  | .hbm, ⟨25, _⟩ => ⟨S2x8x16384x1, .f32⟩
  | .hbm, ⟨26, _⟩ => ⟨S2x8x16384x16384, .f32⟩
  | .hbm, ⟨27, _⟩ => ⟨S2x8x16384x16384, .f32⟩
  | .hbm, ⟨28, _⟩ => ⟨S2x8x64x16384, .f32⟩
  | .hbm, ⟨29, _⟩ => ⟨S2x16384x8x64, .f32⟩
  | .hbm, ⟨30, _⟩ => ⟨S2x16384x512, .f32⟩
  | .hbm, ⟨31, _⟩ => ⟨S2x16384x512, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Kernel2.lean ====
abbrev S32768x1024 : Shape := ⟨2, ![32768, 1024]⟩
abbrev S1x1024 : Shape := ⟨2, ![1, 1024]⟩
abbrev S1024x4224 : Shape := ⟨2, ![1024, 4224]⟩
abbrev S1x256 : Shape := ⟨2, ![1, 256]⟩
abbrev S1x128 : Shape := ⟨2, ![1, 128]⟩
abbrev S256x1024 : Shape := ⟨2, ![256, 1024]⟩
abbrev S128x1024 : Shape := ⟨2, ![128, 1024]⟩
abbrev S512x128 : Shape := ⟨2, ![512, 128]⟩
abbrev S16384x128 : Shape := ⟨2, ![16384, 128]⟩
abbrev S32768x512 : Shape := ⟨2, ![32768, 512]⟩
abbrev S8192x2048 : Shape := ⟨2, ![8192, 2048]⟩
abbrev S2048x8192 : Shape := ⟨2, ![2048, 8192]⟩
abbrev S512x32768 : Shape := ⟨2, ![512, 32768]⟩
abbrev S32768x2048 : Shape := ⟨2, ![32768, 2048]⟩
abbrev S512x1024 : Shape := ⟨2, ![512, 1024]⟩
abbrev S512x512 : Shape := ⟨2, ![512, 512]⟩
abbrev S128x2048 : Shape := ⟨2, ![128, 2048]⟩
abbrev S32x8192 : Shape := ⟨2, ![32, 8192]⟩
abbrev S512x2048 : Shape := ⟨2, ![512, 2048]⟩
abbrev S3x4x512x128 : Shape := ⟨4, ![3, 4, 512, 128]⟩
abbrev S3x4x4x128x128 : Shape := ⟨5, ![3, 4, 4, 128, 128]⟩
abbrev S512 : Shape := ⟨1, ![512]⟩
abbrev S512x1 : Shape := ⟨2, ![512, 1]⟩
abbrev S1024x512 : Shape := ⟨2, ![1024, 512]⟩
abbrev S1x1x512x128 : Shape := ⟨4, ![1, 1, 512, 128]⟩
abbrev S1x1x128x128 : Shape := ⟨4, ![1, 1, 128, 128]⟩
abbrev S128x128 : Shape := ⟨2, ![128, 128]⟩
abbrev S1x1x1x128x128 : Shape := ⟨5, ![1, 1, 1, 128, 128]⟩
abbrev S1x1x1x32x128 : Shape := ⟨5, ![1, 1, 1, 32, 128]⟩
abbrev S32x128 : Shape := ⟨2, ![32, 128]⟩
abbrev S1024x256 : Shape := ⟨2, ![1024, 256]⟩
abbrev S512x256 : Shape := ⟨2, ![512, 256]⟩
abbrev S1024x128 : Shape := ⟨2, ![1024, 128]⟩
abbrev S1024x2048 : Shape := ⟨2, ![1024, 2048]⟩

abbrev nBuf : Space → Nat
  | .hbm => 26
  | .vmem => 46
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x4224, .bf16⟩
  | .hbm, ⟨3, _⟩ => ⟨S1x256, .f32⟩
  | .hbm, ⟨4, _⟩ => ⟨S1x128, .f32⟩
  | .hbm, ⟨5, _⟩ => ⟨S256x1024, .bf16⟩
  | .hbm, ⟨6, _⟩ => ⟨S256x1024, .bf16⟩
  | .hbm, ⟨7, _⟩ => ⟨S128x1024, .bf16⟩
  | .hbm, ⟨8, _⟩ => ⟨S512x128, .bf16⟩
  | .hbm, ⟨9, _⟩ => ⟨S16384x128, .f32⟩
  | .hbm, ⟨10, _⟩ => ⟨S16384x128, .f32⟩
  | .hbm, ⟨11, _⟩ => ⟨S16384x128, .f32⟩
  | .hbm, ⟨12, _⟩ => ⟨S16384x128, .f32⟩
  | .hbm, ⟨13, _⟩ => ⟨S32768x512, .bf16⟩
  | .hbm, ⟨14, _⟩ => ⟨S32768x512, .bf16⟩
  | .hbm, ⟨15, _⟩ => ⟨S32768x512, .bf16⟩
  | .hbm, ⟨16, _⟩ => ⟨S8192x2048, .bf16⟩
  | .hbm, ⟨17, _⟩ => ⟨S8192x2048, .bf16⟩
  | .hbm, ⟨18, _⟩ => ⟨S8192x2048, .bf16⟩
  | .hbm, ⟨19, _⟩ => ⟨S2048x8192, .bf16⟩
  | .hbm, ⟨20, _⟩ => ⟨S2048x8192, .bf16⟩
  | .hbm, ⟨21, _⟩ => ⟨S2048x8192, .bf16⟩
  | .hbm, ⟨22, _⟩ => ⟨S32768x1024, .bf16⟩
  | .hbm, ⟨23, _⟩ => ⟨S32768x1024, .bf16⟩
  | .hbm, ⟨24, _⟩ => ⟨S512x32768, .bf16⟩
  | .hbm, ⟨25, _⟩ => ⟨S32768x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4224, .bf16⟩
  | .local _ .vmem, ⟨4, _⟩ => ⟨S1x256, .f32⟩
  | .local _ .vmem, ⟨5, _⟩ => ⟨S1x128, .f32⟩
  | .local _ .vmem, ⟨6, _⟩ => ⟨S256x1024, .bf16⟩
  | .local _ .vmem, ⟨7, _⟩ => ⟨S256x1024, .bf16⟩
  | .local _ .vmem, ⟨8, _⟩ => ⟨S128x1024, .bf16⟩
  | .local _ .vmem, ⟨9, _⟩ => ⟨S512x128, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S128x2048, .bf16⟩
  | .local _ .vmem, ⟨25, _⟩ => ⟨S128x2048, .bf16⟩
  | .local _ .vmem, ⟨26, _⟩ => ⟨S128x2048, .bf16⟩
  | .local _ .vmem, ⟨27, _⟩ => ⟨S128x2048, .bf16⟩
  | .local _ .vmem, ⟨28, _⟩ => ⟨S128x2048, .bf16⟩
  | .local _ .vmem, ⟨29, _⟩ => ⟨S128x2048, .bf16⟩
  | .local _ .vmem, ⟨30, _⟩ => ⟨S32x8192, .bf16⟩
  | .local _ .vmem, ⟨31, _⟩ => ⟨S32x8192, .bf16⟩
  | .local _ .vmem, ⟨32, _⟩ => ⟨S32x8192, .bf16⟩
  | .local _ .vmem, ⟨33, _⟩ => ⟨S32x8192, .bf16⟩
  | .local _ .vmem, ⟨34, _⟩ => ⟨S32x8192, .bf16⟩
  | .local _ .vmem, ⟨35, _⟩ => ⟨S32x8192, .bf16⟩
  | .local _ .vmem, ⟨36, _⟩ => ⟨S512x1024, .bf16⟩
  | .local _ .vmem, ⟨37, _⟩ => ⟨S512x1024, .bf16⟩
  | .local _ .vmem, ⟨38, _⟩ => ⟨S512x1024, .bf16⟩
  | .local _ .vmem, ⟨39, _⟩ => ⟨S512x1024, .bf16⟩
  | .local _ .vmem, ⟨40, _⟩ => ⟨S512x512, .bf16⟩
  | .local _ .vmem, ⟨41, _⟩ => ⟨S512x512, .bf16⟩
  | .local _ .vmem, ⟨42, _⟩ => ⟨S512x2048, .bf16⟩
  | .local _ .vmem, ⟨43, _⟩ => ⟨S512x2048, .bf16⟩
  | .local _ .vmem, ⟨44, _⟩ => ⟨S3x4x512x128, .f32⟩
  | .local _ .vmem, ⟨45, _⟩ => ⟨S3x4x4x128x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_v0_4 : Ref sig .tc := ⟨.hbm, 17, rfl⟩
abbrev main_v0_5 : Ref sig .tc := ⟨.hbm, 18, rfl⟩
abbrev main_v0_6 : Ref sig .tc := ⟨.hbm, 19, rfl⟩
abbrev main_v0_7 : Ref sig .tc := ⟨.hbm, 20, rfl⟩
abbrev main_v0_8 : Ref sig .tc := ⟨.hbm, 21, rfl⟩
abbrev main_v0_9 : Ref sig .tc := ⟨.hbm, 22, rfl⟩
abbrev main_v0_10 : Ref sig .tc := ⟨.hbm, 23, rfl⟩
abbrev main_v0_11 : Ref sig .tc := ⟨.hbm, 24, rfl⟩
abbrev main_v0_12 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_stg22_0 : Ref sig .tc := ⟨.vmem, 36, rfl⟩
abbrev cc0_stg22_1 : Ref sig .tc := ⟨.vmem, 37, rfl⟩
abbrev cc0_stg23_0 : Ref sig .tc := ⟨.vmem, 38, rfl⟩
abbrev cc0_stg23_1 : Ref sig .tc := ⟨.vmem, 39, rfl⟩
abbrev cc0_stg24_0 : Ref sig .tc := ⟨.vmem, 40, rfl⟩
abbrev cc0_stg24_1 : Ref sig .tc := ⟨.vmem, 41, rfl⟩
abbrev cc0_stg25_0 : Ref sig .tc := ⟨.vmem, 42, rfl⟩
abbrev cc0_stg25_1 : Ref sig .tc := ⟨.vmem, 43, rfl⟩
abbrev cc0_scratch0 : Ref sig .tc := ⟨.vmem, 44, rfl⟩
abbrev cc0_scratch1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35
abbrev cc0_sem22_0 : DmaSem sig := 36
abbrev cc0_sem22_1 : DmaSem sig := 37
abbrev cc0_sem23_0 : DmaSem sig := 38
abbrev cc0_sem23_1 : DmaSem sig := 39
abbrev cc0_sem24_0 : DmaSem sig := 40
abbrev cc0_sem24_1 : DmaSem sig := 41
abbrev cc0_sem25_0 : DmaSem sig := 42
abbrev cc0_sem25_1 : DmaSem sig := 43

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4224 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S32x8192 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S32x8192 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S32x8192 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S512x512 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S512x2048 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]
-- ==== Reference2Ideal.lean ====
abbrev S32768x1024 : Shape := ⟨2, ![32768, 1024]⟩
abbrev S1x1024 : Shape := ⟨2, ![1, 1024]⟩
abbrev S1024x4224 : Shape := ⟨2, ![1024, 4224]⟩
abbrev S1x256 : Shape := ⟨2, ![1, 256]⟩
abbrev S1x128 : Shape := ⟨2, ![1, 128]⟩
abbrev S256x1024 : Shape := ⟨2, ![256, 1024]⟩
abbrev S128x1024 : Shape := ⟨2, ![128, 1024]⟩
abbrev S512x128 : Shape := ⟨2, ![512, 128]⟩
abbrev S16384x128 : Shape := ⟨2, ![16384, 128]⟩
abbrev S_ : Shape := ⟨0, ![]⟩
abbrev S32768 : Shape := ⟨1, ![32768]⟩
abbrev S32768x1 : Shape := ⟨2, ![32768, 1]⟩
abbrev S32768x4224 : Shape := ⟨2, ![32768, 4224]⟩
abbrev S32768x512 : Shape := ⟨2, ![32768, 512]⟩
abbrev S32768x256 : Shape := ⟨2, ![32768, 256]⟩
abbrev S32768x128 : Shape := ⟨2, ![32768, 128]⟩
abbrev S2x16384x8x128 : Shape := ⟨4, ![2, 16384, 8, 128]⟩
abbrev S1x16384x1x128 : Shape := ⟨4, ![1, 16384, 1, 128]⟩
abbrev S2x16384x128 : Shape := ⟨3, ![2, 16384, 128]⟩
abbrev S1x16384x128 : Shape := ⟨3, ![1, 16384, 128]⟩
abbrev S2x16384x1x128 : Shape := ⟨4, ![2, 16384, 1, 128]⟩
abbrev S128x32768 : Shape := ⟨2, ![128, 32768]⟩
abbrev S512x32768 : Shape := ⟨2, ![512, 32768]⟩
abbrev S32768x2048 : Shape := ⟨2, ![32768, 2048]⟩
abbrev S8192x2048 : Shape := ⟨2, ![8192, 2048]⟩
abbrev S2048x8192 : Shape := ⟨2, ![2048, 8192]⟩

abbrev nBuf : Space → Nat
  | .hbm => 131
  | .vmem => 0
  | .smem => 0
  | _ => 0

abbrev hbmTy0_0 (i : Nat) : BufTy := match i % 128 with
  | 0 => ⟨S32768x1024, .f32⟩
  | 1 => ⟨S1x1024, .f32⟩
  | 2 => ⟨S1024x4224, .bf16⟩
  | 3 => ⟨S1x256, .f32⟩
  | 4 => ⟨S1x128, .f32⟩
  | 5 => ⟨S256x1024, .bf16⟩
  | 6 => ⟨S256x1024, .bf16⟩
  | 7 => ⟨S128x1024, .bf16⟩
  | 8 => ⟨S512x128, .bf16⟩
  | 9 => ⟨S16384x128, .f32⟩
  | 10 => ⟨S16384x128, .f32⟩
  | 11 => ⟨S16384x128, .f32⟩
  | 12 => ⟨S16384x128, .f32⟩
  | 13 => ⟨S32768x1024, .f32⟩
  | 14 => ⟨S_, .f32⟩
  | 15 => ⟨S32768, .f32⟩
  | 16 => ⟨S32768x1, .f32⟩
  | 17 => ⟨S_, .f32⟩
  | 18 => ⟨S32768x1, .f32⟩
  | 19 => ⟨S32768x1, .f32⟩
  | 20 => ⟨S_, .f32⟩
  | 21 => ⟨S32768x1, .f32⟩
  | 22 => ⟨S32768x1, .f32⟩
  | 23 => ⟨S32768x1, .f32⟩
  | 24 => ⟨S32768x1024, .f32⟩
  | 25 => ⟨S32768x1024, .f32⟩
  | 26 => ⟨S32768x1024, .f32⟩
  | 27 => ⟨S32768x1024, .f32⟩
  | 28 => ⟨S1024x4224, .f32⟩
  | 29 => ⟨S32768x4224, .f32⟩
  | 30 => ⟨S32768x512, .f32⟩
  | 31 => ⟨S_, .f32⟩
  | 32 => ⟨S32768x512, .f32⟩
  | 33 => ⟨S32768x512, .f32⟩
  | 34 => ⟨S32768x512, .f32⟩
  | 35 => ⟨S32768x512, .f32⟩
  | 36 => ⟨S32768x256, .f32⟩
  | 37 => ⟨S32768x256, .f32⟩
  | 38 => ⟨S_, .f32⟩
  | 39 => ⟨S32768, .f32⟩
  | 40 => ⟨S32768x1, .f32⟩
  | 41 => ⟨S_, .f32⟩
  | 42 => ⟨S32768x1, .f32⟩
  | 43 => ⟨S32768x1, .f32⟩
  | 44 => ⟨S_, .f32⟩
  | 45 => ⟨S32768x1, .f32⟩
  | 46 => ⟨S32768x1, .f32⟩
  | 47 => ⟨S32768x1, .f32⟩
  | 48 => ⟨S32768x256, .f32⟩
  | 49 => ⟨S32768x256, .f32⟩
  | 50 => ⟨S32768x256, .f32⟩
  | 51 => ⟨S32768x256, .f32⟩
  | 52 => ⟨S32768x128, .f32⟩
  | 53 => ⟨S32768x128, .f32⟩
  | 54 => ⟨S_, .f32⟩
  | 55 => ⟨S32768, .f32⟩
  | 56 => ⟨S32768x1, .f32⟩
  | 57 => ⟨S_, .f32⟩
  | 58 => ⟨S32768x1, .f32⟩
  | 59 => ⟨S32768x1, .f32⟩
  | 60 => ⟨S_, .f32⟩
  | 61 => ⟨S32768x1, .f32⟩
  | 62 => ⟨S32768x1, .f32⟩
  | 63 => ⟨S32768x1, .f32⟩
  | 64 => ⟨S32768x128, .f32⟩
  | 65 => ⟨S32768x128, .f32⟩
  | 66 => ⟨S32768x128, .f32⟩
  | 67 => ⟨S32768x128, .f32⟩
  | 68 => ⟨S256x1024, .f32⟩
  | 69 => ⟨S32768x1024, .f32⟩
  | 70 => ⟨S2x16384x8x128, .f32⟩
  | 71 => ⟨S1x16384x1x128, .f32⟩
  | 72 => ⟨S2x16384x8x128, .f32⟩
  | 73 => ⟨S2x16384x8x128, .f32⟩
  | 74 => ⟨S256x1024, .f32⟩
  | 75 => ⟨S32768x1024, .f32⟩
  | 76 => ⟨S2x16384x8x128, .f32⟩
  | 77 => ⟨S1x16384x1x128, .f32⟩
  | 78 => ⟨S2x16384x8x128, .f32⟩
  | 79 => ⟨S2x16384x8x128, .f32⟩
  | 80 => ⟨S2x16384x8x128, .f32⟩
  | 81 => ⟨S32768x128, .f32⟩
  | 82 => ⟨S2x16384x128, .f32⟩
  | 83 => ⟨S1x16384x128, .f32⟩
  | 84 => ⟨S2x16384x128, .f32⟩
  | 85 => ⟨S2x16384x128, .f32⟩
  | 86 => ⟨S32768x128, .f32⟩
  | 87 => ⟨S2x16384x128, .f32⟩
  | 88 => ⟨S1x16384x128, .f32⟩
  | 89 => ⟨S2x16384x128, .f32⟩
  | 90 => ⟨S2x16384x128, .f32⟩
  | 91 => ⟨S2x16384x128, .f32⟩
  | 92 => ⟨S128x1024, .f32⟩
  | 93 => ⟨S32768x1024, .f32⟩
  | 94 => ⟨S2x16384x8x128, .f32⟩
  | 95 => ⟨S2x16384x1x128, .f32⟩
  | 96 => ⟨S2x16384x8x128, .f32⟩
  | 97 => ⟨S2x16384x8x128, .f32⟩
  | 98 => ⟨S512x128, .f32⟩
  | 99 => ⟨S128x32768, .f32⟩
  | 100 => ⟨S512x32768, .f32⟩
  | 101 => ⟨S32768x2048, .f32⟩
  | 102 => ⟨S32768x2048, .f32⟩
  | 103 => ⟨S32768x2048, .f32⟩
  | 104 => ⟨S_, .f32⟩
  | 105 => ⟨S32768x2048, .f32⟩
  | 106 => ⟨S32768x2048, .f32⟩
  | 107 => ⟨S_, .f32⟩
  | 108 => ⟨S32768x2048, .f32⟩
  | 109 => ⟨S32768x2048, .f32⟩
  | 110 => ⟨S8192x2048, .f32⟩
  | 111 => ⟨S8192x2048, .f32⟩
  | 112 => ⟨S8192x2048, .f32⟩
  | 113 => ⟨S2048x8192, .f32⟩
  | 114 => ⟨S2048x8192, .f32⟩
  | 115 => ⟨S2048x8192, .f32⟩
  | 116 => ⟨S32768x1024, .f32⟩
  | 117 => ⟨S32768x1024, .f32⟩
  | 118 => ⟨S32768x512, .bf16⟩
  | 119 => ⟨S32768x512, .bf16⟩
  | 120 => ⟨S32768x512, .bf16⟩
  | 121 => ⟨S8192x2048, .bf16⟩
  | 122 => ⟨S8192x2048, .bf16⟩
  | 123 => ⟨S8192x2048, .bf16⟩
  | 124 => ⟨S2048x8192, .bf16⟩
  | 125 => ⟨S2048x8192, .bf16⟩
  | 126 => ⟨S2048x8192, .bf16⟩
  | 127 => ⟨S32768x1024, .bf16⟩
  | _ => ⟨S32768x1024, .f32⟩

abbrev hbmTy0_1 (i : Nat) : BufTy := match i % 128 with
  | 0 => ⟨S32768x1024, .bf16⟩
  | 1 => ⟨S512x32768, .bf16⟩
  | 2 => ⟨S32768x2048, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_6 : Ref sig .tc := ⟨.hbm, 54, rfl⟩
abbrev main_v34 : Ref sig .tc := ⟨.hbm, 55, rfl⟩
abbrev main_v35 : Ref sig .tc := ⟨.hbm, 56, rfl⟩
abbrev main_cst_7 : Ref sig .tc := ⟨.hbm, 57, rfl⟩
abbrev main_v36 : Ref sig .tc := ⟨.hbm, 58, rfl⟩
abbrev main_v37 : Ref sig .tc := ⟨.hbm, 59, rfl⟩
abbrev main_cst_8 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_9 : Ref sig .tc := ⟨.hbm, 104, rfl⟩
abbrev main_v81 : Ref sig .tc := ⟨.hbm, 105, rfl⟩
abbrev main_v82 : Ref sig .tc := ⟨.hbm, 106, rfl⟩
abbrev main_cst_10 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩

abbrev nD : Nat := 1
abbrev τ : Topo := Topo.v7x

variable {F : FTy → Type} [FloatOps F]
-- ==== Kernel3.lean ====
abbrev S32768x1024 : Shape := ⟨2, ![32768, 1024]⟩
abbrev S4x32768x512 : Shape := ⟨3, ![4, 32768, 512]⟩
abbrev S32768x128 : Shape := ⟨2, ![32768, 128]⟩
abbrev S1x1024 : Shape := ⟨2, ![1, 1024]⟩
abbrev S512x1024 : Shape := ⟨2, ![512, 1024]⟩
abbrev S4x512x512 : Shape := ⟨3, ![4, 512, 512]⟩
abbrev S512x128 : Shape := ⟨2, ![512, 128]⟩
abbrev S512x1 : Shape := ⟨2, ![512, 1]⟩
abbrev S1x512x512 : Shape := ⟨3, ![1, 512, 512]⟩
abbrev S512x512 : Shape := ⟨2, ![512, 512]⟩
abbrev S512 : Shape := ⟨1, ![512]⟩

abbrev nBuf : Space → Nat
  | .hbm => 5
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S4x32768x512, .i32⟩
  | .hbm, ⟨2, _⟩ => ⟨S32768x128, .f32⟩
  | .hbm, ⟨3, _⟩ => ⟨S1x1024, .f32⟩
  | .hbm, ⟨4, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S4x512x512, .i32⟩
  | .local _ .vmem, ⟨3, _⟩ => ⟨S4x512x512, .i32⟩
  | .local _ .vmem, ⟨4, _⟩ => ⟨S512x128, .f32⟩
  | .local _ .vmem, ⟨5, _⟩ => ⟨S512x128, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S32768x1024 : Shape := ⟨2, ![32768, 1024]⟩
abbrev S4x32768x512 : Shape := ⟨3, ![4, 32768, 512]⟩
abbrev S32768x128 : Shape := ⟨2, ![32768, 128]⟩
abbrev S1x1024 : Shape := ⟨2, ![1, 1024]⟩
abbrev S4x32768x512x2 : Shape := ⟨4, ![4, 32768, 512, 2]⟩
abbrev S4x32768x2x512 : Shape := ⟨4, ![4, 32768, 2, 512]⟩
abbrev S4x32768x1024 : Shape := ⟨3, ![4, 32768, 1024]⟩
abbrev S32768x4 : Shape := ⟨2, ![32768, 4]⟩
abbrev S_ : Shape := ⟨0, ![]⟩
abbrev S32768 : Shape := ⟨1, ![32768]⟩
abbrev S32768x1 : Shape := ⟨2, ![32768, 1]⟩

abbrev nBuf : Space → Nat
  | .hbm => 26
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x32768x512, .i32⟩
  | .hbm, ⟨2, _⟩ => ⟨S32768x128, .f32⟩
  | .hbm, ⟨3, _⟩ => ⟨S1x1024, .f32⟩
  | .hbm, ⟨4, _⟩ => ⟨S4x32768x512x2, .bf16⟩
  | .hbm, ⟨5, _⟩ => ⟨S4x32768x512x2, .f32⟩
  | .hbm, ⟨6, _⟩ => ⟨S4x32768x2x512, .f32⟩
  | .hbm, ⟨7, _⟩ => ⟨S4x32768x1024, .f32⟩
  | .hbm, ⟨8, _⟩ => ⟨S32768x4, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x1, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel4.lean ====
abbrev S32768x128 : Shape := ⟨2, ![32768, 128]⟩
abbrev S1x128 : Shape := ⟨2, ![1, 128]⟩
abbrev S4x32768 : Shape := ⟨2, ![4, 32768]⟩
abbrev S2048x128 : Shape := ⟨2, ![2048, 128]⟩
abbrev S4x2048 : Shape := ⟨2, ![4, 2048]⟩
abbrev S2048x128x1 : Shape := ⟨3, ![2048, 128, 1]⟩
abbrev S128x2048 : Shape := ⟨2, ![128, 2048]⟩

abbrev nBuf : Space → Nat
  | .hbm => 3
  | .vmem => 5
  | .smem => 0
  | _ => 0

abbrev bufTy : (tb : Table) → Fin (tcTables nBuf tb) → BufTy
  | .hbm, ⟨0, _⟩ => ⟨S32768x128, .f32⟩
  | .hbm, ⟨1, _⟩ => ⟨S1x128, .f32⟩
  | .hbm, ⟨2, _⟩ => ⟨S4x32768, .i32⟩
  | .local _ .vmem, ⟨0, _⟩ => ⟨S2048x128, .f32⟩
  | .local _ .vmem, ⟨1, _⟩ => ⟨S2048x128, .f32⟩
  | .local _ .vmem, ⟨2, _⟩ => ⟨S1x128, .f32⟩
  | .local _ .vmem, ⟨3, _⟩ => ⟨S4x2048, .i32⟩
  | .local _ .vmem, ⟨4, _⟩ => ⟨S4x2048, .i32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S32768x128 : Shape := ⟨2, ![32768, 128]⟩
abbrev S1x128 : Shape := ⟨2, ![1, 128]⟩
abbrev S32768x4 : Shape := ⟨2, ![32768, 4]⟩
abbrev S128 : Shape := ⟨1, ![128]⟩
abbrev S_ : Shape := ⟨0, ![]⟩
abbrev S32768x4x1 : Shape := ⟨3, ![32768, 4, 1]⟩
abbrev S4x32768 : Shape := ⟨2, ![4, 32768]⟩

abbrev nBuf : Space → Nat
  | .hbm => 18
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S1x128, .f32⟩
  | .hbm, ⟨2, _⟩ => ⟨S32768x4, .f32⟩
  | .hbm, ⟨3, _⟩ => ⟨S32768x4, .i32⟩
  | .hbm, ⟨4, _⟩ => ⟨S32768x4, .f32⟩
  | .hbm, ⟨5, _⟩ => ⟨S128, .f32⟩
  | .hbm, ⟨6, _⟩ => ⟨S_, .i32⟩
  | .hbm, ⟨7, _⟩ => ⟨S32768x4, .i32⟩
  | .hbm, ⟨8, _⟩ => ⟨S32768x4, .i1⟩
  | .hbm, ⟨9, _⟩ => ⟨S_, .i32⟩
  | .hbm, ⟨10, _⟩ => ⟨S32768x4, .i32⟩
  | .hbm, ⟨11, _⟩ => ⟨S32768x4, .i32⟩
  | .hbm, ⟨12, _⟩ => ⟨S32768x4, .i32⟩
  | .hbm, ⟨13, _⟩ => ⟨S32768x4x1, .i32⟩
  | .hbm, ⟨14, _⟩ => ⟨S32768x4, .f32⟩
  | .hbm, ⟨15, _⟩ => ⟨S32768x4, .f32⟩
  | .hbm, ⟨16, _⟩ => ⟨S32768x4, .i32⟩
  | .hbm, ⟨17, _⟩ => ⟨S4x32768, .i32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel5.lean ====
abbrev S32768x512 : Shape := ⟨2, ![32768, 512]⟩
abbrev S8192x2048 : Shape := ⟨2, ![8192, 2048]⟩
abbrev S2048x8192 : Shape := ⟨2, ![2048, 8192]⟩
abbrev S32768x2048 : Shape := ⟨2, ![32768, 2048]⟩
abbrev S32768x1024 : Shape := ⟨2, ![32768, 1024]⟩
abbrev S512x1024 : Shape := ⟨2, ![512, 1024]⟩
abbrev S1024x1024 : Shape := ⟨2, ![1024, 1024]⟩
abbrev S1x1024 : Shape := ⟨2, ![1, 1024]⟩
abbrev S1024x128 : Shape := ⟨2, ![1024, 128]⟩
abbrev S1x128 : Shape := ⟨2, ![1, 128]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S32768x128 : Shape := ⟨2, ![32768, 128]⟩
abbrev S8x128 : Shape := ⟨2, ![8, 128]⟩
abbrev S128x2048 : Shape := ⟨2, ![128, 2048]⟩
abbrev S32x8192 : Shape := ⟨2, ![32, 8192]⟩
abbrev S512x2048 : Shape := ⟨2, ![512, 2048]⟩
abbrev S512x128 : Shape := ⟨2, ![512, 128]⟩
abbrev S4x4x512x128 : Shape := ⟨4, ![4, 4, 512, 128]⟩
abbrev S2x4x4x128x128 : Shape := ⟨5, ![2, 4, 4, 128, 128]⟩
abbrev S128x128 : Shape := ⟨2, ![128, 128]⟩
abbrev S1x1x128x128 : Shape := ⟨4, ![1, 1, 128, 128]⟩
abbrev S1x1x512x128 : Shape := ⟨4, ![1, 1, 512, 128]⟩
abbrev S32x128 : Shape := ⟨2, ![32, 128]⟩
abbrev S1x1x1x32x128 : Shape := ⟨5, ![1, 1, 1, 32, 128]⟩
abbrev S1x1x1x128x128 : Shape := ⟨5, ![1, 1, 1, 128, 128]⟩
abbrev S128 : Shape := ⟨1, ![128]⟩

abbrev nBuf : Space → Nat
  | .hbm => 28
  | .vmem => 36
  | .smem => 0
  | _ => 0

abbrev bufTy : (tb : Table) → Fin (tcTables nBuf tb) → BufTy
  | .hbm, ⟨0, _⟩ => ⟨S32768x512, .bf16⟩
  | .hbm, ⟨1, _⟩ => ⟨S8192x2048, .bf16⟩
  | .hbm, ⟨2, _⟩ => ⟨S2048x8192, .bf16⟩
  | .hbm, ⟨3, _⟩ => ⟨S32768x512, .f32⟩
  | .hbm, ⟨4, _⟩ => ⟨S8192x2048, .f32⟩
  | .hbm, ⟨5, _⟩ => ⟨S2048x8192, .f32⟩
  | .hbm, ⟨6, _⟩ => ⟨S32768x512, .bf16⟩
  | .hbm, ⟨7, _⟩ => ⟨S32768x2048, .bf16⟩
  | .hbm, ⟨8, _⟩ => ⟨S32768x1024, .f32⟩
  | .hbm, ⟨9, _⟩ => ⟨S512x1024, .bf16⟩
  | .hbm, ⟨10, _⟩ => ⟨S512x1024, .bf16⟩
  | .hbm, ⟨11, _⟩ => ⟨S1024x1024, .bf16⟩
  | .hbm, ⟨12, _⟩ => ⟨S1x1024, .f32⟩
  | .hbm, ⟨13, _⟩ => ⟨S1024x128, .bf16⟩
  | .hbm, ⟨14, _⟩ => ⟨S1024x128, .bf16⟩
  | .hbm, ⟨15, _⟩ => ⟨S1x128, .f32⟩
  | .hbm, ⟨16, _⟩ => ⟨S512, .i32⟩
  | .hbm, ⟨17, _⟩ => ⟨S512x1, .i32⟩
  | .hbm, ⟨18, _⟩ => ⟨S512, .i32⟩
  | .hbm, ⟨19, _⟩ => ⟨S1x512, .i32⟩
  | .hbm, ⟨20, _⟩ => ⟨S512x512, .i32⟩
  | .hbm, ⟨21, _⟩ => ⟨S512x512, .i32⟩
  | .hbm, ⟨22, _⟩ => ⟨S512x512, .i1⟩
  | .hbm, ⟨23, _⟩ => ⟨S512x512, .bf16⟩
  | .hbm, ⟨24, _⟩ => ⟨S32768x1024, .f32⟩
  | .hbm, ⟨25, _⟩ => ⟨S32768x512, .i32⟩
  | .hbm, ⟨26, _⟩ => ⟨S32768x128, .f32⟩
  | .hbm, ⟨27, _⟩ => ⟨S8x128, .f32⟩
  | .local _ .vmem, ⟨0, _⟩ => ⟨S512x512, .bf16⟩
  | .local _ .vmem, ⟨1, _⟩ => ⟨S512x512, .bf16⟩
  | .local _ .vmem, ⟨2, _⟩ => ⟨S128x2048, .bf16⟩
  | .local _ .vmem, ⟨3, _⟩ => ⟨S128x2048, .bf16⟩
  | .local _ .vmem, ⟨4, _⟩ => ⟨S32x8192, .bf16⟩
  | .local _ .vmem, ⟨5, _⟩ => ⟨S32x8192, .bf16⟩
  | .local _ .vmem, ⟨6, _⟩ => ⟨S512x512, .f32⟩
  | .local _ .vmem, ⟨7, _⟩ => ⟨S512x512, .f32⟩
  | .local _ .vmem, ⟨8, _⟩ => ⟨S128x2048, .f32⟩
  | .local _ .vmem, ⟨9, _⟩ => ⟨S128x2048, .f32⟩
  | .local _ .vmem, ⟨10, _⟩ => ⟨S32x8192, .f32⟩
  | .local _ .vmem, ⟨11, _⟩ => ⟨S32x8192, .f32⟩
  | .local _ .vmem, ⟨12, _⟩ => ⟨S512x512, .bf16⟩
  | .local _ .vmem, ⟨13, _⟩ => ⟨S512x512, .bf16⟩
  | .local _ .vmem, ⟨14, _⟩ => ⟨S512x2048, .bf16⟩
  | .local _ .vmem, ⟨15, _⟩ => ⟨S512x2048, .bf16⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S1x1024, .f32⟩
  | .local _ .vmem, ⟨22, _⟩ => ⟨S1024x128, .bf16⟩
  | .local _ .vmem, ⟨23, _⟩ => ⟨S1024x128, .bf16⟩
  | .local _ .vmem, ⟨24, _⟩ => ⟨S1x128, .f32⟩
  | .local _ .vmem, ⟨25, _⟩ => ⟨S512x512, .bf16⟩
  | .local _ .vmem, ⟨26, _⟩ => ⟨S512x1024, .f32⟩
  | .local _ .vmem, ⟨27, _⟩ => ⟨S512x1024, .f32⟩
  | .local _ .vmem, ⟨28, _⟩ => ⟨S512x512, .i32⟩
  | .local _ .vmem, ⟨29, _⟩ => ⟨S512x512, .i32⟩
  | .local _ .vmem, ⟨30, _⟩ => ⟨S512x128, .f32⟩
  | .local _ .vmem, ⟨31, _⟩ => ⟨S512x128, .f32⟩
  | .local _ .vmem, ⟨32, _⟩ => ⟨S8x128, .f32⟩
  | .local _ .vmem, ⟨33, _⟩ => ⟨S4x4x512x128, .f32⟩
  | .local _ .vmem, ⟨34, _⟩ => ⟨S2x4x4x128x128, .f32⟩
  | .local _ .vmem, ⟨35, _⟩ => ⟨S8x128, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8_0 : Ref sig .tc := ⟨.hbm, 24, rfl⟩
abbrev main_v8_1 : Ref sig .tc := ⟨.hbm, 25, rfl⟩
abbrev main_v8_2 : Ref sig .tc := ⟨.hbm, 26, rfl⟩
abbrev main_v8_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_scratch0 : Ref sig .tc := ⟨.vmem, 33, rfl⟩
abbrev cc0_scratch1 : Ref sig .tc := ⟨.vmem, 34, rfl⟩
abbrev cc0_scratch2 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .i32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S8x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== Kernel5Ideal.lean ====
abbrev S32768x512 : Shape := ⟨2, ![32768, 512]⟩
abbrev S8192x2048 : Shape := ⟨2, ![8192, 2048]⟩
abbrev S2048x8192 : Shape := ⟨2, ![2048, 8192]⟩
abbrev S32768x2048 : Shape := ⟨2, ![32768, 2048]⟩
abbrev S32768x1024 : Shape := ⟨2, ![32768, 1024]⟩
abbrev S512x1024 : Shape := ⟨2, ![512, 1024]⟩
abbrev S1024x1024 : Shape := ⟨2, ![1024, 1024]⟩
abbrev S1x1024 : Shape := ⟨2, ![1, 1024]⟩
abbrev S1024x128 : Shape := ⟨2, ![1024, 128]⟩
abbrev S1x128 : Shape := ⟨2, ![1, 128]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S32768x2x512 : Shape := ⟨3, ![32768, 2, 512]⟩
abbrev S32768x128 : Shape := ⟨2, ![32768, 128]⟩
abbrev S8x128 : Shape := ⟨2, ![8, 128]⟩
abbrev S32768x1x512 : Shape := ⟨3, ![32768, 1, 512]⟩
abbrev S128x2048 : Shape := ⟨2, ![128, 2048]⟩
abbrev S32x8192 : Shape := ⟨2, ![32, 8192]⟩
abbrev S512x2048 : Shape := ⟨2, ![512, 2048]⟩
abbrev S512x2x512 : Shape := ⟨3, ![512, 2, 512]⟩
abbrev S512x1x512 : Shape := ⟨3, ![512, 1, 512]⟩
abbrev S512x128 : Shape := ⟨2, ![512, 128]⟩
abbrev S4x4x512x128 : Shape := ⟨4, ![4, 4, 512, 128]⟩
abbrev S2x4x4x128x128 : Shape := ⟨5, ![2, 4, 4, 128, 128]⟩
abbrev S128x128 : Shape := ⟨2, ![128, 128]⟩
abbrev S1x1x128x128 : Shape := ⟨4, ![1, 1, 128, 128]⟩
abbrev S1x1x512x128 : Shape := ⟨4, ![1, 1, 512, 128]⟩
abbrev S32x128 : Shape := ⟨2, ![32, 128]⟩
abbrev S1x1x1x32x128 : Shape := ⟨5, ![1, 1, 1, 32, 128]⟩
abbrev S1x1x1x128x128 : Shape := ⟨5, ![1, 1, 1, 128, 128]⟩
abbrev S128 : Shape := ⟨1, ![128]⟩

abbrev nBuf : Space → Nat
  | .hbm => 28
  | .vmem => 36
  | .smem => 0
  | _ => 0

abbrev bufTy : (tb : Table) → Fin (tcTables nBuf tb) → BufTy
  | .hbm, ⟨0, _⟩ => ⟨S32768x512, .bf16⟩
  | .hbm, ⟨1, _⟩ => ⟨S8192x2048, .bf16⟩
  | .hbm, ⟨2, _⟩ => ⟨S2048x8192, .bf16⟩
  | .hbm, ⟨3, _⟩ => ⟨S32768x512, .f32⟩
  | .hbm, ⟨4, _⟩ => ⟨S8192x2048, .f32⟩
  | .hbm, ⟨5, _⟩ => ⟨S2048x8192, .f32⟩
  | .hbm, ⟨6, _⟩ => ⟨S32768x512, .bf16⟩
  | .hbm, ⟨7, _⟩ => ⟨S32768x2048, .bf16⟩
  | .hbm, ⟨8, _⟩ => ⟨S32768x1024, .f32⟩
  | .hbm, ⟨9, _⟩ => ⟨S512x1024, .bf16⟩
  | .hbm, ⟨10, _⟩ => ⟨S512x1024, .bf16⟩
  | .hbm, ⟨11, _⟩ => ⟨S1024x1024, .bf16⟩
  | .hbm, ⟨12, _⟩ => ⟨S1x1024, .f32⟩
  | .hbm, ⟨13, _⟩ => ⟨S1024x128, .bf16⟩
  | .hbm, ⟨14, _⟩ => ⟨S1024x128, .bf16⟩
  | .hbm, ⟨15, _⟩ => ⟨S1x128, .f32⟩
  | .hbm, ⟨16, _⟩ => ⟨S512, .i32⟩
  | .hbm, ⟨17, _⟩ => ⟨S512x1, .i32⟩
  | .hbm, ⟨18, _⟩ => ⟨S512, .i32⟩
  | .hbm, ⟨19, _⟩ => ⟨S1x512, .i32⟩
  | .hbm, ⟨20, _⟩ => ⟨S512x512, .i32⟩
  | .hbm, ⟨21, _⟩ => ⟨S512x512, .i32⟩
  | .hbm, ⟨22, _⟩ => ⟨S512x512, .i1⟩
  | .hbm, ⟨23, _⟩ => ⟨S512x512, .bf16⟩
  | .hbm, ⟨24, _⟩ => ⟨S32768x1024, .f32⟩
  | .hbm, ⟨25, _⟩ => ⟨S32768x2x512, .bf16⟩
  | .hbm, ⟨26, _⟩ => ⟨S32768x128, .f32⟩
  | .hbm, ⟨27, _⟩ => ⟨S8x128, .f32⟩
  | .local _ .vmem, ⟨0, _⟩ => ⟨S512x512, .bf16⟩
  | .local _ .vmem, ⟨1, _⟩ => ⟨S512x512, .bf16⟩
  | .local _ .vmem, ⟨2, _⟩ => ⟨S128x2048, .bf16⟩
  | .local _ .vmem, ⟨3, _⟩ => ⟨S128x2048, .bf16⟩
  | .local _ .vmem, ⟨4, _⟩ => ⟨S32x8192, .bf16⟩
  | .local _ .vmem, ⟨5, _⟩ => ⟨S32x8192, .bf16⟩
  | .local _ .vmem, ⟨6, _⟩ => ⟨S512x512, .f32⟩
  | .local _ .vmem, ⟨7, _⟩ => ⟨S512x512, .f32⟩
  | .local _ .vmem, ⟨8, _⟩ => ⟨S128x2048, .f32⟩
  | .local _ .vmem, ⟨9, _⟩ => ⟨S128x2048, .f32⟩
  | .local _ .vmem, ⟨10, _⟩ => ⟨S32x8192, .f32⟩
  | .local _ .vmem, ⟨11, _⟩ => ⟨S32x8192, .f32⟩
  | .local _ .vmem, ⟨12, _⟩ => ⟨S512x512, .bf16⟩
  | .local _ .vmem, ⟨13, _⟩ => ⟨S512x512, .bf16⟩
  | .local _ .vmem, ⟨14, _⟩ => ⟨S512x2048, .bf16⟩
  | .local _ .vmem, ⟨15, _⟩ => ⟨S512x2048, .bf16⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S1x1024, .f32⟩
  | .local _ .vmem, ⟨22, _⟩ => ⟨S1024x128, .bf16⟩
  | .local _ .vmem, ⟨23, _⟩ => ⟨S1024x128, .bf16⟩
  | .local _ .vmem, ⟨24, _⟩ => ⟨S1x128, .f32⟩
  | .local _ .vmem, ⟨25, _⟩ => ⟨S512x512, .bf16⟩
  | .local _ .vmem, ⟨26, _⟩ => ⟨S512x1024, .f32⟩
  | .local _ .vmem, ⟨27, _⟩ => ⟨S512x1024, .f32⟩
  | .local _ .vmem, ⟨28, _⟩ => ⟨S512x2x512, .bf16⟩
  | .local _ .vmem, ⟨29, _⟩ => ⟨S512x2x512, .bf16⟩
  | .local _ .vmem, ⟨30, _⟩ => ⟨S512x128, .f32⟩
  | .local _ .vmem, ⟨31, _⟩ => ⟨S512x128, .f32⟩
  | .local _ .vmem, ⟨32, _⟩ => ⟨S8x128, .f32⟩
  | .local _ .vmem, ⟨33, _⟩ => ⟨S4x4x512x128, .f32⟩
  | .local _ .vmem, ⟨34, _⟩ => ⟨S2x4x4x128x128, .f32⟩
  | .local _ .vmem, ⟨35, _⟩ => ⟨S8x128, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8_0 : Ref sig .tc := ⟨.hbm, 24, rfl⟩
abbrev main_v8_1 : Ref sig .tc := ⟨.hbm, 25, rfl⟩
abbrev main_v8_2 : Ref sig .tc := ⟨.hbm, 26, rfl⟩
abbrev main_v8_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_scratch0 : Ref sig .tc := ⟨.vmem, 33, rfl⟩
abbrev cc0_scratch1 : Ref sig .tc := ⟨.vmem, 34, rfl⟩
abbrev cc0_scratch2 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x2x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S8x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== Reference5Ideal.lean ====
abbrev S32768x512 : Shape := ⟨2, ![32768, 512]⟩
abbrev S8192x2048 : Shape := ⟨2, ![8192, 2048]⟩
abbrev S2048x8192 : Shape := ⟨2, ![2048, 8192]⟩
abbrev S32768x2048 : Shape := ⟨2, ![32768, 2048]⟩
abbrev S32768x1024 : Shape := ⟨2, ![32768, 1024]⟩
abbrev S512x1024 : Shape := ⟨2, ![512, 1024]⟩
abbrev S1024x1024 : Shape := ⟨2, ![1024, 1024]⟩
abbrev S1x1024 : Shape := ⟨2, ![1, 1024]⟩
abbrev S1024x128 : Shape := ⟨2, ![1024, 128]⟩
abbrev S1x128 : Shape := ⟨2, ![1, 128]⟩
abbrev S1x32768x512 : Shape := ⟨3, ![1, 32768, 512]⟩
abbrev S3x32768x512 : Shape := ⟨3, ![3, 32768, 512]⟩
abbrev S_ : Shape := ⟨0, ![]⟩

abbrev nBuf : Space → Nat
  | .hbm => 63
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S8192x2048, .bf16⟩
  | .hbm, ⟨2, _⟩ => ⟨S2048x8192, .bf16⟩
  | .hbm, ⟨3, _⟩ => ⟨S32768x512, .f32⟩
  | .hbm, ⟨4, _⟩ => ⟨S8192x2048, .f32⟩
  | .hbm, ⟨5, _⟩ => ⟨S2048x8192, .f32⟩
  | .hbm, ⟨6, _⟩ => ⟨S32768x512, .bf16⟩
  | .hbm, ⟨7, _⟩ => ⟨S32768x2048, .bf16⟩
  | .hbm, ⟨8, _⟩ => ⟨S32768x1024, .f32⟩
  | .hbm, ⟨9, _⟩ => ⟨S512x1024, .bf16⟩
  | .hbm, ⟨10, _⟩ => ⟨S512x1024, .bf16⟩
  | .hbm, ⟨11, _⟩ => ⟨S1024x1024, .bf16⟩
  | .hbm, ⟨12, _⟩ => ⟨S1x1024, .f32⟩
  | .hbm, ⟨13, _⟩ => ⟨S1024x128, .bf16⟩
  | .hbm, ⟨14, _⟩ => ⟨S1024x128, .bf16⟩
  | .hbm, ⟨15, _⟩ => ⟨S1x128, .f32⟩
  | .hbm, ⟨16, _⟩ => ⟨S32768x512, .f32⟩
  | .hbm, ⟨17, _⟩ => ⟨S32768x512, .bf16⟩
  | .hbm, ⟨18, _⟩ => ⟨S32768x512, .f32⟩
  | .hbm, ⟨19, _⟩ => ⟨S32768x512, .bf16⟩
  | .hbm, ⟨20, _⟩ => ⟨S32768x512, .f32⟩
  | .hbm, ⟨21, _⟩ => ⟨S32768x512, .f32⟩
  | .hbm, ⟨22, _⟩ => ⟨S32768x512, .f32⟩
  | .hbm, ⟨23, _⟩ => ⟨S1x32768x512, .f32⟩
  | .hbm, ⟨24, _⟩ => ⟨S1x32768x512, .f32⟩
  | .hbm, ⟨25, _⟩ => ⟨S1x32768x512, .f32⟩
  | .hbm, ⟨26, _⟩ => ⟨S3x32768x512, .f32⟩
  | .hbm, ⟨27, _⟩ => ⟨S_, .f32⟩
  | .hbm, ⟨28, _⟩ => ⟨S32768x512, .f32⟩
  | .hbm, ⟨29, _⟩ => ⟨S_, .f32⟩
  | .hbm, ⟨30, _⟩ => ⟨S32768x512, .f32⟩
  | .hbm, ⟨31, _⟩ => ⟨S32768x512, .f32⟩
  | .hbm, ⟨32, _⟩ => ⟨S1x32768x512, .f32⟩
  | .hbm, ⟨33, _⟩ => ⟨S3x32768x512, .f32⟩
  | .hbm, ⟨34, _⟩ => ⟨S3x32768x512, .f32⟩
  | .hbm, ⟨35, _⟩ => ⟨S3x32768x512, .f32⟩
  | .hbm, ⟨36, _⟩ => ⟨S_, .f32⟩
  | .hbm, ⟨37, _⟩ => ⟨S32768x512, .f32⟩
  | .hbm, ⟨38, _⟩ => ⟨S1x32768x512, .f32⟩
  | .hbm, ⟨39, _⟩ => ⟨S3x32768x512, .f32⟩
  | .hbm, ⟨40, _⟩ => ⟨S3x32768x512, .f32⟩
  | .hbm, ⟨41, _⟩ => ⟨S1x32768x512, .f32⟩
  | .hbm, ⟨42, _⟩ => ⟨S1x32768x512, .f32⟩
  | .hbm, ⟨43, _⟩ => ⟨S1x32768x512, .f32⟩
  | .hbm, ⟨44, _⟩ => ⟨S3x32768x512, .f32⟩
  | .hbm, ⟨45, _⟩ => ⟨S3x32768x512, .f32⟩
  | .hbm, ⟨46, _⟩ => ⟨S_, .f32⟩
  | .hbm, ⟨47, _⟩ => ⟨S32768x512, .f32⟩
  | .hbm, ⟨48, _⟩ => ⟨S32768x1024, .bf16⟩
  | .hbm, ⟨49, _⟩ => ⟨S32768x1024, .f32⟩
  | .hbm, ⟨50, _⟩ => ⟨S32768x1024, .bf16⟩
  | .hbm, ⟨51, _⟩ => ⟨S32768x1024, .f32⟩
  | .hbm, ⟨52, _⟩ => ⟨S512x1024, .f32⟩
  | .hbm, ⟨53, _⟩ => ⟨S32768x1024, .f32⟩
  | .hbm, ⟨54, _⟩ => ⟨S32768x1024, .f32⟩
  | .hbm, ⟨55, _⟩ => ⟨S32768x512, .f32⟩
  | .hbm, ⟨56, _⟩ => ⟨S512x1024, .f32⟩
  | .hbm, ⟨57, _⟩ => ⟨S32768x1024, .f32⟩
  | .hbm, ⟨58, _⟩ => ⟨S32768x1024, .f32⟩
  | .hbm, ⟨59, _⟩ => ⟨S32768x1024, .f32⟩
  | .hbm, ⟨60, _⟩ => ⟨S1024x1024, .f32⟩
  | .hbm, ⟨61, _⟩ => ⟨S32768x1024, .f32⟩
  | .hbm, ⟨62, _⟩ => ⟨S32768x1024, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_cst_0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_1 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_2 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]
-- ==== Proof.BodyRun.lean ====
module

public import proofs.«01_k».proof.Proof.Gen.KernelIdeal.Frame.Runs

/-! # What one grid point stores

The kernel body is run once, the four score buffers starting at contents given as arguments.  What the body leaves in
the result's buffer is a list of stored pieces, which may speak of those contents. -/

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body stores in the result's buffer, with the proof that the body runs to them: the operands keep
    their contents, the four score buffers start at `g0`–`g3` and end at some contents. -/
noncomputable def bodyRun (c : Dev nD) (i : grid0.Coords) (arg3 : Memref sig .tc .vmem S1x512x512 .bf16) (harg3 : arg3.IsWhole) (arg4 : Memref sig .tc .vmem S1x16384x512 .bf16) (harg4 : arg4.IsWhole) (arg5 : Memref sig .tc .vmem S256x16384 .bf16) (harg5 : arg5.IsWhole) (arg6 : Memref sig .tc .vmem S1x512x256 .bf16) (harg6 : arg6.IsWhole) (arg7 : Memref sig .tc .vmem S4x512x256 .f32) (harg7 : arg7.IsWhole) (arg8 : Memref sig .tc .vmem S4x512x256 .f32) (harg8 : arg8.IsWhole) (arg9 : Memref sig .tc .vmem S4x512x256 .f32) (harg9 : arg9.IsWhole) (arg10 : Memref sig .tc .vmem S4x512x256 .f32) (harg10 : arg10.IsWhole)
    (x0 : Vec F S1x512x512 .bf16) (x1 : Vec F S1x16384x512 .bf16) (x2 : Vec F S256x16384 .bf16)
    (g0 : BufTy.Contents (Elt F) arg7.view.ty) (g1 : BufTy.Contents (Elt F) arg8.view.ty) (g2 : BufTy.Contents (Elt F) arg9.view.ty) (g3 : BufTy.Contents (Elt F) arg10.view.ty) :
    { L3 : List (View.Piece (Elt F) S1x512x256 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (arg7.view.loc (c : Thread nD τ) ↦[arg7.view.set]{fullShare} g0) ∗ (arg8.view.loc (c : Thread nD τ) ↦[arg8.view.set]{fullShare} g1) ∗ (arg9.view.loc (c : Thread nD τ) ↦[arg9.view.set]{fullShare} g2) ∗ (arg10.view.loc (c : Thread nD τ) ↦[arg10.view.set]{fullShare} g3)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_mla_attention i arg3 harg3 arg4 harg4 arg5 harg5 arg6 harg6 arg7 harg7 arg8 harg8 arg9 harg9 arg10 harg10) K } := by
  refine ⟨?_, fun E K => ?run⟩
  case run =>
    simp only [cc0_mla_attention_eq_skeleton]; unfold cc0_mla_attention_skel
    simp only [k0_part99_eq_skeleton, k0_part100_eq_skeleton, k0_part101_eq_skeleton, k0_part102_eq_skeleton]
    unfold owns
    iintro ⟨⟨%f0, %hf0, H0⟩, ⟨%f1, %hf1, H1⟩, ⟨%f2, %hf2, H2⟩, ⟨%d3, %f3, -, H3⟩, HS0, HS1, HS2, HS3, Hk⟩
    obtain rfl := harg3.eq_unread hf0; obtain rfl := harg4.eq_unread hf1; obtain rfl := harg5.eq_unread hf2
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Own

end
-- ==== Proof.PointRun.lean ====
module

public import proofs.«01_k».proof.Proof.BodyRun

/-! # The body at a grid point

Whatever holds of the pieces the body stores, for all contents of the score buffers, holds of the block it leaves. -/

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The block of the result that the body leaves at point `t`, from the operands' blocks and the contents that the score
    buffers and the result's buffer had. -/
def left (c : Dev nD) (t : Fin cfg0.N) (x0 : Vec F S1x512x512 .bf16) (x1 : Vec F S1x16384x512 .bf16) (x2 : Vec F S256x16384 .bf16)
    (g0 : BufTy.Contents (Elt F) scM0_0.view.ty) (g1 : BufTy.Contents (Elt F) scM0_1.view.ty) (g2 : BufTy.Contents (Elt F) scM0_2.view.ty) (g3 : BufTy.Contents (Elt F) scM0_3.view.ty)
    (f : BufTy.Contents (Elt F) (ms0_3 t).view.ty) : Vec F S1x512x256 .bf16 :=
  (ms0_3 t).view.read (Elt F) ((ms0_3 t).view.writes (Elt F) f
    (bodyRun c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) x0 x1 x2 g0 g1 g2 g3).1)

/-- A buffer owned at some block has some contents. -/
theorem owns_open {s : Shape} {e : EltTy} (M : Memref sig .tc .vmem s e) (d : s.Idx → Elt F e) (c : Dev nD) :
    (owns (c : Thread nD τ) M fullShare d : sProp 𝕄) ⊢ iprop(∃ f, (M.view.loc (c : Thread nD τ) ↦[M.view.set]{fullShare} f)) := by
  unfold owns
  iintro ⟨%f, -, H⟩
  iexists f; iexact H

set_option maxHeartbeats 800000 in
/-- The body at point `t`: the operands' blocks stay, and the block left satisfies `Q` if every block it might leave does. -/
theorem point_run (c : Dev nD) (t : Fin cfg0.N) (x0 : Vec F S1x512x512 .bf16) (x1 : Vec F S1x16384x512 .bf16) (x2 : Vec F S256x16384 .bf16)
    (Q : Vec F S1x512x256 .bf16 → Prop) (hQ : ∀ g0 g1 g2 g3 f, Q (left c t x0 x1 x2 g0 g1 g2 g3 f)) (K : PUnit → sProp 𝕄) :
    iprop(owns (c : Thread nD τ) (ms0_0 t) fullShare x0 ∗ owns (c : Thread nD τ) (ms0_1 t) fullShare x1 ∗ owns (c : Thread nD τ) (ms0_2 t) fullShare x2 ∗ (∃ d, owns (c : Thread nD τ) (ms0_3 t) fullShare d)
        ∗ (∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)
        ∗ (iprop(owns (c : Thread nD τ) (ms0_0 t) fullShare x0 ∗ owns (c : Thread nD τ) (ms0_1 t) fullShare x1 ∗ owns (c : Thread nD τ) (ms0_2 t) fullShare x2 ∗ (∃ d, ⌜Q d⌝ ∗ owns (c : Thread nD τ) (ms0_3 t) fullShare d)
          ∗ (∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) -∗ K ⟨⟩))
      ⊢ wp frame (wpE (defs₀ (F := F)) Variants.none c none) Set.univ (bodyAt0 t) K := by
  unfold bodyAt0
  iintro ⟨H0, H1, H2, H3, HS0, HS1, HS2, HS3, Hk⟩
  icases HS0 with ⟨%d0, HS0⟩
  ihave HS0 := (owns_open scM0_0 d0 c) $$ HS0
  icases HS0 with ⟨%g0, HS0⟩
  icases HS1 with ⟨%d1, HS1⟩
  ihave HS1 := (owns_open scM0_1 d1 c) $$ HS1
  icases HS1 with ⟨%g1, HS1⟩
  icases HS2 with ⟨%d2, HS2⟩
  ihave HS2 := (owns_open scM0_2 d2 c) $$ HS2
  icases HS2 with ⟨%g2, HS2⟩
  icases HS3 with ⟨%d3, HS3⟩
  ihave HS3 := (owns_open scM0_3 d3 c) $$ HS3
  icases HS3 with ⟨%g3, HS3⟩
  iapply ((bodyRun c (grid0.coords t) _ _ _ _ _ _ _ _ _ _ _ _ _ _ _ _ x0 x1 x2 g0 g1 g2 g3).2 Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  iintro ⟨H0, H1, H2, ⟨%f, H3⟩, HS0, HS1, HS2, HS3⟩
  iapply Hk
  isplitl [H0]; · iexact H0
  isplitl [H1]; · iexact H1
  isplitl [H2]; · iexact H2
  isplitl [H3]
  · iexists (left c t x0 x1 x2 g0 g1 g2 g3 f)
    isplitr
    · ipureintro; exact hQ g0 g1 g2 g3 f
    unfold owns left
    iexists _; isplitr
    swap; · iexact H3
    ipureintro; rfl
  isplitl [HS0]; · iexact HS0
  isplitl [HS1]; · iexact HS1
  isplitl [HS2]; · iexact HS2
  iexact HS3

end Cert.KernelIdeal.Own

end
-- ==== Proof.IdealFrame.lean ====
module

public import proofs.«01_k».proof.Proof.PointRun
public import Idealize.ShloMosaic.Lib.Claim

/-! # The frame of the kernel read over the reals

For any inputs the kernel runs to its end, its arguments unchanged, every counter at zero; of the result's contents nothing is said. -/

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The data of the run: each operand at its block, the result at contents without a name. -/
def loose (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

/-- The arrays are those at the call's start. -/
theorem loose_A (c : Dev nD) (w : Fin cfg0.W) : (loose m 0 c).A w = V m c (Pipeline.arrRef spec0 w) := by dsimp only [loose]

theorem loose_after0 (c : Dev nD) (t : Fin cfg0.N) : (loose m 0 c).after 0 t = iblk m c 0 t := by dsimp only [loose]
theorem loose_after1 (c : Dev nD) (t : Fin cfg0.N) : (loose m 0 c).after 1 t = iblk m c 1 t := by dsimp only [loose]
theorem loose_after2 (c : Dev nD) (t : Fin cfg0.N) : (loose m 0 c).after 2 t = iblk m c 2 t := by dsimp only [loose]

/-- Each operand's buffer holds its block at every point. -/
theorem loose_before0 (c : Dev nD) (t : Fin cfg0.N) (d) : (loose m 0 c).before 0 t d = iblk m c 0 t :=
  before0_0_of m (loose m 0 c) (loose_A m c 0) (loose_after0 m c) t d
theorem loose_before1 (c : Dev nD) (t : Fin cfg0.N) (d) : (loose m 0 c).before 1 t d = iblk m c 1 t :=
  before0_1_of m (loose m 0 c) (loose_A m c 1) (loose_after1 m c) t d
theorem loose_before2 (c : Dev nD) (t : Fin cfg0.N) (d) : (loose m 0 c).before 2 t d = iblk m c 2 t :=
  before0_2_of m (loose m 0 c) (loose_A m c 2) (loose_after2 m c) t d

/-- What the body finds at point `t`. -/
def loosePre (c : Dev nD) (t : Fin cfg0.N) : sProp 𝕄 :=
  iprop((loose m 0 c).Φ t.castSucc ∗ (loose m 0 c).owesAt () t.castSucc
    ∗ (∃ d, owns (c : Thread nD τ) (ms0_0 t) fullShare ((loose m 0 c).before 0 t d))
    ∗ (∃ d, owns (c : Thread nD τ) (ms0_1 t) fullShare ((loose m 0 c).before 1 t d))
    ∗ (∃ d, owns (c : Thread nD τ) (ms0_2 t) fullShare ((loose m 0 c).before 2 t d))
    ∗ (∃ d, owns (c : Thread nD τ) (ms0_3 t) fullShare d))

/-- What the body leaves at point `t`. -/
def loosePost (c : Dev nD) (t : Fin cfg0.N) : sProp 𝕄 :=
  iprop((loose m 0 c).Φ t.succ ∗ (loose m 0 c).owesAt () t.succ
    ∗ owns (c : Thread nD τ) (ms0_0 t) fullShare ((loose m 0 c).after 0 t)
    ∗ owns (c : Thread nD τ) (ms0_1 t) fullShare ((loose m 0 c).after 1 t)
    ∗ owns (c : Thread nD τ) (ms0_2 t) fullShare ((loose m 0 c).after 2 t)
    ∗ (∃ d, owns (c : Thread nD τ) (ms0_3 t) fullShare d))

set_option maxHeartbeats 800000 in
/-- The body at any point. -/
theorem loose_sound (c : Dev nD) (t : Fin cfg0.N) :
    loosePre m c t ⊢ wp frame (wpE (defs₀ (F := F)) Variants.none c none) Set.univ (bodyAt0 t) (fun _ => loosePost m c t) := by
  unfold loosePre loosePost
  simp only [loose_before0, loose_before1, loose_before2]
  rw [show (loose m 0 c).Φ t.succ = (loose m 0 c).Φ t.castSucc from rfl,
    show (loose m 0 c).owesAt () t.succ = (loose m 0 c).owesAt () t.castSucc from rfl,
    loose_after0, loose_after1, loose_after2]
  rw [show (loose m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩⟩
  iapply (point_run c t (iblk m c 0 t) (iblk m c 1 t) (iblk m c 2 t) (fun _ => True) (fun _ _ _ _ _ => trivial) _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  iintro ⟨H0, H1, H2, ⟨%e3, %he, H3⟩, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  iexists e3; iexact H3

/-- The body that a point calls. -/
theorem body_row (t : Fin cfg0.N) : defs₀ (F := F) .tc cfg0.body (cfg0.bodyArgs t (cfg0.slots t)) = bodyAt0 t := by
  unfold defs₀; rw [Defs.onTc_tc]

/-- The window whose contents are not named. -/
def outOnly : Fin 4 → Bool := fun w => w.val == 3

/-- The body's triple as the pipeline asks for it. -/
theorem loose_body (c : Dev nD) : BodyObligation (loose (F := F) m 0 c) (defs₀ (F := F)) Variants.none () Set.univ outOnly := fun t => by
  rw [bigSep_W0, bigSep_W0, body_row]
  exact triple_restated (loose_sound m c t) rfl .rfl fun _ => .rfl

set_option backward.isDefEq.respectTransparency.types false in
/-- The launch, its counters at zero in the end. -/
theorem loose_run : θ_run defs (onTc (τ := τ) (main (F := F))) (s₀ m ρ) (fun r => (Pipeline.RDat.FramePost (cfgs 0) (fun c => (loose m 0 c).toRForget outOnly) (V m)) r ∧ r.2.sem = fun _ => 0) :=
  Pipeline.θ_run_frame_forget (Q' := _) cfgs (loose m) (0 : Fin 1) launch0 defs₀ Variants.none outOnly m ρ main
    (hbody := fun c => (loose_body m c).loose) (hshare := fun c => (loose m 0 c).share_full fun _ => rfl)
    (howed := fun _ _ => rfl) (V := V m) (hmain := hmain m Variants.none) (hA := loose_A m) (hΦ := fun _ _ => rfl)

/-- The frame: the run ends, the arguments are unchanged, the counters are zero. -/
theorem ideal_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (Pipeline.RDat.FramePost.arr_in h.1 c 2 rfl).trans ((loose_A m c 2).trans (V_main_arg2 m c))⟩, h.2⟩) (loose_run m ρ)

end Cert.KernelIdeal.Own

end
-- ==== Proof.Same.lean ====
module

public import proofs.«01_k».proof.Proof.IdealFrame
public import proofs.«01_k».proof.Defs
public import proofs.«01_k».proof.Proof.Gen.Kernel

/-! # The frame of the kernel on the machine's numbers

No rule rewrote the kernel, so the printed program and the one read over the reals are one text; the frame, proved for any
floats, is theirs both. -/

@[expose] public section

noncomputable section
namespace Cert.Proof

open Idealize.ShloMosaic Idealize.ShloMosaic.TcCoe Idealize.SL.Sem

variable {F : FTy → Type} [FloatOps F]

/-- The two programs' bodies are the same. -/
theorem same_bodies : Cert.Kernel.defs₀ (F := F) = Cert.KernelIdeal.defs₀ (F := F) :=
  congrArg Defs.onTc (funext fun l => funext fun a => match l, a with
    | 0, (_, _) => rfl
    | ⟨_ + 1, h⟩, _ => absurd h (Nat.not_lt.2 (Nat.le_add_left _ _)))

/-- So are their tables. -/
theorem same_defs : Cert.Kernel.defs (F := F) = Cert.KernelIdeal.defs (F := F) :=
  congrArg (Pipeline.defs (Cert.KernelIdeal.pcfgs (F := F))) same_bodies

/-- From any inputs the kernel runs to its end, its arguments unchanged, every counter at zero. -/
theorem kernel_frame (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) := by
  rw [same_defs]
  exact Cert.KernelIdeal.Own.ideal_frame m ρ

end Cert.Proof
end
-- ==== Proof.Softmax.lean ====
module

public import Idealize.ShloMosaic.Lib.Pointwise
public import Idealize.ShloMosaic.Lib.IdealHost

/-! # The running softmax over the extended reals

A row of attention has real scores `S k` (base-2 logarithms of the weights) and values `V k` that may be
any extended reals. The kernel goes over the keys in pieces and keeps a running bound `M` and the sum
`∑ 2^(S k - M) * V k`; at the end it divides two such sums. The reference shifts by the maximum, turns to base `e`,
normalises, and sums. Both are the same number, whatever the bound. -/

@[expose] public section

open Idealize.ShloMosaic

namespace Cert.Attn

/-- The weight of key `k` relative to the bound `M`. -/
noncomputable def wt (S : ℕ → ℝ) (M : ℝ) (k : ℕ) : ℝ := Real.rpow 2 (S k - M)

theorem wt_pos (S : ℕ → ℝ) (M : ℝ) (k : ℕ) : 0 < wt S M k := Real.rpow_pos_of_pos two_pos _

/-- The sum of the first `n` keys' values by their weights relative to `M`. -/
noncomputable def part (S : ℕ → ℝ) (V : ℕ → EReal) (n : ℕ) (M : ℝ) : EReal :=
  ∑ k ∈ Finset.range n, ((wt S M k : ℝ) : EReal) * V k

/-- A nonnegative real goes into a sum of extended reals. -/
theorem coe_mul_sum {ι : Type*} (s : Finset ι) (a : ℝ) (ha : 0 ≤ a) (f : ι → EReal) :
    ((a : ℝ) : EReal) * ∑ i ∈ s, f i = ∑ i ∈ s, (a : EReal) * f i := by
  classical
  induction s using Finset.induction_on with
  | empty => simp
  | insert i s hi ih =>
    rw [Finset.sum_insert hi, Finset.sum_insert hi,
      EReal.left_distrib_of_nonneg_of_ne_top (by exact_mod_cast ha) (EReal.coe_ne_top a), ih]

/-- The sum of real summands is a real: the sum of their values. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

theorem wt_rescale (S : ℕ → ℝ) (M M' : ℝ) (k : ℕ) : Real.rpow 2 (M - M') * wt S M k = wt S M' k := by
  show (2 : ℝ) ^ (M - M') * (2 : ℝ) ^ (S k - M) = (2 : ℝ) ^ (S k - M')
  rw [← Real.rpow_add two_pos]; congr 1; ring

/-- Changing the bound multiplies the partial sum by a power of two. -/
theorem part_rescale (S : ℕ → ℝ) (V : ℕ → EReal) (n : ℕ) (M M' : ℝ) :
    Ideal.exp2 ((M : EReal) - (M' : EReal)) * part S V n M = part S V n M' := by
  rw [← EReal.coe_sub, Ideal.exp2_coe]
  unfold part
  rw [coe_mul_sum _ _ (show (0 : ℝ) ≤ Real.rpow 2 (M - M') from Real.rpow_nonneg two_pos.le _)]
  refine Finset.sum_congr rfl fun k _ => ?_
  rw [← mul_assoc, ← EReal.coe_mul, wt_rescale]

/-- One piece of keys added: the old sum rescaled to the new bound, plus the piece's own sum, is the sum of
    all keys so far. -/
theorem part_add (S : ℕ → ℝ) (V : ℕ → EReal) (n l : ℕ) (M M' : ℝ) (p : Fin l → EReal) (v : Fin l → EReal)
    (hp : ∀ t, p t = Ideal.exp2 (((S (n + t.val) : ℝ) : EReal) - (M' : EReal))) (hv : ∀ t, v t = V (n + t.val)) :
    Ideal.exp2 ((M : EReal) - (M' : EReal)) * part S V n M + ∑ t, v t * p t = part S V (n + l) M' := by
  rw [part_rescale]
  unfold part
  rw [Finset.sum_range_add, ← Fin.sum_univ_eq_sum_range (fun x => ((wt S M' (n + x) : ℝ) : EReal) * V (n + x)) l]
  congr 1
  refine Finset.sum_congr rfl fun t _ => ?_
  rw [hp, hv, ← EReal.coe_sub, Ideal.exp2_coe, mul_comm]; rfl

/-- The maximum of reals, started at a real, is a real. -/
theorem fold_max_real {ι : Type*} (s : Finset ι) (a : EReal) (ha : ∃ r : ℝ, a = r) (f : ι → EReal) (hf : ∀ i, ∃ r : ℝ, f i = r) :
    ∃ r : ℝ, max a (s.fold max ⊥ f) = r := by
  classical
  induction s using Finset.induction_on with
  | empty => simpa using ha
  | insert i s hi ih =>
    obtain ⟨r, hr⟩ := ih
    obtain ⟨q, hq⟩ := hf i
    refine ⟨max q r, ?_⟩
    rw [Finset.fold_insert hi, max_left_comm, hr, hq]
    exact (EReal.coe_strictMono.monotone.map_max).symm

/-- The maximum of at least one real is a real. -/
theorem fold_max_real' {n : ℕ} (f : Fin (n + 1) → EReal) (hf : ∀ i, ∃ r : ℝ, f i = r) :
    ∃ r : ℝ, Finset.univ.fold max ⊥ f = r := by
  obtain ⟨r, hr⟩ := fold_max_real Finset.univ (f 0) (hf 0) f hf
  refine ⟨r, ?_⟩
  rw [← hr, max_eq_right]
  exact (Finset.le_fold_max (f 0)).2 (.inr ⟨0, Finset.mem_univ _, le_rfl⟩)

/-- The two closing forms: the quotient of the sums against the sum by normalised weights. -/
theorem quotient_eq (n : ℕ) (hn : 0 < n) (S : ℕ → ℝ) (V : ℕ → EReal) (M X : ℝ) :
    Ideal.div (part S V n M) (part S (fun _ => 1) n M)
      = ∑ k : Fin n, V k.val * Ideal.div (Ideal.exp (((S k.val : ℝ) : EReal) * ((Real.log 2 : ℝ) : EReal) - (X : EReal)))
          (∑ j : Fin n, Ideal.exp (((S j.val : ℝ) : EReal) * ((Real.log 2 : ℝ) : EReal) - (X : EReal))) := by
  have hexp : ∀ k, Ideal.exp (((S k : ℝ) : EReal) * ((Real.log 2 : ℝ) : EReal) - (X : EReal))
      = ((Real.exp (M * Real.log 2 - X) * wt S M k : ℝ) : EReal) := by
    intro k
    rw [← EReal.coe_mul, ← EReal.coe_sub, Ideal.exp_coe]
    congr 1
    show _ = _ * (2 : ℝ) ^ (S k - M)
    rw [Real.rpow_def_of_pos two_pos, ← Real.exp_add]; congr 1; ring
  have hne : (Finset.range n).Nonempty := Finset.nonempty_range_iff.2 hn.ne'
  have hden : 0 < ∑ k ∈ Finset.range n, wt S M k := Finset.sum_pos (fun k _ => wt_pos S M k) hne
  have hone : part S (fun _ => 1) n M = ((∑ k ∈ Finset.range n, wt S M k : ℝ) : EReal) := by
    unfold part; rw [← coe_sum]; exact Finset.sum_congr rfl fun k _ => mul_one _
  set c : ℝ := Real.exp (M * Real.log 2 - X) with hc
  have hcpos : 0 < c := Real.exp_pos _
  have hsum : (∑ j : Fin n, Ideal.exp (((S j.val : ℝ) : EReal) * ((Real.log 2 : ℝ) : EReal) - (X : EReal)))
      = ((c * ∑ k ∈ Finset.range n, wt S M k : ℝ) : EReal) := by
    rw [Finset.sum_congr rfl fun j _ => hexp j.val, coe_sum, Finset.mul_sum, Fin.sum_univ_eq_sum_range (fun k => c * wt S M k) n]
  rw [hsum, hone, Ideal.div_coe hden.ne']
  unfold part
  rw [mul_comm, coe_mul_sum _ _ (by positivity), ← Fin.sum_univ_eq_sum_range]
  refine Finset.sum_congr rfl fun k _ => ?_
  rw [hexp, Ideal.div_coe (mul_pos hcpos hden).ne', ← mul_assoc, ← EReal.coe_mul, ← EReal.coe_mul, mul_comm (V _)]
  congr 2
  field_simp

end Cert.Attn
-- ==== Proof.Stage.lean ====
module

public import proofs.«01_k».proof.Proof.Gen.KernelIdeal.Skeleton
public import proofs.«01_k».proof.Proof.Softmax

/-! # One stage of the kernel: a piece of 512 keys against a tile of 256 queries

The state of a head is a running bound per query and 80 running sums: 64 of the values, 16 of ones. `Good n` says that
the first `n` pieces of keys are in. A stage takes the piece's scores and values, and carries `Good n` to `Good (n+1)`. -/

@[expose] public section

set_option maxRecDepth 16384

noncomputable section
open Idealize.ShloMosaic Idealize.ShloMosaic.TcCoe Idealize.SL.Sem
namespace Cert.Attn
open Cert.KernelIdeal Cert.KernelIdeal.Gen

/-- The rows of the extended values: 64 of values, the rest of ones. -/
def rowV (V : ℕ → ℕ → EReal) (r : ℕ) (k : ℕ) : EReal := if r < 64 then V r k else 1

/-- The state holds the first `n` pieces: per query a real bound and, per row, the partial sum relative to it. -/
def Good (S : Fin 256 → ℕ → ℝ) (V : ℕ → ℕ → EReal) (n : ℕ) (b : FVec Ideal S1x256 .f32) (a : FVec Ideal S80x256 .f32) : Prop :=
  ∀ q : Fin 256, ∃ M : ℝ, b (ix2 0 q) = (M : EReal) ∧ ∀ r : Fin 80, a (ix2 r q) = part (S q) (rowV V r.val) (512 * n) M

/-- The bf16 rows of ones. -/
def Ones (o : FVec Ideal S16x512 .bf16) : Prop := ∀ (r : Fin 16) (t : Fin 512), o (ix2 r t) = (1 : EReal)

/-- A stored block of scores is piece `n`'s. -/
def Scores (S : Fin 256 → ℕ → ℝ) (n : ℕ) (s : FVec Ideal S1x512x256 .f32) : Prop :=
  ∀ (t : Fin 512) (q : Fin 256), s (ix3 0 t q) = ((S q (512 * n + t.val) : ℝ) : EReal)

/-- A block of transposed values is piece `n`'s. -/
def Vals (V : ℕ → ℕ → EReal) (n : ℕ) (v : FVec Ideal S64x512 .bf16) : Prop :=
  ∀ (r : Fin 64) (t : Fin 512), v (ix2 r t) = V r.val (512 * n + t.val)

/-- The f32 pattern of minus infinity. -/
theorem negInf : Ideal.ofBits .f32 0xFF800000#32 = ⊥ := by simp [Ideal.ofBits, Ideal.ieee]

/-- What the next bound is: the old one against the piece's greatest score. -/
theorem bound_at (b : FVec Ideal S1x256 .f32) (s : FVec Ideal S1x512x256 .f32) (q : Fin 256) :
    k0_pay3 (F := Ideal) b s (ix2 0 q) = max (b (ix2 0 q)) (Finset.univ.fold max ⊥ fun t : Fin 512 => s (ix3 0 t q)) := by
  pointwise [k0_pay3, k0_pay2]
  rw [negInf]

/-- What the next sums are: the old ones rescaled, plus the piece's values by its weights. -/
theorem sums_at (o : FVec Ideal S16x512 .bf16) (b : FVec Ideal S1x256 .f32) (a : FVec Ideal S80x256 .f32) (s : FVec Ideal S1x512x256 .f32)
    (v : FVec Ideal S64x512 .bf16) (r : Fin 80) (q : Fin 256) :
    k0_pay4 (F := Ideal) o b a s v (ix2 r q)
      = Ideal.exp2 (b (ix2 0 q) - k0_pay3 (F := Ideal) b s (ix2 0 q)) * a (ix2 r q)
        + ∑ t : Fin 512, (if h : r.val < 64 then v (ix2 ⟨r.val, h⟩ t) else o (ix2 ⟨r.val - 64, by omega⟩ t))
            * Ideal.exp2 (s (ix3 0 t q) - k0_pay3 (F := Ideal) b s (ix2 0 q)) := by
  pointwise [k0_pay4, k0_pay2]
  rfl

/-- ONE STAGE: with the scores and values of piece `n`, the state holds one more piece. -/
theorem Good.stage {S : Fin 256 → ℕ → ℝ} {V : ℕ → ℕ → EReal} {n : ℕ} {o : FVec Ideal S16x512 .bf16} {b : FVec Ideal S1x256 .f32}
    {a : FVec Ideal S80x256 .f32} {s : FVec Ideal S1x512x256 .f32} {v : FVec Ideal S64x512 .bf16}
    (h : Good S V n b a) (ho : Ones o) (hs : Scores S n s) (hv : Vals V n v) :
    Good S V (n + 1) (k0_pay3 (F := Ideal) b s) (k0_pay4 (F := Ideal) o b a s v) := by
  intro q
  obtain ⟨M, hM, hA⟩ := h q
  obtain ⟨M', hM'⟩ := fold_max_real Finset.univ (b (ix2 0 q)) ⟨M, hM⟩ (fun t : Fin 512 => s (ix3 0 t q)) (fun t => ⟨_, hs t q⟩)
  have hb : k0_pay3 (F := Ideal) b s (ix2 0 q) = (M' : EReal) := (bound_at b s q).trans hM'
  refine ⟨M', hb, fun r => ?_⟩
  rw [sums_at, hb, hM, hA r, show 512 * (n + 1) = 512 * n + 512 from by ring]
  refine part_add (S q) (rowV V r.val) (512 * n) 512 M M' _ _ (fun t => ?_) (fun t => ?_)
  · rw [hs]
  · unfold rowV
    split
    · exact hv _ t
    · exact ho _ t

/-- Before the first piece: any real bound, and sums of zero. -/
theorem Good.zero {S : Fin 256 → ℕ → ℝ} {V : ℕ → ℕ → EReal} {b : FVec Ideal S1x256 .f32} {a : FVec Ideal S80x256 .f32}
    (hb : ∀ q : Fin 256, ∃ M : ℝ, b (ix2 0 q) = (M : EReal)) (ha : ∀ (r : Fin 80) (q : Fin 256), a (ix2 r q) = (0 : EReal)) : Good S V 0 b a := by
  intro q
  obtain ⟨M, hM⟩ := hb q
  exact ⟨M, hM, fun r => by rw [ha]; simp [part]⟩

/-- The scores as the kernel computes them: a piece's keys against the tile's queries. -/
theorem scores_at (x : FVec Ideal S256x128 .bf16) (y : FVec Ideal S1x512x128 .bf16) (t : Fin 512) (q : Fin 256) :
    k0_pay1 (F := Ideal) x y (ix3 0 t q) = ∑ e : Fin 128, y (ix3 0 t e) * x (ix2 q e) := by
  pointwise [k0_pay1]

end Cert.Attn
-- ==== Proof.Reads.lean ====
module

public import proofs.«01_k».proof.Proof.Gen.KernelIdeal.Loops
public import proofs.«01_k».proof.Proof.Stage
public import Idealize.ShloMosaic.Lib.Pipeline.ReadBack

/-! # What a stage reads

The keys' block holds four heads of 128 lanes, the values' block four heads of 64 rows. A stage reads 512 keys of one head,
or 512 columns of the values, at a place the loop computes; scores are read back from where an earlier stage stored them. -/

@[expose] public section

set_option maxRecDepth 16384

noncomputable section
open Idealize.ShloMosaic Idealize.ShloMosaic.TcCoe Idealize.SL.Sem
namespace Cert.Attn
open Cert.KernelIdeal Cert.KernelIdeal.Gen

/-- The keys' block, key by lane. -/
def KeysAre (K : ℕ → ℕ → EReal) (X : FVec Ideal S1x16384x512 .bf16) : Prop :=
  ∀ (k : Fin 16384) (l : Fin 512), X (ix3 0 k l) = K k.val l.val

/-- The values' block, row by key. -/
def ValuesAre (W : ℕ → ℕ → EReal) (X : FVec Ideal S256x16384 .bf16) : Prop :=
  ∀ (r : Fin 256) (k : Fin 16384), X (ix2 r k) = W r.val k.val

/-- The scores of head `h`: the products of its queries with its keys are the reals `S`. -/
def HeadScores (K : ℕ → ℕ → EReal) (h : ℕ) (x : FVec Ideal S256x128 .bf16) (S : Fin 256 → ℕ → ℝ) : Prop :=
  ∀ (q : Fin 256) (k : ℕ), k < 16384 → ∑ e : Fin 128, K k (128 * h + e.val) * x (ix2 q e) = ((S q k : ℝ) : EReal)

/-- The values of head `h`. -/
def headV (W : ℕ → ℕ → EReal) (h : ℕ) (r k : ℕ) : EReal := W (64 * h + r) k

/-- The keys of head `h`, piece `p`, multiplied with its queries, are the scores of that piece. -/
theorem Scores.keys {sig : RefSig} {κ : Kind} {sp : Space} {v : View sig κ sp S1x16384x512 .bf16} {X : v.ty.Contents (Elt Ideal)}
    {K : ℕ → ℕ → EReal} {h : ℕ} {x : FVec Ideal S256x128 .bf16} {S : Fin 256 → ℕ → ℝ} {p : ℕ}
    (hK : KeysAre K (v.read (Elt Ideal) X)) (hx : HeadScores K h x S) (hp : p < 32) (hh : h < 4)
    {off : Fin 3 → ℕ} {inb : ∀ a, off a + S1x512x128.size a ≤ S1x16384x512.size a} (ho : off = ![0, 512 * p, 128 * h]) :
    Scores S p (k0_pay1 (F := Ideal) x (View.readAt (Elt Ideal) v (Rect.unit (s := S1x16384x512) off S1x512x128.size inb).toLoadRect X)) := by
  subst ho
  intro t q
  rw [scores_at, ← hx q (512 * p + t.val) (by omega)]
  refine Finset.sum_congr rfl fun e _ => ?_
  refine Ideal.mul_congr ?_ rfl
  refine Eq.trans ?_ (hK ⟨512 * p + t.val, by omega⟩ ⟨128 * h + e.val, by omega⟩)
  rw [View.readAt_apply]
  refine congrArg _ (funext fun a => ?_)
  fin_cases a <;> refine Fin.ext ?_ <;> simp [LoadRect.idx_apply, ix3]

/-- The values of head `h`, piece `p`. -/
theorem Vals.rows {sig : RefSig} {κ : Kind} {sp : Space} {v : View sig κ sp S256x16384 .bf16} {X : v.ty.Contents (Elt Ideal)}
    {W : ℕ → ℕ → EReal} {h p : ℕ}
    (hW : ValuesAre W (v.read (Elt Ideal) X)) (hp : p < 32) (hh : h < 4)
    {off : Fin 2 → ℕ} {inb : ∀ a, off a + S64x512.size a ≤ S256x16384.size a} (ho : off = ![64 * h, 512 * p]) :
    Vals (headV W h) p (View.readAt (Elt Ideal) v (Rect.unit (s := S256x16384) off S64x512.size inb).toLoadRect X) := by
  subst ho
  intro r t
  refine Eq.trans ?_ (hW ⟨64 * h + r.val, by omega⟩ ⟨512 * p + t.val, by omega⟩)
  rw [View.readAt_apply]
  refine congrArg _ (funext fun a => ?_)
  fin_cases a <;> refine Fin.ext ?_ <;> simp [LoadRect.idx_apply, ix2]

/-- The last store's own block, read back. -/
theorem Scores.hit {sig : RefSig} {κ : Kind} {sp : Space} {v : View sig κ sp S4x512x256 .f32} {S : Fin 256 → ℕ → ℝ} {p : ℕ}
    {off : Fin 3 → ℕ} {inb : ∀ a, off a + S1x512x256.size a ≤ S4x512x256.size a} {w : FVec Ideal S1x512x256 .f32}
    {L : List (View.Piece (Elt Ideal) S4x512x256 .f32)} (h : Scores S p w) :
    Scores S p (v.readCov (⟨Rect.unit (s := S4x512x256) off S1x512x256.size inb, w⟩ :: L) (Rect.unit (s := S4x512x256) off S1x512x256.size inb).toLoadRect) := by
  rw [View.readCov_cons_toLoadRect]; exact h

/-- A store of another head's block does not matter. -/
theorem Scores.skip {sig : RefSig} {κ : Kind} {sp : Space} {v : View sig κ sp S4x512x256 .f32} {S : Fin 256 → ℕ → ℝ} {p : ℕ}
    {off off' : Fin 3 → ℕ} {inb : ∀ a, off a + S1x512x256.size a ≤ S4x512x256.size a} {inb' : ∀ a, off' a + S1x512x256.size a ≤ S4x512x256.size a}
    {w : FVec Ideal S1x512x256 .f32} {L : List (View.Piece (Elt Ideal) S4x512x256 .f32)}
    (hd : LoadRect.disj (Rect.unit (s := S4x512x256) off S1x512x256.size inb) (Rect.unit (s := S4x512x256) off' S1x512x256.size inb').toLoadRect = true)
    (h : Scores S p (v.readCov L (Rect.unit (s := S4x512x256) off' S1x512x256.size inb').toLoadRect)) :
    Scores S p (v.readCov (⟨Rect.unit (s := S4x512x256) off S1x512x256.size inb, w⟩ :: L) (Rect.unit (s := S4x512x256) off' S1x512x256.size inb').toLoadRect) := by
  rw [View.readCov_skip _ _ _ _ _ hd]; exact h

/-- One stage, from its outcome back: what is still owed is the stage before, its scores and its values. -/
theorem Good.back {S : Fin 256 → ℕ → ℝ} {V : ℕ → ℕ → EReal} {n : ℕ} {o : FVec Ideal S16x512 .bf16} {b b' : FVec Ideal S1x256 .f32}
    {a a' : FVec Ideal S80x256 .f32} {s : FVec Ideal S1x512x256 .f32} {v : FVec Ideal S64x512 .bf16}
    (hb : b' = k0_pay3 (F := Ideal) b s) (ha : a' = k0_pay4 (F := Ideal) o b a s v)
    (ho : Ones o) (hs : Scores S n s) (hv : Vals V n v) (h : Good S V n b a) : Good S V (n + 1) b' a' := by
  subst hb ha; exact h.stage ho hs hv

theorem vec3 {a a' b b' c c' : ℕ} (h : a = a') (h' : b = b') (h'' : c = c') : (![a, b, c] : Fin 3 → ℕ) = ![a', b', c'] := by rw [h, h', h'']

theorem vec2 {a a' b b' : ℕ} (h : a = a') (h' : b = b') : (![a, b] : Fin 2 → ℕ) = ![a', b'] := by rw [h, h']

end Cert.Attn
-- ==== Proof.State.lean ====
module

public import proofs.«01_k».proof.Proof.Reads
public import Idealize.ShloMosaic.Lib.WritesUnit

/-! # What a trip carries, and what it leaves in the score buffer -/

@[expose] public section

noncomputable section
open Idealize.ShloMosaic Idealize.ShloMosaic.TcCoe Idealize.SL.Sem
namespace Cert.Attn
open Cert.KernelIdeal Cert.KernelIdeal.Gen

/-- What a trip carries from stage to stage: per head a bound and 80 sums. -/
abbrev Acc := FVec Ideal S1x256 .f32 × FVec Ideal S80x256 .f32 × FVec Ideal S1x256 .f32 × FVec Ideal S80x256 .f32 × FVec Ideal S1x256 .f32 × FVec Ideal S80x256 .f32 × FVec Ideal S1x256 .f32 × FVec Ideal S80x256 .f32

/-- The four heads' states hold the first `n` pieces. -/
structure State (S : Fin 4 → Fin 256 → ℕ → ℝ) (W : ℕ → ℕ → EReal) (n : ℕ) (acc : Acc) : Prop where
  h0 : Good (S 0) (headV W 0) n acc.1 acc.2.1
  h1 : Good (S 1) (headV W 1) n acc.2.2.1 acc.2.2.2.1
  h2 : Good (S 2) (headV W 2) n acc.2.2.2.2.1 acc.2.2.2.2.2.1
  h3 : Good (S 3) (headV W 3) n acc.2.2.2.2.2.2.1 acc.2.2.2.2.2.2.2

/-- A score buffer holds the four heads' scores of piece `n`. -/
structure Held (v : View sig .tc .vmem S4x512x256 .f32) (S : Fin 4 → Fin 256 → ℕ → ℝ) (n : ℕ) (f : v.ty.Contents (Elt Ideal)) : Prop where
  h0 : Scores (S 0) n (v.readAt (Elt Ideal) (Rect.unit (s := S4x512x256) ![0, 0, 0] S1x512x256.size inb_S4x512x256_S1x512x256_0_0_0).toLoadRect f)
  h1 : Scores (S 1) n (v.readAt (Elt Ideal) (Rect.unit (s := S4x512x256) ![1, 0, 0] S1x512x256.size inb_S4x512x256_S1x512x256_1_0_0).toLoadRect f)
  h2 : Scores (S 2) n (v.readAt (Elt Ideal) (Rect.unit (s := S4x512x256) ![2, 0, 0] S1x512x256.size inb_S4x512x256_S1x512x256_2_0_0).toLoadRect f)
  h3 : Scores (S 3) n (v.readAt (Elt Ideal) (Rect.unit (s := S4x512x256) ![3, 0, 0] S1x512x256.size inb_S4x512x256_S1x512x256_3_0_0).toLoadRect f)

/-- The contents after a list of stores are read through the list, where the first store that meets the load's rows
    is the load's own. -/
theorem Scores.hit' {v : View sig .tc .vmem S4x512x256 .f32} {S : Fin 256 → ℕ → ℝ} {p : ℕ} {f : v.ty.Contents (Elt Ideal)}
    {off : Fin 3 → ℕ} {inb : ∀ a, off a + S1x512x256.size a ≤ S4x512x256.size a} {w : FVec Ideal S1x512x256 .f32}
    {L : List (View.Piece (Elt Ideal) S4x512x256 .f32)} (h : Scores S p w) :
    Scores S p (v.readAt (Elt Ideal) (Rect.unit (s := S4x512x256) off S1x512x256.size inb).toLoadRect
      (v.writes (Elt Ideal) f (⟨Rect.unit (s := S4x512x256) off S1x512x256.size inb, w⟩ :: L))) := by
  have e : v.readAt (Elt Ideal) (Rect.unit (s := S4x512x256) off S1x512x256.size inb).toLoadRect
      (v.writes (Elt Ideal) f (⟨Rect.unit (s := S4x512x256) off S1x512x256.size inb, w⟩ :: L)) = w := funext fun j => by
    rw [View.readAt_apply]
    exact View.read_writes_cons_unit_of_mem v f inb w L _ j rfl fun a => by
      rw [LoadRect.idx_apply]; exact congrArg _ (Nat.one_mul _)
  rw [e]
  exact h

/-- A store of another head's rows does not matter. -/
theorem Scores.skip' {v : View sig .tc .vmem S4x512x256 .f32} {S : Fin 256 → ℕ → ℝ} {p : ℕ} {f : v.ty.Contents (Elt Ideal)}
    {off off' : Fin 3 → ℕ} {inb : ∀ a, off a + S1x512x256.size a ≤ S4x512x256.size a} {inb' : ∀ a, off' a + S1x512x256.size a ≤ S4x512x256.size a}
    {w : FVec Ideal S1x512x256 .f32} {L : List (View.Piece (Elt Ideal) S4x512x256 .f32)}
    (hd : LoadRect.disj (Rect.unit (s := S4x512x256) off S1x512x256.size inb) (Rect.unit (s := S4x512x256) off' S1x512x256.size inb').toLoadRect = true)
    (h : Scores S p (v.readAt (Elt Ideal) (Rect.unit (s := S4x512x256) off' S1x512x256.size inb').toLoadRect (v.writes (Elt Ideal) f L))) :
    Scores S p (v.readAt (Elt Ideal) (Rect.unit (s := S4x512x256) off' S1x512x256.size inb').toLoadRect
      (v.writes (Elt Ideal) f (⟨Rect.unit (s := S4x512x256) off S1x512x256.size inb, w⟩ :: L))) := by
  have e := View.readAt_writes_of_forall_not_mem v (v.writes (Elt Ideal) f L)
    [(⟨Rect.unit (s := S4x512x256) off S1x512x256.size inb, w⟩ : View.Piece (Elt Ideal) S4x512x256 .f32)]
    (Rect.unit (s := S4x512x256) off' S1x512x256.size inb').toLoadRect fun j q hq => by
      rw [List.mem_singleton.mp hq]; exact LoadRect.idx_not_mem_of_disj hd j
  rw [← View.writes_append, List.singleton_append] at e
  rw [e]; exact h

end Cert.Attn
-- ==== Proof.Trip1.lean ====
module

public import proofs.«01_k».proof.Proof.State
public import proofs.«01_k».proof.Proof.Gen.KernelIdeal.Loops

/-! # One trip of the first tile's loop

Sixteen stages: each takes the scores the stage before left in a buffer (the first, those the trip finds) and the values
of its own piece. -/

@[expose] public section

set_option maxRecDepth 1000000

noncomputable section
open Idealize.ShloMosaic Idealize.ShloMosaic.TcCoe Idealize.SL.Sem
namespace Cert.Attn
open Cert.KernelIdeal Cert.KernelIdeal.Gen

variable (𝒱 : Variants) (c : Dev nD) (bd : Option 𝒱.V) (i : grid0.Coords) (arg3 : Memref sig .tc .vmem S1x512x512 .bf16) (harg3 : arg3.IsWhole) (arg4 : Memref sig .tc .vmem S1x16384x512 .bf16) (harg4 : arg4.IsWhole) (arg5 : Memref sig .tc .vmem S256x16384 .bf16) (harg5 : arg5.IsWhole) (arg6 : Memref sig .tc .vmem S1x512x256 .bf16) (harg6 : arg6.IsWhole) (arg7 : Memref sig .tc .vmem S4x512x256 .f32) (harg7 : arg7.IsWhole) (arg8 : Memref sig .tc .vmem S4x512x256 .f32) (harg8 : arg8.IsWhole) (arg9 : Memref sig .tc .vmem S4x512x256 .f32) (harg9 : arg9.IsWhole) (arg10 : Memref sig .tc .vmem S4x512x256 .f32) (harg10 : arg10.IsWhole) (v0 : FVec Ideal S16x512 .bf16) (v1 : FVec Ideal S1x256 .f32) (v2 : FVec Ideal S80x256 .f32) (v4 : FVec Ideal S256x128 .bf16) (v14 : FVec Ideal S256x128 .bf16) (v24 : FVec Ideal S256x128 .bf16) (v33 : Vec Ideal S1x256x128 .bf16) (X_arg4 : BufTy.Contents (Elt Ideal) arg4.view.ty) (X_arg5 : BufTy.Contents (Elt Ideal) arg5.view.ty) (k : Fin k0_t1_loop.trips) (acc : FVec Ideal S1x256 .f32 × FVec Ideal S80x256 .f32 × FVec Ideal S1x256 .f32 × FVec Ideal S80x256 .f32 × FVec Ideal S1x256 .f32 × FVec Ideal S80x256 .f32 × FVec Ideal S1x256 .f32 × FVec Ideal S80x256 .f32) (f_arg7 : BufTy.Contents (Elt Ideal) arg7.view.ty) (f_arg8 : BufTy.Contents (Elt Ideal) arg8.view.ty) (f_arg9 : BufTy.Contents (Elt Ideal) arg9.view.ty) (f_arg10 : BufTy.Contents (Elt Ideal) arg10.view.ty)

variable {K W : ℕ → ℕ → EReal} {S : Fin 4 → Fin 256 → ℕ → ℝ}

section
variable (ho : Ones v0) (hK : KeysAre K (arg4.view.read (Elt Ideal) X_arg4)) (hW : ValuesAre W (arg5.view.read (Elt Ideal) X_arg5))
include ho hK hW

set_option maxHeartbeats 4000000 in
/-- Head 0: sixteen pieces more. -/
theorem trip1_head0 (hx : HeadScores K 0 v4 (S 0)) (hs : Held arg7.view S (16 * k.val) f_arg7) (h : State S W (16 * k.val) acc) :
    Good (S 0) (headV W 0) (16 * k.val + 16) ((trip_k0_t1 (F := Ideal) 𝒱 c bd i arg3 harg3 arg4 harg4 arg5 harg5 arg6 harg6 arg7 harg7 arg8 harg8 arg9 harg9 arg10 harg10 v0 v1 v2 v4 v14 v24 v33 X_arg4 X_arg5 k).1 acc f_arg7 f_arg8 f_arg9 f_arg10).1
      ((trip_k0_t1 (F := Ideal) 𝒱 c bd i arg3 harg3 arg4 harg4 arg5 harg5 arg6 harg6 arg7 harg7 arg8 harg8 arg9 harg9 arg10 harg10 v0 v1 v2 v4 v14 v24 v33 X_arg4 X_arg5 k).1 acc f_arg7 f_arg8 f_arg9 f_arg10).2.1 := by
  have hk : k.val < 2 := Nat.lt_of_lt_of_le k.isLt k0_t1_abs.2.1
  unfold trip_k0_t1
  dsimp only
  iterate 15
    refine Good.back rfl rfl ho ?_ ?_ ?_
    · iterate 3 refine Scores.skip (by decide +kernel) ?_
      refine Scores.hit ?_
      refine Scores.keys hK hx ?_ ?_ (ClosedOff.eq.trans (vec3 rfl ?_ ?_)) <;> omega
    · refine Vals.rows hW ?_ ?_ (ClosedOff.eq.trans (vec2 ?_ ?_)) <;> omega
  exact Good.back rfl rfl ho hs.h0 (Vals.rows hW (by omega) (by omega) (ClosedOff.eq.trans (vec2 (by omega) (by omega)))) h.h0

set_option maxHeartbeats 4000000 in
/-- Head 1: sixteen pieces more. -/
theorem trip1_head1 (hx : HeadScores K 1 v14 (S 1)) (hs : Held arg7.view S (16 * k.val) f_arg7) (h : State S W (16 * k.val) acc) :
    Good (S 1) (headV W 1) (16 * k.val + 16) ((trip_k0_t1 (F := Ideal) 𝒱 c bd i arg3 harg3 arg4 harg4 arg5 harg5 arg6 harg6 arg7 harg7 arg8 harg8 arg9 harg9 arg10 harg10 v0 v1 v2 v4 v14 v24 v33 X_arg4 X_arg5 k).1 acc f_arg7 f_arg8 f_arg9 f_arg10).2.2.1
      ((trip_k0_t1 (F := Ideal) 𝒱 c bd i arg3 harg3 arg4 harg4 arg5 harg5 arg6 harg6 arg7 harg7 arg8 harg8 arg9 harg9 arg10 harg10 v0 v1 v2 v4 v14 v24 v33 X_arg4 X_arg5 k).1 acc f_arg7 f_arg8 f_arg9 f_arg10).2.2.2.1 := by
  have hk : k.val < 2 := Nat.lt_of_lt_of_le k.isLt k0_t1_abs.2.1
  unfold trip_k0_t1
  dsimp only
  iterate 15
    refine Good.back rfl rfl ho ?_ ?_ ?_
    · iterate 2 refine Scores.skip (by decide +kernel) ?_
      refine Scores.hit ?_
      refine Scores.keys hK hx ?_ ?_ (ClosedOff.eq.trans (vec3 rfl ?_ ?_)) <;> omega
    · refine Vals.rows hW ?_ ?_ (ClosedOff.eq.trans (vec2 ?_ ?_)) <;> omega
  exact Good.back rfl rfl ho hs.h1 (Vals.rows hW (by omega) (by omega) (ClosedOff.eq.trans (vec2 (by omega) (by omega)))) h.h1

set_option maxHeartbeats 4000000 in
/-- Head 2: sixteen pieces more. -/
theorem trip1_head2 (hx : HeadScores K 2 v24 (S 2)) (hs : Held arg7.view S (16 * k.val) f_arg7) (h : State S W (16 * k.val) acc) :
    Good (S 2) (headV W 2) (16 * k.val + 16) ((trip_k0_t1 (F := Ideal) 𝒱 c bd i arg3 harg3 arg4 harg4 arg5 harg5 arg6 harg6 arg7 harg7 arg8 harg8 arg9 harg9 arg10 harg10 v0 v1 v2 v4 v14 v24 v33 X_arg4 X_arg5 k).1 acc f_arg7 f_arg8 f_arg9 f_arg10).2.2.2.2.1
      ((trip_k0_t1 (F := Ideal) 𝒱 c bd i arg3 harg3 arg4 harg4 arg5 harg5 arg6 harg6 arg7 harg7 arg8 harg8 arg9 harg9 arg10 harg10 v0 v1 v2 v4 v14 v24 v33 X_arg4 X_arg5 k).1 acc f_arg7 f_arg8 f_arg9 f_arg10).2.2.2.2.2.1 := by
  have hk : k.val < 2 := Nat.lt_of_lt_of_le k.isLt k0_t1_abs.2.1
  unfold trip_k0_t1
  dsimp only
  iterate 15
    refine Good.back rfl rfl ho ?_ ?_ ?_
    · iterate 1 refine Scores.skip (by decide +kernel) ?_
      refine Scores.hit ?_
      refine Scores.keys hK hx ?_ ?_ (ClosedOff.eq.trans (vec3 rfl ?_ ?_)) <;> omega
    · refine Vals.rows hW ?_ ?_ (ClosedOff.eq.trans (vec2 ?_ ?_)) <;> omega
  exact Good.back rfl rfl ho hs.h2 (Vals.rows hW (by omega) (by omega) (ClosedOff.eq.trans (vec2 (by omega) (by omega)))) h.h2

set_option maxHeartbeats 4000000 in
/-- Head 3: sixteen pieces more. -/
theorem trip1_head3 (hx : HeadScores K 3 (k0_pay612 (F := Ideal) v33) (S 3)) (hs : Held arg7.view S (16 * k.val) f_arg7) (h : State S W (16 * k.val) acc) :
    Good (S 3) (headV W 3) (16 * k.val + 16) ((trip_k0_t1 (F := Ideal) 𝒱 c bd i arg3 harg3 arg4 harg4 arg5 harg5 arg6 harg6 arg7 harg7 arg8 harg8 arg9 harg9 arg10 harg10 v0 v1 v2 v4 v14 v24 v33 X_arg4 X_arg5 k).1 acc f_arg7 f_arg8 f_arg9 f_arg10).2.2.2.2.2.2.1
      ((trip_k0_t1 (F := Ideal) 𝒱 c bd i arg3 harg3 arg4 harg4 arg5 harg5 arg6 harg6 arg7 harg7 arg8 harg8 arg9 harg9 arg10 harg10 v0 v1 v2 v4 v14 v24 v33 X_arg4 X_arg5 k).1 acc f_arg7 f_arg8 f_arg9 f_arg10).2.2.2.2.2.2.2 := by
  have hk : k.val < 2 := Nat.lt_of_lt_of_le k.isLt k0_t1_abs.2.1
  unfold trip_k0_t1
  dsimp only
  iterate 15
    refine Good.back rfl rfl ho ?_ ?_ ?_
    · refine Scores.hit ?_
      refine Scores.keys hK hx ?_ ?_ (ClosedOff.eq.trans (vec3 rfl ?_ ?_)) <;> omega
    · refine Vals.rows hW ?_ ?_ (ClosedOff.eq.trans (vec2 ?_ ?_)) <;> omega
  exact Good.back rfl rfl ho hs.h3 (Vals.rows hW (by omega) (by omega) (ClosedOff.eq.trans (vec2 (by omega) (by omega)))) h.h3
end

set_option maxHeartbeats 4000000 in
/-- The first trip leaves head 0's next scores in the buffer. -/
theorem trip1_stored0 (hK : KeysAre K (arg4.view.read (Elt Ideal) X_arg4)) (hx : HeadScores K 0 v4 (S 0)) (hk : k.val = 0) :
    Scores (S 0) (16 * k.val + 16) (arg7.view.readAt (Elt Ideal) (Rect.unit (s := S4x512x256) ![0, 0, 0] S1x512x256.size inb_S4x512x256_S1x512x256_0_0_0).toLoadRect
      (arg7.view.writes (Elt Ideal) f_arg7 ((trip_k0_t1 (F := Ideal) 𝒱 c bd i arg3 harg3 arg4 harg4 arg5 harg5 arg6 harg6 arg7 harg7 arg8 harg8 arg9 harg9 arg10 harg10 v0 v1 v2 v4 v14 v24 v33 X_arg4 X_arg5 k).2.1 acc f_arg7 f_arg8 f_arg9 f_arg10))) := by
  unfold trip_k0_t1
  dsimp only
  iterate 3 refine Scores.skip' (by decide +kernel) ?_
  refine Scores.hit' ?_
  refine Scores.keys hK hx ?_ ?_ (ClosedOff.eq.trans (vec3 rfl ?_ ?_)) <;> omega

set_option maxHeartbeats 4000000 in
/-- The first trip leaves head 1's next scores in the buffer. -/
theorem trip1_stored1 (hK : KeysAre K (arg4.view.read (Elt Ideal) X_arg4)) (hx : HeadScores K 1 v14 (S 1)) (hk : k.val = 0) :
    Scores (S 1) (16 * k.val + 16) (arg7.view.readAt (Elt Ideal) (Rect.unit (s := S4x512x256) ![1, 0, 0] S1x512x256.size inb_S4x512x256_S1x512x256_1_0_0).toLoadRect
      (arg7.view.writes (Elt Ideal) f_arg7 ((trip_k0_t1 (F := Ideal) 𝒱 c bd i arg3 harg3 arg4 harg4 arg5 harg5 arg6 harg6 arg7 harg7 arg8 harg8 arg9 harg9 arg10 harg10 v0 v1 v2 v4 v14 v24 v33 X_arg4 X_arg5 k).2.1 acc f_arg7 f_arg8 f_arg9 f_arg10))) := by
  unfold trip_k0_t1
  dsimp only
  iterate 2 refine Scores.skip' (by decide +kernel) ?_
  refine Scores.hit' ?_
  refine Scores.keys hK hx ?_ ?_ (ClosedOff.eq.trans (vec3 rfl ?_ ?_)) <;> omega

set_option maxHeartbeats 4000000 in
/-- The first trip leaves head 2's next scores in the buffer. -/
theorem trip1_stored2 (hK : KeysAre K (arg4.view.read (Elt Ideal) X_arg4)) (hx : HeadScores K 2 v24 (S 2)) (hk : k.val = 0) :
    Scores (S 2) (16 * k.val + 16) (arg7.view.readAt (Elt Ideal) (Rect.unit (s := S4x512x256) ![2, 0, 0] S1x512x256.size inb_S4x512x256_S1x512x256_2_0_0).toLoadRect
      (arg7.view.writes (Elt Ideal) f_arg7 ((trip_k0_t1 (F := Ideal) 𝒱 c bd i arg3 harg3 arg4 harg4 arg5 harg5 arg6 harg6 arg7 harg7 arg8 harg8 arg9 harg9 arg10 harg10 v0 v1 v2 v4 v14 v24 v33 X_arg4 X_arg5 k).2.1 acc f_arg7 f_arg8 f_arg9 f_arg10))) := by
  unfold trip_k0_t1
  dsimp only
  iterate 1 refine Scores.skip' (by decide +kernel) ?_
  refine Scores.hit' ?_
  refine Scores.keys hK hx ?_ ?_ (ClosedOff.eq.trans (vec3 rfl ?_ ?_)) <;> omega

set_option maxHeartbeats 4000000 in
/-- The first trip leaves head 3's next scores in the buffer. -/
theorem trip1_stored3 (hK : KeysAre K (arg4.view.read (Elt Ideal) X_arg4)) (hx : HeadScores K 3 (k0_pay612 (F := Ideal) v33) (S 3)) (hk : k.val = 0) :
    Scores (S 3) (16 * k.val + 16) (arg7.view.readAt (Elt Ideal) (Rect.unit (s := S4x512x256) ![3, 0, 0] S1x512x256.size inb_S4x512x256_S1x512x256_3_0_0).toLoadRect
      (arg7.view.writes (Elt Ideal) f_arg7 ((trip_k0_t1 (F := Ideal) 𝒱 c bd i arg3 harg3 arg4 harg4 arg5 harg5 arg6 harg6 arg7 harg7 arg8 harg8 arg9 harg9 arg10 harg10 v0 v1 v2 v4 v14 v24 v33 X_arg4 X_arg5 k).2.1 acc f_arg7 f_arg8 f_arg9 f_arg10))) := by
  unfold trip_k0_t1
  dsimp only
  refine Scores.hit' ?_
  refine Scores.keys hK hx ?_ ?_ (ClosedOff.eq.trans (vec3 rfl ?_ ?_)) <;> omega

end Cert.Attn
-- ==== Proof.Trip2.lean ====
module

public import proofs.«01_k».proof.Proof.State
public import proofs.«01_k».proof.Proof.Gen.KernelIdeal.Loops

/-! # One trip of the second tile's loop

Sixteen stages: each takes the scores the stage before left in a buffer (the first, those the trip finds) and the values
of its own piece. -/

@[expose] public section

set_option maxRecDepth 1000000

noncomputable section
open Idealize.ShloMosaic Idealize.ShloMosaic.TcCoe Idealize.SL.Sem
namespace Cert.Attn
open Cert.KernelIdeal Cert.KernelIdeal.Gen

variable (𝒱 : Variants) (c : Dev nD) (bd : Option 𝒱.V) (i : grid0.Coords) (arg3 : Memref sig .tc .vmem S1x512x512 .bf16) (harg3 : arg3.IsWhole) (arg4 : Memref sig .tc .vmem S1x16384x512 .bf16) (harg4 : arg4.IsWhole) (arg5 : Memref sig .tc .vmem S256x16384 .bf16) (harg5 : arg5.IsWhole) (arg6 : Memref sig .tc .vmem S1x512x256 .bf16) (harg6 : arg6.IsWhole) (arg7 : Memref sig .tc .vmem S4x512x256 .f32) (harg7 : arg7.IsWhole) (arg8 : Memref sig .tc .vmem S4x512x256 .f32) (harg8 : arg8.IsWhole) (arg9 : Memref sig .tc .vmem S4x512x256 .f32) (harg9 : arg9.IsWhole) (arg10 : Memref sig .tc .vmem S4x512x256 .f32) (harg10 : arg10.IsWhole) (v0 : FVec Ideal S16x512 .bf16) (v1 : FVec Ideal S1x256 .f32) (v2 : FVec Ideal S80x256 .f32) (v68 : FVec Ideal S256x128 .bf16) (v78 : FVec Ideal S256x128 .bf16) (v88 : FVec Ideal S256x128 .bf16) (v92 : FVec Ideal S512x128 .bf16) (cst_65 : FVec Ideal S512x256 .f32) (v97 : Vec Ideal S1x256x128 .bf16) (X_arg4 : BufTy.Contents (Elt Ideal) arg4.view.ty) (X_arg5 : BufTy.Contents (Elt Ideal) arg5.view.ty) (k : Fin k0_t2_loop.trips) (acc : FVec Ideal S1x256 .f32 × FVec Ideal S80x256 .f32 × FVec Ideal S1x256 .f32 × FVec Ideal S80x256 .f32 × FVec Ideal S1x256 .f32 × FVec Ideal S80x256 .f32 × FVec Ideal S1x256 .f32 × FVec Ideal S80x256 .f32) (f_arg7 : BufTy.Contents (Elt Ideal) arg7.view.ty) (f_arg8 : BufTy.Contents (Elt Ideal) arg8.view.ty) (f_arg9 : BufTy.Contents (Elt Ideal) arg9.view.ty) (f_arg10 : BufTy.Contents (Elt Ideal) arg10.view.ty)

variable {K W : ℕ → ℕ → EReal} {S : Fin 4 → Fin 256 → ℕ → ℝ}

section
variable (ho : Ones v0) (hK : KeysAre K (arg4.view.read (Elt Ideal) X_arg4)) (hW : ValuesAre W (arg5.view.read (Elt Ideal) X_arg5))
include ho hK hW

set_option maxHeartbeats 4000000 in
/-- Head 0: sixteen pieces more. -/
theorem trip2_head0 (hx : HeadScores K 0 v68 (S 0)) (hs : Held arg7.view S (16 * k.val) f_arg7) (h : State S W (16 * k.val) acc) :
    Good (S 0) (headV W 0) (16 * k.val + 16) ((trip_k0_t2 (F := Ideal) 𝒱 c bd i arg3 harg3 arg4 harg4 arg5 harg5 arg6 harg6 arg7 harg7 arg8 harg8 arg9 harg9 arg10 harg10 v0 v1 v2 v68 v78 v88 v92 cst_65 v97 X_arg4 X_arg5 k).1 acc f_arg7 f_arg8 f_arg9 f_arg10).1
      ((trip_k0_t2 (F := Ideal) 𝒱 c bd i arg3 harg3 arg4 harg4 arg5 harg5 arg6 harg6 arg7 harg7 arg8 harg8 arg9 harg9 arg10 harg10 v0 v1 v2 v68 v78 v88 v92 cst_65 v97 X_arg4 X_arg5 k).1 acc f_arg7 f_arg8 f_arg9 f_arg10).2.1 := by
  have hk : k.val < 2 := Nat.lt_of_lt_of_le k.isLt k0_t2_abs.2.1
  unfold trip_k0_t2
  dsimp only
  iterate 15
    refine Good.back rfl rfl ho ?_ ?_ ?_
    · iterate 3 refine Scores.skip (by decide +kernel) ?_
      refine Scores.hit ?_
      refine Scores.keys hK hx ?_ ?_ (ClosedOff.eq.trans (vec3 rfl ?_ ?_)) <;> omega
    · refine Vals.rows hW ?_ ?_ (ClosedOff.eq.trans (vec2 ?_ ?_)) <;> omega
  exact Good.back rfl rfl ho hs.h0 (Vals.rows hW (by omega) (by omega) (ClosedOff.eq.trans (vec2 (by omega) (by omega)))) h.h0

set_option maxHeartbeats 4000000 in
/-- Head 1: sixteen pieces more. -/
theorem trip2_head1 (hx : HeadScores K 1 v78 (S 1)) (hs : Held arg7.view S (16 * k.val) f_arg7) (h : State S W (16 * k.val) acc) :
    Good (S 1) (headV W 1) (16 * k.val + 16) ((trip_k0_t2 (F := Ideal) 𝒱 c bd i arg3 harg3 arg4 harg4 arg5 harg5 arg6 harg6 arg7 harg7 arg8 harg8 arg9 harg9 arg10 harg10 v0 v1 v2 v68 v78 v88 v92 cst_65 v97 X_arg4 X_arg5 k).1 acc f_arg7 f_arg8 f_arg9 f_arg10).2.2.1
      ((trip_k0_t2 (F := Ideal) 𝒱 c bd i arg3 harg3 arg4 harg4 arg5 harg5 arg6 harg6 arg7 harg7 arg8 harg8 arg9 harg9 arg10 harg10 v0 v1 v2 v68 v78 v88 v92 cst_65 v97 X_arg4 X_arg5 k).1 acc f_arg7 f_arg8 f_arg9 f_arg10).2.2.2.1 := by
  have hk : k.val < 2 := Nat.lt_of_lt_of_le k.isLt k0_t2_abs.2.1
  unfold trip_k0_t2
  dsimp only
  iterate 15
    refine Good.back rfl rfl ho ?_ ?_ ?_
    · iterate 2 refine Scores.skip (by decide +kernel) ?_
      refine Scores.hit ?_
      refine Scores.keys hK hx ?_ ?_ (ClosedOff.eq.trans (vec3 rfl ?_ ?_)) <;> omega
    · refine Vals.rows hW ?_ ?_ (ClosedOff.eq.trans (vec2 ?_ ?_)) <;> omega
  exact Good.back rfl rfl ho hs.h1 (Vals.rows hW (by omega) (by omega) (ClosedOff.eq.trans (vec2 (by omega) (by omega)))) h.h1

set_option maxHeartbeats 4000000 in
/-- Head 2: sixteen pieces more. -/
theorem trip2_head2 (hx : HeadScores K 2 v88 (S 2)) (hs : Held arg7.view S (16 * k.val) f_arg7) (h : State S W (16 * k.val) acc) :
    Good (S 2) (headV W 2) (16 * k.val + 16) ((trip_k0_t2 (F := Ideal) 𝒱 c bd i arg3 harg3 arg4 harg4 arg5 harg5 arg6 harg6 arg7 harg7 arg8 harg8 arg9 harg9 arg10 harg10 v0 v1 v2 v68 v78 v88 v92 cst_65 v97 X_arg4 X_arg5 k).1 acc f_arg7 f_arg8 f_arg9 f_arg10).2.2.2.2.1
      ((trip_k0_t2 (F := Ideal) 𝒱 c bd i arg3 harg3 arg4 harg4 arg5 harg5 arg6 harg6 arg7 harg7 arg8 harg8 arg9 harg9 arg10 harg10 v0 v1 v2 v68 v78 v88 v92 cst_65 v97 X_arg4 X_arg5 k).1 acc f_arg7 f_arg8 f_arg9 f_arg10).2.2.2.2.2.1 := by
  have hk : k.val < 2 := Nat.lt_of_lt_of_le k.isLt k0_t2_abs.2.1
  unfold trip_k0_t2
  dsimp only
  iterate 15
    refine Good.back rfl rfl ho ?_ ?_ ?_
    · iterate 1 refine Scores.skip (by decide +kernel) ?_
      refine Scores.hit ?_
      refine Scores.keys hK hx ?_ ?_ (ClosedOff.eq.trans (vec3 rfl ?_ ?_)) <;> omega
    · refine Vals.rows hW ?_ ?_ (ClosedOff.eq.trans (vec2 ?_ ?_)) <;> omega
  exact Good.back rfl rfl ho hs.h2 (Vals.rows hW (by omega) (by omega) (ClosedOff.eq.trans (vec2 (by omega) (by omega)))) h.h2

set_option maxHeartbeats 4000000 in
/-- Head 3: sixteen pieces more. -/
theorem trip2_head3 (hx : HeadScores K 3 (k0_pay624 (F := Ideal) v97) (S 3)) (hs : Held arg7.view S (16 * k.val) f_arg7) (h : State S W (16 * k.val) acc) :
    Good (S 3) (headV W 3) (16 * k.val + 16) ((trip_k0_t2 (F := Ideal) 𝒱 c bd i arg3 harg3 arg4 harg4 arg5 harg5 arg6 harg6 arg7 harg7 arg8 harg8 arg9 harg9 arg10 harg10 v0 v1 v2 v68 v78 v88 v92 cst_65 v97 X_arg4 X_arg5 k).1 acc f_arg7 f_arg8 f_arg9 f_arg10).2.2.2.2.2.2.1
      ((trip_k0_t2 (F := Ideal) 𝒱 c bd i arg3 harg3 arg4 harg4 arg5 harg5 arg6 harg6 arg7 harg7 arg8 harg8 arg9 harg9 arg10 harg10 v0 v1 v2 v68 v78 v88 v92 cst_65 v97 X_arg4 X_arg5 k).1 acc f_arg7 f_arg8 f_arg9 f_arg10).2.2.2.2.2.2.2 := by
  have hk : k.val < 2 := Nat.lt_of_lt_of_le k.isLt k0_t2_abs.2.1
  unfold trip_k0_t2
  dsimp only
  iterate 15
    refine Good.back rfl rfl ho ?_ ?_ ?_
    · refine Scores.hit ?_
      refine Scores.keys hK hx ?_ ?_ (ClosedOff.eq.trans (vec3 rfl ?_ ?_)) <;> omega
    · refine Vals.rows hW ?_ ?_ (ClosedOff.eq.trans (vec2 ?_ ?_)) <;> omega
  exact Good.back rfl rfl ho hs.h3 (Vals.rows hW (by omega) (by omega) (ClosedOff.eq.trans (vec2 (by omega) (by omega)))) h.h3
end

set_option maxHeartbeats 4000000 in
/-- The first trip leaves head 0's next scores in the buffer. -/
theorem trip2_stored0 (hK : KeysAre K (arg4.view.read (Elt Ideal) X_arg4)) (hx : HeadScores K 0 v68 (S 0)) (hk : k.val = 0) :
    Scores (S 0) (16 * k.val + 16) (arg7.view.readAt (Elt Ideal) (Rect.unit (s := S4x512x256) ![0, 0, 0] S1x512x256.size inb_S4x512x256_S1x512x256_0_0_0).toLoadRect
      (arg7.view.writes (Elt Ideal) f_arg7 ((trip_k0_t2 (F := Ideal) 𝒱 c bd i arg3 harg3 arg4 harg4 arg5 harg5 arg6 harg6 arg7 harg7 arg8 harg8 arg9 harg9 arg10 harg10 v0 v1 v2 v68 v78 v88 v92 cst_65 v97 X_arg4 X_arg5 k).2.1 acc f_arg7 f_arg8 f_arg9 f_arg10))) := by
  unfold trip_k0_t2
  dsimp only
  iterate 3 refine Scores.skip' (by decide +kernel) ?_
  refine Scores.hit' ?_
  refine Scores.keys hK hx ?_ ?_ (ClosedOff.eq.trans (vec3 rfl ?_ ?_)) <;> omega

set_option maxHeartbeats 4000000 in
/-- The first trip leaves head 1's next scores in the buffer. -/
theorem trip2_stored1 (hK : KeysAre K (arg4.view.read (Elt Ideal) X_arg4)) (hx : HeadScores K 1 v78 (S 1)) (hk : k.val = 0) :
    Scores (S 1) (16 * k.val + 16) (arg7.view.readAt (Elt Ideal) (Rect.unit (s := S4x512x256) ![1, 0, 0] S1x512x256.size inb_S4x512x256_S1x512x256_1_0_0).toLoadRect
      (arg7.view.writes (Elt Ideal) f_arg7 ((trip_k0_t2 (F := Ideal) 𝒱 c bd i arg3 harg3 arg4 harg4 arg5 harg5 arg6 harg6 arg7 harg7 arg8 harg8 arg9 harg9 arg10 harg10 v0 v1 v2 v68 v78 v88 v92 cst_65 v97 X_arg4 X_arg5 k).2.1 acc f_arg7 f_arg8 f_arg9 f_arg10))) := by
  unfold trip_k0_t2
  dsimp only
  iterate 2 refine Scores.skip' (by decide +kernel) ?_
  refine Scores.hit' ?_
  refine Scores.keys hK hx ?_ ?_ (ClosedOff.eq.trans (vec3 rfl ?_ ?_)) <;> omega

set_option maxHeartbeats 4000000 in
/-- The first trip leaves head 2's next scores in the buffer. -/
theorem trip2_stored2 (hK : KeysAre K (arg4.view.read (Elt Ideal) X_arg4)) (hx : HeadScores K 2 v88 (S 2)) (hk : k.val = 0) :
    Scores (S 2) (16 * k.val + 16) (arg7.view.readAt (Elt Ideal) (Rect.unit (s := S4x512x256) ![2, 0, 0] S1x512x256.size inb_S4x512x256_S1x512x256_2_0_0).toLoadRect
      (arg7.view.writes (Elt Ideal) f_arg7 ((trip_k0_t2 (F := Ideal) 𝒱 c bd i arg3 harg3 arg4 harg4 arg5 harg5 arg6 harg6 arg7 harg7 arg8 harg8 arg9 harg9 arg10 harg10 v0 v1 v2 v68 v78 v88 v92 cst_65 v97 X_arg4 X_arg5 k).2.1 acc f_arg7 f_arg8 f_arg9 f_arg10))) := by
  unfold trip_k0_t2
  dsimp only
  iterate 1 refine Scores.skip' (by decide +kernel) ?_
  refine Scores.hit' ?_
  refine Scores.keys hK hx ?_ ?_ (ClosedOff.eq.trans (vec3 rfl ?_ ?_)) <;> omega

set_option maxHeartbeats 4000000 in
/-- The first trip leaves head 3's next scores in the buffer. -/
theorem trip2_stored3 (hK : KeysAre K (arg4.view.read (Elt Ideal) X_arg4)) (hx : HeadScores K 3 (k0_pay624 (F := Ideal) v97) (S 3)) (hk : k.val = 0) :
    Scores (S 3) (16 * k.val + 16) (arg7.view.readAt (Elt Ideal) (Rect.unit (s := S4x512x256) ![3, 0, 0] S1x512x256.size inb_S4x512x256_S1x512x256_3_0_0).toLoadRect
      (arg7.view.writes (Elt Ideal) f_arg7 ((trip_k0_t2 (F := Ideal) 𝒱 c bd i arg3 harg3 arg4 harg4 arg5 harg5 arg6 harg6 arg7 harg7 arg8 harg8 arg9 harg9 arg10 harg10 v0 v1 v2 v68 v78 v88 v92 cst_65 v97 X_arg4 X_arg5 k).2.1 acc f_arg7 f_arg8 f_arg9 f_arg10))) := by
  unfold trip_k0_t2
  dsimp only
  refine Scores.hit' ?_
  refine Scores.keys hK hx ?_ ?_ (ClosedOff.eq.trans (vec3 rfl ?_ ?_)) <;> omega

end Cert.Attn
-- ==== Proof.LoopValue.lean ====
module

public import proofs.«01_k».proof.Proof.Trip1
public import proofs.«01_k».proof.Proof.Trip2

/-! # The two loops

Two trips of sixteen pieces take a tile through all 32 pieces of keys. -/

@[expose] public section

set_option maxRecDepth 16384

noncomputable section
open Idealize.ShloMosaic Idealize.ShloMosaic.TcCoe Idealize.SL.Sem
namespace Cert.Attn
open Cert.KernelIdeal Cert.KernelIdeal.Gen

/-- Each loop makes two trips. -/
theorem k0_t1_trips : k0_t1_loop.trips = 2 := by decide +kernel
theorem k0_t2_trips : k0_t2_loop.trips = 2 := by decide +kernel

/-- The four heads' products of keys and queries are the reals `S`. -/
structure AllScores (K : ℕ → ℕ → EReal) (x0 x1 x2 x3 : FVec Ideal S256x128 .bf16) (S : Fin 4 → Fin 256 → ℕ → ℝ) : Prop where
  h0 : HeadScores K 0 x0 (S 0)
  h1 : HeadScores K 1 x1 (S 1)
  h2 : HeadScores K 2 x2 (S 2)
  h3 : HeadScores K 3 x3 (S 3)

section
variable (𝒱 : Variants) (c : Dev nD) (bd : Option 𝒱.V) (i : grid0.Coords) (arg3 : Memref sig .tc .vmem S1x512x512 .bf16) (harg3 : arg3.IsWhole) (arg4 : Memref sig .tc .vmem S1x16384x512 .bf16) (harg4 : arg4.IsWhole) (arg5 : Memref sig .tc .vmem S256x16384 .bf16) (harg5 : arg5.IsWhole) (arg6 : Memref sig .tc .vmem S1x512x256 .bf16) (harg6 : arg6.IsWhole) (arg7 : Memref sig .tc .vmem S4x512x256 .f32) (harg7 : arg7.IsWhole) (arg8 : Memref sig .tc .vmem S4x512x256 .f32) (harg8 : arg8.IsWhole) (arg9 : Memref sig .tc .vmem S4x512x256 .f32) (harg9 : arg9.IsWhole) (arg10 : Memref sig .tc .vmem S4x512x256 .f32) (harg10 : arg10.IsWhole) (v0 : FVec Ideal S16x512 .bf16) (v1 : FVec Ideal S1x256 .f32) (v2 : FVec Ideal S80x256 .f32) (v4 : FVec Ideal S256x128 .bf16) (v14 : FVec Ideal S256x128 .bf16) (v24 : FVec Ideal S256x128 .bf16) (v33 : Vec Ideal S1x256x128 .bf16) (X_arg4 : BufTy.Contents (Elt Ideal) arg4.view.ty) (X_arg5 : BufTy.Contents (Elt Ideal) arg5.view.ty)
  (G7 : BufTy.Contents (Elt Ideal) arg7.view.ty) (G8 : BufTy.Contents (Elt Ideal) arg8.view.ty) (G9 : BufTy.Contents (Elt Ideal) arg9.view.ty) (G10 : BufTy.Contents (Elt Ideal) arg10.view.ty) (init : Acc)

/-- Before trip `k` of the first tile's loop the first `16 k` pieces are in and, the loop not over, the first buffer holds
    piece `16 k`'s scores. -/
theorem loop1 {K W : ℕ → ℕ → EReal} {S : Fin 4 → Fin 256 → ℕ → ℝ}
    (ho : Ones v0) (hK : KeysAre K (arg4.view.read (Elt Ideal) X_arg4)) (hW : ValuesAre W (arg5.view.read (Elt Ideal) X_arg5))
    (hx : AllScores K v4 v14 v24 (k0_pay612 (F := Ideal) v33) S) (hs : Held arg7.view S 0 G7) (h : State S W 0 init) (k : ℕ) (hk : k ≤ 2) :
    State S W (16 * k) (st_k0_t1 (F := Ideal) 𝒱 c bd i arg3 harg3 arg4 harg4 arg5 harg5 arg6 harg6 arg7 harg7 arg8 harg8 arg9 harg9 arg10 harg10 v0 v1 v2 v4 v14 v24 v33 X_arg4 X_arg5 G7 G8 G9 G10 init k).1
      ∧ (k < 2 → Held arg7.view S (16 * k) (arg7.view.writes (Elt Ideal) G7 (st_k0_t1 (F := Ideal) 𝒱 c bd i arg3 harg3 arg4 harg4 arg5 harg5 arg6 harg6 arg7 harg7 arg8 harg8 arg9 harg9 arg10 harg10 v0 v1 v2 v4 v14 v24 v33 X_arg4 X_arg5 G7 G8 G9 G10 init k).2.1)) := by
  induction k with
  | zero => exact ⟨h, fun _ => hs⟩
  | succ k ih =>
    obtain ⟨hS, hH⟩ := ih (by omega)
    have hH := hH (by omega)
    have hlt : k < k0_t1_loop.trips := by rw [k0_t1_trips]; omega
    rw [st_k0_t1_succ (F := Ideal) 𝒱 c bd i arg3 harg3 arg4 harg4 arg5 harg5 arg6 harg6 arg7 harg7 arg8 harg8 arg9 harg9 arg10 harg10 v0 v1 v2 v4 v14 v24 v33 X_arg4 X_arg5 G7 G8 G9 G10 init ⟨k, hlt⟩]
    refine ⟨⟨?_, ?_, ?_, ?_⟩, fun hk2 => ?_⟩
    · exact trip1_head0 𝒱 c bd i arg3 harg3 arg4 harg4 arg5 harg5 arg6 harg6 arg7 harg7 arg8 harg8 arg9 harg9 arg10 harg10 v0 v1 v2 v4 v14 v24 v33 X_arg4 X_arg5 ⟨k, hlt⟩ _ _ _ _ _ ho hK hW hx.h0 hH hS
    · exact trip1_head1 𝒱 c bd i arg3 harg3 arg4 harg4 arg5 harg5 arg6 harg6 arg7 harg7 arg8 harg8 arg9 harg9 arg10 harg10 v0 v1 v2 v4 v14 v24 v33 X_arg4 X_arg5 ⟨k, hlt⟩ _ _ _ _ _ ho hK hW hx.h1 hH hS
    · exact trip1_head2 𝒱 c bd i arg3 harg3 arg4 harg4 arg5 harg5 arg6 harg6 arg7 harg7 arg8 harg8 arg9 harg9 arg10 harg10 v0 v1 v2 v4 v14 v24 v33 X_arg4 X_arg5 ⟨k, hlt⟩ _ _ _ _ _ ho hK hW hx.h2 hH hS
    · exact trip1_head3 𝒱 c bd i arg3 harg3 arg4 harg4 arg5 harg5 arg6 harg6 arg7 harg7 arg8 harg8 arg9 harg9 arg10 harg10 v0 v1 v2 v4 v14 v24 v33 X_arg4 X_arg5 ⟨k, hlt⟩ _ _ _ _ _ ho hK hW hx.h3 hH hS
    · have hk0 : k = 0 := by omega
      dsimp only
      rw [View.writes_append]
      exact ⟨
        trip1_stored0 𝒱 c bd i arg3 harg3 arg4 harg4 arg5 harg5 arg6 harg6 arg7 harg7 arg8 harg8 arg9 harg9 arg10 harg10 v0 v1 v2 v4 v14 v24 v33 X_arg4 X_arg5 ⟨k, hlt⟩ _ _ _ _ _ hK hx.h0 hk0,
        trip1_stored1 𝒱 c bd i arg3 harg3 arg4 harg4 arg5 harg5 arg6 harg6 arg7 harg7 arg8 harg8 arg9 harg9 arg10 harg10 v0 v1 v2 v4 v14 v24 v33 X_arg4 X_arg5 ⟨k, hlt⟩ _ _ _ _ _ hK hx.h1 hk0,
        trip1_stored2 𝒱 c bd i arg3 harg3 arg4 harg4 arg5 harg5 arg6 harg6 arg7 harg7 arg8 harg8 arg9 harg9 arg10 harg10 v0 v1 v2 v4 v14 v24 v33 X_arg4 X_arg5 ⟨k, hlt⟩ _ _ _ _ _ hK hx.h2 hk0,
        trip1_stored3 𝒱 c bd i arg3 harg3 arg4 harg4 arg5 harg5 arg6 harg6 arg7 harg7 arg8 harg8 arg9 harg9 arg10 harg10 v0 v1 v2 v4 v14 v24 v33 X_arg4 X_arg5 ⟨k, hlt⟩ _ _ _ _ _ hK hx.h3 hk0⟩
end

section
variable (𝒱 : Variants) (c : Dev nD) (bd : Option 𝒱.V) (i : grid0.Coords) (arg3 : Memref sig .tc .vmem S1x512x512 .bf16) (harg3 : arg3.IsWhole) (arg4 : Memref sig .tc .vmem S1x16384x512 .bf16) (harg4 : arg4.IsWhole) (arg5 : Memref sig .tc .vmem S256x16384 .bf16) (harg5 : arg5.IsWhole) (arg6 : Memref sig .tc .vmem S1x512x256 .bf16) (harg6 : arg6.IsWhole) (arg7 : Memref sig .tc .vmem S4x512x256 .f32) (harg7 : arg7.IsWhole) (arg8 : Memref sig .tc .vmem S4x512x256 .f32) (harg8 : arg8.IsWhole) (arg9 : Memref sig .tc .vmem S4x512x256 .f32) (harg9 : arg9.IsWhole) (arg10 : Memref sig .tc .vmem S4x512x256 .f32) (harg10 : arg10.IsWhole) (v0 : FVec Ideal S16x512 .bf16) (v1 : FVec Ideal S1x256 .f32) (v2 : FVec Ideal S80x256 .f32) (v68 : FVec Ideal S256x128 .bf16) (v78 : FVec Ideal S256x128 .bf16) (v88 : FVec Ideal S256x128 .bf16) (v92 : FVec Ideal S512x128 .bf16) (cst_65 : FVec Ideal S512x256 .f32) (v97 : Vec Ideal S1x256x128 .bf16) (X_arg4 : BufTy.Contents (Elt Ideal) arg4.view.ty) (X_arg5 : BufTy.Contents (Elt Ideal) arg5.view.ty)
  (G7 : BufTy.Contents (Elt Ideal) arg7.view.ty) (G8 : BufTy.Contents (Elt Ideal) arg8.view.ty) (G9 : BufTy.Contents (Elt Ideal) arg9.view.ty) (G10 : BufTy.Contents (Elt Ideal) arg10.view.ty) (init : Acc)

/-- Before trip `k` of the second tile's loop the first `16 k` pieces are in and, the loop not over, the first buffer holds
    piece `16 k`'s scores. -/
theorem loop2 {K W : ℕ → ℕ → EReal} {S : Fin 4 → Fin 256 → ℕ → ℝ}
    (ho : Ones v0) (hK : KeysAre K (arg4.view.read (Elt Ideal) X_arg4)) (hW : ValuesAre W (arg5.view.read (Elt Ideal) X_arg5))
    (hx : AllScores K v68 v78 v88 (k0_pay624 (F := Ideal) v97) S) (hs : Held arg7.view S 0 G7) (h : State S W 0 init) (k : ℕ) (hk : k ≤ 2) :
    State S W (16 * k) (st_k0_t2 (F := Ideal) 𝒱 c bd i arg3 harg3 arg4 harg4 arg5 harg5 arg6 harg6 arg7 harg7 arg8 harg8 arg9 harg9 arg10 harg10 v0 v1 v2 v68 v78 v88 v92 cst_65 v97 X_arg4 X_arg5 G7 G8 G9 G10 init k).1
      ∧ (k < 2 → Held arg7.view S (16 * k) (arg7.view.writes (Elt Ideal) G7 (st_k0_t2 (F := Ideal) 𝒱 c bd i arg3 harg3 arg4 harg4 arg5 harg5 arg6 harg6 arg7 harg7 arg8 harg8 arg9 harg9 arg10 harg10 v0 v1 v2 v68 v78 v88 v92 cst_65 v97 X_arg4 X_arg5 G7 G8 G9 G10 init k).2.1)) := by
  induction k with
  | zero => exact ⟨h, fun _ => hs⟩
  | succ k ih =>
    obtain ⟨hS, hH⟩ := ih (by omega)
    have hH := hH (by omega)
    have hlt : k < k0_t2_loop.trips := by rw [k0_t2_trips]; omega
    rw [st_k0_t2_succ (F := Ideal) 𝒱 c bd i arg3 harg3 arg4 harg4 arg5 harg5 arg6 harg6 arg7 harg7 arg8 harg8 arg9 harg9 arg10 harg10 v0 v1 v2 v68 v78 v88 v92 cst_65 v97 X_arg4 X_arg5 G7 G8 G9 G10 init ⟨k, hlt⟩]
    refine ⟨⟨?_, ?_, ?_, ?_⟩, fun hk2 => ?_⟩
    · exact trip2_head0 𝒱 c bd i arg3 harg3 arg4 harg4 arg5 harg5 arg6 harg6 arg7 harg7 arg8 harg8 arg9 harg9 arg10 harg10 v0 v1 v2 v68 v78 v88 v92 cst_65 v97 X_arg4 X_arg5 ⟨k, hlt⟩ _ _ _ _ _ ho hK hW hx.h0 hH hS
    · exact trip2_head1 𝒱 c bd i arg3 harg3 arg4 harg4 arg5 harg5 arg6 harg6 arg7 harg7 arg8 harg8 arg9 harg9 arg10 harg10 v0 v1 v2 v68 v78 v88 v92 cst_65 v97 X_arg4 X_arg5 ⟨k, hlt⟩ _ _ _ _ _ ho hK hW hx.h1 hH hS
    · exact trip2_head2 𝒱 c bd i arg3 harg3 arg4 harg4 arg5 harg5 arg6 harg6 arg7 harg7 arg8 harg8 arg9 harg9 arg10 harg10 v0 v1 v2 v68 v78 v88 v92 cst_65 v97 X_arg4 X_arg5 ⟨k, hlt⟩ _ _ _ _ _ ho hK hW hx.h2 hH hS
    · exact trip2_head3 𝒱 c bd i arg3 harg3 arg4 harg4 arg5 harg5 arg6 harg6 arg7 harg7 arg8 harg8 arg9 harg9 arg10 harg10 v0 v1 v2 v68 v78 v88 v92 cst_65 v97 X_arg4 X_arg5 ⟨k, hlt⟩ _ _ _ _ _ ho hK hW hx.h3 hH hS
    · have hk0 : k = 0 := by omega
      dsimp only
      rw [View.writes_append]
      exact ⟨
        trip2_stored0 𝒱 c bd i arg3 harg3 arg4 harg4 arg5 harg5 arg6 harg6 arg7 harg7 arg8 harg8 arg9 harg9 arg10 harg10 v0 v1 v2 v68 v78 v88 v92 cst_65 v97 X_arg4 X_arg5 ⟨k, hlt⟩ _ _ _ _ _ hK hx.h0 hk0,
        trip2_stored1 𝒱 c bd i arg3 harg3 arg4 harg4 arg5 harg5 arg6 harg6 arg7 harg7 arg8 harg8 arg9 harg9 arg10 harg10 v0 v1 v2 v68 v78 v88 v92 cst_65 v97 X_arg4 X_arg5 ⟨k, hlt⟩ _ _ _ _ _ hK hx.h1 hk0,
        trip2_stored2 𝒱 c bd i arg3 harg3 arg4 harg4 arg5 harg5 arg6 harg6 arg7 harg7 arg8 harg8 arg9 harg9 arg10 harg10 v0 v1 v2 v68 v78 v88 v92 cst_65 v97 X_arg4 X_arg5 ⟨k, hlt⟩ _ _ _ _ _ hK hx.h2 hk0,
        trip2_stored3 𝒱 c bd i arg3 harg3 arg4 harg4 arg5 harg5 arg6 harg6 arg7 harg7 arg8 harg8 arg9 harg9 arg10 harg10 v0 v1 v2 v68 v78 v88 v92 cst_65 v97 X_arg4 X_arg5 ⟨k, hlt⟩ _ _ _ _ _ hK hx.h3 hk0⟩
end

end Cert.Attn
-- ==== Proof.Spec.lean ====
module

public import proofs.«01_k».proof.Proof.Softmax
public import Idealize.ShloMosaic.Lib.ValueIdx

/-! # The attention, in numbers

What both programs compute over the reals: per batch row and head, the softmax of a query's scores (base two) over the keys,
times the values. -/

@[expose] public section

noncomputable section
open Idealize.ShloMosaic
namespace Cert.Attn

/-- The softmax quotient of the scores `S` (base two) over 16384 values. -/
def att (S : ℕ → ℝ) (V : ℕ → EReal) : EReal := Ideal.div (part S V 16384 0) (part S (fun _ => 1) 16384 0)

/-- The quotient does not depend on the bound. -/
theorem att_eq (S : ℕ → ℝ) (V : ℕ → EReal) (M : ℝ) : Ideal.div (part S V 16384 M) (part S (fun _ => 1) 16384 M) = att S V :=
  (quotient_eq 16384 (by norm_num) S V M 0).trans (quotient_eq 16384 (by norm_num) S V 0 0).symm

/-- The queries or keys, by row and lane. -/
def rowAt (A : FVec Ideal ⟨2, ![32768, 1024]⟩ .bf16) (n l : ℕ) : EReal := if h : n < 32768 ∧ l < 1024 then A (ix2 ⟨n, h.1⟩ ⟨l, h.2⟩) else 0

/-- The values, by feature and token. -/
def valAt (A : FVec Ideal ⟨2, ![512, 32768]⟩ .bf16) (w n : ℕ) : EReal := if h : w < 512 ∧ n < 32768 then A (ix2 ⟨w, h.1⟩ ⟨n, h.2⟩) else 0

/-- The product of key `k` with query `i`, head `h` of batch row `b`. -/
def score (Q K : FVec Ideal ⟨2, ![32768, 1024]⟩ .bf16) (b h i k : ℕ) : ℝ :=
  (∑ e : Fin 128, rowAt K (16384 * b + k) (128 * h + e.val) * rowAt Q (16384 * b + i) (128 * h + e.val)).toReal

/-- All elements are reals. -/
def Real (A : FVec Ideal ⟨2, ![32768, 1024]⟩ .bf16) : Prop := ∀ x, ∃ r : ℝ, A x = (r : EReal)

theorem Real.at {A : FVec Ideal ⟨2, ![32768, 1024]⟩ .bf16} (h : Real A) (n l : ℕ) : ∃ r : ℝ, rowAt A n l = (r : EReal) := by
  unfold rowAt; split
  · exact h _
  · exact ⟨0, rfl⟩

/-- Of real queries and keys the products are reals. -/
theorem score_coe {Q K : FVec Ideal ⟨2, ![32768, 1024]⟩ .bf16} (hQ : Real Q) (hK : Real K) (b h i k : ℕ) :
    ∑ e : Fin 128, rowAt K (16384 * b + k) (128 * h + e.val) * rowAt Q (16384 * b + i) (128 * h + e.val) = ((score Q K b h i k : ℝ) : EReal) := by
  unfold score
  choose q hq using hQ.at
  choose r hr using hK.at
  simp only [hq, hr, ← EReal.coe_mul]
  rw [coe_sum]
  rfl

/-- The attention's result at batch row `b`, query `i`, feature `w`. -/
def attention (Q K : FVec Ideal ⟨2, ![32768, 1024]⟩ .bf16) (V : FVec Ideal ⟨2, ![512, 32768]⟩ .bf16) (b i w : ℕ) : EReal :=
  att (score Q K b (w / 64) i) fun k => valAt V w (16384 * b + k)

end Cert.Attn
-- ==== Proof.Ends.lean ====
module

public import proofs.«01_k».proof.Proof.State

/-! # Before and after a tile's loop

The loop starts from a real bound and zero sums; the queries are a block's rows; and after the loop each head's 64 sums
are divided by its sum of ones, transposed and laid side by side. -/

@[expose] public section

set_option maxRecDepth 16384

noncomputable section
open Idealize.ShloMosaic Idealize.ShloMosaic.TcCoe Idealize.SL.Sem
namespace Cert.Attn
open Cert.KernelIdeal Cert.KernelIdeal.Gen

/-- The rows of ones are ones. -/
theorem ones_ones : Ones (k0_pay603 (F := Ideal)) := by
  intro r t
  show Ideal.ofBits .bf16 0x3F80#16 = 1
  simp [Ideal.ofBits, Ideal.ieee, -EReal.coe_mul]
  norm_num

/-- The first bound is a real. -/
theorem bound_start (q : Fin 256) : ∃ M : ℝ, k0_pay604 (F := Ideal) (ix2 0 q) = (M : EReal) := by
  show ∃ M : ℝ, Ideal.ofBits .f32 0xF149F2CA#32 = (M : EReal)
  exact ⟨_, by simp only [Ideal.ofBits, Ideal.ieee]; rfl⟩

/-- The first sums are zero. -/
theorem sums_start (r : Fin 80) (q : Fin 256) : k0_pay605 (F := Ideal) (ix2 r q) = (0 : EReal) := by
  show Ideal.ofBits .f32 0x00000000#32 = 0
  simp [Ideal.ofBits, Ideal.ieee]

/-- The four heads start with no piece in. -/
theorem state_start (S : Fin 4 → Fin 256 → ℕ → ℝ) (W : ℕ → ℕ → EReal) :
    State S W 0 (k0_pay604 (F := Ideal), k0_pay605 (F := Ideal), k0_pay604 (F := Ideal), k0_pay605 (F := Ideal),
      k0_pay604 (F := Ideal), k0_pay605 (F := Ideal), k0_pay604 (F := Ideal), k0_pay605 (F := Ideal)) :=
  ⟨Good.zero bound_start sums_start, Good.zero bound_start sums_start, Good.zero bound_start sums_start, Good.zero bound_start sums_start⟩

/-- The queries' block, row by feature. -/
def QueriesAre (Q : ℕ → ℕ → EReal) (X : FVec Ideal S1x512x512 .bf16) : Prop :=
  ∀ (i : Fin 512) (e : Fin 512), X (ix3 0 i e) = Q i.val e.val

/-- A block of queries as a matrix. -/
theorem queries_at (x : FVec Ideal S1x256x128 .bf16) (q : Fin 256) (e : Fin 128) : k0_pay606 (F := Ideal) x (ix2 q e) = x (ix3 0 q e) := by
  pointwise [k0_pay606]

/-- The products of head `h`'s queries (256 rows from row `o`) with its keys are the reals `S`. -/
theorem HeadScores.rows {sig : RefSig} {κ : Kind} {sp : Space} {v : View sig κ sp S1x512x512 .bf16} {X : v.ty.Contents (Elt Ideal)}
    {K Q : ℕ → ℕ → EReal} {h o : ℕ} {S : Fin 256 → ℕ → ℝ} (hQ : QueriesAre Q (v.read (Elt Ideal) X)) (ho : o + 256 ≤ 512) (hh : h < 4)
    (hS : ∀ (q : Fin 256) (k : ℕ), k < 16384 → ∑ e : Fin 128, K k (128 * h + e.val) * Q (o + q.val) (128 * h + e.val) = ((S q k : ℝ) : EReal))
    {off : Fin 3 → ℕ} {inb : ∀ a, off a + S1x256x128.size a ≤ S1x512x512.size a} (hoff : off = ![0, o, 128 * h]) :
    HeadScores K h (k0_pay606 (F := Ideal) (View.readAt (Elt Ideal) v (Rect.unit (s := S1x512x512) off S1x256x128.size inb).toLoadRect X)) S := by
  subst hoff
  intro q k hk
  rw [← hS q k hk]
  refine Finset.sum_congr rfl fun e _ => ?_
  refine Ideal.mul_congr rfl ?_
  rw [queries_at]
  refine Eq.trans ?_ (hQ ⟨o + q.val, by omega⟩ ⟨128 * h + e.val, by omega⟩)
  rw [View.readAt_apply]
  refine congrArg _ (funext fun a => ?_)
  fin_cases a <;> refine Fin.ext ?_ <;> simp [LoadRect.idx_apply, ix3]

/-- What a tile stores, per query and feature: a head's sum of values over its sum of ones. -/
theorem stored_at (a0 a1 a2 a3 : FVec Ideal S80x256 .f32) (q : Fin 256) (w : Fin 256) :
    k0_pay627 (F := Ideal) a0 a1 a2 a3 (ix3 0 q w)
      = if h0 : w.val < 64 then Ideal.div (a0 (ix2 ⟨w.val, by omega⟩ q)) (a0 (ix2 ⟨64, by omega⟩ q))
        else if h1 : w.val - 64 < 64 then Ideal.div (a1 (ix2 ⟨w.val - 64, by omega⟩ q)) (a1 (ix2 ⟨64, by omega⟩ q))
        else if h2 : w.val - 64 - 64 < 64 then Ideal.div (a2 (ix2 ⟨w.val - 64 - 64, by omega⟩ q)) (a2 (ix2 ⟨64, by omega⟩ q))
        else Ideal.div (a3 (ix2 ⟨w.val - 64 - 64 - 64, by omega⟩ q)) (a3 (ix2 ⟨64, by omega⟩ q)) := by
  pointwise [k0_pay627]

end Cert.Attn
-- ==== Proof.BodyValue.lean ====
module

public import proofs.«01_k».proof.Proof.LoopValue
public import proofs.«01_k».proof.Proof.Spec
public import proofs.«01_k».proof.Proof.Ends
public import proofs.«01_k».proof.Proof.BodyRun

/-! # What one grid point stores, in numbers

Every element of the result's block is its head's softmax quotient, whatever the score buffers held before. -/

@[expose] public section

set_option maxRecDepth 16384

noncomputable section
open Idealize.ShloMosaic Idealize.ShloMosaic.TcCoe Idealize.SL.Sem
namespace Cert.Attn
open Cert.KernelIdeal Cert.KernelIdeal.Gen Cert.KernelIdeal.Own

/-- With all 32 pieces in, a sum of values over the sum of ones is the softmax quotient. -/
theorem Good.out {S : Fin 256 → ℕ → ℝ} {V : ℕ → ℕ → EReal} {b : FVec Ideal S1x256 .f32} {a : FVec Ideal S80x256 .f32}
    (h : Good S V 32 b a) (q : Fin 256) (r : ℕ) (hr : r < 64) :
    Ideal.div (a (ix2 ⟨r, by omega⟩ q)) (a (ix2 ⟨64, by omega⟩ q)) = att (S q) (V r) := by
  obtain ⟨M, -, hA⟩ := h q
  have e1 : rowV V r = V r := funext fun k => if_pos hr
  have e2 : rowV V 64 = fun _ => 1 := funext fun k => if_neg (by omega)
  rw [hA, hA]
  show Ideal.div (part (S q) (rowV V r) 16384 M) (part (S q) (rowV V 64) 16384 M) = _
  rw [e1, e2]
  exact att_eq _ _ M

/-- What a tile stores, all 32 pieces in: feature `w` of query `q` is the quotient of head `w / 64`. -/
theorem State.out {S : Fin 4 → Fin 256 → ℕ → ℝ} {W : ℕ → ℕ → EReal} {acc : Acc} (h : State S W 32 acc) (q w : Fin 256) :
    k0_pay627 (F := Ideal) acc.2.1 acc.2.2.2.1 acc.2.2.2.2.2.1 acc.2.2.2.2.2.2.2 (ix3 0 q w)
      = att (S ⟨w.val / 64, by omega⟩ q) (W w.val) := by
  rw [stored_at]
  split
  · next h0 =>
    rw [h.h0.out q _ h0]
    have : (⟨w.val / 64, by omega⟩ : Fin 4) = 0 := Fin.ext (by show w.val / 64 = 0; omega)
    rw [this]; congr 1; funext k; unfold headV; congr 1; omega
  split
  · next h0 h1 =>
    rw [h.h1.out q _ h1]
    have : (⟨w.val / 64, by omega⟩ : Fin 4) = 1 := Fin.ext (by show w.val / 64 = 1; omega)
    rw [this]; congr 1; funext k; unfold headV; congr 1; omega
  split
  · next h0 h1 h2 =>
    rw [h.h2.out q _ h2]
    have : (⟨w.val / 64, by omega⟩ : Fin 4) = 2 := Fin.ext (by show w.val / 64 = 2; omega)
    rw [this]; congr 1; funext k; unfold headV; congr 1; omega
  · next h0 h1 h2 =>
    rw [h.h3.out q _ (by omega)]
    have : (⟨w.val / 64, by omega⟩ : Fin 4) = 3 := Fin.ext (by show w.val / 64 = 3; omega)
    rw [this]; congr 1; funext k; unfold headV; congr 1; omega

/-- The first tile's division and stacking are the second's. -/
theorem payload_eq (a0 a1 a2 a3 : FVec Ideal S80x256 .f32) :
    k0_pay616 (F := Ideal) (k0_pay615 (F := Ideal) a0 a1 a2 a3) = k0_pay627 (F := Ideal) a0 a1 a2 a3 := rfl

/-- The four heads' scores of the first piece, stored before a loop. -/
theorem first_scores (v : View sig .tc .vmem S4x512x256 .f32) (f : v.ty.Contents (Elt Ideal)) {κ : Kind} {sp : Space}
    {vk : View sig κ sp S1x16384x512 .bf16} {X : vk.ty.Contents (Elt Ideal)} {K : ℕ → ℕ → EReal} (x0 x1 x2 x3 : FVec Ideal S256x128 .bf16)
    {S : Fin 4 → Fin 256 → ℕ → ℝ} {L : List (View.Piece (Elt Ideal) S4x512x256 .f32)}
    (hK : KeysAre K (vk.read (Elt Ideal) X)) (h0 : HeadScores K 0 x0 (S 0)) (h1 : HeadScores K 1 x1 (S 1)) (h2 : HeadScores K 2 x2 (S 2)) (h3 : HeadScores K 3 x3 (S 3)) :
    Held v S 0 (v.writes (Elt Ideal) f (
      ⟨Rect.unit (s := S4x512x256) ![3, 0, 0] S1x512x256.size inb_S4x512x256_S1x512x256_3_0_0, k0_pay1 (F := Ideal) x3 (View.readAt (Elt Ideal) vk (Rect.unit (s := S1x16384x512) ![0, 0, 384] S1x512x128.size inb_S1x16384x512_S1x512x128_0_0_384).toLoadRect X)⟩
      :: ⟨Rect.unit (s := S4x512x256) ![2, 0, 0] S1x512x256.size inb_S4x512x256_S1x512x256_2_0_0, k0_pay1 (F := Ideal) x2 (View.readAt (Elt Ideal) vk (Rect.unit (s := S1x16384x512) ![0, 0, 256] S1x512x128.size inb_S1x16384x512_S1x512x128_0_0_256).toLoadRect X)⟩
      :: ⟨Rect.unit (s := S4x512x256) ![1, 0, 0] S1x512x256.size inb_S4x512x256_S1x512x256_1_0_0, k0_pay1 (F := Ideal) x1 (View.readAt (Elt Ideal) vk (Rect.unit (s := S1x16384x512) ![0, 0, 128] S1x512x128.size inb_S1x16384x512_S1x512x128_0_0_128).toLoadRect X)⟩
      :: ⟨Rect.unit (s := S4x512x256) ![0, 0, 0] S1x512x256.size inb_S4x512x256_S1x512x256_0_0_0, k0_pay1 (F := Ideal) x0 (View.readAt (Elt Ideal) vk (Rect.unit (s := S1x16384x512) ![0, 0, 0] S1x512x128.size inb_S1x16384x512_S1x512x128_0_0_0).toLoadRect X)⟩
      :: L)) := by
  refine ⟨?_, ?_, ?_, ?_⟩
  · refine Scores.skip' (by decide +kernel) (Scores.skip' (by decide +kernel) (Scores.skip' (by decide +kernel) (Scores.hit' ?_)))
    exact Scores.keys hK h0 (by norm_num) (by norm_num) rfl
  · refine Scores.skip' (by decide +kernel) (Scores.skip' (by decide +kernel) (Scores.hit' ?_))
    exact Scores.keys hK h1 (by norm_num) (by norm_num) rfl
  · refine Scores.skip' (by decide +kernel) (Scores.hit' ?_)
    exact Scores.keys hK h2 (by norm_num) (by norm_num) rfl
  · refine Scores.hit' ?_
    exact Scores.keys hK h3 (by norm_num) (by norm_num) rfl

section
variable (c : Dev nD) (i : grid0.Coords) (arg3 : Memref sig .tc .vmem S1x512x512 .bf16) (harg3 : arg3.IsWhole) (arg4 : Memref sig .tc .vmem S1x16384x512 .bf16) (harg4 : arg4.IsWhole) (arg5 : Memref sig .tc .vmem S256x16384 .bf16) (harg5 : arg5.IsWhole) (arg6 : Memref sig .tc .vmem S1x512x256 .bf16) (harg6 : arg6.IsWhole) (arg7 : Memref sig .tc .vmem S4x512x256 .f32) (harg7 : arg7.IsWhole) (arg8 : Memref sig .tc .vmem S4x512x256 .f32) (harg8 : arg8.IsWhole) (arg9 : Memref sig .tc .vmem S4x512x256 .f32) (harg9 : arg9.IsWhole) (arg10 : Memref sig .tc .vmem S4x512x256 .f32) (harg10 : arg10.IsWhole)
  (x0 : Vec Ideal S1x512x512 .bf16) (x1 : Vec Ideal S1x16384x512 .bf16) (x2 : Vec Ideal S256x16384 .bf16)
  (g0 : BufTy.Contents (Elt Ideal) arg7.view.ty) (g1 : BufTy.Contents (Elt Ideal) arg8.view.ty) (g2 : BufTy.Contents (Elt Ideal) arg9.view.ty) (g3 : BufTy.Contents (Elt Ideal) arg10.view.ty)
  (f : BufTy.Contents (Elt Ideal) arg6.view.ty) {Q K W : ℕ → ℕ → EReal} {S : Fin 4 → ℕ → ℕ → ℝ}

/-- The block the body leaves. -/
theorem body_value (hQ : QueriesAre Q x0) (hK : KeysAre K x1) (hW : ValuesAre W x2)
    (hS : ∀ (h : Fin 4) (i k : ℕ), i < 512 → k < 16384 → ∑ e : Fin 128, K k (128 * h.val + e.val) * Q i (128 * h.val + e.val) = ((S h i k : ℝ) : EReal))
    (i' : Fin 512) (w : Fin 256) :
    arg6.view.read (Elt Ideal) (arg6.view.writes (Elt Ideal) f (bodyRun (F := Ideal) c i arg3 harg3 arg4 harg4 arg5 harg5 arg6 harg6 arg7 harg7 arg8 harg8 arg9 harg9 arg10 harg10 x0 x1 x2 g0 g1 g2 g3).1) (ix3 0 i' w)
      = att (S ⟨w.val / 64, by omega⟩ i'.val) (W w.val) := by
  have hQ' : QueriesAre Q (arg3.view.read (Elt Ideal) (harg3.unread x0)) := by rw [harg3.read_unread]; exact hQ
  have hK' : KeysAre K (arg4.view.read (Elt Ideal) (harg4.unread x1)) := by rw [harg4.read_unread]; exact hK
  have hW' : ValuesAre W (arg5.view.read (Elt Ideal) (harg5.unread x2)) := by rw [harg5.read_unread]; exact hW
  unfold bodyRun
  dsimp only
  by_cases hi : i'.val < 256
  · rw [View.read_writes_cons_unit_of_not_mem _ _ _ _ _ _ rfl 1 (.inl hi),
      View.read_writes_cons_unit_of_mem _ _ _ _ _ _ (ix3 0 ⟨i'.val, hi⟩ w) rfl (fun a => by fin_cases a <;> simp [ix3])]
    unfold bodyRun.sl.r_3
    rw [show Scf.trips k0_t1_loop.lb k0_t1_loop.ub k0_t1_loop.st = 2 from k0_t1_trips, payload_eq]
    refine State.out (S := fun h q k => S h q.val k) (loop1 Variants.none c none i arg3 harg3 arg4 harg4 arg5 harg5 arg6 harg6 arg7 harg7 arg8 harg8 arg9 harg9 arg10 harg10 _ _ _ _ _ _ _ _ _ _ _ _ _ _
      ones_ones hK' hW' ?_ ?_ (state_start _ _) 2 le_rfl).1 ⟨i'.val, hi⟩ w
    · exact ⟨HeadScores.rows hQ' (o := 0) (h := 0) (by norm_num) (by norm_num) (fun q k hk => by rw [Nat.zero_add]; exact hS 0 q.val k (by omega) hk) rfl,
        HeadScores.rows hQ' (o := 0) (h := 1) (by norm_num) (by norm_num) (fun q k hk => by rw [Nat.zero_add]; exact hS 1 q.val k (by omega) hk) rfl,
        HeadScores.rows hQ' (o := 0) (h := 2) (by norm_num) (by norm_num) (fun q k hk => by rw [Nat.zero_add]; exact hS 2 q.val k (by omega) hk) rfl,
        HeadScores.rows hQ' (o := 0) (h := 3) (by norm_num) (by norm_num) (fun q k hk => by rw [Nat.zero_add]; exact hS 3 q.val k (by omega) hk) rfl⟩
    · exact first_scores (S := fun h q k => S h q.val k) _ _ _ _ _ _ hK'
        (HeadScores.rows hQ' (o := 0) (h := 0) (by norm_num) (by norm_num) (fun q k hk => by rw [Nat.zero_add]; exact hS 0 q.val k (by omega) hk) rfl)
        (HeadScores.rows hQ' (o := 0) (h := 1) (by norm_num) (by norm_num) (fun q k hk => by rw [Nat.zero_add]; exact hS 1 q.val k (by omega) hk) rfl)
        (HeadScores.rows hQ' (o := 0) (h := 2) (by norm_num) (by norm_num) (fun q k hk => by rw [Nat.zero_add]; exact hS 2 q.val k (by omega) hk) rfl)
        (HeadScores.rows hQ' (o := 0) (h := 3) (by norm_num) (by norm_num) (fun q k hk => by rw [Nat.zero_add]; exact hS 3 q.val k (by omega) hk) rfl)
  · rw [View.read_writes_cons_unit_of_mem _ _ _ _ _ _ (ix3 0 ⟨i'.val - 256, by omega⟩ w) rfl (fun a => by fin_cases a <;> simp [ix3]; omega)]
    unfold bodyRun.sl.r_8
    rw [show Scf.trips k0_t2_loop.lb k0_t2_loop.ub k0_t2_loop.st = 2 from k0_t2_trips]
    refine (State.out (S := fun h q k => S h (256 + q.val) k) (loop2 Variants.none c none i arg3 harg3 arg4 harg4 arg5 harg5 arg6 harg6 arg7 harg7 arg8 harg8 arg9 harg9 arg10 harg10 _ _ _ _ _ _ _ _ _ _ _ _ _ _ _ _
      ones_ones hK' hW' ?_ ?_ (state_start _ _) 2 le_rfl).1 ⟨i'.val - 256, by omega⟩ w).trans ?_
    · exact ⟨HeadScores.rows hQ' (o := 256) (h := 0) (by norm_num) (by norm_num) (fun q k hk => hS 0 _ k (by omega) hk) rfl,
        HeadScores.rows hQ' (o := 256) (h := 1) (by norm_num) (by norm_num) (fun q k hk => hS 1 _ k (by omega) hk) rfl,
        HeadScores.rows hQ' (o := 256) (h := 2) (by norm_num) (by norm_num) (fun q k hk => hS 2 _ k (by omega) hk) rfl,
        HeadScores.rows hQ' (o := 256) (h := 3) (by norm_num) (by norm_num) (fun q k hk => hS 3 _ k (by omega) hk) rfl⟩
    · exact first_scores (S := fun h q k => S h (256 + q.val) k) _ _ _ _ _ _ hK'
        (HeadScores.rows hQ' (o := 256) (h := 0) (by norm_num) (by norm_num) (fun q k hk => hS 0 _ k (by omega) hk) rfl)
        (HeadScores.rows hQ' (o := 256) (h := 1) (by norm_num) (by norm_num) (fun q k hk => hS 1 _ k (by omega) hk) rfl)
        (HeadScores.rows hQ' (o := 256) (h := 2) (by norm_num) (by norm_num) (fun q k hk => hS 2 _ k (by omega) hk) rfl)
        (HeadScores.rows hQ' (o := 256) (h := 3) (by norm_num) (by norm_num) (fun q k hk => hS 3 _ k (by omega) hk) rfl)
    · show att (S ⟨w.val / 64, by omega⟩ (256 + (i'.val - 256))) (W w.val) = _
      rw [Nat.add_sub_cancel' (by omega)]
end

end Cert.Attn
-- ==== Proof.IdealValue.lean ====
module

public import proofs.«01_k».proof.Proof.IdealFrame
public import Idealize.ShloMosaic.Lib.Pipeline.Value

/-! # The result's blocks after the run

If the block that each grid point leaves is known, whatever the score buffers held, then each block of the result is known after the run. -/

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
  (B : Dev nD → Fin cfg0.N → Vec F S1x512x256 .bf16)

/-- The data of the run: each operand at its block, the result at the blocks `B`. -/
def named (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => B c t
  Φ _ := Pipeline.ΦA spec0 c
  q _ := fullShare
  owed _ := 0

/-- The arrays are those at the call's start. -/
theorem named_A (c : Dev nD) (w : Fin cfg0.W) : (named m B 0 c).A w = V m c (Pipeline.arrRef spec0 w) := by dsimp only [named]

theorem named_after0 (c : Dev nD) (t : Fin cfg0.N) : (named m B 0 c).after 0 t = iblk m c 0 t := by dsimp only [named]
theorem named_after1 (c : Dev nD) (t : Fin cfg0.N) : (named m B 0 c).after 1 t = iblk m c 1 t := by dsimp only [named]
theorem named_after2 (c : Dev nD) (t : Fin cfg0.N) : (named m B 0 c).after 2 t = iblk m c 2 t := by dsimp only [named]

/-- Each operand's buffer holds its block at every point. -/
theorem named_before0 (c : Dev nD) (t : Fin cfg0.N) (d) : (named m B 0 c).before 0 t d = iblk m c 0 t :=
  before0_0_of m (named m B 0 c) (named_A m B c 0) (named_after0 m B c) t d
theorem named_before1 (c : Dev nD) (t : Fin cfg0.N) (d) : (named m B 0 c).before 1 t d = iblk m c 1 t :=
  before0_1_of m (named m B 0 c) (named_A m B c 1) (named_after1 m B c) t d
theorem named_before2 (c : Dev nD) (t : Fin cfg0.N) (d) : (named m B 0 c).before 2 t d = iblk m c 2 t :=
  before0_2_of m (named m B 0 c) (named_A m B c 2) (named_after2 m B c) t d

/-- What the body finds at point `t`. -/
def namedPre (c : Dev nD) (t : Fin cfg0.N) : sProp 𝕄 :=
  iprop((named m B 0 c).Φ t.castSucc ∗ (named m B 0 c).owesAt () t.castSucc
    ∗ (∃ d, owns (c : Thread nD τ) (ms0_0 t) fullShare ((named m B 0 c).before 0 t d))
    ∗ (∃ d, owns (c : Thread nD τ) (ms0_1 t) fullShare ((named m B 0 c).before 1 t d))
    ∗ (∃ d, owns (c : Thread nD τ) (ms0_2 t) fullShare ((named m B 0 c).before 2 t d))
    ∗ (∃ d, owns (c : Thread nD τ) (ms0_3 t) fullShare ((named m B 0 c).before 3 t d)))

/-- What the body leaves at point `t`. -/
def namedPost (c : Dev nD) (t : Fin cfg0.N) : sProp 𝕄 :=
  iprop((named m B 0 c).Φ t.succ ∗ (named m B 0 c).owesAt () t.succ
    ∗ owns (c : Thread nD τ) (ms0_0 t) fullShare ((named m B 0 c).after 0 t)
    ∗ owns (c : Thread nD τ) (ms0_1 t) fullShare ((named m B 0 c).after 1 t)
    ∗ owns (c : Thread nD τ) (ms0_2 t) fullShare ((named m B 0 c).after 2 t)
    ∗ owns (c : Thread nD τ) (ms0_3 t) fullShare ((named m B 0 c).after 3 t))

theorem named_after3 (c : Dev nD) (t : Fin cfg0.N) : (named m B 0 c).after 3 t = B c t := by dsimp only [named]

set_option maxHeartbeats 800000 in
/-- The body at any point. -/
theorem named_sound (hB : ∀ c t g0 g1 g2 g3 f, left c t (iblk m c 0 t) (iblk m c 1 t) (iblk m c 2 t) g0 g1 g2 g3 f = B c t) (c : Dev nD) (t : Fin cfg0.N) :
    namedPre m B c t ⊢ wp frame (wpE (defs₀ (F := F)) Variants.none c none) Set.univ (bodyAt0 t) (fun _ => namedPost m B c t) := by
  unfold namedPre namedPost
  simp only [named_before0, named_before1, named_before2]
  rw [show (named m B 0 c).Φ t.succ = (named m B 0 c).Φ t.castSucc from rfl,
    show (named m B 0 c).owesAt () t.succ = (named m B 0 c).owesAt () t.castSucc from rfl,
    named_after0, named_after1, named_after2, named_after3]
  rw [show (named m B 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩⟩
  iapply (point_run c t (iblk m c 0 t) (iblk m c 1 t) (iblk m c 2 t) (fun d => d = B c t) (hB c t) _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  iintro ⟨H0, H1, H2, ⟨%e3, %he, H3⟩, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  subst he; iexact H3

/-- The body's triple as the pipeline asks for it. -/
theorem named_body (hB : ∀ c t g0 g1 g2 g3 f, left c t (iblk m c 0 t) (iblk m c 1 t) (iblk m c 2 t) g0 g1 g2 g3 f = B c t) (c : Dev nD) : BodyObligation (named (F := F) m B 0 c) (defs₀ (F := F)) Variants.none () Set.univ := fun t => by
  rw [bigSep_W0, bigSep_W0, body_row]
  exact triple_restated (named_sound m B hB c t) rfl .rfl fun _ => .rfl

set_option backward.isDefEq.respectTransparency.types false in
/-- The launch. -/
theorem named_run (hB : ∀ c t g0 g1 g2 g3 f, left c t (iblk m c 0 t) (iblk m c 1 t) (iblk m c 2 t) g0 g1 g2 g3 f = B c t) : θ_run defs (onTc (τ := τ) (main (F := F))) (s₀ m ρ) (fun r => (Pipeline.FramePost cfgs (named m B) 0 (V m)) r ∧ r.2.sem = fun _ => 0) :=
  Pipeline.θ_run_frame (Q' := _) cfgs (named m B) (0 : Fin 1) launch0 defs₀ Variants.none m ρ main
    (hbody := fun c => (named_body m B hB c).loose) (hshare := fun c => (named m B 0 c).share_full fun _ => rfl)
    (howed := fun _ _ => rfl) (V := V m) (hmain := hmain m Variants.none) (hA := named_A m B) (hΦ := fun _ _ => rfl)

/-- Different grid points have different blocks of the result. -/
theorem out_index_inj : ∀ t t' : Fin cfg0.N, win0_3.index t = win0_3.index t' → t = t' :=
  (by decide +kernel : ∀ t t' : Fin grid0.N, win0_3.index t = win0_3.index t' → t = t')

/-- Every grid point writes its block back. -/
theorem out_flush : ∀ t : Fin cfg0.N, (cfg0.win 3).flush t = true :=
  (by decide +kernel : ∀ t : Fin grid0.N, (win0_3).flush t = true)

/-- The result's block `t` after the run. -/
theorem out_block (c : Dev nD) (t : Fin cfg0.N) :
    ((cfg0.win 3).blk t).view.read (Elt F) ((named m B 0 c).arrAt 3 cfg0.N) = (cfg0.win 3).cut (grid0.coords t) (B c t) := by
  rw [(named m B 0 c).read_blk_arrAt_eq_flushed 3
    (fun t t' _ _ hne => (cfg0.win 3).disjoint_blk fun h => hne (out_index_inj t t' h)) cfg0.N t t.isLt (out_flush t)]
  show (cfg0.win 3).cut (grid0.coords t) ((named m B 0 c).after 3 t) = _
  rw [named_after3]

/-- After the run the result is the array whose blocks are `B`, and the arguments are unchanged. -/
theorem run_blocks (hB : ∀ c t g0 g1 g2 g3 f, left c t (iblk m c 0 t) (iblk m c 1 t) (iblk m c 2 t) g0 g1 g2 g3 f = B c t) : θ_run defs (onTc (τ := τ) (main (F := F))) ⟨m, fun _ => 0, ρ⟩ fun r => ∀ c : Dev nD,
      r.2.mem ((c.tc : Thread nD τ).loc main_v2) = (named m B 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h.1 c).1 3,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).1 2).trans (((named m B 0 c).arrAt_in 2 rfl _).trans ((named_A m B c 2).trans (V_main_arg2 m c)))⟩)
    (named_run m ρ B hB)

end Cert.KernelIdeal.Own

end
-- ==== Proof.ArrayValue.lean ====
module

public import proofs.«01_k».proof.Proof.BodyValue
public import proofs.«01_k».proof.Proof.IdealValue
public import Idealize.ShloMosaic.Lib.Pipeline.ValueKit
public import Idealize.ShloMosaic.Lib.Claim

/-! # The result of the kernel read over the reals

The blocks that the grid points leave are the blocks of one array: the attention of the queries over all keys of their batch row. -/

@[expose] public section

set_option maxRecDepth 16384

noncomputable section
open Idealize.ShloMosaic Idealize.ShloMosaic.TcCoe Idealize.SL.Sem
namespace Cert.Attn
open Cert.KernelIdeal Cert.KernelIdeal.Gen Cert.KernelIdeal.Own

/-- The blocks of the windows at point `t`. -/
theorem index_at : ∀ t : Fin cfg0.N, win0_0.index t = ![t.val / 64, t.val % 32, t.val / 32 % 2] ∧ win0_1.index t = ![t.val / 64, 0, t.val / 32 % 2]
    ∧ win0_2.index t = ![t.val / 32 % 2, t.val / 64] ∧ win0_3.index t = ![t.val / 64, t.val % 32, t.val / 32 % 2] :=
  (by decide +kernel : ∀ t : Fin grid0.N, _)

variable (m : (ℓ : Loc nD τ sig) → Buf (Elt Ideal) ℓ) (c : Dev nD)

theorem queries_block (t : Fin cfg0.N) : QueriesAre (fun i e => rowAt (m ((c.tc : Thread nD τ).loc main_arg0)) (16384 * (t.val / 64) + 512 * (t.val % 32) + i) (512 * (t.val / 32 % 2) + e)) (iblk m c 0 t) := by
  intro i e
  have ht : t.val < 128 := t.isLt
  have hb : 16384 * (t.val / 64) + 512 * (t.val % 32) + i.val < 32768 ∧ 512 * (t.val / 32 % 2) + e.val < 1024 := by omega
  refine Eq.trans ?_ (dif_pos hb).symm
  blk_ext! [iblk, V, (index_at t).1]

theorem keys_block (t : Fin cfg0.N) : KeysAre (fun k e => rowAt (m ((c.tc : Thread nD τ).loc main_arg1)) (16384 * (t.val / 64) + k) (512 * (t.val / 32 % 2) + e)) (iblk m c 1 t) := by
  intro k e
  have ht : t.val < 128 := t.isLt
  have hb : 16384 * (t.val / 64) + k.val < 32768 ∧ 512 * (t.val / 32 % 2) + e.val < 1024 := by omega
  refine Eq.trans ?_ (dif_pos hb).symm
  blk_ext! [iblk, V, (index_at t).2.1]

theorem values_block (t : Fin cfg0.N) : ValuesAre (fun w k => valAt (m ((c.tc : Thread nD τ).loc main_arg2)) (256 * (t.val / 32 % 2) + w) (16384 * (t.val / 64) + k)) (iblk m c 2 t) := by
  intro w k
  have ht : t.val < 128 := t.isLt
  have hb : 256 * (t.val / 32 % 2) + w.val < 512 ∧ 16384 * (t.val / 64) + k.val < 32768 := by omega
  refine Eq.trans ?_ (dif_pos hb).symm
  blk_ext! [iblk, V, (index_at t).2.2.1]

/-- The attention of the arguments, as an array. -/
def result : Vec Ideal S2x16384x512 .bf16 := fun y =>
  attention (m ((c.tc : Thread nD τ).loc main_arg0)) (m ((c.tc : Thread nD τ).loc main_arg1)) (m ((c.tc : Thread nD τ).loc main_arg2)) (y 0).val (y 1).val (y 2).val

/-- Its block at point `t`. -/
def block (t : Fin cfg0.N) : Vec Ideal S1x512x256 .bf16 := fun y =>
  attention (m ((c.tc : Thread nD τ).loc main_arg0)) (m ((c.tc : Thread nD τ).loc main_arg1)) (m ((c.tc : Thread nD τ).loc main_arg2))
    (t.val / 64) (512 * (t.val % 32) + (y 1).val) (256 * (t.val / 32 % 2) + (y 2).val)

/-- An index of a block, its first axis of length one. -/
theorem row_idx (y : S1x512x256.Idx) : y = ix3 (0 : Fin 1) (y 1 : Fin 512) (y 2 : Fin 256) := by
  funext a
  fin_cases a
  · exact Subsingleton.elim (α := Fin 1) _ _
  · rfl
  · rfl

variable {m} in
/-- Each grid point leaves its block of the attention. -/
theorem left_block (hQ : ∀ c : Dev nD, Real (m ((c.tc : Thread nD τ).loc main_arg0))) (hK : ∀ c : Dev nD, Real (m ((c.tc : Thread nD τ).loc main_arg1)))
    (c : Dev nD) (t : Fin cfg0.N) (g0 g1 g2 g3 f) : left c t (iblk m c 0 t) (iblk m c 1 t) (iblk m c 2 t) g0 g1 g2 g3 f = block m c t := by
  funext y
  rw [row_idx y]
  unfold left
  have hw : (y 2).val < 256 := (y 2).isLt
  have hi : (y 1).val < 512 := (y 1).isLt
  refine (body_value c (grid0.coords t) _ _ _ _ _ _ _ _ _ _ _ _ _ _ _ _ _ _ _ g0 g1 g2 g3 f (queries_block m c t) (keys_block m c t) (values_block m c t)
    (S := fun h i k => score (m ((c.tc : Thread nD τ).loc main_arg0)) (m ((c.tc : Thread nD τ).loc main_arg1)) (t.val / 64) (4 * (t.val / 32 % 2) + h.val) (512 * (t.val % 32) + i) k)
    (fun h i k _ _ => ?_) (y 1) (y 2)).trans ?_
  · refine Eq.trans (Finset.sum_congr rfl fun e _ => ?_) (score_coe (hQ c) (hK c) _ _ _ _)
    rw [show 512 * (t.val / 32 % 2) + (128 * h.val + e.val) = 128 * (4 * (t.val / 32 % 2) + h.val) + e.val by omega, Nat.add_assoc (16384 * (t.val / 64))]
  · unfold block attention
    simp only [ix3_1, ix3_2]
    have e : 4 * (t.val / 32 % 2) + (y 2).val / 64 = (256 * (t.val / 32 % 2) + (y 2).val) / 64 := by omega
    rw [e]

/-- The array with these blocks is the attention. -/
theorem result_array (B : Dev nD → Fin cfg0.N → Vec Ideal S1x512x256 .bf16) (hB : B c = block m c) : (named m B 0 c).arrAt 3 cfg0.N = result m c := by
  refine (named m B 0 c).arrAt_eq_of_covers 3 _ (by decide +kernel) fun t hf y => ?_
  blk_simp
  rw [named_after3, hB]
  have ht : t.val < 128 := t.isLt
  have hy : (y 0).val < 1 := (y 0).isLt
  have e0 : (((win0_3.blk t).view.emb y : S2x16384x512.Idx) 0).val = t.val / 64 := by
    blk_ext [(index_at t).2.2.2]
  have e1 : (((win0_3.blk t).view.emb y : S2x16384x512.Idx) 1).val = 512 * (t.val % 32) + (y 1).val := by
    refine Eq.trans (b := t.val % 32 * 512 + (y 1).val) ?_ (by omega)
    blk_ext [(index_at t).2.2.2]
  have e2 : (((win0_3.blk t).view.emb y : S2x16384x512.Idx) 2).val = 256 * (t.val / 32 % 2) + (y 2).val := by
    refine Eq.trans (b := t.val / 32 % 2 * 256 + (y 2).val) ?_ (by omega)
    blk_ext [(index_at t).2.2.2]
  unfold block result
  rw [e0, e1, e2]

/-- After the run the result is the attention, the arguments are unchanged. -/
theorem kernel_run (ρ : Dev nD → PrngReg) (hQ : ∀ c : Dev nD, Real (m ((c.tc : Thread nD τ).loc main_arg0))) (hK : ∀ c : Dev nD, Real (m ((c.tc : Thread nD τ).loc main_arg1))) :
    θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (result_array m c _ rfl), (h c).2⟩)
    (run_blocks m ρ (block m) fun c t g0 g1 g2 g3 f => left_block hQ hK c t g0 g1 g2 g3 f)

end Cert.Attn
-- ==== Proof.RefValue.lean ====
module

public import proofs.«01_k».proof.Proof.Spec
public import proofs.«01_k».proof.Proof.Gen.ReferenceIdeal.Run
public import Idealize.ShloMosaic.Lib.Pointwise
public import Idealize.ShloMosaic.Lib.IdealHost

/-! # The reference's result, in numbers -/

@[expose] public section

set_option maxRecDepth 16384

noncomputable section
open Idealize.ShloMosaic Idealize.ShloMosaic.TcCoe Idealize.SL.Sem
namespace Cert.Attn
open Cert.ReferenceIdeal Cert.ReferenceIdeal.Gen

/-- The scores that the reference takes the softmax of. -/
def refScores (Q K : FVec Ideal S32768x1024 .bf16) : FVec Ideal S2x8x16384x16384 .f32 :=
  mulf (Host.dotGeneral dot_S2x16384x8x128_S2x16384x8x128_S2x8x16384x16384_3_3_1_1_02_02 none (shapeCast _ (extf .f32 Q bitsLt_bf16_f32) shapeCasts_S32768x1024_S2x16384x8x128) (shapeCast _ (extf .f32 K bitsLt_bf16_f32) shapeCasts_S32768x1024_S2x16384x8x128)) (broadcastInDim S2x8x16384x16384 ![] bcast_S_S2x8x16384x16384 (Host.log (constant S_ .f32 0x40000000#32)))

/-- They are the products of the queries and the keys, times the logarithm of two. -/
theorem refScores_at {Q K : FVec Ideal S32768x1024 .bf16} (hQ : Real Q) (hK : Real K) (b : Fin 2) (h : Fin 8) (i k : Fin 16384) :
    refScores Q K (ix4 b h i k) = ((score Q K b h i k : ℝ) : EReal) * ((Real.log 2 : ℝ) : EReal) := by
  have hb := b.isLt; have hh := h.isLt; have hi := i.isLt; have hk := k.isLt
  have e : refScores Q K (ix4 b h i k) = (∑ x : Fin 128, Q (ix2 ⟨b.val * 16384 + i.val, by omega⟩ ⟨h.val * 128 + x.val, by omega⟩)
      * K (ix2 ⟨b.val * 16384 + k.val, by omega⟩ ⟨h.val * 128 + x.val, by omega⟩)) * Ideal.log (Ideal.ofBits .f32 1073741824#32) := by
    pointwise [refScores]
  rw [e, show Ideal.ofBits .f32 1073741824#32 = ((2 : ℝ) : EReal) from by
    simp [Ideal.ofBits, Ideal.ieee, -EReal.coe_mul]; norm_num, Ideal.log_coe, if_neg (by norm_num)]
  congr 1
  rw [← score_coe hQ hK]
  refine Finset.sum_congr rfl fun x _ => ?_
  have hx := x.isLt
  rw [mul_comm]
  congr 1
  · refine Eq.trans ?_ (dif_pos (by omega)).symm
    congr 2 <;> exact Fin.ext (by dsimp only; omega)
  · refine Eq.trans ?_ (dif_pos (by omega)).symm
    congr 2 <;> exact Fin.ext (by dsimp only; omega)

/-- Its largest score per query. -/
def refMax (s : FVec Ideal S2x8x16384x16384 .f32) : FVec Ideal S2x8x16384 .f32 :=
  maximumf (broadcastInDim S2x8x16384 ![] bcast_S_S2x8x16384 (constant S_ .f32 0xFF800000#32)) (Host.reduce FloatOps.maximumf s (constant S_ .f32 0xFF800000#32) reducesTo_S2x8x16384x16384_S2x8x16384_d3 h_S_)

/-- Its exponentials. -/
def refExp (s : FVec Ideal S2x8x16384x16384 .f32) (x : FVec Ideal S2x8x16384 .f32) : FVec Ideal S2x8x16384x16384 .f32 :=
  Host.exp (subf s (broadcastInDim S2x8x16384x16384 ![0, 1, 2, 3] bcast_S2x8x16384x1_S2x8x16384x16384_0_1_2_3 (broadcastInDim S2x8x16384x1 ![0, 1, 2] bcast_S2x8x16384_S2x8x16384x1_0_1_2 x)))

/-- Its result, from the exponentials and the values. -/
def refOut (p : FVec Ideal S2x8x16384x16384 .f32) (V : FVec Ideal S512x32768 .bf16) : FVec Ideal S2x16384x512 .bf16 :=
  truncf .bf16 (shapeCast _ (transpose S2x16384x8x64 [0, 3, 1, 2] (Host.dotGeneral dot_S8x64x2x16384_S2x8x16384x16384_S2x8x64x16384_3_3_1_2_20_01 none (shapeCast _ (extf .f32 V bitsLt_bf16_f32) shapeCasts_S512x32768_S8x64x2x16384) (Host.divf p (broadcastInDim S2x8x16384x16384 ![0, 1, 2, 3] bcast_S2x8x16384x1_S2x8x16384x16384_0_1_2_3 (broadcastInDim S2x8x16384x1 ![0, 1, 2] bcast_S2x8x16384_S2x8x16384x1_0_1_2 (Host.reduceAdd p (constant S_ .f32 0x00000000#32) reducesTo_S2x8x16384x16384_S2x8x16384_d3 h_S_))))) transposes_S2x8x64x16384_S2x16384x8x64_0_3_1_2) shapeCasts_S2x16384x8x64_S2x16384x512) bitsLt_bf16_f32

/-- It is the sum of the values by the quotients of the exponentials and their sum. -/
theorem refOut_at (p : FVec Ideal S2x8x16384x16384 .f32) (V : FVec Ideal S512x32768 .bf16) (b : Fin 2) (i : Fin 16384) (w : Fin 512) :
    refOut p V (ix3 b i w) = ∑ x : Fin 16384, V (ix2 w ⟨b.val * 16384 + x.val, by omega⟩)
      * Ideal.div (p (ix4 b ⟨w.val / 64, by omega⟩ i x)) (∑ x' : Fin 16384, p (ix4 b ⟨w.val / 64, by omega⟩ i x')) := by
  pointwise [refOut]

/-- The largest of a row of reals, taken from the least number, is a real. -/
theorem reduce_max_real {s t u : Shape} {a : Fin s.rank} (x : FVec Ideal s .f32) (init : FVec Ideal u .f32) (h' : s.ReducesTo [a] t)
    (h : s.Reduces [a] t) (hu : 0 < u.numel) (hn : ∃ n, s.size a = n + 1) (hi : ∀ y, init y = (⊥ : EReal))
    (hx : ∀ y, ∃ r : ℝ, x y = (r : EReal)) (j : t.Idx) : ∃ r : ℝ, Host.reduce FloatOps.maximumf x init h' hu j = (r : EReal) := by
  change ∃ r : ℝ, Host.reduce (α := EReal) max x init h' hu j = r
  rw [Host.reduce_eq_fold_single (α := EReal) max x init h' h hu j, hi]
  have key : ∀ (n : ℕ) (f : Fin n → EReal), (∃ k, n = k + 1) → (∀ i, ∃ r : ℝ, f i = r) → ∃ r : ℝ, Finset.univ.fold max ⊥ f = r := by
    rintro n f ⟨k, rfl⟩ hf
    exact fold_max_real' f hf
  exact key _ _ hn fun k => hx _

/-- The constant it starts at. -/
theorem least : Ideal.ofBits .f32 0xFF800000#32 = (⊥ : EReal) := by simp [Ideal.ofBits, Ideal.ieee]

/-- The larger of the least number and a row's largest number is the latter. -/
theorem max_least {s t u : Shape} {a : Fin s.rank} (x : FVec Ideal s .f32) (init : FVec Ideal u .f32) (l : FVec Ideal t .f32)
    (h' : s.ReducesTo [a] t) (h : s.Reduces [a] t) (hu : 0 < u.numel) (hn : ∃ n, s.size a = n + 1) (hi : ∀ y, init y = (⊥ : EReal))
    (hl : ∀ y, l y = (⊥ : EReal)) (hx : ∀ y, ∃ r : ℝ, x y = (r : EReal)) (j : t.Idx) :
    ∃ r : ℝ, maximumf l (Host.reduce FloatOps.maximumf x init h' hu) j = (r : EReal) := by
  obtain ⟨r, hr⟩ := reduce_max_real x init h' h hu hn hi hx j
  refine ⟨r, ?_⟩
  change max (l j) (Host.reduce (α := Ideal .f32) FloatOps.maximumf x init h' hu j) = (r : EReal)
  rw [hl]
  exact (max_eq_right bot_le).trans hr

/-- One axis is dropped. -/
theorem reduces : S2x8x16384x16384.Reduces [3] S2x8x16384 := by decide

/-- The largest of real scores is real. -/
theorem refMax_real {s : FVec Ideal S2x8x16384x16384 .f32} (hs : ∀ x, ∃ r : ℝ, s x = (r : EReal)) (j : S2x8x16384.Idx) :
    ∃ r : ℝ, refMax s j = (r : EReal) :=
  max_least s _ _ _ reduces _ ⟨16383, rfl⟩ (fun _ => least) (fun _ => least) hs j

/-- The exponentials, one by one. -/
theorem refExp_at (s : FVec Ideal S2x8x16384x16384 .f32) (x) (b : Fin 2) (h : Fin 8) (i k : Fin 16384) :
    refExp s x (ix4 b h i k) = Ideal.exp (s (ix4 b h i k) - x (ix3 b h i)) := by
  pointwise [refExp]

/-- The reference's result from its arguments. -/
def refAll (Q K : FVec Ideal S32768x1024 .bf16) (V : FVec Ideal S512x32768 .bf16) : FVec Ideal S2x16384x512 .bf16 :=
  refOut (refExp (refScores Q K) (refMax (refScores Q K))) V

/-- It is the attention of real queries and keys with any values, at each place. -/
theorem refAll_at {Q K : FVec Ideal S32768x1024 .bf16} (hQ : Real Q) (hK : Real K) (V : FVec Ideal S512x32768 .bf16)
    (b : Fin 2) (i : Fin 16384) (w : Fin 512) : refAll Q K V (ix3 b i w) = attention Q K V b i w := by
  have hs : ∀ x, ∃ r : ℝ, refScores Q K x = (r : EReal) := fun x => by
    rw [eq_ix4 x]
    exact ⟨_, (refScores_at hQ hK (x 0) (x 1) (x 2) (x 3)).trans (EReal.coe_mul _ _).symm⟩
  obtain ⟨X, hX⟩ := refMax_real hs (ix3 b ⟨w.val / 64, by omega⟩ i)
  have he : ∀ x : Fin 16384, refExp (refScores Q K) (refMax (refScores Q K)) (ix4 b ⟨w.val / 64, by omega⟩ i x)
      = Ideal.exp (((score Q K b (w.val / 64) i x : ℝ) : EReal) * ((Real.log 2 : ℝ) : EReal) - (X : EReal)) := fun x => by
    rw [refExp_at, hX, refScores_at hQ hK]
  have hv : ∀ x : Fin 16384, V (ix2 w ⟨b.val * 16384 + x.val, by omega⟩) = valAt V w (16384 * b.val + x.val) := fun x => by
    have hx : b.val * 16384 + x.val = 16384 * b.val + x.val := by omega
    have hx' : 16384 * b.val + x.val < 32768 := by omega
    unfold valAt
    rw [dif_pos ⟨w.isLt, hx'⟩]
    exact congrArg V (congrArg (ix2 w) (Fin.ext hx))
  refine (refOut_at _ V b i w).trans ?_
  unfold attention att
  rw [quotient_eq 16384 (by norm_num) (score Q K b (w.val / 64) i) (fun k => valAt V w (16384 * b.val + k)) 0 X]
  refine Finset.sum_congr rfl fun x _ => congrArg₂ (· * ·) (hv x) (congrArg₂ Ideal.div (he x) ?_)
  exact Finset.sum_congr rfl fun x' _ => he x'

/-- The same of the whole array. -/
theorem refAll_eq {Q K : FVec Ideal S32768x1024 .bf16} (hQ : Real Q) (hK : Real K) (V : FVec Ideal S512x32768 .bf16) :
    refAll Q K V = fun y => attention Q K V (y 0).val (y 1).val (y 2).val :=
  funext fun y => (congrArg (refAll Q K V) (eq_ix3 y)).trans (refAll_at hQ hK V (y 0) (y 1) (y 2))

variable (m : (ℓ : Loc nD τ sig) → Buf (Elt Ideal) ℓ) (ρ : Dev nD → PrngReg)

/-- The reference runs to its end with the attention of its arguments, which are unchanged. -/
theorem reference_run (hQ : ∀ c : Dev nD, Real (m ((c.tc : Thread nD τ).loc main_arg0))) (hK : ∀ c : Dev nD, Real (m ((c.tc : Thread nD τ).loc main_arg1))) :
    θ_run defs (onTc (τ := τ) (main (F := Ideal))) ⟨m, fun _ => 0, ρ⟩ fun r => ∀ c : Dev nD,
      r.2.mem ((c.tc : Thread nD τ).loc main_v24) = (fun y => attention (m ((c.tc : Thread nD τ).loc main_arg0)) (m ((c.tc : Thread nD τ).loc main_arg1))
        (m ((c.tc : Thread nD τ).loc main_arg2)) (y 0).val (y 1).val (y 2).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (refAll_eq (hQ c) (hK c) _), (h c).2⟩) (Cert.ReferenceIdeal.Value.run m ρ)

end Cert.Attn
-- ==== Proof.Finite.lean ====
module

public import proofs.«01_k».proof.Defs
public import proofs.«01_k».proof.Proof.Spec
public import Idealize.ShloMosaic.Lib.ReduceAll

/-! # What the precondition says

Every element of the queries and of the keys is a real. -/

@[expose] public section

noncomputable section
open Idealize.ShloMosaic
namespace Cert.Attn

/-- The side conditions of the precondition's operations. -/
instance preFacts : Cert.Pre_finite_scores.Facts where
  bitsLt_bf16_f32 := by decide
  bcast_S_S32768x1024 := by decide
  reducesTo_S32768x1024_S_d0_1 := by decide
  h_S_ := by decide

/-- A number whose magnitude is below infinity is a real. -/
theorem real_of_lt (x : EReal) (h : FloatOps.cmpf (F := Ideal) (φ := .f32) .olt (FloatOps.absf (F := Ideal) (φ := .f32) x)
    (Ideal.ofBits .f32 0x7F800000#32) = 1#1) : ∃ r : ℝ, x = (r : EReal) := by
  rw [show Ideal.ofBits .f32 0x7F800000#32 = (⊤ : EReal) from by simp [Ideal.ofBits, Ideal.ieee]] at h
  induction x using EReal.rec with
  | bot => simp [Ideal.cmpf_def, Ideal.absf_def, Ideal.cmp] at h
  | top => simp [Ideal.cmpf_def, Ideal.absf_def, Ideal.cmp] at h
  | coe r => exact ⟨r, rfl⟩

open Cert.Pre_finite_scores in
/-- The precondition makes the queries and the keys real. -/
theorem real_of_pre (Q K : FVec Ideal S32768x1024 .bf16) (V : FVec Ideal S512x32768 .bf16)
    (h : Cert.Pre_finite_scores.fn (F := Ideal) Q K V = fun _ => 1#1) : Real Q ∧ Real K := by
  have hs : Subsingleton S_.Idx := ⟨fun a b => funext fun k => k.elim0⟩
  have h0 := congrFun h ix0
  have hb : ∀ a b : BitVec 1, IntOp.andi a b = 1#1 → a = 1#1 ∧ b = 1#1 := by decide
  obtain ⟨h1, h2⟩ := hb _ _ h0
  exact ⟨fun x => real_of_lt _ (Host.reduce_andi_all _ _ _ _ _ h1 x), fun x => real_of_lt _ (Host.reduce_andi_all _ _ _ _ _ h2 x)⟩

end Cert.Attn
-- ==== Proof.Same2.lean ====
module

public import proofs.«01_k».proof.Proof.Gen.Kernel2Ideal.Frame
public import proofs.«01_k».proof.Defs
public import proofs.«01_k».proof.Proof.Gen.Kernel2

/-! # The frame of the projections on the machine's numbers

No rule rewrote them either: the printed program and the one read over the reals are one text, and share the frame. -/

@[expose] public section

set_option maxHeartbeats 8000000

noncomputable section
namespace Cert.InProj

open Idealize.ShloMosaic Idealize.ShloMosaic.TcCoe Idealize.SL.Sem

variable {F : FTy → Type} [FloatOps F]

/-- The two programs' bodies are the same. -/
theorem same_bodies : Cert.Kernel2.defs₀ (F := F) = Cert.Kernel2Ideal.defs₀ (F := F) :=
  congrArg Defs.onTc (funext fun l => funext fun a => match l, a with
    | 0, (_, _) => rfl
    | ⟨_ + 1, h⟩, _ => absurd h (Nat.not_lt.2 (Nat.le_add_left _ _)))

/-- So are their tables. -/
theorem same_defs : Cert.Kernel2.defs (F := F) = Cert.Kernel2Ideal.defs (F := F) :=
  congrArg (Pipeline.defs (Cert.Kernel2Ideal.pcfgs (F := F))) same_bodies

/-- From any inputs the kernel runs to its end, its arguments unchanged, every counter at zero. -/
theorem kernel2_frame (m : (ℓ : Loc Cert.Kernel2.nD Cert.Kernel2.τ Cert.Kernel2.sig) → Buf (Elt F) ℓ) (ρ : Dev Cert.Kernel2.nD → PrngReg) :
    θ_run (Cert.Kernel2.defs (F := F)) (onTc (τ := Cert.Kernel2.τ) (Cert.Kernel2.main (F := F))) ⟨m, fun _ => 0, ρ⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0) := by
  rw [same_defs]
  exact Cert.Kernel2Ideal.Gen.frame m ρ

end Cert.InProj
end
-- ==== Proof.InSpec.lean ====
module

public import Idealize.ShloMosaic.PureOps.Ideal

/-! # The input projections, in numbers

One row of the activations is scaled to root mean square one and multiplied by the projection; two slices of the result are scaled
again and multiplied by the low-rank factors. -/

@[expose] public section

noncomputable section
open Idealize.ShloMosaic
namespace Cert.InProj

/-- A row over the root of its mean square (plus a small number), times the gains; `n` is the row's length. -/
def scaled {d : ℕ} (n : EReal) (x g : Fin d → EReal) (e : Fin d) : EReal :=
  x e * Ideal.rsqrt (Ideal.div (∑ k, x k * x k) n + Ideal.ofBits .f32 0x3727C5AC#32) * g e

/-- The projection of a row. -/
def proj (x g : Fin 1024 → EReal) (W : Fin 1024 → Fin 4224 → EReal) (j : Fin 4224) : EReal :=
  ∑ k, scaled (Ideal.ofBits .f32 0x44800000#32) x g k * W k j

end Cert.InProj
-- ==== Proof.InPieces.lean ====
module

public import proofs.«01_k».proof.Proof.InSpec
public import Idealize.ShloMosaic.Lib.Exec.Geometry
public import Idealize.ShloMosaic.Lib.Pointwise

/-! # Rows sorted by their remainder

A matrix of 512 rows goes to a buffer in pieces of 128 columns; every fourth row of a piece goes on to a second buffer. What is read
back from a buffer, every fourth row, are the matrix's rows of one remainder by 4, and by 16. -/

@[expose] public section

set_option maxRecDepth 16384

noncomputable section
open Idealize.ShloMosaic Idealize.ShloMosaic.TcCoe
namespace Cert.InProj

/-- The shapes of the two buffers and of a piece of each. -/
abbrev Cols : Shape := ⟨4, ![3, 4, 512, 128]⟩
abbrev ColsPiece : Shape := ⟨4, ![1, 1, 512, 128]⟩
abbrev Quarter : Shape := ⟨4, ![1, 1, 128, 128]⟩
abbrev Rows : Shape := ⟨5, ![3, 4, 4, 128, 128]⟩
abbrev RowsPiece : Shape := ⟨5, ![1, 1, 1, 128, 128]⟩
abbrev Sixteenth : Shape := ⟨5, ![1, 1, 1, 32, 128]⟩

/-- A piece holds 128 columns of one of three matrices. -/
def ColsAre (A : ℕ → ℕ → ℕ → EReal) (k : ℕ × ℕ) (p : View.Piece (Elt Ideal) Cols .f32) : Prop :=
  ∃ (inb : ∀ a, (![k.1, k.2, 0, 0] : Fin 4 → ℕ) a + ColsPiece.size a ≤ Cols.size a) (v : ColsPiece.Idx → EReal),
    p = ⟨Rect.unit (s := Cols) ![k.1, k.2, 0, 0] ColsPiece.size inb, v⟩ ∧
    ∀ (i : Fin 512) (e : Fin 128), v (ix4 0 0 i e) = A k.1 i.val (128 * k.2 + e.val)

/-- A piece holds 128 columns of the rows of one remainder by four. -/
def RowsAre (A : ℕ → ℕ → ℕ → EReal) (k : ℕ × ℕ × ℕ) (p : View.Piece (Elt Ideal) Rows .f32) : Prop :=
  ∃ (inb : ∀ a, (![k.1, k.2.1, k.2.2, 0, 0] : Fin 5 → ℕ) a + RowsPiece.size a ≤ Rows.size a) (v : RowsPiece.Idx → EReal),
    p = ⟨Rect.unit (s := Rows) ![k.1, k.2.1, k.2.2, 0, 0] RowsPiece.size inb, v⟩ ∧
    ∀ (i : Fin 128) (e : Fin 128), v (ix5 0 0 0 i e) = A k.1 (4 * i.val + k.2.1) (128 * k.2.2 + e.val)

theorem unit_one4 {a b : ℕ} (y : (⟨4, ![1, 1, a, b]⟩ : Shape).Idx) : y = ix4 0 0 (y 2 : Fin a) (y 3 : Fin b) := by
  funext x
  fin_cases x
  · exact Subsingleton.elim (α := Fin 1) _ _
  · exact Subsingleton.elim (α := Fin 1) _ _
  · rfl
  · rfl

theorem unit_one5 {a b : ℕ} (y : (⟨5, ![1, 1, 1, a, b]⟩ : Shape).Idx) : y = ix5 0 0 0 (y 3 : Fin a) (y 4 : Fin b) := by
  funext x
  fin_cases x
  · exact Subsingleton.elim (α := Fin 1) _ _
  · exact Subsingleton.elim (α := Fin 1) _ _
  · exact Subsingleton.elim (α := Fin 1) _ _
  · rfl
  · rfl

theorem exists_of_key {α β : Type} {R : α → β → Prop} {ks : List α} {L : List β} (h : List.Forall₂ R ks L) {k : α} (hk : k ∈ ks) :
    ∃ p ∈ L, R k p := by
  induction h with
  | nil => exact absurd hk List.not_mem_nil
  | cons hr _ ih =>
    rcases List.mem_cons.1 hk with rfl | hk
    · exact ⟨_, List.mem_cons_self, hr⟩
    · obtain ⟨p, hp, hr'⟩ := ih hk
      exact ⟨p, List.mem_cons_of_mem _ hp, hr'⟩

theorem exists_of_piece {α β : Type} {R : α → β → Prop} {ks : List α} {L : List β} (h : List.Forall₂ R ks L) {p : β} (hp : p ∈ L) :
    ∃ k ∈ ks, R k p := by
  induction h with
  | nil => exact absurd hp List.not_mem_nil
  | cons hr _ ih =>
    rcases List.mem_cons.1 hp with rfl | hp
    · exact ⟨_, List.mem_cons_self, hr⟩
    · obtain ⟨k, hk, hr'⟩ := ih hp
      exact ⟨k, List.mem_cons_of_mem _ hk, hr'⟩

/-- A piece's values at any of its indices. -/
theorem cols_apply {v : ColsPiece.Idx → EReal} {f : ℕ → ℕ → EReal} (h : ∀ (i : Fin 512) (e : Fin 128), v (ix4 0 0 i e) = f i.val e.val) (x : ColsPiece.Idx) :
    v x = f (x 2).val (x 3).val := by
  conv_lhs => rw [unit_one4 x]
  exact h _ _

theorem rows_apply {v : RowsPiece.Idx → EReal} {f : ℕ → ℕ → EReal} (h : ∀ (i : Fin 128) (e : Fin 128), v (ix5 0 0 0 i e) = f i.val e.val) (x : RowsPiece.Idx) :
    v x = f (x 3).val (x 4).val := by
  conv_lhs => rw [unit_one5 x]
  exact h _ _

variable {sig : RefSig} {κ : Kind} {sp : Space} {A : ℕ → ℕ → ℕ → EReal}

/-- Every fourth row of a piece of columns. -/
theorem quarter_at (v : View sig κ sp Cols .f32) {ks : List (ℕ × ℕ)} {L : List (View.Piece (Elt Ideal) Cols .f32)}
    (h : List.Forall₂ (ColsAre A) ks L) {w c r : ℕ} (hk : (w, c) ∈ ks) (hr : r < 4)
    {inb : ∀ a, Quarter.size a = 0 ∨ (![w, c, r, 0] : Fin 4 → ℕ) a + (![1, 1, 4, 1] : Fin 4 → ℕ) a * (Quarter.size a - 1) < Cols.size a}
    (i : Fin 128) (e : Fin 128) :
    v.readCov L (⟨![w, c, r, 0], Quarter.size, ![1, 1, 4, 1], inb⟩ : LoadRect Cols) (ix4 0 0 i e) = A w (4 * i.val + r) (128 * c + e.val) := by
  have hi := i.isLt
  have he := e.isLt
  unfold View.readCov
  rw [View.readAt_apply]
  refine (v.read_writes_apply_of_pieces v.junk (fun y => A (y 0).val (y 2).val (128 * (y 1).val + (y 3).val)) L ?_ _ ?_).trans ?_
  · intro p hp x
    obtain ⟨⟨k0, k1⟩, -, inb', u, rfl, hu⟩ := exists_of_piece h hp
    have h0 : (x 0).val = 0 := Nat.lt_one_iff.1 (x 0).isLt
    have h1 : (x 1).val = 0 := Nat.lt_one_iff.1 (x 1).isLt
    refine (cols_apply (f := fun i e => A k0 i (128 * k1 + e)) hu x).trans ?_
    show A k0 (x 2).val (128 * k1 + (x 3).val) = A (k0 + 1 * (x 0).val) (0 + 1 * (x 2).val) (128 * (k1 + 1 * (x 1).val) + (0 + 1 * (x 3).val))
    simp only [h0, h1, Nat.zero_add, Nat.one_mul, Nat.add_zero]
  · obtain ⟨p, hp, inb', u, rfl, -⟩ := exists_of_key h hk
    refine ⟨_, hp, (Rect.mem_set_unit (inb := inb')).2 fun a => ?_⟩
    fin_cases a
    · show w ≤ w + 1 * 0 ∧ w + 1 * 0 < w + 1; omega
    · show c ≤ c + 1 * 0 ∧ c + 1 * 0 < c + 1; omega
    · show 0 ≤ r + 4 * i.val ∧ r + 4 * i.val < 0 + 512; omega
    · show 0 ≤ 0 + 1 * e.val ∧ 0 + 1 * e.val < 0 + 128; omega
  · show A (w + 1 * 0) (r + 4 * i.val) (128 * (c + 1 * 0) + (0 + 1 * e.val)) = _
    simp only [Nat.zero_add, Nat.one_mul, Nat.mul_zero, Nat.add_zero, Nat.add_comm r]

/-- Every fourth row of a piece of rows. -/
theorem sixteenth_at (v : View sig κ sp Rows .f32) {ks : List (ℕ × ℕ × ℕ)} {L : List (View.Piece (Elt Ideal) Rows .f32)}
    (h : List.Forall₂ (RowsAre A) ks L) {w r c q : ℕ} (hk : (w, r, c) ∈ ks) (hq : q < 4)
    {inb : ∀ a, Sixteenth.size a = 0 ∨ (![w, r, c, q, 0] : Fin 5 → ℕ) a + (![1, 1, 1, 4, 1] : Fin 5 → ℕ) a * (Sixteenth.size a - 1) < Rows.size a}
    (i : Fin 32) (e : Fin 128) :
    v.readCov L (⟨![w, r, c, q, 0], Sixteenth.size, ![1, 1, 1, 4, 1], inb⟩ : LoadRect Rows) (ix5 0 0 0 i e) = A w (16 * i.val + (4 * q + r)) (128 * c + e.val) := by
  have hi := i.isLt
  have he := e.isLt
  unfold View.readCov
  rw [View.readAt_apply]
  refine (v.read_writes_apply_of_pieces v.junk (fun y => A (y 0).val (4 * (y 3).val + (y 1).val) (128 * (y 2).val + (y 4).val)) L ?_ _ ?_).trans ?_
  · intro p hp x
    obtain ⟨⟨k0, k1, k2⟩, -, inb', u, rfl, hu⟩ := exists_of_piece h hp
    have h0 : (x 0).val = 0 := Nat.lt_one_iff.1 (x 0).isLt
    have h1 : (x 1).val = 0 := Nat.lt_one_iff.1 (x 1).isLt
    have h2 : (x 2).val = 0 := Nat.lt_one_iff.1 (x 2).isLt
    refine (rows_apply (f := fun i e => A k0 (4 * i + k1) (128 * k2 + e)) hu x).trans ?_
    show A k0 (4 * (x 3).val + k1) (128 * k2 + (x 4).val) = A (k0 + 1 * (x 0).val) (4 * (0 + 1 * (x 3).val) + (k1 + 1 * (x 1).val)) (128 * (k2 + 1 * (x 2).val) + (0 + 1 * (x 4).val))
    simp only [h0, h1, h2, Nat.zero_add, Nat.one_mul, Nat.add_zero]
  · obtain ⟨p, hp, inb', u, rfl, -⟩ := exists_of_key h hk
    refine ⟨_, hp, (Rect.mem_set_unit (inb := inb')).2 fun a => ?_⟩
    fin_cases a
    · show w ≤ w + 1 * 0 ∧ w + 1 * 0 < w + 1; omega
    · show r ≤ r + 1 * 0 ∧ r + 1 * 0 < r + 1; omega
    · show c ≤ c + 1 * 0 ∧ c + 1 * 0 < c + 1; omega
    · show 0 ≤ q + 4 * i.val ∧ q + 4 * i.val < 0 + 128; omega
    · show 0 ≤ 0 + 1 * e.val ∧ 0 + 1 * e.val < 0 + 128; omega
  · show A (w + 1 * 0) (4 * (q + 4 * i.val) + (r + 1 * 0)) (128 * (c + 1 * 0) + (0 + 1 * e.val)) = _
    rw [Nat.mul_zero, Nat.add_zero, Nat.add_zero, Nat.add_zero, Nat.zero_add, Nat.one_mul, show 4 * (q + 4 * i.val) + r = 16 * i.val + (4 * q + r) by omega]

/-! ## What the stores put into the second buffer and into the outputs -/

/-- The shapes of the outputs' pieces. -/
abbrev Fours : Shape := ⟨2, ![128, 2048]⟩
abbrev FoursPiece : Shape := ⟨2, ![128, 128]⟩
abbrev Sixteens : Shape := ⟨2, ![32, 8192]⟩
abbrev SixteensPiece : Shape := ⟨2, ![32, 128]⟩

/-- A piece holds 128 columns of the rows of one remainder by four. -/
def FourIs (A : ℕ → ℕ → ℕ → EReal) (w : ℕ) (k : ℕ × ℕ) (p : View.Piece (Elt Ideal) Fours .bf16) : Prop :=
  ∃ (inb : ∀ a, (![0, 512 * k.1 + 128 * k.2] : Fin 2 → ℕ) a + FoursPiece.size a ≤ Fours.size a) (v : FoursPiece.Idx → EReal),
    p = ⟨Rect.unit (s := Fours) ![0, 512 * k.1 + 128 * k.2] FoursPiece.size inb, v⟩ ∧
    ∀ (i : Fin 128) (e : Fin 128), v (ix2 i e) = A w (4 * i.val + k.1) (128 * k.2 + e.val)

/-- A piece holds 128 columns of the rows of one remainder by sixteen. -/
def SixteenIs (A : ℕ → ℕ → ℕ → EReal) (w : ℕ) (k : ℕ × ℕ) (p : View.Piece (Elt Ideal) Sixteens .bf16) : Prop :=
  ∃ (inb : ∀ a, (![0, 512 * k.1 + 128 * k.2] : Fin 2 → ℕ) a + SixteensPiece.size a ≤ Sixteens.size a) (v : SixteensPiece.Idx → EReal),
    p = ⟨Rect.unit (s := Sixteens) ![0, 512 * k.1 + 128 * k.2] SixteensPiece.size inb, v⟩ ∧
    ∀ (i : Fin 32) (e : Fin 128), v (ix2 i e) = A w (16 * i.val + k.1) (128 * k.2 + e.val)

theorem four_read (v : View sig κ sp Fours .bf16) {w : ℕ} {ks : List (ℕ × ℕ)} {L : List (View.Piece (Elt Ideal) Fours .bf16)}
    (h : List.Forall₂ (FourIs A w) ks L) (hks : ∀ k ∈ ks, k.2 < 4) (f) (i : Fin 128) (j : Fin 2048) (hc : ∃ p ∈ L, (ix2 i j : Fours.Idx) ∈ p.1.set) :
    v.read (Elt Ideal) (v.writes (Elt Ideal) f L) (ix2 i j) = A w (4 * i.val + j.val / 512) (j.val % 512) := by
  refine v.read_writes_apply_of_pieces f (fun y => A w (4 * (y 0).val + (y 1).val / 512) ((y 1).val % 512)) L ?_ _ hc
  intro p hp x
  obtain ⟨⟨k0, k1⟩, hk, inb', u, rfl, hu⟩ := exists_of_piece h hp
  have hk := hks _ hk
  obtain ⟨a, b, rfl⟩ : ∃ (a : Fin 128) (b : Fin 128), x = (ix2 a b : FoursPiece.Idx) := ⟨x 0, x 1, by funext z; fin_cases z <;> rfl⟩
  have hb := b.isLt
  refine (hu a b).trans ?_
  show A w (4 * a.val + k0) (128 * k1 + b.val) = A w (4 * (0 + 1 * a.val) + (512 * k0 + 128 * k1 + 1 * b.val) / 512) ((512 * k0 + 128 * k1 + 1 * b.val) % 512)
  congr 1 <;> dsimp only at hk <;> omega

theorem sixteen_read (v : View sig κ sp Sixteens .bf16) {w : ℕ} {ks : List (ℕ × ℕ)} {L : List (View.Piece (Elt Ideal) Sixteens .bf16)}
    (h : List.Forall₂ (SixteenIs A w) ks L) (hks : ∀ k ∈ ks, k.2 < 4) (f) (i : Fin 32) (j : Fin 8192) (hc : ∃ p ∈ L, (ix2 i j : Sixteens.Idx) ∈ p.1.set) :
    v.read (Elt Ideal) (v.writes (Elt Ideal) f L) (ix2 i j) = A w (16 * i.val + j.val / 512) (j.val % 512) := by
  refine v.read_writes_apply_of_pieces f (fun y => A w (16 * (y 0).val + (y 1).val / 512) ((y 1).val % 512)) L ?_ _ hc
  intro p hp x
  obtain ⟨⟨k0, k1⟩, hk, inb', u, rfl, hu⟩ := exists_of_piece h hp
  have hk := hks _ hk
  obtain ⟨a, b, rfl⟩ : ∃ (a : Fin 32) (b : Fin 128), x = (ix2 a b : SixteensPiece.Idx) := ⟨x 0, x 1, by funext z; fin_cases z <;> rfl⟩
  have hb := b.isLt
  refine (hu a b).trans ?_
  show A w (16 * a.val + k0) (128 * k1 + b.val) = A w (16 * (0 + 1 * a.val) + (512 * k0 + 128 * k1 + 1 * b.val) / 512) ((512 * k0 + 128 * k1 + 1 * b.val) % 512)
  congr 1 <;> dsimp only at hk <;> omega

end Cert.InProj
-- ==== Proof.InBody.lean ====
module

public import proofs.«01_k».proof.Proof.InSpec
public import proofs.«01_k».proof.Proof.Gen.Kernel2Ideal.Skeleton
public import Idealize.ShloMosaic.Lib.Pointwise
public import Idealize.ShloMosaic.Lib.IdealHost

/-! # The steps of the projections' body, in numbers -/

@[expose] public section

set_option maxRecDepth 16384

noncomputable section
open Idealize.ShloMosaic Idealize.ShloMosaic.TcCoe Idealize.SL.Sem
namespace Cert.InProj
open Cert.Kernel2Ideal Cert.Kernel2Ideal.Gen

/-- The scaled rows of a block. -/
theorem rows_at (x : FVec Ideal S512x1024 .f32) (g : FVec Ideal S1x1024 .f32) (i : Fin 512) (e : Fin 1024) :
    k0_pay2 (F := Ideal) x g (ix2 i e) = scaled (Ideal.ofBits .f32 0x44800000#32) (fun k => x (ix2 i k)) (fun k => g (ix2 0 k)) e := by
  pointwise [k0_pay2, scaled]

/-- A projection of 512 columns. -/
theorem cols512 (h : FVec Ideal S512x1024 .bf16) (w : FVec Ideal S1024x512 .bf16) (i : Fin 512) (j : Fin 512) :
    k0_pay122 (F := Ideal) h w (ix2 i j) = ∑ k : Fin 1024, h (ix2 i k) * w (ix2 k j) := by
  pointwise [k0_pay122]

/-- The queries of the dilated attention, scaled. -/
theorem queries_at (x : FVec Ideal S512x1024 .f32) (g : FVec Ideal S1x1024 .f32) (w : FVec Ideal S1024x512 .bf16) (i : Fin 512) (j : Fin 512) :
    k0_pay3 (F := Ideal) x g w (ix2 i j) = (∑ k : Fin 1024, k0_pay2 (F := Ideal) x g (ix2 i k) * w (ix2 k j)) * Ideal.ofBits .f32 0x3E000000#32 := by
  pointwise [k0_pay3]

/-- The gates. -/
theorem gates_at (h : FVec Ideal S512x1024 .bf16) (w : FVec Ideal S1024x2048 .bf16) (i : Fin 512) (j : Fin 2048) :
    k0_pay1 (F := Ideal) h w (ix2 i j) = Ideal.logistic (∑ k : Fin 1024, h (ix2 i k) * w (ix2 k j)) := by
  pointwise [k0_pay1]

/-- The low-rank queries. -/
theorem lowrank_at (h : FVec Ideal S512x1024 .bf16) (w : FVec Ideal S1024x256 .bf16) (g : FVec Ideal S1x256 .f32) (i : Fin 512) (j : Fin 256) :
    k0_pay359 (F := Ideal) h w g (ix2 i j) = scaled (Ideal.ofBits .f32 0x43800000#32) (fun l => ∑ k : Fin 1024, h (ix2 i k) * w (ix2 k l)) (fun k => g (ix2 0 k)) j := by
  pointwise [k0_pay359, scaled]

/-- The low-rank keys and values. -/
theorem lowkeys_at (h : FVec Ideal S512x1024 .bf16) (w : FVec Ideal S1024x128 .bf16) (g : FVec Ideal S1x128 .f32) (i : Fin 512) (j : Fin 128) :
    k0_pay372 (F := Ideal) h w g (ix2 i j) = scaled (Ideal.ofBits .f32 0x43000000#32) (fun l => ∑ k : Fin 1024, h (ix2 i k) * w (ix2 k l)) (fun k => g (ix2 0 k)) j := by
  pointwise [k0_pay372, scaled]

/-- The products of the low-rank queries with their two factors, -/
theorem main_at (h : FVec Ideal S512x1024 .bf16) (w : FVec Ideal S1024x256 .bf16) (g : FVec Ideal S1x256 .f32) (u : FVec Ideal S256x1024 .bf16) (i : Fin 512) (j : Fin 1024) :
    k0_pay360 (F := Ideal) h w g u (ix2 i j) = ∑ l : Fin 256, k0_pay359 (F := Ideal) h w g (ix2 i l) * u (ix2 l j) := by
  pointwise [k0_pay360]

theorem turned_at (h : FVec Ideal S512x1024 .bf16) (w : FVec Ideal S1024x256 .bf16) (g : FVec Ideal S1x256 .f32) (u : FVec Ideal S256x1024 .bf16) (i : Fin 512) (j : Fin 1024) :
    k0_pay361 (F := Ideal) h w g u (ix2 i j) = ∑ l : Fin 256, k0_pay359 (F := Ideal) h w g (ix2 i l) * u (ix2 l j) := by
  pointwise [k0_pay361]

/-- and of the low-rank keys with theirs. -/
theorem nope_at (h : FVec Ideal S512x1024 .bf16) (w : FVec Ideal S1024x128 .bf16) (g : FVec Ideal S1x128 .f32) (u : FVec Ideal S128x1024 .bf16) (i : Fin 512) (j : Fin 1024) :
    k0_pay373 (F := Ideal) h w g u (ix2 i j) = ∑ l : Fin 128, k0_pay372 (F := Ideal) h w g (ix2 i l) * u (ix2 l j) := by
  pointwise [k0_pay373]

/-- The rotated part of the keys. -/
theorem rope_at (h : FVec Ideal S512x1024 .bf16) (w w' : FVec Ideal S1024x128 .bf16) (t t' : FVec Ideal S512x128 .f32) (i : Fin 512) (e : Fin 128) :
    k0_pay376 (F := Ideal) h (k0_pay375 (F := Ideal) h w t) w' (constant S512x128 .f32 0#32) t' (ix2 i e)
      = (∑ k : Fin 1024, h (ix2 i k) * w (ix2 k e)) * t (ix2 i e) + (∑ k : Fin 1024, h (ix2 i k) * w' (ix2 k e)) * t' (ix2 i e) := by
  pointwise [k0_pay376, k0_pay375]

/-- The values of the attention. -/
theorem values_at (h : FVec Ideal S512x1024 .bf16) (w : FVec Ideal S1024x128 .bf16) (g : FVec Ideal S1x128 .f32) (u : FVec Ideal S512x128 .bf16) (i : Fin 512) (j : Fin 512) :
    k0_pay374 (F := Ideal) h w g u (ix2 i j) = ∑ l : Fin 128, u (ix2 i l) * k0_pay372 (F := Ideal) h w g (ix2 j l) := by
  pointwise [k0_pay374]

end Cert.InProj
-- ==== Proof.InState.lean ====
module

public import proofs.«01_k».proof.Proof.InPieces
public import proofs.«01_k».proof.Proof.InBody
public import proofs.«01_k».proof.Proof.Gen.Kernel2Ideal.Frame.RunA

/-! # What the body stores into its two scratch buffers

The three matrices of the dilated attention, 128 columns at a time, then every fourth of their rows. -/

@[expose] public section

set_option maxRecDepth 16384

noncomputable section
open Idealize.ShloMosaic Idealize.ShloMosaic.TcCoe Idealize.SL.Sem
namespace Cert.InProj
open Cert.Kernel2Ideal Cert.Kernel2Ideal.Gen

/-- All the columns of the projection of row `i` of a block. -/
def rowProj (x0 : Vec Ideal S512x1024 .f32) (x1 : Vec Ideal S1x1024 .f32) (x2 : Vec Ideal S1024x4224 .bf16) (i : Fin 512) (j : Fin 4224) : EReal :=
  proj (fun k => x0 (ix2 i k)) (fun k => x1 (ix2 0 k)) (fun k l => x2 (ix2 k l)) j

/-- The three matrices of the dilated attention: the queries, scaled, the keys and the values. -/
def dilated (x0 : Vec Ideal S512x1024 .f32) (x1 : Vec Ideal S1x1024 .f32) (x2 : Vec Ideal S1024x4224 .bf16) (w i j : ℕ) : EReal :=
  if h : i < 512 ∧ j < 512 then
    match w with
    | 0 => rowProj x0 x1 x2 ⟨i, h.1⟩ ⟨j, by omega⟩ * Ideal.ofBits .f32 0x3E000000#32
    | 1 => rowProj x0 x1 x2 ⟨i, h.1⟩ ⟨512 + j, by omega⟩
    | _ => rowProj x0 x1 x2 ⟨i, h.1⟩ ⟨1024 + j, by omega⟩
  else 0

/-- A load of all of an argument's buffer. -/
theorem load_all {a b : ℕ} {e : EltTy} (arg : Memref sig .tc .vmem ⟨2, ![a, b]⟩ e) (h : arg.IsWhole) (x : Vec Ideal ⟨2, ![a, b]⟩ e)
    (inb : ∀ z, (![0, 0] : Fin 2 → ℕ) z + (⟨2, ![a, b]⟩ : Shape).size z ≤ (⟨2, ![a, b]⟩ : Shape).size z) :
    View.readAt (Elt Ideal) arg.view (Rect.unit (s := ⟨2, ![a, b]⟩) ![0, 0] (⟨2, ![a, b]⟩ : Shape).size inb).toLoadRect (h.unread x) = x := by
  funext j
  rw [View.readAt_apply]
  refine (congrFun (h.read_unread x) _).trans (congrArg x (funext fun z => Fin.ext ?_))
  fin_cases z
  · show 0 + 1 * (j 0).val = (j 0).val; omega
  · show 0 + 1 * (j 1).val = (j 1).val; omega

/-- A load of some of an argument's columns. -/
theorem load_cols {a b b' o : ℕ} {e : EltTy} (arg : Memref sig .tc .vmem ⟨2, ![a, b]⟩ e) (h : arg.IsWhole) (x : Vec Ideal ⟨2, ![a, b]⟩ e)
    (inb : ∀ z, (![0, o] : Fin 2 → ℕ) z + (⟨2, ![a, b']⟩ : Shape).size z ≤ (⟨2, ![a, b]⟩ : Shape).size z) (i : Fin a) (j : Fin b') (hj : o + j.val < b) :
    View.readAt (Elt Ideal) arg.view (Rect.unit (s := ⟨2, ![a, b]⟩) ![0, o] (⟨2, ![a, b']⟩ : Shape).size inb).toLoadRect (h.unread x) (ix2 i j) = x (ix2 i ⟨o + j.val, hj⟩) := by
  rw [View.readAt_apply]
  refine (congrFun (h.read_unread x) _).trans (congrArg x (funext fun z => Fin.ext ?_))
  fin_cases z
  · show 0 + 1 * i.val = i.val; omega
  · show o + 1 * j.val = o + j.val; omega

/-- 128 columns of a matrix, as a piece. -/
theorem slice_at (o : ℕ) (z : FVec Ideal S512x512 .f32) (hs : S512x512.Slices ![0, o] S512x128) (i : Fin 512) (e : Fin 128) (h : o + e.val < 512) :
    shapeCast S1x1x512x128 (extractStridedSlice S512x128 ![0, o] z hs) shapeCasts_S512x128_S1x1x512x128 (ix4 0 0 i e) = z (ix2 i ⟨o + e.val, h⟩) := by
  pointwise

/-- A piece of columns, read at every fourth row, as a piece of the second buffer, -/
theorem quarter_piece (z : FVec Ideal S1x1x128x128 .f32) (i : Fin 128) (e : Fin 128) :
    shapeCast S1x1x1x128x128 (shapeCast S128x128 z shapeCasts_S1x1x128x128_S128x128) shapeCasts_S128x128_S1x1x1x128x128 (ix5 0 0 0 i e) = z (ix4 0 0 i e) := by
  pointwise

/-- and as a piece of an output. -/
theorem quarter_out (z : FVec Ideal S1x1x128x128 .f32) (i : Fin 128) (e : Fin 128) :
    (truncf .bf16 (shapeCast S128x128 z shapeCasts_S1x1x128x128_S128x128) bitsLt_bf16_f32 : FVec Ideal S128x128 .bf16) (ix2 i e) = z (ix4 0 0 i e) := by
  pointwise

theorem sixteenth_out (z : FVec Ideal S1x1x1x32x128 .f32) (i : Fin 32) (e : Fin 128) :
    (truncf .bf16 (shapeCast S32x128 z shapeCasts_S1x1x1x32x128_S32x128) bitsLt_bf16_f32 : FVec Ideal S32x128 .bf16) (ix2 i e) = z (ix5 0 0 0 i e) := by
  pointwise

variable (c : Dev nD) (arg1 : Memref sig .tc .vmem S512x1024 .f32) (harg1 : arg1.IsWhole) (arg2 : Memref sig .tc .vmem S1x1024 .f32) (harg2 : arg2.IsWhole)
  (arg3 : Memref sig .tc .vmem S1024x4224 .bf16) (harg3 : arg3.IsWhole) (arg27 : Memref sig .tc .vmem S3x4x512x128 .f32) (arg28 : Memref sig .tc .vmem S3x4x4x128x128 .f32)
  (x0 : Vec Ideal S512x1024 .f32) (x1 : Vec Ideal S1x1024 .f32) (x2 : Vec Ideal S1024x4224 .bf16)

/-- The store of every fourth row of a piece of columns. -/
theorem rows_piece {A : ℕ → ℕ → ℕ → EReal} {ks : List (ℕ × ℕ)} {L : List (View.Piece (Elt Ideal) Cols .f32)} (h : List.Forall₂ (ColsAre A) ks L) {w c r : ℕ}
    (hk : (w, c) ∈ ks) (hr : r < 4) (inb : ∀ a, (![w, r, c, 0, 0] : Fin 5 → ℕ) a + RowsPiece.size a ≤ Rows.size a)
    {inb' : ∀ a, Quarter.size a = 0 ∨ (![w, c, r, 0] : Fin 4 → ℕ) a + (![1, 1, 4, 1] : Fin 4 → ℕ) a * (Quarter.size a - 1) < Cols.size a} :
    RowsAre A (w, r, c) ⟨Rect.unit (s := Rows) ![w, r, c, 0, 0] RowsPiece.size inb,
      shapeCast S1x1x1x128x128 (shapeCast S128x128 (arg27.view.readCov (Val := Elt Ideal) L (⟨![w, c, r, 0], Quarter.size, ![1, 1, 4, 1], inb'⟩ : LoadRect Cols) : FVec Ideal S1x1x128x128 .f32)
        shapeCasts_S1x1x128x128_S128x128) shapeCasts_S128x128_S1x1x1x128x128⟩ :=
  ⟨inb, _, rfl, fun i e => (quarter_piece _ i e).trans (quarter_at arg27.view h hk hr i e)⟩

/-- The scaled rows that all the projections read. -/
theorem rows_held (i : Fin 512) (e : Fin 1024) :
    kernelRun0_A.sl.r c arg1 harg1 arg2 harg2 x0 x1 (ix2 i e) = scaled (Ideal.ofBits .f32 0x44800000#32) (fun k => x0 (ix2 i k)) (fun k => x1 (ix2 0 k)) e := by
  refine (rows_at _ _ i e).trans ?_
  rw [load_all arg1, load_all arg2]

/-- A product of the scaled rows with some of the projection's columns. -/
theorem product_held {b o : ℕ} (inb : ∀ z, (![0, o] : Fin 2 → ℕ) z + (⟨2, ![1024, b]⟩ : Shape).size z ≤ S1024x4224.size z) (i : Fin 512) (j : Fin b) (hj : o + j.val < 4224) :
    ∑ k : Fin 1024, (kernelRun0_A.sl.r c arg1 harg1 arg2 harg2 x0 x1 : FVec Ideal S512x1024 .bf16) (ix2 i k)
      * (View.readAt (Elt Ideal) arg3.view (Rect.unit (s := S1024x4224) ![0, o] (⟨2, ![1024, b]⟩ : Shape).size inb).toLoadRect (harg3.unread x2) : FVec Ideal ⟨2, ![1024, b]⟩ .bf16) (ix2 k j)
      = rowProj x0 x1 x2 i ⟨o + j.val, hj⟩ := by
  unfold rowProj proj
  refine Finset.sum_congr (M := EReal) rfl fun k _ => ?_
  exact Ideal.mul_congr (rows_held c arg1 harg1 arg2 harg2 x0 x1 i k) (load_cols arg3 harg3 x2 inb k j hj)

/-- The queries of the dilated attention. -/
theorem queries_held (i : Fin 512) (j : Fin 512) :
    kernelRun0_A.sl.r_1 c arg1 harg1 arg2 harg2 arg3 harg3 x0 x1 x2 (ix2 i j) = dilated x0 x1 x2 0 i.val j.val := by
  have h : kernelRun0_A.sl.r_1 c arg1 harg1 arg2 harg2 arg3 harg3 x0 x1 x2 (ix2 i j)
      = (∑ k : Fin 1024, (kernelRun0_A.sl.r c arg1 harg1 arg2 harg2 x0 x1 : FVec Ideal S512x1024 .bf16) (ix2 i k)
          * View.readAt (Elt Ideal) arg3.view (Rect.unit (s := S1024x4224) ![0, 0] S1024x512.size inb_S1024x4224_S1024x512_0_0).toLoadRect (harg3.unread x2) (ix2 k j))
        * Ideal.ofBits .f32 0x3E000000#32 := queries_at _ _ _ i j
  rw [h, product_held c arg1 harg1 arg2 harg2 arg3 harg3 x0 x1 x2 inb_S1024x4224_S1024x512_0_0 i j (by omega)]
  unfold dilated
  rw [dif_pos ⟨i.isLt, j.isLt⟩]
  simp only [Nat.zero_add]

/-- The keys, -/
theorem keys_held (i : Fin 512) (j : Fin 512) :
    k0_pay122 (F := Ideal) (kernelRun0_A.sl.r c arg1 harg1 arg2 harg2 x0 x1)
      (View.readAt (Elt Ideal) arg3.view (Rect.unit (s := S1024x4224) ![0, 512] S1024x512.size inb_S1024x4224_S1024x512_0_512).toLoadRect (harg3.unread x2)) (ix2 i j)
      = dilated x0 x1 x2 1 i.val j.val := by
  rw [cols512, product_held c arg1 harg1 arg2 harg2 arg3 harg3 x0 x1 x2 inb_S1024x4224_S1024x512_0_512 i j (by omega)]
  unfold dilated
  rw [dif_pos ⟨i.isLt, j.isLt⟩]
  rfl

/-- and the values. -/
theorem values_held (i : Fin 512) (j : Fin 512) :
    k0_pay241 (F := Ideal) (kernelRun0_A.sl.r c arg1 harg1 arg2 harg2 x0 x1)
      (View.readAt (Elt Ideal) arg3.view (Rect.unit (s := S1024x4224) ![0, 1024] S1024x512.size inb_S1024x4224_S1024x512_0_1024).toLoadRect (harg3.unread x2)) (ix2 i j)
      = dilated x0 x1 x2 2 i.val j.val := by
  refine (cols512 _ _ i j).trans ?_
  rw [product_held c arg1 harg1 arg2 harg2 arg3 harg3 x0 x1 x2 inb_S1024x4224_S1024x512_0_1024 i j (by omega)]
  unfold dilated
  rw [dif_pos ⟨i.isLt, j.isLt⟩]
  rfl

theorem cols_4 : List.Forall₂ (ColsAre (dilated x0 x1 x2)) [(0, 3), (0, 2), (0, 1), (0, 0)] (kernelRun0_A.sl.HS0_4 c arg1 harg1 arg2 harg2 arg3 harg3 x0 x1 x2) :=
  .cons ⟨inb_S3x4x512x128_S1x1x512x128_0_3_0_0, _, rfl, fun i e => (slice_at 384 _ slices_S512x512_o0_384_S512x128 i e (by omega)).trans (queries_held c arg1 harg1 arg2 harg2 arg3 harg3 x0 x1 x2 i ⟨384 + e.val, by omega⟩)⟩ <|
  .cons ⟨inb_S3x4x512x128_S1x1x512x128_0_2_0_0, _, rfl, fun i e => (slice_at 256 _ slices_S512x512_o0_256_S512x128 i e (by omega)).trans (queries_held c arg1 harg1 arg2 harg2 arg3 harg3 x0 x1 x2 i ⟨256 + e.val, by omega⟩)⟩ <|
  .cons ⟨inb_S3x4x512x128_S1x1x512x128_0_1_0_0, _, rfl, fun i e => (slice_at 128 _ slices_S512x512_o0_128_S512x128 i e (by omega)).trans (queries_held c arg1 harg1 arg2 harg2 arg3 harg3 x0 x1 x2 i ⟨128 + e.val, by omega⟩)⟩ <|
  .cons ⟨inb_S3x4x512x128_S1x1x512x128_0_0_0_0, _, rfl, fun i e => (slice_at 0 _ slices_S512x512_o0_0_S512x128 i e (by omega)).trans (queries_held c arg1 harg1 arg2 harg2 arg3 harg3 x0 x1 x2 i ⟨0 + e.val, by omega⟩)⟩ <|
  .nil

theorem cols_8 : List.Forall₂ (ColsAre (dilated x0 x1 x2)) [(1, 3), (1, 2), (1, 1), (1, 0), (0, 3), (0, 2), (0, 1), (0, 0)] (kernelRun0_A.sl.HS0_8 c arg1 harg1 arg2 harg2 arg3 harg3 x0 x1 x2) :=
  .cons ⟨inb_S3x4x512x128_S1x1x512x128_1_3_0_0, _, rfl, fun i e => (slice_at 384 _ slices_S512x512_o0_384_S512x128 i e (by omega)).trans (keys_held c arg1 harg1 arg2 harg2 arg3 harg3 x0 x1 x2 i ⟨384 + e.val, by omega⟩)⟩ <|
  .cons ⟨inb_S3x4x512x128_S1x1x512x128_1_2_0_0, _, rfl, fun i e => (slice_at 256 _ slices_S512x512_o0_256_S512x128 i e (by omega)).trans (keys_held c arg1 harg1 arg2 harg2 arg3 harg3 x0 x1 x2 i ⟨256 + e.val, by omega⟩)⟩ <|
  .cons ⟨inb_S3x4x512x128_S1x1x512x128_1_1_0_0, _, rfl, fun i e => (slice_at 128 _ slices_S512x512_o0_128_S512x128 i e (by omega)).trans (keys_held c arg1 harg1 arg2 harg2 arg3 harg3 x0 x1 x2 i ⟨128 + e.val, by omega⟩)⟩ <|
  .cons ⟨inb_S3x4x512x128_S1x1x512x128_1_0_0_0, _, rfl, fun i e => (slice_at 0 _ slices_S512x512_o0_0_S512x128 i e (by omega)).trans (keys_held c arg1 harg1 arg2 harg2 arg3 harg3 x0 x1 x2 i ⟨0 + e.val, by omega⟩)⟩ <|
  cols_4 c arg1 harg1 arg2 harg2 arg3 harg3 x0 x1 x2

theorem cols_12 : List.Forall₂ (ColsAre (dilated x0 x1 x2)) [(2, 3), (2, 2), (2, 1), (2, 0), (1, 3), (1, 2), (1, 1), (1, 0), (0, 3), (0, 2), (0, 1), (0, 0)] (kernelRun0_A.sl.HS0_12 c arg1 harg1 arg2 harg2 arg3 harg3 x0 x1 x2) :=
  .cons ⟨inb_S3x4x512x128_S1x1x512x128_2_3_0_0, _, rfl, fun i e => (slice_at 384 _ slices_S512x512_o0_384_S512x128 i e (by omega)).trans (values_held c arg1 harg1 arg2 harg2 arg3 harg3 x0 x1 x2 i ⟨384 + e.val, by omega⟩)⟩ <|
  .cons ⟨inb_S3x4x512x128_S1x1x512x128_2_2_0_0, _, rfl, fun i e => (slice_at 256 _ slices_S512x512_o0_256_S512x128 i e (by omega)).trans (values_held c arg1 harg1 arg2 harg2 arg3 harg3 x0 x1 x2 i ⟨256 + e.val, by omega⟩)⟩ <|
  .cons ⟨inb_S3x4x512x128_S1x1x512x128_2_1_0_0, _, rfl, fun i e => (slice_at 128 _ slices_S512x512_o0_128_S512x128 i e (by omega)).trans (values_held c arg1 harg1 arg2 harg2 arg3 harg3 x0 x1 x2 i ⟨128 + e.val, by omega⟩)⟩ <|
  .cons ⟨inb_S3x4x512x128_S1x1x512x128_2_0_0_0, _, rfl, fun i e => (slice_at 0 _ slices_S512x512_o0_0_S512x128 i e (by omega)).trans (values_held c arg1 harg1 arg2 harg2 arg3 harg3 x0 x1 x2 i ⟨0 + e.val, by omega⟩)⟩ <|
  cols_8 c arg1 harg1 arg2 harg2 arg3 harg3 x0 x1 x2

theorem rows_16 : List.Forall₂ (RowsAre (dilated x0 x1 x2)) [(0, 3, 3), (0, 3, 2), (0, 3, 1), (0, 3, 0), (0, 2, 3), (0, 2, 2), (0, 2, 1), (0, 2, 0), (0, 1, 3), (0, 1, 2), (0, 1, 1), (0, 1, 0), (0, 0, 3), (0, 0, 2), (0, 0, 1), (0, 0, 0)] (kernelRun0_A.sl.HS1_16 c arg1 harg1 arg2 harg2 arg3 harg3 arg27 x0 x1 x2) :=
  .cons (rows_piece arg27 (cols_4 c arg1 harg1 arg2 harg2 arg3 harg3 x0 x1 x2) (w := 0) (c := 3) (r := 3) (by decide) (by decide) inb_S3x4x4x128x128_S1x1x1x128x128_0_3_3_0_0) <|
  .cons (rows_piece arg27 (cols_4 c arg1 harg1 arg2 harg2 arg3 harg3 x0 x1 x2) (w := 0) (c := 2) (r := 3) (by decide) (by decide) inb_S3x4x4x128x128_S1x1x1x128x128_0_3_2_0_0) <|
  .cons (rows_piece arg27 (cols_4 c arg1 harg1 arg2 harg2 arg3 harg3 x0 x1 x2) (w := 0) (c := 1) (r := 3) (by decide) (by decide) inb_S3x4x4x128x128_S1x1x1x128x128_0_3_1_0_0) <|
  .cons (rows_piece arg27 (cols_4 c arg1 harg1 arg2 harg2 arg3 harg3 x0 x1 x2) (w := 0) (c := 0) (r := 3) (by decide) (by decide) inb_S3x4x4x128x128_S1x1x1x128x128_0_3_0_0_0) <|
  .cons (rows_piece arg27 (cols_4 c arg1 harg1 arg2 harg2 arg3 harg3 x0 x1 x2) (w := 0) (c := 3) (r := 2) (by decide) (by decide) inb_S3x4x4x128x128_S1x1x1x128x128_0_2_3_0_0) <|
  .cons (rows_piece arg27 (cols_4 c arg1 harg1 arg2 harg2 arg3 harg3 x0 x1 x2) (w := 0) (c := 2) (r := 2) (by decide) (by decide) inb_S3x4x4x128x128_S1x1x1x128x128_0_2_2_0_0) <|
  .cons (rows_piece arg27 (cols_4 c arg1 harg1 arg2 harg2 arg3 harg3 x0 x1 x2) (w := 0) (c := 1) (r := 2) (by decide) (by decide) inb_S3x4x4x128x128_S1x1x1x128x128_0_2_1_0_0) <|
  .cons (rows_piece arg27 (cols_4 c arg1 harg1 arg2 harg2 arg3 harg3 x0 x1 x2) (w := 0) (c := 0) (r := 2) (by decide) (by decide) inb_S3x4x4x128x128_S1x1x1x128x128_0_2_0_0_0) <|
  .cons (rows_piece arg27 (cols_4 c arg1 harg1 arg2 harg2 arg3 harg3 x0 x1 x2) (w := 0) (c := 3) (r := 1) (by decide) (by decide) inb_S3x4x4x128x128_S1x1x1x128x128_0_1_3_0_0) <|
  .cons (rows_piece arg27 (cols_4 c arg1 harg1 arg2 harg2 arg3 harg3 x0 x1 x2) (w := 0) (c := 2) (r := 1) (by decide) (by decide) inb_S3x4x4x128x128_S1x1x1x128x128_0_1_2_0_0) <|
  .cons (rows_piece arg27 (cols_4 c arg1 harg1 arg2 harg2 arg3 harg3 x0 x1 x2) (w := 0) (c := 1) (r := 1) (by decide) (by decide) inb_S3x4x4x128x128_S1x1x1x128x128_0_1_1_0_0) <|
  .cons (rows_piece arg27 (cols_4 c arg1 harg1 arg2 harg2 arg3 harg3 x0 x1 x2) (w := 0) (c := 0) (r := 1) (by decide) (by decide) inb_S3x4x4x128x128_S1x1x1x128x128_0_1_0_0_0) <|
  .cons (rows_piece arg27 (cols_4 c arg1 harg1 arg2 harg2 arg3 harg3 x0 x1 x2) (w := 0) (c := 3) (r := 0) (by decide) (by decide) inb_S3x4x4x128x128_S1x1x1x128x128_0_0_3_0_0) <|
  .cons (rows_piece arg27 (cols_4 c arg1 harg1 arg2 harg2 arg3 harg3 x0 x1 x2) (w := 0) (c := 2) (r := 0) (by decide) (by decide) inb_S3x4x4x128x128_S1x1x1x128x128_0_0_2_0_0) <|
  .cons (rows_piece arg27 (cols_4 c arg1 harg1 arg2 harg2 arg3 harg3 x0 x1 x2) (w := 0) (c := 1) (r := 0) (by decide) (by decide) inb_S3x4x4x128x128_S1x1x1x128x128_0_0_1_0_0) <|
  .cons (rows_piece arg27 (cols_4 c arg1 harg1 arg2 harg2 arg3 harg3 x0 x1 x2) (w := 0) (c := 0) (r := 0) (by decide) (by decide) inb_S3x4x4x128x128_S1x1x1x128x128_0_0_0_0_0) <|
  .nil

theorem rows_32 : List.Forall₂ (RowsAre (dilated x0 x1 x2)) [(1, 3, 3), (1, 3, 2), (1, 3, 1), (1, 3, 0), (1, 2, 3), (1, 2, 2), (1, 2, 1), (1, 2, 0), (1, 1, 3), (1, 1, 2), (1, 1, 1), (1, 1, 0), (1, 0, 3), (1, 0, 2), (1, 0, 1), (1, 0, 0), (0, 3, 3), (0, 3, 2), (0, 3, 1), (0, 3, 0), (0, 2, 3), (0, 2, 2), (0, 2, 1), (0, 2, 0), (0, 1, 3), (0, 1, 2), (0, 1, 1), (0, 1, 0), (0, 0, 3), (0, 0, 2), (0, 0, 1), (0, 0, 0)] (kernelRun0_A.sl.HS1_32 c arg1 harg1 arg2 harg2 arg3 harg3 arg27 x0 x1 x2) :=
  .cons (rows_piece arg27 (cols_8 c arg1 harg1 arg2 harg2 arg3 harg3 x0 x1 x2) (w := 1) (c := 3) (r := 3) (by decide) (by decide) inb_S3x4x4x128x128_S1x1x1x128x128_1_3_3_0_0) <|
  .cons (rows_piece arg27 (cols_8 c arg1 harg1 arg2 harg2 arg3 harg3 x0 x1 x2) (w := 1) (c := 2) (r := 3) (by decide) (by decide) inb_S3x4x4x128x128_S1x1x1x128x128_1_3_2_0_0) <|
  .cons (rows_piece arg27 (cols_8 c arg1 harg1 arg2 harg2 arg3 harg3 x0 x1 x2) (w := 1) (c := 1) (r := 3) (by decide) (by decide) inb_S3x4x4x128x128_S1x1x1x128x128_1_3_1_0_0) <|
  .cons (rows_piece arg27 (cols_8 c arg1 harg1 arg2 harg2 arg3 harg3 x0 x1 x2) (w := 1) (c := 0) (r := 3) (by decide) (by decide) inb_S3x4x4x128x128_S1x1x1x128x128_1_3_0_0_0) <|
  .cons (rows_piece arg27 (cols_8 c arg1 harg1 arg2 harg2 arg3 harg3 x0 x1 x2) (w := 1) (c := 3) (r := 2) (by decide) (by decide) inb_S3x4x4x128x128_S1x1x1x128x128_1_2_3_0_0) <|
  .cons (rows_piece arg27 (cols_8 c arg1 harg1 arg2 harg2 arg3 harg3 x0 x1 x2) (w := 1) (c := 2) (r := 2) (by decide) (by decide) inb_S3x4x4x128x128_S1x1x1x128x128_1_2_2_0_0) <|
  .cons (rows_piece arg27 (cols_8 c arg1 harg1 arg2 harg2 arg3 harg3 x0 x1 x2) (w := 1) (c := 1) (r := 2) (by decide) (by decide) inb_S3x4x4x128x128_S1x1x1x128x128_1_2_1_0_0) <|
  .cons (rows_piece arg27 (cols_8 c arg1 harg1 arg2 harg2 arg3 harg3 x0 x1 x2) (w := 1) (c := 0) (r := 2) (by decide) (by decide) inb_S3x4x4x128x128_S1x1x1x128x128_1_2_0_0_0) <|
  .cons (rows_piece arg27 (cols_8 c arg1 harg1 arg2 harg2 arg3 harg3 x0 x1 x2) (w := 1) (c := 3) (r := 1) (by decide) (by decide) inb_S3x4x4x128x128_S1x1x1x128x128_1_1_3_0_0) <|
  .cons (rows_piece arg27 (cols_8 c arg1 harg1 arg2 harg2 arg3 harg3 x0 x1 x2) (w := 1) (c := 2) (r := 1) (by decide) (by decide) inb_S3x4x4x128x128_S1x1x1x128x128_1_1_2_0_0) <|
  .cons (rows_piece arg27 (cols_8 c arg1 harg1 arg2 harg2 arg3 harg3 x0 x1 x2) (w := 1) (c := 1) (r := 1) (by decide) (by decide) inb_S3x4x4x128x128_S1x1x1x128x128_1_1_1_0_0) <|
  .cons (rows_piece arg27 (cols_8 c arg1 harg1 arg2 harg2 arg3 harg3 x0 x1 x2) (w := 1) (c := 0) (r := 1) (by decide) (by decide) inb_S3x4x4x128x128_S1x1x1x128x128_1_1_0_0_0) <|
  .cons (rows_piece arg27 (cols_8 c arg1 harg1 arg2 harg2 arg3 harg3 x0 x1 x2) (w := 1) (c := 3) (r := 0) (by decide) (by decide) inb_S3x4x4x128x128_S1x1x1x128x128_1_0_3_0_0) <|
  .cons (rows_piece arg27 (cols_8 c arg1 harg1 arg2 harg2 arg3 harg3 x0 x1 x2) (w := 1) (c := 2) (r := 0) (by decide) (by decide) inb_S3x4x4x128x128_S1x1x1x128x128_1_0_2_0_0) <|
  .cons (rows_piece arg27 (cols_8 c arg1 harg1 arg2 harg2 arg3 harg3 x0 x1 x2) (w := 1) (c := 1) (r := 0) (by decide) (by decide) inb_S3x4x4x128x128_S1x1x1x128x128_1_0_1_0_0) <|
  .cons (rows_piece arg27 (cols_8 c arg1 harg1 arg2 harg2 arg3 harg3 x0 x1 x2) (w := 1) (c := 0) (r := 0) (by decide) (by decide) inb_S3x4x4x128x128_S1x1x1x128x128_1_0_0_0_0) <|
  rows_16 c arg1 harg1 arg2 harg2 arg3 harg3 arg27 x0 x1 x2

theorem rows_48 : List.Forall₂ (RowsAre (dilated x0 x1 x2)) [(2, 3, 3), (2, 3, 2), (2, 3, 1), (2, 3, 0), (2, 2, 3), (2, 2, 2), (2, 2, 1), (2, 2, 0), (2, 1, 3), (2, 1, 2), (2, 1, 1), (2, 1, 0), (2, 0, 3), (2, 0, 2), (2, 0, 1), (2, 0, 0), (1, 3, 3), (1, 3, 2), (1, 3, 1), (1, 3, 0), (1, 2, 3), (1, 2, 2), (1, 2, 1), (1, 2, 0), (1, 1, 3), (1, 1, 2), (1, 1, 1), (1, 1, 0), (1, 0, 3), (1, 0, 2), (1, 0, 1), (1, 0, 0), (0, 3, 3), (0, 3, 2), (0, 3, 1), (0, 3, 0), (0, 2, 3), (0, 2, 2), (0, 2, 1), (0, 2, 0), (0, 1, 3), (0, 1, 2), (0, 1, 1), (0, 1, 0), (0, 0, 3), (0, 0, 2), (0, 0, 1), (0, 0, 0)] (kernelRun0_A.sl.HS1_48 c arg1 harg1 arg2 harg2 arg3 harg3 arg27 x0 x1 x2) :=
  .cons (rows_piece arg27 (cols_12 c arg1 harg1 arg2 harg2 arg3 harg3 x0 x1 x2) (w := 2) (c := 3) (r := 3) (by decide) (by decide) inb_S3x4x4x128x128_S1x1x1x128x128_2_3_3_0_0) <|
  .cons (rows_piece arg27 (cols_12 c arg1 harg1 arg2 harg2 arg3 harg3 x0 x1 x2) (w := 2) (c := 2) (r := 3) (by decide) (by decide) inb_S3x4x4x128x128_S1x1x1x128x128_2_3_2_0_0) <|
  .cons (rows_piece arg27 (cols_12 c arg1 harg1 arg2 harg2 arg3 harg3 x0 x1 x2) (w := 2) (c := 1) (r := 3) (by decide) (by decide) inb_S3x4x4x128x128_S1x1x1x128x128_2_3_1_0_0) <|
  .cons (rows_piece arg27 (cols_12 c arg1 harg1 arg2 harg2 arg3 harg3 x0 x1 x2) (w := 2) (c := 0) (r := 3) (by decide) (by decide) inb_S3x4x4x128x128_S1x1x1x128x128_2_3_0_0_0) <|
  .cons (rows_piece arg27 (cols_12 c arg1 harg1 arg2 harg2 arg3 harg3 x0 x1 x2) (w := 2) (c := 3) (r := 2) (by decide) (by decide) inb_S3x4x4x128x128_S1x1x1x128x128_2_2_3_0_0) <|
  .cons (rows_piece arg27 (cols_12 c arg1 harg1 arg2 harg2 arg3 harg3 x0 x1 x2) (w := 2) (c := 2) (r := 2) (by decide) (by decide) inb_S3x4x4x128x128_S1x1x1x128x128_2_2_2_0_0) <|
  .cons (rows_piece arg27 (cols_12 c arg1 harg1 arg2 harg2 arg3 harg3 x0 x1 x2) (w := 2) (c := 1) (r := 2) (by decide) (by decide) inb_S3x4x4x128x128_S1x1x1x128x128_2_2_1_0_0) <|
  .cons (rows_piece arg27 (cols_12 c arg1 harg1 arg2 harg2 arg3 harg3 x0 x1 x2) (w := 2) (c := 0) (r := 2) (by decide) (by decide) inb_S3x4x4x128x128_S1x1x1x128x128_2_2_0_0_0) <|
  .cons (rows_piece arg27 (cols_12 c arg1 harg1 arg2 harg2 arg3 harg3 x0 x1 x2) (w := 2) (c := 3) (r := 1) (by decide) (by decide) inb_S3x4x4x128x128_S1x1x1x128x128_2_1_3_0_0) <|
  .cons (rows_piece arg27 (cols_12 c arg1 harg1 arg2 harg2 arg3 harg3 x0 x1 x2) (w := 2) (c := 2) (r := 1) (by decide) (by decide) inb_S3x4x4x128x128_S1x1x1x128x128_2_1_2_0_0) <|
  .cons (rows_piece arg27 (cols_12 c arg1 harg1 arg2 harg2 arg3 harg3 x0 x1 x2) (w := 2) (c := 1) (r := 1) (by decide) (by decide) inb_S3x4x4x128x128_S1x1x1x128x128_2_1_1_0_0) <|
  .cons (rows_piece arg27 (cols_12 c arg1 harg1 arg2 harg2 arg3 harg3 x0 x1 x2) (w := 2) (c := 0) (r := 1) (by decide) (by decide) inb_S3x4x4x128x128_S1x1x1x128x128_2_1_0_0_0) <|
  .cons (rows_piece arg27 (cols_12 c arg1 harg1 arg2 harg2 arg3 harg3 x0 x1 x2) (w := 2) (c := 3) (r := 0) (by decide) (by decide) inb_S3x4x4x128x128_S1x1x1x128x128_2_0_3_0_0) <|
  .cons (rows_piece arg27 (cols_12 c arg1 harg1 arg2 harg2 arg3 harg3 x0 x1 x2) (w := 2) (c := 2) (r := 0) (by decide) (by decide) inb_S3x4x4x128x128_S1x1x1x128x128_2_0_2_0_0) <|
  .cons (rows_piece arg27 (cols_12 c arg1 harg1 arg2 harg2 arg3 harg3 x0 x1 x2) (w := 2) (c := 1) (r := 0) (by decide) (by decide) inb_S3x4x4x128x128_S1x1x1x128x128_2_0_1_0_0) <|
  .cons (rows_piece arg27 (cols_12 c arg1 harg1 arg2 harg2 arg3 harg3 x0 x1 x2) (w := 2) (c := 0) (r := 0) (by decide) (by decide) inb_S3x4x4x128x128_S1x1x1x128x128_2_0_0_0_0) <|
  rows_32 c arg1 harg1 arg2 harg2 arg3 harg3 arg27 x0 x1 x2

end Cert.InProj
-- ==== Proof.InOuts.lean ====
module

public import proofs.«01_k».proof.Proof.InState
public import proofs.«01_k».proof.Proof.Gen.Kernel2Ideal.Frame

/-! # The other outputs of the projections' body -/

@[expose] public section

set_option maxRecDepth 16384

noncomputable section
open Idealize.ShloMosaic Idealize.ShloMosaic.TcCoe Idealize.SL.Sem
namespace Cert.InProj
open Cert.Kernel2Ideal Cert.Kernel2Ideal.Gen

/-- A piece holds some columns of a matrix. -/
def ColumnsAre {a b b' : ℕ} {e : EltTy} (f : Fin a → Fin b → Elt Ideal e) (o : ℕ) (p : View.Piece (Elt Ideal) (⟨2, ![a, b]⟩ : Shape) e) : Prop :=
  ∃ (inb : ∀ z, (![0, o] : Fin 2 → ℕ) z + (⟨2, ![a, b']⟩ : Shape).size z ≤ (⟨2, ![a, b]⟩ : Shape).size z) (v : (⟨2, ![a, b']⟩ : Shape).Idx → Elt Ideal e),
    p = ⟨Rect.unit (s := ⟨2, ![a, b]⟩) ![0, o] (⟨2, ![a, b']⟩ : Shape).size inb, v⟩ ∧
    ∀ (i : Fin a) (j : Fin b') (h : o + j.val < b), v (ix2 i j) = f i ⟨o + j.val, h⟩

theorem columns_read {sig : RefSig} {κ : Kind} {sp : Space} {a b b' : ℕ} {e : EltTy} (v : View sig κ sp ⟨2, ![a, b]⟩ e) {f : Fin a → Fin b → Elt Ideal e} {ks : List ℕ}
    {L : List (View.Piece (Elt Ideal) (⟨2, ![a, b]⟩ : Shape) e)} (h : List.Forall₂ (ColumnsAre (b' := b') f) ks L) (g) (i : Fin a) (j : Fin b)
    (hc : ∃ p ∈ L, (ix2 i j : (⟨2, ![a, b]⟩ : Shape).Idx) ∈ p.1.set) :
    v.read (Elt Ideal) (v.writes (Elt Ideal) g L) (ix2 i j) = f i j := by
  refine v.read_writes_apply_of_pieces g (fun y => f (y 0) (y 1)) L ?_ _ hc
  intro p hp x
  obtain ⟨o, -, inb, u, rfl, hu⟩ := exists_of_piece h hp
  obtain ⟨i, j, rfl⟩ : ∃ (i : Fin a) (j : Fin b'), x = (ix2 i j : (⟨2, ![a, b']⟩ : Shape).Idx) := ⟨x 0, x 1, by funext z; fin_cases z <;> rfl⟩
  have hj : o + j.val < b := Nat.lt_of_lt_of_le (Nat.add_lt_add_left j.isLt o) (inb 1)
  refine (hu i j hj).trans ?_
  have e0 : (⟨0 + 1 * i.val, by have := i.isLt; omega⟩ : Fin a) = i := Fin.ext (by show 0 + 1 * i.val = i.val; omega)
  have e1 : (⟨o + 1 * j.val, by omega⟩ : Fin b) = ⟨o + j.val, hj⟩ := Fin.ext (by show o + 1 * j.val = o + j.val; omega)
  show f i ⟨o + j.val, hj⟩ = f ⟨0 + 1 * i.val, _⟩ ⟨o + 1 * j.val, _⟩
  rw [e0, e1]

/-- The low-rank queries of a row, -/
def lowQ (x0 : Vec Ideal S512x1024 .f32) (x1 : Vec Ideal S1x1024 .f32) (x2 : Vec Ideal S1024x4224 .bf16) (x3 : Vec Ideal S1x256 .f32) (i : Fin 512) (l : Fin 256) : EReal :=
  scaled (Ideal.ofBits .f32 0x43800000#32) (fun k => rowProj x0 x1 x2 i ⟨1536 + k.val, by omega⟩) (fun k => x3 (ix2 0 k)) l

/-- and its low-rank keys and values. -/
def lowK (x0 : Vec Ideal S512x1024 .f32) (x1 : Vec Ideal S1x1024 .f32) (x2 : Vec Ideal S1024x4224 .bf16) (x4 : Vec Ideal S1x128 .f32) (i : Fin 512) (l : Fin 128) : EReal :=
  scaled (Ideal.ofBits .f32 0x43000000#32) (fun k => rowProj x0 x1 x2 i ⟨1792 + k.val, by omega⟩) (fun k => x4 (ix2 0 k)) l

/-- One head of the queries. -/
theorem query_head (o : ℕ) (y z : FVec Ideal S512x1024 .f32) (t u : FVec Ideal S512x128 .f32) (hs : S512x1024.Slices ![0, o] S512x128) (i : Fin 512) (e : Fin 128) (h : o + e.val < 1024) :
    (truncf .bf16 (addf (mulf (extractStridedSlice S512x128 ![0, o] y hs) t) (mulf (extractStridedSlice S512x128 ![0, o] z hs) u)) bitsLt_bf16_f32 : FVec Ideal S512x128 .bf16) (ix2 i e)
      = y (ix2 i ⟨o + e.val, h⟩) * t (ix2 i e) + z (ix2 i ⟨o + e.val, h⟩) * u (ix2 i e) := by
  pointwise

/-- One head of the keys. -/
theorem key_head (o : ℕ) (y : FVec Ideal S512x1024 .f32) (t : FVec Ideal S512x128 .f32) (hs : S512x1024.Slices ![0, o] S512x128) (i : Fin 512) (e : Fin 128) (h : o + e.val < 1024) :
    (truncf .bf16 (addf (extractStridedSlice S512x128 ![0, o] y hs) t) bitsLt_bf16_f32 : FVec Ideal S512x128 .bf16) (ix2 i e)
      = y (ix2 i ⟨o + e.val, h⟩) + t (ix2 i e) := by
  pointwise

variable (c : Dev nD) (i : grid0.Coords) (arg1 : Memref sig .tc .vmem S512x1024 .f32) (harg1 : arg1.IsWhole) (arg2 : Memref sig .tc .vmem S1x1024 .f32)
  (harg2 : arg2.IsWhole) (arg3 : Memref sig .tc .vmem S1024x4224 .bf16) (harg3 : arg3.IsWhole) (arg4 : Memref sig .tc .vmem S1x256 .f32)
  (harg4 : arg4.IsWhole) (arg5 : Memref sig .tc .vmem S1x128 .f32) (harg5 : arg5.IsWhole) (arg6 : Memref sig .tc .vmem S256x1024 .bf16)
  (harg6 : arg6.IsWhole) (arg7 : Memref sig .tc .vmem S256x1024 .bf16) (harg7 : arg7.IsWhole) (arg8 : Memref sig .tc .vmem S128x1024 .bf16)
  (harg8 : arg8.IsWhole) (arg9 : Memref sig .tc .vmem S512x128 .bf16) (harg9 : arg9.IsWhole) (arg10 : Memref sig .tc .vmem S512x128 .f32)
  (harg10 : arg10.IsWhole) (arg11 : Memref sig .tc .vmem S512x128 .f32) (harg11 : arg11.IsWhole) (arg12 : Memref sig .tc .vmem S512x128 .f32)
  (harg12 : arg12.IsWhole) (arg13 : Memref sig .tc .vmem S512x128 .f32) (harg13 : arg13.IsWhole) (arg14 : Memref sig .tc .vmem S512x512 .bf16)
  (harg14 : arg14.IsWhole) (arg15 : Memref sig .tc .vmem S512x512 .bf16) (harg15 : arg15.IsWhole) (arg16 : Memref sig .tc .vmem S512x512 .bf16)
  (harg16 : arg16.IsWhole) (arg17 : Memref sig .tc .vmem S128x2048 .bf16) (harg17 : arg17.IsWhole) (arg18 : Memref sig .tc .vmem S128x2048 .bf16)
  (harg18 : arg18.IsWhole) (arg19 : Memref sig .tc .vmem S128x2048 .bf16) (harg19 : arg19.IsWhole) (arg20 : Memref sig .tc .vmem S32x8192 .bf16)
  (harg20 : arg20.IsWhole) (arg21 : Memref sig .tc .vmem S32x8192 .bf16) (harg21 : arg21.IsWhole) (arg22 : Memref sig .tc .vmem S32x8192 .bf16)
  (harg22 : arg22.IsWhole) (arg23 : Memref sig .tc .vmem S512x1024 .bf16) (harg23 : arg23.IsWhole) (arg24 : Memref sig .tc .vmem S512x1024 .bf16)
  (harg24 : arg24.IsWhole) (arg25 : Memref sig .tc .vmem S512x512 .bf16) (harg25 : arg25.IsWhole) (arg26 : Memref sig .tc .vmem S512x2048 .bf16)
  (harg26 : arg26.IsWhole) (arg27 : Memref sig .tc .vmem S3x4x512x128 .f32) (harg27 : arg27.IsWhole) (arg28 : Memref sig .tc .vmem S3x4x4x128x128 .f32)
  (harg28 : arg28.IsWhole) (x0 : Vec Ideal S512x1024 .f32) (x1 : Vec Ideal S1x1024 .f32) (x2 : Vec Ideal S1024x4224 .bf16) (x3 : Vec Ideal S1x256 .f32)
  (x4 : Vec Ideal S1x128 .f32) (x5 : Vec Ideal S256x1024 .bf16) (x6 : Vec Ideal S256x1024 .bf16) (x7 : Vec Ideal S128x1024 .bf16)
  (x8 : Vec Ideal S512x128 .bf16) (x9 : Vec Ideal S512x128 .f32) (x10 : Vec Ideal S512x128 .f32) (x11 : Vec Ideal S512x128 .f32)
  (x12 : Vec Ideal S512x128 .f32)

theorem lowQ_held (i : Fin 512) (l : Fin 256) :
    k0_pay359 (F := Ideal) (kernelRun0_A.sl.r c arg1 harg1 arg2 harg2 x0 x1) (View.readAt (Elt Ideal) arg3.view (Rect.unit (s := S1024x4224) ![0, 1536] S1024x256.size inb_S1024x4224_S1024x256_0_1536).toLoadRect (harg3.unread x2))
      (View.readAt (Elt Ideal) arg4.view (Rect.unit (s := S1x256) ![0, 0] S1x256.size inb_S1x256_S1x256_0_0).toLoadRect (harg4.unread x3)) (ix2 i l) = lowQ x0 x1 x2 x3 i l := by
  rw [load_all arg4]
  refine (lowrank_at _ _ _ i l).trans ?_
  unfold lowQ
  congr 1
  funext k
  exact product_held c arg1 harg1 arg2 harg2 arg3 harg3 x0 x1 x2 inb_S1024x4224_S1024x256_0_1536 i k (by omega)

theorem lowK_held (i : Fin 512) (l : Fin 128) :
    k0_pay372 (F := Ideal) (kernelRun0_A.sl.r c arg1 harg1 arg2 harg2 x0 x1) (View.readAt (Elt Ideal) arg3.view (Rect.unit (s := S1024x4224) ![0, 1792] S1024x128.size inb_S1024x4224_S1024x128_0_1792).toLoadRect (harg3.unread x2))
      (View.readAt (Elt Ideal) arg5.view (Rect.unit (s := S1x128) ![0, 0] S1x128.size inb_S1x128_S1x128_0_0).toLoadRect (harg5.unread x4)) (ix2 i l) = lowK x0 x1 x2 x4 i l := by
  rw [load_all arg5]
  refine (lowkeys_at _ _ _ i l).trans ?_
  unfold lowK
  congr 1
  funext k
  exact product_held c arg1 harg1 arg2 harg2 arg3 harg3 x0 x1 x2 inb_S1024x4224_S1024x128_0_1792 i k (by omega)

theorem main_held (i : Fin 512) (j : Fin 1024) :
    kernelRun0_A.sl.r_32 c arg1 harg1 arg2 harg2 arg3 harg3 arg4 harg4 arg6 harg6 x0 x1 x2 x3 x5 (ix2 i j) = ∑ l : Fin 256, lowQ x0 x1 x2 x3 i l * x5 (ix2 l j) := by
  refine (main_at _ _ _ _ i j).trans ?_
  refine Finset.sum_congr (M := EReal) rfl fun l _ => ?_
  rw [load_all arg6]
  exact Ideal.mul_congr (lowQ_held c arg1 harg1 arg2 harg2 arg3 harg3 arg4 harg4 x0 x1 x2 x3 i l) rfl

theorem turned_held (i : Fin 512) (j : Fin 1024) :
    kernelRun0_A.sl.r_33 c arg1 harg1 arg2 harg2 arg3 harg3 arg4 harg4 arg7 harg7 x0 x1 x2 x3 x6 (ix2 i j) = ∑ l : Fin 256, lowQ x0 x1 x2 x3 i l * x6 (ix2 l j) := by
  refine (turned_at _ _ _ _ i j).trans ?_
  refine Finset.sum_congr (M := EReal) rfl fun l _ => ?_
  rw [load_all arg7]
  exact Ideal.mul_congr (lowQ_held c arg1 harg1 arg2 harg2 arg3 harg3 arg4 harg4 x0 x1 x2 x3 i l) rfl

theorem nope_held (i : Fin 512) (j : Fin 1024) :
    kernelRun0_A.sl.r_38 c arg1 harg1 arg2 harg2 arg3 harg3 arg5 harg5 arg8 harg8 x0 x1 x2 x4 x7 (ix2 i j) = ∑ l : Fin 128, lowK x0 x1 x2 x4 i l * x7 (ix2 l j) := by
  refine (nope_at _ _ _ _ i j).trans ?_
  refine Finset.sum_congr (M := EReal) rfl fun l _ => ?_
  rw [load_all arg8]
  exact Ideal.mul_congr (lowK_held c arg1 harg1 arg2 harg2 arg3 harg3 arg5 harg5 x0 x1 x2 x4 i l) rfl

/-- The rotated part of the keys, the same for all heads. -/
theorem rope_held (i : Fin 512) (e : Fin 128) :
    k0_pay376 (F := Ideal) (kernelRun0_A.sl.r c arg1 harg1 arg2 harg2 x0 x1) (kernelRun0_A.sl.r_39 c arg1 harg1 arg2 harg2 arg3 harg3 arg12 harg12 x0 x1 x2 x11) (kernelRun0_A.sl.r_40 c arg3 harg3 x2) kernelRun0_A.sl.cst_1932
      (View.readAt (Elt Ideal) arg13.view (Rect.unit (s := S512x128) ![0, 0] S512x128.size inb_S512x128_S512x128_0_0).toLoadRect (harg13.unread x12)) (ix2 i e)
      = rowProj x0 x1 x2 i ⟨3968 + e.val, by omega⟩ * x11 (ix2 i e) + rowProj x0 x1 x2 i ⟨4096 + e.val, by omega⟩ * x12 (ix2 i e) := by
  refine (rope_at _ _ _ _ _ i e).trans ?_
  rw [load_all arg12, load_all arg13]
  exact congrArg₂ (fun p q : EReal => p * x11 (ix2 i e) + q * x12 (ix2 i e)) (product_held c arg1 harg1 arg2 harg2 arg3 harg3 x0 x1 x2 inb_S1024x4224_S1024x128_0_3968 i e (by omega))
    (product_held c arg1 harg1 arg2 harg2 arg3 harg3 x0 x1 x2 inb_S1024x4224_S1024x128_0_4096 i e (by omega))

/-- The queries of the attention, rotated, -/
def queriesB (i : Fin 512) (j : Fin 1024) : EReal :=
  (∑ l : Fin 256, lowQ x0 x1 x2 x3 i l * x5 (ix2 l j)) * x9 (ix2 i ⟨j.val % 128, by omega⟩) + (∑ l : Fin 256, lowQ x0 x1 x2 x3 i l * x6 (ix2 l j)) * x10 (ix2 i ⟨j.val % 128, by omega⟩)

/-- and its keys. -/
def keysB (i : Fin 512) (j : Fin 1024) : EReal :=
  (∑ l : Fin 128, lowK x0 x1 x2 x4 i l * x7 (ix2 l j))
    + (rowProj x0 x1 x2 i ⟨3968 + j.val % 128, by omega⟩ * x11 (ix2 i ⟨j.val % 128, by omega⟩) + rowProj x0 x1 x2 i ⟨4096 + j.val % 128, by omega⟩ * x12 (ix2 i ⟨j.val % 128, by omega⟩))

theorem query_piece (o : ℕ) (ho : o % 128 = 0) (inb : ∀ z, (![0, o] : Fin 2 → ℕ) z + S512x128.size z ≤ S512x1024.size z) (hs : S512x1024.Slices ![0, o] S512x128) :
    ColumnsAre (b' := 128) (e := .bf16) (queriesB x0 x1 x2 x3 x5 x6 x9 x10) o ⟨Rect.unit (s := S512x1024) ![0, o] S512x128.size inb,
      (truncf .bf16 (addf (mulf (extractStridedSlice S512x128 ![0, o] (kernelRun0_A.sl.r_32 c arg1 harg1 arg2 harg2 arg3 harg3 arg4 harg4 arg6 harg6 x0 x1 x2 x3 x5) hs)
        (View.readAt (Elt Ideal) arg10.view (Rect.unit (s := S512x128) ![0, 0] S512x128.size inb_S512x128_S512x128_0_0).toLoadRect (harg10.unread x9)))
        (mulf (extractStridedSlice S512x128 ![0, o] (kernelRun0_A.sl.r_33 c arg1 harg1 arg2 harg2 arg3 harg3 arg4 harg4 arg7 harg7 x0 x1 x2 x3 x6) hs)
        (View.readAt (Elt Ideal) arg11.view (Rect.unit (s := S512x128) ![0, 0] S512x128.size inb_S512x128_S512x128_0_0).toLoadRect (harg11.unread x10)))) bitsLt_bf16_f32 : FVec Ideal S512x128 .bf16)⟩ := by
  refine ⟨inb, _, rfl, fun i e h => ?_⟩
  rw [query_head o _ _ _ _ hs i e h, load_all arg10, load_all arg11, main_held c arg1 harg1 arg2 harg2 arg3 harg3 arg4 harg4 arg6 harg6 x0 x1 x2 x3 x5 i, turned_held c arg1 harg1 arg2 harg2 arg3 harg3 arg4 harg4 arg7 harg7 x0 x1 x2 x3 x6 i]
  have hm : (⟨(o + e.val) % 128, by omega⟩ : Fin 128) = e := Fin.ext (by have := e.isLt; show (o + e.val) % 128 = e.val; omega)
  unfold queriesB
  rw [hm]

theorem key_piece (o : ℕ) (ho : o % 128 = 0) (inb : ∀ z, (![0, o] : Fin 2 → ℕ) z + S512x128.size z ≤ S512x1024.size z) (hs : S512x1024.Slices ![0, o] S512x128) :
    ColumnsAre (b' := 128) (e := .bf16) (keysB x0 x1 x2 x4 x7 x11 x12) o ⟨Rect.unit (s := S512x1024) ![0, o] S512x128.size inb,
      (truncf .bf16 (addf (extractStridedSlice S512x128 ![0, o] (kernelRun0_A.sl.r_38 c arg1 harg1 arg2 harg2 arg3 harg3 arg5 harg5 arg8 harg8 x0 x1 x2 x4 x7) hs)
        (k0_pay376 (F := Ideal) (kernelRun0_A.sl.r c arg1 harg1 arg2 harg2 x0 x1) (kernelRun0_A.sl.r_39 c arg1 harg1 arg2 harg2 arg3 harg3 arg12 harg12 x0 x1 x2 x11) (kernelRun0_A.sl.r_40 c arg3 harg3 x2) kernelRun0_A.sl.cst_1932
      (View.readAt (Elt Ideal) arg13.view (Rect.unit (s := S512x128) ![0, 0] S512x128.size inb_S512x128_S512x128_0_0).toLoadRect (harg13.unread x12)))) bitsLt_bf16_f32 : FVec Ideal S512x128 .bf16)⟩ := by
  refine ⟨inb, _, rfl, fun i e h => ?_⟩
  rw [key_head o _ _ hs i e h, nope_held c arg1 harg1 arg2 harg2 arg3 harg3 arg5 harg5 arg8 harg8 x0 x1 x2 x4 x7 i, rope_held c arg1 harg1 arg2 harg2 arg3 harg3 arg12 harg12 arg13 harg13 x0 x1 x2 x11 x12 i e]
  have hm : (⟨(o + e.val) % 128, by omega⟩ : Fin 128) = e := Fin.ext (by have := e.isLt; show (o + e.val) % 128 = e.val; omega)
  have hv : (o + e.val) % 128 = e.val := congrArg Fin.val hm
  unfold keysB
  simp only [hv]

theorem pieces_22 : List.Forall₂ (ColumnsAre (b' := 128) (e := .bf16) (queriesB x0 x1 x2 x3 x5 x6 x9 x10)) [896, 768, 640, 512, 384, 256, 128, 0] (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12).2.2.2.2.2.2.2.2.2.1 :=
  .cons (query_piece c arg1 harg1 arg2 harg2 arg3 harg3 arg4 harg4 arg6 harg6 arg7 harg7 arg10 harg10 arg11 harg11 x0 x1 x2 x3 x5 x6 x9 x10 896 (by decide) inb_S512x1024_S512x128_0_896 slices_S512x1024_o0_896_S512x128) <|
  .cons (query_piece c arg1 harg1 arg2 harg2 arg3 harg3 arg4 harg4 arg6 harg6 arg7 harg7 arg10 harg10 arg11 harg11 x0 x1 x2 x3 x5 x6 x9 x10 768 (by decide) inb_S512x1024_S512x128_0_768 slices_S512x1024_o0_768_S512x128) <|
  .cons (query_piece c arg1 harg1 arg2 harg2 arg3 harg3 arg4 harg4 arg6 harg6 arg7 harg7 arg10 harg10 arg11 harg11 x0 x1 x2 x3 x5 x6 x9 x10 640 (by decide) inb_S512x1024_S512x128_0_640 slices_S512x1024_o0_640_S512x128) <|
  .cons (query_piece c arg1 harg1 arg2 harg2 arg3 harg3 arg4 harg4 arg6 harg6 arg7 harg7 arg10 harg10 arg11 harg11 x0 x1 x2 x3 x5 x6 x9 x10 512 (by decide) inb_S512x1024_S512x128_0_512 slices_S512x1024_o0_512_S512x128) <|
  .cons (query_piece c arg1 harg1 arg2 harg2 arg3 harg3 arg4 harg4 arg6 harg6 arg7 harg7 arg10 harg10 arg11 harg11 x0 x1 x2 x3 x5 x6 x9 x10 384 (by decide) inb_S512x1024_S512x128_0_384 slices_S512x1024_o0_384_S512x128) <|
  .cons (query_piece c arg1 harg1 arg2 harg2 arg3 harg3 arg4 harg4 arg6 harg6 arg7 harg7 arg10 harg10 arg11 harg11 x0 x1 x2 x3 x5 x6 x9 x10 256 (by decide) inb_S512x1024_S512x128_0_256 slices_S512x1024_o0_256_S512x128) <|
  .cons (query_piece c arg1 harg1 arg2 harg2 arg3 harg3 arg4 harg4 arg6 harg6 arg7 harg7 arg10 harg10 arg11 harg11 x0 x1 x2 x3 x5 x6 x9 x10 128 (by decide) inb_S512x1024_S512x128_0_128 slices_S512x1024_o0_128_S512x128) <|
  .cons (query_piece c arg1 harg1 arg2 harg2 arg3 harg3 arg4 harg4 arg6 harg6 arg7 harg7 arg10 harg10 arg11 harg11 x0 x1 x2 x3 x5 x6 x9 x10 0 (by decide) inb_S512x1024_S512x128_0_0 slices_S512x1024_o0_0_S512x128) <|
  .nil

theorem out_22 (a : Fin 512) (b : Fin 1024) : out0_A_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 (ix2 a b) = queriesB x0 x1 x2 x3 x5 x6 x9 x10 a b :=
  columns_read VO0_22 (pieces_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12) _ a b (cover0_A_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 (ix2 a b))

theorem pieces_23 : List.Forall₂ (ColumnsAre (b' := 128) (e := .bf16) (keysB x0 x1 x2 x4 x7 x11 x12)) [896, 768, 640, 512, 384, 256, 128, 0] (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12).2.2.2.2.2.2.2.2.2.2.1 :=
  .cons (key_piece c arg1 harg1 arg2 harg2 arg3 harg3 arg5 harg5 arg8 harg8 arg12 harg12 arg13 harg13 x0 x1 x2 x4 x7 x11 x12 896 (by decide) inb_S512x1024_S512x128_0_896 slices_S512x1024_o0_896_S512x128) <|
  .cons (key_piece c arg1 harg1 arg2 harg2 arg3 harg3 arg5 harg5 arg8 harg8 arg12 harg12 arg13 harg13 x0 x1 x2 x4 x7 x11 x12 768 (by decide) inb_S512x1024_S512x128_0_768 slices_S512x1024_o0_768_S512x128) <|
  .cons (key_piece c arg1 harg1 arg2 harg2 arg3 harg3 arg5 harg5 arg8 harg8 arg12 harg12 arg13 harg13 x0 x1 x2 x4 x7 x11 x12 640 (by decide) inb_S512x1024_S512x128_0_640 slices_S512x1024_o0_640_S512x128) <|
  .cons (key_piece c arg1 harg1 arg2 harg2 arg3 harg3 arg5 harg5 arg8 harg8 arg12 harg12 arg13 harg13 x0 x1 x2 x4 x7 x11 x12 512 (by decide) inb_S512x1024_S512x128_0_512 slices_S512x1024_o0_512_S512x128) <|
  .cons (key_piece c arg1 harg1 arg2 harg2 arg3 harg3 arg5 harg5 arg8 harg8 arg12 harg12 arg13 harg13 x0 x1 x2 x4 x7 x11 x12 384 (by decide) inb_S512x1024_S512x128_0_384 slices_S512x1024_o0_384_S512x128) <|
  .cons (key_piece c arg1 harg1 arg2 harg2 arg3 harg3 arg5 harg5 arg8 harg8 arg12 harg12 arg13 harg13 x0 x1 x2 x4 x7 x11 x12 256 (by decide) inb_S512x1024_S512x128_0_256 slices_S512x1024_o0_256_S512x128) <|
  .cons (key_piece c arg1 harg1 arg2 harg2 arg3 harg3 arg5 harg5 arg8 harg8 arg12 harg12 arg13 harg13 x0 x1 x2 x4 x7 x11 x12 128 (by decide) inb_S512x1024_S512x128_0_128 slices_S512x1024_o0_128_S512x128) <|
  .cons (key_piece c arg1 harg1 arg2 harg2 arg3 harg3 arg5 harg5 arg8 harg8 arg12 harg12 arg13 harg13 x0 x1 x2 x4 x7 x11 x12 0 (by decide) inb_S512x1024_S512x128_0_0 slices_S512x1024_o0_0_S512x128) <|
  .nil

theorem out_23 (a : Fin 512) (b : Fin 1024) : out0_A_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 (ix2 a b) = keysB x0 x1 x2 x4 x7 x11 x12 a b :=
  columns_read VO0_23 (pieces_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12) _ a b (cover0_A_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 (ix2 a b))

theorem pieces_13 : List.Forall₂ (ColumnsAre (b' := 512) (e := .bf16) (fun (i : Fin 512) (j : Fin 512) => (dilated x0 x1 x2 0 i.val j.val : EReal))) [0] (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12).1 :=
  .cons ⟨inb_S512x512_S512x512_0_0, _, rfl, fun i j h => by
    have e : (⟨0 + j.val, h⟩ : Fin 512) = j := Fin.ext (Nat.zero_add _)
    rw [e]
    exact queries_held c arg1 harg1 arg2 harg2 arg3 harg3 x0 x1 x2 i j⟩ .nil

theorem out_13 (a : Fin 512) (b : Fin 512) : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 (ix2 a b) = (fun (i : Fin 512) (j : Fin 512) => (dilated x0 x1 x2 0 i.val j.val : EReal)) a b :=
  columns_read VO0_13 (pieces_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12) _ a b (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 (ix2 a b))

theorem pieces_14 : List.Forall₂ (ColumnsAre (b' := 512) (e := .bf16) (fun (i : Fin 512) (j : Fin 512) => (dilated x0 x1 x2 1 i.val j.val : EReal))) [0] (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12).2.1 :=
  .cons ⟨inb_S512x512_S512x512_0_0, _, rfl, fun i j h => by
    have e : (⟨0 + j.val, h⟩ : Fin 512) = j := Fin.ext (Nat.zero_add _)
    rw [e]
    exact keys_held c arg1 harg1 arg2 harg2 arg3 harg3 x0 x1 x2 i j⟩ .nil

theorem out_14 (a : Fin 512) (b : Fin 512) : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 (ix2 a b) = (fun (i : Fin 512) (j : Fin 512) => (dilated x0 x1 x2 1 i.val j.val : EReal)) a b :=
  columns_read VO0_14 (pieces_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12) _ a b (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 (ix2 a b))

theorem pieces_15 : List.Forall₂ (ColumnsAre (b' := 512) (e := .bf16) (fun (i : Fin 512) (j : Fin 512) => (dilated x0 x1 x2 2 i.val j.val : EReal))) [0] (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12).2.2.1 :=
  .cons ⟨inb_S512x512_S512x512_0_0, _, rfl, fun i j h => by
    have e : (⟨0 + j.val, h⟩ : Fin 512) = j := Fin.ext (Nat.zero_add _)
    rw [e]
    exact values_held c arg1 harg1 arg2 harg2 arg3 harg3 x0 x1 x2 i j⟩ .nil

theorem out_15 (a : Fin 512) (b : Fin 512) : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 (ix2 a b) = (fun (i : Fin 512) (j : Fin 512) => (dilated x0 x1 x2 2 i.val j.val : EReal)) a b :=
  columns_read VO0_15 (pieces_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12) _ a b (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 (ix2 a b))

theorem pieces_24 : List.Forall₂ (ColumnsAre (b' := 512) (e := .bf16) (fun (i : Fin 512) (j : Fin 512) => (∑ l : Fin 128, x8 (ix2 i l) * lowK x0 x1 x2 x4 j l : EReal))) [0] (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12).2.2.2.2.2.2.2.2.2.2.2.1 :=
  .cons ⟨inb_S512x512_S512x512_0_0, _, rfl, fun i j h => by
    have e : (⟨0 + j.val, h⟩ : Fin 512) = j := Fin.ext (Nat.zero_add _)
    rw [e]
    exact (values_at _ _ _ _ i j).trans (Finset.sum_congr (M := EReal) rfl fun l _ =>
      Ideal.mul_congr (congrFun (load_all arg9 harg9 x8 inb_S512x128_S512x128_0_0) _) (lowK_held c arg1 harg1 arg2 harg2 arg3 harg3 arg5 harg5 x0 x1 x2 x4 j l))⟩ .nil

theorem out_24 (a : Fin 512) (b : Fin 512) : out0_A_24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 (ix2 a b) = (fun (i : Fin 512) (j : Fin 512) => (∑ l : Fin 128, x8 (ix2 i l) * lowK x0 x1 x2 x4 j l : EReal)) a b :=
  columns_read VO0_24 (pieces_24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12) _ a b (cover0_A_24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 (ix2 a b))

theorem pieces_25 : List.Forall₂ (ColumnsAre (b' := 2048) (e := .bf16) (fun (i : Fin 512) (j : Fin 2048) => (Ideal.logistic (rowProj x0 x1 x2 i ⟨1920 + j.val, by omega⟩) : EReal))) [0] (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12).2.2.2.2.2.2.2.2.2.2.2.2.1 :=
  .cons ⟨inb_S512x2048_S512x2048_0_0, _, rfl, fun i j h => by
    have e : (⟨0 + j.val, h⟩ : Fin 2048) = j := Fin.ext (Nat.zero_add _)
    rw [e]
    exact (gates_at _ _ i j).trans (congrArg Ideal.logistic
      (product_held c arg1 harg1 arg2 harg2 arg3 harg3 x0 x1 x2 (b := 2048) (o := 1920) inb_S1024x4224_S1024x2048_0_1920 i j (by omega)))⟩ .nil

theorem out_25 (a : Fin 512) (b : Fin 2048) : out0_A_25 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 (ix2 a b) = (fun (i : Fin 512) (j : Fin 2048) => (Ideal.logistic (rowProj x0 x1 x2 i ⟨1920 + j.val, by omega⟩) : EReal)) a b :=
  columns_read VO0_25 (pieces_25 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12) _ a b (cover0_A_25 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 (ix2 a b))

end Cert.InProj
-- ==== Proof.InDilated.lean ====
module

public import proofs.«01_k».proof.Proof.InState
public import proofs.«01_k».proof.Proof.Gen.Kernel2Ideal.Frame

/-! # The outputs for the dilated attention

Rows of one remainder by four, and by sixteen, of each of the three matrices lie side by side. -/

@[expose] public section

set_option maxRecDepth 16384

noncomputable section
open Idealize.ShloMosaic Idealize.ShloMosaic.TcCoe Idealize.SL.Sem
namespace Cert.InProj
open Cert.Kernel2Ideal Cert.Kernel2Ideal.Gen

/-- The store of every fourth row of a piece of columns into an output. -/
theorem four_piece {A : ℕ → ℕ → ℕ → EReal} (arg27 : Memref sig .tc .vmem S3x4x512x128 .f32) {ks : List (ℕ × ℕ)} {L : List (View.Piece (Elt Ideal) Cols .f32)}
    (h : List.Forall₂ (ColsAre A) ks L) {w c r : ℕ}
    (hk : (w, c) ∈ ks) (hr : r < 4) (inb : ∀ a, (![0, 512 * r + 128 * c] : Fin 2 → ℕ) a + FoursPiece.size a ≤ Fours.size a)
    {inb' : ∀ a, Quarter.size a = 0 ∨ (![w, c, r, 0] : Fin 4 → ℕ) a + (![1, 1, 4, 1] : Fin 4 → ℕ) a * (Quarter.size a - 1) < Cols.size a} :
    FourIs A w (r, c) ⟨Rect.unit (s := Fours) ![0, 512 * r + 128 * c] FoursPiece.size inb,
      (truncf .bf16 (shapeCast S128x128 (arg27.view.readCov (Val := Elt Ideal) L (⟨![w, c, r, 0], Quarter.size, ![1, 1, 4, 1], inb'⟩ : LoadRect Cols) : FVec Ideal S1x1x128x128 .f32)
        shapeCasts_S1x1x128x128_S128x128) bitsLt_bf16_f32 : FVec Ideal S128x128 .bf16)⟩ :=
  ⟨inb, _, rfl, fun i e => (quarter_out _ i e).trans (quarter_at arg27.view h hk hr i e)⟩

/-- The store of every sixteenth row. -/
theorem sixteen_piece {A : ℕ → ℕ → ℕ → EReal} (arg28 : Memref sig .tc .vmem S3x4x4x128x128 .f32) {ks : List (ℕ × ℕ × ℕ)} {L : List (View.Piece (Elt Ideal) Rows .f32)}
    (h : List.Forall₂ (RowsAre A) ks L) {w r c q : ℕ}
    (hk : (w, r, c) ∈ ks) (hq : q < 4) (inb : ∀ a, (![0, 512 * (4 * q + r) + 128 * c] : Fin 2 → ℕ) a + SixteensPiece.size a ≤ Sixteens.size a)
    {inb' : ∀ a, Sixteenth.size a = 0 ∨ (![w, r, c, q, 0] : Fin 5 → ℕ) a + (![1, 1, 1, 4, 1] : Fin 5 → ℕ) a * (Sixteenth.size a - 1) < Rows.size a} :
    SixteenIs A w (4 * q + r, c) ⟨Rect.unit (s := Sixteens) ![0, 512 * (4 * q + r) + 128 * c] SixteensPiece.size inb,
      (truncf .bf16 (shapeCast S32x128 (arg28.view.readCov (Val := Elt Ideal) L (⟨![w, r, c, q, 0], Sixteenth.size, ![1, 1, 1, 4, 1], inb'⟩ : LoadRect Rows) : FVec Ideal S1x1x1x32x128 .f32)
        shapeCasts_S1x1x1x32x128_S32x128) bitsLt_bf16_f32 : FVec Ideal S32x128 .bf16)⟩ :=
  ⟨inb, _, rfl, fun i e => (sixteenth_out _ i e).trans (sixteenth_at arg28.view h hk hq i e)⟩

variable (c : Dev nD) (i : grid0.Coords) (arg1 : Memref sig .tc .vmem S512x1024 .f32) (harg1 : arg1.IsWhole) (arg2 : Memref sig .tc .vmem S1x1024 .f32)
  (harg2 : arg2.IsWhole) (arg3 : Memref sig .tc .vmem S1024x4224 .bf16) (harg3 : arg3.IsWhole) (arg4 : Memref sig .tc .vmem S1x256 .f32)
  (harg4 : arg4.IsWhole) (arg5 : Memref sig .tc .vmem S1x128 .f32) (harg5 : arg5.IsWhole) (arg6 : Memref sig .tc .vmem S256x1024 .bf16)
  (harg6 : arg6.IsWhole) (arg7 : Memref sig .tc .vmem S256x1024 .bf16) (harg7 : arg7.IsWhole) (arg8 : Memref sig .tc .vmem S128x1024 .bf16)
  (harg8 : arg8.IsWhole) (arg9 : Memref sig .tc .vmem S512x128 .bf16) (harg9 : arg9.IsWhole) (arg10 : Memref sig .tc .vmem S512x128 .f32)
  (harg10 : arg10.IsWhole) (arg11 : Memref sig .tc .vmem S512x128 .f32) (harg11 : arg11.IsWhole) (arg12 : Memref sig .tc .vmem S512x128 .f32)
  (harg12 : arg12.IsWhole) (arg13 : Memref sig .tc .vmem S512x128 .f32) (harg13 : arg13.IsWhole) (arg14 : Memref sig .tc .vmem S512x512 .bf16)
  (harg14 : arg14.IsWhole) (arg15 : Memref sig .tc .vmem S512x512 .bf16) (harg15 : arg15.IsWhole) (arg16 : Memref sig .tc .vmem S512x512 .bf16)
  (harg16 : arg16.IsWhole) (arg17 : Memref sig .tc .vmem S128x2048 .bf16) (harg17 : arg17.IsWhole) (arg18 : Memref sig .tc .vmem S128x2048 .bf16)
  (harg18 : arg18.IsWhole) (arg19 : Memref sig .tc .vmem S128x2048 .bf16) (harg19 : arg19.IsWhole) (arg20 : Memref sig .tc .vmem S32x8192 .bf16)
  (harg20 : arg20.IsWhole) (arg21 : Memref sig .tc .vmem S32x8192 .bf16) (harg21 : arg21.IsWhole) (arg22 : Memref sig .tc .vmem S32x8192 .bf16)
  (harg22 : arg22.IsWhole) (arg23 : Memref sig .tc .vmem S512x1024 .bf16) (harg23 : arg23.IsWhole) (arg24 : Memref sig .tc .vmem S512x1024 .bf16)
  (harg24 : arg24.IsWhole) (arg25 : Memref sig .tc .vmem S512x512 .bf16) (harg25 : arg25.IsWhole) (arg26 : Memref sig .tc .vmem S512x2048 .bf16)
  (harg26 : arg26.IsWhole) (arg27 : Memref sig .tc .vmem S3x4x512x128 .f32) (harg27 : arg27.IsWhole) (arg28 : Memref sig .tc .vmem S3x4x4x128x128 .f32)
  (harg28 : arg28.IsWhole) (x0 : Vec Ideal S512x1024 .f32) (x1 : Vec Ideal S1x1024 .f32) (x2 : Vec Ideal S1024x4224 .bf16) (x3 : Vec Ideal S1x256 .f32)
  (x4 : Vec Ideal S1x128 .f32) (x5 : Vec Ideal S256x1024 .bf16) (x6 : Vec Ideal S256x1024 .bf16) (x7 : Vec Ideal S128x1024 .bf16)
  (x8 : Vec Ideal S512x128 .bf16) (x9 : Vec Ideal S512x128 .f32) (x10 : Vec Ideal S512x128 .f32) (x11 : Vec Ideal S512x128 .f32)
  (x12 : Vec Ideal S512x128 .f32)

theorem pieces_16 : List.Forall₂ (FourIs (dilated x0 x1 x2) 0) [(3, 3), (3, 2), (3, 1), (3, 0), (2, 3), (2, 2), (2, 1), (2, 0), (1, 3), (1, 2), (1, 1), (1, 0), (0, 3), (0, 2), (0, 1), (0, 0)] (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12).2.2.2.1 :=
  .cons (four_piece arg27 (cols_4 c arg1 harg1 arg2 harg2 arg3 harg3 x0 x1 x2) (w := 0) (c := 3) (r := 3) (by decide) (by decide) inb_S128x2048_S128x128_0_1920) <|
  .cons (four_piece arg27 (cols_4 c arg1 harg1 arg2 harg2 arg3 harg3 x0 x1 x2) (w := 0) (c := 2) (r := 3) (by decide) (by decide) inb_S128x2048_S128x128_0_1792) <|
  .cons (four_piece arg27 (cols_4 c arg1 harg1 arg2 harg2 arg3 harg3 x0 x1 x2) (w := 0) (c := 1) (r := 3) (by decide) (by decide) inb_S128x2048_S128x128_0_1664) <|
  .cons (four_piece arg27 (cols_4 c arg1 harg1 arg2 harg2 arg3 harg3 x0 x1 x2) (w := 0) (c := 0) (r := 3) (by decide) (by decide) inb_S128x2048_S128x128_0_1536) <|
  .cons (four_piece arg27 (cols_4 c arg1 harg1 arg2 harg2 arg3 harg3 x0 x1 x2) (w := 0) (c := 3) (r := 2) (by decide) (by decide) inb_S128x2048_S128x128_0_1408) <|
  .cons (four_piece arg27 (cols_4 c arg1 harg1 arg2 harg2 arg3 harg3 x0 x1 x2) (w := 0) (c := 2) (r := 2) (by decide) (by decide) inb_S128x2048_S128x128_0_1280) <|
  .cons (four_piece arg27 (cols_4 c arg1 harg1 arg2 harg2 arg3 harg3 x0 x1 x2) (w := 0) (c := 1) (r := 2) (by decide) (by decide) inb_S128x2048_S128x128_0_1152) <|
  .cons (four_piece arg27 (cols_4 c arg1 harg1 arg2 harg2 arg3 harg3 x0 x1 x2) (w := 0) (c := 0) (r := 2) (by decide) (by decide) inb_S128x2048_S128x128_0_1024) <|
  .cons (four_piece arg27 (cols_4 c arg1 harg1 arg2 harg2 arg3 harg3 x0 x1 x2) (w := 0) (c := 3) (r := 1) (by decide) (by decide) inb_S128x2048_S128x128_0_896) <|
  .cons (four_piece arg27 (cols_4 c arg1 harg1 arg2 harg2 arg3 harg3 x0 x1 x2) (w := 0) (c := 2) (r := 1) (by decide) (by decide) inb_S128x2048_S128x128_0_768) <|
  .cons (four_piece arg27 (cols_4 c arg1 harg1 arg2 harg2 arg3 harg3 x0 x1 x2) (w := 0) (c := 1) (r := 1) (by decide) (by decide) inb_S128x2048_S128x128_0_640) <|
  .cons (four_piece arg27 (cols_4 c arg1 harg1 arg2 harg2 arg3 harg3 x0 x1 x2) (w := 0) (c := 0) (r := 1) (by decide) (by decide) inb_S128x2048_S128x128_0_512) <|
  .cons (four_piece arg27 (cols_4 c arg1 harg1 arg2 harg2 arg3 harg3 x0 x1 x2) (w := 0) (c := 3) (r := 0) (by decide) (by decide) inb_S128x2048_S128x128_0_384) <|
  .cons (four_piece arg27 (cols_4 c arg1 harg1 arg2 harg2 arg3 harg3 x0 x1 x2) (w := 0) (c := 2) (r := 0) (by decide) (by decide) inb_S128x2048_S128x128_0_256) <|
  .cons (four_piece arg27 (cols_4 c arg1 harg1 arg2 harg2 arg3 harg3 x0 x1 x2) (w := 0) (c := 1) (r := 0) (by decide) (by decide) inb_S128x2048_S128x128_0_128) <|
  .cons (four_piece arg27 (cols_4 c arg1 harg1 arg2 harg2 arg3 harg3 x0 x1 x2) (w := 0) (c := 0) (r := 0) (by decide) (by decide) inb_S128x2048_S128x128_0_0) <|
  .nil

theorem out_16 (a : Fin 128) (b : Fin 2048) : out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 (ix2 a b) = dilated x0 x1 x2 0 (4 * a.val + b.val / 512) (b.val % 512) :=
  four_read VO0_16 (pieces_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12) (by decide) _ a b (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 (ix2 a b))

theorem pieces_17 : List.Forall₂ (FourIs (dilated x0 x1 x2) 1) [(3, 3), (3, 2), (3, 1), (3, 0), (2, 3), (2, 2), (2, 1), (2, 0), (1, 3), (1, 2), (1, 1), (1, 0), (0, 3), (0, 2), (0, 1), (0, 0)] (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12).2.2.2.2.1 :=
  .cons (four_piece arg27 (cols_8 c arg1 harg1 arg2 harg2 arg3 harg3 x0 x1 x2) (w := 1) (c := 3) (r := 3) (by decide) (by decide) inb_S128x2048_S128x128_0_1920) <|
  .cons (four_piece arg27 (cols_8 c arg1 harg1 arg2 harg2 arg3 harg3 x0 x1 x2) (w := 1) (c := 2) (r := 3) (by decide) (by decide) inb_S128x2048_S128x128_0_1792) <|
  .cons (four_piece arg27 (cols_8 c arg1 harg1 arg2 harg2 arg3 harg3 x0 x1 x2) (w := 1) (c := 1) (r := 3) (by decide) (by decide) inb_S128x2048_S128x128_0_1664) <|
  .cons (four_piece arg27 (cols_8 c arg1 harg1 arg2 harg2 arg3 harg3 x0 x1 x2) (w := 1) (c := 0) (r := 3) (by decide) (by decide) inb_S128x2048_S128x128_0_1536) <|
  .cons (four_piece arg27 (cols_8 c arg1 harg1 arg2 harg2 arg3 harg3 x0 x1 x2) (w := 1) (c := 3) (r := 2) (by decide) (by decide) inb_S128x2048_S128x128_0_1408) <|
  .cons (four_piece arg27 (cols_8 c arg1 harg1 arg2 harg2 arg3 harg3 x0 x1 x2) (w := 1) (c := 2) (r := 2) (by decide) (by decide) inb_S128x2048_S128x128_0_1280) <|
  .cons (four_piece arg27 (cols_8 c arg1 harg1 arg2 harg2 arg3 harg3 x0 x1 x2) (w := 1) (c := 1) (r := 2) (by decide) (by decide) inb_S128x2048_S128x128_0_1152) <|
  .cons (four_piece arg27 (cols_8 c arg1 harg1 arg2 harg2 arg3 harg3 x0 x1 x2) (w := 1) (c := 0) (r := 2) (by decide) (by decide) inb_S128x2048_S128x128_0_1024) <|
  .cons (four_piece arg27 (cols_8 c arg1 harg1 arg2 harg2 arg3 harg3 x0 x1 x2) (w := 1) (c := 3) (r := 1) (by decide) (by decide) inb_S128x2048_S128x128_0_896) <|
  .cons (four_piece arg27 (cols_8 c arg1 harg1 arg2 harg2 arg3 harg3 x0 x1 x2) (w := 1) (c := 2) (r := 1) (by decide) (by decide) inb_S128x2048_S128x128_0_768) <|
  .cons (four_piece arg27 (cols_8 c arg1 harg1 arg2 harg2 arg3 harg3 x0 x1 x2) (w := 1) (c := 1) (r := 1) (by decide) (by decide) inb_S128x2048_S128x128_0_640) <|
  .cons (four_piece arg27 (cols_8 c arg1 harg1 arg2 harg2 arg3 harg3 x0 x1 x2) (w := 1) (c := 0) (r := 1) (by decide) (by decide) inb_S128x2048_S128x128_0_512) <|
  .cons (four_piece arg27 (cols_8 c arg1 harg1 arg2 harg2 arg3 harg3 x0 x1 x2) (w := 1) (c := 3) (r := 0) (by decide) (by decide) inb_S128x2048_S128x128_0_384) <|
  .cons (four_piece arg27 (cols_8 c arg1 harg1 arg2 harg2 arg3 harg3 x0 x1 x2) (w := 1) (c := 2) (r := 0) (by decide) (by decide) inb_S128x2048_S128x128_0_256) <|
  .cons (four_piece arg27 (cols_8 c arg1 harg1 arg2 harg2 arg3 harg3 x0 x1 x2) (w := 1) (c := 1) (r := 0) (by decide) (by decide) inb_S128x2048_S128x128_0_128) <|
  .cons (four_piece arg27 (cols_8 c arg1 harg1 arg2 harg2 arg3 harg3 x0 x1 x2) (w := 1) (c := 0) (r := 0) (by decide) (by decide) inb_S128x2048_S128x128_0_0) <|
  .nil

theorem out_17 (a : Fin 128) (b : Fin 2048) : out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 (ix2 a b) = dilated x0 x1 x2 1 (4 * a.val + b.val / 512) (b.val % 512) :=
  four_read VO0_17 (pieces_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12) (by decide) _ a b (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 (ix2 a b))

theorem pieces_18 : List.Forall₂ (FourIs (dilated x0 x1 x2) 2) [(3, 3), (3, 2), (3, 1), (3, 0), (2, 3), (2, 2), (2, 1), (2, 0), (1, 3), (1, 2), (1, 1), (1, 0), (0, 3), (0, 2), (0, 1), (0, 0)] (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12).2.2.2.2.2.1 :=
  .cons (four_piece arg27 (cols_12 c arg1 harg1 arg2 harg2 arg3 harg3 x0 x1 x2) (w := 2) (c := 3) (r := 3) (by decide) (by decide) inb_S128x2048_S128x128_0_1920) <|
  .cons (four_piece arg27 (cols_12 c arg1 harg1 arg2 harg2 arg3 harg3 x0 x1 x2) (w := 2) (c := 2) (r := 3) (by decide) (by decide) inb_S128x2048_S128x128_0_1792) <|
  .cons (four_piece arg27 (cols_12 c arg1 harg1 arg2 harg2 arg3 harg3 x0 x1 x2) (w := 2) (c := 1) (r := 3) (by decide) (by decide) inb_S128x2048_S128x128_0_1664) <|
  .cons (four_piece arg27 (cols_12 c arg1 harg1 arg2 harg2 arg3 harg3 x0 x1 x2) (w := 2) (c := 0) (r := 3) (by decide) (by decide) inb_S128x2048_S128x128_0_1536) <|
  .cons (four_piece arg27 (cols_12 c arg1 harg1 arg2 harg2 arg3 harg3 x0 x1 x2) (w := 2) (c := 3) (r := 2) (by decide) (by decide) inb_S128x2048_S128x128_0_1408) <|
  .cons (four_piece arg27 (cols_12 c arg1 harg1 arg2 harg2 arg3 harg3 x0 x1 x2) (w := 2) (c := 2) (r := 2) (by decide) (by decide) inb_S128x2048_S128x128_0_1280) <|
  .cons (four_piece arg27 (cols_12 c arg1 harg1 arg2 harg2 arg3 harg3 x0 x1 x2) (w := 2) (c := 1) (r := 2) (by decide) (by decide) inb_S128x2048_S128x128_0_1152) <|
  .cons (four_piece arg27 (cols_12 c arg1 harg1 arg2 harg2 arg3 harg3 x0 x1 x2) (w := 2) (c := 0) (r := 2) (by decide) (by decide) inb_S128x2048_S128x128_0_1024) <|
  .cons (four_piece arg27 (cols_12 c arg1 harg1 arg2 harg2 arg3 harg3 x0 x1 x2) (w := 2) (c := 3) (r := 1) (by decide) (by decide) inb_S128x2048_S128x128_0_896) <|
  .cons (four_piece arg27 (cols_12 c arg1 harg1 arg2 harg2 arg3 harg3 x0 x1 x2) (w := 2) (c := 2) (r := 1) (by decide) (by decide) inb_S128x2048_S128x128_0_768) <|
  .cons (four_piece arg27 (cols_12 c arg1 harg1 arg2 harg2 arg3 harg3 x0 x1 x2) (w := 2) (c := 1) (r := 1) (by decide) (by decide) inb_S128x2048_S128x128_0_640) <|
  .cons (four_piece arg27 (cols_12 c arg1 harg1 arg2 harg2 arg3 harg3 x0 x1 x2) (w := 2) (c := 0) (r := 1) (by decide) (by decide) inb_S128x2048_S128x128_0_512) <|
  .cons (four_piece arg27 (cols_12 c arg1 harg1 arg2 harg2 arg3 harg3 x0 x1 x2) (w := 2) (c := 3) (r := 0) (by decide) (by decide) inb_S128x2048_S128x128_0_384) <|
  .cons (four_piece arg27 (cols_12 c arg1 harg1 arg2 harg2 arg3 harg3 x0 x1 x2) (w := 2) (c := 2) (r := 0) (by decide) (by decide) inb_S128x2048_S128x128_0_256) <|
  .cons (four_piece arg27 (cols_12 c arg1 harg1 arg2 harg2 arg3 harg3 x0 x1 x2) (w := 2) (c := 1) (r := 0) (by decide) (by decide) inb_S128x2048_S128x128_0_128) <|
  .cons (four_piece arg27 (cols_12 c arg1 harg1 arg2 harg2 arg3 harg3 x0 x1 x2) (w := 2) (c := 0) (r := 0) (by decide) (by decide) inb_S128x2048_S128x128_0_0) <|
  .nil

theorem out_18 (a : Fin 128) (b : Fin 2048) : out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 (ix2 a b) = dilated x0 x1 x2 2 (4 * a.val + b.val / 512) (b.val % 512) :=
  four_read VO0_18 (pieces_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12) (by decide) _ a b (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 (ix2 a b))

theorem pieces_19 : List.Forall₂ (SixteenIs (dilated x0 x1 x2) 0) [(15, 3), (15, 2), (15, 1), (15, 0), (11, 3), (11, 2), (11, 1), (11, 0), (7, 3), (7, 2), (7, 1), (7, 0), (3, 3), (3, 2), (3, 1), (3, 0), (14, 3), (14, 2), (14, 1), (14, 0), (10, 3), (10, 2), (10, 1), (10, 0), (6, 3), (6, 2), (6, 1), (6, 0), (2, 3), (2, 2), (2, 1), (2, 0), (13, 3), (13, 2), (13, 1), (13, 0), (9, 3), (9, 2), (9, 1), (9, 0), (5, 3), (5, 2), (5, 1), (5, 0), (1, 3), (1, 2), (1, 1), (1, 0), (12, 3), (12, 2), (12, 1), (12, 0), (8, 3), (8, 2), (8, 1), (8, 0), (4, 3), (4, 2), (4, 1), (4, 0), (0, 3), (0, 2), (0, 1), (0, 0)] (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12).2.2.2.2.2.2.1 :=
  .cons (sixteen_piece arg28 (rows_16 c arg1 harg1 arg2 harg2 arg3 harg3 arg27 x0 x1 x2) (w := 0) (r := 3) (c := 3) (q := 3) (by decide) (by decide) inb_S32x8192_S32x128_0_8064) <|
  .cons (sixteen_piece arg28 (rows_16 c arg1 harg1 arg2 harg2 arg3 harg3 arg27 x0 x1 x2) (w := 0) (r := 3) (c := 2) (q := 3) (by decide) (by decide) inb_S32x8192_S32x128_0_7936) <|
  .cons (sixteen_piece arg28 (rows_16 c arg1 harg1 arg2 harg2 arg3 harg3 arg27 x0 x1 x2) (w := 0) (r := 3) (c := 1) (q := 3) (by decide) (by decide) inb_S32x8192_S32x128_0_7808) <|
  .cons (sixteen_piece arg28 (rows_16 c arg1 harg1 arg2 harg2 arg3 harg3 arg27 x0 x1 x2) (w := 0) (r := 3) (c := 0) (q := 3) (by decide) (by decide) inb_S32x8192_S32x128_0_7680) <|
  .cons (sixteen_piece arg28 (rows_16 c arg1 harg1 arg2 harg2 arg3 harg3 arg27 x0 x1 x2) (w := 0) (r := 3) (c := 3) (q := 2) (by decide) (by decide) inb_S32x8192_S32x128_0_6016) <|
  .cons (sixteen_piece arg28 (rows_16 c arg1 harg1 arg2 harg2 arg3 harg3 arg27 x0 x1 x2) (w := 0) (r := 3) (c := 2) (q := 2) (by decide) (by decide) inb_S32x8192_S32x128_0_5888) <|
  .cons (sixteen_piece arg28 (rows_16 c arg1 harg1 arg2 harg2 arg3 harg3 arg27 x0 x1 x2) (w := 0) (r := 3) (c := 1) (q := 2) (by decide) (by decide) inb_S32x8192_S32x128_0_5760) <|
  .cons (sixteen_piece arg28 (rows_16 c arg1 harg1 arg2 harg2 arg3 harg3 arg27 x0 x1 x2) (w := 0) (r := 3) (c := 0) (q := 2) (by decide) (by decide) inb_S32x8192_S32x128_0_5632) <|
  .cons (sixteen_piece arg28 (rows_16 c arg1 harg1 arg2 harg2 arg3 harg3 arg27 x0 x1 x2) (w := 0) (r := 3) (c := 3) (q := 1) (by decide) (by decide) inb_S32x8192_S32x128_0_3968) <|
  .cons (sixteen_piece arg28 (rows_16 c arg1 harg1 arg2 harg2 arg3 harg3 arg27 x0 x1 x2) (w := 0) (r := 3) (c := 2) (q := 1) (by decide) (by decide) inb_S32x8192_S32x128_0_3840) <|
  .cons (sixteen_piece arg28 (rows_16 c arg1 harg1 arg2 harg2 arg3 harg3 arg27 x0 x1 x2) (w := 0) (r := 3) (c := 1) (q := 1) (by decide) (by decide) inb_S32x8192_S32x128_0_3712) <|
  .cons (sixteen_piece arg28 (rows_16 c arg1 harg1 arg2 harg2 arg3 harg3 arg27 x0 x1 x2) (w := 0) (r := 3) (c := 0) (q := 1) (by decide) (by decide) inb_S32x8192_S32x128_0_3584) <|
  .cons (sixteen_piece arg28 (rows_16 c arg1 harg1 arg2 harg2 arg3 harg3 arg27 x0 x1 x2) (w := 0) (r := 3) (c := 3) (q := 0) (by decide) (by decide) inb_S32x8192_S32x128_0_1920) <|
  .cons (sixteen_piece arg28 (rows_16 c arg1 harg1 arg2 harg2 arg3 harg3 arg27 x0 x1 x2) (w := 0) (r := 3) (c := 2) (q := 0) (by decide) (by decide) inb_S32x8192_S32x128_0_1792) <|
  .cons (sixteen_piece arg28 (rows_16 c arg1 harg1 arg2 harg2 arg3 harg3 arg27 x0 x1 x2) (w := 0) (r := 3) (c := 1) (q := 0) (by decide) (by decide) inb_S32x8192_S32x128_0_1664) <|
  .cons (sixteen_piece arg28 (rows_16 c arg1 harg1 arg2 harg2 arg3 harg3 arg27 x0 x1 x2) (w := 0) (r := 3) (c := 0) (q := 0) (by decide) (by decide) inb_S32x8192_S32x128_0_1536) <|
  .cons (sixteen_piece arg28 (rows_16 c arg1 harg1 arg2 harg2 arg3 harg3 arg27 x0 x1 x2) (w := 0) (r := 2) (c := 3) (q := 3) (by decide) (by decide) inb_S32x8192_S32x128_0_7552) <|
  .cons (sixteen_piece arg28 (rows_16 c arg1 harg1 arg2 harg2 arg3 harg3 arg27 x0 x1 x2) (w := 0) (r := 2) (c := 2) (q := 3) (by decide) (by decide) inb_S32x8192_S32x128_0_7424) <|
  .cons (sixteen_piece arg28 (rows_16 c arg1 harg1 arg2 harg2 arg3 harg3 arg27 x0 x1 x2) (w := 0) (r := 2) (c := 1) (q := 3) (by decide) (by decide) inb_S32x8192_S32x128_0_7296) <|
  .cons (sixteen_piece arg28 (rows_16 c arg1 harg1 arg2 harg2 arg3 harg3 arg27 x0 x1 x2) (w := 0) (r := 2) (c := 0) (q := 3) (by decide) (by decide) inb_S32x8192_S32x128_0_7168) <|
  .cons (sixteen_piece arg28 (rows_16 c arg1 harg1 arg2 harg2 arg3 harg3 arg27 x0 x1 x2) (w := 0) (r := 2) (c := 3) (q := 2) (by decide) (by decide) inb_S32x8192_S32x128_0_5504) <|
  .cons (sixteen_piece arg28 (rows_16 c arg1 harg1 arg2 harg2 arg3 harg3 arg27 x0 x1 x2) (w := 0) (r := 2) (c := 2) (q := 2) (by decide) (by decide) inb_S32x8192_S32x128_0_5376) <|
  .cons (sixteen_piece arg28 (rows_16 c arg1 harg1 arg2 harg2 arg3 harg3 arg27 x0 x1 x2) (w := 0) (r := 2) (c := 1) (q := 2) (by decide) (by decide) inb_S32x8192_S32x128_0_5248) <|
  .cons (sixteen_piece arg28 (rows_16 c arg1 harg1 arg2 harg2 arg3 harg3 arg27 x0 x1 x2) (w := 0) (r := 2) (c := 0) (q := 2) (by decide) (by decide) inb_S32x8192_S32x128_0_5120) <|
  .cons (sixteen_piece arg28 (rows_16 c arg1 harg1 arg2 harg2 arg3 harg3 arg27 x0 x1 x2) (w := 0) (r := 2) (c := 3) (q := 1) (by decide) (by decide) inb_S32x8192_S32x128_0_3456) <|
  .cons (sixteen_piece arg28 (rows_16 c arg1 harg1 arg2 harg2 arg3 harg3 arg27 x0 x1 x2) (w := 0) (r := 2) (c := 2) (q := 1) (by decide) (by decide) inb_S32x8192_S32x128_0_3328) <|
  .cons (sixteen_piece arg28 (rows_16 c arg1 harg1 arg2 harg2 arg3 harg3 arg27 x0 x1 x2) (w := 0) (r := 2) (c := 1) (q := 1) (by decide) (by decide) inb_S32x8192_S32x128_0_3200) <|
  .cons (sixteen_piece arg28 (rows_16 c arg1 harg1 arg2 harg2 arg3 harg3 arg27 x0 x1 x2) (w := 0) (r := 2) (c := 0) (q := 1) (by decide) (by decide) inb_S32x8192_S32x128_0_3072) <|
  .cons (sixteen_piece arg28 (rows_16 c arg1 harg1 arg2 harg2 arg3 harg3 arg27 x0 x1 x2) (w := 0) (r := 2) (c := 3) (q := 0) (by decide) (by decide) inb_S32x8192_S32x128_0_1408) <|
  .cons (sixteen_piece arg28 (rows_16 c arg1 harg1 arg2 harg2 arg3 harg3 arg27 x0 x1 x2) (w := 0) (r := 2) (c := 2) (q := 0) (by decide) (by decide) inb_S32x8192_S32x128_0_1280) <|
  .cons (sixteen_piece arg28 (rows_16 c arg1 harg1 arg2 harg2 arg3 harg3 arg27 x0 x1 x2) (w := 0) (r := 2) (c := 1) (q := 0) (by decide) (by decide) inb_S32x8192_S32x128_0_1152) <|
  .cons (sixteen_piece arg28 (rows_16 c arg1 harg1 arg2 harg2 arg3 harg3 arg27 x0 x1 x2) (w := 0) (r := 2) (c := 0) (q := 0) (by decide) (by decide) inb_S32x8192_S32x128_0_1024) <|
  .cons (sixteen_piece arg28 (rows_16 c arg1 harg1 arg2 harg2 arg3 harg3 arg27 x0 x1 x2) (w := 0) (r := 1) (c := 3) (q := 3) (by decide) (by decide) inb_S32x8192_S32x128_0_7040) <|
  .cons (sixteen_piece arg28 (rows_16 c arg1 harg1 arg2 harg2 arg3 harg3 arg27 x0 x1 x2) (w := 0) (r := 1) (c := 2) (q := 3) (by decide) (by decide) inb_S32x8192_S32x128_0_6912) <|
  .cons (sixteen_piece arg28 (rows_16 c arg1 harg1 arg2 harg2 arg3 harg3 arg27 x0 x1 x2) (w := 0) (r := 1) (c := 1) (q := 3) (by decide) (by decide) inb_S32x8192_S32x128_0_6784) <|
  .cons (sixteen_piece arg28 (rows_16 c arg1 harg1 arg2 harg2 arg3 harg3 arg27 x0 x1 x2) (w := 0) (r := 1) (c := 0) (q := 3) (by decide) (by decide) inb_S32x8192_S32x128_0_6656) <|
  .cons (sixteen_piece arg28 (rows_16 c arg1 harg1 arg2 harg2 arg3 harg3 arg27 x0 x1 x2) (w := 0) (r := 1) (c := 3) (q := 2) (by decide) (by decide) inb_S32x8192_S32x128_0_4992) <|
  .cons (sixteen_piece arg28 (rows_16 c arg1 harg1 arg2 harg2 arg3 harg3 arg27 x0 x1 x2) (w := 0) (r := 1) (c := 2) (q := 2) (by decide) (by decide) inb_S32x8192_S32x128_0_4864) <|
  .cons (sixteen_piece arg28 (rows_16 c arg1 harg1 arg2 harg2 arg3 harg3 arg27 x0 x1 x2) (w := 0) (r := 1) (c := 1) (q := 2) (by decide) (by decide) inb_S32x8192_S32x128_0_4736) <|
  .cons (sixteen_piece arg28 (rows_16 c arg1 harg1 arg2 harg2 arg3 harg3 arg27 x0 x1 x2) (w := 0) (r := 1) (c := 0) (q := 2) (by decide) (by decide) inb_S32x8192_S32x128_0_4608) <|
  .cons (sixteen_piece arg28 (rows_16 c arg1 harg1 arg2 harg2 arg3 harg3 arg27 x0 x1 x2) (w := 0) (r := 1) (c := 3) (q := 1) (by decide) (by decide) inb_S32x8192_S32x128_0_2944) <|
  .cons (sixteen_piece arg28 (rows_16 c arg1 harg1 arg2 harg2 arg3 harg3 arg27 x0 x1 x2) (w := 0) (r := 1) (c := 2) (q := 1) (by decide) (by decide) inb_S32x8192_S32x128_0_2816) <|
  .cons (sixteen_piece arg28 (rows_16 c arg1 harg1 arg2 harg2 arg3 harg3 arg27 x0 x1 x2) (w := 0) (r := 1) (c := 1) (q := 1) (by decide) (by decide) inb_S32x8192_S32x128_0_2688) <|
  .cons (sixteen_piece arg28 (rows_16 c arg1 harg1 arg2 harg2 arg3 harg3 arg27 x0 x1 x2) (w := 0) (r := 1) (c := 0) (q := 1) (by decide) (by decide) inb_S32x8192_S32x128_0_2560) <|
  .cons (sixteen_piece arg28 (rows_16 c arg1 harg1 arg2 harg2 arg3 harg3 arg27 x0 x1 x2) (w := 0) (r := 1) (c := 3) (q := 0) (by decide) (by decide) inb_S32x8192_S32x128_0_896) <|
  .cons (sixteen_piece arg28 (rows_16 c arg1 harg1 arg2 harg2 arg3 harg3 arg27 x0 x1 x2) (w := 0) (r := 1) (c := 2) (q := 0) (by decide) (by decide) inb_S32x8192_S32x128_0_768) <|
  .cons (sixteen_piece arg28 (rows_16 c arg1 harg1 arg2 harg2 arg3 harg3 arg27 x0 x1 x2) (w := 0) (r := 1) (c := 1) (q := 0) (by decide) (by decide) inb_S32x8192_S32x128_0_640) <|
  .cons (sixteen_piece arg28 (rows_16 c arg1 harg1 arg2 harg2 arg3 harg3 arg27 x0 x1 x2) (w := 0) (r := 1) (c := 0) (q := 0) (by decide) (by decide) inb_S32x8192_S32x128_0_512) <|
  .cons (sixteen_piece arg28 (rows_16 c arg1 harg1 arg2 harg2 arg3 harg3 arg27 x0 x1 x2) (w := 0) (r := 0) (c := 3) (q := 3) (by decide) (by decide) inb_S32x8192_S32x128_0_6528) <|
  .cons (sixteen_piece arg28 (rows_16 c arg1 harg1 arg2 harg2 arg3 harg3 arg27 x0 x1 x2) (w := 0) (r := 0) (c := 2) (q := 3) (by decide) (by decide) inb_S32x8192_S32x128_0_6400) <|
  .cons (sixteen_piece arg28 (rows_16 c arg1 harg1 arg2 harg2 arg3 harg3 arg27 x0 x1 x2) (w := 0) (r := 0) (c := 1) (q := 3) (by decide) (by decide) inb_S32x8192_S32x128_0_6272) <|
  .cons (sixteen_piece arg28 (rows_16 c arg1 harg1 arg2 harg2 arg3 harg3 arg27 x0 x1 x2) (w := 0) (r := 0) (c := 0) (q := 3) (by decide) (by decide) inb_S32x8192_S32x128_0_6144) <|
  .cons (sixteen_piece arg28 (rows_16 c arg1 harg1 arg2 harg2 arg3 harg3 arg27 x0 x1 x2) (w := 0) (r := 0) (c := 3) (q := 2) (by decide) (by decide) inb_S32x8192_S32x128_0_4480) <|
  .cons (sixteen_piece arg28 (rows_16 c arg1 harg1 arg2 harg2 arg3 harg3 arg27 x0 x1 x2) (w := 0) (r := 0) (c := 2) (q := 2) (by decide) (by decide) inb_S32x8192_S32x128_0_4352) <|
  .cons (sixteen_piece arg28 (rows_16 c arg1 harg1 arg2 harg2 arg3 harg3 arg27 x0 x1 x2) (w := 0) (r := 0) (c := 1) (q := 2) (by decide) (by decide) inb_S32x8192_S32x128_0_4224) <|
  .cons (sixteen_piece arg28 (rows_16 c arg1 harg1 arg2 harg2 arg3 harg3 arg27 x0 x1 x2) (w := 0) (r := 0) (c := 0) (q := 2) (by decide) (by decide) inb_S32x8192_S32x128_0_4096) <|
  .cons (sixteen_piece arg28 (rows_16 c arg1 harg1 arg2 harg2 arg3 harg3 arg27 x0 x1 x2) (w := 0) (r := 0) (c := 3) (q := 1) (by decide) (by decide) inb_S32x8192_S32x128_0_2432) <|
  .cons (sixteen_piece arg28 (rows_16 c arg1 harg1 arg2 harg2 arg3 harg3 arg27 x0 x1 x2) (w := 0) (r := 0) (c := 2) (q := 1) (by decide) (by decide) inb_S32x8192_S32x128_0_2304) <|
  .cons (sixteen_piece arg28 (rows_16 c arg1 harg1 arg2 harg2 arg3 harg3 arg27 x0 x1 x2) (w := 0) (r := 0) (c := 1) (q := 1) (by decide) (by decide) inb_S32x8192_S32x128_0_2176) <|
  .cons (sixteen_piece arg28 (rows_16 c arg1 harg1 arg2 harg2 arg3 harg3 arg27 x0 x1 x2) (w := 0) (r := 0) (c := 0) (q := 1) (by decide) (by decide) inb_S32x8192_S32x128_0_2048) <|
  .cons (sixteen_piece arg28 (rows_16 c arg1 harg1 arg2 harg2 arg3 harg3 arg27 x0 x1 x2) (w := 0) (r := 0) (c := 3) (q := 0) (by decide) (by decide) inb_S32x8192_S32x128_0_384) <|
  .cons (sixteen_piece arg28 (rows_16 c arg1 harg1 arg2 harg2 arg3 harg3 arg27 x0 x1 x2) (w := 0) (r := 0) (c := 2) (q := 0) (by decide) (by decide) inb_S32x8192_S32x128_0_256) <|
  .cons (sixteen_piece arg28 (rows_16 c arg1 harg1 arg2 harg2 arg3 harg3 arg27 x0 x1 x2) (w := 0) (r := 0) (c := 1) (q := 0) (by decide) (by decide) inb_S32x8192_S32x128_0_128) <|
  .cons (sixteen_piece arg28 (rows_16 c arg1 harg1 arg2 harg2 arg3 harg3 arg27 x0 x1 x2) (w := 0) (r := 0) (c := 0) (q := 0) (by decide) (by decide) inb_S32x8192_S32x128_0_0) <|
  .nil

theorem out_19 (a : Fin 32) (b : Fin 8192) : out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 (ix2 a b) = dilated x0 x1 x2 0 (16 * a.val + b.val / 512) (b.val % 512) :=
  sixteen_read VO0_19 (pieces_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12) (by decide) _ a b (cover0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 (ix2 a b))

theorem pieces_20 : List.Forall₂ (SixteenIs (dilated x0 x1 x2) 1) [(15, 3), (15, 2), (15, 1), (15, 0), (11, 3), (11, 2), (11, 1), (11, 0), (7, 3), (7, 2), (7, 1), (7, 0), (3, 3), (3, 2), (3, 1), (3, 0), (14, 3), (14, 2), (14, 1), (14, 0), (10, 3), (10, 2), (10, 1), (10, 0), (6, 3), (6, 2), (6, 1), (6, 0), (2, 3), (2, 2), (2, 1), (2, 0), (13, 3), (13, 2), (13, 1), (13, 0), (9, 3), (9, 2), (9, 1), (9, 0), (5, 3), (5, 2), (5, 1), (5, 0), (1, 3), (1, 2), (1, 1), (1, 0), (12, 3), (12, 2), (12, 1), (12, 0), (8, 3), (8, 2), (8, 1), (8, 0), (4, 3), (4, 2), (4, 1), (4, 0), (0, 3), (0, 2), (0, 1), (0, 0)] (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12).2.2.2.2.2.2.2.1 :=
  .cons (sixteen_piece arg28 (rows_32 c arg1 harg1 arg2 harg2 arg3 harg3 arg27 x0 x1 x2) (w := 1) (r := 3) (c := 3) (q := 3) (by decide) (by decide) inb_S32x8192_S32x128_0_8064) <|
  .cons (sixteen_piece arg28 (rows_32 c arg1 harg1 arg2 harg2 arg3 harg3 arg27 x0 x1 x2) (w := 1) (r := 3) (c := 2) (q := 3) (by decide) (by decide) inb_S32x8192_S32x128_0_7936) <|
  .cons (sixteen_piece arg28 (rows_32 c arg1 harg1 arg2 harg2 arg3 harg3 arg27 x0 x1 x2) (w := 1) (r := 3) (c := 1) (q := 3) (by decide) (by decide) inb_S32x8192_S32x128_0_7808) <|
  .cons (sixteen_piece arg28 (rows_32 c arg1 harg1 arg2 harg2 arg3 harg3 arg27 x0 x1 x2) (w := 1) (r := 3) (c := 0) (q := 3) (by decide) (by decide) inb_S32x8192_S32x128_0_7680) <|
  .cons (sixteen_piece arg28 (rows_32 c arg1 harg1 arg2 harg2 arg3 harg3 arg27 x0 x1 x2) (w := 1) (r := 3) (c := 3) (q := 2) (by decide) (by decide) inb_S32x8192_S32x128_0_6016) <|
  .cons (sixteen_piece arg28 (rows_32 c arg1 harg1 arg2 harg2 arg3 harg3 arg27 x0 x1 x2) (w := 1) (r := 3) (c := 2) (q := 2) (by decide) (by decide) inb_S32x8192_S32x128_0_5888) <|
  .cons (sixteen_piece arg28 (rows_32 c arg1 harg1 arg2 harg2 arg3 harg3 arg27 x0 x1 x2) (w := 1) (r := 3) (c := 1) (q := 2) (by decide) (by decide) inb_S32x8192_S32x128_0_5760) <|
  .cons (sixteen_piece arg28 (rows_32 c arg1 harg1 arg2 harg2 arg3 harg3 arg27 x0 x1 x2) (w := 1) (r := 3) (c := 0) (q := 2) (by decide) (by decide) inb_S32x8192_S32x128_0_5632) <|
  .cons (sixteen_piece arg28 (rows_32 c arg1 harg1 arg2 harg2 arg3 harg3 arg27 x0 x1 x2) (w := 1) (r := 3) (c := 3) (q := 1) (by decide) (by decide) inb_S32x8192_S32x128_0_3968) <|
  .cons (sixteen_piece arg28 (rows_32 c arg1 harg1 arg2 harg2 arg3 harg3 arg27 x0 x1 x2) (w := 1) (r := 3) (c := 2) (q := 1) (by decide) (by decide) inb_S32x8192_S32x128_0_3840) <|
  .cons (sixteen_piece arg28 (rows_32 c arg1 harg1 arg2 harg2 arg3 harg3 arg27 x0 x1 x2) (w := 1) (r := 3) (c := 1) (q := 1) (by decide) (by decide) inb_S32x8192_S32x128_0_3712) <|
  .cons (sixteen_piece arg28 (rows_32 c arg1 harg1 arg2 harg2 arg3 harg3 arg27 x0 x1 x2) (w := 1) (r := 3) (c := 0) (q := 1) (by decide) (by decide) inb_S32x8192_S32x128_0_3584) <|
  .cons (sixteen_piece arg28 (rows_32 c arg1 harg1 arg2 harg2 arg3 harg3 arg27 x0 x1 x2) (w := 1) (r := 3) (c := 3) (q := 0) (by decide) (by decide) inb_S32x8192_S32x128_0_1920) <|
  .cons (sixteen_piece arg28 (rows_32 c arg1 harg1 arg2 harg2 arg3 harg3 arg27 x0 x1 x2) (w := 1) (r := 3) (c := 2) (q := 0) (by decide) (by decide) inb_S32x8192_S32x128_0_1792) <|
  .cons (sixteen_piece arg28 (rows_32 c arg1 harg1 arg2 harg2 arg3 harg3 arg27 x0 x1 x2) (w := 1) (r := 3) (c := 1) (q := 0) (by decide) (by decide) inb_S32x8192_S32x128_0_1664) <|
  .cons (sixteen_piece arg28 (rows_32 c arg1 harg1 arg2 harg2 arg3 harg3 arg27 x0 x1 x2) (w := 1) (r := 3) (c := 0) (q := 0) (by decide) (by decide) inb_S32x8192_S32x128_0_1536) <|
  .cons (sixteen_piece arg28 (rows_32 c arg1 harg1 arg2 harg2 arg3 harg3 arg27 x0 x1 x2) (w := 1) (r := 2) (c := 3) (q := 3) (by decide) (by decide) inb_S32x8192_S32x128_0_7552) <|
  .cons (sixteen_piece arg28 (rows_32 c arg1 harg1 arg2 harg2 arg3 harg3 arg27 x0 x1 x2) (w := 1) (r := 2) (c := 2) (q := 3) (by decide) (by decide) inb_S32x8192_S32x128_0_7424) <|
  .cons (sixteen_piece arg28 (rows_32 c arg1 harg1 arg2 harg2 arg3 harg3 arg27 x0 x1 x2) (w := 1) (r := 2) (c := 1) (q := 3) (by decide) (by decide) inb_S32x8192_S32x128_0_7296) <|
  .cons (sixteen_piece arg28 (rows_32 c arg1 harg1 arg2 harg2 arg3 harg3 arg27 x0 x1 x2) (w := 1) (r := 2) (c := 0) (q := 3) (by decide) (by decide) inb_S32x8192_S32x128_0_7168) <|
  .cons (sixteen_piece arg28 (rows_32 c arg1 harg1 arg2 harg2 arg3 harg3 arg27 x0 x1 x2) (w := 1) (r := 2) (c := 3) (q := 2) (by decide) (by decide) inb_S32x8192_S32x128_0_5504) <|
  .cons (sixteen_piece arg28 (rows_32 c arg1 harg1 arg2 harg2 arg3 harg3 arg27 x0 x1 x2) (w := 1) (r := 2) (c := 2) (q := 2) (by decide) (by decide) inb_S32x8192_S32x128_0_5376) <|
  .cons (sixteen_piece arg28 (rows_32 c arg1 harg1 arg2 harg2 arg3 harg3 arg27 x0 x1 x2) (w := 1) (r := 2) (c := 1) (q := 2) (by decide) (by decide) inb_S32x8192_S32x128_0_5248) <|
  .cons (sixteen_piece arg28 (rows_32 c arg1 harg1 arg2 harg2 arg3 harg3 arg27 x0 x1 x2) (w := 1) (r := 2) (c := 0) (q := 2) (by decide) (by decide) inb_S32x8192_S32x128_0_5120) <|
  .cons (sixteen_piece arg28 (rows_32 c arg1 harg1 arg2 harg2 arg3 harg3 arg27 x0 x1 x2) (w := 1) (r := 2) (c := 3) (q := 1) (by decide) (by decide) inb_S32x8192_S32x128_0_3456) <|
  .cons (sixteen_piece arg28 (rows_32 c arg1 harg1 arg2 harg2 arg3 harg3 arg27 x0 x1 x2) (w := 1) (r := 2) (c := 2) (q := 1) (by decide) (by decide) inb_S32x8192_S32x128_0_3328) <|
  .cons (sixteen_piece arg28 (rows_32 c arg1 harg1 arg2 harg2 arg3 harg3 arg27 x0 x1 x2) (w := 1) (r := 2) (c := 1) (q := 1) (by decide) (by decide) inb_S32x8192_S32x128_0_3200) <|
  .cons (sixteen_piece arg28 (rows_32 c arg1 harg1 arg2 harg2 arg3 harg3 arg27 x0 x1 x2) (w := 1) (r := 2) (c := 0) (q := 1) (by decide) (by decide) inb_S32x8192_S32x128_0_3072) <|
  .cons (sixteen_piece arg28 (rows_32 c arg1 harg1 arg2 harg2 arg3 harg3 arg27 x0 x1 x2) (w := 1) (r := 2) (c := 3) (q := 0) (by decide) (by decide) inb_S32x8192_S32x128_0_1408) <|
  .cons (sixteen_piece arg28 (rows_32 c arg1 harg1 arg2 harg2 arg3 harg3 arg27 x0 x1 x2) (w := 1) (r := 2) (c := 2) (q := 0) (by decide) (by decide) inb_S32x8192_S32x128_0_1280) <|
  .cons (sixteen_piece arg28 (rows_32 c arg1 harg1 arg2 harg2 arg3 harg3 arg27 x0 x1 x2) (w := 1) (r := 2) (c := 1) (q := 0) (by decide) (by decide) inb_S32x8192_S32x128_0_1152) <|
  .cons (sixteen_piece arg28 (rows_32 c arg1 harg1 arg2 harg2 arg3 harg3 arg27 x0 x1 x2) (w := 1) (r := 2) (c := 0) (q := 0) (by decide) (by decide) inb_S32x8192_S32x128_0_1024) <|
  .cons (sixteen_piece arg28 (rows_32 c arg1 harg1 arg2 harg2 arg3 harg3 arg27 x0 x1 x2) (w := 1) (r := 1) (c := 3) (q := 3) (by decide) (by decide) inb_S32x8192_S32x128_0_7040) <|
  .cons (sixteen_piece arg28 (rows_32 c arg1 harg1 arg2 harg2 arg3 harg3 arg27 x0 x1 x2) (w := 1) (r := 1) (c := 2) (q := 3) (by decide) (by decide) inb_S32x8192_S32x128_0_6912) <|
  .cons (sixteen_piece arg28 (rows_32 c arg1 harg1 arg2 harg2 arg3 harg3 arg27 x0 x1 x2) (w := 1) (r := 1) (c := 1) (q := 3) (by decide) (by decide) inb_S32x8192_S32x128_0_6784) <|
  .cons (sixteen_piece arg28 (rows_32 c arg1 harg1 arg2 harg2 arg3 harg3 arg27 x0 x1 x2) (w := 1) (r := 1) (c := 0) (q := 3) (by decide) (by decide) inb_S32x8192_S32x128_0_6656) <|
  .cons (sixteen_piece arg28 (rows_32 c arg1 harg1 arg2 harg2 arg3 harg3 arg27 x0 x1 x2) (w := 1) (r := 1) (c := 3) (q := 2) (by decide) (by decide) inb_S32x8192_S32x128_0_4992) <|
  .cons (sixteen_piece arg28 (rows_32 c arg1 harg1 arg2 harg2 arg3 harg3 arg27 x0 x1 x2) (w := 1) (r := 1) (c := 2) (q := 2) (by decide) (by decide) inb_S32x8192_S32x128_0_4864) <|
  .cons (sixteen_piece arg28 (rows_32 c arg1 harg1 arg2 harg2 arg3 harg3 arg27 x0 x1 x2) (w := 1) (r := 1) (c := 1) (q := 2) (by decide) (by decide) inb_S32x8192_S32x128_0_4736) <|
  .cons (sixteen_piece arg28 (rows_32 c arg1 harg1 arg2 harg2 arg3 harg3 arg27 x0 x1 x2) (w := 1) (r := 1) (c := 0) (q := 2) (by decide) (by decide) inb_S32x8192_S32x128_0_4608) <|
  .cons (sixteen_piece arg28 (rows_32 c arg1 harg1 arg2 harg2 arg3 harg3 arg27 x0 x1 x2) (w := 1) (r := 1) (c := 3) (q := 1) (by decide) (by decide) inb_S32x8192_S32x128_0_2944) <|
  .cons (sixteen_piece arg28 (rows_32 c arg1 harg1 arg2 harg2 arg3 harg3 arg27 x0 x1 x2) (w := 1) (r := 1) (c := 2) (q := 1) (by decide) (by decide) inb_S32x8192_S32x128_0_2816) <|
  .cons (sixteen_piece arg28 (rows_32 c arg1 harg1 arg2 harg2 arg3 harg3 arg27 x0 x1 x2) (w := 1) (r := 1) (c := 1) (q := 1) (by decide) (by decide) inb_S32x8192_S32x128_0_2688) <|
  .cons (sixteen_piece arg28 (rows_32 c arg1 harg1 arg2 harg2 arg3 harg3 arg27 x0 x1 x2) (w := 1) (r := 1) (c := 0) (q := 1) (by decide) (by decide) inb_S32x8192_S32x128_0_2560) <|
  .cons (sixteen_piece arg28 (rows_32 c arg1 harg1 arg2 harg2 arg3 harg3 arg27 x0 x1 x2) (w := 1) (r := 1) (c := 3) (q := 0) (by decide) (by decide) inb_S32x8192_S32x128_0_896) <|
  .cons (sixteen_piece arg28 (rows_32 c arg1 harg1 arg2 harg2 arg3 harg3 arg27 x0 x1 x2) (w := 1) (r := 1) (c := 2) (q := 0) (by decide) (by decide) inb_S32x8192_S32x128_0_768) <|
  .cons (sixteen_piece arg28 (rows_32 c arg1 harg1 arg2 harg2 arg3 harg3 arg27 x0 x1 x2) (w := 1) (r := 1) (c := 1) (q := 0) (by decide) (by decide) inb_S32x8192_S32x128_0_640) <|
  .cons (sixteen_piece arg28 (rows_32 c arg1 harg1 arg2 harg2 arg3 harg3 arg27 x0 x1 x2) (w := 1) (r := 1) (c := 0) (q := 0) (by decide) (by decide) inb_S32x8192_S32x128_0_512) <|
  .cons (sixteen_piece arg28 (rows_32 c arg1 harg1 arg2 harg2 arg3 harg3 arg27 x0 x1 x2) (w := 1) (r := 0) (c := 3) (q := 3) (by decide) (by decide) inb_S32x8192_S32x128_0_6528) <|
  .cons (sixteen_piece arg28 (rows_32 c arg1 harg1 arg2 harg2 arg3 harg3 arg27 x0 x1 x2) (w := 1) (r := 0) (c := 2) (q := 3) (by decide) (by decide) inb_S32x8192_S32x128_0_6400) <|
  .cons (sixteen_piece arg28 (rows_32 c arg1 harg1 arg2 harg2 arg3 harg3 arg27 x0 x1 x2) (w := 1) (r := 0) (c := 1) (q := 3) (by decide) (by decide) inb_S32x8192_S32x128_0_6272) <|
  .cons (sixteen_piece arg28 (rows_32 c arg1 harg1 arg2 harg2 arg3 harg3 arg27 x0 x1 x2) (w := 1) (r := 0) (c := 0) (q := 3) (by decide) (by decide) inb_S32x8192_S32x128_0_6144) <|
  .cons (sixteen_piece arg28 (rows_32 c arg1 harg1 arg2 harg2 arg3 harg3 arg27 x0 x1 x2) (w := 1) (r := 0) (c := 3) (q := 2) (by decide) (by decide) inb_S32x8192_S32x128_0_4480) <|
  .cons (sixteen_piece arg28 (rows_32 c arg1 harg1 arg2 harg2 arg3 harg3 arg27 x0 x1 x2) (w := 1) (r := 0) (c := 2) (q := 2) (by decide) (by decide) inb_S32x8192_S32x128_0_4352) <|
  .cons (sixteen_piece arg28 (rows_32 c arg1 harg1 arg2 harg2 arg3 harg3 arg27 x0 x1 x2) (w := 1) (r := 0) (c := 1) (q := 2) (by decide) (by decide) inb_S32x8192_S32x128_0_4224) <|
  .cons (sixteen_piece arg28 (rows_32 c arg1 harg1 arg2 harg2 arg3 harg3 arg27 x0 x1 x2) (w := 1) (r := 0) (c := 0) (q := 2) (by decide) (by decide) inb_S32x8192_S32x128_0_4096) <|
  .cons (sixteen_piece arg28 (rows_32 c arg1 harg1 arg2 harg2 arg3 harg3 arg27 x0 x1 x2) (w := 1) (r := 0) (c := 3) (q := 1) (by decide) (by decide) inb_S32x8192_S32x128_0_2432) <|
  .cons (sixteen_piece arg28 (rows_32 c arg1 harg1 arg2 harg2 arg3 harg3 arg27 x0 x1 x2) (w := 1) (r := 0) (c := 2) (q := 1) (by decide) (by decide) inb_S32x8192_S32x128_0_2304) <|
  .cons (sixteen_piece arg28 (rows_32 c arg1 harg1 arg2 harg2 arg3 harg3 arg27 x0 x1 x2) (w := 1) (r := 0) (c := 1) (q := 1) (by decide) (by decide) inb_S32x8192_S32x128_0_2176) <|
  .cons (sixteen_piece arg28 (rows_32 c arg1 harg1 arg2 harg2 arg3 harg3 arg27 x0 x1 x2) (w := 1) (r := 0) (c := 0) (q := 1) (by decide) (by decide) inb_S32x8192_S32x128_0_2048) <|
  .cons (sixteen_piece arg28 (rows_32 c arg1 harg1 arg2 harg2 arg3 harg3 arg27 x0 x1 x2) (w := 1) (r := 0) (c := 3) (q := 0) (by decide) (by decide) inb_S32x8192_S32x128_0_384) <|
  .cons (sixteen_piece arg28 (rows_32 c arg1 harg1 arg2 harg2 arg3 harg3 arg27 x0 x1 x2) (w := 1) (r := 0) (c := 2) (q := 0) (by decide) (by decide) inb_S32x8192_S32x128_0_256) <|
  .cons (sixteen_piece arg28 (rows_32 c arg1 harg1 arg2 harg2 arg3 harg3 arg27 x0 x1 x2) (w := 1) (r := 0) (c := 1) (q := 0) (by decide) (by decide) inb_S32x8192_S32x128_0_128) <|
  .cons (sixteen_piece arg28 (rows_32 c arg1 harg1 arg2 harg2 arg3 harg3 arg27 x0 x1 x2) (w := 1) (r := 0) (c := 0) (q := 0) (by decide) (by decide) inb_S32x8192_S32x128_0_0) <|
  .nil

theorem out_20 (a : Fin 32) (b : Fin 8192) : out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 (ix2 a b) = dilated x0 x1 x2 1 (16 * a.val + b.val / 512) (b.val % 512) :=
  sixteen_read VO0_20 (pieces_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12) (by decide) _ a b (cover0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 (ix2 a b))

theorem pieces_21 : List.Forall₂ (SixteenIs (dilated x0 x1 x2) 2) [(15, 3), (15, 2), (15, 1), (15, 0), (11, 3), (11, 2), (11, 1), (11, 0), (7, 3), (7, 2), (7, 1), (7, 0), (3, 3), (3, 2), (3, 1), (3, 0), (14, 3), (14, 2), (14, 1), (14, 0), (10, 3), (10, 2), (10, 1), (10, 0), (6, 3), (6, 2), (6, 1), (6, 0), (2, 3), (2, 2), (2, 1), (2, 0), (13, 3), (13, 2), (13, 1), (13, 0), (9, 3), (9, 2), (9, 1), (9, 0), (5, 3), (5, 2), (5, 1), (5, 0), (1, 3), (1, 2), (1, 1), (1, 0), (12, 3), (12, 2), (12, 1), (12, 0), (8, 3), (8, 2), (8, 1), (8, 0), (4, 3), (4, 2), (4, 1), (4, 0), (0, 3), (0, 2), (0, 1), (0, 0)] (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12).2.2.2.2.2.2.2.2.1 :=
  .cons (sixteen_piece arg28 (rows_48 c arg1 harg1 arg2 harg2 arg3 harg3 arg27 x0 x1 x2) (w := 2) (r := 3) (c := 3) (q := 3) (by decide) (by decide) inb_S32x8192_S32x128_0_8064) <|
  .cons (sixteen_piece arg28 (rows_48 c arg1 harg1 arg2 harg2 arg3 harg3 arg27 x0 x1 x2) (w := 2) (r := 3) (c := 2) (q := 3) (by decide) (by decide) inb_S32x8192_S32x128_0_7936) <|
  .cons (sixteen_piece arg28 (rows_48 c arg1 harg1 arg2 harg2 arg3 harg3 arg27 x0 x1 x2) (w := 2) (r := 3) (c := 1) (q := 3) (by decide) (by decide) inb_S32x8192_S32x128_0_7808) <|
  .cons (sixteen_piece arg28 (rows_48 c arg1 harg1 arg2 harg2 arg3 harg3 arg27 x0 x1 x2) (w := 2) (r := 3) (c := 0) (q := 3) (by decide) (by decide) inb_S32x8192_S32x128_0_7680) <|
  .cons (sixteen_piece arg28 (rows_48 c arg1 harg1 arg2 harg2 arg3 harg3 arg27 x0 x1 x2) (w := 2) (r := 3) (c := 3) (q := 2) (by decide) (by decide) inb_S32x8192_S32x128_0_6016) <|
  .cons (sixteen_piece arg28 (rows_48 c arg1 harg1 arg2 harg2 arg3 harg3 arg27 x0 x1 x2) (w := 2) (r := 3) (c := 2) (q := 2) (by decide) (by decide) inb_S32x8192_S32x128_0_5888) <|
  .cons (sixteen_piece arg28 (rows_48 c arg1 harg1 arg2 harg2 arg3 harg3 arg27 x0 x1 x2) (w := 2) (r := 3) (c := 1) (q := 2) (by decide) (by decide) inb_S32x8192_S32x128_0_5760) <|
  .cons (sixteen_piece arg28 (rows_48 c arg1 harg1 arg2 harg2 arg3 harg3 arg27 x0 x1 x2) (w := 2) (r := 3) (c := 0) (q := 2) (by decide) (by decide) inb_S32x8192_S32x128_0_5632) <|
  .cons (sixteen_piece arg28 (rows_48 c arg1 harg1 arg2 harg2 arg3 harg3 arg27 x0 x1 x2) (w := 2) (r := 3) (c := 3) (q := 1) (by decide) (by decide) inb_S32x8192_S32x128_0_3968) <|
  .cons (sixteen_piece arg28 (rows_48 c arg1 harg1 arg2 harg2 arg3 harg3 arg27 x0 x1 x2) (w := 2) (r := 3) (c := 2) (q := 1) (by decide) (by decide) inb_S32x8192_S32x128_0_3840) <|
  .cons (sixteen_piece arg28 (rows_48 c arg1 harg1 arg2 harg2 arg3 harg3 arg27 x0 x1 x2) (w := 2) (r := 3) (c := 1) (q := 1) (by decide) (by decide) inb_S32x8192_S32x128_0_3712) <|
  .cons (sixteen_piece arg28 (rows_48 c arg1 harg1 arg2 harg2 arg3 harg3 arg27 x0 x1 x2) (w := 2) (r := 3) (c := 0) (q := 1) (by decide) (by decide) inb_S32x8192_S32x128_0_3584) <|
  .cons (sixteen_piece arg28 (rows_48 c arg1 harg1 arg2 harg2 arg3 harg3 arg27 x0 x1 x2) (w := 2) (r := 3) (c := 3) (q := 0) (by decide) (by decide) inb_S32x8192_S32x128_0_1920) <|
  .cons (sixteen_piece arg28 (rows_48 c arg1 harg1 arg2 harg2 arg3 harg3 arg27 x0 x1 x2) (w := 2) (r := 3) (c := 2) (q := 0) (by decide) (by decide) inb_S32x8192_S32x128_0_1792) <|
  .cons (sixteen_piece arg28 (rows_48 c arg1 harg1 arg2 harg2 arg3 harg3 arg27 x0 x1 x2) (w := 2) (r := 3) (c := 1) (q := 0) (by decide) (by decide) inb_S32x8192_S32x128_0_1664) <|
  .cons (sixteen_piece arg28 (rows_48 c arg1 harg1 arg2 harg2 arg3 harg3 arg27 x0 x1 x2) (w := 2) (r := 3) (c := 0) (q := 0) (by decide) (by decide) inb_S32x8192_S32x128_0_1536) <|
  .cons (sixteen_piece arg28 (rows_48 c arg1 harg1 arg2 harg2 arg3 harg3 arg27 x0 x1 x2) (w := 2) (r := 2) (c := 3) (q := 3) (by decide) (by decide) inb_S32x8192_S32x128_0_7552) <|
  .cons (sixteen_piece arg28 (rows_48 c arg1 harg1 arg2 harg2 arg3 harg3 arg27 x0 x1 x2) (w := 2) (r := 2) (c := 2) (q := 3) (by decide) (by decide) inb_S32x8192_S32x128_0_7424) <|
  .cons (sixteen_piece arg28 (rows_48 c arg1 harg1 arg2 harg2 arg3 harg3 arg27 x0 x1 x2) (w := 2) (r := 2) (c := 1) (q := 3) (by decide) (by decide) inb_S32x8192_S32x128_0_7296) <|
  .cons (sixteen_piece arg28 (rows_48 c arg1 harg1 arg2 harg2 arg3 harg3 arg27 x0 x1 x2) (w := 2) (r := 2) (c := 0) (q := 3) (by decide) (by decide) inb_S32x8192_S32x128_0_7168) <|
  .cons (sixteen_piece arg28 (rows_48 c arg1 harg1 arg2 harg2 arg3 harg3 arg27 x0 x1 x2) (w := 2) (r := 2) (c := 3) (q := 2) (by decide) (by decide) inb_S32x8192_S32x128_0_5504) <|
  .cons (sixteen_piece arg28 (rows_48 c arg1 harg1 arg2 harg2 arg3 harg3 arg27 x0 x1 x2) (w := 2) (r := 2) (c := 2) (q := 2) (by decide) (by decide) inb_S32x8192_S32x128_0_5376) <|
  .cons (sixteen_piece arg28 (rows_48 c arg1 harg1 arg2 harg2 arg3 harg3 arg27 x0 x1 x2) (w := 2) (r := 2) (c := 1) (q := 2) (by decide) (by decide) inb_S32x8192_S32x128_0_5248) <|
  .cons (sixteen_piece arg28 (rows_48 c arg1 harg1 arg2 harg2 arg3 harg3 arg27 x0 x1 x2) (w := 2) (r := 2) (c := 0) (q := 2) (by decide) (by decide) inb_S32x8192_S32x128_0_5120) <|
  .cons (sixteen_piece arg28 (rows_48 c arg1 harg1 arg2 harg2 arg3 harg3 arg27 x0 x1 x2) (w := 2) (r := 2) (c := 3) (q := 1) (by decide) (by decide) inb_S32x8192_S32x128_0_3456) <|
  .cons (sixteen_piece arg28 (rows_48 c arg1 harg1 arg2 harg2 arg3 harg3 arg27 x0 x1 x2) (w := 2) (r := 2) (c := 2) (q := 1) (by decide) (by decide) inb_S32x8192_S32x128_0_3328) <|
  .cons (sixteen_piece arg28 (rows_48 c arg1 harg1 arg2 harg2 arg3 harg3 arg27 x0 x1 x2) (w := 2) (r := 2) (c := 1) (q := 1) (by decide) (by decide) inb_S32x8192_S32x128_0_3200) <|
  .cons (sixteen_piece arg28 (rows_48 c arg1 harg1 arg2 harg2 arg3 harg3 arg27 x0 x1 x2) (w := 2) (r := 2) (c := 0) (q := 1) (by decide) (by decide) inb_S32x8192_S32x128_0_3072) <|
  .cons (sixteen_piece arg28 (rows_48 c arg1 harg1 arg2 harg2 arg3 harg3 arg27 x0 x1 x2) (w := 2) (r := 2) (c := 3) (q := 0) (by decide) (by decide) inb_S32x8192_S32x128_0_1408) <|
  .cons (sixteen_piece arg28 (rows_48 c arg1 harg1 arg2 harg2 arg3 harg3 arg27 x0 x1 x2) (w := 2) (r := 2) (c := 2) (q := 0) (by decide) (by decide) inb_S32x8192_S32x128_0_1280) <|
  .cons (sixteen_piece arg28 (rows_48 c arg1 harg1 arg2 harg2 arg3 harg3 arg27 x0 x1 x2) (w := 2) (r := 2) (c := 1) (q := 0) (by decide) (by decide) inb_S32x8192_S32x128_0_1152) <|
  .cons (sixteen_piece arg28 (rows_48 c arg1 harg1 arg2 harg2 arg3 harg3 arg27 x0 x1 x2) (w := 2) (r := 2) (c := 0) (q := 0) (by decide) (by decide) inb_S32x8192_S32x128_0_1024) <|
  .cons (sixteen_piece arg28 (rows_48 c arg1 harg1 arg2 harg2 arg3 harg3 arg27 x0 x1 x2) (w := 2) (r := 1) (c := 3) (q := 3) (by decide) (by decide) inb_S32x8192_S32x128_0_7040) <|
  .cons (sixteen_piece arg28 (rows_48 c arg1 harg1 arg2 harg2 arg3 harg3 arg27 x0 x1 x2) (w := 2) (r := 1) (c := 2) (q := 3) (by decide) (by decide) inb_S32x8192_S32x128_0_6912) <|
  .cons (sixteen_piece arg28 (rows_48 c arg1 harg1 arg2 harg2 arg3 harg3 arg27 x0 x1 x2) (w := 2) (r := 1) (c := 1) (q := 3) (by decide) (by decide) inb_S32x8192_S32x128_0_6784) <|
  .cons (sixteen_piece arg28 (rows_48 c arg1 harg1 arg2 harg2 arg3 harg3 arg27 x0 x1 x2) (w := 2) (r := 1) (c := 0) (q := 3) (by decide) (by decide) inb_S32x8192_S32x128_0_6656) <|
  .cons (sixteen_piece arg28 (rows_48 c arg1 harg1 arg2 harg2 arg3 harg3 arg27 x0 x1 x2) (w := 2) (r := 1) (c := 3) (q := 2) (by decide) (by decide) inb_S32x8192_S32x128_0_4992) <|
  .cons (sixteen_piece arg28 (rows_48 c arg1 harg1 arg2 harg2 arg3 harg3 arg27 x0 x1 x2) (w := 2) (r := 1) (c := 2) (q := 2) (by decide) (by decide) inb_S32x8192_S32x128_0_4864) <|
  .cons (sixteen_piece arg28 (rows_48 c arg1 harg1 arg2 harg2 arg3 harg3 arg27 x0 x1 x2) (w := 2) (r := 1) (c := 1) (q := 2) (by decide) (by decide) inb_S32x8192_S32x128_0_4736) <|
  .cons (sixteen_piece arg28 (rows_48 c arg1 harg1 arg2 harg2 arg3 harg3 arg27 x0 x1 x2) (w := 2) (r := 1) (c := 0) (q := 2) (by decide) (by decide) inb_S32x8192_S32x128_0_4608) <|
  .cons (sixteen_piece arg28 (rows_48 c arg1 harg1 arg2 harg2 arg3 harg3 arg27 x0 x1 x2) (w := 2) (r := 1) (c := 3) (q := 1) (by decide) (by decide) inb_S32x8192_S32x128_0_2944) <|
  .cons (sixteen_piece arg28 (rows_48 c arg1 harg1 arg2 harg2 arg3 harg3 arg27 x0 x1 x2) (w := 2) (r := 1) (c := 2) (q := 1) (by decide) (by decide) inb_S32x8192_S32x128_0_2816) <|
  .cons (sixteen_piece arg28 (rows_48 c arg1 harg1 arg2 harg2 arg3 harg3 arg27 x0 x1 x2) (w := 2) (r := 1) (c := 1) (q := 1) (by decide) (by decide) inb_S32x8192_S32x128_0_2688) <|
  .cons (sixteen_piece arg28 (rows_48 c arg1 harg1 arg2 harg2 arg3 harg3 arg27 x0 x1 x2) (w := 2) (r := 1) (c := 0) (q := 1) (by decide) (by decide) inb_S32x8192_S32x128_0_2560) <|
  .cons (sixteen_piece arg28 (rows_48 c arg1 harg1 arg2 harg2 arg3 harg3 arg27 x0 x1 x2) (w := 2) (r := 1) (c := 3) (q := 0) (by decide) (by decide) inb_S32x8192_S32x128_0_896) <|
  .cons (sixteen_piece arg28 (rows_48 c arg1 harg1 arg2 harg2 arg3 harg3 arg27 x0 x1 x2) (w := 2) (r := 1) (c := 2) (q := 0) (by decide) (by decide) inb_S32x8192_S32x128_0_768) <|
  .cons (sixteen_piece arg28 (rows_48 c arg1 harg1 arg2 harg2 arg3 harg3 arg27 x0 x1 x2) (w := 2) (r := 1) (c := 1) (q := 0) (by decide) (by decide) inb_S32x8192_S32x128_0_640) <|
  .cons (sixteen_piece arg28 (rows_48 c arg1 harg1 arg2 harg2 arg3 harg3 arg27 x0 x1 x2) (w := 2) (r := 1) (c := 0) (q := 0) (by decide) (by decide) inb_S32x8192_S32x128_0_512) <|
  .cons (sixteen_piece arg28 (rows_48 c arg1 harg1 arg2 harg2 arg3 harg3 arg27 x0 x1 x2) (w := 2) (r := 0) (c := 3) (q := 3) (by decide) (by decide) inb_S32x8192_S32x128_0_6528) <|
  .cons (sixteen_piece arg28 (rows_48 c arg1 harg1 arg2 harg2 arg3 harg3 arg27 x0 x1 x2) (w := 2) (r := 0) (c := 2) (q := 3) (by decide) (by decide) inb_S32x8192_S32x128_0_6400) <|
  .cons (sixteen_piece arg28 (rows_48 c arg1 harg1 arg2 harg2 arg3 harg3 arg27 x0 x1 x2) (w := 2) (r := 0) (c := 1) (q := 3) (by decide) (by decide) inb_S32x8192_S32x128_0_6272) <|
  .cons (sixteen_piece arg28 (rows_48 c arg1 harg1 arg2 harg2 arg3 harg3 arg27 x0 x1 x2) (w := 2) (r := 0) (c := 0) (q := 3) (by decide) (by decide) inb_S32x8192_S32x128_0_6144) <|
  .cons (sixteen_piece arg28 (rows_48 c arg1 harg1 arg2 harg2 arg3 harg3 arg27 x0 x1 x2) (w := 2) (r := 0) (c := 3) (q := 2) (by decide) (by decide) inb_S32x8192_S32x128_0_4480) <|
  .cons (sixteen_piece arg28 (rows_48 c arg1 harg1 arg2 harg2 arg3 harg3 arg27 x0 x1 x2) (w := 2) (r := 0) (c := 2) (q := 2) (by decide) (by decide) inb_S32x8192_S32x128_0_4352) <|
  .cons (sixteen_piece arg28 (rows_48 c arg1 harg1 arg2 harg2 arg3 harg3 arg27 x0 x1 x2) (w := 2) (r := 0) (c := 1) (q := 2) (by decide) (by decide) inb_S32x8192_S32x128_0_4224) <|
  .cons (sixteen_piece arg28 (rows_48 c arg1 harg1 arg2 harg2 arg3 harg3 arg27 x0 x1 x2) (w := 2) (r := 0) (c := 0) (q := 2) (by decide) (by decide) inb_S32x8192_S32x128_0_4096) <|
  .cons (sixteen_piece arg28 (rows_48 c arg1 harg1 arg2 harg2 arg3 harg3 arg27 x0 x1 x2) (w := 2) (r := 0) (c := 3) (q := 1) (by decide) (by decide) inb_S32x8192_S32x128_0_2432) <|
  .cons (sixteen_piece arg28 (rows_48 c arg1 harg1 arg2 harg2 arg3 harg3 arg27 x0 x1 x2) (w := 2) (r := 0) (c := 2) (q := 1) (by decide) (by decide) inb_S32x8192_S32x128_0_2304) <|
  .cons (sixteen_piece arg28 (rows_48 c arg1 harg1 arg2 harg2 arg3 harg3 arg27 x0 x1 x2) (w := 2) (r := 0) (c := 1) (q := 1) (by decide) (by decide) inb_S32x8192_S32x128_0_2176) <|
  .cons (sixteen_piece arg28 (rows_48 c arg1 harg1 arg2 harg2 arg3 harg3 arg27 x0 x1 x2) (w := 2) (r := 0) (c := 0) (q := 1) (by decide) (by decide) inb_S32x8192_S32x128_0_2048) <|
  .cons (sixteen_piece arg28 (rows_48 c arg1 harg1 arg2 harg2 arg3 harg3 arg27 x0 x1 x2) (w := 2) (r := 0) (c := 3) (q := 0) (by decide) (by decide) inb_S32x8192_S32x128_0_384) <|
  .cons (sixteen_piece arg28 (rows_48 c arg1 harg1 arg2 harg2 arg3 harg3 arg27 x0 x1 x2) (w := 2) (r := 0) (c := 2) (q := 0) (by decide) (by decide) inb_S32x8192_S32x128_0_256) <|
  .cons (sixteen_piece arg28 (rows_48 c arg1 harg1 arg2 harg2 arg3 harg3 arg27 x0 x1 x2) (w := 2) (r := 0) (c := 1) (q := 0) (by decide) (by decide) inb_S32x8192_S32x128_0_128) <|
  .cons (sixteen_piece arg28 (rows_48 c arg1 harg1 arg2 harg2 arg3 harg3 arg27 x0 x1 x2) (w := 2) (r := 0) (c := 0) (q := 0) (by decide) (by decide) inb_S32x8192_S32x128_0_0) <|
  .nil

theorem out_21 (a : Fin 32) (b : Fin 8192) : out0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 (ix2 a b) = dilated x0 x1 x2 2 (16 * a.val + b.val / 512) (b.val % 512) :=
  sixteen_read VO0_21 (pieces_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12) (by decide) _ a b (cover0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 (ix2 a b))

end Cert.InProj
-- ==== Proof.InRef.lean ====
module

public import proofs.«01_k».proof.Proof.InSpec
public import proofs.«01_k».proof.Proof.Gen.Reference2Ideal
public import Idealize.ShloMosaic.Lib.Pointwise
public import Idealize.ShloMosaic.Lib.IdealHost

/-! # The steps of the reference's projections, in numbers -/

@[expose] public section

set_option maxRecDepth 16384

noncomputable section
open Idealize.ShloMosaic Idealize.ShloMosaic.TcCoe Idealize.SL.Sem
namespace Cert.InProj
open Cert.Reference2Ideal Cert.Reference2Ideal.Gen

/-- The scaled rows. -/
def refRows (X : FVec Ideal S32768x1024 .f32) (G : FVec Ideal S1x1024 .f32) : FVec Ideal S32768x1024 .f32 :=
  mulf (mulf X (broadcastInDim S32768x1024 ![0, 1] bcast_S32768x1_S32768x1024_0_1 (Host.rsqrt (addf (Host.divf (broadcastInDim S32768x1 ![0] bcast_S32768_S32768x1_0 (Host.reduceAdd (mulf X X) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x3727C5AC#32)))))) (broadcastInDim S32768x1024 ![0, 1] bcast_S1x1024_S32768x1024_0_1 G)

theorem refRows_at (X : FVec Ideal S32768x1024 .f32) (G : FVec Ideal S1x1024 .f32) (r : Fin 32768) (e : Fin 1024) :
    refRows X G (ix2 r e) = scaled (Ideal.ofBits .f32 0x44800000#32) (fun k => X (ix2 r k)) (fun k => G (ix2 0 k)) e := by
  pointwise [refRows, scaled]

/-- All the columns of the projection. -/
def refProj (X : FVec Ideal S32768x1024 .f32) (G : FVec Ideal S1x1024 .f32) (W : FVec Ideal S1024x4224 .bf16) : FVec Ideal S32768x4224 .f32 :=
  Host.dotGeneral dot_S32768x1024_S1024x4224_S32768x4224_1_0_0_1_n_n none (refRows X G) (extf .f32 W bitsLt_bf16_f32)

theorem refProj_at (X : FVec Ideal S32768x1024 .f32) (G : FVec Ideal S1x1024 .f32) (W : FVec Ideal S1024x4224 .bf16) (r : Fin 32768) (j : Fin 4224) :
    refProj X G W (ix2 r j) = proj (fun k => X (ix2 r k)) (fun k => G (ix2 0 k)) (fun k l => W (ix2 k l)) j := by
  unfold proj
  simp only [← refRows_at]
  pointwise [refProj]

/-- The queries of the dilated attention, scaled. -/
def refQ (Z : FVec Ideal S32768x4224 .f32) : FVec Ideal S32768x512 .f32 :=
  mulf (extractStridedSlice S32768x512 ![0, 0] Z slices_S32768x4224_S32768x512_0_0) (broadcastInDim S32768x512 ![] bcast_S_S32768x512 (constant S_ .f32 0x3E000000#32))

theorem refQ_at (Z : FVec Ideal S32768x4224 .f32) (r : Fin 32768) (j : Fin 512) :
    refQ Z (ix2 r j) = Z (ix2 r ⟨j.val, by omega⟩) * Ideal.ofBits .f32 0x3E000000#32 := by
  pointwise [refQ]

/-- Its keys, -/
def refK (Z : FVec Ideal S32768x4224 .f32) : FVec Ideal S32768x512 .f32 := extractStridedSlice S32768x512 ![0, 512] Z slices_S32768x4224_S32768x512_0_512

theorem refK_at (Z : FVec Ideal S32768x4224 .f32) (r : Fin 32768) (j : Fin 512) : refK Z (ix2 r j) = Z (ix2 r ⟨512 + j.val, by omega⟩) := by
  pointwise [refK]

/-- and its values. -/
def refV (Z : FVec Ideal S32768x4224 .f32) : FVec Ideal S32768x512 .f32 := extractStridedSlice S32768x512 ![0, 1024] Z slices_S32768x4224_S32768x512_0_1024

theorem refV_at (Z : FVec Ideal S32768x4224 .f32) (r : Fin 32768) (j : Fin 512) : refV Z (ix2 r j) = Z (ix2 r ⟨1024 + j.val, by omega⟩) := by
  pointwise [refV]

/-- The low-rank queries. -/
def refCq (Z : FVec Ideal S32768x4224 .f32) (G : FVec Ideal S1x256 .f32) : FVec Ideal S32768x256 .f32 :=
  mulf (mulf (extractStridedSlice S32768x256 ![0, 1536] Z slices_S32768x4224_S32768x256_0_1536) (broadcastInDim S32768x256 ![0, 1] bcast_S32768x1_S32768x256_0_1 (Host.rsqrt (addf (Host.divf (broadcastInDim S32768x1 ![0] bcast_S32768_S32768x1_0 (Host.reduceAdd (mulf (extractStridedSlice S32768x256 ![0, 1536] Z slices_S32768x4224_S32768x256_0_1536) (extractStridedSlice S32768x256 ![0, 1536] Z slices_S32768x4224_S32768x256_0_1536)) (constant S_ .f32 0x00000000#32) reducesTo_S32768x256_S32768_d1 h_S_)) (broadcastInDim S32768x1 ![] bcast_S_S32768x1 (constant S_ .f32 0x43800000#32))) (broadcastInDim S32768x1 ![] bcast_S_S32768x1 (constant S_ .f32 0x3727C5AC#32)))))) (broadcastInDim S32768x256 ![0, 1] bcast_S1x256_S32768x256_0_1 G)

theorem refCq_at (Z : FVec Ideal S32768x4224 .f32) (G : FVec Ideal S1x256 .f32) (r : Fin 32768) (e : Fin 256) :
    refCq Z G (ix2 r e) = scaled (Ideal.ofBits .f32 0x43800000#32) (fun k => Z (ix2 r ⟨1536 + k.val, by omega⟩)) (fun k => G (ix2 0 k)) e := by
  pointwise [refCq, scaled]

/-- The low-rank keys and values. -/
def refCkv (Z : FVec Ideal S32768x4224 .f32) (G : FVec Ideal S1x128 .f32) : FVec Ideal S32768x128 .f32 :=
  mulf (mulf (extractStridedSlice S32768x128 ![0, 1792] Z slices_S32768x4224_S32768x128_0_1792) (broadcastInDim S32768x128 ![0, 1] bcast_S32768x1_S32768x128_0_1 (Host.rsqrt (addf (Host.divf (broadcastInDim S32768x1 ![0] bcast_S32768_S32768x1_0 (Host.reduceAdd (mulf (extractStridedSlice S32768x128 ![0, 1792] Z slices_S32768x4224_S32768x128_0_1792) (extractStridedSlice S32768x128 ![0, 1792] Z slices_S32768x4224_S32768x128_0_1792)) (constant S_ .f32 0x00000000#32) reducesTo_S32768x128_S32768_d1 h_S_)) (broadcastInDim S32768x1 ![] bcast_S_S32768x1 (constant S_ .f32 0x43000000#32))) (broadcastInDim S32768x1 ![] bcast_S_S32768x1 (constant S_ .f32 0x3727C5AC#32)))))) (broadcastInDim S32768x128 ![0, 1] bcast_S1x128_S32768x128_0_1 G)

theorem refCkv_at (Z : FVec Ideal S32768x4224 .f32) (G : FVec Ideal S1x128 .f32) (r : Fin 32768) (e : Fin 128) :
    refCkv Z G (ix2 r e) = scaled (Ideal.ofBits .f32 0x43000000#32) (fun k => Z (ix2 r ⟨1792 + k.val, by omega⟩)) (fun k => G (ix2 0 k)) e := by
  pointwise [refCkv, scaled]

/-- The queries of the attention, rotated. -/
def refQb (C : FVec Ideal S32768x256 .f32) (U V : FVec Ideal S256x1024 .bf16) (A B : FVec Ideal S16384x128 .f32) : FVec Ideal S32768x1024 .bf16 :=
  truncf .bf16 (shapeCast _ (addf (mulf (shapeCast _ (Host.dotGeneral dot_S32768x256_S256x1024_S32768x1024_1_0_0_1_n_n none C (extf .f32 U bitsLt_bf16_f32)) shapeCasts_S32768x1024_S2x16384x8x128) (broadcastInDim S2x16384x8x128 ![0, 1, 2, 3] bcast_S1x16384x1x128_S2x16384x8x128_0_1_2_3 (broadcastInDim S1x16384x1x128 ![1, 3] bcast_S16384x128_S1x16384x1x128_1_3 A))) (mulf (shapeCast _ (Host.dotGeneral dot_S32768x256_S256x1024_S32768x1024_1_0_0_1_n_n none C (extf .f32 V bitsLt_bf16_f32)) shapeCasts_S32768x1024_S2x16384x8x128) (broadcastInDim S2x16384x8x128 ![0, 1, 2, 3] bcast_S1x16384x1x128_S2x16384x8x128_0_1_2_3 (broadcastInDim S1x16384x1x128 ![1, 3] bcast_S16384x128_S1x16384x1x128_1_3 B)))) shapeCasts_S2x16384x8x128_S32768x1024) bitsLt_bf16_f32

theorem refQb_at (C : FVec Ideal S32768x256 .f32) (U V : FVec Ideal S256x1024 .bf16) (A B : FVec Ideal S16384x128 .f32) (r : Fin 32768) (j : Fin 1024) :
    refQb C U V A B (ix2 r j) = (∑ l : Fin 256, C (ix2 r l) * U (ix2 l j)) * A (ix2 ⟨r.val % 16384, by omega⟩ ⟨j.val % 128, by omega⟩)
      + (∑ l : Fin 256, C (ix2 r l) * V (ix2 l j)) * B (ix2 ⟨r.val % 16384, by omega⟩ ⟨j.val % 128, by omega⟩) := by
  pointwise [refQb]

/-- The keys of the attention, rotated. -/
def refKb (Z : FVec Ideal S32768x4224 .f32) (C : FVec Ideal S32768x128 .f32) (U : FVec Ideal S128x1024 .bf16) (A B : FVec Ideal S16384x128 .f32) : FVec Ideal S32768x1024 .bf16 :=
  truncf .bf16 (shapeCast _ (addf (shapeCast _ (Host.dotGeneral dot_S32768x128_S128x1024_S32768x1024_1_0_0_1_n_n none C (extf .f32 U bitsLt_bf16_f32)) shapeCasts_S32768x1024_S2x16384x8x128) (broadcastInDim S2x16384x8x128 ![0, 1, 2, 3] bcast_S2x16384x1x128_S2x16384x8x128_0_1_2_3 (broadcastInDim S2x16384x1x128 ![0, 1, 3] bcast_S2x16384x128_S2x16384x1x128_0_1_3 (addf (mulf (shapeCast _ (extractStridedSlice S32768x128 ![0, 3968] Z slices_S32768x4224_S32768x128_0_3968) shapeCasts_S32768x128_S2x16384x128) (broadcastInDim S2x16384x128 ![0, 1, 2] bcast_S1x16384x128_S2x16384x128_0_1_2 (broadcastInDim S1x16384x128 ![1, 2] bcast_S16384x128_S1x16384x128_1_2 A))) (mulf (shapeCast _ (extractStridedSlice S32768x128 ![0, 4096] Z slices_S32768x4224_S32768x128_0_4096) shapeCasts_S32768x128_S2x16384x128) (broadcastInDim S2x16384x128 ![0, 1, 2] bcast_S1x16384x128_S2x16384x128_0_1_2 (broadcastInDim S1x16384x128 ![1, 2] bcast_S16384x128_S1x16384x128_1_2 B))))))) shapeCasts_S2x16384x8x128_S32768x1024) bitsLt_bf16_f32

theorem refKb_at (Z : FVec Ideal S32768x4224 .f32) (C : FVec Ideal S32768x128 .f32) (U : FVec Ideal S128x1024 .bf16) (A B : FVec Ideal S16384x128 .f32) (r : Fin 32768) (j : Fin 1024) :
    refKb Z C U A B (ix2 r j) = (∑ l : Fin 128, C (ix2 r l) * U (ix2 l j))
      + (Z (ix2 r ⟨3968 + j.val % 128, by omega⟩) * A (ix2 ⟨r.val % 16384, by omega⟩ ⟨j.val % 128, by omega⟩)
        + Z (ix2 r ⟨4096 + j.val % 128, by omega⟩) * B (ix2 ⟨r.val % 16384, by omega⟩ ⟨j.val % 128, by omega⟩)) := by
  pointwise [refKb]

/-- The values of the attention. -/
def refVb (C : FVec Ideal S32768x128 .f32) (U : FVec Ideal S512x128 .bf16) : FVec Ideal S512x32768 .bf16 :=
  truncf .bf16 (Host.dotGeneral dot_S512x128_S128x32768_S512x32768_1_0_0_1_n_n none (extf .f32 U bitsLt_bf16_f32) (transpose S128x32768 [1, 0] C transposes_S32768x128_S128x32768_1_0)) bitsLt_bf16_f32

theorem refVb_at (C : FVec Ideal S32768x128 .f32) (U : FVec Ideal S512x128 .bf16) (w : Fin 512) (r : Fin 32768) :
    refVb C U (ix2 w r) = ∑ l : Fin 128, U (ix2 w l) * C (ix2 r l) := by
  pointwise [refVb]

/-- The gates. -/
def refGates (Z : FVec Ideal S32768x4224 .f32) : FVec Ideal S32768x2048 .bf16 :=
  truncf .bf16 (Host.divf (broadcastInDim S32768x2048 ![] bcast_S_S32768x2048 (constant S_ .f32 0x3F800000#32)) (addf (broadcastInDim S32768x2048 ![] bcast_S_S32768x2048 (constant S_ .f32 0x3F800000#32)) (Host.exp (Host.negf (extractStridedSlice S32768x2048 ![0, 1920] Z slices_S32768x4224_S32768x2048_0_1920))))) bitsLt_bf16_f32

theorem refGates_at (Z : FVec Ideal S32768x4224 .f32) (r : Fin 32768) (j : Fin 2048) :
    refGates Z (ix2 r j) = Ideal.logistic (Z (ix2 r ⟨1920 + j.val, by omega⟩)) := by
  have one : Ideal.ofBits .f32 0x3F800000#32 = 1 := by
    simp [Ideal.ofBits, Ideal.ieee, -EReal.coe_mul]
    norm_num
  unfold Ideal.logistic
  rw [← one]
  pointwise [refGates]

/-- The rows as they are. -/
def plain (a : FVec Ideal S32768x512 .f32) : FVec Ideal S32768x512 .bf16 := truncf .bf16 a bitsLt_bf16_f32

theorem plain_at (a : FVec Ideal S32768x512 .f32) (r : Fin 32768) (j : Fin 512) : plain a (ix2 r j) = a (ix2 r j) := by
  pointwise [plain]

/-- Groups of four rows side by side. -/
def fours (a : FVec Ideal S32768x512 .f32) : FVec Ideal S8192x2048 .bf16 := truncf .bf16 (shapeCast S8192x2048 a shapeCasts_S32768x512_S8192x2048) bitsLt_bf16_f32

theorem fours_at (a : FVec Ideal S32768x512 .f32) (r : Fin 8192) (j : Fin 2048) :
    fours a (ix2 r j) = a (ix2 ⟨r.val * 4 + j.val / 512, by omega⟩ ⟨j.val % 512, by omega⟩) := by
  pointwise [fours]

/-- Groups of sixteen rows side by side. -/
def sixteens (a : FVec Ideal S32768x512 .f32) : FVec Ideal S2048x8192 .bf16 := truncf .bf16 (shapeCast S2048x8192 a shapeCasts_S32768x512_S2048x8192) bitsLt_bf16_f32

theorem sixteens_at (a : FVec Ideal S32768x512 .f32) (r : Fin 2048) (j : Fin 8192) :
    sixteens a (ix2 r j) = a (ix2 ⟨r.val * 16 + j.val / 512, by omega⟩ ⟨j.val % 512, by omega⟩) := by
  pointwise [sixteens]

end Cert.InProj
-- ==== Proof.InBlocks.lean ====
module

public import proofs.«01_k».proof.Proof.InOuts
public import proofs.«01_k».proof.Proof.InDilated
public import proofs.«01_k».proof.Proof.InRef
public import Idealize.ShloMosaic.Lib.Pipeline.ValueKit

/-! # The blocks the projections' body works on

At point `t` the body sees 512 rows of the activations and of the tables, and all of the weights; what it computes of a row is what
the reference computes of that row. -/

@[expose] public section

set_option maxRecDepth 16384

noncomputable section
open Idealize.ShloMosaic Idealize.ShloMosaic.TcCoe Idealize.SL.Sem
namespace Cert.InProj
open Cert.Kernel2Ideal Cert.Kernel2Ideal.Gen

/-- The blocks of the windows at point `t`. -/
theorem rows_index : ∀ t : Fin cfg0.N, win0_0.index t = ![t.val, 0] ∧ win0_9.index t = ![t.val % 32, 0] ∧ win0_10.index t = ![t.val % 32, 0]
    ∧ win0_11.index t = ![t.val % 32, 0] ∧ win0_12.index t = ![t.val % 32, 0] :=
  (by decide +kernel : ∀ t : Fin grid0.N, _)

theorem weights_index : ∀ t : Fin cfg0.N, win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0] :=
  (by decide +kernel : ∀ t : Fin grid0.N, _)

variable (m : (ℓ : Loc nD τ sig) → Buf (Elt Ideal) ℓ) (c : Dev nD)

/-- The arguments, as the arrays they hold. -/
abbrev in0 : FVec Ideal S32768x1024 .f32 := m ((c.tc : Thread nD τ).loc main_arg0)
abbrev in1 : FVec Ideal S1x1024 .f32 := m ((c.tc : Thread nD τ).loc main_arg1)
abbrev in2 : FVec Ideal S1024x4224 .bf16 := m ((c.tc : Thread nD τ).loc main_arg2)
abbrev in3 : FVec Ideal S1x256 .f32 := m ((c.tc : Thread nD τ).loc main_arg3)
abbrev in4 : FVec Ideal S1x128 .f32 := m ((c.tc : Thread nD τ).loc main_arg4)
abbrev in5 : FVec Ideal S256x1024 .bf16 := m ((c.tc : Thread nD τ).loc main_arg5)
abbrev in6 : FVec Ideal S256x1024 .bf16 := m ((c.tc : Thread nD τ).loc main_arg6)
abbrev in7 : FVec Ideal S128x1024 .bf16 := m ((c.tc : Thread nD τ).loc main_arg7)
abbrev in8 : FVec Ideal S512x128 .bf16 := m ((c.tc : Thread nD τ).loc main_arg8)
abbrev in9 : FVec Ideal S16384x128 .f32 := m ((c.tc : Thread nD τ).loc main_arg9)
abbrev in10 : FVec Ideal S16384x128 .f32 := m ((c.tc : Thread nD τ).loc main_arg10)
abbrev in11 : FVec Ideal S16384x128 .f32 := m ((c.tc : Thread nD τ).loc main_arg11)
abbrev in12 : FVec Ideal S16384x128 .f32 := m ((c.tc : Thread nD τ).loc main_arg12)

/-- All the columns of the projection, for all rows. -/
abbrev allCols : FVec Ideal Cert.Reference2Ideal.S32768x4224 .f32 := refProj (in0 m c) (in1 m c) (in2 m c)

theorem x_block (t : Fin cfg0.N) (i : Fin 512) (k : Fin 1024) (h : 512 * t.val + i.val < 32768) : iblk m c 0 t (ix2 i k) = in0 m c (ix2 ⟨512 * t.val + i.val, h⟩ k) := by
  blk_ext! [iblk, V, (rows_index t).1]

theorem weights1_block (t : Fin cfg0.N) (i : Fin 1) (k : Fin 1024) : iblk m c 1 t (ix2 i k) = in1 m c (ix2 i k) := by
  blk_ext! [iblk, V, (weights_index t).1]

theorem weights2_block (t : Fin cfg0.N) (i : Fin 1024) (k : Fin 4224) : iblk m c 2 t (ix2 i k) = in2 m c (ix2 i k) := by
  blk_ext! [iblk, V, (weights_index t).2.1]

theorem weights3_block (t : Fin cfg0.N) (i : Fin 1) (k : Fin 256) : iblk m c 3 t (ix2 i k) = in3 m c (ix2 i k) := by
  blk_ext! [iblk, V, (weights_index t).2.2.1]

theorem weights4_block (t : Fin cfg0.N) (i : Fin 1) (k : Fin 128) : iblk m c 4 t (ix2 i k) = in4 m c (ix2 i k) := by
  blk_ext! [iblk, V, (weights_index t).2.2.2.1]

theorem weights5_block (t : Fin cfg0.N) (i : Fin 256) (k : Fin 1024) : iblk m c 5 t (ix2 i k) = in5 m c (ix2 i k) := by
  blk_ext! [iblk, V, (weights_index t).2.2.2.2.1]

theorem weights6_block (t : Fin cfg0.N) (i : Fin 256) (k : Fin 1024) : iblk m c 6 t (ix2 i k) = in6 m c (ix2 i k) := by
  blk_ext! [iblk, V, (weights_index t).2.2.2.2.2.1]

theorem weights7_block (t : Fin cfg0.N) (i : Fin 128) (k : Fin 1024) : iblk m c 7 t (ix2 i k) = in7 m c (ix2 i k) := by
  blk_ext! [iblk, V, (weights_index t).2.2.2.2.2.2.1]

theorem weights8_block (t : Fin cfg0.N) (i : Fin 512) (k : Fin 128) : iblk m c 8 t (ix2 i k) = in8 m c (ix2 i k) := by
  blk_ext! [iblk, V, (weights_index t).2.2.2.2.2.2.2]

theorem table9_block (t : Fin cfg0.N) (i : Fin 512) (e : Fin 128) (h : 512 * (t.val % 32) + i.val < 16384) : iblk m c 9 t (ix2 i e) = in9 m c (ix2 ⟨512 * (t.val % 32) + i.val, h⟩ e) := by
  blk_ext! [iblk, V, (rows_index t).2.1]

theorem table10_block (t : Fin cfg0.N) (i : Fin 512) (e : Fin 128) (h : 512 * (t.val % 32) + i.val < 16384) : iblk m c 10 t (ix2 i e) = in10 m c (ix2 ⟨512 * (t.val % 32) + i.val, h⟩ e) := by
  blk_ext! [iblk, V, (rows_index t).2.2.1]

theorem table11_block (t : Fin cfg0.N) (i : Fin 512) (e : Fin 128) (h : 512 * (t.val % 32) + i.val < 16384) : iblk m c 11 t (ix2 i e) = in11 m c (ix2 ⟨512 * (t.val % 32) + i.val, h⟩ e) := by
  blk_ext! [iblk, V, (rows_index t).2.2.2.1]

theorem table12_block (t : Fin cfg0.N) (i : Fin 512) (e : Fin 128) (h : 512 * (t.val % 32) + i.val < 16384) : iblk m c 12 t (ix2 i e) = in12 m c (ix2 ⟨512 * (t.val % 32) + i.val, h⟩ e) := by
  blk_ext! [iblk, V, (rows_index t).2.2.2.2]

/-- The columns of a row, -/
theorem row_block (t : Fin cfg0.N) (i : Fin 512) (j : Fin 4224) (h : 512 * t.val + i.val < 32768) :
    rowProj (iblk m c 0 t) (iblk m c 1 t) (iblk m c 2 t) i j = allCols m c (ix2 ⟨512 * t.val + i.val, h⟩ j) := by
  refine Eq.trans ?_ (refProj_at _ _ _ _ j).symm
  unfold rowProj
  rw [show (fun k => iblk m c 0 t (ix2 i k)) = fun k => in0 m c (ix2 ⟨512 * t.val + i.val, h⟩ k) from funext fun k => x_block m c t i k h,
    show (fun k => iblk m c 1 t (ix2 0 k)) = fun k => in1 m c (ix2 0 k) from funext fun k => weights1_block m c t 0 k,
    show (fun k l => iblk m c 2 t (ix2 k l)) = fun k l => in2 m c (ix2 k l) from funext fun k => funext fun l => weights2_block m c t k l]

/-- its queries, keys and values of the dilated attention, -/
theorem dilated0_block (t : Fin cfg0.N) (i j : ℕ) (hi : i < 512) (hj : j < 512) (h : 512 * t.val + i < 32768) :
    dilated (iblk m c 0 t) (iblk m c 1 t) (iblk m c 2 t) 0 i j = refQ (allCols m c) (ix2 ⟨512 * t.val + i, h⟩ ⟨j, hj⟩) := by
  unfold dilated
  rw [dif_pos ⟨hi, hj⟩]
  exact (Ideal.mul_congr (row_block m c t ⟨i, hi⟩ _ h) rfl).trans (refQ_at (allCols m c) ⟨512 * t.val + i, h⟩ ⟨j, hj⟩).symm

theorem dilated1_block (t : Fin cfg0.N) (i j : ℕ) (hi : i < 512) (hj : j < 512) (h : 512 * t.val + i < 32768) :
    dilated (iblk m c 0 t) (iblk m c 1 t) (iblk m c 2 t) 1 i j = refK (allCols m c) (ix2 ⟨512 * t.val + i, h⟩ ⟨j, hj⟩) := by
  unfold dilated
  rw [dif_pos ⟨hi, hj⟩]
  exact (row_block m c t ⟨i, hi⟩ _ h).trans (refK_at (allCols m c) ⟨512 * t.val + i, h⟩ ⟨j, hj⟩).symm

theorem dilated2_block (t : Fin cfg0.N) (i j : ℕ) (hi : i < 512) (hj : j < 512) (h : 512 * t.val + i < 32768) :
    dilated (iblk m c 0 t) (iblk m c 1 t) (iblk m c 2 t) 2 i j = refV (allCols m c) (ix2 ⟨512 * t.val + i, h⟩ ⟨j, hj⟩) := by
  unfold dilated
  rw [dif_pos ⟨hi, hj⟩]
  exact (row_block m c t ⟨i, hi⟩ _ h).trans (refV_at (allCols m c) ⟨512 * t.val + i, h⟩ ⟨j, hj⟩).symm

/-- its low-rank queries, -/
theorem lowQ_block (t : Fin cfg0.N) (i : Fin 512) (l : Fin 256) (h : 512 * t.val + i.val < 32768) :
    lowQ (iblk m c 0 t) (iblk m c 1 t) (iblk m c 2 t) (iblk m c 3 t) i l = refCq (allCols m c) (in3 m c) (ix2 ⟨512 * t.val + i.val, h⟩ l) := by
  refine Eq.trans ?_ (refCq_at _ _ _ l).symm
  unfold lowQ
  simp only [row_block m c t i _ h, weights3_block m c t]

/-- and its low-rank keys and values. -/
theorem lowK_block (t : Fin cfg0.N) (i : Fin 512) (l : Fin 128) (h : 512 * t.val + i.val < 32768) :
    lowK (iblk m c 0 t) (iblk m c 1 t) (iblk m c 2 t) (iblk m c 4 t) i l = refCkv (allCols m c) (in4 m c) (ix2 ⟨512 * t.val + i.val, h⟩ l) := by
  refine Eq.trans ?_ (refCkv_at _ _ _ l).symm
  unfold lowK
  simp only [row_block m c t i _ h, weights4_block m c t]

/-- Its queries of the attention, -/
theorem queriesB_block (t : Fin cfg0.N) (i : Fin 512) (j : Fin 1024) (h : 512 * t.val + i.val < 32768) :
    queriesB (iblk m c 0 t) (iblk m c 1 t) (iblk m c 2 t) (iblk m c 3 t) (iblk m c 5 t) (iblk m c 6 t) (iblk m c 9 t) (iblk m c 10 t) i j
      = refQb (refCq (allCols m c) (in3 m c)) (in5 m c) (in6 m c) (in9 m c) (in10 m c) (ix2 ⟨512 * t.val + i.val, h⟩ j) := by
  have hr : (512 * t.val + i.val) % 16384 = 512 * (t.val % 32) + i.val := by omega
  have ht : 512 * (t.val % 32) + i.val < 16384 := by omega
  refine Eq.trans ?_ (refQb_at _ _ _ _ _ _ j).symm
  unfold queriesB
  simp only [lowQ_block m c t i _ h, weights5_block m c t, weights6_block m c t, table9_block m c t i _ ht, table10_block m c t i _ ht, hr]

/-- its keys, -/
theorem keysB_block (t : Fin cfg0.N) (i : Fin 512) (j : Fin 1024) (h : 512 * t.val + i.val < 32768) :
    keysB (iblk m c 0 t) (iblk m c 1 t) (iblk m c 2 t) (iblk m c 4 t) (iblk m c 7 t) (iblk m c 11 t) (iblk m c 12 t) i j
      = refKb (allCols m c) (refCkv (allCols m c) (in4 m c)) (in7 m c) (in11 m c) (in12 m c) (ix2 ⟨512 * t.val + i.val, h⟩ j) := by
  have hr : (512 * t.val + i.val) % 16384 = 512 * (t.val % 32) + i.val := by omega
  have ht : 512 * (t.val % 32) + i.val < 16384 := by omega
  refine Eq.trans ?_ (refKb_at _ _ _ _ _ _ j).symm
  unfold keysB
  simp only [lowK_block m c t i _ h, row_block m c t i _ h, weights7_block m c t, table11_block m c t i _ ht, table12_block m c t i _ ht, hr]

/-- The values of the attention, from the blocks, -/
def valuesB (x0 : FVec Ideal S512x1024 .f32) (x1 : FVec Ideal S1x1024 .f32) (x2 : FVec Ideal S1024x4224 .bf16) (x4 : FVec Ideal S1x128 .f32)
    (x8 : FVec Ideal S512x128 .bf16) (w i : Fin 512) : EReal := ∑ l : Fin 128, x8 (ix2 w l) * lowK x0 x1 x2 x4 i l

theorem valuesB_block (t : Fin cfg0.N) (w : Fin 512) (i : Fin 512) (h : 512 * t.val + i.val < 32768) :
    valuesB (iblk m c 0 t) (iblk m c 1 t) (iblk m c 2 t) (iblk m c 4 t) (iblk m c 8 t) w i
      = refVb (refCkv (allCols m c) (in4 m c)) (in8 m c) (ix2 w ⟨512 * t.val + i.val, h⟩) := by
  refine Eq.trans ?_ (refVb_at _ _ w _).symm
  unfold valuesB
  exact Finset.sum_congr (M := EReal) rfl fun l _ => Ideal.mul_congr (weights8_block m c t w l) (lowK_block m c t i l h)

/-- and its gates. -/
theorem gates_block (t : Fin cfg0.N) (i : Fin 512) (j : Fin 2048) (h : 512 * t.val + i.val < 32768) :
    Ideal.logistic (rowProj (iblk m c 0 t) (iblk m c 1 t) (iblk m c 2 t) i ⟨1920 + j.val, by omega⟩) = refGates (allCols m c) (ix2 ⟨512 * t.val + i.val, h⟩ j) := by
  refine Eq.trans ?_ (refGates_at _ _ j).symm
  exact congrArg Ideal.logistic (row_block m c t i _ h)

end Cert.InProj
-- ==== Proof.InArrays.lean ====
module

public import proofs.«01_k».proof.Proof.InBlocks
public import proofs.«01_k».proof.Proof.Gen.Kernel2Ideal.Value

/-! # The arrays the projections' grid leaves

Each grid point writes its block of each of the thirteen outputs; the blocks cover the arrays, and hold the reference's results. -/

@[expose] public section

set_option maxRecDepth 16384

noncomputable section
open Idealize.ShloMosaic Idealize.ShloMosaic.TcCoe Idealize.SL.Sem
namespace Cert.InProj
open Cert.Kernel2Ideal Cert.Kernel2Ideal.Gen

/-- The blocks of the outputs at point `t`. -/
theorem outs_index : ∀ t : Fin cfg0.N, win0_13.index t = ![t.val, 0] ∧ win0_14.index t = ![t.val, 0] ∧ win0_15.index t = ![t.val, 0] ∧ win0_16.index t = ![t.val, 0] ∧ win0_17.index t = ![t.val, 0] ∧ win0_18.index t = ![t.val, 0] ∧ win0_19.index t = ![t.val, 0] ∧ win0_20.index t = ![t.val, 0] ∧ win0_21.index t = ![t.val, 0] ∧ win0_22.index t = ![t.val, 0] ∧ win0_23.index t = ![t.val, 0] ∧ win0_24.index t = ![0, t.val] ∧ win0_25.index t = ![t.val, 0] :=
  (by decide +kernel : ∀ t : Fin grid0.N, _)

variable (m : (ℓ : Loc nD τ sig) → Buf (Elt Ideal) ℓ) (c : Dev nD)

/-- A point leaves its block of the dilated queries, -/
theorem left_13 (t : Fin cfg0.N) (a : Fin 512) (b : Fin 512) (h : 512 * t.val + a.val < 32768) : (dats m 0 c).after 13 t (ix2 a b) = plain (refQ (allCols m c)) (ix2 ⟨512 * t.val + a.val, h⟩ b) := by
  simp only [after0_13, outsAt0]
  refine (out_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) a b).trans ?_
  exact (dilated0_block m c t a.val b.val a.isLt b.isLt h).trans (plain_at ((refQ (allCols m c))) _ _).symm

/-- and the array ends as the dilated queries. -/
theorem array_13 : (dats m 0 c).arrAt 13 cfg0.N = plain (refQ (allCols m c)) := by
  refine (dats m 0 c).arrAt_eq_of_covers 13 _ (by decide +kernel) fun t hf y => ?_
  blk_simp
  have ht : t.val < 64 := t.isLt
  have hy : (y 0).val < 512 := (y 0).isLt
  have e0 : (((win0_13.blk t).view.emb y : S32768x512.Idx) 0).val = 512 * t.val + (y 0).val := by
    refine Eq.trans (b := t.val * 512 + (y 0).val) ?_ (by omega)
    blk_ext [(outs_index t).1]
  have e1 : (((win0_13.blk t).view.emb y : S32768x512.Idx) 1).val = (y 1).val := by
    blk_ext [(outs_index t).1]
  have h : 512 * t.val + (y 0).val < 32768 := by omega
  have e : ((win0_13.blk t).view.emb y : S32768x512.Idx) = ix2 (⟨512 * t.val + (y 0).val, h⟩ : Fin 32768) (y 1 : Fin 512) := by
    funext k
    fin_cases k
    · exact Fin.ext e0
    · exact Fin.ext e1
  have ey : y = ix2 (y 0 : Fin 512) (y 1 : Fin 512) := by
    funext k
    fin_cases k <;> rfl
  refine Eq.trans (congrArg _ ey) ((left_13 m c t (y 0 : Fin 512) (y 1 : Fin 512) h).trans (congrArg _ e.symm))

/-- A point leaves its block of the dilated keys, -/
theorem left_14 (t : Fin cfg0.N) (a : Fin 512) (b : Fin 512) (h : 512 * t.val + a.val < 32768) : (dats m 0 c).after 14 t (ix2 a b) = plain (refK (allCols m c)) (ix2 ⟨512 * t.val + a.val, h⟩ b) := by
  simp only [after0_14, outsAt0]
  refine (out_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) a b).trans ?_
  exact (dilated1_block m c t a.val b.val a.isLt b.isLt h).trans (plain_at ((refK (allCols m c))) _ _).symm

/-- and the array ends as the dilated keys. -/
theorem array_14 : (dats m 0 c).arrAt 14 cfg0.N = plain (refK (allCols m c)) := by
  refine (dats m 0 c).arrAt_eq_of_covers 14 _ (by decide +kernel) fun t hf y => ?_
  blk_simp
  have ht : t.val < 64 := t.isLt
  have hy : (y 0).val < 512 := (y 0).isLt
  have e0 : (((win0_14.blk t).view.emb y : S32768x512.Idx) 0).val = 512 * t.val + (y 0).val := by
    refine Eq.trans (b := t.val * 512 + (y 0).val) ?_ (by omega)
    blk_ext [(outs_index t).2.1]
  have e1 : (((win0_14.blk t).view.emb y : S32768x512.Idx) 1).val = (y 1).val := by
    blk_ext [(outs_index t).2.1]
  have h : 512 * t.val + (y 0).val < 32768 := by omega
  have e : ((win0_14.blk t).view.emb y : S32768x512.Idx) = ix2 (⟨512 * t.val + (y 0).val, h⟩ : Fin 32768) (y 1 : Fin 512) := by
    funext k
    fin_cases k
    · exact Fin.ext e0
    · exact Fin.ext e1
  have ey : y = ix2 (y 0 : Fin 512) (y 1 : Fin 512) := by
    funext k
    fin_cases k <;> rfl
  refine Eq.trans (congrArg _ ey) ((left_14 m c t (y 0 : Fin 512) (y 1 : Fin 512) h).trans (congrArg _ e.symm))

/-- A point leaves its block of the dilated values, -/
theorem left_15 (t : Fin cfg0.N) (a : Fin 512) (b : Fin 512) (h : 512 * t.val + a.val < 32768) : (dats m 0 c).after 15 t (ix2 a b) = plain (refV (allCols m c)) (ix2 ⟨512 * t.val + a.val, h⟩ b) := by
  simp only [after0_15, outsAt0]
  refine (out_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) a b).trans ?_
  exact (dilated2_block m c t a.val b.val a.isLt b.isLt h).trans (plain_at ((refV (allCols m c))) _ _).symm

/-- and the array ends as the dilated values. -/
theorem array_15 : (dats m 0 c).arrAt 15 cfg0.N = plain (refV (allCols m c)) := by
  refine (dats m 0 c).arrAt_eq_of_covers 15 _ (by decide +kernel) fun t hf y => ?_
  blk_simp
  have ht : t.val < 64 := t.isLt
  have hy : (y 0).val < 512 := (y 0).isLt
  have e0 : (((win0_15.blk t).view.emb y : S32768x512.Idx) 0).val = 512 * t.val + (y 0).val := by
    refine Eq.trans (b := t.val * 512 + (y 0).val) ?_ (by omega)
    blk_ext [(outs_index t).2.2.1]
  have e1 : (((win0_15.blk t).view.emb y : S32768x512.Idx) 1).val = (y 1).val := by
    blk_ext [(outs_index t).2.2.1]
  have h : 512 * t.val + (y 0).val < 32768 := by omega
  have e : ((win0_15.blk t).view.emb y : S32768x512.Idx) = ix2 (⟨512 * t.val + (y 0).val, h⟩ : Fin 32768) (y 1 : Fin 512) := by
    funext k
    fin_cases k
    · exact Fin.ext e0
    · exact Fin.ext e1
  have ey : y = ix2 (y 0 : Fin 512) (y 1 : Fin 512) := by
    funext k
    fin_cases k <;> rfl
  refine Eq.trans (congrArg _ ey) ((left_15 m c t (y 0 : Fin 512) (y 1 : Fin 512) h).trans (congrArg _ e.symm))

/-- Row groups of a block are row groups of the array. -/
theorem groups_16 (t : Fin cfg0.N) (a : Fin 128) (b : Fin 2048) (h : 128 * t.val + a.val < 8192) :
    dilated (iblk m c 0 t) (iblk m c 1 t) (iblk m c 2 t) 0 (4 * a.val + b.val / 512) (b.val % 512) = fours (refQ (allCols m c)) (ix2 ⟨128 * t.val + a.val, h⟩ b) := by
  have hb := b.isLt
  have ha := a.isLt
  have hr : 512 * t.val + (4 * a.val + b.val / 512) < 32768 := by omega
  have hq : b.val / 512 < 4 := by omega
  have hi : 4 * a.val + b.val / 512 < 512 := by omega
  have hj : b.val % 512 < 512 := by omega
  have he : (128 * t.val + a.val) * 4 + b.val / 512 < 32768 := by omega
  have er : (⟨512 * t.val + (4 * a.val + b.val / 512), hr⟩ : Fin 32768) = ⟨(128 * t.val + a.val) * 4 + b.val / 512, he⟩ := Fin.ext (by simp only; omega)
  exact (dilated0_block m c t _ _ hi hj hr).trans ((congrArg (fun r => refQ (allCols m c) (ix2 r ⟨b.val % 512, hj⟩)) er).trans (fours_at (refQ (allCols m c)) ⟨128 * t.val + a.val, h⟩ b).symm)

/-- A point leaves its block of the queries in fours, -/
theorem left_16 (t : Fin cfg0.N) (a : Fin 128) (b : Fin 2048) (h : 128 * t.val + a.val < 8192) : (dats m 0 c).after 16 t (ix2 a b) = fours (refQ (allCols m c)) (ix2 ⟨128 * t.val + a.val, h⟩ b) := by
  simp only [after0_16, outsAt0]
  refine (out_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) a b).trans ?_
  exact (groups_16 m c t a b h)

/-- and the array ends as the queries in fours. -/
theorem array_16 : (dats m 0 c).arrAt 16 cfg0.N = fours (refQ (allCols m c)) := by
  refine (dats m 0 c).arrAt_eq_of_covers 16 _ (by decide +kernel) fun t hf y => ?_
  blk_simp
  have ht : t.val < 64 := t.isLt
  have hy : (y 0).val < 128 := (y 0).isLt
  have e0 : (((win0_16.blk t).view.emb y : S8192x2048.Idx) 0).val = 128 * t.val + (y 0).val := by
    refine Eq.trans (b := t.val * 128 + (y 0).val) ?_ (by omega)
    blk_ext [(outs_index t).2.2.2.1]
  have e1 : (((win0_16.blk t).view.emb y : S8192x2048.Idx) 1).val = (y 1).val := by
    blk_ext [(outs_index t).2.2.2.1]
  have h : 128 * t.val + (y 0).val < 8192 := by omega
  have e : ((win0_16.blk t).view.emb y : S8192x2048.Idx) = ix2 (⟨128 * t.val + (y 0).val, h⟩ : Fin 8192) (y 1 : Fin 2048) := by
    funext k
    fin_cases k
    · exact Fin.ext e0
    · exact Fin.ext e1
  have ey : y = ix2 (y 0 : Fin 128) (y 1 : Fin 2048) := by
    funext k
    fin_cases k <;> rfl
  refine Eq.trans (congrArg _ ey) ((left_16 m c t (y 0 : Fin 128) (y 1 : Fin 2048) h).trans (congrArg _ e.symm))

/-- Row groups of a block are row groups of the array. -/
theorem groups_17 (t : Fin cfg0.N) (a : Fin 128) (b : Fin 2048) (h : 128 * t.val + a.val < 8192) :
    dilated (iblk m c 0 t) (iblk m c 1 t) (iblk m c 2 t) 1 (4 * a.val + b.val / 512) (b.val % 512) = fours (refK (allCols m c)) (ix2 ⟨128 * t.val + a.val, h⟩ b) := by
  have hb := b.isLt
  have ha := a.isLt
  have hr : 512 * t.val + (4 * a.val + b.val / 512) < 32768 := by omega
  have hq : b.val / 512 < 4 := by omega
  have hi : 4 * a.val + b.val / 512 < 512 := by omega
  have hj : b.val % 512 < 512 := by omega
  have he : (128 * t.val + a.val) * 4 + b.val / 512 < 32768 := by omega
  have er : (⟨512 * t.val + (4 * a.val + b.val / 512), hr⟩ : Fin 32768) = ⟨(128 * t.val + a.val) * 4 + b.val / 512, he⟩ := Fin.ext (by simp only; omega)
  exact (dilated1_block m c t _ _ hi hj hr).trans ((congrArg (fun r => refK (allCols m c) (ix2 r ⟨b.val % 512, hj⟩)) er).trans (fours_at (refK (allCols m c)) ⟨128 * t.val + a.val, h⟩ b).symm)

/-- A point leaves its block of the keys in fours, -/
theorem left_17 (t : Fin cfg0.N) (a : Fin 128) (b : Fin 2048) (h : 128 * t.val + a.val < 8192) : (dats m 0 c).after 17 t (ix2 a b) = fours (refK (allCols m c)) (ix2 ⟨128 * t.val + a.val, h⟩ b) := by
  simp only [after0_17, outsAt0]
  refine (out_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) a b).trans ?_
  exact (groups_17 m c t a b h)

/-- and the array ends as the keys in fours. -/
theorem array_17 : (dats m 0 c).arrAt 17 cfg0.N = fours (refK (allCols m c)) := by
  refine (dats m 0 c).arrAt_eq_of_covers 17 _ (by decide +kernel) fun t hf y => ?_
  blk_simp
  have ht : t.val < 64 := t.isLt
  have hy : (y 0).val < 128 := (y 0).isLt
  have e0 : (((win0_17.blk t).view.emb y : S8192x2048.Idx) 0).val = 128 * t.val + (y 0).val := by
    refine Eq.trans (b := t.val * 128 + (y 0).val) ?_ (by omega)
    blk_ext [(outs_index t).2.2.2.2.1]
  have e1 : (((win0_17.blk t).view.emb y : S8192x2048.Idx) 1).val = (y 1).val := by
    blk_ext [(outs_index t).2.2.2.2.1]
  have h : 128 * t.val + (y 0).val < 8192 := by omega
  have e : ((win0_17.blk t).view.emb y : S8192x2048.Idx) = ix2 (⟨128 * t.val + (y 0).val, h⟩ : Fin 8192) (y 1 : Fin 2048) := by
    funext k
    fin_cases k
    · exact Fin.ext e0
    · exact Fin.ext e1
  have ey : y = ix2 (y 0 : Fin 128) (y 1 : Fin 2048) := by
    funext k
    fin_cases k <;> rfl
  refine Eq.trans (congrArg _ ey) ((left_17 m c t (y 0 : Fin 128) (y 1 : Fin 2048) h).trans (congrArg _ e.symm))

/-- Row groups of a block are row groups of the array. -/
theorem groups_18 (t : Fin cfg0.N) (a : Fin 128) (b : Fin 2048) (h : 128 * t.val + a.val < 8192) :
    dilated (iblk m c 0 t) (iblk m c 1 t) (iblk m c 2 t) 2 (4 * a.val + b.val / 512) (b.val % 512) = fours (refV (allCols m c)) (ix2 ⟨128 * t.val + a.val, h⟩ b) := by
  have hb := b.isLt
  have ha := a.isLt
  have hr : 512 * t.val + (4 * a.val + b.val / 512) < 32768 := by omega
  have hq : b.val / 512 < 4 := by omega
  have hi : 4 * a.val + b.val / 512 < 512 := by omega
  have hj : b.val % 512 < 512 := by omega
  have he : (128 * t.val + a.val) * 4 + b.val / 512 < 32768 := by omega
  have er : (⟨512 * t.val + (4 * a.val + b.val / 512), hr⟩ : Fin 32768) = ⟨(128 * t.val + a.val) * 4 + b.val / 512, he⟩ := Fin.ext (by simp only; omega)
  exact (dilated2_block m c t _ _ hi hj hr).trans ((congrArg (fun r => refV (allCols m c) (ix2 r ⟨b.val % 512, hj⟩)) er).trans (fours_at (refV (allCols m c)) ⟨128 * t.val + a.val, h⟩ b).symm)

/-- A point leaves its block of the values in fours, -/
theorem left_18 (t : Fin cfg0.N) (a : Fin 128) (b : Fin 2048) (h : 128 * t.val + a.val < 8192) : (dats m 0 c).after 18 t (ix2 a b) = fours (refV (allCols m c)) (ix2 ⟨128 * t.val + a.val, h⟩ b) := by
  simp only [after0_18, outsAt0]
  refine (out_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) a b).trans ?_
  exact (groups_18 m c t a b h)

/-- and the array ends as the values in fours. -/
theorem array_18 : (dats m 0 c).arrAt 18 cfg0.N = fours (refV (allCols m c)) := by
  refine (dats m 0 c).arrAt_eq_of_covers 18 _ (by decide +kernel) fun t hf y => ?_
  blk_simp
  have ht : t.val < 64 := t.isLt
  have hy : (y 0).val < 128 := (y 0).isLt
  have e0 : (((win0_18.blk t).view.emb y : S8192x2048.Idx) 0).val = 128 * t.val + (y 0).val := by
    refine Eq.trans (b := t.val * 128 + (y 0).val) ?_ (by omega)
    blk_ext [(outs_index t).2.2.2.2.2.1]
  have e1 : (((win0_18.blk t).view.emb y : S8192x2048.Idx) 1).val = (y 1).val := by
    blk_ext [(outs_index t).2.2.2.2.2.1]
  have h : 128 * t.val + (y 0).val < 8192 := by omega
  have e : ((win0_18.blk t).view.emb y : S8192x2048.Idx) = ix2 (⟨128 * t.val + (y 0).val, h⟩ : Fin 8192) (y 1 : Fin 2048) := by
    funext k
    fin_cases k
    · exact Fin.ext e0
    · exact Fin.ext e1
  have ey : y = ix2 (y 0 : Fin 128) (y 1 : Fin 2048) := by
    funext k
    fin_cases k <;> rfl
  refine Eq.trans (congrArg _ ey) ((left_18 m c t (y 0 : Fin 128) (y 1 : Fin 2048) h).trans (congrArg _ e.symm))

/-- Row groups of a block are row groups of the array. -/
theorem groups_19 (t : Fin cfg0.N) (a : Fin 32) (b : Fin 8192) (h : 32 * t.val + a.val < 2048) :
    dilated (iblk m c 0 t) (iblk m c 1 t) (iblk m c 2 t) 0 (16 * a.val + b.val / 512) (b.val % 512) = sixteens (refQ (allCols m c)) (ix2 ⟨32 * t.val + a.val, h⟩ b) := by
  have hb := b.isLt
  have ha := a.isLt
  have hr : 512 * t.val + (16 * a.val + b.val / 512) < 32768 := by omega
  have hq : b.val / 512 < 16 := by omega
  have hi : 16 * a.val + b.val / 512 < 512 := by omega
  have hj : b.val % 512 < 512 := by omega
  have he : (32 * t.val + a.val) * 16 + b.val / 512 < 32768 := by omega
  have er : (⟨512 * t.val + (16 * a.val + b.val / 512), hr⟩ : Fin 32768) = ⟨(32 * t.val + a.val) * 16 + b.val / 512, he⟩ := Fin.ext (by simp only; omega)
  exact (dilated0_block m c t _ _ hi hj hr).trans ((congrArg (fun r => refQ (allCols m c) (ix2 r ⟨b.val % 512, hj⟩)) er).trans (sixteens_at (refQ (allCols m c)) ⟨32 * t.val + a.val, h⟩ b).symm)

/-- A point leaves its block of the queries in sixteens, -/
theorem left_19 (t : Fin cfg0.N) (a : Fin 32) (b : Fin 8192) (h : 32 * t.val + a.val < 2048) : (dats m 0 c).after 19 t (ix2 a b) = sixteens (refQ (allCols m c)) (ix2 ⟨32 * t.val + a.val, h⟩ b) := by
  simp only [after0_19, outsAt0]
  refine (out_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) a b).trans ?_
  exact (groups_19 m c t a b h)

/-- and the array ends as the queries in sixteens. -/
theorem array_19 : (dats m 0 c).arrAt 19 cfg0.N = sixteens (refQ (allCols m c)) := by
  refine (dats m 0 c).arrAt_eq_of_covers 19 _ (by decide +kernel) fun t hf y => ?_
  blk_simp
  have ht : t.val < 64 := t.isLt
  have hy : (y 0).val < 32 := (y 0).isLt
  have e0 : (((win0_19.blk t).view.emb y : S2048x8192.Idx) 0).val = 32 * t.val + (y 0).val := by
    refine Eq.trans (b := t.val * 32 + (y 0).val) ?_ (by omega)
    blk_ext [(outs_index t).2.2.2.2.2.2.1]
  have e1 : (((win0_19.blk t).view.emb y : S2048x8192.Idx) 1).val = (y 1).val := by
    blk_ext [(outs_index t).2.2.2.2.2.2.1]
  have h : 32 * t.val + (y 0).val < 2048 := by omega
  have e : ((win0_19.blk t).view.emb y : S2048x8192.Idx) = ix2 (⟨32 * t.val + (y 0).val, h⟩ : Fin 2048) (y 1 : Fin 8192) := by
    funext k
    fin_cases k
    · exact Fin.ext e0
    · exact Fin.ext e1
  have ey : y = ix2 (y 0 : Fin 32) (y 1 : Fin 8192) := by
    funext k
    fin_cases k <;> rfl
  refine Eq.trans (congrArg _ ey) ((left_19 m c t (y 0 : Fin 32) (y 1 : Fin 8192) h).trans (congrArg _ e.symm))

/-- Row groups of a block are row groups of the array. -/
theorem groups_20 (t : Fin cfg0.N) (a : Fin 32) (b : Fin 8192) (h : 32 * t.val + a.val < 2048) :
    dilated (iblk m c 0 t) (iblk m c 1 t) (iblk m c 2 t) 1 (16 * a.val + b.val / 512) (b.val % 512) = sixteens (refK (allCols m c)) (ix2 ⟨32 * t.val + a.val, h⟩ b) := by
  have hb := b.isLt
  have ha := a.isLt
  have hr : 512 * t.val + (16 * a.val + b.val / 512) < 32768 := by omega
  have hq : b.val / 512 < 16 := by omega
  have hi : 16 * a.val + b.val / 512 < 512 := by omega
  have hj : b.val % 512 < 512 := by omega
  have he : (32 * t.val + a.val) * 16 + b.val / 512 < 32768 := by omega
  have er : (⟨512 * t.val + (16 * a.val + b.val / 512), hr⟩ : Fin 32768) = ⟨(32 * t.val + a.val) * 16 + b.val / 512, he⟩ := Fin.ext (by simp only; omega)
  exact (dilated1_block m c t _ _ hi hj hr).trans ((congrArg (fun r => refK (allCols m c) (ix2 r ⟨b.val % 512, hj⟩)) er).trans (sixteens_at (refK (allCols m c)) ⟨32 * t.val + a.val, h⟩ b).symm)

/-- A point leaves its block of the keys in sixteens, -/
theorem left_20 (t : Fin cfg0.N) (a : Fin 32) (b : Fin 8192) (h : 32 * t.val + a.val < 2048) : (dats m 0 c).after 20 t (ix2 a b) = sixteens (refK (allCols m c)) (ix2 ⟨32 * t.val + a.val, h⟩ b) := by
  simp only [after0_20, outsAt0]
  refine (out_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) a b).trans ?_
  exact (groups_20 m c t a b h)

/-- and the array ends as the keys in sixteens. -/
theorem array_20 : (dats m 0 c).arrAt 20 cfg0.N = sixteens (refK (allCols m c)) := by
  refine (dats m 0 c).arrAt_eq_of_covers 20 _ (by decide +kernel) fun t hf y => ?_
  blk_simp
  have ht : t.val < 64 := t.isLt
  have hy : (y 0).val < 32 := (y 0).isLt
  have e0 : (((win0_20.blk t).view.emb y : S2048x8192.Idx) 0).val = 32 * t.val + (y 0).val := by
    refine Eq.trans (b := t.val * 32 + (y 0).val) ?_ (by omega)
    blk_ext [(outs_index t).2.2.2.2.2.2.2.1]
  have e1 : (((win0_20.blk t).view.emb y : S2048x8192.Idx) 1).val = (y 1).val := by
    blk_ext [(outs_index t).2.2.2.2.2.2.2.1]
  have h : 32 * t.val + (y 0).val < 2048 := by omega
  have e : ((win0_20.blk t).view.emb y : S2048x8192.Idx) = ix2 (⟨32 * t.val + (y 0).val, h⟩ : Fin 2048) (y 1 : Fin 8192) := by
    funext k
    fin_cases k
    · exact Fin.ext e0
    · exact Fin.ext e1
  have ey : y = ix2 (y 0 : Fin 32) (y 1 : Fin 8192) := by
    funext k
    fin_cases k <;> rfl
  refine Eq.trans (congrArg _ ey) ((left_20 m c t (y 0 : Fin 32) (y 1 : Fin 8192) h).trans (congrArg _ e.symm))

/-- Row groups of a block are row groups of the array. -/
theorem groups_21 (t : Fin cfg0.N) (a : Fin 32) (b : Fin 8192) (h : 32 * t.val + a.val < 2048) :
    dilated (iblk m c 0 t) (iblk m c 1 t) (iblk m c 2 t) 2 (16 * a.val + b.val / 512) (b.val % 512) = sixteens (refV (allCols m c)) (ix2 ⟨32 * t.val + a.val, h⟩ b) := by
  have hb := b.isLt
  have ha := a.isLt
  have hr : 512 * t.val + (16 * a.val + b.val / 512) < 32768 := by omega
  have hq : b.val / 512 < 16 := by omega
  have hi : 16 * a.val + b.val / 512 < 512 := by omega
  have hj : b.val % 512 < 512 := by omega
  have he : (32 * t.val + a.val) * 16 + b.val / 512 < 32768 := by omega
  have er : (⟨512 * t.val + (16 * a.val + b.val / 512), hr⟩ : Fin 32768) = ⟨(32 * t.val + a.val) * 16 + b.val / 512, he⟩ := Fin.ext (by simp only; omega)
  exact (dilated2_block m c t _ _ hi hj hr).trans ((congrArg (fun r => refV (allCols m c) (ix2 r ⟨b.val % 512, hj⟩)) er).trans (sixteens_at (refV (allCols m c)) ⟨32 * t.val + a.val, h⟩ b).symm)

/-- A point leaves its block of the values in sixteens, -/
theorem left_21 (t : Fin cfg0.N) (a : Fin 32) (b : Fin 8192) (h : 32 * t.val + a.val < 2048) : (dats m 0 c).after 21 t (ix2 a b) = sixteens (refV (allCols m c)) (ix2 ⟨32 * t.val + a.val, h⟩ b) := by
  simp only [after0_21, outsAt0]
  refine (out_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) a b).trans ?_
  exact (groups_21 m c t a b h)

/-- and the array ends as the values in sixteens. -/
theorem array_21 : (dats m 0 c).arrAt 21 cfg0.N = sixteens (refV (allCols m c)) := by
  refine (dats m 0 c).arrAt_eq_of_covers 21 _ (by decide +kernel) fun t hf y => ?_
  blk_simp
  have ht : t.val < 64 := t.isLt
  have hy : (y 0).val < 32 := (y 0).isLt
  have e0 : (((win0_21.blk t).view.emb y : S2048x8192.Idx) 0).val = 32 * t.val + (y 0).val := by
    refine Eq.trans (b := t.val * 32 + (y 0).val) ?_ (by omega)
    blk_ext [(outs_index t).2.2.2.2.2.2.2.2.1]
  have e1 : (((win0_21.blk t).view.emb y : S2048x8192.Idx) 1).val = (y 1).val := by
    blk_ext [(outs_index t).2.2.2.2.2.2.2.2.1]
  have h : 32 * t.val + (y 0).val < 2048 := by omega
  have e : ((win0_21.blk t).view.emb y : S2048x8192.Idx) = ix2 (⟨32 * t.val + (y 0).val, h⟩ : Fin 2048) (y 1 : Fin 8192) := by
    funext k
    fin_cases k
    · exact Fin.ext e0
    · exact Fin.ext e1
  have ey : y = ix2 (y 0 : Fin 32) (y 1 : Fin 8192) := by
    funext k
    fin_cases k <;> rfl
  refine Eq.trans (congrArg _ ey) ((left_21 m c t (y 0 : Fin 32) (y 1 : Fin 8192) h).trans (congrArg _ e.symm))

/-- A point leaves its block of the attention's queries, -/
theorem left_22 (t : Fin cfg0.N) (a : Fin 512) (b : Fin 1024) (h : 512 * t.val + a.val < 32768) : (dats m 0 c).after 22 t (ix2 a b) = refQb (refCq (allCols m c) (in3 m c)) (in5 m c) (in6 m c) (in9 m c) (in10 m c) (ix2 ⟨512 * t.val + a.val, h⟩ b) := by
  simp only [after0_22, outsAt0]
  refine (out_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) a b).trans ?_
  exact (queriesB_block m c t a b h)

/-- and the array ends as the attention's queries. -/
theorem array_22 : (dats m 0 c).arrAt 22 cfg0.N = refQb (refCq (allCols m c) (in3 m c)) (in5 m c) (in6 m c) (in9 m c) (in10 m c) := by
  refine (dats m 0 c).arrAt_eq_of_covers 22 _ (by decide +kernel) fun t hf y => ?_
  blk_simp
  have ht : t.val < 64 := t.isLt
  have hy : (y 0).val < 512 := (y 0).isLt
  have e0 : (((win0_22.blk t).view.emb y : S32768x1024.Idx) 0).val = 512 * t.val + (y 0).val := by
    refine Eq.trans (b := t.val * 512 + (y 0).val) ?_ (by omega)
    blk_ext [(outs_index t).2.2.2.2.2.2.2.2.2.1]
  have e1 : (((win0_22.blk t).view.emb y : S32768x1024.Idx) 1).val = (y 1).val := by
    blk_ext [(outs_index t).2.2.2.2.2.2.2.2.2.1]
  have h : 512 * t.val + (y 0).val < 32768 := by omega
  have e : ((win0_22.blk t).view.emb y : S32768x1024.Idx) = ix2 (⟨512 * t.val + (y 0).val, h⟩ : Fin 32768) (y 1 : Fin 1024) := by
    funext k
    fin_cases k
    · exact Fin.ext e0
    · exact Fin.ext e1
  have ey : y = ix2 (y 0 : Fin 512) (y 1 : Fin 1024) := by
    funext k
    fin_cases k <;> rfl
  refine Eq.trans (congrArg _ ey) ((left_22 m c t (y 0 : Fin 512) (y 1 : Fin 1024) h).trans (congrArg _ e.symm))

/-- A point leaves its block of the attention's keys, -/
theorem left_23 (t : Fin cfg0.N) (a : Fin 512) (b : Fin 1024) (h : 512 * t.val + a.val < 32768) : (dats m 0 c).after 23 t (ix2 a b) = refKb (allCols m c) (refCkv (allCols m c) (in4 m c)) (in7 m c) (in11 m c) (in12 m c) (ix2 ⟨512 * t.val + a.val, h⟩ b) := by
  simp only [after0_23, outsAt0]
  refine (out_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) a b).trans ?_
  exact (keysB_block m c t a b h)

/-- and the array ends as the attention's keys. -/
theorem array_23 : (dats m 0 c).arrAt 23 cfg0.N = refKb (allCols m c) (refCkv (allCols m c) (in4 m c)) (in7 m c) (in11 m c) (in12 m c) := by
  refine (dats m 0 c).arrAt_eq_of_covers 23 _ (by decide +kernel) fun t hf y => ?_
  blk_simp
  have ht : t.val < 64 := t.isLt
  have hy : (y 0).val < 512 := (y 0).isLt
  have e0 : (((win0_23.blk t).view.emb y : S32768x1024.Idx) 0).val = 512 * t.val + (y 0).val := by
    refine Eq.trans (b := t.val * 512 + (y 0).val) ?_ (by omega)
    blk_ext [(outs_index t).2.2.2.2.2.2.2.2.2.2.1]
  have e1 : (((win0_23.blk t).view.emb y : S32768x1024.Idx) 1).val = (y 1).val := by
    blk_ext [(outs_index t).2.2.2.2.2.2.2.2.2.2.1]
  have h : 512 * t.val + (y 0).val < 32768 := by omega
  have e : ((win0_23.blk t).view.emb y : S32768x1024.Idx) = ix2 (⟨512 * t.val + (y 0).val, h⟩ : Fin 32768) (y 1 : Fin 1024) := by
    funext k
    fin_cases k
    · exact Fin.ext e0
    · exact Fin.ext e1
  have ey : y = ix2 (y 0 : Fin 512) (y 1 : Fin 1024) := by
    funext k
    fin_cases k <;> rfl
  refine Eq.trans (congrArg _ ey) ((left_23 m c t (y 0 : Fin 512) (y 1 : Fin 1024) h).trans (congrArg _ e.symm))

/-- A point leaves its block of the attention's values, -/
theorem left_24 (t : Fin cfg0.N) (a : Fin 512) (b : Fin 512) (h : 512 * t.val + b.val < 32768) : (dats m 0 c).after 24 t (ix2 a b) = refVb (refCkv (allCols m c) (in4 m c)) (in8 m c) (ix2 a ⟨512 * t.val + b.val, h⟩) := by
  simp only [after0_24, outsAt0]
  refine (out_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) a b).trans ?_
  exact (show valuesB _ _ _ _ _ a b = _ from valuesB_block m c t a b h)

/-- and the array ends as the attention's values. -/
theorem array_24 : (dats m 0 c).arrAt 24 cfg0.N = refVb (refCkv (allCols m c) (in4 m c)) (in8 m c) := by
  refine (dats m 0 c).arrAt_eq_of_covers 24 _ (by decide +kernel) fun t hf y => ?_
  blk_simp
  have ht : t.val < 64 := t.isLt
  have hy : (y 1).val < 512 := (y 1).isLt
  have e0 : (((win0_24.blk t).view.emb y : S512x32768.Idx) 0).val = (y 0).val := by
    blk_ext [(outs_index t).2.2.2.2.2.2.2.2.2.2.2.1]
  have e1 : (((win0_24.blk t).view.emb y : S512x32768.Idx) 1).val = 512 * t.val + (y 1).val := by
    refine Eq.trans (b := t.val * 512 + (y 1).val) ?_ (by omega)
    blk_ext [(outs_index t).2.2.2.2.2.2.2.2.2.2.2.1]
  have h : 512 * t.val + (y 1).val < 32768 := by omega
  have e : ((win0_24.blk t).view.emb y : S512x32768.Idx) = ix2 (y 0 : Fin 512) (⟨512 * t.val + (y 1).val, h⟩ : Fin 32768) := by
    funext k
    fin_cases k
    · exact Fin.ext e0
    · exact Fin.ext e1
  have ey : y = ix2 (y 0 : Fin 512) (y 1 : Fin 512) := by
    funext k
    fin_cases k <;> rfl
  refine Eq.trans (congrArg _ ey) ((left_24 m c t (y 0 : Fin 512) (y 1 : Fin 512) h).trans (congrArg _ e.symm))

/-- A point leaves its block of the gates, -/
theorem left_25 (t : Fin cfg0.N) (a : Fin 512) (b : Fin 2048) (h : 512 * t.val + a.val < 32768) : (dats m 0 c).after 25 t (ix2 a b) = refGates (allCols m c) (ix2 ⟨512 * t.val + a.val, h⟩ b) := by
  simp only [after0_25, outsAt0]
  refine (out_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) a b).trans ?_
  exact (gates_block m c t a b h)

/-- and the array ends as the gates. -/
theorem array_25 : (dats m 0 c).arrAt 25 cfg0.N = refGates (allCols m c) := by
  refine (dats m 0 c).arrAt_eq_of_covers 25 _ (by decide +kernel) fun t hf y => ?_
  blk_simp
  have ht : t.val < 64 := t.isLt
  have hy : (y 0).val < 512 := (y 0).isLt
  have e0 : (((win0_25.blk t).view.emb y : S32768x2048.Idx) 0).val = 512 * t.val + (y 0).val := by
    refine Eq.trans (b := t.val * 512 + (y 0).val) ?_ (by omega)
    blk_ext [(outs_index t).2.2.2.2.2.2.2.2.2.2.2.2]
  have e1 : (((win0_25.blk t).view.emb y : S32768x2048.Idx) 1).val = (y 1).val := by
    blk_ext [(outs_index t).2.2.2.2.2.2.2.2.2.2.2.2]
  have h : 512 * t.val + (y 0).val < 32768 := by omega
  have e : ((win0_25.blk t).view.emb y : S32768x2048.Idx) = ix2 (⟨512 * t.val + (y 0).val, h⟩ : Fin 32768) (y 1 : Fin 2048) := by
    funext k
    fin_cases k
    · exact Fin.ext e0
    · exact Fin.ext e1
  have ey : y = ix2 (y 0 : Fin 512) (y 1 : Fin 2048) := by
    funext k
    fin_cases k <;> rfl
  refine Eq.trans (congrArg _ ey) ((left_25 m c t (y 0 : Fin 512) (y 1 : Fin 2048) h).trans (congrArg _ e.symm))

end Cert.InProj
-- ==== Proof.InRun.lean ====
module

public import proofs.«01_k».proof.Proof.InRef
public import proofs.«01_k».proof.Proof.Gen.Reference2Ideal.Run

/-! # The reference's run

The reference ends with its thirteen results of the arguments, in the names of `InRef`; the arguments are unchanged. -/

@[expose] public section

set_option maxRecDepth 16384

noncomputable section
open Idealize.ShloMosaic Idealize.ShloMosaic.TcCoe Idealize.SL.Sem
namespace Cert.InProj
open Cert.Reference2Ideal

variable (m : (ℓ : Loc nD τ sig) → Buf (Elt Ideal) ℓ) (ρ : Dev nD → PrngReg) (c : Dev nD)

/-- All the columns of the projection, of the reference's arguments. -/
abbrev refCols : FVec Ideal S32768x4224 .f32 := refProj (m ((c.tc : Thread nD τ).loc main_arg0)) (m ((c.tc : Thread nD τ).loc main_arg1)) (m ((c.tc : Thread nD τ).loc main_arg2))

theorem reference2_run : θ_run defs (onTc (τ := τ) (main (F := Ideal))) ⟨m, fun _ => 0, ρ⟩ fun r => ∀ c : Dev nD,
      r.2.mem ((c.tc : Thread nD τ).loc main_v93) = plain (refQ (refCols m c))
      ∧ r.2.mem ((c.tc : Thread nD τ).loc main_v94) = plain (refK (refCols m c))
      ∧ r.2.mem ((c.tc : Thread nD τ).loc main_v95) = plain (refV (refCols m c))
      ∧ r.2.mem ((c.tc : Thread nD τ).loc main_v96) = fours (refQ (refCols m c))
      ∧ r.2.mem ((c.tc : Thread nD τ).loc main_v97) = fours (refK (refCols m c))
      ∧ r.2.mem ((c.tc : Thread nD τ).loc main_v98) = fours (refV (refCols m c))
      ∧ r.2.mem ((c.tc : Thread nD τ).loc main_v99) = sixteens (refQ (refCols m c))
      ∧ r.2.mem ((c.tc : Thread nD τ).loc main_v100) = sixteens (refK (refCols m c))
      ∧ r.2.mem ((c.tc : Thread nD τ).loc main_v101) = sixteens (refV (refCols m c))
      ∧ r.2.mem ((c.tc : Thread nD τ).loc main_v102) = refQb (refCq (refCols m c) (m ((c.tc : Thread nD τ).loc main_arg3))) (m ((c.tc : Thread nD τ).loc main_arg5)) (m ((c.tc : Thread nD τ).loc main_arg6)) (m ((c.tc : Thread nD τ).loc main_arg9)) (m ((c.tc : Thread nD τ).loc main_arg10))
      ∧ r.2.mem ((c.tc : Thread nD τ).loc main_v103) = refKb (refCols m c) (refCkv (refCols m c) (m ((c.tc : Thread nD τ).loc main_arg4))) (m ((c.tc : Thread nD τ).loc main_arg7)) (m ((c.tc : Thread nD τ).loc main_arg11)) (m ((c.tc : Thread nD τ).loc main_arg12))
      ∧ r.2.mem ((c.tc : Thread nD τ).loc main_v104) = refVb (refCkv (refCols m c) (m ((c.tc : Thread nD τ).loc main_arg4))) (m ((c.tc : Thread nD τ).loc main_arg8))
      ∧ r.2.mem ((c.tc : Thread nD τ).loc main_v105) = refGates (refCols m c)
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))
      ∧ r.2.mem ((c.tc : Thread nD τ).loc main_arg6) = (m ((c.tc : Thread nD τ).loc main_arg6))
      ∧ r.2.mem ((c.tc : Thread nD τ).loc main_arg7) = (m ((c.tc : Thread nD τ).loc main_arg7))
      ∧ r.2.mem ((c.tc : Thread nD τ).loc main_arg8) = (m ((c.tc : Thread nD τ).loc main_arg8))
      ∧ r.2.mem ((c.tc : Thread nD τ).loc main_arg9) = (m ((c.tc : Thread nD τ).loc main_arg9))
      ∧ r.2.mem ((c.tc : Thread nD τ).loc main_arg10) = (m ((c.tc : Thread nD τ).loc main_arg10))
      ∧ r.2.mem ((c.tc : Thread nD τ).loc main_arg11) = (m ((c.tc : Thread nD τ).loc main_arg11))
      ∧ r.2.mem ((c.tc : Thread nD τ).loc main_arg12) = (m ((c.tc : Thread nD τ).loc main_arg12)) :=
  (θ_run defs _ _).mono (fun _ h c => by
    obtain ⟨h0, h1, h2, h3, h4, h5, h6, h7, h8, h9, h10, h11, h12, hr⟩ := h c
    exact ⟨h0.trans (by rfl), h1.trans (by rfl), h2.trans (by rfl), h3.trans (by rfl), h4.trans (by rfl), h5.trans (by rfl), h6.trans (by rfl), h7.trans (by rfl), h8.trans (by rfl), h9.trans (by unfold Value.res_main_v102; rfl), h10.trans (by unfold Value.res_main_v103; rfl), h11.trans (by rfl), h12.trans (by rfl), hr⟩) (Value.run m ρ)

end Cert.InProj
-- ==== Proof.FinWords.lean ====
module

public import Idealize.ShloMosaic.PureOps.Ideal

/-! # Two numbers in a word

A word of 32 bits holds two numbers of 16 bits. Moved to the upper half of an otherwise empty word, a number of 16 bits reads the same as one
of 32: its sign and its exponent are where they should be, and its fraction is followed by zeros. -/

@[expose] public section

noncomputable section
open Idealize.ShloMosaic
namespace Cert.Final

/-- Half `s` of a word, as a number. -/
def half (w : BitVec 32) (s : Fin 2) : EReal := Ideal.ofBits .bf16 (w.extractLsb' (s.val * 16) 16)

/-- A number of 16 bits above 16 zeros reads the same. -/
theorem upper (b : BitVec 32) (h : BitVec 16) (e : b.toNat = h.toNat * 65536) : Ideal.ofBits .f32 b = Ideal.ofBits .bf16 h := by
  have hs : b.extractLsb' (8 + 23) 1 = h.extractLsb' (8 + 7) 1 := by
    apply BitVec.eq_of_toNat_eq
    simp only [BitVec.extractLsb'_toNat, Nat.shiftRight_eq_div_pow, e]
    omega
  have he : b.extractLsb' 23 8 = h.extractLsb' 7 8 := by
    apply BitVec.eq_of_toNat_eq
    simp only [BitVec.extractLsb'_toNat, Nat.shiftRight_eq_div_pow, e]
    omega
  have hf : (b.extractLsb' 0 23).toNat = (h.extractLsb' 0 7).toNat * 65536 := by
    simp only [BitVec.extractLsb'_toNat, Nat.shiftRight_eq_div_pow, e]
    omega
  show Ideal.ieee 8 23 b = Ideal.ieee 8 7 h
  unfold Ideal.ieee
  simp only [hs, he, hf]
  generalize (h.extractLsb' 0 7).toNat = f
  generalize (h.extractLsb' 7 8).toNat = x
  generalize ((if (h.extractLsb' (8 + 7) 1 == 1#1) = true then -1 else 1 : ℝ)) = s
  have hz : (f * 65536 = 0) = (f = 0) := propext (by omega)
  simp only [hz]
  refine if_congr Iff.rfl rfl (if_congr Iff.rfl (congrArg _ ?_) (congrArg _ ?_))
  · rw [show ((1 : ℤ) - (2 ^ (8 - 1) - 1) - ((7 : ℕ) : ℤ)) = (1 - (2 ^ (8 - 1) - 1) - ((23 : ℕ) : ℤ)) + 16 by norm_num, zpow_add₀ (by norm_num)]
    push_cast
    norm_num
    ring
  · rw [show ((x : ℤ) - (2 ^ (8 - 1) - 1) - ((7 : ℕ) : ℤ)) = (x - (2 ^ (8 - 1) - 1) - ((23 : ℕ) : ℤ)) + 16 by push_cast; ring, zpow_add₀ (by norm_num)]
    push_cast
    norm_num
    ring

/-- The lower half of a word, moved up. -/
theorem lower_half (w : BitVec 32) : Ideal.ofBits .f32 (w <<< 16) = half w 0 :=
  upper _ _ (by
    simp only [BitVec.toNat_shiftLeft, BitVec.extractLsb'_toNat, Nat.shiftRight_eq_div_pow, Nat.shiftLeft_eq]
    norm_num
    omega)

/-- The upper half of a word, the lower cleared. -/
theorem upper_half (w : BitVec 32) : Ideal.ofBits .f32 (w &&& 4294901760#32) = half w 1 := by
  have h : w &&& 4294901760#32 = (w >>> 16) <<< 16 := by
    ext i hi
    interval_cases i <;> simp
  refine upper _ _ ?_
  rw [h]
  have hw := w.isLt
  simp only [BitVec.toNat_shiftLeft, BitVec.toNat_ushiftRight, BitVec.extractLsb'_toNat, Nat.shiftRight_eq_div_pow, Nat.shiftLeft_eq]
  norm_num
  omega

end Cert.Final
-- ==== Proof.FinSpec.lean ====
module

public import proofs.«01_k».proof.Proof.FinWords

/-! # The closing norm, in numbers

Four rows, each times its weight, are added to the residual row; column `j` of a row of packed words is in the lower halves for the first 512
columns and in the upper halves for the rest. -/

@[expose] public section

noncomputable section
open Idealize.ShloMosaic
namespace Cert.Final

/-- Column `j` of a row of 512 words. -/
def column (y : Fin 512 → BitVec 32) (j : Fin 1024) : EReal := half (y ⟨j.val % 512, by omega⟩) ⟨j.val / 512, by omega⟩

/-- The residual plus the four weighted rows. -/
def summed (x : Fin 1024 → EReal) (w : Fin 4 → EReal) (y : Fin 4 → Fin 512 → BitVec 32) (j : Fin 1024) : EReal :=
  x j + ∑ k, w k * column (y k) j

end Cert.Final
-- ==== Proof.FinBody.lean ====
module

public import proofs.«01_k».proof.Proof.FinSpec
public import proofs.«01_k».proof.Proof.InSpec
public import proofs.«01_k».proof.Proof.Gen.Kernel3Ideal.Skeleton
public import Idealize.ShloMosaic.Lib.Pointwise
public import Idealize.ShloMosaic.Lib.IdealHost

/-! # The steps of the closing norm's body, in numbers -/

@[expose] public section

set_option maxRecDepth 16384

noncomputable section
open Idealize.ShloMosaic Idealize.ShloMosaic.TcCoe Idealize.SL.Sem
namespace Cert.Final
open Cert.Kernel3Ideal Cert.Kernel3Ideal.Gen

/-- The lower halves of a block of words, -/
def lowers (y : Vec Ideal S1x512x512 .i32) : FVec Ideal S512x512 .f32 :=
  bitcastToFloat .f32 (shli (shapeCast S512x512 y shapeCasts_S1x512x512_S512x512) (broadcast S512x512 16#32))

/-- the upper halves, -/
def uppers (y : Vec Ideal S1x512x512 .i32) : FVec Ideal S512x512 .f32 :=
  bitcastToFloat .f32 (andi (shapeCast S512x512 y shapeCasts_S1x512x512_S512x512) (broadcast S512x512 4294901760#32))

/-- and both side by side. -/
def unpacked (y : Vec Ideal S1x512x512 .i32) : FVec Ideal S512x1024 .f32 :=
  concatenate S512x1024 1 [⟨S512x512, lowers y⟩, ⟨S512x512, uppers y⟩] concatenates_S512x512_S512x512_S512x1024_d1

theorem words_at (y : Vec Ideal S1x512x512 .i32) (i j : Fin 512) : (shapeCast S512x512 y shapeCasts_S1x512x512_S512x512 : IVec S512x512 32) (ix2 i j) = y (ix3 0 i j) := by
  pointwise

theorem lowers_at (y : Vec Ideal S1x512x512 .i32) (i j : Fin 512) : lowers y (ix2 i j) = half (y (ix3 0 i j)) 0 := by
  rw [← words_at y i j]
  exact lower_half _

theorem uppers_at (y : Vec Ideal S1x512x512 .i32) (i j : Fin 512) : uppers y (ix2 i j) = half (y (ix3 0 i j)) 1 := by
  rw [← words_at y i j]
  exact upper_half _

theorem unpacked_split (y : Vec Ideal S1x512x512 .i32) (i : Fin 512) (j : Fin 1024) :
    unpacked y (ix2 i j) = if h : j.val < 512 then lowers y (ix2 i ⟨j.val, h⟩) else uppers y (ix2 i ⟨j.val - 512, by omega⟩) := by
  pointwise [unpacked]

/-- Column `j` of a row of words. -/
theorem unpacked_at (y : Vec Ideal S1x512x512 .i32) (i : Fin 512) (j : Fin 1024) : unpacked y (ix2 i j) = column (fun q => y (ix3 0 i q)) j := by
  unfold column
  by_cases h : j.val < 512
  · rw [unpacked_split, dif_pos h, lowers_at]
    exact congrArg₂ half (congrArg (fun q => y (ix3 0 i q)) (Fin.ext (Nat.mod_eq_of_lt h).symm)) (Fin.ext (Nat.div_eq_of_lt h).symm)
  · have hj := j.isLt
    rw [unpacked_split, dif_neg h, uppers_at]
    exact congrArg₂ half (congrArg (fun q => y (ix3 0 i q)) (Fin.ext (show j.val - 512 = j.val % 512 by omega))) (Fin.ext (show 1 = j.val / 512 by omega))

/-- The residual and the first two rows. -/
theorem two_at (v : FVec Ideal S512x128 .f32) (x : FVec Ideal S512x1024 .f32) (y z : Vec Ideal S1x512x512 .i32) (i : Fin 512) (j : Fin 1024) :
    k0_pay2 (F := Ideal) v x y z (ix2 i j) = x (ix2 i j) + v (ix2 i 8) * unpacked y (ix2 i j) + v (ix2 i 9) * unpacked z (ix2 i j) := by
  show addf (addf x (mulf (broadcastTo S512x1024 (extractStridedSlice S512x1 ![0, 8] v slices_S512x128_o0_8_S512x1) broadcasts_S512x1_S512x1024) (unpacked y)))
    (mulf (broadcastTo S512x1024 (extractStridedSlice S512x1 ![0, 9] v slices_S512x128_o0_9_S512x1) broadcasts_S512x1_S512x1024) (unpacked z)) (ix2 i j) = _
  pointwise

/-- The third. -/
theorem third_at (v : FVec Ideal S512x128 .f32) (y : Vec Ideal S1x512x512 .i32) (i : Fin 512) (j : Fin 1024) :
    k0_pay3 (F := Ideal) v y (ix2 i j) = v (ix2 i 10) * unpacked y (ix2 i j) := by
  show mulf (broadcastTo S512x1024 (extractStridedSlice S512x1 ![0, 10] v slices_S512x128_o0_10_S512x1) broadcasts_S512x1_S512x1024) (unpacked y) (ix2 i j) = _
  pointwise

/-- All of them. -/
def total (v : FVec Ideal S512x128 .f32) (a b : FVec Ideal S512x1024 .f32) (y : Vec Ideal S1x512x512 .i32) : FVec Ideal S512x1024 .f32 :=
  addf (addf a b) (mulf (broadcastTo S512x1024 (extractStridedSlice S512x1 ![0, 11] v slices_S512x128_o0_11_S512x1) broadcasts_S512x1_S512x1024) (unpacked y))

theorem total_at (v : FVec Ideal S512x128 .f32) (a b : FVec Ideal S512x1024 .f32) (y : Vec Ideal S1x512x512 .i32) (i : Fin 512) (j : Fin 1024) :
    total v a b y (ix2 i j) = a (ix2 i j) + b (ix2 i j) + v (ix2 i 11) * unpacked y (ix2 i j) := by
  pointwise [total]

/-- The scaled rows of a block. -/
def normed (x : FVec Ideal S512x1024 .f32) (g : Vec Ideal S1x1024 .f32) : FVec Ideal S512x1024 .f32 :=
  mulf (mulf x (broadcastTo S512x1024 (rsqrt (addf (divf (shapeCast S512x1 (multiReduction .add [1] S512 (mulf x x) 0x00000000#32 reduces_S512x1024_S512 (.inl rfl) rfl) shapeCasts_S512_S512x1) (broadcast S512x1 (Scalar.ofBits .f32 0x44800000#32))) (broadcast S512x1 (Scalar.ofBits .f32 0x3727C5AC#32)))) broadcasts_S512x1_S512x1024)) (broadcastTo S512x1024 g broadcasts_S1x1024_S512x1024)

theorem normed_at (x : FVec Ideal S512x1024 .f32) (g : Vec Ideal S1x1024 .f32) (i : Fin 512) (j : Fin 1024) :
    normed x g (ix2 i j) = InProj.scaled (Ideal.ofBits .f32 0x44800000#32) (fun k => x (ix2 i k)) (fun k => g (ix2 0 k)) j := by
  pointwise [normed, InProj.scaled]

theorem body_eq (v : Vec Ideal S512x128 .f32) (a b : FVec Ideal S512x1024 .f32) (y : Vec Ideal S1x512x512 .i32) (g : Vec Ideal S1x1024 .f32) :
    k0_pay1 (F := Ideal) v a b y g = normed (total v a b y) g := rfl

end Cert.Final
-- ==== Proof.FinRef.lean ====
module

public import proofs.«01_k».proof.Proof.FinSpec
public import proofs.«01_k».proof.Proof.InSpec
public import proofs.«01_k».proof.Proof.Gen.Reference3Ideal
public import Idealize.ShloMosaic.Lib.Pointwise
public import Idealize.ShloMosaic.Lib.IdealHost

/-! # The reference's closing norm, in numbers -/

@[expose] public section

set_option maxRecDepth 16384

noncomputable section
open Idealize.ShloMosaic Idealize.ShloMosaic.TcCoe Idealize.SL.Sem
namespace Cert.Final
open Cert.Reference3Ideal Cert.Reference3Ideal.Gen

/-- The words taken apart, -/
def refHalves (Y : Vec Ideal S4x32768x512 .i32) : FVec Ideal S4x32768x512x2 .f32 :=
  extf .f32 (bitcastToFloat (F := Ideal) .bf16 (Host.bitcastConvertNarrow S4x32768x512x2 16 Y splits_S4x32768x512_w32_S4x32768x512x2_w16)) bitsLt_bf16_f32

theorem refHalves_at (Y : Vec Ideal S4x32768x512 .i32) (k : Fin 4) (r : Fin 32768) (q : Fin 512) (s : Fin 2) :
    refHalves Y (ix4 k r q s) = half (Y (ix3 k r q)) s := by
  show Ideal.ofBits .bf16 ((Y (splits_S4x32768x512_w32_S4x32768x512x2_w16.drop (ix4 k r q s))).extractLsb' (s.val * 16) 16) = _
  refine congrArg (fun w => half w s) (congrArg Y ?_)
  funext a
  fin_cases a <;> rfl

/-- and laid out as rows. -/
def refExperts (Y : Vec Ideal S4x32768x512 .i32) : FVec Ideal S4x32768x1024 .f32 :=
  shapeCast _ (transpose S4x32768x2x512 [0, 1, 3, 2] (refHalves Y) transposes_S4x32768x512x2_S4x32768x2x512_0_1_3_2) shapeCasts_S4x32768x2x512_S4x32768x1024

theorem refExperts_flat (Y : Vec Ideal S4x32768x512 .i32) (k : Fin 4) (r : Fin 32768) (j : Fin 1024) :
    refExperts Y (ix3 k r j) = refHalves Y (ix4 k r ⟨j.val % 512, by omega⟩ ⟨j.val / 512, by omega⟩) := by
  pointwise [refExperts]

theorem refExperts_at (Y : Vec Ideal S4x32768x512 .i32) (k : Fin 4) (r : Fin 32768) (j : Fin 1024) :
    refExperts Y (ix3 k r j) = column (fun q => Y (ix3 k r q)) j := by
  rw [refExperts_flat, refHalves_at]
  rfl

/-- The residual plus the weighted rows. -/
def refSum (X : FVec Ideal S32768x1024 .f32) (E : FVec Ideal S4x32768x1024 .f32) (R : FVec Ideal S32768x128 .f32) : FVec Ideal S32768x1024 .f32 :=
  addf X (Host.dotGeneral dot_S32768x4_S4x32768x1024_S32768x1024_1_0_n_2_0_1 none (extractStridedSlice S32768x4 ![0, 8] R slices_S32768x128_S32768x4_0_8) E)

theorem refSum_at (X : FVec Ideal S32768x1024 .f32) (E : FVec Ideal S4x32768x1024 .f32) (R : FVec Ideal S32768x128 .f32) (r : Fin 32768) (j : Fin 1024) :
    refSum X E R (ix2 r j) = X (ix2 r j) + ∑ k : Fin 4, R (ix2 r ⟨8 + k.val, by omega⟩) * E (ix3 k r j) := by
  pointwise [refSum]

/-- The scaled rows. -/
def refNormed (X : FVec Ideal S32768x1024 .f32) (G : FVec Ideal S1x1024 .f32) : FVec Ideal S32768x1024 .f32 :=
  mulf (mulf X (broadcastInDim S32768x1024 ![0, 1] bcast_S32768x1_S32768x1024_0_1 (Host.rsqrt (addf (Host.divf (broadcastInDim S32768x1 ![0] bcast_S32768_S32768x1_0 (Host.reduceAdd (mulf X X) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x3727C5AC#32)))))) (broadcastInDim S32768x1024 ![0, 1] bcast_S1x1024_S32768x1024_0_1 G)

theorem refNormed_at (X : FVec Ideal S32768x1024 .f32) (G : FVec Ideal S1x1024 .f32) (r : Fin 32768) (e : Fin 1024) :
    refNormed X G (ix2 r e) = InProj.scaled (Ideal.ofBits .f32 0x44800000#32) (fun k => X (ix2 r k)) (fun k => G (ix2 0 k)) e := by
  pointwise [refNormed, InProj.scaled]

/-- The reference's result. -/
def refFinal (X : FVec Ideal S32768x1024 .f32) (Y : Vec Ideal S4x32768x512 .i32) (R : FVec Ideal S32768x128 .f32) (G : FVec Ideal S1x1024 .f32) : FVec Ideal S32768x1024 .f32 :=
  refNormed (refSum X (refExperts Y) R) G

/-- It at an index. -/
theorem refFinal_at (X : FVec Ideal S32768x1024 .f32) (Y : Vec Ideal S4x32768x512 .i32) (R : FVec Ideal S32768x128 .f32) (G : FVec Ideal S1x1024 .f32) (r : Fin 32768) (e : Fin 1024) :
    refFinal X Y R G (ix2 r e) = InProj.scaled (Ideal.ofBits .f32 0x44800000#32)
      (summed (fun j => X (ix2 r j)) (fun k => R (ix2 r ⟨8 + k.val, by omega⟩)) (fun k q => Y (ix3 k r q))) (fun k => G (ix2 0 k)) e := by
  refine (refNormed_at _ G r e).trans (congrArg (fun x => InProj.scaled _ x _ e) (funext fun j => ?_))
  refine (refSum_at X _ R r j).trans ?_
  unfold summed
  refine congrArg (X (ix2 r j) + ·) (Finset.sum_congr (M := EReal) rfl fun k _ => ?_)
  exact Ideal.mul_congr rfl (refExperts_at Y k r j)

end Cert.Final
-- ==== Proof.FinArrays.lean ====
module

public import proofs.«01_k».proof.Proof.FinBody
public import proofs.«01_k».proof.Proof.FinRef
public import proofs.«01_k».proof.Proof.Gen.Kernel3Ideal.Value
public import Idealize.ShloMosaic.Lib.Pipeline.ValueKit

/-! # The array the closing norm's grid leaves

Each grid point writes 512 rows of the output; the blocks cover the array, and hold the reference's result. -/

@[expose] public section

set_option maxRecDepth 16384

noncomputable section
open Idealize.ShloMosaic Idealize.ShloMosaic.TcCoe Idealize.SL.Sem
namespace Cert.Final
open Cert.Kernel3Ideal Cert.Kernel3Ideal.Gen

/-- The blocks of the windows at point `t`. -/
theorem final_index : ∀ t : Fin cfg0.N, win0_0.index t = ![t.val, 0] ∧ win0_1.index t = ![0, t.val, 0] ∧ win0_2.index t = ![t.val, 0]
    ∧ win0_3.index t = ![0, 0] ∧ win0_4.index t = ![t.val, 0] :=
  (by decide +kernel : ∀ t : Fin grid0.N, _)

/-- What the body leaves of its four blocks, by its steps. -/
theorem final_steps (x : Vec Ideal S512x1024 .f32) (y : Vec Ideal S4x512x512 .i32) (v : Vec Ideal S512x128 .f32) (g : Vec Ideal S1x1024 .f32) :
    out0_4 (F := Ideal) x y v g = normed (total v (k0_pay2 v x (View.ld y r0_2) (View.ld y r0_3)) (k0_pay3 v (View.ld y r0_4)) (View.ld y r0_5)) g := by
  have hx : View.ld x r0_1 = x := View.ld_unit_lit _ x (by decide)
  have hv : View.ld v r0_0 = v := View.ld_unit_lit _ v (by decide)
  have hg : View.ld g r0_6 = g := View.ld_unit_lit _ g (by decide)
  unfold out0_4
  rw [hx, hv, hg]
  exact (View.canon_cons_unit_lit _ _ [] (by decide)).trans (body_eq v _ _ _ g)

/-- One of the four rows of words. -/
theorem word_row (y : Vec Ideal S4x512x512 .i32) (k : Fin 4) (inb : ∀ a, (![k.val, 0, 0] : Fin 3 → ℕ) a + S1x512x512.size a ≤ S4x512x512.size a) (i q : Fin 512) :
    View.ld (Val := Elt Ideal) (e' := .i32) y (Rect.unit (s := S4x512x512) ![k.val, 0, 0] S1x512x512.size inb) (ix3 0 i q) = y (ix3 k i q) :=
  View.ld_unit_apply_of y _ _ inb _ (ix3 k i q) fun a => by
    fin_cases a
    · rfl
    · exact (Nat.zero_add _).symm
    · exact (Nat.zero_add _).symm

/-- The sum of a row, as the body adds it up. -/
theorem final_sum (x : Vec Ideal S512x1024 .f32) (y : Vec Ideal S4x512x512 .i32) (v : Vec Ideal S512x128 .f32) (i : Fin 512) (j : Fin 1024) :
    total v (k0_pay2 v x (View.ld y r0_2) (View.ld y r0_3)) (k0_pay3 v (View.ld y r0_4)) (View.ld y r0_5) (ix2 i j)
      = summed (fun j => x (ix2 i j)) (fun k => v (ix2 i ⟨8 + k.val, by omega⟩)) (fun k q => y (ix3 k i q)) j := by
  have l0 : (fun q => View.ld y r0_2 (ix3 0 i q)) = fun q => y (ix3 0 i q) := funext fun q => word_row y 0 _ i q
  have l1 : (fun q => View.ld y r0_3 (ix3 0 i q)) = fun q => y (ix3 1 i q) := funext fun q => word_row y 1 _ i q
  have l2 : (fun q => View.ld y r0_4 (ix3 0 i q)) = fun q => y (ix3 2 i q) := funext fun q => word_row y 2 _ i q
  have l3 : (fun q => View.ld y r0_5 (ix3 0 i q)) = fun q => y (ix3 3 i q) := funext fun q => word_row y 3 _ i q
  rw [total_at, two_at, third_at, unpacked_at, unpacked_at, unpacked_at, unpacked_at]
  refine Eq.trans (b := x (ix2 i j) + v (ix2 i 8) * column (fun q => y (ix3 0 i q)) j + v (ix2 i 9) * column (fun q => y (ix3 1 i q)) j
    + v (ix2 i 10) * column (fun q => y (ix3 2 i q)) j + v (ix2 i 11) * column (fun q => y (ix3 3 i q)) j) ?_ ?_
  · rw [← l0, ← l1, ← l2, ← l3]
  · unfold summed
    rw [Fin.sum_univ_four]
    simp only [← add_assoc]
    rfl

/-- What the body leaves of its four blocks. -/
theorem final_body (x : Vec Ideal S512x1024 .f32) (y : Vec Ideal S4x512x512 .i32) (v : Vec Ideal S512x128 .f32) (g : Vec Ideal S1x1024 .f32) (i : Fin 512) (e : Fin 1024) :
    out0_4 (F := Ideal) x y v g (ix2 i e) = InProj.scaled (Ideal.ofBits .f32 0x44800000#32)
      (summed (fun j => x (ix2 i j)) (fun k => v (ix2 i ⟨8 + k.val, by omega⟩)) (fun k q => y (ix3 k i q))) (fun k => g (ix2 0 k)) e := by
  rw [final_steps, normed_at]
  exact congrArg (fun z => InProj.scaled _ z _ e) (funext fun j => final_sum x y v i j)

variable (m : (ℓ : Loc nD τ sig) → Buf (Elt Ideal) ℓ) (c : Dev nD)

/-- The arguments, as the arrays they hold. -/
abbrev in0 : FVec Ideal S32768x1024 .f32 := m ((c.tc : Thread nD τ).loc main_arg0)
abbrev in1 : Vec Ideal S4x32768x512 .i32 := m ((c.tc : Thread nD τ).loc main_arg1)
abbrev in2 : FVec Ideal S32768x128 .f32 := m ((c.tc : Thread nD τ).loc main_arg2)
abbrev in3 : FVec Ideal S1x1024 .f32 := m ((c.tc : Thread nD τ).loc main_arg3)

theorem residual_block (t : Fin cfg0.N) (i : Fin 512) (k : Fin 1024) (h : 512 * t.val + i.val < 32768) : iblk m c 0 t (ix2 i k) = in0 m c (ix2 ⟨512 * t.val + i.val, h⟩ k) := by
  blk_ext! [iblk, V, (final_index t).1]

theorem words_block (t : Fin cfg0.N) (k : Fin 4) (i q : Fin 512) (h : 512 * t.val + i.val < 32768) : iblk m c 1 t (ix3 k i q) = in1 m c (ix3 k ⟨512 * t.val + i.val, h⟩ q) := by
  blk_ext! [iblk, V, (final_index t).2.1]

theorem routing_block (t : Fin cfg0.N) (i : Fin 512) (k : Fin 128) (h : 512 * t.val + i.val < 32768) : iblk m c 2 t (ix2 i k) = in2 m c (ix2 ⟨512 * t.val + i.val, h⟩ k) := by
  blk_ext! [iblk, V, (final_index t).2.2.1]

theorem gains_block (t : Fin cfg0.N) (i : Fin 1) (k : Fin 1024) : iblk m c 3 t (ix2 i k) = in3 m c (ix2 i k) := by
  blk_ext! [iblk, V, (final_index t).2.2.2.1]

/-- The reference's result of the arguments. -/
abbrev closing : FVec Ideal S32768x1024 .f32 := refFinal (in0 m c) (in1 m c) (in2 m c) (in3 m c)

/-- A point leaves its block of the result, -/
theorem left_4 (t : Fin cfg0.N) (a : Fin 512) (b : Fin 1024) (h : 512 * t.val + a.val < 32768) :
    (dats m 0 c).after 4 t (ix2 a b) = closing m c (ix2 ⟨512 * t.val + a.val, h⟩ b) := by
  rw [after0_4]
  refine (final_body _ _ _ _ a b).trans (Eq.trans ?_ (refFinal_at (in0 m c) (in1 m c) (in2 m c) (in3 m c) ⟨512 * t.val + a.val, h⟩ b).symm)
  simp only [residual_block m c t a _ h, words_block m c t _ a _ h, routing_block m c t a _ h, gains_block m c t]

/-- and the array ends as the result. -/
theorem array_4 : (dats m 0 c).arrAt 4 cfg0.N = closing m c := by
  refine (dats m 0 c).arrAt_eq_of_covers 4 _ (by decide +kernel) fun t hf y => ?_
  blk_simp
  have ht : t.val < 64 := t.isLt
  have hy : (y 0).val < 512 := (y 0).isLt
  have e0 : (((win0_4.blk t).view.emb y : S32768x1024.Idx) 0).val = 512 * t.val + (y 0).val := by
    refine Eq.trans (b := t.val * 512 + (y 0).val) ?_ (by omega)
    blk_ext [(final_index t).2.2.2.2]
  have e1 : (((win0_4.blk t).view.emb y : S32768x1024.Idx) 1).val = (y 1).val := by
    blk_ext [(final_index t).2.2.2.2]
  have h : 512 * t.val + (y 0).val < 32768 := by omega
  have e : ((win0_4.blk t).view.emb y : S32768x1024.Idx) = ix2 (⟨512 * t.val + (y 0).val, h⟩ : Fin 32768) (y 1 : Fin 1024) := by
    funext k
    fin_cases k
    · exact Fin.ext e0
    · exact Fin.ext e1
  have ey : y = ix2 (y 0 : Fin 512) (y 1 : Fin 1024) := by
    funext k
    fin_cases k <;> rfl
  refine Eq.trans (congrArg _ ey) ((left_4 m c t (y 0 : Fin 512) (y 1 : Fin 1024) h).trans (congrArg _ e.symm))

end Cert.Final
-- ==== Proof.FinRun.lean ====
module

public import proofs.«01_k».proof.Proof.FinRef
public import proofs.«01_k».proof.Proof.Gen.Reference3Ideal.Run

/-! # The run of the closing norm's reference

It ends with its result of the arguments, in the name `FinRef` gives it; the arguments are unchanged. -/

@[expose] public section

set_option maxRecDepth 16384

noncomputable section
open Idealize.ShloMosaic Idealize.ShloMosaic.TcCoe Idealize.SL.Sem
namespace Cert.Final
open Cert.Reference3Ideal

variable (m : (ℓ : Loc nD τ sig) → Buf (Elt Ideal) ℓ) (ρ : Dev nD → PrngReg)

theorem reference3_run : θ_run defs (onTc (τ := τ) (main (F := Ideal))) ⟨m, fun _ => 0, ρ⟩ fun r => ∀ c : Dev nD,
      r.2.mem ((c.tc : Thread nD τ).loc main_v18) = refFinal (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (by rfl), (h c).2⟩) (Value.run m ρ)

end Cert.Final
-- ==== Proof.DestSpec.lean ====
module

public import Idealize.ShloMosaic.PureOps.Ideal

/-! # A number of a lane

A real from 0 up to, not including, 128 is cut to an integer that names a lane. -/

@[expose] public section

noncomputable section
open Idealize.ShloMosaic
namespace Cert.Dest

/-- The number, cut to an integer, is the lane `b`. -/
def Names (x : EReal) (b : Fin 128) : Prop := Ideal.fptosi 32 x = BitVec.ofNat 32 b.val

/-- A number in range names a lane. -/
theorem names_of_range (x : EReal) (h0 : 0 ≤ x) (h1 : x < ((128 : ℝ) : EReal)) : ∃ b : Fin 128, Names x b := by
  induction x using EReal.rec with
  | bot => exact absurd h0 (by simp)
  | top => exact absurd h1 (by simp)
  | coe r =>
    have hr : 0 ≤ r := EReal.coe_nonneg.mp h0
    have hs : r < 128 := EReal.coe_lt_coe_iff.mp h1
    have f0 : 0 ≤ ⌊r⌋ := Int.floor_nonneg.mpr hr
    have f1 : ⌊r⌋ < 128 := Int.floor_lt.mpr (by exact_mod_cast hs)
    refine ⟨⟨⌊r⌋.toNat, by omega⟩, ?_⟩
    unfold Names
    rw [Ideal.fptosi, Ideal.toIntClamped_coe, if_pos hr, max_eq_right (by norm_num; omega), min_eq_right (by norm_num; omega)]
    show BitVec.ofInt 32 ⌊r⌋ = BitVec.ofNat 32 ⌊r⌋.toNat
    rw [← BitVec.ofInt_natCast]
    exact congrArg _ (Int.toNat_of_nonneg f0).symm

/-- A lane's number is not negative. -/
theorem lane_nonneg : ∀ b : Fin 128, IntOp.cmpi .slt (BitVec.ofNat 32 b.val) 0#32 = 0#1 := by decide +kernel

end Cert.Dest
-- ==== Proof.DestPre.lean ====
module

public import proofs.«01_k».proof.Defs
public import proofs.«01_k».proof.Proof.DestSpec
public import Idealize.ShloMosaic.Lib.Pointwise
public import Idealize.ShloMosaic.Lib.IdealHost
public import Idealize.ShloMosaic.Lib.ReduceAll

/-! # What the range of the experts says

Each of the first four columns of the routing names a lane. -/

@[expose] public section

noncomputable section
open Idealize.ShloMosaic Idealize.ShloMosaic.TcCoe
namespace Cert.Dest

/-- The side conditions of the precondition's operations. -/
instance preFacts : Cert.Pre_experts_in_range.Facts where
  slices_S32768x128_S32768x4_0_0 := by decide
  bcast_S_S32768x4 := by decide
  reducesTo_S32768x4_S_d0_1 := by decide
  h_S_ := by decide

/-- The two comparisons bound the number. -/
theorem names_of_compared (x : EReal) (h0 : FloatOps.cmpf (F := Ideal) (φ := .f32) .oge x (Ideal.ofBits .f32 0x00000000#32) = 1#1)
    (h1 : FloatOps.cmpf (F := Ideal) (φ := .f32) .olt x (Ideal.ofBits .f32 0x43000000#32) = 1#1) : ∃ b : Fin 128, Names x b := by
  rw [show Ideal.ofBits .f32 0x00000000#32 = (0 : EReal) from by simp [Ideal.ofBits, Ideal.ieee]] at h0
  rw [show Ideal.ofBits .f32 0x43000000#32 = ((128 : ℝ) : EReal) from by
    simp [Ideal.ofBits, Ideal.ieee]
    rw [← EReal.coe_mul]
    norm_num] at h1
  refine names_of_range x ?_ ?_
  · by_contra h
    simp [Ideal.cmpf_def, Ideal.cmp, h] at h0
  · by_contra h
    simp [Ideal.cmpf_def, Ideal.cmp, h] at h1

open Cert.Pre_experts_in_range in
/-- The precondition makes each expert's number name a lane. -/
theorem names_of_pre (R : FVec Ideal S32768x128 .f32) (P : FVec Ideal S1x128 .f32)
    (h : Cert.Pre_experts_in_range.fn (F := Ideal) R P = fun _ => 1#1) (t : Fin 32768) (k : Fin 4) :
    ∃ b : Fin 128, Names (R (ix2 t ⟨k.val, by omega⟩)) b := by
  have hs : Subsingleton S_.Idx := ⟨fun a b => funext fun k => k.elim0⟩
  have h0 := Host.reduce_andi_all _ _ _ _ _ (congrFun h ix0) (ix2 t k)
  have hb : ∀ a b : BitVec 1, IntOp.andi a b = 1#1 → a = 1#1 ∧ b = 1#1 := by decide
  obtain ⟨h1, h2⟩ := hb _ _ h0
  have e : (extractStridedSlice S32768x4 ![0, 0] R Facts.slices_S32768x128_S32768x4_0_0 : FVec Ideal S32768x4 .f32) (ix2 t k) = R (ix2 t ⟨k.val, by omega⟩) := by
    pointwise
  rw [← e]
  exact names_of_compared _ h1 h2

end Cert.Dest
-- ==== Proof.DestBody.lean ====
module

public import proofs.«01_k».proof.Proof.DestSpec
public import proofs.«01_k».proof.Proof.Gen.Kernel4Ideal.Skeleton
public import Idealize.ShloMosaic.Lib.Pointwise
public import Idealize.ShloMosaic.Lib.IdealHost

/-! # The rows' body, in numbers -/

@[expose] public section

set_option maxRecDepth 16384

noncomputable section
open Idealize.ShloMosaic Idealize.ShloMosaic.TcCoe Idealize.SL.Sem
namespace Cert.Dest
open Cert.Kernel4Ideal Cert.Kernel4Ideal.Gen

/-- The routing cut to integers, but in its first four lanes zero. -/
def cut (v : FVec Ideal S2048x128 .f32) : IVec S2048x128 32 :=
  fptosi 32 (select (cmpi .slt (iota .tc S2048x128 32 [1] iota_S2048x128_d1_w32) (broadcast S2048x128 4#32)) v
    (broadcast S2048x128 (Scalar.ofBits .f32 0x00000000#32) : FVec Ideal S2048x128 .f32) : FVec Ideal S2048x128 .f32)

/-- A negative number counted from the end. -/
def wrapped (e : IVec S2048x128 32) : IVec S2048x128 32 :=
  select (cmpi .slt e (broadcast S2048x128 0#32)) (addi e (broadcast S2048x128 128#32)) e

/-- The starts of the rows' experts. -/
def starts (p : Vec Ideal S1x128 .f32) (e : IVec S2048x128 32) : FVec Ideal S2048x128 .f32 :=
  dynamicGather 1 (broadcastTo S2048x128 (shapeCast S1x128 p shapeCasts_S1x128_S1x128) broadcasts_S1x128_S2048x128)
    (shapeCast S2048x128 (shapeCast S2048x128x1 e shapeCasts_S2048x128_S2048x128x1) shapeCasts_S2048x128x1_S2048x128)

/-- The ranks, moved to the experts' lanes. -/
def ranks (v : Vec Ideal S2048x128 .f32) : FVec Ideal S2048x128 .f32 := dynamicRotate 1 124#32 none v rotates_S2048x128_d1

/-- The two added up and written across. -/
def across (a b : FVec Ideal S2048x128 .f32) : IVec S4x2048 32 :=
  fptosi 32 (extractStridedSlice S4x2048 ![0, 0] (transpose S128x2048 [1, 0] (addf a b) transposes_S2048x128_p1_0_S128x2048) slices_S128x2048_o0_0_S4x2048)

theorem body_eq (v : Vec Ideal S2048x128 .f32) (p : Vec Ideal S1x128 .f32) :
    k0_pay1 (F := Ideal) v p = across (starts p (wrapped (cut v))) (ranks v) := rfl

theorem lane_lt : ∀ k : Fin 4, IntOp.cmpi .slt (BitVec.ofNat 32 k.val) 4#32 = 1#1 := by decide

theorem cut_at (v : Vec Ideal S2048x128 .f32) (t : Fin 2048) (k : Fin 4) :
    cut v (ix2 t ⟨k.val, by omega⟩) = Ideal.fptosi 32 (v (ix2 t ⟨k.val, by omega⟩)) := by
  pointwise [cut, lane_lt]
  rfl

theorem wrapped_at (e : IVec S2048x128 32) (t : Fin 2048) (k b : Fin 128) (h : e (ix2 t k) = BitVec.ofNat 32 b.val) :
    wrapped e (ix2 t k) = BitVec.ofNat 32 b.val := by
  pointwise [wrapped, h, lane_nonneg]

theorem lane_kept : ∀ b : Fin 128, (BitVec.ofNat 32 b.val).toNat % 128 = b.val := by decide +kernel

theorem starts_at (p : Vec Ideal S1x128 .f32) (e : IVec S2048x128 32) (t : Fin 2048) (k b : Fin 128) (h : e (ix2 t k) = BitVec.ofNat 32 b.val) :
    starts p e (ix2 t k) = p (ix2 0 b) := by
  pointwise [starts, h]
  exact congrArg (fun q => p (ix2 0 q)) (Fin.ext (lane_kept b))

theorem ranks_at (v : Vec Ideal S2048x128 .f32) (t : Fin 2048) (k : Fin 4) :
    ranks v (ix2 t ⟨k.val, by omega⟩) = v (ix2 t ⟨4 + k.val, by omega⟩) := by
  pointwise [ranks]
  exact congrArg (fun q => v (ix2 t q)) (Fin.ext (show (k.val + 128 - 124) % 128 = 4 + k.val by omega))

theorem across_at (a b : FVec Ideal S2048x128 .f32) (t : Fin 2048) (k : Fin 4) :
    across a b (ix2 k t) = Ideal.fptosi 32 (a (ix2 t ⟨k.val, by omega⟩) + b (ix2 t ⟨k.val, by omega⟩)) := by
  pointwise [across]
  rfl

/-- The body at an index, of an expert's number in range. -/
theorem body_at (v : Vec Ideal S2048x128 .f32) (p : Vec Ideal S1x128 .f32) (t : Fin 2048) (k : Fin 4) (b : Fin 128)
    (h : Names (v (ix2 t ⟨k.val, by omega⟩)) b) :
    k0_pay1 (F := Ideal) v p (ix2 k t) = Ideal.fptosi 32 (p (ix2 0 b) + v (ix2 t ⟨4 + k.val, by omega⟩)) := by
  rw [body_eq, across_at, ranks_at, starts_at p _ t _ b (wrapped_at _ t _ b ((cut_at v t k).trans h))]

end Cert.Dest
-- ==== Proof.DestRef.lean ====
module

public import proofs.«01_k».proof.Proof.DestSpec
public import proofs.«01_k».proof.Proof.Gen.Reference4Ideal
public import Idealize.ShloMosaic.Lib.Pointwise
public import Idealize.ShloMosaic.Lib.IdealHost
public import Idealize.ShloMosaic.Lib.ValueIdxCore

/-! # The reference's rows, in numbers -/

@[expose] public section

set_option maxRecDepth 16384

noncomputable section
open Idealize.ShloMosaic Idealize.ShloMosaic.TcCoe Idealize.SL.Sem
namespace Cert.Dest
open Cert.Reference4Ideal Cert.Reference4Ideal.Gen

/-- The experts' numbers, -/
def refCut (R : FVec Ideal S32768x128 .f32) : IVec S32768x4 32 :=
  fptosi 32 (extractStridedSlice S32768x4 ![0, 0] R slices_S32768x128_S32768x4_0_0)

/-- a negative one counted from the end. -/
def refWrapped (e : IVec S32768x4 32) : IVec S32768x4x1 32 :=
  broadcastInDim S32768x4x1 ![0, 1] bcast_S32768x4_S32768x4x1_0_1 (select (cmpi .slt e (broadcastInDim S32768x4 ![] bcast_S_S32768x4 (constantI S_ 32 0#32)))
    (addi e (broadcastInDim S32768x4 ![] bcast_S_S32768x4 (constantI S_ 32 128#32))) e)

/-- The starts of the experts. -/
def refStarts (P : FVec Ideal S1x128 .f32) (e : IVec S32768x4x1 32) : FVec Ideal S32768x4 .f32 :=
  Host.gather gather_S128_S32768x4x1_S32768x4_n_0_n_n_0_2_1 (shapeCast S128 P shapeCasts_S1x128_S128) e

/-- The rows, written across. -/
def refAcross (a : FVec Ideal S32768x4 .f32) (R : FVec Ideal S32768x128 .f32) : IVec S4x32768 32 :=
  transpose S4x32768 [1, 0] (fptosi 32 (addf a (extractStridedSlice S32768x4 ![0, 4] R slices_S32768x128_S32768x4_0_4))) transposes_S32768x4_S4x32768_1_0

/-- The reference's result. -/
def refDest (R : FVec Ideal S32768x128 .f32) (P : FVec Ideal S1x128 .f32) : IVec S4x32768 32 :=
  refAcross (refStarts P (refWrapped (refCut R))) R

theorem refCut_at (R : FVec Ideal S32768x128 .f32) (t : Fin 32768) (k : Fin 4) :
    refCut R (ix2 t k) = Ideal.fptosi 32 (R (ix2 t ⟨k.val, by omega⟩)) := by
  pointwise [refCut]
  rfl

theorem refWrapped_at (e : IVec S32768x4 32) (t : Fin 32768) (k : Fin 4) (b : Fin 128) (h : e (ix2 t k) = BitVec.ofNat 32 b.val) :
    refWrapped e (ix3 t k 0) = BitVec.ofNat 32 b.val := by
  pointwise [refWrapped, h, lane_nonneg]

theorem flat_at (P : FVec Ideal S1x128 .f32) (b : Fin 128) : (shapeCast S128 P shapeCasts_S1x128_S128 : FVec Ideal S128 .f32) (ix1 b) = P (ix2 0 b) := by
  pointwise

theorem lane_clamped : ∀ b : Fin 128, min (BitVec.ofNat 32 b.val).toInt.toNat (128 - 1) = b.val := by decide +kernel

theorem refStarts_at (P : FVec Ideal S1x128 .f32) (e : IVec S32768x4x1 32) (t : Fin 32768) (k : Fin 4) (b : Fin 128) (h : e (ix3 t k 0) = BitVec.ofNat 32 b.val) :
    refStarts P e (ix2 t k) = P (ix2 0 b) := by
  refine Eq.trans (ValueIdx.gather_take_apply (by norm_num) _ _ e (ix2 t k)) (Eq.trans (congrArg _ ?_) (flat_at P b))
  refine congrArg ix1 (Fin.ext ?_)
  have hi : e (ValueIdx.takeIdx (ix2 t k)) = BitVec.ofNat 32 b.val := by
    rw [← h]
    refine congrArg e ?_
    funext a
    fin_cases a <;> rfl
  show min (e (ValueIdx.takeIdx (ix2 t k))).toInt.toNat (128 - 1) = b.val
  rw [hi]
  exact lane_clamped b

theorem refAcross_at (a : FVec Ideal S32768x4 .f32) (R : FVec Ideal S32768x128 .f32) (t : Fin 32768) (k : Fin 4) :
    refAcross a R (ix2 k t) = Ideal.fptosi 32 (a (ix2 t k) + R (ix2 t ⟨4 + k.val, by omega⟩)) := by
  pointwise [refAcross]
  rfl

/-- The result at an index, of an expert's number in range. -/
theorem refDest_at (R : FVec Ideal S32768x128 .f32) (P : FVec Ideal S1x128 .f32) (t : Fin 32768) (k : Fin 4) (b : Fin 128)
    (h : Names (R (ix2 t ⟨k.val, by omega⟩)) b) :
    refDest R P (ix2 k t) = Ideal.fptosi 32 (P (ix2 0 b) + R (ix2 t ⟨4 + k.val, by omega⟩)) := by
  unfold refDest
  rw [refAcross_at, refStarts_at P _ t k b (refWrapped_at _ t k b ((refCut_at R t k).trans h))]

end Cert.Dest
-- ==== Proof.DestArrays.lean ====
module

public import proofs.«01_k».proof.Proof.DestBody
public import proofs.«01_k».proof.Proof.DestRef
public import proofs.«01_k».proof.Proof.Gen.Kernel4Ideal.Value
public import Idealize.ShloMosaic.Lib.Pipeline.ValueKit

/-! # The array the rows' grid leaves

Each grid point writes 2048 columns of the output; the blocks cover the array, and hold the reference's result. -/

@[expose] public section

set_option maxRecDepth 16384

noncomputable section
open Idealize.ShloMosaic Idealize.ShloMosaic.TcCoe Idealize.SL.Sem
namespace Cert.Dest
open Cert.Kernel4Ideal Cert.Kernel4Ideal.Gen

/-- The blocks of the windows at point `t`. -/
theorem dest_index : ∀ t : Fin cfg0.N, win0_0.index t = ![t.val, 0] ∧ win0_1.index t = ![0, 0] ∧ win0_2.index t = ![0, t.val] :=
  (by decide +kernel : ∀ t : Fin grid0.N, _)

/-- What the body leaves of its two blocks. -/
theorem dest_body (v : Vec Ideal S2048x128 .f32) (p : Vec Ideal S1x128 .f32) : out0_2 (F := Ideal) v p = k0_pay1 v p := by
  have hv : View.ld v r0_0 = v := View.ld_unit_lit _ v (by decide)
  have hp : View.ld p r0_1 = p := View.ld_unit_lit _ p (by decide)
  unfold out0_2
  rw [hv, hp]
  exact View.canon_cons_unit_lit _ _ [] (by decide)

variable (m : (ℓ : Loc nD τ sig) → Buf (Elt Ideal) ℓ) (c : Dev nD)

/-- The arguments, as the arrays they hold. -/
abbrev in0 : FVec Ideal S32768x128 .f32 := m ((c.tc : Thread nD τ).loc main_arg0)
abbrev in1 : FVec Ideal S1x128 .f32 := m ((c.tc : Thread nD τ).loc main_arg1)

theorem routing_block (t : Fin cfg0.N) (i : Fin 2048) (k : Fin 128) (h : 2048 * t.val + i.val < 32768) : iblk m c 0 t (ix2 i k) = in0 m c (ix2 ⟨2048 * t.val + i.val, h⟩ k) := by
  blk_ext! [iblk, V, (dest_index t).1]

theorem starts_block (t : Fin cfg0.N) (i : Fin 1) (k : Fin 128) : iblk m c 1 t (ix2 i k) = in1 m c (ix2 i k) := by
  blk_ext! [iblk, V, (dest_index t).2.1]

/-- The reference's result of the arguments. -/
abbrev rows : IVec S4x32768 32 := refDest (in0 m c) (in1 m c)

/-- Each expert's number names a lane. -/
def AllName (R : FVec Ideal S32768x128 .f32) : Prop := ∀ (t : Fin 32768) (k : Fin 4), ∃ b : Fin 128, Names (R (ix2 t ⟨k.val, by omega⟩)) b

variable (hn : AllName (in0 m c))
include hn

/-- A point leaves its block of the result, -/
theorem left_2 (t : Fin cfg0.N) (a : Fin 4) (b : Fin 2048) (h : 2048 * t.val + b.val < 32768) :
    (dats m 0 c).after 2 t (ix2 a b) = rows m c (ix2 a ⟨2048 * t.val + b.val, h⟩) := by
  obtain ⟨e, he⟩ := hn ⟨2048 * t.val + b.val, h⟩ a
  rw [after0_2, dest_body]
  refine (body_at _ _ b a e ((congrArg (Names · e) (routing_block m c t b _ h)).mpr he)).trans
    (Eq.trans ?_ (refDest_at (in0 m c) (in1 m c) ⟨2048 * t.val + b.val, h⟩ a e he).symm)
  rw [routing_block m c t b _ h, starts_block m c t]

/-- and the array ends as the result. -/
theorem array_2 : (dats m 0 c).arrAt 2 cfg0.N = rows m c := by
  refine (dats m 0 c).arrAt_eq_of_covers 2 _ (by decide +kernel) fun t hf y => ?_
  blk_simp
  have ht : t.val < 16 := t.isLt
  have hy : (y 1).val < 2048 := (y 1).isLt
  have e0 : (((win0_2.blk t).view.emb y : S4x32768.Idx) 0).val = (y 0).val := by
    blk_ext [(dest_index t).2.2]
  have e1 : (((win0_2.blk t).view.emb y : S4x32768.Idx) 1).val = 2048 * t.val + (y 1).val := by
    refine Eq.trans (b := t.val * 2048 + (y 1).val) ?_ (by omega)
    blk_ext [(dest_index t).2.2]
  have h : 2048 * t.val + (y 1).val < 32768 := by omega
  have e : ((win0_2.blk t).view.emb y : S4x32768.Idx) = ix2 (y 0 : Fin 4) (⟨2048 * t.val + (y 1).val, h⟩ : Fin 32768) := by
    funext k
    fin_cases k
    · exact Fin.ext e0
    · exact Fin.ext e1
  have ey : y = ix2 (y 0 : Fin 4) (y 1 : Fin 2048) := by
    funext k
    fin_cases k <;> rfl
  refine Eq.trans (congrArg _ ey) ((left_2 m c hn t (y 0 : Fin 4) (y 1 : Fin 2048) h).trans (congrArg _ e.symm))

end Cert.Dest
-- ==== Proof.DestRun.lean ====
module

public import proofs.«01_k».proof.Proof.DestRef
public import proofs.«01_k».proof.Proof.Gen.Reference4Ideal.Run

/-! # The run of the rows' reference

It ends with its result of the arguments, in the name `DestRef` gives it; the arguments are unchanged. -/

@[expose] public section

set_option maxRecDepth 16384

noncomputable section
open Idealize.ShloMosaic Idealize.ShloMosaic.TcCoe Idealize.SL.Sem
namespace Cert.Dest
open Cert.Reference4Ideal

variable (m : (ℓ : Loc nD τ sig) → Buf (Elt Ideal) ℓ) (ρ : Dev nD → PrngReg)

theorem reference4_run : θ_run defs (onTc (τ := τ) (main (F := Ideal))) ⟨m, fun _ => 0, ρ⟩ fun r => ∀ c : Dev nD,
      r.2.mem ((c.tc : Thread nD τ).loc main_v13) = refDest (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by rfl), (h c).2⟩) (Value.run m ρ)

end Cert.Dest
-- ==== Proof.OutPre.lean ====
module

public import proofs.«01_k».proof.Proof.Finite

/-! # What the output projection's precondition says

Every logarithm of a softmax denominator is a real. -/

@[expose] public section

noncomputable section
open Idealize.ShloMosaic
namespace Cert.OutProj

/-- The side conditions of the precondition's operations. -/
instance mixtureFacts : Cert.Pre_finite_mixture.Facts where
  bcast_S_S32768x512 := by decide
  reducesTo_S32768x512_S_d0_1 := by decide
  h_S_ := by decide
  bcast_S_S8192x2048 := by decide
  reducesTo_S8192x2048_S_d0_1 := by decide
  bcast_S_S2048x8192 := by decide
  reducesTo_S2048x8192_S_d0_1 := by decide

open Cert.Pre_finite_mixture in
theorem mixture_real (o1 : FVec Ideal S32768x512 .bf16) (o2 : FVec Ideal S8192x2048 .bf16) (o3 : FVec Ideal S2048x8192 .bf16) (l1 : FVec Ideal S32768x512 .f32)
    (l2 : FVec Ideal S8192x2048 .f32) (l3 : FVec Ideal S2048x8192 .f32) (ob : FVec Ideal S32768x512 .bf16) (g : FVec Ideal S32768x2048 .bf16)
    (x : FVec Ideal S32768x1024 .f32) (wa wb : FVec Ideal S512x1024 .bf16) (wo : FVec Ideal S1024x1024 .bf16) (g2 : FVec Ideal S1x1024 .f32)
    (wrh wrl : FVec Ideal S1024x128 .bf16) (br : FVec Ideal S1x128 .f32)
    (h : Cert.Pre_finite_mixture.fn (F := Ideal) o1 o2 o3 l1 l2 l3 ob g x wa wb wo g2 wrh wrl br = fun _ => 1#1) :
    (∀ y, ∃ r : ℝ, l1 y = (r : EReal)) ∧ (∀ y, ∃ r : ℝ, l2 y = (r : EReal)) ∧ (∀ y, ∃ r : ℝ, l3 y = (r : EReal)) := by
  have hs : Subsingleton S_.Idx := ⟨fun a b => funext fun k => k.elim0⟩
  have h0 := congrFun h ix0
  have hb : ∀ a b : BitVec 1, IntOp.andi a b = 1#1 → a = 1#1 ∧ b = 1#1 := by decide
  obtain ⟨h12, h3⟩ := hb _ _ h0
  obtain ⟨h1, h2⟩ := hb _ _ h12
  exact ⟨fun y => Attn.real_of_lt _ (Host.reduce_andi_all _ _ _ _ _ h1 y), fun y => Attn.real_of_lt _ (Host.reduce_andi_all _ _ _ _ _ h2 y),
    fun y => Attn.real_of_lt _ (Host.reduce_andi_all _ _ _ _ _ h3 y)⟩

end Cert.OutProj
-- ==== Proof.OutPieces.lean ====
module

public import proofs.«01_k».proof.Proof.InPieces

/-! # Rows put back in order

Rows of one remainder by four, and by sixteen, go into a buffer with a stride. What is read back from it whole are the rows in their
order. -/

@[expose] public section

set_option maxRecDepth 16384

noncomputable section
open Idealize.ShloMosaic Idealize.ShloMosaic.TcCoe
open Cert.InProj (exists_of_key exists_of_piece unit_one4 unit_one5)
namespace Cert.OutProj

/-- The shapes of the two buffers, of the pieces stored and of those read. -/
abbrev Ordered : Shape := ⟨4, ![4, 4, 512, 128]⟩
abbrev OrderedPiece : Shape := ⟨4, ![1, 1, 128, 128]⟩
abbrev OrderedStrip : Shape := ⟨4, ![1, 1, 512, 128]⟩
abbrev Quarters : Shape := ⟨5, ![2, 4, 4, 128, 128]⟩
abbrev QuartersPiece : Shape := ⟨5, ![1, 1, 1, 32, 128]⟩
abbrev QuartersStrip : Shape := ⟨5, ![1, 1, 1, 128, 128]⟩

/-- A piece holds 128 columns of the rows of one remainder by four. -/
def OrderedIs (A : ℕ → ℕ → ℕ → EReal) (k : ℕ × ℕ × ℕ) (p : View.Piece (Elt Ideal) Ordered .f32) : Prop :=
  ∃ (inb : ∀ a, OrderedPiece.size a = 0 ∨ (![k.1, k.2.1, k.2.2, 0] : Fin 4 → ℕ) a + (![1, 1, 4, 1] : Fin 4 → ℕ) a * (OrderedPiece.size a - 1) < Ordered.size a)
    (pos : ∀ a, 0 < (![1, 1, 4, 1] : Fin 4 → ℕ) a) (v : OrderedPiece.Idx → EReal),
    p = ⟨⟨(⟨![k.1, k.2.1, k.2.2, 0], OrderedPiece.size, ![1, 1, 4, 1], inb⟩ : LoadRect Ordered), pos⟩, v⟩ ∧
    ∀ (i : Fin 128) (e : Fin 128), v (ix4 0 0 i e) = A k.1 (4 * i.val + k.2.2) (128 * k.2.1 + e.val)

/-- A piece holds 128 columns of the rows of one remainder by sixteen. -/
def QuartersAre (A : ℕ → ℕ → ℕ → EReal) (k : ℕ × ℕ × ℕ × ℕ) (p : View.Piece (Elt Ideal) Quarters .f32) : Prop :=
  ∃ (inb : ∀ a, QuartersPiece.size a = 0 ∨ (![k.1, k.2.1, k.2.2.1, k.2.2.2, 0] : Fin 5 → ℕ) a + (![1, 1, 1, 4, 1] : Fin 5 → ℕ) a * (QuartersPiece.size a - 1) < Quarters.size a)
    (pos : ∀ a, 0 < (![1, 1, 1, 4, 1] : Fin 5 → ℕ) a) (v : QuartersPiece.Idx → EReal),
    p = ⟨⟨(⟨![k.1, k.2.1, k.2.2.1, k.2.2.2, 0], QuartersPiece.size, ![1, 1, 1, 4, 1], inb⟩ : LoadRect Quarters), pos⟩, v⟩ ∧
    ∀ (i : Fin 32) (e : Fin 128), v (ix5 0 0 0 i e) = A (k.1 + 2) (16 * i.val + (4 * k.2.2.2 + k.2.1)) (128 * k.2.2.1 + e.val)

theorem ordered_apply {v : OrderedPiece.Idx → EReal} {f : ℕ → ℕ → EReal} (h : ∀ (i : Fin 128) (e : Fin 128), v (ix4 0 0 i e) = f i.val e.val) (x : OrderedPiece.Idx) :
    v x = f (x 2).val (x 3).val := by
  conv_lhs => rw [unit_one4 x]
  exact h _ _

theorem quarters_apply {v : QuartersPiece.Idx → EReal} {f : ℕ → ℕ → EReal} (h : ∀ (i : Fin 32) (e : Fin 128), v (ix5 0 0 0 i e) = f i.val e.val) (x : QuartersPiece.Idx) :
    v x = f (x 3).val (x 4).val := by
  conv_lhs => rw [unit_one5 x]
  exact h _ _

variable {sig : RefSig} {κ : Kind} {sp : Space} {A : ℕ → ℕ → ℕ → EReal}

/-- A strip of columns, all its rows in order. -/
theorem strip_at (v : View sig κ sp Ordered .f32) {ks : List (ℕ × ℕ × ℕ)} {L : List (View.Piece (Elt Ideal) Ordered .f32)}
    (h : List.Forall₂ (OrderedIs A) ks L) {w c : ℕ} (hk : ∀ r : Fin 4, (w, c, r.val) ∈ ks)
    {inb : ∀ a, (![w, c, 0, 0] : Fin 4 → ℕ) a + OrderedStrip.size a ≤ Ordered.size a}
    (i : Fin 512) (e : Fin 128) :
    v.readCov L (Rect.unit (s := Ordered) ![w, c, 0, 0] OrderedStrip.size inb).toLoadRect (ix4 0 0 i e) = A w i.val (128 * c + e.val) := by
  have hi := i.isLt
  have he := e.isLt
  unfold View.readCov
  rw [View.readAt_apply]
  refine (v.read_writes_apply_of_pieces v.junk (fun y => A (y 0).val (y 2).val (128 * (y 1).val + (y 3).val)) L ?_ _ ?_).trans ?_
  · intro p hp x
    obtain ⟨⟨k0, k1, k2⟩, -, inb', pos, u, rfl, hu⟩ := exists_of_piece h hp
    have h0 : (x 0).val = 0 := Nat.lt_one_iff.1 (x 0).isLt
    have h1 : (x 1).val = 0 := Nat.lt_one_iff.1 (x 1).isLt
    refine (ordered_apply (f := fun i e => A k0 (4 * i + k2) (128 * k1 + e)) hu x).trans ?_
    show A k0 (4 * (x 2).val + k2) (128 * k1 + (x 3).val) = A (k0 + 1 * (x 0).val) (k2 + 4 * (x 2).val) (128 * (k1 + 1 * (x 1).val) + (0 + 1 * (x 3).val))
    simp only [h0, h1, Nat.zero_add, Nat.one_mul, Nat.add_zero, Nat.add_comm k2]
  · obtain ⟨p, hp, inb', pos, u, rfl, -⟩ := exists_of_key h (hk ⟨i.val % 4, Nat.mod_lt _ (by norm_num)⟩)
    refine ⟨_, hp, (LoadRect.mem_set _).2 fun a => ?_⟩
    fin_cases a
    · exact ⟨0, Nat.one_pos, rfl⟩
    · exact ⟨0, Nat.one_pos, rfl⟩
    · refine ⟨i.val / 4, ?_, ?_⟩
      · show i.val / 4 < 128; omega
      · show 0 + 1 * i.val = i.val % 4 + 4 * (i.val / 4); omega
    · refine ⟨e.val, ?_, ?_⟩
      · show e.val < 128; omega
      · show 0 + 1 * e.val = 0 + 1 * e.val; rfl
  · show A (w + 1 * 0) (0 + 1 * i.val) (128 * (c + 1 * 0) + (0 + 1 * e.val)) = _
    simp only [Nat.zero_add, Nat.one_mul, Nat.mul_zero, Nat.add_zero]

/-- A piece of rows of one remainder by four, all in order. -/
theorem quarter_strip_at (v : View sig κ sp Quarters .f32) {ks : List (ℕ × ℕ × ℕ × ℕ)} {L : List (View.Piece (Elt Ideal) Quarters .f32)}
    (h : List.Forall₂ (QuartersAre A) ks L) {w r c : ℕ} (hk : ∀ q : Fin 4, (w, r, c, q.val) ∈ ks)
    {inb : ∀ a, (![w, r, c, 0, 0] : Fin 5 → ℕ) a + QuartersStrip.size a ≤ Quarters.size a}
    (i : Fin 128) (e : Fin 128) :
    v.readCov L (Rect.unit (s := Quarters) ![w, r, c, 0, 0] QuartersStrip.size inb).toLoadRect (ix5 0 0 0 i e) = A (w + 2) (4 * i.val + r) (128 * c + e.val) := by
  have hi := i.isLt
  have he := e.isLt
  unfold View.readCov
  rw [View.readAt_apply]
  refine (v.read_writes_apply_of_pieces v.junk (fun y => A ((y 0).val + 2) (4 * (y 3).val + (y 1).val) (128 * (y 2).val + (y 4).val)) L ?_ _ ?_).trans ?_
  · intro p hp x
    obtain ⟨⟨k0, k1, k2, k3⟩, -, inb', pos, u, rfl, hu⟩ := exists_of_piece h hp
    have h0 : (x 0).val = 0 := Nat.lt_one_iff.1 (x 0).isLt
    have h1 : (x 1).val = 0 := Nat.lt_one_iff.1 (x 1).isLt
    have h2 : (x 2).val = 0 := Nat.lt_one_iff.1 (x 2).isLt
    refine (quarters_apply (f := fun i e => A (k0 + 2) (16 * i + (4 * k3 + k1)) (128 * k2 + e)) hu x).trans ?_
    show A (k0 + 2) (16 * (x 3).val + (4 * k3 + k1)) (128 * k2 + (x 4).val)
      = A (k0 + 1 * (x 0).val + 2) (4 * (k3 + 4 * (x 3).val) + (k1 + 1 * (x 1).val)) (128 * (k2 + 1 * (x 2).val) + (0 + 1 * (x 4).val))
    rw [h0, h1, h2]
    congr 1 <;> omega
  · obtain ⟨p, hp, inb', pos, u, rfl, -⟩ := exists_of_key h (hk ⟨i.val % 4, Nat.mod_lt _ (by norm_num)⟩)
    refine ⟨_, hp, (LoadRect.mem_set _).2 fun a => ?_⟩
    fin_cases a
    · exact ⟨0, Nat.one_pos, rfl⟩
    · exact ⟨0, Nat.one_pos, rfl⟩
    · exact ⟨0, Nat.one_pos, rfl⟩
    · refine ⟨i.val / 4, ?_, ?_⟩
      · show i.val / 4 < 32; omega
      · show 0 + 1 * i.val = i.val % 4 + 4 * (i.val / 4); omega
    · refine ⟨e.val, ?_, ?_⟩
      · show e.val < 128; omega
      · show 0 + 1 * e.val = 0 + 1 * e.val; rfl
  · show A (w + 1 * 0 + 2) (4 * (0 + 1 * i.val) + (r + 1 * 0)) (128 * (c + 1 * 0) + (0 + 1 * e.val)) = _
    simp only [Nat.zero_add, Nat.one_mul, Nat.mul_zero, Nat.add_zero]

end Cert.OutProj
-- ==== Proof.OutSpec.lean ====
module

public import proofs.«01_k».proof.Proof.Softmax

/-! # The output projection's first result, in numbers

Three attention outputs are mixed by the softmax of their log-sums; the mixture and a fourth output go through two products, are gated
and added, and go through a third product onto the residual. -/

@[expose] public section

noncomputable section
open Idealize.ShloMosaic
namespace Cert.OutProj

/-- The share of the first of three numbers in the softmax of all. -/
def share (p a b c : ℝ) : ℝ := Real.exp p / (Real.exp a + Real.exp b + Real.exp c)

theorem share_nonneg (p a b c : ℝ) : 0 ≤ share p a b c := by unfold share; positivity

/-- The mixture of three numbers by the softmax of three others. -/
def mixed (a b c x y z : EReal) : EReal :=
  ((share a.toReal a.toReal b.toReal c.toReal : ℝ) : EReal) * x + ((share b.toReal a.toReal b.toReal c.toReal : ℝ) : EReal) * y
    + ((share c.toReal a.toReal b.toReal c.toReal : ℝ) : EReal) * z

/-- A shift of all three leaves the shares. -/
theorem share_shift (p a b c M : ℝ) :
    Real.exp (p - M) * (1 / (Real.exp (a - M) + Real.exp (b - M) + Real.exp (c - M))) = share p a b c := by
  unfold share
  simp only [Real.exp_sub]
  have hM : Real.exp M ≠ 0 := (Real.exp_pos M).ne'
  have hs : Real.exp a + Real.exp b + Real.exp c ≠ 0 := by positivity
  rw [← add_div, ← add_div]
  field_simp

theorem pos_sum (a b c M : ℝ) : Real.exp (a - M) + Real.exp (b - M) + Real.exp (c - M) ≠ 0 := by positivity

/-- The sum of the shifted exponentials is a real. -/
theorem exp_sum (a b c M : ℝ) : Ideal.exp ((a : EReal) - (M : EReal)) + Ideal.exp ((b : EReal) - (M : EReal)) + Ideal.exp ((c : EReal) - (M : EReal))
    = ((Real.exp (a - M) + Real.exp (b - M) + Real.exp (c - M) : ℝ) : EReal) := by
  rw [← EReal.coe_sub, ← EReal.coe_sub, ← EReal.coe_sub, Ideal.exp_coe, Ideal.exp_coe, Ideal.exp_coe, ← EReal.coe_add, ← EReal.coe_add]

/-- A quotient of shifted exponentials is a share. -/
theorem div_share (p a b c M : ℝ) :
    Ideal.div (Ideal.exp ((p : EReal) - (M : EReal))) ((Real.exp (a - M) + Real.exp (b - M) + Real.exp (c - M) : ℝ) : EReal) = ((share p a b c : ℝ) : EReal) := by
  rw [← EReal.coe_sub, Ideal.exp_coe, Ideal.div_coe (pos_sum a b c M), ← EReal.coe_mul, share_shift]

/-- The sum weighted by exponentials, divided by their sum, is the mixture. -/
theorem mixed_of_quotient (a b c M : ℝ) (x y z : EReal) :
    Ideal.div (Ideal.exp ((a : EReal) - (M : EReal)) * x + Ideal.exp ((b : EReal) - (M : EReal)) * y + Ideal.exp ((c : EReal) - (M : EReal)) * z)
      (Ideal.exp ((a : EReal) - (M : EReal)) + Ideal.exp ((b : EReal) - (M : EReal)) + Ideal.exp ((c : EReal) - (M : EReal))) = mixed a b c x y z := by
  rw [exp_sum, Ideal.div_coe (pos_sum a b c M), ← EReal.coe_sub, ← EReal.coe_sub, ← EReal.coe_sub, Ideal.exp_coe, Ideal.exp_coe, Ideal.exp_coe]
  have hn : (0 : EReal) ≤ ((1 / (Real.exp (a - M) + Real.exp (b - M) + Real.exp (c - M)) : ℝ) : EReal) := by exact_mod_cast (by positivity)
  rw [EReal.right_distrib_of_nonneg_of_ne_top hn (EReal.coe_ne_top _), EReal.right_distrib_of_nonneg_of_ne_top hn (EReal.coe_ne_top _)]
  unfold mixed
  simp only [EReal.toReal_coe]
  congr 1
  · congr 1
    · rw [mul_right_comm, ← EReal.coe_mul, share_shift]
    · rw [mul_right_comm, ← EReal.coe_mul, share_shift]
  · rw [mul_right_comm, ← EReal.coe_mul, share_shift]

end Cert.OutProj
-- ==== Proof.OutBody.lean ====
module

public import proofs.«01_k».proof.Proof.OutSpec
public import proofs.«01_k».proof.Proof.Gen.Kernel5Ideal.Skeleton
public import Idealize.ShloMosaic.Lib.Pointwise
public import Idealize.ShloMosaic.Lib.IdealHost

/-! # The steps of the output projection's body, in numbers -/

@[expose] public section

set_option maxRecDepth 16384

noncomputable section
open Idealize.ShloMosaic Idealize.ShloMosaic.TcCoe Idealize.SL.Sem
namespace Cert.OutProj
open Cert.Kernel5Ideal Cert.Kernel5Ideal.Gen

/-- Four strips of columns side by side. -/
def sideBySide (a b c d : Vec Ideal S1x1x512x128 .f32) : FVec Ideal S512x512 .f32 :=
  concatenate S512x512 1 [⟨S512x128, shapeCast S512x128 a shapeCasts_S1x1x512x128_S512x128⟩, ⟨S512x128, shapeCast S512x128 b shapeCasts_S1x1x512x128_S512x128⟩,
    ⟨S512x128, shapeCast S512x128 c shapeCasts_S1x1x512x128_S512x128⟩, ⟨S512x128, shapeCast S512x128 d shapeCasts_S1x1x512x128_S512x128⟩]
    concatenates_S512x128_S512x128_S512x128_S512x128_S512x512_d1

theorem sideBySide_split (a b c d : Vec Ideal S1x1x512x128 .f32) (i j : Fin 512) :
    sideBySide a b c d (ix2 i j) = if h : j.val < 128 then a (ix4 0 0 i ⟨j.val, h⟩) else if h' : j.val - 128 < 128 then b (ix4 0 0 i ⟨j.val - 128, h'⟩)
      else if h'' : j.val - 128 - 128 < 128 then c (ix4 0 0 i ⟨j.val - 128 - 128, h''⟩) else d (ix4 0 0 i ⟨j.val - 128 - 128 - 128, by omega⟩) := by
  pointwise [sideBySide]

/-- Strips of one matrix give the matrix. -/
theorem sideBySide_at {a b c d : Vec Ideal S1x1x512x128 .f32} {f : ℕ → ℕ → EReal}
    (ha : ∀ (i : Fin 512) (e : Fin 128), a (ix4 0 0 i e) = f i.val (128 * 0 + e.val)) (hb : ∀ (i : Fin 512) (e : Fin 128), b (ix4 0 0 i e) = f i.val (128 * 1 + e.val))
    (hc : ∀ (i : Fin 512) (e : Fin 128), c (ix4 0 0 i e) = f i.val (128 * 2 + e.val)) (hd : ∀ (i : Fin 512) (e : Fin 128), d (ix4 0 0 i e) = f i.val (128 * 3 + e.val))
    (i j : Fin 512) : sideBySide a b c d (ix2 i j) = f i.val j.val := by
  have hj := j.isLt
  rw [sideBySide_split]
  split
  · rw [ha]; congr 1; show 128 * 0 + j.val = j.val; omega
  · split
    · rw [hb]; congr 1; show 128 * 1 + (j.val - 128) = j.val; omega
    · split
      · rw [hc]; congr 1; show 128 * 2 + (j.val - 128 - 128) = j.val; omega
      · rw [hd]; congr 1; show 128 * 3 + (j.val - 128 - 128 - 128) = j.val; omega

/-- The mixture of three blocks. -/
def blend (a b c : FVec Ideal S512x512 .f32) (x : FVec Ideal S512x512 .bf16) (y z : FVec Ideal S512x512 .f32) : FVec Ideal S512x512 .bf16 :=
  truncf .bf16 (divf (addf (addf (mulf (exp (subf a (maximumf (maximumf a b) c))) (extf .f32 x bitsLt_bf16_f32)) (mulf (exp (subf b (maximumf (maximumf a b) c))) y))
    (mulf (exp (subf c (maximumf (maximumf a b) c))) z))
    (addf (addf (exp (subf a (maximumf (maximumf a b) c))) (exp (subf b (maximumf (maximumf a b) c)))) (exp (subf c (maximumf (maximumf a b) c))))) bitsLt_bf16_f32

theorem blend_raw (a b c : FVec Ideal S512x512 .f32) (x : FVec Ideal S512x512 .bf16) (y z : FVec Ideal S512x512 .f32) (i j : Fin 512) :
    blend a b c x y z (ix2 i j) = Ideal.div (Ideal.exp (a (ix2 i j) - max (max (a (ix2 i j)) (b (ix2 i j))) (c (ix2 i j))) * x (ix2 i j)
      + Ideal.exp (b (ix2 i j) - max (max (a (ix2 i j)) (b (ix2 i j))) (c (ix2 i j))) * y (ix2 i j)
      + Ideal.exp (c (ix2 i j) - max (max (a (ix2 i j)) (b (ix2 i j))) (c (ix2 i j))) * z (ix2 i j))
      (Ideal.exp (a (ix2 i j) - max (max (a (ix2 i j)) (b (ix2 i j))) (c (ix2 i j)))
      + Ideal.exp (b (ix2 i j) - max (max (a (ix2 i j)) (b (ix2 i j))) (c (ix2 i j)))
      + Ideal.exp (c (ix2 i j) - max (max (a (ix2 i j)) (b (ix2 i j))) (c (ix2 i j)))) := rfl

/-- It is the mixture by the softmax, of real log-sums. -/
theorem blend_at (a b c : FVec Ideal S512x512 .f32) (x : FVec Ideal S512x512 .bf16) (y z : FVec Ideal S512x512 .f32) (i j : Fin 512)
    (ha : ∃ r : ℝ, a (ix2 i j) = (r : EReal)) (hb : ∃ r : ℝ, b (ix2 i j) = (r : EReal)) (hc : ∃ r : ℝ, c (ix2 i j) = (r : EReal)) :
    blend a b c x y z (ix2 i j) = mixed (a (ix2 i j)) (b (ix2 i j)) (c (ix2 i j)) (x (ix2 i j)) (y (ix2 i j)) (z (ix2 i j)) := by
  rw [blend_raw]
  obtain ⟨p, hp⟩ := ha
  obtain ⟨q, hq⟩ := hb
  obtain ⟨r, hr⟩ := hc
  rw [hp, hq, hr]
  have hm : max (max (p : EReal) (q : EReal)) (r : EReal) = ((max (max p q) r : ℝ) : EReal) := by
    rw [← EReal.coe_strictMono.monotone.map_max, ← EReal.coe_strictMono.monotone.map_max]
  rw [hm]
  exact mixed_of_quotient p q r _ _ _ _

/-- The products, gated and added onto the residual. -/
theorem projected_at (oa : FVec Ideal S512x512 .bf16) (wa : Vec Ideal S512x1024 .bf16) (ob : Vec Ideal S512x512 .bf16) (wb ga gb : Vec Ideal S512x1024 .bf16)
    (x : Vec Ideal S512x1024 .f32) (wo : Vec Ideal S1024x1024 .bf16) (i : Fin 512) (j : Fin 1024) :
    k0_pay212 (F := Ideal) oa wa ob wb ga gb x wo (ix2 i j) = x (ix2 i j) + ∑ k : Fin 1024, (ga (ix2 i k) * (∑ a : Fin 512, oa (ix2 i a) * wa (ix2 a k))
      + gb (ix2 i k) * (∑ a : Fin 512, ob (ix2 i a) * wb (ix2 a k))) * wo (ix2 k j) := by
  pointwise [k0_pay212]

theorem pay19_eq (a b c d : Vec Ideal S1x1x512x128 .f32) : k0_pay19 (F := Ideal) a b c d = sideBySide a b c d := rfl

theorem pay41_eq (a b c d : Vec Ideal S1x1x512x128 .f32) : k0_pay41 (F := Ideal) (k0_pay39 a) (k0_pay40 b) c d = sideBySide a b c d := rfl

theorem pay122_eq (a b c d : Vec Ideal S1x1x512x128 .f32) : k0_pay122 (F := Ideal) a b c d = sideBySide a b c d := rfl

theorem pay211_eq (p : Vec Ideal S512x512 .f32) (q y r : FVec Ideal S512x512 .f32) (a b c d : Vec Ideal S1x1x512x128 .f32) (x : Vec Ideal S512x512 .bf16) :
    k0_pay211 (F := Ideal) p q y r a b c d x = blend p q r x y (sideBySide a b c d) := rfl

end Cert.OutProj
-- ==== Proof.OutHeld.lean ====
module

public import proofs.«01_k».proof.Proof.OutPieces
public import proofs.«01_k».proof.Proof.OutBody
public import proofs.«01_k».proof.Proof.Gen.Kernel5Ideal.Frame.Runs

/-! # Blocks of four and of sixteen tokens a row

What a token's row of a block is, and the pieces of it that the body loads. -/

@[expose] public section

set_option maxRecDepth 16384

noncomputable section
open Idealize.ShloMosaic Idealize.ShloMosaic.TcCoe Idealize.SL.Sem
namespace Cert.OutProj
open Cert.Kernel5Ideal Cert.Kernel5Ideal.Gen

/-- Token `i`, lane `j` of a block that holds four tokens a row, -/
def fours (x : S128x2048.Idx → EReal) (i j : ℕ) : EReal :=
  if h : i < 512 ∧ j < 512 then x (ix2 ⟨i / 4, by omega⟩ ⟨512 * (i % 4) + j, by omega⟩) else 0

/-- and of one that holds sixteen. -/
def sixteens (x : S32x8192.Idx → EReal) (i j : ℕ) : EReal :=
  if h : i < 512 ∧ j < 512 then x (ix2 ⟨i / 16, by omega⟩ ⟨512 * (i % 16) + j, by omega⟩) else 0

/-- The four matrices put in order. -/
def held (x1 : S128x2048.Idx → EReal) (x2 : S32x8192.Idx → EReal) (x4 : S128x2048.Idx → EReal) (x5 : S32x8192.Idx → EReal) (w i j : ℕ) : EReal :=
  match w with
  | 0 => fours x4 i j
  | 1 => fours x1 i j
  | 2 => sixteens x5 i j
  | _ => sixteens x2 i j

theorem fours_real {x : S128x2048.Idx → EReal} (h : ∀ y, ∃ r : ℝ, x y = (r : EReal)) (i j : ℕ) : ∃ r : ℝ, fours x i j = (r : EReal) := by
  unfold fours
  split
  · exact h _
  · exact ⟨0, rfl⟩

theorem sixteens_real {x : S32x8192.Idx → EReal} (h : ∀ y, ∃ r : ℝ, x y = (r : EReal)) (i j : ℕ) : ∃ r : ℝ, sixteens x i j = (r : EReal) := by
  unfold sixteens
  split
  · exact h _
  · exact ⟨0, rfl⟩

/-- A load of some of an argument's columns. -/
theorem load_cols {a b b' o : ℕ} {e : EltTy} (arg : Memref sig .tc .vmem ⟨2, ![a, b]⟩ e) (h : arg.IsWhole) (x : Vec Ideal ⟨2, ![a, b]⟩ e)
    {inb : ∀ z, (![0, o] : Fin 2 → ℕ) z + (⟨2, ![a, b']⟩ : Shape).size z ≤ (⟨2, ![a, b]⟩ : Shape).size z} (i : Fin a) (j : Fin b') (hj : o + j.val < b) :
    View.readAt (Elt Ideal) arg.view (Rect.unit (s := ⟨2, ![a, b]⟩) ![0, o] (⟨2, ![a, b']⟩ : Shape).size inb).toLoadRect (h.unread x) (ix2 i j) = x (ix2 i ⟨o + j.val, hj⟩) := by
  rw [View.readAt_apply]
  refine (congrFun (h.read_unread x) _).trans (congrArg x (funext fun z => Fin.ext ?_))
  fin_cases z
  · show 0 + 1 * i.val = i.val; omega
  · show o + 1 * j.val = o + j.val; omega

/-- A load of all of an argument's buffer. -/
theorem load_all {a b : ℕ} {e : EltTy} (arg : Memref sig .tc .vmem ⟨2, ![a, b]⟩ e) (h : arg.IsWhole) (x : Vec Ideal ⟨2, ![a, b]⟩ e)
    {inb : ∀ z, (![0, 0] : Fin 2 → ℕ) z + (⟨2, ![a, b]⟩ : Shape).size z ≤ (⟨2, ![a, b]⟩ : Shape).size z} :
    View.readAt (Elt Ideal) arg.view (Rect.unit (s := ⟨2, ![a, b]⟩) ![0, 0] (⟨2, ![a, b]⟩ : Shape).size inb).toLoadRect (h.unread x) = x := by
  funext j
  rw [View.readAt_apply]
  refine (congrFun (h.read_unread x) _).trans (congrArg x (funext fun z => Fin.ext ?_))
  fin_cases z
  · show 0 + 1 * (j 0).val = (j 0).val; omega
  · show 0 + 1 * (j 1).val = (j 1).val; omega

/-- A load of 128 columns of one of the four tokens, -/
theorem four_load {e : EltTy} (arg : Memref sig .tc .vmem S128x2048 e) (h : arg.IsWhole) (x : Vec Ideal S128x2048 e) (r c : ℕ) {o : ℕ} (X : S128x2048.Idx → EReal)
    (he : Elt Ideal e = EReal) (hX : ∀ y, X y = cast he (x y)) (ho : o = 512 * r + 128 * c) (hr : r < 4) (hc : c < 4)
    {inb : ∀ z, (![0, o] : Fin 2 → ℕ) z + S128x128.size z ≤ S128x2048.size z} (i j : Fin 128) :
    cast he (View.readAt (Elt Ideal) arg.view (Rect.unit (s := S128x2048) ![0, o] S128x128.size inb).toLoadRect (h.unread x) (ix2 i j))
      = fours X (4 * i.val + r) (128 * c + j.val) := by
  have hi := i.isLt
  have hj := j.isLt
  refine (congrArg (cast he) (load_cols arg h x i j (by omega))).trans ?_
  unfold fours
  rw [dif_pos ⟨by omega, by omega⟩, hX]
  refine congrArg (fun y => cast he (x y)) (congrArg₂ ix2 (Fin.ext ?_) (Fin.ext ?_))
  · show i.val = (4 * i.val + r) / 4; omega
  · show o + j.val = 512 * ((4 * i.val + r) % 4) + (128 * c + j.val); omega

/-- and of one of the sixteen. -/
theorem sixteen_load {e : EltTy} (arg : Memref sig .tc .vmem S32x8192 e) (h : arg.IsWhole) (x : Vec Ideal S32x8192 e) (r c : ℕ) {o : ℕ} (X : S32x8192.Idx → EReal)
    (he : Elt Ideal e = EReal) (hX : ∀ y, X y = cast he (x y)) (ho : o = 512 * r + 128 * c) (hr : r < 16) (hc : c < 4)
    {inb : ∀ z, (![0, o] : Fin 2 → ℕ) z + S32x128.size z ≤ S32x8192.size z} (i : Fin 32) (j : Fin 128) :
    cast he (View.readAt (Elt Ideal) arg.view (Rect.unit (s := S32x8192) ![0, o] S32x128.size inb).toLoadRect (h.unread x) (ix2 i j))
      = sixteens X (16 * i.val + r) (128 * c + j.val) := by
  have hi := i.isLt
  have hj := j.isLt
  refine (congrArg (cast he) (load_cols arg h x i j (by omega))).trans ?_
  unfold sixteens
  rw [dif_pos ⟨by omega, by omega⟩, hX]
  refine congrArg (fun y => cast he (x y)) (congrArg₂ ix2 (Fin.ext ?_) (Fin.ext ?_))
  · show i.val = (16 * i.val + r) / 16; omega
  · show o + j.val = 512 * ((16 * i.val + r) % 16) + (128 * c + j.val); omega

theorem four_load_wide (arg : Memref sig .tc .vmem S128x2048 .f32) (h : arg.IsWhole) (x : Vec Ideal S128x2048 .f32) (r c : ℕ) {o : ℕ}
    (ho : o = 512 * r + 128 * c) (hr : r < 4) (hc : c < 4) {inb : ∀ z, (![0, o] : Fin 2 → ℕ) z + S128x128.size z ≤ S128x2048.size z} (i j : Fin 128) :
    (View.readAt (Elt Ideal) arg.view (Rect.unit (s := S128x2048) ![0, o] S128x128.size inb).toLoadRect (h.unread x) : FVec Ideal S128x128 .f32) (ix2 i j)
      = fours x (4 * i.val + r) (128 * c + j.val) := four_load arg h x r c x rfl (fun _ => rfl) ho hr hc i j

theorem four_load_half (arg : Memref sig .tc .vmem S128x2048 .bf16) (h : arg.IsWhole) (x : Vec Ideal S128x2048 .bf16) (r c : ℕ) {o : ℕ}
    (ho : o = 512 * r + 128 * c) (hr : r < 4) (hc : c < 4) {inb : ∀ z, (![0, o] : Fin 2 → ℕ) z + S128x128.size z ≤ S128x2048.size z} (i j : Fin 128) :
    (extf .f32 (View.readAt (Elt Ideal) arg.view (Rect.unit (s := S128x2048) ![0, o] S128x128.size inb).toLoadRect (h.unread x) : FVec Ideal S128x128 .bf16) bitsLt_bf16_f32 : FVec Ideal S128x128 .f32) (ix2 i j)
      = fours x (4 * i.val + r) (128 * c + j.val) := four_load arg h x r c x rfl (fun _ => rfl) ho hr hc i j

theorem sixteen_load_wide (arg : Memref sig .tc .vmem S32x8192 .f32) (h : arg.IsWhole) (x : Vec Ideal S32x8192 .f32) (r c : ℕ) {o : ℕ}
    (ho : o = 512 * r + 128 * c) (hr : r < 16) (hc : c < 4) {inb : ∀ z, (![0, o] : Fin 2 → ℕ) z + S32x128.size z ≤ S32x8192.size z} (i : Fin 32) (j : Fin 128) :
    (View.readAt (Elt Ideal) arg.view (Rect.unit (s := S32x8192) ![0, o] S32x128.size inb).toLoadRect (h.unread x) : FVec Ideal S32x128 .f32) (ix2 i j)
      = sixteens x (16 * i.val + r) (128 * c + j.val) := sixteen_load arg h x r c x rfl (fun _ => rfl) ho hr hc i j

theorem sixteen_load_half (arg : Memref sig .tc .vmem S32x8192 .bf16) (h : arg.IsWhole) (x : Vec Ideal S32x8192 .bf16) (r c : ℕ) {o : ℕ}
    (ho : o = 512 * r + 128 * c) (hr : r < 16) (hc : c < 4) {inb : ∀ z, (![0, o] : Fin 2 → ℕ) z + S32x128.size z ≤ S32x8192.size z} (i : Fin 32) (j : Fin 128) :
    (extf .f32 (View.readAt (Elt Ideal) arg.view (Rect.unit (s := S32x8192) ![0, o] S32x128.size inb).toLoadRect (h.unread x) : FVec Ideal S32x128 .bf16) bitsLt_bf16_f32 : FVec Ideal S32x128 .f32) (ix2 i j)
      = sixteens x (16 * i.val + r) (128 * c + j.val) := sixteen_load arg h x r c x rfl (fun _ => rfl) ho hr hc i j

/-- A piece of four tokens' rows as it is stored, -/
theorem four_stored (z : FVec Ideal S128x128 .f32) (i j : Fin 128) :
    shapeCast S1x1x128x128 z shapeCasts_S128x128_S1x1x128x128 (ix4 0 0 i j) = z (ix2 i j) := by
  pointwise

/-- one of sixteen tokens' rows, -/
theorem sixteen_stored (z : FVec Ideal S32x128 .f32) (i : Fin 32) (j : Fin 128) :
    shapeCast S1x1x1x32x128 z shapeCasts_S32x128_S1x1x1x32x128 (ix5 0 0 0 i j) = z (ix2 i j) := by
  pointwise

/-- and one that goes from buffer to buffer. -/
theorem passed_on (z : FVec Ideal S1x1x1x128x128 .f32) (i j : Fin 128) :
    shapeCast S1x1x128x128 (shapeCast S128x128 z shapeCasts_S1x1x1x128x128_S128x128) shapeCasts_S128x128_S1x1x128x128 (ix4 0 0 i j) = z (ix5 0 0 0 i j) := by
  pointwise

theorem stored195 (z : Vec Ideal S1x1x1x128x128 .f32) :
    k0_pay195 (F := Ideal) z = shapeCast S1x1x128x128 (shapeCast S128x128 z shapeCasts_S1x1x1x128x128_S128x128) shapeCasts_S128x128_S1x1x128x128 := rfl

theorem stored196 (z : Vec Ideal S1x1x1x128x128 .f32) :
    k0_pay196 (F := Ideal) z = shapeCast S1x1x128x128 (shapeCast S128x128 z shapeCasts_S1x1x1x128x128_S128x128) shapeCasts_S128x128_S1x1x128x128 := rfl

theorem stored197 (z : Vec Ideal S1x1x1x128x128 .f32) :
    k0_pay197 (F := Ideal) z = shapeCast S1x1x128x128 (shapeCast S128x128 z shapeCasts_S1x1x1x128x128_S128x128) shapeCasts_S128x128_S1x1x128x128 := rfl

theorem stored210 (z : Vec Ideal S1x1x1x128x128 .f32) :
    k0_pay210 (F := Ideal) z = shapeCast S1x1x128x128 (shapeCast S128x128 z shapeCasts_S1x1x1x128x128_S128x128) shapeCasts_S128x128_S1x1x128x128 := rfl

/-- The three attention branches of a token, blended by the softmax of their weights. -/
def blended (x0 : S512x512.Idx → EReal) (x1 : S128x2048.Idx → EReal) (x2 : S32x8192.Idx → EReal) (x3 : S512x512.Idx → EReal) (x4 : S128x2048.Idx → EReal)
    (x5 : S32x8192.Idx → EReal) (i j : Fin 512) : EReal :=
  mixed (x3 (ix2 i j)) (fours x4 i.val j.val) (sixteens x5 i.val j.val) (x0 (ix2 i j)) (fours x1 i.val j.val) (sixteens x2 i.val j.val)

/-- A row of a block of the result. -/
def outRow (x0 : S512x512.Idx → EReal) (x1 : S128x2048.Idx → EReal) (x2 : S32x8192.Idx → EReal) (x3 : S512x512.Idx → EReal) (x4 : S128x2048.Idx → EReal)
    (x5 : S32x8192.Idx → EReal) (x6 : S512x512.Idx → EReal) (x7 : S512x2048.Idx → EReal) (x8 : S512x1024.Idx → EReal) (x9 x10 : S512x1024.Idx → EReal)
    (x11 : S1024x1024.Idx → EReal) (i : Fin 512) (j : Fin 1024) : EReal :=
  x8 (ix2 i j) + ∑ k : Fin 1024, (x7 (ix2 i ⟨k.val, by omega⟩) * (∑ a : Fin 512, blended x0 x1 x2 x3 x4 x5 i a * x9 (ix2 a k))
    + x7 (ix2 i ⟨1024 + k.val, by omega⟩) * (∑ a : Fin 512, x6 (ix2 i a) * x10 (ix2 a k))) * x11 (ix2 k j)

/-! ## The pieces of the two buffers -/

def orderedKeys16 : List (ℕ × ℕ × ℕ) := [(0, 3, 3), (0, 2, 3), (0, 1, 3), (0, 0, 3), (0, 3, 2), (0, 2, 2), (0, 1, 2), (0, 0, 2), (0, 3, 1), (0, 2, 1), (0, 1, 1), (0, 0, 1), (0, 3, 0), (0, 2, 0), (0, 1, 0), (0, 0, 0)]

def orderedKeys32 : List (ℕ × ℕ × ℕ) := [(1, 3, 3), (1, 2, 3), (1, 1, 3), (1, 0, 3), (1, 3, 2), (1, 2, 2), (1, 1, 2), (1, 0, 2), (1, 3, 1), (1, 2, 1), (1, 1, 1), (1, 0, 1), (1, 3, 0), (1, 2, 0), (1, 1, 0), (1, 0, 0), (0, 3, 3), (0, 2, 3), (0, 1, 3), (0, 0, 3), (0, 3, 2), (0, 2, 2), (0, 1, 2), (0, 0, 2), (0, 3, 1), (0, 2, 1), (0, 1, 1), (0, 0, 1), (0, 3, 0), (0, 2, 0), (0, 1, 0), (0, 0, 0)]

def orderedKeys48 : List (ℕ × ℕ × ℕ) := [(2, 3, 3), (2, 2, 3), (2, 1, 3), (2, 0, 3), (2, 3, 2), (2, 2, 2), (2, 1, 2), (2, 0, 2), (2, 3, 1), (2, 2, 1), (2, 1, 1), (2, 0, 1), (2, 3, 0), (2, 2, 0), (2, 1, 0), (2, 0, 0), (1, 3, 3), (1, 2, 3), (1, 1, 3), (1, 0, 3), (1, 3, 2), (1, 2, 2), (1, 1, 2), (1, 0, 2), (1, 3, 1), (1, 2, 1), (1, 1, 1), (1, 0, 1), (1, 3, 0), (1, 2, 0), (1, 1, 0), (1, 0, 0), (0, 3, 3), (0, 2, 3), (0, 1, 3), (0, 0, 3), (0, 3, 2), (0, 2, 2), (0, 1, 2), (0, 0, 2), (0, 3, 1), (0, 2, 1), (0, 1, 1), (0, 0, 1), (0, 3, 0), (0, 2, 0), (0, 1, 0), (0, 0, 0)]

def orderedKeys64 : List (ℕ × ℕ × ℕ) := [(3, 3, 3), (3, 2, 3), (3, 1, 3), (3, 0, 3), (3, 3, 2), (3, 2, 2), (3, 1, 2), (3, 0, 2), (3, 3, 1), (3, 2, 1), (3, 1, 1), (3, 0, 1), (3, 3, 0), (3, 2, 0), (3, 1, 0), (3, 0, 0), (2, 3, 3), (2, 2, 3), (2, 1, 3), (2, 0, 3), (2, 3, 2), (2, 2, 2), (2, 1, 2), (2, 0, 2), (2, 3, 1), (2, 2, 1), (2, 1, 1), (2, 0, 1), (2, 3, 0), (2, 2, 0), (2, 1, 0), (2, 0, 0), (1, 3, 3), (1, 2, 3), (1, 1, 3), (1, 0, 3), (1, 3, 2), (1, 2, 2), (1, 1, 2), (1, 0, 2), (1, 3, 1), (1, 2, 1), (1, 1, 1), (1, 0, 1), (1, 3, 0), (1, 2, 0), (1, 1, 0), (1, 0, 0), (0, 3, 3), (0, 2, 3), (0, 1, 3), (0, 0, 3), (0, 3, 2), (0, 2, 2), (0, 1, 2), (0, 0, 2), (0, 3, 1), (0, 2, 1), (0, 1, 1), (0, 0, 1), (0, 3, 0), (0, 2, 0), (0, 1, 0), (0, 0, 0)]

def quarterKeys64 : List (ℕ × ℕ × ℕ × ℕ) := [(0, 3, 3, 3), (0, 3, 2, 3), (0, 3, 1, 3), (0, 3, 0, 3), (0, 3, 3, 2), (0, 3, 2, 2), (0, 3, 1, 2), (0, 3, 0, 2), (0, 3, 3, 1), (0, 3, 2, 1), (0, 3, 1, 1), (0, 3, 0, 1), (0, 3, 3, 0), (0, 3, 2, 0), (0, 3, 1, 0), (0, 3, 0, 0), (0, 2, 3, 3), (0, 2, 2, 3), (0, 2, 1, 3), (0, 2, 0, 3), (0, 2, 3, 2), (0, 2, 2, 2), (0, 2, 1, 2), (0, 2, 0, 2), (0, 2, 3, 1), (0, 2, 2, 1), (0, 2, 1, 1), (0, 2, 0, 1), (0, 2, 3, 0), (0, 2, 2, 0), (0, 2, 1, 0), (0, 2, 0, 0), (0, 1, 3, 3), (0, 1, 2, 3), (0, 1, 1, 3), (0, 1, 0, 3), (0, 1, 3, 2), (0, 1, 2, 2), (0, 1, 1, 2), (0, 1, 0, 2), (0, 1, 3, 1), (0, 1, 2, 1), (0, 1, 1, 1), (0, 1, 0, 1), (0, 1, 3, 0), (0, 1, 2, 0), (0, 1, 1, 0), (0, 1, 0, 0), (0, 0, 3, 3), (0, 0, 2, 3), (0, 0, 1, 3), (0, 0, 0, 3), (0, 0, 3, 2), (0, 0, 2, 2), (0, 0, 1, 2), (0, 0, 0, 2), (0, 0, 3, 1), (0, 0, 2, 1), (0, 0, 1, 1), (0, 0, 0, 1), (0, 0, 3, 0), (0, 0, 2, 0), (0, 0, 1, 0), (0, 0, 0, 0)]

def quarterKeys128 : List (ℕ × ℕ × ℕ × ℕ) := [(1, 3, 3, 3), (1, 3, 2, 3), (1, 3, 1, 3), (1, 3, 0, 3), (1, 3, 3, 2), (1, 3, 2, 2), (1, 3, 1, 2), (1, 3, 0, 2), (1, 3, 3, 1), (1, 3, 2, 1), (1, 3, 1, 1), (1, 3, 0, 1), (1, 3, 3, 0), (1, 3, 2, 0), (1, 3, 1, 0), (1, 3, 0, 0), (1, 2, 3, 3), (1, 2, 2, 3), (1, 2, 1, 3), (1, 2, 0, 3), (1, 2, 3, 2), (1, 2, 2, 2), (1, 2, 1, 2), (1, 2, 0, 2), (1, 2, 3, 1), (1, 2, 2, 1), (1, 2, 1, 1), (1, 2, 0, 1), (1, 2, 3, 0), (1, 2, 2, 0), (1, 2, 1, 0), (1, 2, 0, 0), (1, 1, 3, 3), (1, 1, 2, 3), (1, 1, 1, 3), (1, 1, 0, 3), (1, 1, 3, 2), (1, 1, 2, 2), (1, 1, 1, 2), (1, 1, 0, 2), (1, 1, 3, 1), (1, 1, 2, 1), (1, 1, 1, 1), (1, 1, 0, 1), (1, 1, 3, 0), (1, 1, 2, 0), (1, 1, 1, 0), (1, 1, 0, 0), (1, 0, 3, 3), (1, 0, 2, 3), (1, 0, 1, 3), (1, 0, 0, 3), (1, 0, 3, 2), (1, 0, 2, 2), (1, 0, 1, 2), (1, 0, 0, 2), (1, 0, 3, 1), (1, 0, 2, 1), (1, 0, 1, 1), (1, 0, 0, 1), (1, 0, 3, 0), (1, 0, 2, 0), (1, 0, 1, 0), (1, 0, 0, 0), (0, 3, 3, 3), (0, 3, 2, 3), (0, 3, 1, 3), (0, 3, 0, 3), (0, 3, 3, 2), (0, 3, 2, 2), (0, 3, 1, 2), (0, 3, 0, 2), (0, 3, 3, 1), (0, 3, 2, 1), (0, 3, 1, 1), (0, 3, 0, 1), (0, 3, 3, 0), (0, 3, 2, 0), (0, 3, 1, 0), (0, 3, 0, 0), (0, 2, 3, 3), (0, 2, 2, 3), (0, 2, 1, 3), (0, 2, 0, 3), (0, 2, 3, 2), (0, 2, 2, 2), (0, 2, 1, 2), (0, 2, 0, 2), (0, 2, 3, 1), (0, 2, 2, 1), (0, 2, 1, 1), (0, 2, 0, 1), (0, 2, 3, 0), (0, 2, 2, 0), (0, 2, 1, 0), (0, 2, 0, 0), (0, 1, 3, 3), (0, 1, 2, 3), (0, 1, 1, 3), (0, 1, 0, 3), (0, 1, 3, 2), (0, 1, 2, 2), (0, 1, 1, 2), (0, 1, 0, 2), (0, 1, 3, 1), (0, 1, 2, 1), (0, 1, 1, 1), (0, 1, 0, 1), (0, 1, 3, 0), (0, 1, 2, 0), (0, 1, 1, 0), (0, 1, 0, 0), (0, 0, 3, 3), (0, 0, 2, 3), (0, 0, 1, 3), (0, 0, 0, 3), (0, 0, 3, 2), (0, 0, 2, 2), (0, 0, 1, 2), (0, 0, 0, 2), (0, 0, 3, 1), (0, 0, 2, 1), (0, 0, 1, 1), (0, 0, 0, 1), (0, 0, 3, 0), (0, 0, 2, 0), (0, 0, 1, 0), (0, 0, 0, 0)]

theorem orderedKeys16_mem : ∀ c r : Fin 4, (0, c.val, r.val) ∈ orderedKeys16 := by unfold orderedKeys16; decide +kernel

theorem orderedKeys32_mem : ∀ c r : Fin 4, (1, c.val, r.val) ∈ orderedKeys32 := by unfold orderedKeys32; decide +kernel

theorem orderedKeys48_mem : ∀ c r : Fin 4, (2, c.val, r.val) ∈ orderedKeys48 := by unfold orderedKeys48; decide +kernel

theorem orderedKeys64_mem : ∀ c r : Fin 4, (3, c.val, r.val) ∈ orderedKeys64 := by unfold orderedKeys64; decide +kernel

theorem quarterKeys64_mem : ∀ r c q : Fin 4, (0, r.val, c.val, q.val) ∈ quarterKeys64 := by unfold quarterKeys64; decide +kernel

theorem quarterKeys128_mem : ∀ r c q : Fin 4, (1, r.val, c.val, q.val) ∈ quarterKeys128 := by unfold quarterKeys128; decide +kernel

end Cert.OutProj
-- ==== Proof.OutStateA.lean ====
module

public import proofs.«01_k».proof.Proof.OutHeld
public import proofs.«01_k».proof.Proof.Gen.Kernel5Ideal.Frame.RunA

/-! # What the output projection's body stores into its two scratch buffers (the first row block of a core) -/

@[expose] public section

set_option maxRecDepth 65536

noncomputable section
open Idealize.ShloMosaic Idealize.ShloMosaic.TcCoe Idealize.SL.Sem
namespace Cert.OutProj.CaseA
open Cert.Kernel5Ideal Cert.Kernel5Ideal.Gen Cert.OutProj

variable (c : Dev nD) (arg1 : Memref sig .tc .vmem S512x512 .bf16) (harg1 : arg1.IsWhole) (arg2 : Memref sig .tc .vmem S128x2048 .bf16) (harg2 : arg2.IsWhole)
  (arg3 : Memref sig .tc .vmem S32x8192 .bf16) (harg3 : arg3.IsWhole) (arg4 : Memref sig .tc .vmem S512x512 .f32) (harg4 : arg4.IsWhole)
  (arg5 : Memref sig .tc .vmem S128x2048 .f32) (harg5 : arg5.IsWhole) (arg6 : Memref sig .tc .vmem S32x8192 .f32) (harg6 : arg6.IsWhole)
  (arg22 : Memref sig .tc .vmem S4x4x512x128 .f32) (arg23 : Memref sig .tc .vmem S2x4x4x128x128 .f32)
  (x0 : Vec Ideal S512x512 .bf16) (x1 : Vec Ideal S128x2048 .bf16) (x2 : Vec Ideal S32x8192 .bf16) (x3 : Vec Ideal S512x512 .f32)
  (x4 : Vec Ideal S128x2048 .f32) (x5 : Vec Ideal S32x8192 .f32)

theorem ordered_16 : List.Forall₂ (OrderedIs (held x1 x2 x4 x5)) orderedKeys16 (kernelRun0_A.sl.HS0_16 c arg5 harg5 x4) :=
  .cons ⟨inb_S4x4x512x128_S1x1x128x128_0_3_3_0_s_1_1_4_1, by decide, _, rfl, fun i e => (four_stored _ i e).trans (four_load_wide arg5 harg5 x4 3 3 rfl (by decide) (by decide) i e)⟩ <|
  .cons ⟨inb_S4x4x512x128_S1x1x128x128_0_2_3_0_s_1_1_4_1, by decide, _, rfl, fun i e => (four_stored _ i e).trans (four_load_wide arg5 harg5 x4 3 2 rfl (by decide) (by decide) i e)⟩ <|
  .cons ⟨inb_S4x4x512x128_S1x1x128x128_0_1_3_0_s_1_1_4_1, by decide, _, rfl, fun i e => (four_stored _ i e).trans (four_load_wide arg5 harg5 x4 3 1 rfl (by decide) (by decide) i e)⟩ <|
  .cons ⟨inb_S4x4x512x128_S1x1x128x128_0_0_3_0_s_1_1_4_1, by decide, _, rfl, fun i e => (four_stored _ i e).trans (four_load_wide arg5 harg5 x4 3 0 rfl (by decide) (by decide) i e)⟩ <|
  .cons ⟨inb_S4x4x512x128_S1x1x128x128_0_3_2_0_s_1_1_4_1, by decide, _, rfl, fun i e => (four_stored _ i e).trans (four_load_wide arg5 harg5 x4 2 3 rfl (by decide) (by decide) i e)⟩ <|
  .cons ⟨inb_S4x4x512x128_S1x1x128x128_0_2_2_0_s_1_1_4_1, by decide, _, rfl, fun i e => (four_stored _ i e).trans (four_load_wide arg5 harg5 x4 2 2 rfl (by decide) (by decide) i e)⟩ <|
  .cons ⟨inb_S4x4x512x128_S1x1x128x128_0_1_2_0_s_1_1_4_1, by decide, _, rfl, fun i e => (four_stored _ i e).trans (four_load_wide arg5 harg5 x4 2 1 rfl (by decide) (by decide) i e)⟩ <|
  .cons ⟨inb_S4x4x512x128_S1x1x128x128_0_0_2_0_s_1_1_4_1, by decide, _, rfl, fun i e => (four_stored _ i e).trans (four_load_wide arg5 harg5 x4 2 0 rfl (by decide) (by decide) i e)⟩ <|
  .cons ⟨inb_S4x4x512x128_S1x1x128x128_0_3_1_0_s_1_1_4_1, by decide, _, rfl, fun i e => (four_stored _ i e).trans (four_load_wide arg5 harg5 x4 1 3 rfl (by decide) (by decide) i e)⟩ <|
  .cons ⟨inb_S4x4x512x128_S1x1x128x128_0_2_1_0_s_1_1_4_1, by decide, _, rfl, fun i e => (four_stored _ i e).trans (four_load_wide arg5 harg5 x4 1 2 rfl (by decide) (by decide) i e)⟩ <|
  .cons ⟨inb_S4x4x512x128_S1x1x128x128_0_1_1_0_s_1_1_4_1, by decide, _, rfl, fun i e => (four_stored _ i e).trans (four_load_wide arg5 harg5 x4 1 1 rfl (by decide) (by decide) i e)⟩ <|
  .cons ⟨inb_S4x4x512x128_S1x1x128x128_0_0_1_0_s_1_1_4_1, by decide, _, rfl, fun i e => (four_stored _ i e).trans (four_load_wide arg5 harg5 x4 1 0 rfl (by decide) (by decide) i e)⟩ <|
  .cons ⟨inb_S4x4x512x128_S1x1x128x128_0_3_0_0_s_1_1_4_1, by decide, _, rfl, fun i e => (four_stored _ i e).trans (four_load_wide arg5 harg5 x4 0 3 rfl (by decide) (by decide) i e)⟩ <|
  .cons ⟨inb_S4x4x512x128_S1x1x128x128_0_2_0_0_s_1_1_4_1, by decide, _, rfl, fun i e => (four_stored _ i e).trans (four_load_wide arg5 harg5 x4 0 2 rfl (by decide) (by decide) i e)⟩ <|
  .cons ⟨inb_S4x4x512x128_S1x1x128x128_0_1_0_0_s_1_1_4_1, by decide, _, rfl, fun i e => (four_stored _ i e).trans (four_load_wide arg5 harg5 x4 0 1 rfl (by decide) (by decide) i e)⟩ <|
  .cons ⟨inb_S4x4x512x128_S1x1x128x128_0_0_0_0_s_1_1_4_1, by decide, _, rfl, fun i e => (four_stored _ i e).trans (four_load_wide arg5 harg5 x4 0 0 rfl (by decide) (by decide) i e)⟩ <|
  .nil

theorem ordered_32 : List.Forall₂ (OrderedIs (held x1 x2 x4 x5)) orderedKeys32 (kernelRun0_A.sl.HS0_32 c arg2 harg2 arg5 harg5 x1 x4) :=
  .cons ⟨inb_S4x4x512x128_S1x1x128x128_1_3_3_0_s_1_1_4_1, by decide, _, rfl, fun i e => (four_stored _ i e).trans (four_load_half arg2 harg2 x1 3 3 rfl (by decide) (by decide) i e)⟩ <|
  .cons ⟨inb_S4x4x512x128_S1x1x128x128_1_2_3_0_s_1_1_4_1, by decide, _, rfl, fun i e => (four_stored _ i e).trans (four_load_half arg2 harg2 x1 3 2 rfl (by decide) (by decide) i e)⟩ <|
  .cons ⟨inb_S4x4x512x128_S1x1x128x128_1_1_3_0_s_1_1_4_1, by decide, _, rfl, fun i e => (four_stored _ i e).trans (four_load_half arg2 harg2 x1 3 1 rfl (by decide) (by decide) i e)⟩ <|
  .cons ⟨inb_S4x4x512x128_S1x1x128x128_1_0_3_0_s_1_1_4_1, by decide, _, rfl, fun i e => (four_stored _ i e).trans (four_load_half arg2 harg2 x1 3 0 rfl (by decide) (by decide) i e)⟩ <|
  .cons ⟨inb_S4x4x512x128_S1x1x128x128_1_3_2_0_s_1_1_4_1, by decide, _, rfl, fun i e => (four_stored _ i e).trans (four_load_half arg2 harg2 x1 2 3 rfl (by decide) (by decide) i e)⟩ <|
  .cons ⟨inb_S4x4x512x128_S1x1x128x128_1_2_2_0_s_1_1_4_1, by decide, _, rfl, fun i e => (four_stored _ i e).trans (four_load_half arg2 harg2 x1 2 2 rfl (by decide) (by decide) i e)⟩ <|
  .cons ⟨inb_S4x4x512x128_S1x1x128x128_1_1_2_0_s_1_1_4_1, by decide, _, rfl, fun i e => (four_stored _ i e).trans (four_load_half arg2 harg2 x1 2 1 rfl (by decide) (by decide) i e)⟩ <|
  .cons ⟨inb_S4x4x512x128_S1x1x128x128_1_0_2_0_s_1_1_4_1, by decide, _, rfl, fun i e => (four_stored _ i e).trans (four_load_half arg2 harg2 x1 2 0 rfl (by decide) (by decide) i e)⟩ <|
  .cons ⟨inb_S4x4x512x128_S1x1x128x128_1_3_1_0_s_1_1_4_1, by decide, _, rfl, fun i e => (four_stored _ i e).trans (four_load_half arg2 harg2 x1 1 3 rfl (by decide) (by decide) i e)⟩ <|
  .cons ⟨inb_S4x4x512x128_S1x1x128x128_1_2_1_0_s_1_1_4_1, by decide, _, rfl, fun i e => (four_stored _ i e).trans (four_load_half arg2 harg2 x1 1 2 rfl (by decide) (by decide) i e)⟩ <|
  .cons ⟨inb_S4x4x512x128_S1x1x128x128_1_1_1_0_s_1_1_4_1, by decide, _, rfl, fun i e => (four_stored _ i e).trans (four_load_half arg2 harg2 x1 1 1 rfl (by decide) (by decide) i e)⟩ <|
  .cons ⟨inb_S4x4x512x128_S1x1x128x128_1_0_1_0_s_1_1_4_1, by decide, _, rfl, fun i e => (four_stored _ i e).trans (four_load_half arg2 harg2 x1 1 0 rfl (by decide) (by decide) i e)⟩ <|
  .cons ⟨inb_S4x4x512x128_S1x1x128x128_1_3_0_0_s_1_1_4_1, by decide, _, rfl, fun i e => (four_stored _ i e).trans (four_load_half arg2 harg2 x1 0 3 rfl (by decide) (by decide) i e)⟩ <|
  .cons ⟨inb_S4x4x512x128_S1x1x128x128_1_2_0_0_s_1_1_4_1, by decide, _, rfl, fun i e => (four_stored _ i e).trans (four_load_half arg2 harg2 x1 0 2 rfl (by decide) (by decide) i e)⟩ <|
  .cons ⟨inb_S4x4x512x128_S1x1x128x128_1_1_0_0_s_1_1_4_1, by decide, _, rfl, fun i e => (four_stored _ i e).trans (four_load_half arg2 harg2 x1 0 1 rfl (by decide) (by decide) i e)⟩ <|
  .cons ⟨inb_S4x4x512x128_S1x1x128x128_1_0_0_0_s_1_1_4_1, by decide, _, rfl, fun i e => (four_stored _ i e).trans (four_load_half arg2 harg2 x1 0 0 rfl (by decide) (by decide) i e)⟩ <|
  ordered_16 c arg5 harg5 x1 x2 x4 x5

theorem quarters_64 : List.Forall₂ (QuartersAre (held x1 x2 x4 x5)) quarterKeys64 (kernelRun0_A.sl.HS1_64 c arg6 harg6 x5) :=
  .cons ⟨inb_S2x4x4x128x128_S1x1x1x32x128_0_3_3_3_0_s_1_1_1_4_1, by decide, _, rfl, fun i e => (sixteen_stored _ i e).trans (sixteen_load_wide arg6 harg6 x5 15 3 rfl (by decide) (by decide) i e)⟩ <|
  .cons ⟨inb_S2x4x4x128x128_S1x1x1x32x128_0_3_2_3_0_s_1_1_1_4_1, by decide, _, rfl, fun i e => (sixteen_stored _ i e).trans (sixteen_load_wide arg6 harg6 x5 15 2 rfl (by decide) (by decide) i e)⟩ <|
  .cons ⟨inb_S2x4x4x128x128_S1x1x1x32x128_0_3_1_3_0_s_1_1_1_4_1, by decide, _, rfl, fun i e => (sixteen_stored _ i e).trans (sixteen_load_wide arg6 harg6 x5 15 1 rfl (by decide) (by decide) i e)⟩ <|
  .cons ⟨inb_S2x4x4x128x128_S1x1x1x32x128_0_3_0_3_0_s_1_1_1_4_1, by decide, _, rfl, fun i e => (sixteen_stored _ i e).trans (sixteen_load_wide arg6 harg6 x5 15 0 rfl (by decide) (by decide) i e)⟩ <|
  .cons ⟨inb_S2x4x4x128x128_S1x1x1x32x128_0_3_3_2_0_s_1_1_1_4_1, by decide, _, rfl, fun i e => (sixteen_stored _ i e).trans (sixteen_load_wide arg6 harg6 x5 11 3 rfl (by decide) (by decide) i e)⟩ <|
  .cons ⟨inb_S2x4x4x128x128_S1x1x1x32x128_0_3_2_2_0_s_1_1_1_4_1, by decide, _, rfl, fun i e => (sixteen_stored _ i e).trans (sixteen_load_wide arg6 harg6 x5 11 2 rfl (by decide) (by decide) i e)⟩ <|
  .cons ⟨inb_S2x4x4x128x128_S1x1x1x32x128_0_3_1_2_0_s_1_1_1_4_1, by decide, _, rfl, fun i e => (sixteen_stored _ i e).trans (sixteen_load_wide arg6 harg6 x5 11 1 rfl (by decide) (by decide) i e)⟩ <|
  .cons ⟨inb_S2x4x4x128x128_S1x1x1x32x128_0_3_0_2_0_s_1_1_1_4_1, by decide, _, rfl, fun i e => (sixteen_stored _ i e).trans (sixteen_load_wide arg6 harg6 x5 11 0 rfl (by decide) (by decide) i e)⟩ <|
  .cons ⟨inb_S2x4x4x128x128_S1x1x1x32x128_0_3_3_1_0_s_1_1_1_4_1, by decide, _, rfl, fun i e => (sixteen_stored _ i e).trans (sixteen_load_wide arg6 harg6 x5 7 3 rfl (by decide) (by decide) i e)⟩ <|
  .cons ⟨inb_S2x4x4x128x128_S1x1x1x32x128_0_3_2_1_0_s_1_1_1_4_1, by decide, _, rfl, fun i e => (sixteen_stored _ i e).trans (sixteen_load_wide arg6 harg6 x5 7 2 rfl (by decide) (by decide) i e)⟩ <|
  .cons ⟨inb_S2x4x4x128x128_S1x1x1x32x128_0_3_1_1_0_s_1_1_1_4_1, by decide, _, rfl, fun i e => (sixteen_stored _ i e).trans (sixteen_load_wide arg6 harg6 x5 7 1 rfl (by decide) (by decide) i e)⟩ <|
  .cons ⟨inb_S2x4x4x128x128_S1x1x1x32x128_0_3_0_1_0_s_1_1_1_4_1, by decide, _, rfl, fun i e => (sixteen_stored _ i e).trans (sixteen_load_wide arg6 harg6 x5 7 0 rfl (by decide) (by decide) i e)⟩ <|
  .cons ⟨inb_S2x4x4x128x128_S1x1x1x32x128_0_3_3_0_0_s_1_1_1_4_1, by decide, _, rfl, fun i e => (sixteen_stored _ i e).trans (sixteen_load_wide arg6 harg6 x5 3 3 rfl (by decide) (by decide) i e)⟩ <|
  .cons ⟨inb_S2x4x4x128x128_S1x1x1x32x128_0_3_2_0_0_s_1_1_1_4_1, by decide, _, rfl, fun i e => (sixteen_stored _ i e).trans (sixteen_load_wide arg6 harg6 x5 3 2 rfl (by decide) (by decide) i e)⟩ <|
  .cons ⟨inb_S2x4x4x128x128_S1x1x1x32x128_0_3_1_0_0_s_1_1_1_4_1, by decide, _, rfl, fun i e => (sixteen_stored _ i e).trans (sixteen_load_wide arg6 harg6 x5 3 1 rfl (by decide) (by decide) i e)⟩ <|
  .cons ⟨inb_S2x4x4x128x128_S1x1x1x32x128_0_3_0_0_0_s_1_1_1_4_1, by decide, _, rfl, fun i e => (sixteen_stored _ i e).trans (sixteen_load_wide arg6 harg6 x5 3 0 rfl (by decide) (by decide) i e)⟩ <|
  .cons ⟨inb_S2x4x4x128x128_S1x1x1x32x128_0_2_3_3_0_s_1_1_1_4_1, by decide, _, rfl, fun i e => (sixteen_stored _ i e).trans (sixteen_load_wide arg6 harg6 x5 14 3 rfl (by decide) (by decide) i e)⟩ <|
  .cons ⟨inb_S2x4x4x128x128_S1x1x1x32x128_0_2_2_3_0_s_1_1_1_4_1, by decide, _, rfl, fun i e => (sixteen_stored _ i e).trans (sixteen_load_wide arg6 harg6 x5 14 2 rfl (by decide) (by decide) i e)⟩ <|
  .cons ⟨inb_S2x4x4x128x128_S1x1x1x32x128_0_2_1_3_0_s_1_1_1_4_1, by decide, _, rfl, fun i e => (sixteen_stored _ i e).trans (sixteen_load_wide arg6 harg6 x5 14 1 rfl (by decide) (by decide) i e)⟩ <|
  .cons ⟨inb_S2x4x4x128x128_S1x1x1x32x128_0_2_0_3_0_s_1_1_1_4_1, by decide, _, rfl, fun i e => (sixteen_stored _ i e).trans (sixteen_load_wide arg6 harg6 x5 14 0 rfl (by decide) (by decide) i e)⟩ <|
  .cons ⟨inb_S2x4x4x128x128_S1x1x1x32x128_0_2_3_2_0_s_1_1_1_4_1, by decide, _, rfl, fun i e => (sixteen_stored _ i e).trans (sixteen_load_wide arg6 harg6 x5 10 3 rfl (by decide) (by decide) i e)⟩ <|
  .cons ⟨inb_S2x4x4x128x128_S1x1x1x32x128_0_2_2_2_0_s_1_1_1_4_1, by decide, _, rfl, fun i e => (sixteen_stored _ i e).trans (sixteen_load_wide arg6 harg6 x5 10 2 rfl (by decide) (by decide) i e)⟩ <|
  .cons ⟨inb_S2x4x4x128x128_S1x1x1x32x128_0_2_1_2_0_s_1_1_1_4_1, by decide, _, rfl, fun i e => (sixteen_stored _ i e).trans (sixteen_load_wide arg6 harg6 x5 10 1 rfl (by decide) (by decide) i e)⟩ <|
  .cons ⟨inb_S2x4x4x128x128_S1x1x1x32x128_0_2_0_2_0_s_1_1_1_4_1, by decide, _, rfl, fun i e => (sixteen_stored _ i e).trans (sixteen_load_wide arg6 harg6 x5 10 0 rfl (by decide) (by decide) i e)⟩ <|
  .cons ⟨inb_S2x4x4x128x128_S1x1x1x32x128_0_2_3_1_0_s_1_1_1_4_1, by decide, _, rfl, fun i e => (sixteen_stored _ i e).trans (sixteen_load_wide arg6 harg6 x5 6 3 rfl (by decide) (by decide) i e)⟩ <|
  .cons ⟨inb_S2x4x4x128x128_S1x1x1x32x128_0_2_2_1_0_s_1_1_1_4_1, by decide, _, rfl, fun i e => (sixteen_stored _ i e).trans (sixteen_load_wide arg6 harg6 x5 6 2 rfl (by decide) (by decide) i e)⟩ <|
  .cons ⟨inb_S2x4x4x128x128_S1x1x1x32x128_0_2_1_1_0_s_1_1_1_4_1, by decide, _, rfl, fun i e => (sixteen_stored _ i e).trans (sixteen_load_wide arg6 harg6 x5 6 1 rfl (by decide) (by decide) i e)⟩ <|
  .cons ⟨inb_S2x4x4x128x128_S1x1x1x32x128_0_2_0_1_0_s_1_1_1_4_1, by decide, _, rfl, fun i e => (sixteen_stored _ i e).trans (sixteen_load_wide arg6 harg6 x5 6 0 rfl (by decide) (by decide) i e)⟩ <|
  .cons ⟨inb_S2x4x4x128x128_S1x1x1x32x128_0_2_3_0_0_s_1_1_1_4_1, by decide, _, rfl, fun i e => (sixteen_stored _ i e).trans (sixteen_load_wide arg6 harg6 x5 2 3 rfl (by decide) (by decide) i e)⟩ <|
  .cons ⟨inb_S2x4x4x128x128_S1x1x1x32x128_0_2_2_0_0_s_1_1_1_4_1, by decide, _, rfl, fun i e => (sixteen_stored _ i e).trans (sixteen_load_wide arg6 harg6 x5 2 2 rfl (by decide) (by decide) i e)⟩ <|
  .cons ⟨inb_S2x4x4x128x128_S1x1x1x32x128_0_2_1_0_0_s_1_1_1_4_1, by decide, _, rfl, fun i e => (sixteen_stored _ i e).trans (sixteen_load_wide arg6 harg6 x5 2 1 rfl (by decide) (by decide) i e)⟩ <|
  .cons ⟨inb_S2x4x4x128x128_S1x1x1x32x128_0_2_0_0_0_s_1_1_1_4_1, by decide, _, rfl, fun i e => (sixteen_stored _ i e).trans (sixteen_load_wide arg6 harg6 x5 2 0 rfl (by decide) (by decide) i e)⟩ <|
  .cons ⟨inb_S2x4x4x128x128_S1x1x1x32x128_0_1_3_3_0_s_1_1_1_4_1, by decide, _, rfl, fun i e => (sixteen_stored _ i e).trans (sixteen_load_wide arg6 harg6 x5 13 3 rfl (by decide) (by decide) i e)⟩ <|
  .cons ⟨inb_S2x4x4x128x128_S1x1x1x32x128_0_1_2_3_0_s_1_1_1_4_1, by decide, _, rfl, fun i e => (sixteen_stored _ i e).trans (sixteen_load_wide arg6 harg6 x5 13 2 rfl (by decide) (by decide) i e)⟩ <|
  .cons ⟨inb_S2x4x4x128x128_S1x1x1x32x128_0_1_1_3_0_s_1_1_1_4_1, by decide, _, rfl, fun i e => (sixteen_stored _ i e).trans (sixteen_load_wide arg6 harg6 x5 13 1 rfl (by decide) (by decide) i e)⟩ <|
  .cons ⟨inb_S2x4x4x128x128_S1x1x1x32x128_0_1_0_3_0_s_1_1_1_4_1, by decide, _, rfl, fun i e => (sixteen_stored _ i e).trans (sixteen_load_wide arg6 harg6 x5 13 0 rfl (by decide) (by decide) i e)⟩ <|
  .cons ⟨inb_S2x4x4x128x128_S1x1x1x32x128_0_1_3_2_0_s_1_1_1_4_1, by decide, _, rfl, fun i e => (sixteen_stored _ i e).trans (sixteen_load_wide arg6 harg6 x5 9 3 rfl (by decide) (by decide) i e)⟩ <|
  .cons ⟨inb_S2x4x4x128x128_S1x1x1x32x128_0_1_2_2_0_s_1_1_1_4_1, by decide, _, rfl, fun i e => (sixteen_stored _ i e).trans (sixteen_load_wide arg6 harg6 x5 9 2 rfl (by decide) (by decide) i e)⟩ <|
  .cons ⟨inb_S2x4x4x128x128_S1x1x1x32x128_0_1_1_2_0_s_1_1_1_4_1, by decide, _, rfl, fun i e => (sixteen_stored _ i e).trans (sixteen_load_wide arg6 harg6 x5 9 1 rfl (by decide) (by decide) i e)⟩ <|
  .cons ⟨inb_S2x4x4x128x128_S1x1x1x32x128_0_1_0_2_0_s_1_1_1_4_1, by decide, _, rfl, fun i e => (sixteen_stored _ i e).trans (sixteen_load_wide arg6 harg6 x5 9 0 rfl (by decide) (by decide) i e)⟩ <|
  .cons ⟨inb_S2x4x4x128x128_S1x1x1x32x128_0_1_3_1_0_s_1_1_1_4_1, by decide, _, rfl, fun i e => (sixteen_stored _ i e).trans (sixteen_load_wide arg6 harg6 x5 5 3 rfl (by decide) (by decide) i e)⟩ <|
  .cons ⟨inb_S2x4x4x128x128_S1x1x1x32x128_0_1_2_1_0_s_1_1_1_4_1, by decide, _, rfl, fun i e => (sixteen_stored _ i e).trans (sixteen_load_wide arg6 harg6 x5 5 2 rfl (by decide) (by decide) i e)⟩ <|
  .cons ⟨inb_S2x4x4x128x128_S1x1x1x32x128_0_1_1_1_0_s_1_1_1_4_1, by decide, _, rfl, fun i e => (sixteen_stored _ i e).trans (sixteen_load_wide arg6 harg6 x5 5 1 rfl (by decide) (by decide) i e)⟩ <|
  .cons ⟨inb_S2x4x4x128x128_S1x1x1x32x128_0_1_0_1_0_s_1_1_1_4_1, by decide, _, rfl, fun i e => (sixteen_stored _ i e).trans (sixteen_load_wide arg6 harg6 x5 5 0 rfl (by decide) (by decide) i e)⟩ <|
  .cons ⟨inb_S2x4x4x128x128_S1x1x1x32x128_0_1_3_0_0_s_1_1_1_4_1, by decide, _, rfl, fun i e => (sixteen_stored _ i e).trans (sixteen_load_wide arg6 harg6 x5 1 3 rfl (by decide) (by decide) i e)⟩ <|
  .cons ⟨inb_S2x4x4x128x128_S1x1x1x32x128_0_1_2_0_0_s_1_1_1_4_1, by decide, _, rfl, fun i e => (sixteen_stored _ i e).trans (sixteen_load_wide arg6 harg6 x5 1 2 rfl (by decide) (by decide) i e)⟩ <|
  .cons ⟨inb_S2x4x4x128x128_S1x1x1x32x128_0_1_1_0_0_s_1_1_1_4_1, by decide, _, rfl, fun i e => (sixteen_stored _ i e).trans (sixteen_load_wide arg6 harg6 x5 1 1 rfl (by decide) (by decide) i e)⟩ <|
  .cons ⟨inb_S2x4x4x128x128_S1x1x1x32x128_0_1_0_0_0_s_1_1_1_4_1, by decide, _, rfl, fun i e => (sixteen_stored _ i e).trans (sixteen_load_wide arg6 harg6 x5 1 0 rfl (by decide) (by decide) i e)⟩ <|
  .cons ⟨inb_S2x4x4x128x128_S1x1x1x32x128_0_0_3_3_0_s_1_1_1_4_1, by decide, _, rfl, fun i e => (sixteen_stored _ i e).trans (sixteen_load_wide arg6 harg6 x5 12 3 rfl (by decide) (by decide) i e)⟩ <|
  .cons ⟨inb_S2x4x4x128x128_S1x1x1x32x128_0_0_2_3_0_s_1_1_1_4_1, by decide, _, rfl, fun i e => (sixteen_stored _ i e).trans (sixteen_load_wide arg6 harg6 x5 12 2 rfl (by decide) (by decide) i e)⟩ <|
  .cons ⟨inb_S2x4x4x128x128_S1x1x1x32x128_0_0_1_3_0_s_1_1_1_4_1, by decide, _, rfl, fun i e => (sixteen_stored _ i e).trans (sixteen_load_wide arg6 harg6 x5 12 1 rfl (by decide) (by decide) i e)⟩ <|
  .cons ⟨inb_S2x4x4x128x128_S1x1x1x32x128_0_0_0_3_0_s_1_1_1_4_1, by decide, _, rfl, fun i e => (sixteen_stored _ i e).trans (sixteen_load_wide arg6 harg6 x5 12 0 rfl (by decide) (by decide) i e)⟩ <|
  .cons ⟨inb_S2x4x4x128x128_S1x1x1x32x128_0_0_3_2_0_s_1_1_1_4_1, by decide, _, rfl, fun i e => (sixteen_stored _ i e).trans (sixteen_load_wide arg6 harg6 x5 8 3 rfl (by decide) (by decide) i e)⟩ <|
  .cons ⟨inb_S2x4x4x128x128_S1x1x1x32x128_0_0_2_2_0_s_1_1_1_4_1, by decide, _, rfl, fun i e => (sixteen_stored _ i e).trans (sixteen_load_wide arg6 harg6 x5 8 2 rfl (by decide) (by decide) i e)⟩ <|
  .cons ⟨inb_S2x4x4x128x128_S1x1x1x32x128_0_0_1_2_0_s_1_1_1_4_1, by decide, _, rfl, fun i e => (sixteen_stored _ i e).trans (sixteen_load_wide arg6 harg6 x5 8 1 rfl (by decide) (by decide) i e)⟩ <|
  .cons ⟨inb_S2x4x4x128x128_S1x1x1x32x128_0_0_0_2_0_s_1_1_1_4_1, by decide, _, rfl, fun i e => (sixteen_stored _ i e).trans (sixteen_load_wide arg6 harg6 x5 8 0 rfl (by decide) (by decide) i e)⟩ <|
  .cons ⟨inb_S2x4x4x128x128_S1x1x1x32x128_0_0_3_1_0_s_1_1_1_4_1, by decide, _, rfl, fun i e => (sixteen_stored _ i e).trans (sixteen_load_wide arg6 harg6 x5 4 3 rfl (by decide) (by decide) i e)⟩ <|
  .cons ⟨inb_S2x4x4x128x128_S1x1x1x32x128_0_0_2_1_0_s_1_1_1_4_1, by decide, _, rfl, fun i e => (sixteen_stored _ i e).trans (sixteen_load_wide arg6 harg6 x5 4 2 rfl (by decide) (by decide) i e)⟩ <|
  .cons ⟨inb_S2x4x4x128x128_S1x1x1x32x128_0_0_1_1_0_s_1_1_1_4_1, by decide, _, rfl, fun i e => (sixteen_stored _ i e).trans (sixteen_load_wide arg6 harg6 x5 4 1 rfl (by decide) (by decide) i e)⟩ <|
  .cons ⟨inb_S2x4x4x128x128_S1x1x1x32x128_0_0_0_1_0_s_1_1_1_4_1, by decide, _, rfl, fun i e => (sixteen_stored _ i e).trans (sixteen_load_wide arg6 harg6 x5 4 0 rfl (by decide) (by decide) i e)⟩ <|
  .cons ⟨inb_S2x4x4x128x128_S1x1x1x32x128_0_0_3_0_0_s_1_1_1_4_1, by decide, _, rfl, fun i e => (sixteen_stored _ i e).trans (sixteen_load_wide arg6 harg6 x5 0 3 rfl (by decide) (by decide) i e)⟩ <|
  .cons ⟨inb_S2x4x4x128x128_S1x1x1x32x128_0_0_2_0_0_s_1_1_1_4_1, by decide, _, rfl, fun i e => (sixteen_stored _ i e).trans (sixteen_load_wide arg6 harg6 x5 0 2 rfl (by decide) (by decide) i e)⟩ <|
  .cons ⟨inb_S2x4x4x128x128_S1x1x1x32x128_0_0_1_0_0_s_1_1_1_4_1, by decide, _, rfl, fun i e => (sixteen_stored _ i e).trans (sixteen_load_wide arg6 harg6 x5 0 1 rfl (by decide) (by decide) i e)⟩ <|
  .cons ⟨inb_S2x4x4x128x128_S1x1x1x32x128_0_0_0_0_0_s_1_1_1_4_1, by decide, _, rfl, fun i e => (sixteen_stored _ i e).trans (sixteen_load_wide arg6 harg6 x5 0 0 rfl (by decide) (by decide) i e)⟩ <|
  .nil

theorem ordered_48 : List.Forall₂ (OrderedIs (held x1 x2 x4 x5)) orderedKeys48 (kernelRun0_A.sl.HS0_48 c arg2 harg2 arg5 harg5 arg6 harg6 arg23 x1 x4 x5) :=
  .cons ⟨inb_S4x4x512x128_S1x1x128x128_2_3_3_0_s_1_1_4_1, by decide, _, rfl, fun i e => (passed_on _ i e).trans (quarter_strip_at arg23.view (quarters_64 c arg6 harg6 x1 x2 x4 x5) (quarterKeys64_mem 3 3) i e)⟩ <|
  .cons ⟨inb_S4x4x512x128_S1x1x128x128_2_2_3_0_s_1_1_4_1, by decide, _, rfl, fun i e => (passed_on _ i e).trans (quarter_strip_at arg23.view (quarters_64 c arg6 harg6 x1 x2 x4 x5) (quarterKeys64_mem 3 2) i e)⟩ <|
  .cons ⟨inb_S4x4x512x128_S1x1x128x128_2_1_3_0_s_1_1_4_1, by decide, _, rfl, fun i e => (passed_on _ i e).trans (quarter_strip_at arg23.view (quarters_64 c arg6 harg6 x1 x2 x4 x5) (quarterKeys64_mem 3 1) i e)⟩ <|
  .cons ⟨inb_S4x4x512x128_S1x1x128x128_2_0_3_0_s_1_1_4_1, by decide, _, rfl, fun i e => (passed_on _ i e).trans (quarter_strip_at arg23.view (quarters_64 c arg6 harg6 x1 x2 x4 x5) (quarterKeys64_mem 3 0) i e)⟩ <|
  .cons ⟨inb_S4x4x512x128_S1x1x128x128_2_3_2_0_s_1_1_4_1, by decide, _, rfl, fun i e => (passed_on _ i e).trans (quarter_strip_at arg23.view (quarters_64 c arg6 harg6 x1 x2 x4 x5) (quarterKeys64_mem 2 3) i e)⟩ <|
  .cons ⟨inb_S4x4x512x128_S1x1x128x128_2_2_2_0_s_1_1_4_1, by decide, _, rfl, fun i e => (passed_on _ i e).trans (quarter_strip_at arg23.view (quarters_64 c arg6 harg6 x1 x2 x4 x5) (quarterKeys64_mem 2 2) i e)⟩ <|
  .cons ⟨inb_S4x4x512x128_S1x1x128x128_2_1_2_0_s_1_1_4_1, by decide, _, rfl, fun i e => (passed_on _ i e).trans (quarter_strip_at arg23.view (quarters_64 c arg6 harg6 x1 x2 x4 x5) (quarterKeys64_mem 2 1) i e)⟩ <|
  .cons ⟨inb_S4x4x512x128_S1x1x128x128_2_0_2_0_s_1_1_4_1, by decide, _, rfl, fun i e => (passed_on _ i e).trans (quarter_strip_at arg23.view (quarters_64 c arg6 harg6 x1 x2 x4 x5) (quarterKeys64_mem 2 0) i e)⟩ <|
  .cons ⟨inb_S4x4x512x128_S1x1x128x128_2_3_1_0_s_1_1_4_1, by decide, _, rfl, fun i e => (passed_on _ i e).trans (quarter_strip_at arg23.view (quarters_64 c arg6 harg6 x1 x2 x4 x5) (quarterKeys64_mem 1 3) i e)⟩ <|
  .cons ⟨inb_S4x4x512x128_S1x1x128x128_2_2_1_0_s_1_1_4_1, by decide, _, rfl, fun i e => (passed_on _ i e).trans (quarter_strip_at arg23.view (quarters_64 c arg6 harg6 x1 x2 x4 x5) (quarterKeys64_mem 1 2) i e)⟩ <|
  .cons ⟨inb_S4x4x512x128_S1x1x128x128_2_1_1_0_s_1_1_4_1, by decide, _, rfl, fun i e => (passed_on _ i e).trans (quarter_strip_at arg23.view (quarters_64 c arg6 harg6 x1 x2 x4 x5) (quarterKeys64_mem 1 1) i e)⟩ <|
  .cons ⟨inb_S4x4x512x128_S1x1x128x128_2_0_1_0_s_1_1_4_1, by decide, _, rfl, fun i e => (passed_on _ i e).trans (quarter_strip_at arg23.view (quarters_64 c arg6 harg6 x1 x2 x4 x5) (quarterKeys64_mem 1 0) i e)⟩ <|
  .cons ⟨inb_S4x4x512x128_S1x1x128x128_2_3_0_0_s_1_1_4_1, by decide, _, rfl, fun i e => (passed_on _ i e).trans (quarter_strip_at arg23.view (quarters_64 c arg6 harg6 x1 x2 x4 x5) (quarterKeys64_mem 0 3) i e)⟩ <|
  .cons ⟨inb_S4x4x512x128_S1x1x128x128_2_2_0_0_s_1_1_4_1, by decide, _, rfl, fun i e => (passed_on _ i e).trans (quarter_strip_at arg23.view (quarters_64 c arg6 harg6 x1 x2 x4 x5) (quarterKeys64_mem 0 2) i e)⟩ <|
  .cons ⟨inb_S4x4x512x128_S1x1x128x128_2_1_0_0_s_1_1_4_1, by decide, _, rfl, fun i e => (passed_on _ i e).trans (quarter_strip_at arg23.view (quarters_64 c arg6 harg6 x1 x2 x4 x5) (quarterKeys64_mem 0 1) i e)⟩ <|
  .cons ⟨inb_S4x4x512x128_S1x1x128x128_2_0_0_0_s_1_1_4_1, by decide, _, rfl, fun i e => (passed_on _ i e).trans (quarter_strip_at arg23.view (quarters_64 c arg6 harg6 x1 x2 x4 x5) (quarterKeys64_mem 0 0) i e)⟩ <|
  ordered_32 c arg2 harg2 arg5 harg5 x1 x2 x4 x5

theorem quarters_128 : List.Forall₂ (QuartersAre (held x1 x2 x4 x5)) quarterKeys128 (kernelRun0_A.sl.HS1_128 c arg3 harg3 arg6 harg6 x2 x5) :=
  .cons ⟨inb_S2x4x4x128x128_S1x1x1x32x128_1_3_3_3_0_s_1_1_1_4_1, by decide, _, rfl, fun i e => (sixteen_stored _ i e).trans (sixteen_load_half arg3 harg3 x2 15 3 rfl (by decide) (by decide) i e)⟩ <|
  .cons ⟨inb_S2x4x4x128x128_S1x1x1x32x128_1_3_2_3_0_s_1_1_1_4_1, by decide, _, rfl, fun i e => (sixteen_stored _ i e).trans (sixteen_load_half arg3 harg3 x2 15 2 rfl (by decide) (by decide) i e)⟩ <|
  .cons ⟨inb_S2x4x4x128x128_S1x1x1x32x128_1_3_1_3_0_s_1_1_1_4_1, by decide, _, rfl, fun i e => (sixteen_stored _ i e).trans (sixteen_load_half arg3 harg3 x2 15 1 rfl (by decide) (by decide) i e)⟩ <|
  .cons ⟨inb_S2x4x4x128x128_S1x1x1x32x128_1_3_0_3_0_s_1_1_1_4_1, by decide, _, rfl, fun i e => (sixteen_stored _ i e).trans (sixteen_load_half arg3 harg3 x2 15 0 rfl (by decide) (by decide) i e)⟩ <|
  .cons ⟨inb_S2x4x4x128x128_S1x1x1x32x128_1_3_3_2_0_s_1_1_1_4_1, by decide, _, rfl, fun i e => (sixteen_stored _ i e).trans (sixteen_load_half arg3 harg3 x2 11 3 rfl (by decide) (by decide) i e)⟩ <|
  .cons ⟨inb_S2x4x4x128x128_S1x1x1x32x128_1_3_2_2_0_s_1_1_1_4_1, by decide, _, rfl, fun i e => (sixteen_stored _ i e).trans (sixteen_load_half arg3 harg3 x2 11 2 rfl (by decide) (by decide) i e)⟩ <|
  .cons ⟨inb_S2x4x4x128x128_S1x1x1x32x128_1_3_1_2_0_s_1_1_1_4_1, by decide, _, rfl, fun i e => (sixteen_stored _ i e).trans (sixteen_load_half arg3 harg3 x2 11 1 rfl (by decide) (by decide) i e)⟩ <|
  .cons ⟨inb_S2x4x4x128x128_S1x1x1x32x128_1_3_0_2_0_s_1_1_1_4_1, by decide, _, rfl, fun i e => (sixteen_stored _ i e).trans (sixteen_load_half arg3 harg3 x2 11 0 rfl (by decide) (by decide) i e)⟩ <|
  .cons ⟨inb_S2x4x4x128x128_S1x1x1x32x128_1_3_3_1_0_s_1_1_1_4_1, by decide, _, rfl, fun i e => (sixteen_stored _ i e).trans (sixteen_load_half arg3 harg3 x2 7 3 rfl (by decide) (by decide) i e)⟩ <|
  .cons ⟨inb_S2x4x4x128x128_S1x1x1x32x128_1_3_2_1_0_s_1_1_1_4_1, by decide, _, rfl, fun i e => (sixteen_stored _ i e).trans (sixteen_load_half arg3 harg3 x2 7 2 rfl (by decide) (by decide) i e)⟩ <|
  .cons ⟨inb_S2x4x4x128x128_S1x1x1x32x128_1_3_1_1_0_s_1_1_1_4_1, by decide, _, rfl, fun i e => (sixteen_stored _ i e).trans (sixteen_load_half arg3 harg3 x2 7 1 rfl (by decide) (by decide) i e)⟩ <|
  .cons ⟨inb_S2x4x4x128x128_S1x1x1x32x128_1_3_0_1_0_s_1_1_1_4_1, by decide, _, rfl, fun i e => (sixteen_stored _ i e).trans (sixteen_load_half arg3 harg3 x2 7 0 rfl (by decide) (by decide) i e)⟩ <|
  .cons ⟨inb_S2x4x4x128x128_S1x1x1x32x128_1_3_3_0_0_s_1_1_1_4_1, by decide, _, rfl, fun i e => (sixteen_stored _ i e).trans (sixteen_load_half arg3 harg3 x2 3 3 rfl (by decide) (by decide) i e)⟩ <|
  .cons ⟨inb_S2x4x4x128x128_S1x1x1x32x128_1_3_2_0_0_s_1_1_1_4_1, by decide, _, rfl, fun i e => (sixteen_stored _ i e).trans (sixteen_load_half arg3 harg3 x2 3 2 rfl (by decide) (by decide) i e)⟩ <|
  .cons ⟨inb_S2x4x4x128x128_S1x1x1x32x128_1_3_1_0_0_s_1_1_1_4_1, by decide, _, rfl, fun i e => (sixteen_stored _ i e).trans (sixteen_load_half arg3 harg3 x2 3 1 rfl (by decide) (by decide) i e)⟩ <|
  .cons ⟨inb_S2x4x4x128x128_S1x1x1x32x128_1_3_0_0_0_s_1_1_1_4_1, by decide, _, rfl, fun i e => (sixteen_stored _ i e).trans (sixteen_load_half arg3 harg3 x2 3 0 rfl (by decide) (by decide) i e)⟩ <|
  .cons ⟨inb_S2x4x4x128x128_S1x1x1x32x128_1_2_3_3_0_s_1_1_1_4_1, by decide, _, rfl, fun i e => (sixteen_stored _ i e).trans (sixteen_load_half arg3 harg3 x2 14 3 rfl (by decide) (by decide) i e)⟩ <|
  .cons ⟨inb_S2x4x4x128x128_S1x1x1x32x128_1_2_2_3_0_s_1_1_1_4_1, by decide, _, rfl, fun i e => (sixteen_stored _ i e).trans (sixteen_load_half arg3 harg3 x2 14 2 rfl (by decide) (by decide) i e)⟩ <|
  .cons ⟨inb_S2x4x4x128x128_S1x1x1x32x128_1_2_1_3_0_s_1_1_1_4_1, by decide, _, rfl, fun i e => (sixteen_stored _ i e).trans (sixteen_load_half arg3 harg3 x2 14 1 rfl (by decide) (by decide) i e)⟩ <|
  .cons ⟨inb_S2x4x4x128x128_S1x1x1x32x128_1_2_0_3_0_s_1_1_1_4_1, by decide, _, rfl, fun i e => (sixteen_stored _ i e).trans (sixteen_load_half arg3 harg3 x2 14 0 rfl (by decide) (by decide) i e)⟩ <|
  .cons ⟨inb_S2x4x4x128x128_S1x1x1x32x128_1_2_3_2_0_s_1_1_1_4_1, by decide, _, rfl, fun i e => (sixteen_stored _ i e).trans (sixteen_load_half arg3 harg3 x2 10 3 rfl (by decide) (by decide) i e)⟩ <|
  .cons ⟨inb_S2x4x4x128x128_S1x1x1x32x128_1_2_2_2_0_s_1_1_1_4_1, by decide, _, rfl, fun i e => (sixteen_stored _ i e).trans (sixteen_load_half arg3 harg3 x2 10 2 rfl (by decide) (by decide) i e)⟩ <|
  .cons ⟨inb_S2x4x4x128x128_S1x1x1x32x128_1_2_1_2_0_s_1_1_1_4_1, by decide, _, rfl, fun i e => (sixteen_stored _ i e).trans (sixteen_load_half arg3 harg3 x2 10 1 rfl (by decide) (by decide) i e)⟩ <|
  .cons ⟨inb_S2x4x4x128x128_S1x1x1x32x128_1_2_0_2_0_s_1_1_1_4_1, by decide, _, rfl, fun i e => (sixteen_stored _ i e).trans (sixteen_load_half arg3 harg3 x2 10 0 rfl (by decide) (by decide) i e)⟩ <|
  .cons ⟨inb_S2x4x4x128x128_S1x1x1x32x128_1_2_3_1_0_s_1_1_1_4_1, by decide, _, rfl, fun i e => (sixteen_stored _ i e).trans (sixteen_load_half arg3 harg3 x2 6 3 rfl (by decide) (by decide) i e)⟩ <|
  .cons ⟨inb_S2x4x4x128x128_S1x1x1x32x128_1_2_2_1_0_s_1_1_1_4_1, by decide, _, rfl, fun i e => (sixteen_stored _ i e).trans (sixteen_load_half arg3 harg3 x2 6 2 rfl (by decide) (by decide) i e)⟩ <|
  .cons ⟨inb_S2x4x4x128x128_S1x1x1x32x128_1_2_1_1_0_s_1_1_1_4_1, by decide, _, rfl, fun i e => (sixteen_stored _ i e).trans (sixteen_load_half arg3 harg3 x2 6 1 rfl (by decide) (by decide) i e)⟩ <|
  .cons ⟨inb_S2x4x4x128x128_S1x1x1x32x128_1_2_0_1_0_s_1_1_1_4_1, by decide, _, rfl, fun i e => (sixteen_stored _ i e).trans (sixteen_load_half arg3 harg3 x2 6 0 rfl (by decide) (by decide) i e)⟩ <|
  .cons ⟨inb_S2x4x4x128x128_S1x1x1x32x128_1_2_3_0_0_s_1_1_1_4_1, by decide, _, rfl, fun i e => (sixteen_stored _ i e).trans (sixteen_load_half arg3 harg3 x2 2 3 rfl (by decide) (by decide) i e)⟩ <|
  .cons ⟨inb_S2x4x4x128x128_S1x1x1x32x128_1_2_2_0_0_s_1_1_1_4_1, by decide, _, rfl, fun i e => (sixteen_stored _ i e).trans (sixteen_load_half arg3 harg3 x2 2 2 rfl (by decide) (by decide) i e)⟩ <|
  .cons ⟨inb_S2x4x4x128x128_S1x1x1x32x128_1_2_1_0_0_s_1_1_1_4_1, by decide, _, rfl, fun i e => (sixteen_stored _ i e).trans (sixteen_load_half arg3 harg3 x2 2 1 rfl (by decide) (by decide) i e)⟩ <|
  .cons ⟨inb_S2x4x4x128x128_S1x1x1x32x128_1_2_0_0_0_s_1_1_1_4_1, by decide, _, rfl, fun i e => (sixteen_stored _ i e).trans (sixteen_load_half arg3 harg3 x2 2 0 rfl (by decide) (by decide) i e)⟩ <|
  .cons ⟨inb_S2x4x4x128x128_S1x1x1x32x128_1_1_3_3_0_s_1_1_1_4_1, by decide, _, rfl, fun i e => (sixteen_stored _ i e).trans (sixteen_load_half arg3 harg3 x2 13 3 rfl (by decide) (by decide) i e)⟩ <|
  .cons ⟨inb_S2x4x4x128x128_S1x1x1x32x128_1_1_2_3_0_s_1_1_1_4_1, by decide, _, rfl, fun i e => (sixteen_stored _ i e).trans (sixteen_load_half arg3 harg3 x2 13 2 rfl (by decide) (by decide) i e)⟩ <|
  .cons ⟨inb_S2x4x4x128x128_S1x1x1x32x128_1_1_1_3_0_s_1_1_1_4_1, by decide, _, rfl, fun i e => (sixteen_stored _ i e).trans (sixteen_load_half arg3 harg3 x2 13 1 rfl (by decide) (by decide) i e)⟩ <|
  .cons ⟨inb_S2x4x4x128x128_S1x1x1x32x128_1_1_0_3_0_s_1_1_1_4_1, by decide, _, rfl, fun i e => (sixteen_stored _ i e).trans (sixteen_load_half arg3 harg3 x2 13 0 rfl (by decide) (by decide) i e)⟩ <|
  .cons ⟨inb_S2x4x4x128x128_S1x1x1x32x128_1_1_3_2_0_s_1_1_1_4_1, by decide, _, rfl, fun i e => (sixteen_stored _ i e).trans (sixteen_load_half arg3 harg3 x2 9 3 rfl (by decide) (by decide) i e)⟩ <|
  .cons ⟨inb_S2x4x4x128x128_S1x1x1x32x128_1_1_2_2_0_s_1_1_1_4_1, by decide, _, rfl, fun i e => (sixteen_stored _ i e).trans (sixteen_load_half arg3 harg3 x2 9 2 rfl (by decide) (by decide) i e)⟩ <|
  .cons ⟨inb_S2x4x4x128x128_S1x1x1x32x128_1_1_1_2_0_s_1_1_1_4_1, by decide, _, rfl, fun i e => (sixteen_stored _ i e).trans (sixteen_load_half arg3 harg3 x2 9 1 rfl (by decide) (by decide) i e)⟩ <|
  .cons ⟨inb_S2x4x4x128x128_S1x1x1x32x128_1_1_0_2_0_s_1_1_1_4_1, by decide, _, rfl, fun i e => (sixteen_stored _ i e).trans (sixteen_load_half arg3 harg3 x2 9 0 rfl (by decide) (by decide) i e)⟩ <|
  .cons ⟨inb_S2x4x4x128x128_S1x1x1x32x128_1_1_3_1_0_s_1_1_1_4_1, by decide, _, rfl, fun i e => (sixteen_stored _ i e).trans (sixteen_load_half arg3 harg3 x2 5 3 rfl (by decide) (by decide) i e)⟩ <|
  .cons ⟨inb_S2x4x4x128x128_S1x1x1x32x128_1_1_2_1_0_s_1_1_1_4_1, by decide, _, rfl, fun i e => (sixteen_stored _ i e).trans (sixteen_load_half arg3 harg3 x2 5 2 rfl (by decide) (by decide) i e)⟩ <|
  .cons ⟨inb_S2x4x4x128x128_S1x1x1x32x128_1_1_1_1_0_s_1_1_1_4_1, by decide, _, rfl, fun i e => (sixteen_stored _ i e).trans (sixteen_load_half arg3 harg3 x2 5 1 rfl (by decide) (by decide) i e)⟩ <|
  .cons ⟨inb_S2x4x4x128x128_S1x1x1x32x128_1_1_0_1_0_s_1_1_1_4_1, by decide, _, rfl, fun i e => (sixteen_stored _ i e).trans (sixteen_load_half arg3 harg3 x2 5 0 rfl (by decide) (by decide) i e)⟩ <|
  .cons ⟨inb_S2x4x4x128x128_S1x1x1x32x128_1_1_3_0_0_s_1_1_1_4_1, by decide, _, rfl, fun i e => (sixteen_stored _ i e).trans (sixteen_load_half arg3 harg3 x2 1 3 rfl (by decide) (by decide) i e)⟩ <|
  .cons ⟨inb_S2x4x4x128x128_S1x1x1x32x128_1_1_2_0_0_s_1_1_1_4_1, by decide, _, rfl, fun i e => (sixteen_stored _ i e).trans (sixteen_load_half arg3 harg3 x2 1 2 rfl (by decide) (by decide) i e)⟩ <|
  .cons ⟨inb_S2x4x4x128x128_S1x1x1x32x128_1_1_1_0_0_s_1_1_1_4_1, by decide, _, rfl, fun i e => (sixteen_stored _ i e).trans (sixteen_load_half arg3 harg3 x2 1 1 rfl (by decide) (by decide) i e)⟩ <|
  .cons ⟨inb_S2x4x4x128x128_S1x1x1x32x128_1_1_0_0_0_s_1_1_1_4_1, by decide, _, rfl, fun i e => (sixteen_stored _ i e).trans (sixteen_load_half arg3 harg3 x2 1 0 rfl (by decide) (by decide) i e)⟩ <|
  .cons ⟨inb_S2x4x4x128x128_S1x1x1x32x128_1_0_3_3_0_s_1_1_1_4_1, by decide, _, rfl, fun i e => (sixteen_stored _ i e).trans (sixteen_load_half arg3 harg3 x2 12 3 rfl (by decide) (by decide) i e)⟩ <|
  .cons ⟨inb_S2x4x4x128x128_S1x1x1x32x128_1_0_2_3_0_s_1_1_1_4_1, by decide, _, rfl, fun i e => (sixteen_stored _ i e).trans (sixteen_load_half arg3 harg3 x2 12 2 rfl (by decide) (by decide) i e)⟩ <|
  .cons ⟨inb_S2x4x4x128x128_S1x1x1x32x128_1_0_1_3_0_s_1_1_1_4_1, by decide, _, rfl, fun i e => (sixteen_stored _ i e).trans (sixteen_load_half arg3 harg3 x2 12 1 rfl (by decide) (by decide) i e)⟩ <|
  .cons ⟨inb_S2x4x4x128x128_S1x1x1x32x128_1_0_0_3_0_s_1_1_1_4_1, by decide, _, rfl, fun i e => (sixteen_stored _ i e).trans (sixteen_load_half arg3 harg3 x2 12 0 rfl (by decide) (by decide) i e)⟩ <|
  .cons ⟨inb_S2x4x4x128x128_S1x1x1x32x128_1_0_3_2_0_s_1_1_1_4_1, by decide, _, rfl, fun i e => (sixteen_stored _ i e).trans (sixteen_load_half arg3 harg3 x2 8 3 rfl (by decide) (by decide) i e)⟩ <|
  .cons ⟨inb_S2x4x4x128x128_S1x1x1x32x128_1_0_2_2_0_s_1_1_1_4_1, by decide, _, rfl, fun i e => (sixteen_stored _ i e).trans (sixteen_load_half arg3 harg3 x2 8 2 rfl (by decide) (by decide) i e)⟩ <|
  .cons ⟨inb_S2x4x4x128x128_S1x1x1x32x128_1_0_1_2_0_s_1_1_1_4_1, by decide, _, rfl, fun i e => (sixteen_stored _ i e).trans (sixteen_load_half arg3 harg3 x2 8 1 rfl (by decide) (by decide) i e)⟩ <|
  .cons ⟨inb_S2x4x4x128x128_S1x1x1x32x128_1_0_0_2_0_s_1_1_1_4_1, by decide, _, rfl, fun i e => (sixteen_stored _ i e).trans (sixteen_load_half arg3 harg3 x2 8 0 rfl (by decide) (by decide) i e)⟩ <|
  .cons ⟨inb_S2x4x4x128x128_S1x1x1x32x128_1_0_3_1_0_s_1_1_1_4_1, by decide, _, rfl, fun i e => (sixteen_stored _ i e).trans (sixteen_load_half arg3 harg3 x2 4 3 rfl (by decide) (by decide) i e)⟩ <|
  .cons ⟨inb_S2x4x4x128x128_S1x1x1x32x128_1_0_2_1_0_s_1_1_1_4_1, by decide, _, rfl, fun i e => (sixteen_stored _ i e).trans (sixteen_load_half arg3 harg3 x2 4 2 rfl (by decide) (by decide) i e)⟩ <|
  .cons ⟨inb_S2x4x4x128x128_S1x1x1x32x128_1_0_1_1_0_s_1_1_1_4_1, by decide, _, rfl, fun i e => (sixteen_stored _ i e).trans (sixteen_load_half arg3 harg3 x2 4 1 rfl (by decide) (by decide) i e)⟩ <|
  .cons ⟨inb_S2x4x4x128x128_S1x1x1x32x128_1_0_0_1_0_s_1_1_1_4_1, by decide, _, rfl, fun i e => (sixteen_stored _ i e).trans (sixteen_load_half arg3 harg3 x2 4 0 rfl (by decide) (by decide) i e)⟩ <|
  .cons ⟨inb_S2x4x4x128x128_S1x1x1x32x128_1_0_3_0_0_s_1_1_1_4_1, by decide, _, rfl, fun i e => (sixteen_stored _ i e).trans (sixteen_load_half arg3 harg3 x2 0 3 rfl (by decide) (by decide) i e)⟩ <|
  .cons ⟨inb_S2x4x4x128x128_S1x1x1x32x128_1_0_2_0_0_s_1_1_1_4_1, by decide, _, rfl, fun i e => (sixteen_stored _ i e).trans (sixteen_load_half arg3 harg3 x2 0 2 rfl (by decide) (by decide) i e)⟩ <|
  .cons ⟨inb_S2x4x4x128x128_S1x1x1x32x128_1_0_1_0_0_s_1_1_1_4_1, by decide, _, rfl, fun i e => (sixteen_stored _ i e).trans (sixteen_load_half arg3 harg3 x2 0 1 rfl (by decide) (by decide) i e)⟩ <|
  .cons ⟨inb_S2x4x4x128x128_S1x1x1x32x128_1_0_0_0_0_s_1_1_1_4_1, by decide, _, rfl, fun i e => (sixteen_stored _ i e).trans (sixteen_load_half arg3 harg3 x2 0 0 rfl (by decide) (by decide) i e)⟩ <|
  quarters_64 c arg6 harg6 x1 x2 x4 x5

theorem ordered_52 : List.Forall₂ (OrderedIs (held x1 x2 x4 x5)) ((3, 3, 0) :: (3, 2, 0) :: (3, 1, 0) :: (3, 0, 0) :: orderedKeys48) (kernelRun0_A.sl.HS0_52 c arg2 harg2 arg3 harg3 arg5 harg5 arg6 harg6 arg23 x1 x2 x4 x5) := by
  refine .cons ⟨inb_S4x4x512x128_S1x1x128x128_3_3_0_0_s_1_1_4_1, by decide, _, rfl, fun i e => ?_⟩ ?_
  · refine (passed_on _ i e).trans ?_
    exact quarter_strip_at arg23.view (w := 1) (r := 0) (c := 3) (quarters_128 c arg3 harg3 arg6 harg6 x1 x2 x4 x5) (quarterKeys128_mem 0 3) i e
  refine .cons ⟨inb_S4x4x512x128_S1x1x128x128_3_2_0_0_s_1_1_4_1, by decide, _, rfl, fun i e => ?_⟩ ?_
  · refine (congrFun (stored197 _) _).trans ?_
    refine (passed_on _ i e).trans ?_
    exact quarter_strip_at arg23.view (w := 1) (r := 0) (c := 2) (quarters_128 c arg3 harg3 arg6 harg6 x1 x2 x4 x5) (quarterKeys128_mem 0 2) i e
  refine .cons ⟨inb_S4x4x512x128_S1x1x128x128_3_1_0_0_s_1_1_4_1, by decide, _, rfl, fun i e => ?_⟩ ?_
  · refine (congrFun (stored196 _) _).trans ?_
    refine (passed_on _ i e).trans ?_
    exact quarter_strip_at arg23.view (w := 1) (r := 0) (c := 1) (quarters_128 c arg3 harg3 arg6 harg6 x1 x2 x4 x5) (quarterKeys128_mem 0 1) i e
  refine .cons ⟨inb_S4x4x512x128_S1x1x128x128_3_0_0_0_s_1_1_4_1, by decide, _, rfl, fun i e => ?_⟩ ?_
  · refine (congrFun (stored195 _) _).trans ?_
    refine (passed_on _ i e).trans ?_
    exact quarter_strip_at arg23.view (w := 1) (r := 0) (c := 0) (quarters_128 c arg3 harg3 arg6 harg6 x1 x2 x4 x5) (quarterKeys128_mem 0 0) i e
  exact ordered_48 c arg2 harg2 arg5 harg5 arg6 harg6 arg23 x1 x2 x4 x5

theorem ordered_53 : List.Forall₂ (OrderedIs (held x1 x2 x4 x5)) ((3, 0, 1) :: (3, 3, 0) :: (3, 2, 0) :: (3, 1, 0) :: (3, 0, 0) :: orderedKeys48) (kernelRun0_A.sl.HS0_53 c arg2 harg2 arg3 harg3 arg5 harg5 arg6 harg6 arg23 x1 x2 x4 x5) :=
  .cons ⟨inb_S4x4x512x128_S1x1x128x128_3_0_1_0_s_1_1_4_1, by decide, _, rfl, fun i e => (passed_on _ i e).trans (quarter_strip_at arg23.view (w := 1) (r := 1) (c := 0) (quarters_128 c arg3 harg3 arg6 harg6 x1 x2 x4 x5) (quarterKeys128_mem 1 0) i e)⟩ <|
  ordered_52 c arg2 harg2 arg3 harg3 arg5 harg5 arg6 harg6 arg23 x1 x2 x4 x5

theorem ordered_54 : List.Forall₂ (OrderedIs (held x1 x2 x4 x5)) ((3, 1, 1) :: (3, 0, 1) :: (3, 3, 0) :: (3, 2, 0) :: (3, 1, 0) :: (3, 0, 0) :: orderedKeys48) (kernelRun0_A.sl.HS0_54 c arg2 harg2 arg3 harg3 arg5 harg5 arg6 harg6 arg23 x1 x2 x4 x5) :=
  .cons ⟨inb_S4x4x512x128_S1x1x128x128_3_1_1_0_s_1_1_4_1, by decide, _, rfl, fun i e => (passed_on _ i e).trans (quarter_strip_at arg23.view (w := 1) (r := 1) (c := 1) (quarters_128 c arg3 harg3 arg6 harg6 x1 x2 x4 x5) (quarterKeys128_mem 1 1) i e)⟩ <|
  ordered_53 c arg2 harg2 arg3 harg3 arg5 harg5 arg6 harg6 arg23 x1 x2 x4 x5

theorem ordered_55 : List.Forall₂ (OrderedIs (held x1 x2 x4 x5)) ((3, 2, 1) :: (3, 1, 1) :: (3, 0, 1) :: (3, 3, 0) :: (3, 2, 0) :: (3, 1, 0) :: (3, 0, 0) :: orderedKeys48) (kernelRun0_A.sl.HS0_55 c arg2 harg2 arg3 harg3 arg5 harg5 arg6 harg6 arg23 x1 x2 x4 x5) :=
  .cons ⟨inb_S4x4x512x128_S1x1x128x128_3_2_1_0_s_1_1_4_1, by decide, _, rfl, fun i e => (passed_on _ i e).trans (quarter_strip_at arg23.view (w := 1) (r := 1) (c := 2) (quarters_128 c arg3 harg3 arg6 harg6 x1 x2 x4 x5) (quarterKeys128_mem 1 2) i e)⟩ <|
  ordered_54 c arg2 harg2 arg3 harg3 arg5 harg5 arg6 harg6 arg23 x1 x2 x4 x5

theorem ordered_56 : List.Forall₂ (OrderedIs (held x1 x2 x4 x5)) ((3, 3, 1) :: (3, 2, 1) :: (3, 1, 1) :: (3, 0, 1) :: (3, 3, 0) :: (3, 2, 0) :: (3, 1, 0) :: (3, 0, 0) :: orderedKeys48) (kernelRun0_A.sl.HS0_56 c arg2 harg2 arg3 harg3 arg5 harg5 arg6 harg6 arg23 x1 x2 x4 x5) :=
  .cons ⟨inb_S4x4x512x128_S1x1x128x128_3_3_1_0_s_1_1_4_1, by decide, _, rfl, fun i e => (passed_on _ i e).trans (quarter_strip_at arg23.view (w := 1) (r := 1) (c := 3) (quarters_128 c arg3 harg3 arg6 harg6 x1 x2 x4 x5) (quarterKeys128_mem 1 3) i e)⟩ <|
  ordered_55 c arg2 harg2 arg3 harg3 arg5 harg5 arg6 harg6 arg23 x1 x2 x4 x5

theorem ordered_57 : List.Forall₂ (OrderedIs (held x1 x2 x4 x5)) ((3, 0, 2) :: (3, 3, 1) :: (3, 2, 1) :: (3, 1, 1) :: (3, 0, 1) :: (3, 3, 0) :: (3, 2, 0) :: (3, 1, 0) :: (3, 0, 0) :: orderedKeys48) (kernelRun0_A.sl.HS0_57 c arg2 harg2 arg3 harg3 arg5 harg5 arg6 harg6 arg23 x1 x2 x4 x5) :=
  .cons ⟨inb_S4x4x512x128_S1x1x128x128_3_0_2_0_s_1_1_4_1, by decide, _, rfl, fun i e => (passed_on _ i e).trans (quarter_strip_at arg23.view (w := 1) (r := 2) (c := 0) (quarters_128 c arg3 harg3 arg6 harg6 x1 x2 x4 x5) (quarterKeys128_mem 2 0) i e)⟩ <|
  ordered_56 c arg2 harg2 arg3 harg3 arg5 harg5 arg6 harg6 arg23 x1 x2 x4 x5

theorem ordered_58 : List.Forall₂ (OrderedIs (held x1 x2 x4 x5)) ((3, 1, 2) :: (3, 0, 2) :: (3, 3, 1) :: (3, 2, 1) :: (3, 1, 1) :: (3, 0, 1) :: (3, 3, 0) :: (3, 2, 0) :: (3, 1, 0) :: (3, 0, 0) :: orderedKeys48) (kernelRun0_A.sl.HS0_58 c arg2 harg2 arg3 harg3 arg5 harg5 arg6 harg6 arg23 x1 x2 x4 x5) :=
  .cons ⟨inb_S4x4x512x128_S1x1x128x128_3_1_2_0_s_1_1_4_1, by decide, _, rfl, fun i e => (passed_on _ i e).trans (quarter_strip_at arg23.view (w := 1) (r := 2) (c := 1) (quarters_128 c arg3 harg3 arg6 harg6 x1 x2 x4 x5) (quarterKeys128_mem 2 1) i e)⟩ <|
  ordered_57 c arg2 harg2 arg3 harg3 arg5 harg5 arg6 harg6 arg23 x1 x2 x4 x5

theorem ordered_59 : List.Forall₂ (OrderedIs (held x1 x2 x4 x5)) ((3, 2, 2) :: (3, 1, 2) :: (3, 0, 2) :: (3, 3, 1) :: (3, 2, 1) :: (3, 1, 1) :: (3, 0, 1) :: (3, 3, 0) :: (3, 2, 0) :: (3, 1, 0) :: (3, 0, 0) :: orderedKeys48) (kernelRun0_A.sl.HS0_59 c arg2 harg2 arg3 harg3 arg5 harg5 arg6 harg6 arg23 x1 x2 x4 x5) :=
  .cons ⟨inb_S4x4x512x128_S1x1x128x128_3_2_2_0_s_1_1_4_1, by decide, _, rfl, fun i e => (passed_on _ i e).trans (quarter_strip_at arg23.view (w := 1) (r := 2) (c := 2) (quarters_128 c arg3 harg3 arg6 harg6 x1 x2 x4 x5) (quarterKeys128_mem 2 2) i e)⟩ <|
  ordered_58 c arg2 harg2 arg3 harg3 arg5 harg5 arg6 harg6 arg23 x1 x2 x4 x5

theorem ordered_60 : List.Forall₂ (OrderedIs (held x1 x2 x4 x5)) ((3, 3, 2) :: (3, 2, 2) :: (3, 1, 2) :: (3, 0, 2) :: (3, 3, 1) :: (3, 2, 1) :: (3, 1, 1) :: (3, 0, 1) :: (3, 3, 0) :: (3, 2, 0) :: (3, 1, 0) :: (3, 0, 0) :: orderedKeys48) (kernelRun0_A.sl.HS0_60 c arg2 harg2 arg3 harg3 arg5 harg5 arg6 harg6 arg23 x1 x2 x4 x5) :=
  .cons ⟨inb_S4x4x512x128_S1x1x128x128_3_3_2_0_s_1_1_4_1, by decide, _, rfl, fun i e => (passed_on _ i e).trans (quarter_strip_at arg23.view (w := 1) (r := 2) (c := 3) (quarters_128 c arg3 harg3 arg6 harg6 x1 x2 x4 x5) (quarterKeys128_mem 2 3) i e)⟩ <|
  ordered_59 c arg2 harg2 arg3 harg3 arg5 harg5 arg6 harg6 arg23 x1 x2 x4 x5

theorem ordered_61 : List.Forall₂ (OrderedIs (held x1 x2 x4 x5)) ((3, 0, 3) :: (3, 3, 2) :: (3, 2, 2) :: (3, 1, 2) :: (3, 0, 2) :: (3, 3, 1) :: (3, 2, 1) :: (3, 1, 1) :: (3, 0, 1) :: (3, 3, 0) :: (3, 2, 0) :: (3, 1, 0) :: (3, 0, 0) :: orderedKeys48) (kernelRun0_A.sl.HS0_61 c arg2 harg2 arg3 harg3 arg5 harg5 arg6 harg6 arg23 x1 x2 x4 x5) :=
  .cons ⟨inb_S4x4x512x128_S1x1x128x128_3_0_3_0_s_1_1_4_1, by decide, _, rfl, fun i e => (passed_on _ i e).trans (quarter_strip_at arg23.view (w := 1) (r := 3) (c := 0) (quarters_128 c arg3 harg3 arg6 harg6 x1 x2 x4 x5) (quarterKeys128_mem 3 0) i e)⟩ <|
  ordered_60 c arg2 harg2 arg3 harg3 arg5 harg5 arg6 harg6 arg23 x1 x2 x4 x5

theorem ordered_62 : List.Forall₂ (OrderedIs (held x1 x2 x4 x5)) ((3, 1, 3) :: (3, 0, 3) :: (3, 3, 2) :: (3, 2, 2) :: (3, 1, 2) :: (3, 0, 2) :: (3, 3, 1) :: (3, 2, 1) :: (3, 1, 1) :: (3, 0, 1) :: (3, 3, 0) :: (3, 2, 0) :: (3, 1, 0) :: (3, 0, 0) :: orderedKeys48) (kernelRun0_A.sl.HS0_62 c arg2 harg2 arg3 harg3 arg5 harg5 arg6 harg6 arg23 x1 x2 x4 x5) :=
  .cons ⟨inb_S4x4x512x128_S1x1x128x128_3_1_3_0_s_1_1_4_1, by decide, _, rfl, fun i e => (passed_on _ i e).trans (quarter_strip_at arg23.view (w := 1) (r := 3) (c := 1) (quarters_128 c arg3 harg3 arg6 harg6 x1 x2 x4 x5) (quarterKeys128_mem 3 1) i e)⟩ <|
  ordered_61 c arg2 harg2 arg3 harg3 arg5 harg5 arg6 harg6 arg23 x1 x2 x4 x5

theorem ordered_64 : List.Forall₂ (OrderedIs (held x1 x2 x4 x5)) (orderedKeys64) (kernelRun0_A.sl.HS0_64 c arg2 harg2 arg3 harg3 arg5 harg5 arg6 harg6 arg23 x1 x2 x4 x5) := by
  unfold orderedKeys64
  refine .cons ⟨inb_S4x4x512x128_S1x1x128x128_3_3_3_0_s_1_1_4_1, by decide, _, rfl, fun i e => ?_⟩ ?_
  · refine (congrFun (stored210 _) _).trans ?_
    refine (passed_on _ i e).trans ?_
    exact quarter_strip_at arg23.view (w := 1) (r := 3) (c := 3) (quarters_128 c arg3 harg3 arg6 harg6 x1 x2 x4 x5) (quarterKeys128_mem 3 3) i e
  refine .cons ⟨inb_S4x4x512x128_S1x1x128x128_3_2_3_0_s_1_1_4_1, by decide, _, rfl, fun i e => ?_⟩ ?_
  · refine (passed_on _ i e).trans ?_
    exact quarter_strip_at arg23.view (w := 1) (r := 3) (c := 2) (quarters_128 c arg3 harg3 arg6 harg6 x1 x2 x4 x5) (quarterKeys128_mem 3 2) i e
  exact ordered_62 c arg2 harg2 arg3 harg3 arg5 harg5 arg6 harg6 arg23 x1 x2 x4 x5

theorem strips_0 (i j : Fin 512) : (kernelRun0_A.sl.r_3 c arg5 harg5 arg22 x4 : FVec Ideal S512x512 .f32) (ix2 i j) = held x1 x2 x4 x5 0 i.val j.val := by
  refine (congrFun (pay19_eq _ _ _ _) (ix2 i j)).trans ?_
  exact sideBySide_at (f := held x1 x2 x4 x5 0) (fun i e => strip_at arg22.view (ordered_16 c arg5 harg5 x1 x2 x4 x5) (orderedKeys16_mem 0) i e) (fun i e => strip_at arg22.view (ordered_16 c arg5 harg5 x1 x2 x4 x5) (orderedKeys16_mem 1) i e) (fun i e => strip_at arg22.view (ordered_16 c arg5 harg5 x1 x2 x4 x5) (orderedKeys16_mem 2) i e) (fun i e => strip_at arg22.view (ordered_16 c arg5 harg5 x1 x2 x4 x5) (orderedKeys16_mem 3) i e) i j

theorem strips_1 (i j : Fin 512) : (kernelRun0_A.sl.v165 c arg2 harg2 arg5 harg5 arg22 x1 x4 : FVec Ideal S512x512 .f32) (ix2 i j) = held x1 x2 x4 x5 1 i.val j.val := by
  refine (congrFun (pay41_eq _ _ _ _) (ix2 i j)).trans ?_
  exact sideBySide_at (f := held x1 x2 x4 x5 1) (fun i e => strip_at arg22.view (ordered_32 c arg2 harg2 arg5 harg5 x1 x2 x4 x5) (orderedKeys32_mem 0) i e) (fun i e => strip_at arg22.view (ordered_32 c arg2 harg2 arg5 harg5 x1 x2 x4 x5) (orderedKeys32_mem 1) i e) (fun i e => strip_at arg22.view (ordered_32 c arg2 harg2 arg5 harg5 x1 x2 x4 x5) (orderedKeys32_mem 2) i e) (fun i e => strip_at arg22.view (ordered_32 c arg2 harg2 arg5 harg5 x1 x2 x4 x5) (orderedKeys32_mem 3) i e) i j

theorem strips_2 (i j : Fin 512) : (kernelRun0_A.sl.r_21 c arg2 harg2 arg5 harg5 arg6 harg6 arg22 arg23 x1 x4 x5 : FVec Ideal S512x512 .f32) (ix2 i j) = held x1 x2 x4 x5 2 i.val j.val := by
  refine (congrFun (pay122_eq _ _ _ _) (ix2 i j)).trans ?_
  exact sideBySide_at (f := held x1 x2 x4 x5 2) (fun i e => strip_at arg22.view (ordered_48 c arg2 harg2 arg5 harg5 arg6 harg6 arg23 x1 x2 x4 x5) (orderedKeys48_mem 0) i e) (fun i e => strip_at arg22.view (ordered_48 c arg2 harg2 arg5 harg5 arg6 harg6 arg23 x1 x2 x4 x5) (orderedKeys48_mem 1) i e) (fun i e => strip_at arg22.view (ordered_48 c arg2 harg2 arg5 harg5 arg6 harg6 arg23 x1 x2 x4 x5) (orderedKeys48_mem 2) i e) (fun i e => strip_at arg22.view (ordered_48 c arg2 harg2 arg5 harg5 arg6 harg6 arg23 x1 x2 x4 x5) (orderedKeys48_mem 3) i e) i j

theorem strips_3 (i j : Fin 512) : (sideBySide (kernelRun0_A.sl.v911 c arg2 harg2 arg3 harg3 arg5 harg5 arg6 harg6 arg22 arg23 x1 x2 x4 x5) (kernelRun0_A.sl.v913 c arg2 harg2 arg3 harg3 arg5 harg5 arg6 harg6 arg22 arg23 x1 x2 x4 x5) (kernelRun0_A.sl.v915 c arg2 harg2 arg3 harg3 arg5 harg5 arg6 harg6 arg22 arg23 x1 x2 x4 x5) (kernelRun0_A.sl.v917 c arg2 harg2 arg3 harg3 arg5 harg5 arg6 harg6 arg22 arg23 x1 x2 x4 x5) : FVec Ideal S512x512 .f32) (ix2 i j) = held x1 x2 x4 x5 3 i.val j.val := by
  refine (congrFun (rfl) (ix2 i j)).trans ?_
  exact sideBySide_at (f := held x1 x2 x4 x5 3) (fun i e => strip_at arg22.view (ordered_64 c arg2 harg2 arg3 harg3 arg5 harg5 arg6 harg6 arg23 x1 x2 x4 x5) (orderedKeys64_mem 0) i e) (fun i e => strip_at arg22.view (ordered_64 c arg2 harg2 arg3 harg3 arg5 harg5 arg6 harg6 arg23 x1 x2 x4 x5) (orderedKeys64_mem 1) i e) (fun i e => strip_at arg22.view (ordered_64 c arg2 harg2 arg3 harg3 arg5 harg5 arg6 harg6 arg23 x1 x2 x4 x5) (orderedKeys64_mem 2) i e) (fun i e => strip_at arg22.view (ordered_64 c arg2 harg2 arg3 harg3 arg5 harg5 arg6 harg6 arg23 x1 x2 x4 x5) (orderedKeys64_mem 3) i e) i j

/-- The three attention branches of a token, blended. -/
theorem blend_held (h3 : ∀ y, ∃ r : ℝ, x3 y = (r : EReal)) (h4 : ∀ y, ∃ r : ℝ, x4 y = (r : EReal)) (h5 : ∀ y, ∃ r : ℝ, x5 y = (r : EReal)) (i j : Fin 512) :
    (kernelRun0_A.sl.r_32 c arg1 harg1 arg2 harg2 arg3 harg3 arg4 harg4 arg5 harg5 arg6 harg6 arg22 arg23 x0 x1 x2 x3 x4 x5 : FVec Ideal S512x512 .bf16) (ix2 i j) = blended x0 x1 x2 x3 x4 x5 i j := by
  have e0 := strips_0 c arg5 harg5 arg22 x1 x2 x4 x5 i j
  have e1 := strips_1 c arg2 harg2 arg5 harg5 arg22 x1 x2 x4 x5 i j
  have e2 := strips_2 c arg2 harg2 arg5 harg5 arg6 harg6 arg22 arg23 x1 x2 x4 x5 i j
  have e3 := strips_3 c arg2 harg2 arg3 harg3 arg5 harg5 arg6 harg6 arg22 arg23 x1 x2 x4 x5 i j
  have ep : (kernelRun0_A.sl.r c arg4 harg4 x3 : FVec Ideal S512x512 .f32) = x3 := load_all arg4 harg4 x3
  refine (congrFun (pay211_eq _ _ _ _ _ _ _ _ _) (ix2 i j)).trans ?_
  refine (blend_at _ _ _ _ _ _ i j ?_ ?_ ?_).trans ?_
  · rw [ep]; exact h3 _
  · rw [e0]; exact fours_real h4 _ _
  · rw [e2]; exact sixteens_real h5 _ _
  · rw [ep, e0, e1, e2, e3, load_all arg1 harg1 x0]
    rfl

end Cert.OutProj.CaseA
-- ==== Proof.OutStateB.lean ====
module

public import proofs.«01_k».proof.Proof.OutHeld
public import proofs.«01_k».proof.Proof.Gen.Kernel5Ideal.Frame.RunB

/-! # What the output projection's body stores into its two scratch buffers (the later row blocks of a core) -/

@[expose] public section

set_option maxRecDepth 65536

noncomputable section
open Idealize.ShloMosaic Idealize.ShloMosaic.TcCoe Idealize.SL.Sem
namespace Cert.OutProj.CaseB
open Cert.Kernel5Ideal Cert.Kernel5Ideal.Gen Cert.OutProj

variable (c : Dev nD) (arg1 : Memref sig .tc .vmem S512x512 .bf16) (harg1 : arg1.IsWhole) (arg2 : Memref sig .tc .vmem S128x2048 .bf16) (harg2 : arg2.IsWhole)
  (arg3 : Memref sig .tc .vmem S32x8192 .bf16) (harg3 : arg3.IsWhole) (arg4 : Memref sig .tc .vmem S512x512 .f32) (harg4 : arg4.IsWhole)
  (arg5 : Memref sig .tc .vmem S128x2048 .f32) (harg5 : arg5.IsWhole) (arg6 : Memref sig .tc .vmem S32x8192 .f32) (harg6 : arg6.IsWhole)
  (arg22 : Memref sig .tc .vmem S4x4x512x128 .f32) (arg23 : Memref sig .tc .vmem S2x4x4x128x128 .f32)
  (x0 : Vec Ideal S512x512 .bf16) (x1 : Vec Ideal S128x2048 .bf16) (x2 : Vec Ideal S32x8192 .bf16) (x3 : Vec Ideal S512x512 .f32)
  (x4 : Vec Ideal S128x2048 .f32) (x5 : Vec Ideal S32x8192 .f32)

theorem ordered_16 : List.Forall₂ (OrderedIs (held x1 x2 x4 x5)) orderedKeys16 (kernelRun0_B.sl.HS0_16 c arg5 harg5 x4) :=
  .cons ⟨inb_S4x4x512x128_S1x1x128x128_0_3_3_0_s_1_1_4_1, by decide, _, rfl, fun i e => (four_stored _ i e).trans (four_load_wide arg5 harg5 x4 3 3 rfl (by decide) (by decide) i e)⟩ <|
  .cons ⟨inb_S4x4x512x128_S1x1x128x128_0_2_3_0_s_1_1_4_1, by decide, _, rfl, fun i e => (four_stored _ i e).trans (four_load_wide arg5 harg5 x4 3 2 rfl (by decide) (by decide) i e)⟩ <|
  .cons ⟨inb_S4x4x512x128_S1x1x128x128_0_1_3_0_s_1_1_4_1, by decide, _, rfl, fun i e => (four_stored _ i e).trans (four_load_wide arg5 harg5 x4 3 1 rfl (by decide) (by decide) i e)⟩ <|
  .cons ⟨inb_S4x4x512x128_S1x1x128x128_0_0_3_0_s_1_1_4_1, by decide, _, rfl, fun i e => (four_stored _ i e).trans (four_load_wide arg5 harg5 x4 3 0 rfl (by decide) (by decide) i e)⟩ <|
  .cons ⟨inb_S4x4x512x128_S1x1x128x128_0_3_2_0_s_1_1_4_1, by decide, _, rfl, fun i e => (four_stored _ i e).trans (four_load_wide arg5 harg5 x4 2 3 rfl (by decide) (by decide) i e)⟩ <|
  .cons ⟨inb_S4x4x512x128_S1x1x128x128_0_2_2_0_s_1_1_4_1, by decide, _, rfl, fun i e => (four_stored _ i e).trans (four_load_wide arg5 harg5 x4 2 2 rfl (by decide) (by decide) i e)⟩ <|
  .cons ⟨inb_S4x4x512x128_S1x1x128x128_0_1_2_0_s_1_1_4_1, by decide, _, rfl, fun i e => (four_stored _ i e).trans (four_load_wide arg5 harg5 x4 2 1 rfl (by decide) (by decide) i e)⟩ <|
  .cons ⟨inb_S4x4x512x128_S1x1x128x128_0_0_2_0_s_1_1_4_1, by decide, _, rfl, fun i e => (four_stored _ i e).trans (four_load_wide arg5 harg5 x4 2 0 rfl (by decide) (by decide) i e)⟩ <|
  .cons ⟨inb_S4x4x512x128_S1x1x128x128_0_3_1_0_s_1_1_4_1, by decide, _, rfl, fun i e => (four_stored _ i e).trans (four_load_wide arg5 harg5 x4 1 3 rfl (by decide) (by decide) i e)⟩ <|
  .cons ⟨inb_S4x4x512x128_S1x1x128x128_0_2_1_0_s_1_1_4_1, by decide, _, rfl, fun i e => (four_stored _ i e).trans (four_load_wide arg5 harg5 x4 1 2 rfl (by decide) (by decide) i e)⟩ <|
  .cons ⟨inb_S4x4x512x128_S1x1x128x128_0_1_1_0_s_1_1_4_1, by decide, _, rfl, fun i e => (four_stored _ i e).trans (four_load_wide arg5 harg5 x4 1 1 rfl (by decide) (by decide) i e)⟩ <|
  .cons ⟨inb_S4x4x512x128_S1x1x128x128_0_0_1_0_s_1_1_4_1, by decide, _, rfl, fun i e => (four_stored _ i e).trans (four_load_wide arg5 harg5 x4 1 0 rfl (by decide) (by decide) i e)⟩ <|
  .cons ⟨inb_S4x4x512x128_S1x1x128x128_0_3_0_0_s_1_1_4_1, by decide, _, rfl, fun i e => (four_stored _ i e).trans (four_load_wide arg5 harg5 x4 0 3 rfl (by decide) (by decide) i e)⟩ <|
  .cons ⟨inb_S4x4x512x128_S1x1x128x128_0_2_0_0_s_1_1_4_1, by decide, _, rfl, fun i e => (four_stored _ i e).trans (four_load_wide arg5 harg5 x4 0 2 rfl (by decide) (by decide) i e)⟩ <|
  .cons ⟨inb_S4x4x512x128_S1x1x128x128_0_1_0_0_s_1_1_4_1, by decide, _, rfl, fun i e => (four_stored _ i e).trans (four_load_wide arg5 harg5 x4 0 1 rfl (by decide) (by decide) i e)⟩ <|
  .cons ⟨inb_S4x4x512x128_S1x1x128x128_0_0_0_0_s_1_1_4_1, by decide, _, rfl, fun i e => (four_stored _ i e).trans (four_load_wide arg5 harg5 x4 0 0 rfl (by decide) (by decide) i e)⟩ <|
  .nil

theorem ordered_32 : List.Forall₂ (OrderedIs (held x1 x2 x4 x5)) orderedKeys32 (kernelRun0_B.sl.HS0_32 c arg2 harg2 arg5 harg5 x1 x4) :=
  .cons ⟨inb_S4x4x512x128_S1x1x128x128_1_3_3_0_s_1_1_4_1, by decide, _, rfl, fun i e => (four_stored _ i e).trans (four_load_half arg2 harg2 x1 3 3 rfl (by decide) (by decide) i e)⟩ <|
  .cons ⟨inb_S4x4x512x128_S1x1x128x128_1_2_3_0_s_1_1_4_1, by decide, _, rfl, fun i e => (four_stored _ i e).trans (four_load_half arg2 harg2 x1 3 2 rfl (by decide) (by decide) i e)⟩ <|
  .cons ⟨inb_S4x4x512x128_S1x1x128x128_1_1_3_0_s_1_1_4_1, by decide, _, rfl, fun i e => (four_stored _ i e).trans (four_load_half arg2 harg2 x1 3 1 rfl (by decide) (by decide) i e)⟩ <|
  .cons ⟨inb_S4x4x512x128_S1x1x128x128_1_0_3_0_s_1_1_4_1, by decide, _, rfl, fun i e => (four_stored _ i e).trans (four_load_half arg2 harg2 x1 3 0 rfl (by decide) (by decide) i e)⟩ <|
  .cons ⟨inb_S4x4x512x128_S1x1x128x128_1_3_2_0_s_1_1_4_1, by decide, _, rfl, fun i e => (four_stored _ i e).trans (four_load_half arg2 harg2 x1 2 3 rfl (by decide) (by decide) i e)⟩ <|
  .cons ⟨inb_S4x4x512x128_S1x1x128x128_1_2_2_0_s_1_1_4_1, by decide, _, rfl, fun i e => (four_stored _ i e).trans (four_load_half arg2 harg2 x1 2 2 rfl (by decide) (by decide) i e)⟩ <|
  .cons ⟨inb_S4x4x512x128_S1x1x128x128_1_1_2_0_s_1_1_4_1, by decide, _, rfl, fun i e => (four_stored _ i e).trans (four_load_half arg2 harg2 x1 2 1 rfl (by decide) (by decide) i e)⟩ <|
  .cons ⟨inb_S4x4x512x128_S1x1x128x128_1_0_2_0_s_1_1_4_1, by decide, _, rfl, fun i e => (four_stored _ i e).trans (four_load_half arg2 harg2 x1 2 0 rfl (by decide) (by decide) i e)⟩ <|
  .cons ⟨inb_S4x4x512x128_S1x1x128x128_1_3_1_0_s_1_1_4_1, by decide, _, rfl, fun i e => (four_stored _ i e).trans (four_load_half arg2 harg2 x1 1 3 rfl (by decide) (by decide) i e)⟩ <|
  .cons ⟨inb_S4x4x512x128_S1x1x128x128_1_2_1_0_s_1_1_4_1, by decide, _, rfl, fun i e => (four_stored _ i e).trans (four_load_half arg2 harg2 x1 1 2 rfl (by decide) (by decide) i e)⟩ <|
  .cons ⟨inb_S4x4x512x128_S1x1x128x128_1_1_1_0_s_1_1_4_1, by decide, _, rfl, fun i e => (four_stored _ i e).trans (four_load_half arg2 harg2 x1 1 1 rfl (by decide) (by decide) i e)⟩ <|
  .cons ⟨inb_S4x4x512x128_S1x1x128x128_1_0_1_0_s_1_1_4_1, by decide, _, rfl, fun i e => (four_stored _ i e).trans (four_load_half arg2 harg2 x1 1 0 rfl (by decide) (by decide) i e)⟩ <|
  .cons ⟨inb_S4x4x512x128_S1x1x128x128_1_3_0_0_s_1_1_4_1, by decide, _, rfl, fun i e => (four_stored _ i e).trans (four_load_half arg2 harg2 x1 0 3 rfl (by decide) (by decide) i e)⟩ <|
  .cons ⟨inb_S4x4x512x128_S1x1x128x128_1_2_0_0_s_1_1_4_1, by decide, _, rfl, fun i e => (four_stored _ i e).trans (four_load_half arg2 harg2 x1 0 2 rfl (by decide) (by decide) i e)⟩ <|
  .cons ⟨inb_S4x4x512x128_S1x1x128x128_1_1_0_0_s_1_1_4_1, by decide, _, rfl, fun i e => (four_stored _ i e).trans (four_load_half arg2 harg2 x1 0 1 rfl (by decide) (by decide) i e)⟩ <|
  .cons ⟨inb_S4x4x512x128_S1x1x128x128_1_0_0_0_s_1_1_4_1, by decide, _, rfl, fun i e => (four_stored _ i e).trans (four_load_half arg2 harg2 x1 0 0 rfl (by decide) (by decide) i e)⟩ <|
  ordered_16 c arg5 harg5 x1 x2 x4 x5

theorem quarters_64 : List.Forall₂ (QuartersAre (held x1 x2 x4 x5)) quarterKeys64 (kernelRun0_B.sl.HS1_64 c arg6 harg6 x5) :=
  .cons ⟨inb_S2x4x4x128x128_S1x1x1x32x128_0_3_3_3_0_s_1_1_1_4_1, by decide, _, rfl, fun i e => (sixteen_stored _ i e).trans (sixteen_load_wide arg6 harg6 x5 15 3 rfl (by decide) (by decide) i e)⟩ <|
  .cons ⟨inb_S2x4x4x128x128_S1x1x1x32x128_0_3_2_3_0_s_1_1_1_4_1, by decide, _, rfl, fun i e => (sixteen_stored _ i e).trans (sixteen_load_wide arg6 harg6 x5 15 2 rfl (by decide) (by decide) i e)⟩ <|
  .cons ⟨inb_S2x4x4x128x128_S1x1x1x32x128_0_3_1_3_0_s_1_1_1_4_1, by decide, _, rfl, fun i e => (sixteen_stored _ i e).trans (sixteen_load_wide arg6 harg6 x5 15 1 rfl (by decide) (by decide) i e)⟩ <|
  .cons ⟨inb_S2x4x4x128x128_S1x1x1x32x128_0_3_0_3_0_s_1_1_1_4_1, by decide, _, rfl, fun i e => (sixteen_stored _ i e).trans (sixteen_load_wide arg6 harg6 x5 15 0 rfl (by decide) (by decide) i e)⟩ <|
  .cons ⟨inb_S2x4x4x128x128_S1x1x1x32x128_0_3_3_2_0_s_1_1_1_4_1, by decide, _, rfl, fun i e => (sixteen_stored _ i e).trans (sixteen_load_wide arg6 harg6 x5 11 3 rfl (by decide) (by decide) i e)⟩ <|
  .cons ⟨inb_S2x4x4x128x128_S1x1x1x32x128_0_3_2_2_0_s_1_1_1_4_1, by decide, _, rfl, fun i e => (sixteen_stored _ i e).trans (sixteen_load_wide arg6 harg6 x5 11 2 rfl (by decide) (by decide) i e)⟩ <|
  .cons ⟨inb_S2x4x4x128x128_S1x1x1x32x128_0_3_1_2_0_s_1_1_1_4_1, by decide, _, rfl, fun i e => (sixteen_stored _ i e).trans (sixteen_load_wide arg6 harg6 x5 11 1 rfl (by decide) (by decide) i e)⟩ <|
  .cons ⟨inb_S2x4x4x128x128_S1x1x1x32x128_0_3_0_2_0_s_1_1_1_4_1, by decide, _, rfl, fun i e => (sixteen_stored _ i e).trans (sixteen_load_wide arg6 harg6 x5 11 0 rfl (by decide) (by decide) i e)⟩ <|
  .cons ⟨inb_S2x4x4x128x128_S1x1x1x32x128_0_3_3_1_0_s_1_1_1_4_1, by decide, _, rfl, fun i e => (sixteen_stored _ i e).trans (sixteen_load_wide arg6 harg6 x5 7 3 rfl (by decide) (by decide) i e)⟩ <|
  .cons ⟨inb_S2x4x4x128x128_S1x1x1x32x128_0_3_2_1_0_s_1_1_1_4_1, by decide, _, rfl, fun i e => (sixteen_stored _ i e).trans (sixteen_load_wide arg6 harg6 x5 7 2 rfl (by decide) (by decide) i e)⟩ <|
  .cons ⟨inb_S2x4x4x128x128_S1x1x1x32x128_0_3_1_1_0_s_1_1_1_4_1, by decide, _, rfl, fun i e => (sixteen_stored _ i e).trans (sixteen_load_wide arg6 harg6 x5 7 1 rfl (by decide) (by decide) i e)⟩ <|
  .cons ⟨inb_S2x4x4x128x128_S1x1x1x32x128_0_3_0_1_0_s_1_1_1_4_1, by decide, _, rfl, fun i e => (sixteen_stored _ i e).trans (sixteen_load_wide arg6 harg6 x5 7 0 rfl (by decide) (by decide) i e)⟩ <|
  .cons ⟨inb_S2x4x4x128x128_S1x1x1x32x128_0_3_3_0_0_s_1_1_1_4_1, by decide, _, rfl, fun i e => (sixteen_stored _ i e).trans (sixteen_load_wide arg6 harg6 x5 3 3 rfl (by decide) (by decide) i e)⟩ <|
  .cons ⟨inb_S2x4x4x128x128_S1x1x1x32x128_0_3_2_0_0_s_1_1_1_4_1, by decide, _, rfl, fun i e => (sixteen_stored _ i e).trans (sixteen_load_wide arg6 harg6 x5 3 2 rfl (by decide) (by decide) i e)⟩ <|
  .cons ⟨inb_S2x4x4x128x128_S1x1x1x32x128_0_3_1_0_0_s_1_1_1_4_1, by decide, _, rfl, fun i e => (sixteen_stored _ i e).trans (sixteen_load_wide arg6 harg6 x5 3 1 rfl (by decide) (by decide) i e)⟩ <|
  .cons ⟨inb_S2x4x4x128x128_S1x1x1x32x128_0_3_0_0_0_s_1_1_1_4_1, by decide, _, rfl, fun i e => (sixteen_stored _ i e).trans (sixteen_load_wide arg6 harg6 x5 3 0 rfl (by decide) (by decide) i e)⟩ <|
  .cons ⟨inb_S2x4x4x128x128_S1x1x1x32x128_0_2_3_3_0_s_1_1_1_4_1, by decide, _, rfl, fun i e => (sixteen_stored _ i e).trans (sixteen_load_wide arg6 harg6 x5 14 3 rfl (by decide) (by decide) i e)⟩ <|
  .cons ⟨inb_S2x4x4x128x128_S1x1x1x32x128_0_2_2_3_0_s_1_1_1_4_1, by decide, _, rfl, fun i e => (sixteen_stored _ i e).trans (sixteen_load_wide arg6 harg6 x5 14 2 rfl (by decide) (by decide) i e)⟩ <|
  .cons ⟨inb_S2x4x4x128x128_S1x1x1x32x128_0_2_1_3_0_s_1_1_1_4_1, by decide, _, rfl, fun i e => (sixteen_stored _ i e).trans (sixteen_load_wide arg6 harg6 x5 14 1 rfl (by decide) (by decide) i e)⟩ <|
  .cons ⟨inb_S2x4x4x128x128_S1x1x1x32x128_0_2_0_3_0_s_1_1_1_4_1, by decide, _, rfl, fun i e => (sixteen_stored _ i e).trans (sixteen_load_wide arg6 harg6 x5 14 0 rfl (by decide) (by decide) i e)⟩ <|
  .cons ⟨inb_S2x4x4x128x128_S1x1x1x32x128_0_2_3_2_0_s_1_1_1_4_1, by decide, _, rfl, fun i e => (sixteen_stored _ i e).trans (sixteen_load_wide arg6 harg6 x5 10 3 rfl (by decide) (by decide) i e)⟩ <|
  .cons ⟨inb_S2x4x4x128x128_S1x1x1x32x128_0_2_2_2_0_s_1_1_1_4_1, by decide, _, rfl, fun i e => (sixteen_stored _ i e).trans (sixteen_load_wide arg6 harg6 x5 10 2 rfl (by decide) (by decide) i e)⟩ <|
  .cons ⟨inb_S2x4x4x128x128_S1x1x1x32x128_0_2_1_2_0_s_1_1_1_4_1, by decide, _, rfl, fun i e => (sixteen_stored _ i e).trans (sixteen_load_wide arg6 harg6 x5 10 1 rfl (by decide) (by decide) i e)⟩ <|
  .cons ⟨inb_S2x4x4x128x128_S1x1x1x32x128_0_2_0_2_0_s_1_1_1_4_1, by decide, _, rfl, fun i e => (sixteen_stored _ i e).trans (sixteen_load_wide arg6 harg6 x5 10 0 rfl (by decide) (by decide) i e)⟩ <|
  .cons ⟨inb_S2x4x4x128x128_S1x1x1x32x128_0_2_3_1_0_s_1_1_1_4_1, by decide, _, rfl, fun i e => (sixteen_stored _ i e).trans (sixteen_load_wide arg6 harg6 x5 6 3 rfl (by decide) (by decide) i e)⟩ <|
  .cons ⟨inb_S2x4x4x128x128_S1x1x1x32x128_0_2_2_1_0_s_1_1_1_4_1, by decide, _, rfl, fun i e => (sixteen_stored _ i e).trans (sixteen_load_wide arg6 harg6 x5 6 2 rfl (by decide) (by decide) i e)⟩ <|
  .cons ⟨inb_S2x4x4x128x128_S1x1x1x32x128_0_2_1_1_0_s_1_1_1_4_1, by decide, _, rfl, fun i e => (sixteen_stored _ i e).trans (sixteen_load_wide arg6 harg6 x5 6 1 rfl (by decide) (by decide) i e)⟩ <|
  .cons ⟨inb_S2x4x4x128x128_S1x1x1x32x128_0_2_0_1_0_s_1_1_1_4_1, by decide, _, rfl, fun i e => (sixteen_stored _ i e).trans (sixteen_load_wide arg6 harg6 x5 6 0 rfl (by decide) (by decide) i e)⟩ <|
  .cons ⟨inb_S2x4x4x128x128_S1x1x1x32x128_0_2_3_0_0_s_1_1_1_4_1, by decide, _, rfl, fun i e => (sixteen_stored _ i e).trans (sixteen_load_wide arg6 harg6 x5 2 3 rfl (by decide) (by decide) i e)⟩ <|
  .cons ⟨inb_S2x4x4x128x128_S1x1x1x32x128_0_2_2_0_0_s_1_1_1_4_1, by decide, _, rfl, fun i e => (sixteen_stored _ i e).trans (sixteen_load_wide arg6 harg6 x5 2 2 rfl (by decide) (by decide) i e)⟩ <|
  .cons ⟨inb_S2x4x4x128x128_S1x1x1x32x128_0_2_1_0_0_s_1_1_1_4_1, by decide, _, rfl, fun i e => (sixteen_stored _ i e).trans (sixteen_load_wide arg6 harg6 x5 2 1 rfl (by decide) (by decide) i e)⟩ <|
  .cons ⟨inb_S2x4x4x128x128_S1x1x1x32x128_0_2_0_0_0_s_1_1_1_4_1, by decide, _, rfl, fun i e => (sixteen_stored _ i e).trans (sixteen_load_wide arg6 harg6 x5 2 0 rfl (by decide) (by decide) i e)⟩ <|
  .cons ⟨inb_S2x4x4x128x128_S1x1x1x32x128_0_1_3_3_0_s_1_1_1_4_1, by decide, _, rfl, fun i e => (sixteen_stored _ i e).trans (sixteen_load_wide arg6 harg6 x5 13 3 rfl (by decide) (by decide) i e)⟩ <|
  .cons ⟨inb_S2x4x4x128x128_S1x1x1x32x128_0_1_2_3_0_s_1_1_1_4_1, by decide, _, rfl, fun i e => (sixteen_stored _ i e).trans (sixteen_load_wide arg6 harg6 x5 13 2 rfl (by decide) (by decide) i e)⟩ <|
  .cons ⟨inb_S2x4x4x128x128_S1x1x1x32x128_0_1_1_3_0_s_1_1_1_4_1, by decide, _, rfl, fun i e => (sixteen_stored _ i e).trans (sixteen_load_wide arg6 harg6 x5 13 1 rfl (by decide) (by decide) i e)⟩ <|
  .cons ⟨inb_S2x4x4x128x128_S1x1x1x32x128_0_1_0_3_0_s_1_1_1_4_1, by decide, _, rfl, fun i e => (sixteen_stored _ i e).trans (sixteen_load_wide arg6 harg6 x5 13 0 rfl (by decide) (by decide) i e)⟩ <|
  .cons ⟨inb_S2x4x4x128x128_S1x1x1x32x128_0_1_3_2_0_s_1_1_1_4_1, by decide, _, rfl, fun i e => (sixteen_stored _ i e).trans (sixteen_load_wide arg6 harg6 x5 9 3 rfl (by decide) (by decide) i e)⟩ <|
  .cons ⟨inb_S2x4x4x128x128_S1x1x1x32x128_0_1_2_2_0_s_1_1_1_4_1, by decide, _, rfl, fun i e => (sixteen_stored _ i e).trans (sixteen_load_wide arg6 harg6 x5 9 2 rfl (by decide) (by decide) i e)⟩ <|
  .cons ⟨inb_S2x4x4x128x128_S1x1x1x32x128_0_1_1_2_0_s_1_1_1_4_1, by decide, _, rfl, fun i e => (sixteen_stored _ i e).trans (sixteen_load_wide arg6 harg6 x5 9 1 rfl (by decide) (by decide) i e)⟩ <|
  .cons ⟨inb_S2x4x4x128x128_S1x1x1x32x128_0_1_0_2_0_s_1_1_1_4_1, by decide, _, rfl, fun i e => (sixteen_stored _ i e).trans (sixteen_load_wide arg6 harg6 x5 9 0 rfl (by decide) (by decide) i e)⟩ <|
  .cons ⟨inb_S2x4x4x128x128_S1x1x1x32x128_0_1_3_1_0_s_1_1_1_4_1, by decide, _, rfl, fun i e => (sixteen_stored _ i e).trans (sixteen_load_wide arg6 harg6 x5 5 3 rfl (by decide) (by decide) i e)⟩ <|
  .cons ⟨inb_S2x4x4x128x128_S1x1x1x32x128_0_1_2_1_0_s_1_1_1_4_1, by decide, _, rfl, fun i e => (sixteen_stored _ i e).trans (sixteen_load_wide arg6 harg6 x5 5 2 rfl (by decide) (by decide) i e)⟩ <|
  .cons ⟨inb_S2x4x4x128x128_S1x1x1x32x128_0_1_1_1_0_s_1_1_1_4_1, by decide, _, rfl, fun i e => (sixteen_stored _ i e).trans (sixteen_load_wide arg6 harg6 x5 5 1 rfl (by decide) (by decide) i e)⟩ <|
  .cons ⟨inb_S2x4x4x128x128_S1x1x1x32x128_0_1_0_1_0_s_1_1_1_4_1, by decide, _, rfl, fun i e => (sixteen_stored _ i e).trans (sixteen_load_wide arg6 harg6 x5 5 0 rfl (by decide) (by decide) i e)⟩ <|
  .cons ⟨inb_S2x4x4x128x128_S1x1x1x32x128_0_1_3_0_0_s_1_1_1_4_1, by decide, _, rfl, fun i e => (sixteen_stored _ i e).trans (sixteen_load_wide arg6 harg6 x5 1 3 rfl (by decide) (by decide) i e)⟩ <|
  .cons ⟨inb_S2x4x4x128x128_S1x1x1x32x128_0_1_2_0_0_s_1_1_1_4_1, by decide, _, rfl, fun i e => (sixteen_stored _ i e).trans (sixteen_load_wide arg6 harg6 x5 1 2 rfl (by decide) (by decide) i e)⟩ <|
  .cons ⟨inb_S2x4x4x128x128_S1x1x1x32x128_0_1_1_0_0_s_1_1_1_4_1, by decide, _, rfl, fun i e => (sixteen_stored _ i e).trans (sixteen_load_wide arg6 harg6 x5 1 1 rfl (by decide) (by decide) i e)⟩ <|
  .cons ⟨inb_S2x4x4x128x128_S1x1x1x32x128_0_1_0_0_0_s_1_1_1_4_1, by decide, _, rfl, fun i e => (sixteen_stored _ i e).trans (sixteen_load_wide arg6 harg6 x5 1 0 rfl (by decide) (by decide) i e)⟩ <|
  .cons ⟨inb_S2x4x4x128x128_S1x1x1x32x128_0_0_3_3_0_s_1_1_1_4_1, by decide, _, rfl, fun i e => (sixteen_stored _ i e).trans (sixteen_load_wide arg6 harg6 x5 12 3 rfl (by decide) (by decide) i e)⟩ <|
  .cons ⟨inb_S2x4x4x128x128_S1x1x1x32x128_0_0_2_3_0_s_1_1_1_4_1, by decide, _, rfl, fun i e => (sixteen_stored _ i e).trans (sixteen_load_wide arg6 harg6 x5 12 2 rfl (by decide) (by decide) i e)⟩ <|
  .cons ⟨inb_S2x4x4x128x128_S1x1x1x32x128_0_0_1_3_0_s_1_1_1_4_1, by decide, _, rfl, fun i e => (sixteen_stored _ i e).trans (sixteen_load_wide arg6 harg6 x5 12 1 rfl (by decide) (by decide) i e)⟩ <|
  .cons ⟨inb_S2x4x4x128x128_S1x1x1x32x128_0_0_0_3_0_s_1_1_1_4_1, by decide, _, rfl, fun i e => (sixteen_stored _ i e).trans (sixteen_load_wide arg6 harg6 x5 12 0 rfl (by decide) (by decide) i e)⟩ <|
  .cons ⟨inb_S2x4x4x128x128_S1x1x1x32x128_0_0_3_2_0_s_1_1_1_4_1, by decide, _, rfl, fun i e => (sixteen_stored _ i e).trans (sixteen_load_wide arg6 harg6 x5 8 3 rfl (by decide) (by decide) i e)⟩ <|
  .cons ⟨inb_S2x4x4x128x128_S1x1x1x32x128_0_0_2_2_0_s_1_1_1_4_1, by decide, _, rfl, fun i e => (sixteen_stored _ i e).trans (sixteen_load_wide arg6 harg6 x5 8 2 rfl (by decide) (by decide) i e)⟩ <|
  .cons ⟨inb_S2x4x4x128x128_S1x1x1x32x128_0_0_1_2_0_s_1_1_1_4_1, by decide, _, rfl, fun i e => (sixteen_stored _ i e).trans (sixteen_load_wide arg6 harg6 x5 8 1 rfl (by decide) (by decide) i e)⟩ <|
  .cons ⟨inb_S2x4x4x128x128_S1x1x1x32x128_0_0_0_2_0_s_1_1_1_4_1, by decide, _, rfl, fun i e => (sixteen_stored _ i e).trans (sixteen_load_wide arg6 harg6 x5 8 0 rfl (by decide) (by decide) i e)⟩ <|
  .cons ⟨inb_S2x4x4x128x128_S1x1x1x32x128_0_0_3_1_0_s_1_1_1_4_1, by decide, _, rfl, fun i e => (sixteen_stored _ i e).trans (sixteen_load_wide arg6 harg6 x5 4 3 rfl (by decide) (by decide) i e)⟩ <|
  .cons ⟨inb_S2x4x4x128x128_S1x1x1x32x128_0_0_2_1_0_s_1_1_1_4_1, by decide, _, rfl, fun i e => (sixteen_stored _ i e).trans (sixteen_load_wide arg6 harg6 x5 4 2 rfl (by decide) (by decide) i e)⟩ <|
  .cons ⟨inb_S2x4x4x128x128_S1x1x1x32x128_0_0_1_1_0_s_1_1_1_4_1, by decide, _, rfl, fun i e => (sixteen_stored _ i e).trans (sixteen_load_wide arg6 harg6 x5 4 1 rfl (by decide) (by decide) i e)⟩ <|
  .cons ⟨inb_S2x4x4x128x128_S1x1x1x32x128_0_0_0_1_0_s_1_1_1_4_1, by decide, _, rfl, fun i e => (sixteen_stored _ i e).trans (sixteen_load_wide arg6 harg6 x5 4 0 rfl (by decide) (by decide) i e)⟩ <|
  .cons ⟨inb_S2x4x4x128x128_S1x1x1x32x128_0_0_3_0_0_s_1_1_1_4_1, by decide, _, rfl, fun i e => (sixteen_stored _ i e).trans (sixteen_load_wide arg6 harg6 x5 0 3 rfl (by decide) (by decide) i e)⟩ <|
  .cons ⟨inb_S2x4x4x128x128_S1x1x1x32x128_0_0_2_0_0_s_1_1_1_4_1, by decide, _, rfl, fun i e => (sixteen_stored _ i e).trans (sixteen_load_wide arg6 harg6 x5 0 2 rfl (by decide) (by decide) i e)⟩ <|
  .cons ⟨inb_S2x4x4x128x128_S1x1x1x32x128_0_0_1_0_0_s_1_1_1_4_1, by decide, _, rfl, fun i e => (sixteen_stored _ i e).trans (sixteen_load_wide arg6 harg6 x5 0 1 rfl (by decide) (by decide) i e)⟩ <|
  .cons ⟨inb_S2x4x4x128x128_S1x1x1x32x128_0_0_0_0_0_s_1_1_1_4_1, by decide, _, rfl, fun i e => (sixteen_stored _ i e).trans (sixteen_load_wide arg6 harg6 x5 0 0 rfl (by decide) (by decide) i e)⟩ <|
  .nil

theorem ordered_48 : List.Forall₂ (OrderedIs (held x1 x2 x4 x5)) orderedKeys48 (kernelRun0_B.sl.HS0_48 c arg2 harg2 arg5 harg5 arg6 harg6 arg23 x1 x4 x5) :=
  .cons ⟨inb_S4x4x512x128_S1x1x128x128_2_3_3_0_s_1_1_4_1, by decide, _, rfl, fun i e => (passed_on _ i e).trans (quarter_strip_at arg23.view (quarters_64 c arg6 harg6 x1 x2 x4 x5) (quarterKeys64_mem 3 3) i e)⟩ <|
  .cons ⟨inb_S4x4x512x128_S1x1x128x128_2_2_3_0_s_1_1_4_1, by decide, _, rfl, fun i e => (passed_on _ i e).trans (quarter_strip_at arg23.view (quarters_64 c arg6 harg6 x1 x2 x4 x5) (quarterKeys64_mem 3 2) i e)⟩ <|
  .cons ⟨inb_S4x4x512x128_S1x1x128x128_2_1_3_0_s_1_1_4_1, by decide, _, rfl, fun i e => (passed_on _ i e).trans (quarter_strip_at arg23.view (quarters_64 c arg6 harg6 x1 x2 x4 x5) (quarterKeys64_mem 3 1) i e)⟩ <|
  .cons ⟨inb_S4x4x512x128_S1x1x128x128_2_0_3_0_s_1_1_4_1, by decide, _, rfl, fun i e => (passed_on _ i e).trans (quarter_strip_at arg23.view (quarters_64 c arg6 harg6 x1 x2 x4 x5) (quarterKeys64_mem 3 0) i e)⟩ <|
  .cons ⟨inb_S4x4x512x128_S1x1x128x128_2_3_2_0_s_1_1_4_1, by decide, _, rfl, fun i e => (passed_on _ i e).trans (quarter_strip_at arg23.view (quarters_64 c arg6 harg6 x1 x2 x4 x5) (quarterKeys64_mem 2 3) i e)⟩ <|
  .cons ⟨inb_S4x4x512x128_S1x1x128x128_2_2_2_0_s_1_1_4_1, by decide, _, rfl, fun i e => (passed_on _ i e).trans (quarter_strip_at arg23.view (quarters_64 c arg6 harg6 x1 x2 x4 x5) (quarterKeys64_mem 2 2) i e)⟩ <|
  .cons ⟨inb_S4x4x512x128_S1x1x128x128_2_1_2_0_s_1_1_4_1, by decide, _, rfl, fun i e => (passed_on _ i e).trans (quarter_strip_at arg23.view (quarters_64 c arg6 harg6 x1 x2 x4 x5) (quarterKeys64_mem 2 1) i e)⟩ <|
  .cons ⟨inb_S4x4x512x128_S1x1x128x128_2_0_2_0_s_1_1_4_1, by decide, _, rfl, fun i e => (passed_on _ i e).trans (quarter_strip_at arg23.view (quarters_64 c arg6 harg6 x1 x2 x4 x5) (quarterKeys64_mem 2 0) i e)⟩ <|
  .cons ⟨inb_S4x4x512x128_S1x1x128x128_2_3_1_0_s_1_1_4_1, by decide, _, rfl, fun i e => (passed_on _ i e).trans (quarter_strip_at arg23.view (quarters_64 c arg6 harg6 x1 x2 x4 x5) (quarterKeys64_mem 1 3) i e)⟩ <|
  .cons ⟨inb_S4x4x512x128_S1x1x128x128_2_2_1_0_s_1_1_4_1, by decide, _, rfl, fun i e => (passed_on _ i e).trans (quarter_strip_at arg23.view (quarters_64 c arg6 harg6 x1 x2 x4 x5) (quarterKeys64_mem 1 2) i e)⟩ <|
  .cons ⟨inb_S4x4x512x128_S1x1x128x128_2_1_1_0_s_1_1_4_1, by decide, _, rfl, fun i e => (passed_on _ i e).trans (quarter_strip_at arg23.view (quarters_64 c arg6 harg6 x1 x2 x4 x5) (quarterKeys64_mem 1 1) i e)⟩ <|
  .cons ⟨inb_S4x4x512x128_S1x1x128x128_2_0_1_0_s_1_1_4_1, by decide, _, rfl, fun i e => (passed_on _ i e).trans (quarter_strip_at arg23.view (quarters_64 c arg6 harg6 x1 x2 x4 x5) (quarterKeys64_mem 1 0) i e)⟩ <|
  .cons ⟨inb_S4x4x512x128_S1x1x128x128_2_3_0_0_s_1_1_4_1, by decide, _, rfl, fun i e => (passed_on _ i e).trans (quarter_strip_at arg23.view (quarters_64 c arg6 harg6 x1 x2 x4 x5) (quarterKeys64_mem 0 3) i e)⟩ <|
  .cons ⟨inb_S4x4x512x128_S1x1x128x128_2_2_0_0_s_1_1_4_1, by decide, _, rfl, fun i e => (passed_on _ i e).trans (quarter_strip_at arg23.view (quarters_64 c arg6 harg6 x1 x2 x4 x5) (quarterKeys64_mem 0 2) i e)⟩ <|
  .cons ⟨inb_S4x4x512x128_S1x1x128x128_2_1_0_0_s_1_1_4_1, by decide, _, rfl, fun i e => (passed_on _ i e).trans (quarter_strip_at arg23.view (quarters_64 c arg6 harg6 x1 x2 x4 x5) (quarterKeys64_mem 0 1) i e)⟩ <|
  .cons ⟨inb_S4x4x512x128_S1x1x128x128_2_0_0_0_s_1_1_4_1, by decide, _, rfl, fun i e => (passed_on _ i e).trans (quarter_strip_at arg23.view (quarters_64 c arg6 harg6 x1 x2 x4 x5) (quarterKeys64_mem 0 0) i e)⟩ <|
  ordered_32 c arg2 harg2 arg5 harg5 x1 x2 x4 x5

theorem quarters_128 : List.Forall₂ (QuartersAre (held x1 x2 x4 x5)) quarterKeys128 (kernelRun0_B.sl.HS1_128 c arg3 harg3 arg6 harg6 x2 x5) :=
  .cons ⟨inb_S2x4x4x128x128_S1x1x1x32x128_1_3_3_3_0_s_1_1_1_4_1, by decide, _, rfl, fun i e => (sixteen_stored _ i e).trans (sixteen_load_half arg3 harg3 x2 15 3 rfl (by decide) (by decide) i e)⟩ <|
  .cons ⟨inb_S2x4x4x128x128_S1x1x1x32x128_1_3_2_3_0_s_1_1_1_4_1, by decide, _, rfl, fun i e => (sixteen_stored _ i e).trans (sixteen_load_half arg3 harg3 x2 15 2 rfl (by decide) (by decide) i e)⟩ <|
  .cons ⟨inb_S2x4x4x128x128_S1x1x1x32x128_1_3_1_3_0_s_1_1_1_4_1, by decide, _, rfl, fun i e => (sixteen_stored _ i e).trans (sixteen_load_half arg3 harg3 x2 15 1 rfl (by decide) (by decide) i e)⟩ <|
  .cons ⟨inb_S2x4x4x128x128_S1x1x1x32x128_1_3_0_3_0_s_1_1_1_4_1, by decide, _, rfl, fun i e => (sixteen_stored _ i e).trans (sixteen_load_half arg3 harg3 x2 15 0 rfl (by decide) (by decide) i e)⟩ <|
  .cons ⟨inb_S2x4x4x128x128_S1x1x1x32x128_1_3_3_2_0_s_1_1_1_4_1, by decide, _, rfl, fun i e => (sixteen_stored _ i e).trans (sixteen_load_half arg3 harg3 x2 11 3 rfl (by decide) (by decide) i e)⟩ <|
  .cons ⟨inb_S2x4x4x128x128_S1x1x1x32x128_1_3_2_2_0_s_1_1_1_4_1, by decide, _, rfl, fun i e => (sixteen_stored _ i e).trans (sixteen_load_half arg3 harg3 x2 11 2 rfl (by decide) (by decide) i e)⟩ <|
  .cons ⟨inb_S2x4x4x128x128_S1x1x1x32x128_1_3_1_2_0_s_1_1_1_4_1, by decide, _, rfl, fun i e => (sixteen_stored _ i e).trans (sixteen_load_half arg3 harg3 x2 11 1 rfl (by decide) (by decide) i e)⟩ <|
  .cons ⟨inb_S2x4x4x128x128_S1x1x1x32x128_1_3_0_2_0_s_1_1_1_4_1, by decide, _, rfl, fun i e => (sixteen_stored _ i e).trans (sixteen_load_half arg3 harg3 x2 11 0 rfl (by decide) (by decide) i e)⟩ <|
  .cons ⟨inb_S2x4x4x128x128_S1x1x1x32x128_1_3_3_1_0_s_1_1_1_4_1, by decide, _, rfl, fun i e => (sixteen_stored _ i e).trans (sixteen_load_half arg3 harg3 x2 7 3 rfl (by decide) (by decide) i e)⟩ <|
  .cons ⟨inb_S2x4x4x128x128_S1x1x1x32x128_1_3_2_1_0_s_1_1_1_4_1, by decide, _, rfl, fun i e => (sixteen_stored _ i e).trans (sixteen_load_half arg3 harg3 x2 7 2 rfl (by decide) (by decide) i e)⟩ <|
  .cons ⟨inb_S2x4x4x128x128_S1x1x1x32x128_1_3_1_1_0_s_1_1_1_4_1, by decide, _, rfl, fun i e => (sixteen_stored _ i e).trans (sixteen_load_half arg3 harg3 x2 7 1 rfl (by decide) (by decide) i e)⟩ <|
  .cons ⟨inb_S2x4x4x128x128_S1x1x1x32x128_1_3_0_1_0_s_1_1_1_4_1, by decide, _, rfl, fun i e => (sixteen_stored _ i e).trans (sixteen_load_half arg3 harg3 x2 7 0 rfl (by decide) (by decide) i e)⟩ <|
  .cons ⟨inb_S2x4x4x128x128_S1x1x1x32x128_1_3_3_0_0_s_1_1_1_4_1, by decide, _, rfl, fun i e => (sixteen_stored _ i e).trans (sixteen_load_half arg3 harg3 x2 3 3 rfl (by decide) (by decide) i e)⟩ <|
  .cons ⟨inb_S2x4x4x128x128_S1x1x1x32x128_1_3_2_0_0_s_1_1_1_4_1, by decide, _, rfl, fun i e => (sixteen_stored _ i e).trans (sixteen_load_half arg3 harg3 x2 3 2 rfl (by decide) (by decide) i e)⟩ <|
  .cons ⟨inb_S2x4x4x128x128_S1x1x1x32x128_1_3_1_0_0_s_1_1_1_4_1, by decide, _, rfl, fun i e => (sixteen_stored _ i e).trans (sixteen_load_half arg3 harg3 x2 3 1 rfl (by decide) (by decide) i e)⟩ <|
  .cons ⟨inb_S2x4x4x128x128_S1x1x1x32x128_1_3_0_0_0_s_1_1_1_4_1, by decide, _, rfl, fun i e => (sixteen_stored _ i e).trans (sixteen_load_half arg3 harg3 x2 3 0 rfl (by decide) (by decide) i e)⟩ <|
  .cons ⟨inb_S2x4x4x128x128_S1x1x1x32x128_1_2_3_3_0_s_1_1_1_4_1, by decide, _, rfl, fun i e => (sixteen_stored _ i e).trans (sixteen_load_half arg3 harg3 x2 14 3 rfl (by decide) (by decide) i e)⟩ <|
  .cons ⟨inb_S2x4x4x128x128_S1x1x1x32x128_1_2_2_3_0_s_1_1_1_4_1, by decide, _, rfl, fun i e => (sixteen_stored _ i e).trans (sixteen_load_half arg3 harg3 x2 14 2 rfl (by decide) (by decide) i e)⟩ <|
  .cons ⟨inb_S2x4x4x128x128_S1x1x1x32x128_1_2_1_3_0_s_1_1_1_4_1, by decide, _, rfl, fun i e => (sixteen_stored _ i e).trans (sixteen_load_half arg3 harg3 x2 14 1 rfl (by decide) (by decide) i e)⟩ <|
  .cons ⟨inb_S2x4x4x128x128_S1x1x1x32x128_1_2_0_3_0_s_1_1_1_4_1, by decide, _, rfl, fun i e => (sixteen_stored _ i e).trans (sixteen_load_half arg3 harg3 x2 14 0 rfl (by decide) (by decide) i e)⟩ <|
  .cons ⟨inb_S2x4x4x128x128_S1x1x1x32x128_1_2_3_2_0_s_1_1_1_4_1, by decide, _, rfl, fun i e => (sixteen_stored _ i e).trans (sixteen_load_half arg3 harg3 x2 10 3 rfl (by decide) (by decide) i e)⟩ <|
  .cons ⟨inb_S2x4x4x128x128_S1x1x1x32x128_1_2_2_2_0_s_1_1_1_4_1, by decide, _, rfl, fun i e => (sixteen_stored _ i e).trans (sixteen_load_half arg3 harg3 x2 10 2 rfl (by decide) (by decide) i e)⟩ <|
  .cons ⟨inb_S2x4x4x128x128_S1x1x1x32x128_1_2_1_2_0_s_1_1_1_4_1, by decide, _, rfl, fun i e => (sixteen_stored _ i e).trans (sixteen_load_half arg3 harg3 x2 10 1 rfl (by decide) (by decide) i e)⟩ <|
  .cons ⟨inb_S2x4x4x128x128_S1x1x1x32x128_1_2_0_2_0_s_1_1_1_4_1, by decide, _, rfl, fun i e => (sixteen_stored _ i e).trans (sixteen_load_half arg3 harg3 x2 10 0 rfl (by decide) (by decide) i e)⟩ <|
  .cons ⟨inb_S2x4x4x128x128_S1x1x1x32x128_1_2_3_1_0_s_1_1_1_4_1, by decide, _, rfl, fun i e => (sixteen_stored _ i e).trans (sixteen_load_half arg3 harg3 x2 6 3 rfl (by decide) (by decide) i e)⟩ <|
  .cons ⟨inb_S2x4x4x128x128_S1x1x1x32x128_1_2_2_1_0_s_1_1_1_4_1, by decide, _, rfl, fun i e => (sixteen_stored _ i e).trans (sixteen_load_half arg3 harg3 x2 6 2 rfl (by decide) (by decide) i e)⟩ <|
  .cons ⟨inb_S2x4x4x128x128_S1x1x1x32x128_1_2_1_1_0_s_1_1_1_4_1, by decide, _, rfl, fun i e => (sixteen_stored _ i e).trans (sixteen_load_half arg3 harg3 x2 6 1 rfl (by decide) (by decide) i e)⟩ <|
  .cons ⟨inb_S2x4x4x128x128_S1x1x1x32x128_1_2_0_1_0_s_1_1_1_4_1, by decide, _, rfl, fun i e => (sixteen_stored _ i e).trans (sixteen_load_half arg3 harg3 x2 6 0 rfl (by decide) (by decide) i e)⟩ <|
  .cons ⟨inb_S2x4x4x128x128_S1x1x1x32x128_1_2_3_0_0_s_1_1_1_4_1, by decide, _, rfl, fun i e => (sixteen_stored _ i e).trans (sixteen_load_half arg3 harg3 x2 2 3 rfl (by decide) (by decide) i e)⟩ <|
  .cons ⟨inb_S2x4x4x128x128_S1x1x1x32x128_1_2_2_0_0_s_1_1_1_4_1, by decide, _, rfl, fun i e => (sixteen_stored _ i e).trans (sixteen_load_half arg3 harg3 x2 2 2 rfl (by decide) (by decide) i e)⟩ <|
  .cons ⟨inb_S2x4x4x128x128_S1x1x1x32x128_1_2_1_0_0_s_1_1_1_4_1, by decide, _, rfl, fun i e => (sixteen_stored _ i e).trans (sixteen_load_half arg3 harg3 x2 2 1 rfl (by decide) (by decide) i e)⟩ <|
  .cons ⟨inb_S2x4x4x128x128_S1x1x1x32x128_1_2_0_0_0_s_1_1_1_4_1, by decide, _, rfl, fun i e => (sixteen_stored _ i e).trans (sixteen_load_half arg3 harg3 x2 2 0 rfl (by decide) (by decide) i e)⟩ <|
  .cons ⟨inb_S2x4x4x128x128_S1x1x1x32x128_1_1_3_3_0_s_1_1_1_4_1, by decide, _, rfl, fun i e => (sixteen_stored _ i e).trans (sixteen_load_half arg3 harg3 x2 13 3 rfl (by decide) (by decide) i e)⟩ <|
  .cons ⟨inb_S2x4x4x128x128_S1x1x1x32x128_1_1_2_3_0_s_1_1_1_4_1, by decide, _, rfl, fun i e => (sixteen_stored _ i e).trans (sixteen_load_half arg3 harg3 x2 13 2 rfl (by decide) (by decide) i e)⟩ <|
  .cons ⟨inb_S2x4x4x128x128_S1x1x1x32x128_1_1_1_3_0_s_1_1_1_4_1, by decide, _, rfl, fun i e => (sixteen_stored _ i e).trans (sixteen_load_half arg3 harg3 x2 13 1 rfl (by decide) (by decide) i e)⟩ <|
  .cons ⟨inb_S2x4x4x128x128_S1x1x1x32x128_1_1_0_3_0_s_1_1_1_4_1, by decide, _, rfl, fun i e => (sixteen_stored _ i e).trans (sixteen_load_half arg3 harg3 x2 13 0 rfl (by decide) (by decide) i e)⟩ <|
  .cons ⟨inb_S2x4x4x128x128_S1x1x1x32x128_1_1_3_2_0_s_1_1_1_4_1, by decide, _, rfl, fun i e => (sixteen_stored _ i e).trans (sixteen_load_half arg3 harg3 x2 9 3 rfl (by decide) (by decide) i e)⟩ <|
  .cons ⟨inb_S2x4x4x128x128_S1x1x1x32x128_1_1_2_2_0_s_1_1_1_4_1, by decide, _, rfl, fun i e => (sixteen_stored _ i e).trans (sixteen_load_half arg3 harg3 x2 9 2 rfl (by decide) (by decide) i e)⟩ <|
  .cons ⟨inb_S2x4x4x128x128_S1x1x1x32x128_1_1_1_2_0_s_1_1_1_4_1, by decide, _, rfl, fun i e => (sixteen_stored _ i e).trans (sixteen_load_half arg3 harg3 x2 9 1 rfl (by decide) (by decide) i e)⟩ <|
  .cons ⟨inb_S2x4x4x128x128_S1x1x1x32x128_1_1_0_2_0_s_1_1_1_4_1, by decide, _, rfl, fun i e => (sixteen_stored _ i e).trans (sixteen_load_half arg3 harg3 x2 9 0 rfl (by decide) (by decide) i e)⟩ <|
  .cons ⟨inb_S2x4x4x128x128_S1x1x1x32x128_1_1_3_1_0_s_1_1_1_4_1, by decide, _, rfl, fun i e => (sixteen_stored _ i e).trans (sixteen_load_half arg3 harg3 x2 5 3 rfl (by decide) (by decide) i e)⟩ <|
  .cons ⟨inb_S2x4x4x128x128_S1x1x1x32x128_1_1_2_1_0_s_1_1_1_4_1, by decide, _, rfl, fun i e => (sixteen_stored _ i e).trans (sixteen_load_half arg3 harg3 x2 5 2 rfl (by decide) (by decide) i e)⟩ <|
  .cons ⟨inb_S2x4x4x128x128_S1x1x1x32x128_1_1_1_1_0_s_1_1_1_4_1, by decide, _, rfl, fun i e => (sixteen_stored _ i e).trans (sixteen_load_half arg3 harg3 x2 5 1 rfl (by decide) (by decide) i e)⟩ <|
  .cons ⟨inb_S2x4x4x128x128_S1x1x1x32x128_1_1_0_1_0_s_1_1_1_4_1, by decide, _, rfl, fun i e => (sixteen_stored _ i e).trans (sixteen_load_half arg3 harg3 x2 5 0 rfl (by decide) (by decide) i e)⟩ <|
  .cons ⟨inb_S2x4x4x128x128_S1x1x1x32x128_1_1_3_0_0_s_1_1_1_4_1, by decide, _, rfl, fun i e => (sixteen_stored _ i e).trans (sixteen_load_half arg3 harg3 x2 1 3 rfl (by decide) (by decide) i e)⟩ <|
  .cons ⟨inb_S2x4x4x128x128_S1x1x1x32x128_1_1_2_0_0_s_1_1_1_4_1, by decide, _, rfl, fun i e => (sixteen_stored _ i e).trans (sixteen_load_half arg3 harg3 x2 1 2 rfl (by decide) (by decide) i e)⟩ <|
  .cons ⟨inb_S2x4x4x128x128_S1x1x1x32x128_1_1_1_0_0_s_1_1_1_4_1, by decide, _, rfl, fun i e => (sixteen_stored _ i e).trans (sixteen_load_half arg3 harg3 x2 1 1 rfl (by decide) (by decide) i e)⟩ <|
  .cons ⟨inb_S2x4x4x128x128_S1x1x1x32x128_1_1_0_0_0_s_1_1_1_4_1, by decide, _, rfl, fun i e => (sixteen_stored _ i e).trans (sixteen_load_half arg3 harg3 x2 1 0 rfl (by decide) (by decide) i e)⟩ <|
  .cons ⟨inb_S2x4x4x128x128_S1x1x1x32x128_1_0_3_3_0_s_1_1_1_4_1, by decide, _, rfl, fun i e => (sixteen_stored _ i e).trans (sixteen_load_half arg3 harg3 x2 12 3 rfl (by decide) (by decide) i e)⟩ <|
  .cons ⟨inb_S2x4x4x128x128_S1x1x1x32x128_1_0_2_3_0_s_1_1_1_4_1, by decide, _, rfl, fun i e => (sixteen_stored _ i e).trans (sixteen_load_half arg3 harg3 x2 12 2 rfl (by decide) (by decide) i e)⟩ <|
  .cons ⟨inb_S2x4x4x128x128_S1x1x1x32x128_1_0_1_3_0_s_1_1_1_4_1, by decide, _, rfl, fun i e => (sixteen_stored _ i e).trans (sixteen_load_half arg3 harg3 x2 12 1 rfl (by decide) (by decide) i e)⟩ <|
  .cons ⟨inb_S2x4x4x128x128_S1x1x1x32x128_1_0_0_3_0_s_1_1_1_4_1, by decide, _, rfl, fun i e => (sixteen_stored _ i e).trans (sixteen_load_half arg3 harg3 x2 12 0 rfl (by decide) (by decide) i e)⟩ <|
  .cons ⟨inb_S2x4x4x128x128_S1x1x1x32x128_1_0_3_2_0_s_1_1_1_4_1, by decide, _, rfl, fun i e => (sixteen_stored _ i e).trans (sixteen_load_half arg3 harg3 x2 8 3 rfl (by decide) (by decide) i e)⟩ <|
  .cons ⟨inb_S2x4x4x128x128_S1x1x1x32x128_1_0_2_2_0_s_1_1_1_4_1, by decide, _, rfl, fun i e => (sixteen_stored _ i e).trans (sixteen_load_half arg3 harg3 x2 8 2 rfl (by decide) (by decide) i e)⟩ <|
  .cons ⟨inb_S2x4x4x128x128_S1x1x1x32x128_1_0_1_2_0_s_1_1_1_4_1, by decide, _, rfl, fun i e => (sixteen_stored _ i e).trans (sixteen_load_half arg3 harg3 x2 8 1 rfl (by decide) (by decide) i e)⟩ <|
  .cons ⟨inb_S2x4x4x128x128_S1x1x1x32x128_1_0_0_2_0_s_1_1_1_4_1, by decide, _, rfl, fun i e => (sixteen_stored _ i e).trans (sixteen_load_half arg3 harg3 x2 8 0 rfl (by decide) (by decide) i e)⟩ <|
  .cons ⟨inb_S2x4x4x128x128_S1x1x1x32x128_1_0_3_1_0_s_1_1_1_4_1, by decide, _, rfl, fun i e => (sixteen_stored _ i e).trans (sixteen_load_half arg3 harg3 x2 4 3 rfl (by decide) (by decide) i e)⟩ <|
  .cons ⟨inb_S2x4x4x128x128_S1x1x1x32x128_1_0_2_1_0_s_1_1_1_4_1, by decide, _, rfl, fun i e => (sixteen_stored _ i e).trans (sixteen_load_half arg3 harg3 x2 4 2 rfl (by decide) (by decide) i e)⟩ <|
  .cons ⟨inb_S2x4x4x128x128_S1x1x1x32x128_1_0_1_1_0_s_1_1_1_4_1, by decide, _, rfl, fun i e => (sixteen_stored _ i e).trans (sixteen_load_half arg3 harg3 x2 4 1 rfl (by decide) (by decide) i e)⟩ <|
  .cons ⟨inb_S2x4x4x128x128_S1x1x1x32x128_1_0_0_1_0_s_1_1_1_4_1, by decide, _, rfl, fun i e => (sixteen_stored _ i e).trans (sixteen_load_half arg3 harg3 x2 4 0 rfl (by decide) (by decide) i e)⟩ <|
  .cons ⟨inb_S2x4x4x128x128_S1x1x1x32x128_1_0_3_0_0_s_1_1_1_4_1, by decide, _, rfl, fun i e => (sixteen_stored _ i e).trans (sixteen_load_half arg3 harg3 x2 0 3 rfl (by decide) (by decide) i e)⟩ <|
  .cons ⟨inb_S2x4x4x128x128_S1x1x1x32x128_1_0_2_0_0_s_1_1_1_4_1, by decide, _, rfl, fun i e => (sixteen_stored _ i e).trans (sixteen_load_half arg3 harg3 x2 0 2 rfl (by decide) (by decide) i e)⟩ <|
  .cons ⟨inb_S2x4x4x128x128_S1x1x1x32x128_1_0_1_0_0_s_1_1_1_4_1, by decide, _, rfl, fun i e => (sixteen_stored _ i e).trans (sixteen_load_half arg3 harg3 x2 0 1 rfl (by decide) (by decide) i e)⟩ <|
  .cons ⟨inb_S2x4x4x128x128_S1x1x1x32x128_1_0_0_0_0_s_1_1_1_4_1, by decide, _, rfl, fun i e => (sixteen_stored _ i e).trans (sixteen_load_half arg3 harg3 x2 0 0 rfl (by decide) (by decide) i e)⟩ <|
  quarters_64 c arg6 harg6 x1 x2 x4 x5

theorem ordered_52 : List.Forall₂ (OrderedIs (held x1 x2 x4 x5)) ((3, 3, 0) :: (3, 2, 0) :: (3, 1, 0) :: (3, 0, 0) :: orderedKeys48) (kernelRun0_B.sl.HS0_52 c arg2 harg2 arg3 harg3 arg5 harg5 arg6 harg6 arg23 x1 x2 x4 x5) := by
  refine .cons ⟨inb_S4x4x512x128_S1x1x128x128_3_3_0_0_s_1_1_4_1, by decide, _, rfl, fun i e => ?_⟩ ?_
  · refine (passed_on _ i e).trans ?_
    exact quarter_strip_at arg23.view (w := 1) (r := 0) (c := 3) (quarters_128 c arg3 harg3 arg6 harg6 x1 x2 x4 x5) (quarterKeys128_mem 0 3) i e
  refine .cons ⟨inb_S4x4x512x128_S1x1x128x128_3_2_0_0_s_1_1_4_1, by decide, _, rfl, fun i e => ?_⟩ ?_
  · refine (congrFun (stored197 _) _).trans ?_
    refine (passed_on _ i e).trans ?_
    exact quarter_strip_at arg23.view (w := 1) (r := 0) (c := 2) (quarters_128 c arg3 harg3 arg6 harg6 x1 x2 x4 x5) (quarterKeys128_mem 0 2) i e
  refine .cons ⟨inb_S4x4x512x128_S1x1x128x128_3_1_0_0_s_1_1_4_1, by decide, _, rfl, fun i e => ?_⟩ ?_
  · refine (congrFun (stored196 _) _).trans ?_
    refine (passed_on _ i e).trans ?_
    exact quarter_strip_at arg23.view (w := 1) (r := 0) (c := 1) (quarters_128 c arg3 harg3 arg6 harg6 x1 x2 x4 x5) (quarterKeys128_mem 0 1) i e
  refine .cons ⟨inb_S4x4x512x128_S1x1x128x128_3_0_0_0_s_1_1_4_1, by decide, _, rfl, fun i e => ?_⟩ ?_
  · refine (congrFun (stored195 _) _).trans ?_
    refine (passed_on _ i e).trans ?_
    exact quarter_strip_at arg23.view (w := 1) (r := 0) (c := 0) (quarters_128 c arg3 harg3 arg6 harg6 x1 x2 x4 x5) (quarterKeys128_mem 0 0) i e
  exact ordered_48 c arg2 harg2 arg5 harg5 arg6 harg6 arg23 x1 x2 x4 x5

theorem ordered_53 : List.Forall₂ (OrderedIs (held x1 x2 x4 x5)) ((3, 0, 1) :: (3, 3, 0) :: (3, 2, 0) :: (3, 1, 0) :: (3, 0, 0) :: orderedKeys48) (kernelRun0_B.sl.HS0_53 c arg2 harg2 arg3 harg3 arg5 harg5 arg6 harg6 arg23 x1 x2 x4 x5) :=
  .cons ⟨inb_S4x4x512x128_S1x1x128x128_3_0_1_0_s_1_1_4_1, by decide, _, rfl, fun i e => (passed_on _ i e).trans (quarter_strip_at arg23.view (w := 1) (r := 1) (c := 0) (quarters_128 c arg3 harg3 arg6 harg6 x1 x2 x4 x5) (quarterKeys128_mem 1 0) i e)⟩ <|
  ordered_52 c arg2 harg2 arg3 harg3 arg5 harg5 arg6 harg6 arg23 x1 x2 x4 x5

theorem ordered_54 : List.Forall₂ (OrderedIs (held x1 x2 x4 x5)) ((3, 1, 1) :: (3, 0, 1) :: (3, 3, 0) :: (3, 2, 0) :: (3, 1, 0) :: (3, 0, 0) :: orderedKeys48) (kernelRun0_B.sl.HS0_54 c arg2 harg2 arg3 harg3 arg5 harg5 arg6 harg6 arg23 x1 x2 x4 x5) :=
  .cons ⟨inb_S4x4x512x128_S1x1x128x128_3_1_1_0_s_1_1_4_1, by decide, _, rfl, fun i e => (passed_on _ i e).trans (quarter_strip_at arg23.view (w := 1) (r := 1) (c := 1) (quarters_128 c arg3 harg3 arg6 harg6 x1 x2 x4 x5) (quarterKeys128_mem 1 1) i e)⟩ <|
  ordered_53 c arg2 harg2 arg3 harg3 arg5 harg5 arg6 harg6 arg23 x1 x2 x4 x5

theorem ordered_55 : List.Forall₂ (OrderedIs (held x1 x2 x4 x5)) ((3, 2, 1) :: (3, 1, 1) :: (3, 0, 1) :: (3, 3, 0) :: (3, 2, 0) :: (3, 1, 0) :: (3, 0, 0) :: orderedKeys48) (kernelRun0_B.sl.HS0_55 c arg2 harg2 arg3 harg3 arg5 harg5 arg6 harg6 arg23 x1 x2 x4 x5) :=
  .cons ⟨inb_S4x4x512x128_S1x1x128x128_3_2_1_0_s_1_1_4_1, by decide, _, rfl, fun i e => (passed_on _ i e).trans (quarter_strip_at arg23.view (w := 1) (r := 1) (c := 2) (quarters_128 c arg3 harg3 arg6 harg6 x1 x2 x4 x5) (quarterKeys128_mem 1 2) i e)⟩ <|
  ordered_54 c arg2 harg2 arg3 harg3 arg5 harg5 arg6 harg6 arg23 x1 x2 x4 x5

theorem ordered_56 : List.Forall₂ (OrderedIs (held x1 x2 x4 x5)) ((3, 3, 1) :: (3, 2, 1) :: (3, 1, 1) :: (3, 0, 1) :: (3, 3, 0) :: (3, 2, 0) :: (3, 1, 0) :: (3, 0, 0) :: orderedKeys48) (kernelRun0_B.sl.HS0_56 c arg2 harg2 arg3 harg3 arg5 harg5 arg6 harg6 arg23 x1 x2 x4 x5) :=
  .cons ⟨inb_S4x4x512x128_S1x1x128x128_3_3_1_0_s_1_1_4_1, by decide, _, rfl, fun i e => (passed_on _ i e).trans (quarter_strip_at arg23.view (w := 1) (r := 1) (c := 3) (quarters_128 c arg3 harg3 arg6 harg6 x1 x2 x4 x5) (quarterKeys128_mem 1 3) i e)⟩ <|
  ordered_55 c arg2 harg2 arg3 harg3 arg5 harg5 arg6 harg6 arg23 x1 x2 x4 x5

theorem ordered_57 : List.Forall₂ (OrderedIs (held x1 x2 x4 x5)) ((3, 0, 2) :: (3, 3, 1) :: (3, 2, 1) :: (3, 1, 1) :: (3, 0, 1) :: (3, 3, 0) :: (3, 2, 0) :: (3, 1, 0) :: (3, 0, 0) :: orderedKeys48) (kernelRun0_B.sl.HS0_57 c arg2 harg2 arg3 harg3 arg5 harg5 arg6 harg6 arg23 x1 x2 x4 x5) :=
  .cons ⟨inb_S4x4x512x128_S1x1x128x128_3_0_2_0_s_1_1_4_1, by decide, _, rfl, fun i e => (passed_on _ i e).trans (quarter_strip_at arg23.view (w := 1) (r := 2) (c := 0) (quarters_128 c arg3 harg3 arg6 harg6 x1 x2 x4 x5) (quarterKeys128_mem 2 0) i e)⟩ <|
  ordered_56 c arg2 harg2 arg3 harg3 arg5 harg5 arg6 harg6 arg23 x1 x2 x4 x5

theorem ordered_58 : List.Forall₂ (OrderedIs (held x1 x2 x4 x5)) ((3, 1, 2) :: (3, 0, 2) :: (3, 3, 1) :: (3, 2, 1) :: (3, 1, 1) :: (3, 0, 1) :: (3, 3, 0) :: (3, 2, 0) :: (3, 1, 0) :: (3, 0, 0) :: orderedKeys48) (kernelRun0_B.sl.HS0_58 c arg2 harg2 arg3 harg3 arg5 harg5 arg6 harg6 arg23 x1 x2 x4 x5) :=
  .cons ⟨inb_S4x4x512x128_S1x1x128x128_3_1_2_0_s_1_1_4_1, by decide, _, rfl, fun i e => (passed_on _ i e).trans (quarter_strip_at arg23.view (w := 1) (r := 2) (c := 1) (quarters_128 c arg3 harg3 arg6 harg6 x1 x2 x4 x5) (quarterKeys128_mem 2 1) i e)⟩ <|
  ordered_57 c arg2 harg2 arg3 harg3 arg5 harg5 arg6 harg6 arg23 x1 x2 x4 x5

theorem ordered_59 : List.Forall₂ (OrderedIs (held x1 x2 x4 x5)) ((3, 2, 2) :: (3, 1, 2) :: (3, 0, 2) :: (3, 3, 1) :: (3, 2, 1) :: (3, 1, 1) :: (3, 0, 1) :: (3, 3, 0) :: (3, 2, 0) :: (3, 1, 0) :: (3, 0, 0) :: orderedKeys48) (kernelRun0_B.sl.HS0_59 c arg2 harg2 arg3 harg3 arg5 harg5 arg6 harg6 arg23 x1 x2 x4 x5) :=
  .cons ⟨inb_S4x4x512x128_S1x1x128x128_3_2_2_0_s_1_1_4_1, by decide, _, rfl, fun i e => (passed_on _ i e).trans (quarter_strip_at arg23.view (w := 1) (r := 2) (c := 2) (quarters_128 c arg3 harg3 arg6 harg6 x1 x2 x4 x5) (quarterKeys128_mem 2 2) i e)⟩ <|
  ordered_58 c arg2 harg2 arg3 harg3 arg5 harg5 arg6 harg6 arg23 x1 x2 x4 x5

theorem ordered_60 : List.Forall₂ (OrderedIs (held x1 x2 x4 x5)) ((3, 3, 2) :: (3, 2, 2) :: (3, 1, 2) :: (3, 0, 2) :: (3, 3, 1) :: (3, 2, 1) :: (3, 1, 1) :: (3, 0, 1) :: (3, 3, 0) :: (3, 2, 0) :: (3, 1, 0) :: (3, 0, 0) :: orderedKeys48) (kernelRun0_B.sl.HS0_60 c arg2 harg2 arg3 harg3 arg5 harg5 arg6 harg6 arg23 x1 x2 x4 x5) :=
  .cons ⟨inb_S4x4x512x128_S1x1x128x128_3_3_2_0_s_1_1_4_1, by decide, _, rfl, fun i e => (passed_on _ i e).trans (quarter_strip_at arg23.view (w := 1) (r := 2) (c := 3) (quarters_128 c arg3 harg3 arg6 harg6 x1 x2 x4 x5) (quarterKeys128_mem 2 3) i e)⟩ <|
  ordered_59 c arg2 harg2 arg3 harg3 arg5 harg5 arg6 harg6 arg23 x1 x2 x4 x5

theorem ordered_61 : List.Forall₂ (OrderedIs (held x1 x2 x4 x5)) ((3, 0, 3) :: (3, 3, 2) :: (3, 2, 2) :: (3, 1, 2) :: (3, 0, 2) :: (3, 3, 1) :: (3, 2, 1) :: (3, 1, 1) :: (3, 0, 1) :: (3, 3, 0) :: (3, 2, 0) :: (3, 1, 0) :: (3, 0, 0) :: orderedKeys48) (kernelRun0_B.sl.HS0_61 c arg2 harg2 arg3 harg3 arg5 harg5 arg6 harg6 arg23 x1 x2 x4 x5) :=
  .cons ⟨inb_S4x4x512x128_S1x1x128x128_3_0_3_0_s_1_1_4_1, by decide, _, rfl, fun i e => (passed_on _ i e).trans (quarter_strip_at arg23.view (w := 1) (r := 3) (c := 0) (quarters_128 c arg3 harg3 arg6 harg6 x1 x2 x4 x5) (quarterKeys128_mem 3 0) i e)⟩ <|
  ordered_60 c arg2 harg2 arg3 harg3 arg5 harg5 arg6 harg6 arg23 x1 x2 x4 x5

theorem ordered_62 : List.Forall₂ (OrderedIs (held x1 x2 x4 x5)) ((3, 1, 3) :: (3, 0, 3) :: (3, 3, 2) :: (3, 2, 2) :: (3, 1, 2) :: (3, 0, 2) :: (3, 3, 1) :: (3, 2, 1) :: (3, 1, 1) :: (3, 0, 1) :: (3, 3, 0) :: (3, 2, 0) :: (3, 1, 0) :: (3, 0, 0) :: orderedKeys48) (kernelRun0_B.sl.HS0_62 c arg2 harg2 arg3 harg3 arg5 harg5 arg6 harg6 arg23 x1 x2 x4 x5) :=
  .cons ⟨inb_S4x4x512x128_S1x1x128x128_3_1_3_0_s_1_1_4_1, by decide, _, rfl, fun i e => (passed_on _ i e).trans (quarter_strip_at arg23.view (w := 1) (r := 3) (c := 1) (quarters_128 c arg3 harg3 arg6 harg6 x1 x2 x4 x5) (quarterKeys128_mem 3 1) i e)⟩ <|
  ordered_61 c arg2 harg2 arg3 harg3 arg5 harg5 arg6 harg6 arg23 x1 x2 x4 x5

theorem ordered_64 : List.Forall₂ (OrderedIs (held x1 x2 x4 x5)) (orderedKeys64) (kernelRun0_B.sl.HS0_64 c arg2 harg2 arg3 harg3 arg5 harg5 arg6 harg6 arg23 x1 x2 x4 x5) := by
  unfold orderedKeys64
  refine .cons ⟨inb_S4x4x512x128_S1x1x128x128_3_3_3_0_s_1_1_4_1, by decide, _, rfl, fun i e => ?_⟩ ?_
  · refine (congrFun (stored210 _) _).trans ?_
    refine (passed_on _ i e).trans ?_
    exact quarter_strip_at arg23.view (w := 1) (r := 3) (c := 3) (quarters_128 c arg3 harg3 arg6 harg6 x1 x2 x4 x5) (quarterKeys128_mem 3 3) i e
  refine .cons ⟨inb_S4x4x512x128_S1x1x128x128_3_2_3_0_s_1_1_4_1, by decide, _, rfl, fun i e => ?_⟩ ?_
  · refine (passed_on _ i e).trans ?_
    exact quarter_strip_at arg23.view (w := 1) (r := 3) (c := 2) (quarters_128 c arg3 harg3 arg6 harg6 x1 x2 x4 x5) (quarterKeys128_mem 3 2) i e
  exact ordered_62 c arg2 harg2 arg3 harg3 arg5 harg5 arg6 harg6 arg23 x1 x2 x4 x5

theorem strips_0 (i j : Fin 512) : (kernelRun0_B.sl.r_3 c arg5 harg5 arg22 x4 : FVec Ideal S512x512 .f32) (ix2 i j) = held x1 x2 x4 x5 0 i.val j.val := by
  refine (congrFun (pay19_eq _ _ _ _) (ix2 i j)).trans ?_
  exact sideBySide_at (f := held x1 x2 x4 x5 0) (fun i e => strip_at arg22.view (ordered_16 c arg5 harg5 x1 x2 x4 x5) (orderedKeys16_mem 0) i e) (fun i e => strip_at arg22.view (ordered_16 c arg5 harg5 x1 x2 x4 x5) (orderedKeys16_mem 1) i e) (fun i e => strip_at arg22.view (ordered_16 c arg5 harg5 x1 x2 x4 x5) (orderedKeys16_mem 2) i e) (fun i e => strip_at arg22.view (ordered_16 c arg5 harg5 x1 x2 x4 x5) (orderedKeys16_mem 3) i e) i j

theorem strips_1 (i j : Fin 512) : (kernelRun0_B.sl.v165 c arg2 harg2 arg5 harg5 arg22 x1 x4 : FVec Ideal S512x512 .f32) (ix2 i j) = held x1 x2 x4 x5 1 i.val j.val := by
  refine (congrFun (pay41_eq _ _ _ _) (ix2 i j)).trans ?_
  exact sideBySide_at (f := held x1 x2 x4 x5 1) (fun i e => strip_at arg22.view (ordered_32 c arg2 harg2 arg5 harg5 x1 x2 x4 x5) (orderedKeys32_mem 0) i e) (fun i e => strip_at arg22.view (ordered_32 c arg2 harg2 arg5 harg5 x1 x2 x4 x5) (orderedKeys32_mem 1) i e) (fun i e => strip_at arg22.view (ordered_32 c arg2 harg2 arg5 harg5 x1 x2 x4 x5) (orderedKeys32_mem 2) i e) (fun i e => strip_at arg22.view (ordered_32 c arg2 harg2 arg5 harg5 x1 x2 x4 x5) (orderedKeys32_mem 3) i e) i j

theorem strips_2 (i j : Fin 512) : (kernelRun0_B.sl.r_21 c arg2 harg2 arg5 harg5 arg6 harg6 arg22 arg23 x1 x4 x5 : FVec Ideal S512x512 .f32) (ix2 i j) = held x1 x2 x4 x5 2 i.val j.val := by
  refine (congrFun (pay122_eq _ _ _ _) (ix2 i j)).trans ?_
  exact sideBySide_at (f := held x1 x2 x4 x5 2) (fun i e => strip_at arg22.view (ordered_48 c arg2 harg2 arg5 harg5 arg6 harg6 arg23 x1 x2 x4 x5) (orderedKeys48_mem 0) i e) (fun i e => strip_at arg22.view (ordered_48 c arg2 harg2 arg5 harg5 arg6 harg6 arg23 x1 x2 x4 x5) (orderedKeys48_mem 1) i e) (fun i e => strip_at arg22.view (ordered_48 c arg2 harg2 arg5 harg5 arg6 harg6 arg23 x1 x2 x4 x5) (orderedKeys48_mem 2) i e) (fun i e => strip_at arg22.view (ordered_48 c arg2 harg2 arg5 harg5 arg6 harg6 arg23 x1 x2 x4 x5) (orderedKeys48_mem 3) i e) i j

theorem strips_3 (i j : Fin 512) : (sideBySide (kernelRun0_B.sl.v911 c arg2 harg2 arg3 harg3 arg5 harg5 arg6 harg6 arg22 arg23 x1 x2 x4 x5) (kernelRun0_B.sl.v913 c arg2 harg2 arg3 harg3 arg5 harg5 arg6 harg6 arg22 arg23 x1 x2 x4 x5) (kernelRun0_B.sl.v915 c arg2 harg2 arg3 harg3 arg5 harg5 arg6 harg6 arg22 arg23 x1 x2 x4 x5) (kernelRun0_B.sl.v917 c arg2 harg2 arg3 harg3 arg5 harg5 arg6 harg6 arg22 arg23 x1 x2 x4 x5) : FVec Ideal S512x512 .f32) (ix2 i j) = held x1 x2 x4 x5 3 i.val j.val := by
  refine (congrFun (rfl) (ix2 i j)).trans ?_
  exact sideBySide_at (f := held x1 x2 x4 x5 3) (fun i e => strip_at arg22.view (ordered_64 c arg2 harg2 arg3 harg3 arg5 harg5 arg6 harg6 arg23 x1 x2 x4 x5) (orderedKeys64_mem 0) i e) (fun i e => strip_at arg22.view (ordered_64 c arg2 harg2 arg3 harg3 arg5 harg5 arg6 harg6 arg23 x1 x2 x4 x5) (orderedKeys64_mem 1) i e) (fun i e => strip_at arg22.view (ordered_64 c arg2 harg2 arg3 harg3 arg5 harg5 arg6 harg6 arg23 x1 x2 x4 x5) (orderedKeys64_mem 2) i e) (fun i e => strip_at arg22.view (ordered_64 c arg2 harg2 arg3 harg3 arg5 harg5 arg6 harg6 arg23 x1 x2 x4 x5) (orderedKeys64_mem 3) i e) i j

/-- The three attention branches of a token, blended. -/
theorem blend_held (h3 : ∀ y, ∃ r : ℝ, x3 y = (r : EReal)) (h4 : ∀ y, ∃ r : ℝ, x4 y = (r : EReal)) (h5 : ∀ y, ∃ r : ℝ, x5 y = (r : EReal)) (i j : Fin 512) :
    (kernelRun0_B.sl.r_32 c arg1 harg1 arg2 harg2 arg3 harg3 arg4 harg4 arg5 harg5 arg6 harg6 arg22 arg23 x0 x1 x2 x3 x4 x5 : FVec Ideal S512x512 .bf16) (ix2 i j) = blended x0 x1 x2 x3 x4 x5 i j := by
  have e0 := strips_0 c arg5 harg5 arg22 x1 x2 x4 x5 i j
  have e1 := strips_1 c arg2 harg2 arg5 harg5 arg22 x1 x2 x4 x5 i j
  have e2 := strips_2 c arg2 harg2 arg5 harg5 arg6 harg6 arg22 arg23 x1 x2 x4 x5 i j
  have e3 := strips_3 c arg2 harg2 arg3 harg3 arg5 harg5 arg6 harg6 arg22 arg23 x1 x2 x4 x5 i j
  have ep : (kernelRun0_B.sl.r c arg4 harg4 x3 : FVec Ideal S512x512 .f32) = x3 := load_all arg4 harg4 x3
  refine (congrFun (pay211_eq _ _ _ _ _ _ _ _ _) (ix2 i j)).trans ?_
  refine (blend_at _ _ _ _ _ _ i j ?_ ?_ ?_).trans ?_
  · rw [ep]; exact h3 _
  · rw [e0]; exact fours_real h4 _ _
  · rw [e2]; exact sixteens_real h5 _ _
  · rw [ep, e0, e1, e2, e3, load_all arg1 harg1 x0]
    rfl

end Cert.OutProj.CaseB
-- ==== Proof.OutLeft.lean ====
module

public import proofs.«01_k».proof.Proof.InOuts
public import proofs.«01_k».proof.Proof.OutStateA
public import proofs.«01_k».proof.Proof.OutStateB
public import proofs.«01_k».proof.Proof.Gen.Kernel5Ideal.Frame

/-! # What the output projection's body leaves -/

@[expose] public section

set_option maxRecDepth 65536

noncomputable section
open Idealize.ShloMosaic Idealize.ShloMosaic.TcCoe Idealize.SL.Sem
namespace Cert.OutProj
open Cert.Kernel5Ideal Cert.Kernel5Ideal.Gen

variable (c : Dev nD) (i : grid0.Coords) (arg1 : Memref sig .tc .vmem S512x512 .bf16) (harg1 : arg1.IsWhole) (arg2 : Memref sig .tc .vmem S128x2048 .bf16)
  (harg2 : arg2.IsWhole) (arg3 : Memref sig .tc .vmem S32x8192 .bf16) (harg3 : arg3.IsWhole) (arg4 : Memref sig .tc .vmem S512x512 .f32)
  (harg4 : arg4.IsWhole) (arg5 : Memref sig .tc .vmem S128x2048 .f32) (harg5 : arg5.IsWhole) (arg6 : Memref sig .tc .vmem S32x8192 .f32)
  (harg6 : arg6.IsWhole) (arg7 : Memref sig .tc .vmem S512x512 .bf16) (harg7 : arg7.IsWhole) (arg8 : Memref sig .tc .vmem S512x2048 .bf16)
  (harg8 : arg8.IsWhole) (arg9 : Memref sig .tc .vmem S512x1024 .f32) (harg9 : arg9.IsWhole) (arg10 : Memref sig .tc .vmem S512x1024 .bf16)
  (harg10 : arg10.IsWhole) (arg11 : Memref sig .tc .vmem S512x1024 .bf16) (harg11 : arg11.IsWhole) (arg12 : Memref sig .tc .vmem S1024x1024 .bf16)
  (harg12 : arg12.IsWhole) (arg13 : Memref sig .tc .vmem S1x1024 .f32) (harg13 : arg13.IsWhole) (arg14 : Memref sig .tc .vmem S1024x128 .bf16)
  (harg14 : arg14.IsWhole) (arg15 : Memref sig .tc .vmem S1024x128 .bf16) (harg15 : arg15.IsWhole) (arg16 : Memref sig .tc .vmem S1x128 .f32)
  (harg16 : arg16.IsWhole) (arg17 : Memref sig .tc .vmem S512x512 .bf16) (harg17 : arg17.IsWhole) (arg18 : Memref sig .tc .vmem S512x1024 .f32)
  (harg18 : arg18.IsWhole) (arg19 : Memref sig .tc .vmem S512x2x512 .bf16) (harg19 : arg19.IsWhole) (arg20 : Memref sig .tc .vmem S512x128 .f32)
  (harg20 : arg20.IsWhole) (arg21 : Memref sig .tc .vmem S8x128 .f32) (harg21 : arg21.IsWhole) (arg22 : Memref sig .tc .vmem S4x4x512x128 .f32)
  (harg22 : arg22.IsWhole) (arg23 : Memref sig .tc .vmem S2x4x4x128x128 .f32) (harg23 : arg23.IsWhole) (arg24 : Memref sig .tc .vmem S8x128 .f32)
  (harg24 : arg24.IsWhole)  (x0 : Vec Ideal S512x512 .bf16) (x1 : Vec Ideal S128x2048 .bf16) (x2 : Vec Ideal S32x8192 .bf16)
  (x3 : Vec Ideal S512x512 .f32) (x4 : Vec Ideal S128x2048 .f32) (x5 : Vec Ideal S32x8192 .f32) (x6 : Vec Ideal S512x512 .bf16)
  (x7 : Vec Ideal S512x2048 .bf16) (x8 : Vec Ideal S512x1024 .f32) (x9 : Vec Ideal S512x1024 .bf16) (x10 : Vec Ideal S512x1024 .bf16)
  (x11 : Vec Ideal S1024x1024 .bf16) (x12 : Vec Ideal S1x1024 .f32) (x13 : Vec Ideal S1024x128 .bf16) (x14 : Vec Ideal S1024x128 .bf16)
  (x15 : Vec Ideal S1x128 .f32) (x16 : Vec Ideal S512x512 .bf16)

theorem pieces_A (hc0 : cond0_0 i) (h3 : ∀ y, ∃ r : ℝ, x3 y = (r : EReal)) (h4 : ∀ y, ∃ r : ℝ, x4 y = (r : EReal)) (h5 : ∀ y, ∃ r : ℝ, x5 y = (r : EReal)) :
    List.Forall₂ (InProj.ColumnsAre (b' := 1024) (e := .f32) (outRow x0 x1 x2 x3 x4 x5 x6 x7 x8 x9 x10 x11)) [0] (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16).1 :=
  .cons ⟨inb_S512x1024_S512x1024_0_0, _, rfl, fun i j h => by
    have e : (⟨0 + j.val, h⟩ : Fin 1024) = j := Fin.ext (Nat.zero_add _)
    rw [e]
    refine (projected_at _ _ _ _ _ _ _ _ i j).trans ?_
    rw [load_all arg9, load_all arg10, load_all arg7, load_all arg11, load_all arg12]
    refine congrArg (fun z : EReal => x8 (ix2 i j) + z) (Finset.sum_congr (M := EReal) rfl fun k _ => Ideal.mul_congr ?_ rfl)
    rw [load_cols arg8 harg8 x7 i k (by omega), load_cols arg8 harg8 x7 i k (by omega)]
    have el : (⟨0 + k.val, by omega⟩ : Fin 2048) = ⟨k.val, by omega⟩ := Fin.ext (Nat.zero_add _)
    rw [el]
    refine congrArg (fun z : EReal => x7 (ix2 i ⟨k.val, by omega⟩) * z + x7 (ix2 i ⟨1024 + k.val, by omega⟩) * ∑ a : Fin 512, x6 (ix2 i a) * x10 (ix2 a k)) ?_
    exact Finset.sum_congr (M := EReal) rfl fun a _ => Ideal.mul_congr (CaseA.blend_held c arg1 harg1 arg2 harg2 arg3 harg3 arg4 harg4 arg5 harg5 arg6 harg6 arg22 arg23 x0 x1 x2 x3 x4 x5 h3 h4 h5 i a) rfl⟩ .nil

theorem out_A (hc0 : cond0_0 i) (h3 : ∀ y, ∃ r : ℝ, x3 y = (r : EReal)) (h4 : ∀ y, ∃ r : ℝ, x4 y = (r : EReal)) (h5 : ∀ y, ∃ r : ℝ, x5 y = (r : EReal))
    (a : Fin 512) (b : Fin 1024) : out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 (ix2 a b) = outRow x0 x1 x2 x3 x4 x5 x6 x7 x8 x9 x10 x11 a b :=
  InProj.columns_read VO0_17 (pieces_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 hc0 h3 h4 h5) _ a b
    (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 (ix2 a b))

theorem pieces_B (hc0 : ¬cond0_0 i) (xs2 : Vec Ideal S8x128 .f32) (h3 : ∀ y, ∃ r : ℝ, x3 y = (r : EReal)) (h4 : ∀ y, ∃ r : ℝ, x4 y = (r : EReal)) (h5 : ∀ y, ∃ r : ℝ, x5 y = (r : EReal)) :
    List.Forall₂ (InProj.ColumnsAre (b' := 1024) (e := .f32) (outRow x0 x1 x2 x3 x4 x5 x6 x7 x8 x9 x10 x11)) [0] (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 xs2).1 :=
  .cons ⟨inb_S512x1024_S512x1024_0_0, _, rfl, fun i j h => by
    have e : (⟨0 + j.val, h⟩ : Fin 1024) = j := Fin.ext (Nat.zero_add _)
    rw [e]
    refine (projected_at _ _ _ _ _ _ _ _ i j).trans ?_
    rw [load_all arg9, load_all arg10, load_all arg7, load_all arg11, load_all arg12]
    refine congrArg (fun z : EReal => x8 (ix2 i j) + z) (Finset.sum_congr (M := EReal) rfl fun k _ => Ideal.mul_congr ?_ rfl)
    rw [load_cols arg8 harg8 x7 i k (by omega), load_cols arg8 harg8 x7 i k (by omega)]
    have el : (⟨0 + k.val, by omega⟩ : Fin 2048) = ⟨k.val, by omega⟩ := Fin.ext (Nat.zero_add _)
    rw [el]
    refine congrArg (fun z : EReal => x7 (ix2 i ⟨k.val, by omega⟩) * z + x7 (ix2 i ⟨1024 + k.val, by omega⟩) * ∑ a : Fin 512, x6 (ix2 i a) * x10 (ix2 a k)) ?_
    exact Finset.sum_congr (M := EReal) rfl fun a _ => Ideal.mul_congr (CaseB.blend_held c arg1 harg1 arg2 harg2 arg3 harg3 arg4 harg4 arg5 harg5 arg6 harg6 arg22 arg23 x0 x1 x2 x3 x4 x5 h3 h4 h5 i a) rfl⟩ .nil

theorem out_B (hc0 : ¬cond0_0 i) (xs2 : Vec Ideal S8x128 .f32) (h3 : ∀ y, ∃ r : ℝ, x3 y = (r : EReal)) (h4 : ∀ y, ∃ r : ℝ, x4 y = (r : EReal)) (h5 : ∀ y, ∃ r : ℝ, x5 y = (r : EReal))
    (a : Fin 512) (b : Fin 1024) : out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 xs2 (ix2 a b) = outRow x0 x1 x2 x3 x4 x5 x6 x7 x8 x9 x10 x11 a b :=
  InProj.columns_read VO0_17 (pieces_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 hc0 xs2 h3 h4 h5) _ a b
    (cover0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 xs2 (ix2 a b))

end Cert.OutProj
-- ==== Proof.OutRef.lean ====
module

public import proofs.«01_k».proof.Proof.OutSpec
public import proofs.«01_k».proof.Proof.RefValue
public import proofs.«01_k».proof.Proof.Gen.Reference5Ideal
public import Idealize.ShloMosaic.Lib.Pointwise
public import Idealize.ShloMosaic.Lib.IdealHost

/-! # The reference's output projection, in numbers -/

@[expose] public section

set_option maxRecDepth 16384

noncomputable section
open Idealize.ShloMosaic Idealize.ShloMosaic.TcCoe Idealize.SL.Sem
namespace Cert.OutProj
open Cert.Reference5Ideal Cert.Reference5Ideal.Gen

/-- An array that holds four tokens a row, a token a row, -/
def refFours {φ : FTy} (x : FVec Ideal S8192x2048 φ) : FVec Ideal S32768x512 φ := shapeCast _ x shapeCasts_S8192x2048_S32768x512

theorem refFours_at {φ : FTy} (x : FVec Ideal S8192x2048 φ) (r : Fin 32768) (a : Fin 512) :
    refFours x (ix2 r a) = x (ix2 ⟨r.val / 4, by omega⟩ ⟨512 * (r.val % 4) + a.val, by omega⟩) := by
  pointwise [refFours]
  exact congrArg x (congrArg₂ ix2 rfl (Fin.ext (by dsimp only; omega)))

/-- and one that holds sixteen. -/
def refSixteens {φ : FTy} (x : FVec Ideal S2048x8192 φ) : FVec Ideal S32768x512 φ := shapeCast _ x shapeCasts_S2048x8192_S32768x512

theorem refSixteens_at {φ : FTy} (x : FVec Ideal S2048x8192 φ) (r : Fin 32768) (a : Fin 512) :
    refSixteens x (ix2 r a) = x (ix2 ⟨r.val / 16, by omega⟩ ⟨512 * (r.val % 16) + a.val, by omega⟩) := by
  pointwise [refSixteens]
  exact congrArg x (congrArg₂ ix2 rfl (Fin.ext (by dsimp only; omega)))

/-- Three arrays in one. -/
def stacked (a b c : FVec Ideal S32768x512 .f32) : FVec Ideal S3x32768x512 .f32 :=
  concatenate S3x32768x512 0 [⟨S1x32768x512, broadcastInDim S1x32768x512 ![1, 2] bcast_S32768x512_S1x32768x512_1_2 a⟩, ⟨S1x32768x512, broadcastInDim S1x32768x512 ![1, 2] bcast_S32768x512_S1x32768x512_1_2 b⟩,
    ⟨S1x32768x512, broadcastInDim S1x32768x512 ![1, 2] bcast_S32768x512_S1x32768x512_1_2 c⟩] concatenates_S1x32768x512_S1x32768x512_S1x32768x512_S3x32768x512_d0

theorem stacked_at (a b c : FVec Ideal S32768x512 .f32) (k : Fin 3) (r : Fin 32768) (j : Fin 512) :
    stacked a b c (ix3 k r j) = if h : k.val < 1 then a (ix2 r j) else if h : k.val - 1 < 1 then b (ix2 r j) else c (ix2 r j) := by
  pointwise [stacked]

/-- The greatest of the three, -/
def refTop (s : FVec Ideal S3x32768x512 .f32) : FVec Ideal S32768x512 .f32 :=
  maximumf (broadcastInDim S32768x512 ![] bcast_S_S32768x512 (constant S_ .f32 0xFF800000#32)) (Host.reduce FloatOps.maximumf s (constant S_ .f32 0xFF800000#32) reducesTo_S3x32768x512_S32768x512_d0 h_S_)

/-- the exponentials of their distances from it, -/
def refExps (s : FVec Ideal S3x32768x512 .f32) (t : FVec Ideal S32768x512 .f32) : FVec Ideal S3x32768x512 .f32 :=
  Host.exp (subf s (broadcastInDim S3x32768x512 ![0, 1, 2] bcast_S1x32768x512_S3x32768x512_0_1_2 (broadcastInDim S1x32768x512 ![1, 2] bcast_S32768x512_S1x32768x512_1_2 t)))

theorem refExps_at (s : FVec Ideal S3x32768x512 .f32) (t : FVec Ideal S32768x512 .f32) (k : Fin 3) (r : Fin 32768) (j : Fin 512) :
    refExps s t (ix3 k r j) = Ideal.exp (s (ix3 k r j) - t (ix2 r j)) := by
  pointwise [refExps]

/-- and the sum weighted by them, each divided by their sum. -/
def refWeighted (e o : FVec Ideal S3x32768x512 .f32) : FVec Ideal S32768x512 .f32 :=
  Host.reduceAdd (mulf (Host.divf e (broadcastInDim S3x32768x512 ![0, 1, 2] bcast_S1x32768x512_S3x32768x512_0_1_2 (broadcastInDim S1x32768x512 ![1, 2] bcast_S32768x512_S1x32768x512_1_2
    (Host.reduceAdd e (constant S_ .f32 0x00000000#32) reducesTo_S3x32768x512_S32768x512_d0 h_S_)))) o) (constant S_ .f32 0x00000000#32) reducesTo_S3x32768x512_S32768x512_d0 h_S_

theorem refWeighted_at (e o : FVec Ideal S3x32768x512 .f32) (r : Fin 32768) (j : Fin 512) :
    refWeighted e o (ix2 r j) = ∑ k : Fin 3, Ideal.div (e (ix3 k r j)) (∑ l : Fin 3, e (ix3 l r j)) * o (ix3 k r j) := by
  pointwise [refWeighted]

/-- The mixture of the three outputs is that by the softmax of real log-sums. -/
theorem refMixed_at (a b c x y z : FVec Ideal S32768x512 .f32) (ha : ∀ i, ∃ r : ℝ, a i = (r : EReal)) (hb : ∀ i, ∃ r : ℝ, b i = (r : EReal)) (hc : ∀ i, ∃ r : ℝ, c i = (r : EReal))
    (r : Fin 32768) (j : Fin 512) : refWeighted (refExps (stacked a b c) (refTop (stacked a b c))) (stacked x y z) (ix2 r j)
      = mixed (a (ix2 r j)) (b (ix2 r j)) (c (ix2 r j)) (x (ix2 r j)) (y (ix2 r j)) (z (ix2 r j)) := by
  have hs : ∀ i, ∃ r : ℝ, stacked a b c i = (r : EReal) := by
    intro i
    obtain ⟨k, r, j, rfl⟩ : ∃ (k : Fin 3) (r : Fin 32768) (j : Fin 512), i = (ix3 k r j : S3x32768x512.Idx) := ⟨i 0, i 1, i 2, by funext z; fin_cases z <;> rfl⟩
    rw [stacked_at]
    split
    · exact ha _
    · split
      · exact hb _
      · exact hc _
  obtain ⟨M, hM⟩ : ∃ M : ℝ, refTop (stacked a b c) (ix2 r j) = (M : EReal) :=
    Attn.max_least (stacked a b c) (constant S_ .f32 0xFF800000#32) _ reducesTo_S3x32768x512_S32768x512_d0 (by decide) h_S_ ⟨2, rfl⟩
      (fun _ => Attn.least) (fun _ => Attn.least) hs (ix2 r j)
  obtain ⟨p, hp⟩ := ha (ix2 r j)
  obtain ⟨q, hq⟩ := hb (ix2 r j)
  obtain ⟨w, hw⟩ := hc (ix2 r j)
  have s0 : ∀ u v w : FVec Ideal S32768x512 .f32, stacked u v w (ix3 0 r j) = u (ix2 r j) := fun u v w => stacked_at u v w 0 r j
  have s1 : ∀ u v w : FVec Ideal S32768x512 .f32, stacked u v w (ix3 1 r j) = v (ix2 r j) := fun u v w => stacked_at u v w 1 r j
  have s2 : ∀ u v w : FVec Ideal S32768x512 .f32, stacked u v w (ix3 2 r j) = w (ix2 r j) := fun u v w => stacked_at u v w 2 r j
  rw [refWeighted_at, Fin.sum_univ_three, Fin.sum_univ_three, refExps_at, refExps_at, refExps_at, s0, s1, s2, s0, s1, s2, hM, hp, hq, hw,
    exp_sum, div_share, div_share, div_share]
  rfl

/-- The products, gated and added onto the residual. -/
def refProjected (oa : FVec Ideal S32768x512 .f32) (ob : FVec Ideal S32768x512 .bf16) (g : FVec Ideal S32768x2048 .bf16) (x : FVec Ideal S32768x1024 .f32)
    (wa wb : FVec Ideal S512x1024 .bf16) (wo : FVec Ideal S1024x1024 .bf16) : FVec Ideal S32768x1024 .f32 :=
  addf x (Host.dotGeneral dot_S32768x1024_S1024x1024_S32768x1024_1_0_0_1_n_n none
    (addf (mulf (extf .f32 (extractStridedSlice S32768x1024 ![0, 0] g slices_S32768x2048_S32768x1024_0_0) bitsLt_bf16_f32) (Host.dotGeneral dot_S32768x512_S512x1024_S32768x1024_1_0_0_1_n_n none oa (extf .f32 wa bitsLt_bf16_f32)))
      (mulf (extf .f32 (extractStridedSlice S32768x1024 ![0, 1024] g slices_S32768x2048_S32768x1024_0_1024) bitsLt_bf16_f32)
        (Host.dotGeneral dot_S32768x512_S512x1024_S32768x1024_1_0_0_1_n_n none (extf .f32 ob bitsLt_bf16_f32) (extf .f32 wb bitsLt_bf16_f32)))) (extf .f32 wo bitsLt_bf16_f32))

theorem refProjected_at (oa : FVec Ideal S32768x512 .f32) (ob : FVec Ideal S32768x512 .bf16) (g : FVec Ideal S32768x2048 .bf16) (x : FVec Ideal S32768x1024 .f32)
    (wa wb : FVec Ideal S512x1024 .bf16) (wo : FVec Ideal S1024x1024 .bf16) (r : Fin 32768) (j : Fin 1024) :
    refProjected oa ob g x wa wb wo (ix2 r j) = x (ix2 r j) + ∑ k : Fin 1024, (g (ix2 r ⟨k.val, by omega⟩) * (∑ a : Fin 512, oa (ix2 r a) * wa (ix2 a k))
      + g (ix2 r ⟨1024 + k.val, by omega⟩) * (∑ a : Fin 512, ob (ix2 r a) * wb (ix2 a k))) * wo (ix2 k j) := by
  pointwise [refProjected]

/-- The reference's result of the arguments. -/
def refOut (o1 : FVec Ideal S32768x512 .bf16) (o2 : FVec Ideal S8192x2048 .bf16) (o3 : FVec Ideal S2048x8192 .bf16) (l1 : FVec Ideal S32768x512 .f32)
    (l2 : FVec Ideal S8192x2048 .f32) (l3 : FVec Ideal S2048x8192 .f32) (ob : FVec Ideal S32768x512 .bf16) (g : FVec Ideal S32768x2048 .bf16)
    (x : FVec Ideal S32768x1024 .f32) (wa wb : FVec Ideal S512x1024 .bf16) (wo : FVec Ideal S1024x1024 .bf16) : FVec Ideal S32768x1024 .f32 :=
  refProjected (refWeighted (refExps (stacked l1 (refFours l2) (refSixteens l3)) (refTop (stacked l1 (refFours l2) (refSixteens l3))))
    (stacked (extf .f32 o1 bitsLt_bf16_f32) (extf .f32 (refFours o2) bitsLt_bf16_f32) (extf .f32 (refSixteens o3) bitsLt_bf16_f32))) ob g x wa wb wo

theorem refOut_at (o1 : FVec Ideal S32768x512 .bf16) (o2 : FVec Ideal S8192x2048 .bf16) (o3 : FVec Ideal S2048x8192 .bf16) (l1 : FVec Ideal S32768x512 .f32)
    (l2 : FVec Ideal S8192x2048 .f32) (l3 : FVec Ideal S2048x8192 .f32) (ob : FVec Ideal S32768x512 .bf16) (g : FVec Ideal S32768x2048 .bf16)
    (x : FVec Ideal S32768x1024 .f32) (wa wb : FVec Ideal S512x1024 .bf16) (wo : FVec Ideal S1024x1024 .bf16)
    (h1 : ∀ y, ∃ r : ℝ, l1 y = (r : EReal)) (h2 : ∀ y, ∃ r : ℝ, l2 y = (r : EReal)) (h3 : ∀ y, ∃ r : ℝ, l3 y = (r : EReal)) (r : Fin 32768) (j : Fin 1024) :
    refOut o1 o2 o3 l1 l2 l3 ob g x wa wb wo (ix2 r j) = x (ix2 r j) + ∑ k : Fin 1024, (g (ix2 r ⟨k.val, by omega⟩)
      * (∑ a : Fin 512, mixed (l1 (ix2 r a)) (l2 (ix2 ⟨r.val / 4, by omega⟩ ⟨512 * (r.val % 4) + a.val, by omega⟩)) (l3 (ix2 ⟨r.val / 16, by omega⟩ ⟨512 * (r.val % 16) + a.val, by omega⟩))
          (o1 (ix2 r a)) (o2 (ix2 ⟨r.val / 4, by omega⟩ ⟨512 * (r.val % 4) + a.val, by omega⟩)) (o3 (ix2 ⟨r.val / 16, by omega⟩ ⟨512 * (r.val % 16) + a.val, by omega⟩)) * wa (ix2 a k))
      + g (ix2 r ⟨1024 + k.val, by omega⟩) * (∑ a : Fin 512, ob (ix2 r a) * wb (ix2 a k))) * wo (ix2 k j) := by
  unfold refOut
  rw [refProjected_at]
  refine congrArg (fun z : EReal => x (ix2 r j) + z) (Finset.sum_congr (M := EReal) rfl fun k _ => Ideal.mul_congr ?_ rfl)
  refine congrArg (fun z : EReal => g (ix2 r ⟨k.val, by omega⟩) * z + g (ix2 r ⟨1024 + k.val, by omega⟩) * ∑ a : Fin 512, ob (ix2 r a) * wb (ix2 a k)) ?_
  refine Finset.sum_congr (M := EReal) rfl fun a _ => Ideal.mul_congr ?_ rfl
  refine (refMixed_at l1 (refFours l2) (refSixteens l3) _ _ _ h1 (fun i => h2 _) (fun i => h3 _) r a).trans ?_
  rw [refFours_at, refSixteens_at]
  exact congrArg₂ (fun p q => mixed _ _ _ (o1 (ix2 r a)) p q) (refFours_at o2 r a) (refSixteens_at o3 r a)

end Cert.OutProj
-- ==== Proof.OutArrays.lean ====
module

public import proofs.«01_k».proof.Proof.OutLeft
public import proofs.«01_k».proof.Proof.OutRef
public import proofs.«01_k».proof.Proof.Gen.Kernel5Ideal.Value
public import Idealize.ShloMosaic.Lib.Pipeline.ValueKit

/-! # The array the output projection's grid leaves

Each grid point writes 512 rows of the output; the blocks cover the array, and hold the reference's result. -/

@[expose] public section

set_option maxRecDepth 16384

noncomputable section
open Idealize.ShloMosaic Idealize.ShloMosaic.TcCoe Idealize.SL.Sem
namespace Cert.OutProj
open Cert.Kernel5Ideal Cert.Kernel5Ideal.Gen

/-- The blocks of the windows at point `t`. -/
theorem out_index : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![t.val, 0]
    ∧ win0_9.index t = ![0, 0]
    ∧ win0_10.index t = ![0, 0]
    ∧ win0_11.index t = ![0, 0]
    ∧ win0_17.index t = ![t.val, 0] :=
  (by decide +kernel : ∀ t : Fin grid0.N, _)

variable (m : (ℓ : Loc nD τ sig) → Buf (Elt Ideal) ℓ) (c : Dev nD)

/-- The arguments, as the arrays they hold. -/
abbrev in0 : FVec Ideal S32768x512 .bf16 := m ((c.tc : Thread nD τ).loc main_arg0)
abbrev in1 : FVec Ideal S8192x2048 .bf16 := m ((c.tc : Thread nD τ).loc main_arg1)
abbrev in2 : FVec Ideal S2048x8192 .bf16 := m ((c.tc : Thread nD τ).loc main_arg2)
abbrev in3 : FVec Ideal S32768x512 .f32 := m ((c.tc : Thread nD τ).loc main_arg3)
abbrev in4 : FVec Ideal S8192x2048 .f32 := m ((c.tc : Thread nD τ).loc main_arg4)
abbrev in5 : FVec Ideal S2048x8192 .f32 := m ((c.tc : Thread nD τ).loc main_arg5)
abbrev in6 : FVec Ideal S32768x512 .bf16 := m ((c.tc : Thread nD τ).loc main_arg6)
abbrev in7 : FVec Ideal S32768x2048 .bf16 := m ((c.tc : Thread nD τ).loc main_arg7)
abbrev in8 : FVec Ideal S32768x1024 .f32 := m ((c.tc : Thread nD τ).loc main_arg8)
abbrev in9 : FVec Ideal S512x1024 .bf16 := m ((c.tc : Thread nD τ).loc main_arg9)
abbrev in10 : FVec Ideal S512x1024 .bf16 := m ((c.tc : Thread nD τ).loc main_arg10)
abbrev in11 : FVec Ideal S1024x1024 .bf16 := m ((c.tc : Thread nD τ).loc main_arg11)

theorem block_0 (t : Fin cfg0.N) (i : Fin 512) (k : Fin 512) (h : 512 * t.val + i.val < 32768) : iblk m c 0 t (ix2 i k) = in0 m c (ix2 ⟨512 * t.val + i.val, h⟩ k) := by
  blk_ext! [iblk, V, (out_index t).1]

theorem block_1 (t : Fin cfg0.N) (i : Fin 128) (k : Fin 2048) (h : 128 * t.val + i.val < 8192) : iblk m c 1 t (ix2 i k) = in1 m c (ix2 ⟨128 * t.val + i.val, h⟩ k) := by
  blk_ext! [iblk, V, (out_index t).2.1]

theorem block_2 (t : Fin cfg0.N) (i : Fin 32) (k : Fin 8192) (h : 32 * t.val + i.val < 2048) : iblk m c 2 t (ix2 i k) = in2 m c (ix2 ⟨32 * t.val + i.val, h⟩ k) := by
  blk_ext! [iblk, V, (out_index t).2.2.1]

theorem block_3 (t : Fin cfg0.N) (i : Fin 512) (k : Fin 512) (h : 512 * t.val + i.val < 32768) : iblk m c 3 t (ix2 i k) = in3 m c (ix2 ⟨512 * t.val + i.val, h⟩ k) := by
  blk_ext! [iblk, V, (out_index t).2.2.2.1]

theorem block_4 (t : Fin cfg0.N) (i : Fin 128) (k : Fin 2048) (h : 128 * t.val + i.val < 8192) : iblk m c 4 t (ix2 i k) = in4 m c (ix2 ⟨128 * t.val + i.val, h⟩ k) := by
  blk_ext! [iblk, V, (out_index t).2.2.2.2.1]

theorem block_5 (t : Fin cfg0.N) (i : Fin 32) (k : Fin 8192) (h : 32 * t.val + i.val < 2048) : iblk m c 5 t (ix2 i k) = in5 m c (ix2 ⟨32 * t.val + i.val, h⟩ k) := by
  blk_ext! [iblk, V, (out_index t).2.2.2.2.2.1]

theorem block_6 (t : Fin cfg0.N) (i : Fin 512) (k : Fin 512) (h : 512 * t.val + i.val < 32768) : iblk m c 6 t (ix2 i k) = in6 m c (ix2 ⟨512 * t.val + i.val, h⟩ k) := by
  blk_ext! [iblk, V, (out_index t).2.2.2.2.2.2.1]

theorem block_7 (t : Fin cfg0.N) (i : Fin 512) (k : Fin 2048) (h : 512 * t.val + i.val < 32768) : iblk m c 7 t (ix2 i k) = in7 m c (ix2 ⟨512 * t.val + i.val, h⟩ k) := by
  blk_ext! [iblk, V, (out_index t).2.2.2.2.2.2.2.1]

theorem block_8 (t : Fin cfg0.N) (i : Fin 512) (k : Fin 1024) (h : 512 * t.val + i.val < 32768) : iblk m c 8 t (ix2 i k) = in8 m c (ix2 ⟨512 * t.val + i.val, h⟩ k) := by
  blk_ext! [iblk, V, (out_index t).2.2.2.2.2.2.2.2.1]

theorem block_9 (t : Fin cfg0.N) (i : Fin 512) (k : Fin 1024) : iblk m c 9 t (ix2 i k) = in9 m c (ix2 i k) := by
  blk_ext! [iblk, V, (out_index t).2.2.2.2.2.2.2.2.2.1]

theorem block_10 (t : Fin cfg0.N) (i : Fin 512) (k : Fin 1024) : iblk m c 10 t (ix2 i k) = in10 m c (ix2 i k) := by
  blk_ext! [iblk, V, (out_index t).2.2.2.2.2.2.2.2.2.2.1]

theorem block_11 (t : Fin cfg0.N) (i : Fin 1024) (k : Fin 1024) : iblk m c 11 t (ix2 i k) = in11 m c (ix2 i k) := by
  blk_ext! [iblk, V, (out_index t).2.2.2.2.2.2.2.2.2.2.2.1]

theorem fours_1 (t : Fin cfg0.N) (a : Fin 512) (e : Fin 512) (h : 512 * t.val + a.val < 32768) :
    fours (iblk m c 1 t) a.val e.val = in1 m c (ix2 ⟨(512 * t.val + a.val) / 4, by omega⟩ ⟨512 * ((512 * t.val + a.val) % 4) + e.val, by omega⟩) := by
  unfold fours
  rw [dif_pos ⟨a.isLt, e.isLt⟩]
  refine (block_1 m c t _ _ (by have := a.isLt; show 128 * t.val + a.val / 4 < 8192; omega)).trans (congrArg (in1 m c) (congrArg₂ ix2 (Fin.ext ?_) (Fin.ext ?_)))
  · show 128 * t.val + a.val / 4 = (512 * t.val + a.val) / 4; omega
  · show 512 * (a.val % 4) + e.val = 512 * ((512 * t.val + a.val) % 4) + e.val; omega

theorem fours_4 (t : Fin cfg0.N) (a : Fin 512) (e : Fin 512) (h : 512 * t.val + a.val < 32768) :
    fours (iblk m c 4 t) a.val e.val = in4 m c (ix2 ⟨(512 * t.val + a.val) / 4, by omega⟩ ⟨512 * ((512 * t.val + a.val) % 4) + e.val, by omega⟩) := by
  unfold fours
  rw [dif_pos ⟨a.isLt, e.isLt⟩]
  refine (block_4 m c t _ _ (by have := a.isLt; show 128 * t.val + a.val / 4 < 8192; omega)).trans (congrArg (in4 m c) (congrArg₂ ix2 (Fin.ext ?_) (Fin.ext ?_)))
  · show 128 * t.val + a.val / 4 = (512 * t.val + a.val) / 4; omega
  · show 512 * (a.val % 4) + e.val = 512 * ((512 * t.val + a.val) % 4) + e.val; omega

theorem sixteens_2 (t : Fin cfg0.N) (a : Fin 512) (e : Fin 512) (h : 512 * t.val + a.val < 32768) :
    sixteens (iblk m c 2 t) a.val e.val = in2 m c (ix2 ⟨(512 * t.val + a.val) / 16, by omega⟩ ⟨512 * ((512 * t.val + a.val) % 16) + e.val, by omega⟩) := by
  unfold sixteens
  rw [dif_pos ⟨a.isLt, e.isLt⟩]
  refine (block_2 m c t _ _ (by have := a.isLt; show 32 * t.val + a.val / 16 < 2048; omega)).trans (congrArg (in2 m c) (congrArg₂ ix2 (Fin.ext ?_) (Fin.ext ?_)))
  · show 32 * t.val + a.val / 16 = (512 * t.val + a.val) / 16; omega
  · show 512 * (a.val % 16) + e.val = 512 * ((512 * t.val + a.val) % 16) + e.val; omega

theorem sixteens_5 (t : Fin cfg0.N) (a : Fin 512) (e : Fin 512) (h : 512 * t.val + a.val < 32768) :
    sixteens (iblk m c 5 t) a.val e.val = in5 m c (ix2 ⟨(512 * t.val + a.val) / 16, by omega⟩ ⟨512 * ((512 * t.val + a.val) % 16) + e.val, by omega⟩) := by
  unfold sixteens
  rw [dif_pos ⟨a.isLt, e.isLt⟩]
  refine (block_5 m c t _ _ (by have := a.isLt; show 32 * t.val + a.val / 16 < 2048; omega)).trans (congrArg (in5 m c) (congrArg₂ ix2 (Fin.ext ?_) (Fin.ext ?_)))
  · show 32 * t.val + a.val / 16 = (512 * t.val + a.val) / 16; omega
  · show 512 * (a.val % 16) + e.val = 512 * ((512 * t.val + a.val) % 16) + e.val; omega

/-- The blocks of real arrays are real. -/
theorem real_3 (h : (∀ y, ∃ r : ℝ, in3 m c y = (r : EReal))) (t : Fin cfg0.N) : ∀ y, ∃ r : ℝ, iblk m c 3 t y = (r : EReal) := by
  intro y
  obtain ⟨i, j, rfl⟩ : ∃ (i : Fin 512) (j : Fin 512), y = (ix2 i j : (⟨2, ![512, 512]⟩ : Shape).Idx) := ⟨y 0, y 1, by funext z; fin_cases z <;> rfl⟩
  have ht : t.val < 64 := t.isLt
  obtain ⟨r, hr⟩ := h (ix2 ⟨512 * t.val + i.val, by omega⟩ j)
  exact ⟨r, (block_3 m c t i j (by omega)).trans hr⟩

theorem real_4 (h : (∀ y, ∃ r : ℝ, in4 m c y = (r : EReal))) (t : Fin cfg0.N) : ∀ y, ∃ r : ℝ, iblk m c 4 t y = (r : EReal) := by
  intro y
  obtain ⟨i, j, rfl⟩ : ∃ (i : Fin 128) (j : Fin 2048), y = (ix2 i j : (⟨2, ![128, 2048]⟩ : Shape).Idx) := ⟨y 0, y 1, by funext z; fin_cases z <;> rfl⟩
  have ht : t.val < 64 := t.isLt
  obtain ⟨r, hr⟩ := h (ix2 ⟨128 * t.val + i.val, by omega⟩ j)
  exact ⟨r, (block_4 m c t i j (by omega)).trans hr⟩

theorem real_5 (h : (∀ y, ∃ r : ℝ, in5 m c y = (r : EReal))) (t : Fin cfg0.N) : ∀ y, ∃ r : ℝ, iblk m c 5 t y = (r : EReal) := by
  intro y
  obtain ⟨i, j, rfl⟩ : ∃ (i : Fin 32) (j : Fin 8192), y = (ix2 i j : (⟨2, ![32, 8192]⟩ : Shape).Idx) := ⟨y 0, y 1, by funext z; fin_cases z <;> rfl⟩
  have ht : t.val < 64 := t.isLt
  obtain ⟨r, hr⟩ := h (ix2 ⟨32 * t.val + i.val, by omega⟩ j)
  exact ⟨r, (block_5 m c t i j (by omega)).trans hr⟩

/-- The reference's result of the arguments. -/
abbrev projection : FVec Ideal S32768x1024 .f32 := refOut (in0 m c) (in1 m c) (in2 m c) (in3 m c) (in4 m c) (in5 m c) (in6 m c) (in7 m c) (in8 m c) (in9 m c) (in10 m c) (in11 m c)

/-- A row of a block is a row of the result. -/
theorem row_of_result (h3 : (∀ y, ∃ r : ℝ, in3 m c y = (r : EReal))) (h4 : (∀ y, ∃ r : ℝ, in4 m c y = (r : EReal))) (h5 : (∀ y, ∃ r : ℝ, in5 m c y = (r : EReal))) (t : Fin cfg0.N) (a : Fin 512) (b : Fin 1024) (h : 512 * t.val + a.val < 32768) :
    outRow (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) a b = projection m c (ix2 ⟨512 * t.val + a.val, h⟩ b) := by
  refine Eq.trans ?_ (refOut_at (in0 m c) (in1 m c) (in2 m c) (in3 m c) (in4 m c) (in5 m c) (in6 m c) (in7 m c) (in8 m c) (in9 m c) (in10 m c) (in11 m c) h3 h4 h5 ⟨512 * t.val + a.val, h⟩ b).symm
  unfold outRow blended
  simp only [fours_1 m c t a _ h, fours_4 m c t a _ h, sixteens_2 m c t a _ h, sixteens_5 m c t a _ h, block_0 m c t a _ h, block_3 m c t a _ h, block_6 m c t a _ h,
    block_7 m c t a _ h, block_8 m c t a _ h, block_9 m c t, block_10 m c t, block_11 m c t]

/-- A point leaves its block of the result, -/
theorem left_17 (h3 : (∀ y, ∃ r : ℝ, in3 m c y = (r : EReal))) (h4 : (∀ y, ∃ r : ℝ, in4 m c y = (r : EReal))) (h5 : (∀ y, ∃ r : ℝ, in5 m c y = (r : EReal))) (t : Fin cfg0.N) (a : Fin 512) (b : Fin 1024) (h : 512 * t.val + a.val < 32768) :
    (dats m 0 c).after 17 t (ix2 a b) = projection m c (ix2 ⟨512 * t.val + a.val, h⟩ b) := by
  rw [after0_17]
  refine Eq.trans ?_ (row_of_result m c h3 h4 h5 t a b h)
  by_cases h0 : t.val % 64 = 0
  · have key := (out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t)
      scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) ((hcond0_0 t).mpr h0) (real_3 m c h3 t) (real_4 m c h4 t) (real_5 m c h5 t) a b)
    simp only [outsAt0_A m c t h0]
    exact key
  · have key := (out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t)
      scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (fun h => h0 ((hcond0_0 t).mp h)) (outsAt0 m c (t.val - 1) (Nat.lt_of_le_of_lt (Nat.sub_le _ _) t.isLt)).2.2.2.2 (real_3 m c h3 t) (real_4 m c h4 t) (real_5 m c h5 t) a b)
    simp only [outsAt0_B m c t h0]
    exact key

/-- and the array ends as the result. -/
theorem array_17 (h3 : (∀ y, ∃ r : ℝ, in3 m c y = (r : EReal))) (h4 : (∀ y, ∃ r : ℝ, in4 m c y = (r : EReal))) (h5 : (∀ y, ∃ r : ℝ, in5 m c y = (r : EReal))) : (dats m 0 c).arrAt 17 cfg0.N = projection m c := by
  refine (dats m 0 c).arrAt_eq_of_covers 17 _ (by decide +kernel) fun t hf y => ?_
  blk_simp
  have ht : t.val < 64 := t.isLt
  have hy : (y 0).val < 512 := (y 0).isLt
  have e0 : (((win0_17.blk t).view.emb y : S32768x1024.Idx) 0).val = 512 * t.val + (y 0).val := by
    refine Eq.trans (b := t.val * 512 + (y 0).val) ?_ (by omega)
    blk_ext [(out_index t).2.2.2.2.2.2.2.2.2.2.2.2]
  have e1 : (((win0_17.blk t).view.emb y : S32768x1024.Idx) 1).val = (y 1).val := by
    blk_ext [(out_index t).2.2.2.2.2.2.2.2.2.2.2.2]
  have h : 512 * t.val + (y 0).val < 32768 := by omega
  have e : ((win0_17.blk t).view.emb y : S32768x1024.Idx) = ix2 (⟨512 * t.val + (y 0).val, h⟩ : Fin 32768) (y 1 : Fin 1024) := by
    funext k
    fin_cases k
    · exact Fin.ext e0
    · exact Fin.ext e1
  have ey : y = ix2 (y 0 : Fin 512) (y 1 : Fin 1024) := by
    funext k
    fin_cases k <;> rfl
  refine Eq.trans (congrArg _ ey) ((left_17 m c h3 h4 h5 t (y 0 : Fin 512) (y 1 : Fin 1024) h).trans (congrArg _ e.symm))

end Cert.OutProj
-- ==== Proof.OutRun.lean ====
module

public import proofs.«01_k».proof.Proof.OutRef
public import proofs.«01_k».proof.Proof.Gen.Reference5Ideal.Run

/-! # The run of the output projection's reference

It ends with its result of the arguments, in the name `OutRef` gives it; the arguments are unchanged. -/

@[expose] public section

set_option maxRecDepth 16384

noncomputable section
open Idealize.ShloMosaic Idealize.ShloMosaic.TcCoe Idealize.SL.Sem
namespace Cert.OutProj
open Cert.Reference5Ideal

variable (m : (ℓ : Loc nD τ sig) → Buf (Elt Ideal) ℓ) (ρ : Dev nD → PrngReg)

theorem reference5_run : θ_run defs (onTc (τ := τ) (main (F := Ideal))) ⟨m, fun _ => 0, ρ⟩ fun r => ∀ c : Dev nD,
      r.2.mem ((c.tc : Thread nD τ).loc main_v42) = refOut (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c).1.trans (by rfl), (h c).2⟩) (Value.run m ρ)

end Cert.OutProj
-- ==== Proof.lean ====
module

public import proofs.«01_k».proof.Defs
public import proofs.«01_k».proof.Proof.Same
public import proofs.«01_k».proof.Proof.IdealFrame
public import proofs.«01_k».proof.Proof.ArrayValue
public import proofs.«01_k».proof.Proof.RefValue
public import proofs.«01_k».proof.Proof.Finite
public import proofs.«01_k».proof.Proof.Same2
public import proofs.«01_k».proof.Proof.InArrays
public import proofs.«01_k».proof.Proof.InRun
public import proofs.«01_k».proof.Proof.Gen.Kernel3.Frame
public import proofs.«01_k».proof.Proof.FinArrays
public import proofs.«01_k».proof.Proof.FinRun
public import proofs.«01_k».proof.Proof.Gen.Kernel4.Frame
public import proofs.«01_k».proof.Proof.DestPre
public import proofs.«01_k».proof.Proof.DestArrays
public import proofs.«01_k».proof.Proof.DestRun
public import proofs.«01_k».proof.Proof.Gen.Kernel5.Frame
public import proofs.«01_k».proof.Proof.OutPre
public import proofs.«01_k».proof.Proof.OutArrays
public import proofs.«01_k».proof.Proof.OutRun
public import Idealize.ShloMosaic.Lib.Bf16Pair
public import Idealize.ShloMosaic.Lib.Bf16PairInverse

/-! # The claims

The kernel's frame on the machine's numbers and on the reals, the reference's frame, and the value: over the reals, of queries
and keys that are finite, both programs end with the same attention; and of any arguments at all, the input projections and their
reference end with the same thirteen arrays, and the closing norm and its reference with the same result; and of experts' numbers in
range, the choices' rows and their reference with the same integers; and of finite logarithms, the output projection and its
reference with the same residual stream. -/

@[expose] public section

noncomputable section
namespace Cert.Proof

open Idealize.ShloMosaic Idealize.ShloMosaic.TcCoe Idealize.SL.Sem

/-- The reference's frame: it has no counters, and its operations write no argument. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the reals both programs end with the attention of the arguments. -/
theorem algebraic : Cert.algebraic_KernelIdeal_ReferenceIdeal_pre_finite_scores := by
  intro m ρ m' ρ' hpre hagree
  have hreal := fun c => Cert.Attn.real_of_pre _ _ _ (hpre c)
  refine ⟨Cert.Attn.result m, Cert.Attn.kernel_run m ρ (fun c => (hreal c).1) (fun c => (hreal c).2), ?_⟩
  refine (θ_run Cert.ReferenceIdeal.defs _ _).mono (fun r h c => ⟨(h c).1.trans ?_, (h c).2⟩)
    (Cert.Attn.reference_run m' ρ' (fun c => ?_) (fun c => ?_))
  · rw [(hagree c).1]; exact (hreal c).1
  · rw [(hagree c).2.1]; exact (hreal c).2
  · rw [(hagree c).1, (hagree c).2.1, (hagree c).2.2]; rfl

open Cert.InProj in
/-- Over the reals the projections and their reference end with the same arrays. -/
theorem algebraic2 : Cert.algebraic_Kernel2Ideal_Reference2Ideal := by
  intro m ρ m' ρ' _ hagree
  refine ⟨fun c => plain (refQ (allCols m c)), fun c => plain (refK (allCols m c)), fun c => plain (refV (allCols m c)), fun c => fours (refQ (allCols m c)), fun c => fours (refK (allCols m c)), fun c => fours (refV (allCols m c)), fun c => sixteens (refQ (allCols m c)), fun c => sixteens (refK (allCols m c)), fun c => sixteens (refV (allCols m c)), fun c => refQb (refCq (allCols m c) (in3 m c)) (in5 m c) (in6 m c) (in9 m c) (in10 m c), fun c => refKb (allCols m c) (refCkv (allCols m c) (in4 m c)) (in7 m c) (in11 m c) (in12 m c), fun c => refVb (refCkv (allCols m c) (in4 m c)) (in8 m c), fun c => refGates (allCols m c), ?_, ?_⟩
  · refine (θ_run Cert.Kernel2Ideal.defs _ _).mono (fun r h c => ?_) (Cert.Kernel2Ideal.Value.run_blocks m ρ)
    obtain ⟨h0, h1, h2, h3, h4, h5, h6, h7, h8, h9, h10, h11, h12, hr⟩ := h c
    exact ⟨h0.trans (array_13 m c), h1.trans (array_14 m c), h2.trans (array_15 m c), h3.trans (array_16 m c), h4.trans (array_17 m c), h5.trans (array_18 m c), h6.trans (array_19 m c), h7.trans (array_20 m c), h8.trans (array_21 m c), h9.trans (array_22 m c), h10.trans (array_23 m c), h11.trans (array_24 m c), h12.trans (array_25 m c), hr⟩
  · refine (θ_run Cert.Reference2Ideal.defs _ _).mono (fun r h c => ?_) (reference2_run m' ρ')
    obtain ⟨h0, h1, h2, h3, h4, h5, h6, h7, h8, h9, h10, h11, h12, hr⟩ := h c
    obtain ⟨a0, a1, a2, a3, a4, a5, a6, a7, a8, a9, a10, a11, a12⟩ := hagree c
    have hz : refCols m' c = allCols m c := by
      unfold refCols allCols
      rw [a0, a1, a2]
    exact ⟨h0.trans (by rw [hz]), h1.trans (by rw [hz]), h2.trans (by rw [hz]), h3.trans (by rw [hz]), h4.trans (by rw [hz]), h5.trans (by rw [hz]), h6.trans (by rw [hz]), h7.trans (by rw [hz]), h8.trans (by rw [hz]), h9.trans (by rw [hz, a3, a5, a6, a9, a10]), h10.trans (by rw [hz, a4, a7, a11, a12]), h11.trans (by rw [hz, a4, a8]), h12.trans (by rw [hz]), hr⟩

/-- The second reference's frame, as the first's. -/
theorem reference2_frame : Cert.quiescent_Reference2Ideal := fun m ρ _ =>
  (θ_run Cert.Reference2Ideal.defs _ _).mono (fun r h => ⟨fun c => (h c).2.2.2.2.2.2.2.2.2.2.2.2.2, sem_eq_zero_of_no_sems (by decide) r.2⟩)
    (Cert.Reference2Ideal.Value.run (F := Ideal) m ρ)

open Cert.Final in
/-- Over the reals the closing norm and its reference end with the same array. -/
theorem algebraic3 : Cert.algebraic_Kernel3Ideal_Reference3Ideal := by
  intro m ρ m' ρ' _ hagree
  refine ⟨fun c => closing m c, ?_, ?_⟩
  · exact (θ_run Cert.Kernel3Ideal.defs _ _).mono (fun r h c => ⟨(h c).1.trans (array_4 m c), (h c).2⟩) (Cert.Kernel3Ideal.Value.run_blocks m ρ)
  · refine (θ_run Cert.Reference3Ideal.defs _ _).mono (fun r h c => ⟨(h c).1.trans ?_, (h c).2⟩) (reference3_run m' ρ')
    obtain ⟨a0, a1, a2, a3⟩ := hagree c
    rw [a0, a1, a2, a3]

/-- The third reference's frame, as the first's. -/
theorem reference3_frame : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

open Cert.Dest in
/-- Of experts' numbers in range, the choices' rows and their reference end with the same array. -/
theorem algebraic4 : Cert.algebraic_Kernel4Ideal_Reference4Ideal_pre_experts_in_range := by
  intro m ρ m' ρ' hpre hagree
  refine ⟨fun c => rows m c, ?_, ?_⟩
  · exact (θ_run Cert.Kernel4Ideal.defs _ _).mono (fun r h c => ⟨(h c).1.trans (array_2 m c (names_of_pre _ _ (hpre c))), (h c).2⟩) (Cert.Kernel4Ideal.Value.run_blocks m ρ)
  · refine (θ_run Cert.Reference4Ideal.defs _ _).mono (fun r h c => ⟨(h c).1.trans ?_, (h c).2⟩) (reference4_run m' ρ')
    obtain ⟨a0, a1⟩ := hagree c
    rw [a0, a1]

/-- The fourth reference's frame, as the first's. -/
theorem reference4_frame : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

open Cert.OutProj in
/-- Of finite logarithms, the output projection and its reference end with the same residual stream. -/
theorem algebraic5 : Cert.algebraic_Kernel5Ideal_Reference5Ideal_pre_finite_mixture := by
  intro m ρ m' ρ' hpre hagree
  refine ⟨fun c => projection m c, ?_, ?_⟩
  · refine (θ_run Cert.Kernel5Ideal.defs _ _).mono (fun r h c => ?_) (Cert.Kernel5Ideal.Value.run_blocks m ρ)
    obtain ⟨f1, f2, f3⟩ := mixture_real _ _ _ _ _ _ _ _ _ _ _ _ _ _ _ _ (hpre c)
    exact ⟨(h c).1.trans (array_17 m c f1 f2 f3), (h c).2.2.2.2⟩
  · refine (θ_run Cert.Reference5Ideal.defs _ _).mono (fun r h c => ⟨(h c).1.trans ?_, (h c).2⟩) (reference5_run m' ρ')
    obtain ⟨a0, a1, a2, a3, a4, a5, a6, a7, a8, a9, a10, a11, _⟩ := hagree c
    rw [a0, a1, a2, a3, a4, a5, a6, a7, a8, a9, a10, a11]

/-- The fifth reference's frame, as the first's. -/
theorem reference5_frame : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The packed words of the output projection's second result, read as pairs of bf16 numbers: the rules' own statements. -/
theorem preserves5 : Cert.preserves_Kernel5_Kernel5Ideal :=
  ⟨IdealRules.bf16_pair.bufferStatement _ _, IdealRules.bf16_pair.bufferStatement _ _, IdealRules.bf16_pair.statement _ _, IdealRules.bf16_pack.statement _⟩

/-- All claims. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Kernel5.Gen.facts, Cert.Kernel5Ideal.Gen.facts, Cert.Reference5Ideal.Gen.facts,
    Cert.Attn.preFacts, Cert.Dest.preFacts, Cert.OutProj.mixtureFacts,
    fun m ρ _ => kernel_frame m ρ, fun m ρ _ => Cert.KernelIdeal.Own.ideal_frame m ρ, fun m ρ _ => Cert.KernelIdeal.Own.ideal_frame m ρ,
    reference_frame, fun m ρ _ => reference_frame m ρ trivial,
    fun m ρ _ => Cert.InProj.kernel2_frame m ρ, fun m ρ _ => Cert.Kernel2Ideal.Gen.frame m ρ, reference2_frame,
    fun m ρ _ => Cert.Kernel3.Gen.frame m ρ, fun m ρ _ => Cert.Kernel3Ideal.Gen.frame m ρ, reference3_frame,
    fun m ρ _ => Cert.Kernel4.Gen.frame m ρ, fun m ρ _ => Cert.Kernel4Ideal.Gen.frame m ρ, fun m ρ _ => Cert.Kernel4Ideal.Gen.frame m ρ,
    reference4_frame, fun m ρ _ => reference4_frame m ρ trivial,
    fun m ρ _ => Cert.Kernel5.Gen.frame m ρ, fun m ρ _ => Cert.Kernel5Ideal.Gen.frame m ρ, fun m ρ _ => Cert.Kernel5Ideal.Gen.frame m ρ,
    reference5_frame, fun m ρ _ => reference5_frame m ρ trivial,
    trivial, algebraic, trivial, algebraic2, trivial, algebraic3, trivial, algebraic4, preserves5, algebraic5⟩

end Cert.Proof

end
